-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite [hPre_finite : Cert.Pre_finite.Facts] (m : (ℓ : Loc Cert.ActIdeal.nD Cert.ActIdeal.τ Cert.ActIdeal.sig) → Buf (Elt Ideal) ℓ) : Prop :=
  ∀ c : Dev Cert.ActIdeal.nD,
    (Cert.Pre_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.1 = (fun _ => 1#1)
    ∧ (Cert.Pre_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite [hPre_finite : Cert.Pre_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.1 = (fun _ => 1#1)
    ∧ (Cert.Pre_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2.2.2.2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))).1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))).2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))).2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))).2.2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))).2.2.2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))).2.2.2.2.2 = (fun _ => 1#1)

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2.2 = (fun _ => 1#1)

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Fmerge (m : (ℓ : Loc Cert.Fmerge.nD Cert.Fmerge.τ Cert.Fmerge.sig) → Buf (Elt Bits) ℓ) : Prop :=
  True

def Pre_FmergeIdeal (m : (ℓ : Loc Cert.FmergeIdeal.nD Cert.FmergeIdeal.τ Cert.FmergeIdeal.sig) → Buf (Elt Ideal) ℓ) : Prop :=
  True

def Pre_FmergeRefIdeal (m : (ℓ : Loc Cert.FmergeRefIdeal.nD Cert.FmergeRefIdeal.τ Cert.FmergeRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.2 = (fun _ => 1#1)

def Pre_Fup (m : (ℓ : Loc Cert.Fup.nD Cert.Fup.τ Cert.Fup.sig) → Buf (Elt Bits) ℓ) : Prop :=
  True

def Pre_FupIdeal (m : (ℓ : Loc Cert.FupIdeal.nD Cert.FupIdeal.τ Cert.FupIdeal.sig) → Buf (Elt Ideal) ℓ) : Prop :=
  True

def Pre_FupRefIdeal (m : (ℓ : Loc Cert.FupRefIdeal.nD Cert.FupRefIdeal.τ Cert.FupRefIdeal.sig) → Buf (Elt Ideal) ℓ) : Prop :=
  True

def Pre_Offn (m : (ℓ : Loc Cert.Offn.nD Cert.Offn.τ Cert.Offn.sig) → Buf (Elt Bits) ℓ) : Prop :=
  True

def Pre_OffnIdeal (m : (ℓ : Loc Cert.OffnIdeal.nD Cert.OffnIdeal.τ Cert.OffnIdeal.sig) → Buf (Elt Ideal) ℓ) : Prop :=
  True

def Pre_OffnRefIdeal (m : (ℓ : Loc Cert.OffnRefIdeal.nD Cert.OffnRefIdeal.τ Cert.OffnRefIdeal.sig) → Buf (Elt Ideal) ℓ) : Prop :=
  True

def Pre_Oin (m : (ℓ : Loc Cert.Oin.nD Cert.Oin.τ Cert.Oin.sig) → Buf (Elt Bits) ℓ) : Prop :=
  True

def Pre_OinIdeal (m : (ℓ : Loc Cert.OinIdeal.nD Cert.OinIdeal.τ Cert.OinIdeal.sig) → Buf (Elt Ideal) ℓ) : Prop :=
  True

def Pre_OinRefIdeal (m : (ℓ : Loc Cert.OinRefIdeal.nD Cert.OinRefIdeal.τ Cert.OinRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Oconv (m : (ℓ : Loc Cert.Oconv.nD Cert.Oconv.τ Cert.Oconv.sig) → Buf (Elt Bits) ℓ) : Prop :=
  True

def Pre_OconvIdeal (m : (ℓ : Loc Cert.OconvIdeal.nD Cert.OconvIdeal.τ Cert.OconvIdeal.sig) → Buf (Elt Ideal) ℓ) : Prop :=
  True

def Pre_OconvRefIdeal (m : (ℓ : Loc Cert.OconvRefIdeal.nD Cert.OconvRefIdeal.τ Cert.OconvRefIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite [hActIdeal : Cert.ActIdeal.Facts] [hPre_finite : Cert.Pre_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite [hActRefIdeal : Cert.ActRefIdeal.Facts] [hPre_finite : Cert.Pre_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1)
      ∧ r.2.mem ((c.tc : Thread Cert.GupRefIdeal.nD Cert.GupRefIdeal.τ).loc Cert.GupRefIdeal.main_arg2) = m ((c.tc : Thread Cert.GupRefIdeal.nD Cert.GupRefIdeal.τ).loc Cert.GupRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1)
      ∧ r.2.mem ((c.tc : Thread Cert.Gin.nD Cert.Gin.τ).loc Cert.Gin.main_arg2) = m ((c.tc : Thread Cert.Gin.nD Cert.Gin.τ).loc Cert.Gin.main_arg2))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
      ∧ r.2.mem ((c.tc : Thread Cert.GinIdeal.nD Cert.GinIdeal.τ).loc Cert.GinIdeal.main_arg2) = m ((c.tc : Thread Cert.GinIdeal.nD Cert.GinIdeal.τ).loc Cert.GinIdeal.main_arg2))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1)
      ∧ r.2.mem ((c.tc : Thread Cert.GinRefIdeal.nD Cert.GinRefIdeal.τ).loc Cert.GinRefIdeal.main_arg2) = m ((c.tc : Thread Cert.GinRefIdeal.nD Cert.GinRefIdeal.τ).loc Cert.GinRefIdeal.main_arg2))
      ∧ r.2.sem = fun _ => 0)

def quiescent_Fmerge [hFmerge : Cert.Fmerge.Facts] : Prop :=
  ∀ (m : (ℓ : Loc Cert.Fmerge.nD Cert.Fmerge.τ Cert.Fmerge.sig) → Buf (Elt Bits) ℓ) (g : Dev Cert.Fmerge.nD → PrngReg), Pre_Fmerge m →
    θ_run (Cert.Fmerge.defs (F := Bits)) (onTc (τ := Cert.Fmerge.τ) (Cert.Fmerge.main (F := Bits))) ⟨m, fun _ => 0, g⟩ (fun r => (∀ c : Dev Cert.Fmerge.nD,
      r.2.mem ((c.tc : Thread Cert.Fmerge.nD Cert.Fmerge.τ).loc Cert.Fmerge.main_arg0) = m ((c.tc : Thread Cert.Fmerge.nD Cert.Fmerge.τ).loc Cert.Fmerge.main_arg0)
      ∧ r.2.mem ((c.tc : Thread Cert.Fmerge.nD Cert.Fmerge.τ).loc Cert.Fmerge.main_arg1) = m ((c.tc : Thread Cert.Fmerge.nD Cert.Fmerge.τ).loc Cert.Fmerge.main_arg1)
      ∧ r.2.mem ((c.tc : Thread Cert.Fmerge.nD Cert.Fmerge.τ).loc Cert.Fmerge.main_arg2) = m ((c.tc : Thread Cert.Fmerge.nD Cert.Fmerge.τ).loc Cert.Fmerge.main_arg2)
      ∧ r.2.mem ((c.tc : Thread Cert.Fmerge.nD Cert.Fmerge.τ).loc Cert.Fmerge.main_arg3) = m ((c.tc : Thread Cert.Fmerge.nD Cert.Fmerge.τ).loc Cert.Fmerge.main_arg3)
      ∧ r.2.mem ((c.tc : Thread Cert.Fmerge.nD Cert.Fmerge.τ).loc Cert.Fmerge.main_arg4) = m ((c.tc : Thread Cert.Fmerge.nD Cert.Fmerge.τ).loc Cert.Fmerge.main_arg4)
      ∧ r.2.mem ((c.tc : Thread Cert.Fmerge.nD Cert.Fmerge.τ).loc Cert.Fmerge.main_arg5) = m ((c.tc : Thread Cert.Fmerge.nD Cert.Fmerge.τ).loc Cert.Fmerge.main_arg5)
      ∧ r.2.mem ((c.tc : Thread Cert.Fmerge.nD Cert.Fmerge.τ).loc Cert.Fmerge.main_arg6) = m ((c.tc : Thread Cert.Fmerge.nD Cert.Fmerge.τ).loc Cert.Fmerge.main_arg6))
      ∧ r.2.sem = fun _ => 0)

def quiescent_FmergeIdeal [hFmergeIdeal : Cert.FmergeIdeal.Facts] : Prop :=
  ∀ (m : (ℓ : Loc Cert.FmergeIdeal.nD Cert.FmergeIdeal.τ Cert.FmergeIdeal.sig) → Buf (Elt Ideal) ℓ) (g : Dev Cert.FmergeIdeal.nD → PrngReg), Pre_FmergeIdeal m →
    θ_run (Cert.FmergeIdeal.defs (F := Ideal)) (onTc (τ := Cert.FmergeIdeal.τ) (Cert.FmergeIdeal.main (F := Ideal))) ⟨m, fun _ => 0, g⟩ (fun r => (∀ c : Dev Cert.FmergeIdeal.nD,
      r.2.mem ((c.tc : Thread Cert.FmergeIdeal.nD Cert.FmergeIdeal.τ).loc Cert.FmergeIdeal.main_arg0) = m ((c.tc : Thread Cert.FmergeIdeal.nD Cert.FmergeIdeal.τ).loc Cert.FmergeIdeal.main_arg0)
      ∧ r.2.mem ((c.tc : Thread Cert.FmergeIdeal.nD Cert.FmergeIdeal.τ).loc Cert.FmergeIdeal.main_arg1) = m ((c.tc : Thread Cert.FmergeIdeal.nD Cert.FmergeIdeal.τ).loc Cert.FmergeIdeal.main_arg1)
      ∧ r.2.mem ((c.tc : Thread Cert.FmergeIdeal.nD Cert.FmergeIdeal.τ).loc Cert.FmergeIdeal.main_arg2) = m ((c.tc : Thread Cert.FmergeIdeal.nD Cert.FmergeIdeal.τ).loc Cert.FmergeIdeal.main_arg2)
      ∧ r.2.mem ((c.tc : Thread Cert.FmergeIdeal.nD Cert.FmergeIdeal.τ).loc Cert.FmergeIdeal.main_arg3) = m ((c.tc : Thread Cert.FmergeIdeal.nD Cert.FmergeIdeal.τ).loc Cert.FmergeIdeal.main_arg3)
      ∧ r.2.mem ((c.tc : Thread Cert.FmergeIdeal.nD Cert.FmergeIdeal.τ).loc Cert.FmergeIdeal.main_arg4) = m ((c.tc : Thread Cert.FmergeIdeal.nD Cert.FmergeIdeal.τ).loc Cert.FmergeIdeal.main_arg4)
      ∧ r.2.mem ((c.tc : Thread Cert.FmergeIdeal.nD Cert.FmergeIdeal.τ).loc Cert.FmergeIdeal.main_arg5) = m ((c.tc : Thread Cert.FmergeIdeal.nD Cert.FmergeIdeal.τ).loc Cert.FmergeIdeal.main_arg5)
      ∧ r.2.mem ((c.tc : Thread Cert.FmergeIdeal.nD Cert.FmergeIdeal.τ).loc Cert.FmergeIdeal.main_arg6) = m ((c.tc : Thread Cert.FmergeIdeal.nD Cert.FmergeIdeal.τ).loc Cert.FmergeIdeal.main_arg6))
      ∧ r.2.sem = fun _ => 0)

def quiescent_FmergeRefIdeal [hFmergeRefIdeal : Cert.FmergeRefIdeal.Facts] : Prop :=
  ∀ (m : (ℓ : Loc Cert.FmergeRefIdeal.nD Cert.FmergeRefIdeal.τ Cert.FmergeRefIdeal.sig) → Buf (Elt Ideal) ℓ) (g : Dev Cert.FmergeRefIdeal.nD → PrngReg), Pre_FmergeRefIdeal m →
    θ_run (Cert.FmergeRefIdeal.defs (F := Ideal)) (onTc (τ := Cert.FmergeRefIdeal.τ) (Cert.FmergeRefIdeal.main (F := Ideal))) ⟨m, fun _ => 0, g⟩ (fun r => (∀ c : Dev Cert.FmergeRefIdeal.nD,
      r.2.mem ((c.tc : Thread Cert.FmergeRefIdeal.nD Cert.FmergeRefIdeal.τ).loc Cert.FmergeRefIdeal.main_arg0) = m ((c.tc : Thread Cert.FmergeRefIdeal.nD Cert.FmergeRefIdeal.τ).loc Cert.FmergeRefIdeal.main_arg0)
      ∧ r.2.mem ((c.tc : Thread Cert.FmergeRefIdeal.nD Cert.FmergeRefIdeal.τ).loc Cert.FmergeRefIdeal.main_arg1) = m ((c.tc : Thread Cert.FmergeRefIdeal.nD Cert.FmergeRefIdeal.τ).loc Cert.FmergeRefIdeal.main_arg1)
      ∧ r.2.mem ((c.tc : Thread Cert.FmergeRefIdeal.nD Cert.FmergeRefIdeal.τ).loc Cert.FmergeRefIdeal.main_arg2) = m ((c.tc : Thread Cert.FmergeRefIdeal.nD Cert.FmergeRefIdeal.τ).loc Cert.FmergeRefIdeal.main_arg2)
      ∧ r.2.mem ((c.tc : Thread Cert.FmergeRefIdeal.nD Cert.FmergeRefIdeal.τ).loc Cert.FmergeRefIdeal.main_arg3) = m ((c.tc : Thread Cert.FmergeRefIdeal.nD Cert.FmergeRefIdeal.τ).loc Cert.FmergeRefIdeal.main_arg3)
      ∧ r.2.mem ((c.tc : Thread Cert.FmergeRefIdeal.nD Cert.FmergeRefIdeal.τ).loc Cert.FmergeRefIdeal.main_arg4) = m ((c.tc : Thread Cert.FmergeRefIdeal.nD Cert.FmergeRefIdeal.τ).loc Cert.FmergeRefIdeal.main_arg4)
      ∧ r.2.mem ((c.tc : Thread Cert.FmergeRefIdeal.nD Cert.FmergeRefIdeal.τ).loc Cert.FmergeRefIdeal.main_arg5) = m ((c.tc : Thread Cert.FmergeRefIdeal.nD Cert.FmergeRefIdeal.τ).loc Cert.FmergeRefIdeal.main_arg5)
      ∧ r.2.mem ((c.tc : Thread Cert.FmergeRefIdeal.nD Cert.FmergeRefIdeal.τ).loc Cert.FmergeRefIdeal.main_arg6) = m ((c.tc : Thread Cert.FmergeRefIdeal.nD Cert.FmergeRefIdeal.τ).loc Cert.FmergeRefIdeal.main_arg6))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3)
      ∧ r.2.mem ((c.tc : Thread Cert.Fin.nD Cert.Fin.τ).loc Cert.Fin.main_arg4) = m ((c.tc : Thread Cert.Fin.nD Cert.Fin.τ).loc Cert.Fin.main_arg4)
      ∧ r.2.mem ((c.tc : Thread Cert.Fin.nD Cert.Fin.τ).loc Cert.Fin.main_arg5) = m ((c.tc : Thread Cert.Fin.nD Cert.Fin.τ).loc Cert.Fin.main_arg5))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
      ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
      ∧ r.2.mem ((c.tc : Thread Cert.FinIdeal.nD Cert.FinIdeal.τ).loc Cert.FinIdeal.main_arg5) = m ((c.tc : Thread Cert.FinIdeal.nD Cert.FinIdeal.τ).loc Cert.FinIdeal.main_arg5))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3)
      ∧ r.2.mem ((c.tc : Thread Cert.FinRefIdeal.nD Cert.FinRefIdeal.τ).loc Cert.FinRefIdeal.main_arg4) = m ((c.tc : Thread Cert.FinRefIdeal.nD Cert.FinRefIdeal.τ).loc Cert.FinRefIdeal.main_arg4)
      ∧ r.2.mem ((c.tc : Thread Cert.FinRefIdeal.nD Cert.FinRefIdeal.τ).loc Cert.FinRefIdeal.main_arg5) = m ((c.tc : Thread Cert.FinRefIdeal.nD Cert.FinRefIdeal.τ).loc Cert.FinRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Fup [hFup : Cert.Fup.Facts] : Prop :=
  ∀ (m : (ℓ : Loc Cert.Fup.nD Cert.Fup.τ Cert.Fup.sig) → Buf (Elt Bits) ℓ) (g : Dev Cert.Fup.nD → PrngReg), Pre_Fup m →
    θ_run (Cert.Fup.defs (F := Bits)) (onTc (τ := Cert.Fup.τ) (Cert.Fup.main (F := Bits))) ⟨m, fun _ => 0, g⟩ (fun r => (∀ c : Dev Cert.Fup.nD,
      r.2.mem ((c.tc : Thread Cert.Fup.nD Cert.Fup.τ).loc Cert.Fup.main_arg0) = m ((c.tc : Thread Cert.Fup.nD Cert.Fup.τ).loc Cert.Fup.main_arg0)
      ∧ r.2.mem ((c.tc : Thread Cert.Fup.nD Cert.Fup.τ).loc Cert.Fup.main_arg1) = m ((c.tc : Thread Cert.Fup.nD Cert.Fup.τ).loc Cert.Fup.main_arg1)
      ∧ r.2.mem ((c.tc : Thread Cert.Fup.nD Cert.Fup.τ).loc Cert.Fup.main_arg2) = m ((c.tc : Thread Cert.Fup.nD Cert.Fup.τ).loc Cert.Fup.main_arg2)
      ∧ r.2.mem ((c.tc : Thread Cert.Fup.nD Cert.Fup.τ).loc Cert.Fup.main_arg3) = m ((c.tc : Thread Cert.Fup.nD Cert.Fup.τ).loc Cert.Fup.main_arg3)
      ∧ r.2.mem ((c.tc : Thread Cert.Fup.nD Cert.Fup.τ).loc Cert.Fup.main_arg4) = m ((c.tc : Thread Cert.Fup.nD Cert.Fup.τ).loc Cert.Fup.main_arg4))
      ∧ r.2.sem = fun _ => 0)

def quiescent_FupIdeal [hFupIdeal : Cert.FupIdeal.Facts] : Prop :=
  ∀ (m : (ℓ : Loc Cert.FupIdeal.nD Cert.FupIdeal.τ Cert.FupIdeal.sig) → Buf (Elt Ideal) ℓ) (g : Dev Cert.FupIdeal.nD → PrngReg), Pre_FupIdeal m →
    θ_run (Cert.FupIdeal.defs (F := Ideal)) (onTc (τ := Cert.FupIdeal.τ) (Cert.FupIdeal.main (F := Ideal))) ⟨m, fun _ => 0, g⟩ (fun r => (∀ c : Dev Cert.FupIdeal.nD,
      r.2.mem ((c.tc : Thread Cert.FupIdeal.nD Cert.FupIdeal.τ).loc Cert.FupIdeal.main_arg0) = m ((c.tc : Thread Cert.FupIdeal.nD Cert.FupIdeal.τ).loc Cert.FupIdeal.main_arg0)
      ∧ r.2.mem ((c.tc : Thread Cert.FupIdeal.nD Cert.FupIdeal.τ).loc Cert.FupIdeal.main_arg1) = m ((c.tc : Thread Cert.FupIdeal.nD Cert.FupIdeal.τ).loc Cert.FupIdeal.main_arg1)
      ∧ r.2.mem ((c.tc : Thread Cert.FupIdeal.nD Cert.FupIdeal.τ).loc Cert.FupIdeal.main_arg2) = m ((c.tc : Thread Cert.FupIdeal.nD Cert.FupIdeal.τ).loc Cert.FupIdeal.main_arg2)
      ∧ r.2.mem ((c.tc : Thread Cert.FupIdeal.nD Cert.FupIdeal.τ).loc Cert.FupIdeal.main_arg3) = m ((c.tc : Thread Cert.FupIdeal.nD Cert.FupIdeal.τ).loc Cert.FupIdeal.main_arg3)
      ∧ r.2.mem ((c.tc : Thread Cert.FupIdeal.nD Cert.FupIdeal.τ).loc Cert.FupIdeal.main_arg4) = m ((c.tc : Thread Cert.FupIdeal.nD Cert.FupIdeal.τ).loc Cert.FupIdeal.main_arg4))
      ∧ r.2.sem = fun _ => 0)

def quiescent_FupRefIdeal [hFupRefIdeal : Cert.FupRefIdeal.Facts] : Prop :=
  ∀ (m : (ℓ : Loc Cert.FupRefIdeal.nD Cert.FupRefIdeal.τ Cert.FupRefIdeal.sig) → Buf (Elt Ideal) ℓ) (g : Dev Cert.FupRefIdeal.nD → PrngReg), Pre_FupRefIdeal m →
    θ_run (Cert.FupRefIdeal.defs (F := Ideal)) (onTc (τ := Cert.FupRefIdeal.τ) (Cert.FupRefIdeal.main (F := Ideal))) ⟨m, fun _ => 0, g⟩ (fun r => (∀ c : Dev Cert.FupRefIdeal.nD,
      r.2.mem ((c.tc : Thread Cert.FupRefIdeal.nD Cert.FupRefIdeal.τ).loc Cert.FupRefIdeal.main_arg0) = m ((c.tc : Thread Cert.FupRefIdeal.nD Cert.FupRefIdeal.τ).loc Cert.FupRefIdeal.main_arg0)
      ∧ r.2.mem ((c.tc : Thread Cert.FupRefIdeal.nD Cert.FupRefIdeal.τ).loc Cert.FupRefIdeal.main_arg1) = m ((c.tc : Thread Cert.FupRefIdeal.nD Cert.FupRefIdeal.τ).loc Cert.FupRefIdeal.main_arg1)
      ∧ r.2.mem ((c.tc : Thread Cert.FupRefIdeal.nD Cert.FupRefIdeal.τ).loc Cert.FupRefIdeal.main_arg2) = m ((c.tc : Thread Cert.FupRefIdeal.nD Cert.FupRefIdeal.τ).loc Cert.FupRefIdeal.main_arg2)
      ∧ r.2.mem ((c.tc : Thread Cert.FupRefIdeal.nD Cert.FupRefIdeal.τ).loc Cert.FupRefIdeal.main_arg3) = m ((c.tc : Thread Cert.FupRefIdeal.nD Cert.FupRefIdeal.τ).loc Cert.FupRefIdeal.main_arg3)
      ∧ r.2.mem ((c.tc : Thread Cert.FupRefIdeal.nD Cert.FupRefIdeal.τ).loc Cert.FupRefIdeal.main_arg4) = m ((c.tc : Thread Cert.FupRefIdeal.nD Cert.FupRefIdeal.τ).loc Cert.FupRefIdeal.main_arg4))
      ∧ r.2.sem = fun _ => 0)

def quiescent_Offn [hOffn : Cert.Offn.Facts] : Prop :=
  ∀ (m : (ℓ : Loc Cert.Offn.nD Cert.Offn.τ Cert.Offn.sig) → Buf (Elt Bits) ℓ) (g : Dev Cert.Offn.nD → PrngReg), Pre_Offn m →
    θ_run (Cert.Offn.defs (F := Bits)) (onTc (τ := Cert.Offn.τ) (Cert.Offn.main (F := Bits))) ⟨m, fun _ => 0, g⟩ (fun r => (∀ c : Dev Cert.Offn.nD,
      r.2.mem ((c.tc : Thread Cert.Offn.nD Cert.Offn.τ).loc Cert.Offn.main_arg0) = m ((c.tc : Thread Cert.Offn.nD Cert.Offn.τ).loc Cert.Offn.main_arg0)
      ∧ r.2.mem ((c.tc : Thread Cert.Offn.nD Cert.Offn.τ).loc Cert.Offn.main_arg1) = m ((c.tc : Thread Cert.Offn.nD Cert.Offn.τ).loc Cert.Offn.main_arg1)
      ∧ r.2.mem ((c.tc : Thread Cert.Offn.nD Cert.Offn.τ).loc Cert.Offn.main_arg2) = m ((c.tc : Thread Cert.Offn.nD Cert.Offn.τ).loc Cert.Offn.main_arg2)
      ∧ r.2.mem ((c.tc : Thread Cert.Offn.nD Cert.Offn.τ).loc Cert.Offn.main_arg3) = m ((c.tc : Thread Cert.Offn.nD Cert.Offn.τ).loc Cert.Offn.main_arg3)
      ∧ r.2.mem ((c.tc : Thread Cert.Offn.nD Cert.Offn.τ).loc Cert.Offn.main_arg4) = m ((c.tc : Thread Cert.Offn.nD Cert.Offn.τ).loc Cert.Offn.main_arg4)
      ∧ r.2.mem ((c.tc : Thread Cert.Offn.nD Cert.Offn.τ).loc Cert.Offn.main_arg5) = m ((c.tc : Thread Cert.Offn.nD Cert.Offn.τ).loc Cert.Offn.main_arg5)
      ∧ r.2.mem ((c.tc : Thread Cert.Offn.nD Cert.Offn.τ).loc Cert.Offn.main_arg6) = m ((c.tc : Thread Cert.Offn.nD Cert.Offn.τ).loc Cert.Offn.main_arg6)
      ∧ r.2.mem ((c.tc : Thread Cert.Offn.nD Cert.Offn.τ).loc Cert.Offn.main_arg7) = m ((c.tc : Thread Cert.Offn.nD Cert.Offn.τ).loc Cert.Offn.main_arg7))
      ∧ r.2.sem = fun _ => 0)

def quiescent_OffnIdeal [hOffnIdeal : Cert.OffnIdeal.Facts] : Prop :=
  ∀ (m : (ℓ : Loc Cert.OffnIdeal.nD Cert.OffnIdeal.τ Cert.OffnIdeal.sig) → Buf (Elt Ideal) ℓ) (g : Dev Cert.OffnIdeal.nD → PrngReg), Pre_OffnIdeal m →
    θ_run (Cert.OffnIdeal.defs (F := Ideal)) (onTc (τ := Cert.OffnIdeal.τ) (Cert.OffnIdeal.main (F := Ideal))) ⟨m, fun _ => 0, g⟩ (fun r => (∀ c : Dev Cert.OffnIdeal.nD,
      r.2.mem ((c.tc : Thread Cert.OffnIdeal.nD Cert.OffnIdeal.τ).loc Cert.OffnIdeal.main_arg0) = m ((c.tc : Thread Cert.OffnIdeal.nD Cert.OffnIdeal.τ).loc Cert.OffnIdeal.main_arg0)
      ∧ r.2.mem ((c.tc : Thread Cert.OffnIdeal.nD Cert.OffnIdeal.τ).loc Cert.OffnIdeal.main_arg1) = m ((c.tc : Thread Cert.OffnIdeal.nD Cert.OffnIdeal.τ).loc Cert.OffnIdeal.main_arg1)
      ∧ r.2.mem ((c.tc : Thread Cert.OffnIdeal.nD Cert.OffnIdeal.τ).loc Cert.OffnIdeal.main_arg2) = m ((c.tc : Thread Cert.OffnIdeal.nD Cert.OffnIdeal.τ).loc Cert.OffnIdeal.main_arg2)
      ∧ r.2.mem ((c.tc : Thread Cert.OffnIdeal.nD Cert.OffnIdeal.τ).loc Cert.OffnIdeal.main_arg3) = m ((c.tc : Thread Cert.OffnIdeal.nD Cert.OffnIdeal.τ).loc Cert.OffnIdeal.main_arg3)
      ∧ r.2.mem ((c.tc : Thread Cert.OffnIdeal.nD Cert.OffnIdeal.τ).loc Cert.OffnIdeal.main_arg4) = m ((c.tc : Thread Cert.OffnIdeal.nD Cert.OffnIdeal.τ).loc Cert.OffnIdeal.main_arg4)
      ∧ r.2.mem ((c.tc : Thread Cert.OffnIdeal.nD Cert.OffnIdeal.τ).loc Cert.OffnIdeal.main_arg5) = m ((c.tc : Thread Cert.OffnIdeal.nD Cert.OffnIdeal.τ).loc Cert.OffnIdeal.main_arg5)
      ∧ r.2.mem ((c.tc : Thread Cert.OffnIdeal.nD Cert.OffnIdeal.τ).loc Cert.OffnIdeal.main_arg6) = m ((c.tc : Thread Cert.OffnIdeal.nD Cert.OffnIdeal.τ).loc Cert.OffnIdeal.main_arg6)
      ∧ r.2.mem ((c.tc : Thread Cert.OffnIdeal.nD Cert.OffnIdeal.τ).loc Cert.OffnIdeal.main_arg7) = m ((c.tc : Thread Cert.OffnIdeal.nD Cert.OffnIdeal.τ).loc Cert.OffnIdeal.main_arg7))
      ∧ r.2.sem = fun _ => 0)

def quiescent_OffnRefIdeal [hOffnRefIdeal : Cert.OffnRefIdeal.Facts] : Prop :=
  ∀ (m : (ℓ : Loc Cert.OffnRefIdeal.nD Cert.OffnRefIdeal.τ Cert.OffnRefIdeal.sig) → Buf (Elt Ideal) ℓ) (g : Dev Cert.OffnRefIdeal.nD → PrngReg), Pre_OffnRefIdeal m →
    θ_run (Cert.OffnRefIdeal.defs (F := Ideal)) (onTc (τ := Cert.OffnRefIdeal.τ) (Cert.OffnRefIdeal.main (F := Ideal))) ⟨m, fun _ => 0, g⟩ (fun r => (∀ c : Dev Cert.OffnRefIdeal.nD,
      r.2.mem ((c.tc : Thread Cert.OffnRefIdeal.nD Cert.OffnRefIdeal.τ).loc Cert.OffnRefIdeal.main_arg0) = m ((c.tc : Thread Cert.OffnRefIdeal.nD Cert.OffnRefIdeal.τ).loc Cert.OffnRefIdeal.main_arg0)
      ∧ r.2.mem ((c.tc : Thread Cert.OffnRefIdeal.nD Cert.OffnRefIdeal.τ).loc Cert.OffnRefIdeal.main_arg1) = m ((c.tc : Thread Cert.OffnRefIdeal.nD Cert.OffnRefIdeal.τ).loc Cert.OffnRefIdeal.main_arg1)
      ∧ r.2.mem ((c.tc : Thread Cert.OffnRefIdeal.nD Cert.OffnRefIdeal.τ).loc Cert.OffnRefIdeal.main_arg2) = m ((c.tc : Thread Cert.OffnRefIdeal.nD Cert.OffnRefIdeal.τ).loc Cert.OffnRefIdeal.main_arg2)
      ∧ r.2.mem ((c.tc : Thread Cert.OffnRefIdeal.nD Cert.OffnRefIdeal.τ).loc Cert.OffnRefIdeal.main_arg3) = m ((c.tc : Thread Cert.OffnRefIdeal.nD Cert.OffnRefIdeal.τ).loc Cert.OffnRefIdeal.main_arg3)
      ∧ r.2.mem ((c.tc : Thread Cert.OffnRefIdeal.nD Cert.OffnRefIdeal.τ).loc Cert.OffnRefIdeal.main_arg4) = m ((c.tc : Thread Cert.OffnRefIdeal.nD Cert.OffnRefIdeal.τ).loc Cert.OffnRefIdeal.main_arg4)
      ∧ r.2.mem ((c.tc : Thread Cert.OffnRefIdeal.nD Cert.OffnRefIdeal.τ).loc Cert.OffnRefIdeal.main_arg5) = m ((c.tc : Thread Cert.OffnRefIdeal.nD Cert.OffnRefIdeal.τ).loc Cert.OffnRefIdeal.main_arg5)
      ∧ r.2.mem ((c.tc : Thread Cert.OffnRefIdeal.nD Cert.OffnRefIdeal.τ).loc Cert.OffnRefIdeal.main_arg6) = m ((c.tc : Thread Cert.OffnRefIdeal.nD Cert.OffnRefIdeal.τ).loc Cert.OffnRefIdeal.main_arg6)
      ∧ r.2.mem ((c.tc : Thread Cert.OffnRefIdeal.nD Cert.OffnRefIdeal.τ).loc Cert.OffnRefIdeal.main_arg7) = m ((c.tc : Thread Cert.OffnRefIdeal.nD Cert.OffnRefIdeal.τ).loc Cert.OffnRefIdeal.main_arg7))
      ∧ r.2.sem = fun _ => 0)

def quiescent_Oin [hOin : Cert.Oin.Facts] : Prop :=
  ∀ (m : (ℓ : Loc Cert.Oin.nD Cert.Oin.τ Cert.Oin.sig) → Buf (Elt Bits) ℓ) (g : Dev Cert.Oin.nD → PrngReg), Pre_Oin m →
    θ_run (Cert.Oin.defs (F := Bits)) (onTc (τ := Cert.Oin.τ) (Cert.Oin.main (F := Bits))) ⟨m, fun _ => 0, g⟩ (fun r => (∀ c : Dev Cert.Oin.nD,
      r.2.mem ((c.tc : Thread Cert.Oin.nD Cert.Oin.τ).loc Cert.Oin.main_arg0) = m ((c.tc : Thread Cert.Oin.nD Cert.Oin.τ).loc Cert.Oin.main_arg0)
      ∧ r.2.mem ((c.tc : Thread Cert.Oin.nD Cert.Oin.τ).loc Cert.Oin.main_arg1) = m ((c.tc : Thread Cert.Oin.nD Cert.Oin.τ).loc Cert.Oin.main_arg1)
      ∧ r.2.mem ((c.tc : Thread Cert.Oin.nD Cert.Oin.τ).loc Cert.Oin.main_arg2) = m ((c.tc : Thread Cert.Oin.nD Cert.Oin.τ).loc Cert.Oin.main_arg2)
      ∧ r.2.mem ((c.tc : Thread Cert.Oin.nD Cert.Oin.τ).loc Cert.Oin.main_arg3) = m ((c.tc : Thread Cert.Oin.nD Cert.Oin.τ).loc Cert.Oin.main_arg3))
      ∧ r.2.sem = fun _ => 0)

def quiescent_OinIdeal [hOinIdeal : Cert.OinIdeal.Facts] : Prop :=
  ∀ (m : (ℓ : Loc Cert.OinIdeal.nD Cert.OinIdeal.τ Cert.OinIdeal.sig) → Buf (Elt Ideal) ℓ) (g : Dev Cert.OinIdeal.nD → PrngReg), Pre_OinIdeal m →
    θ_run (Cert.OinIdeal.defs (F := Ideal)) (onTc (τ := Cert.OinIdeal.τ) (Cert.OinIdeal.main (F := Ideal))) ⟨m, fun _ => 0, g⟩ (fun r => (∀ c : Dev Cert.OinIdeal.nD,
      r.2.mem ((c.tc : Thread Cert.OinIdeal.nD Cert.OinIdeal.τ).loc Cert.OinIdeal.main_arg0) = m ((c.tc : Thread Cert.OinIdeal.nD Cert.OinIdeal.τ).loc Cert.OinIdeal.main_arg0)
      ∧ r.2.mem ((c.tc : Thread Cert.OinIdeal.nD Cert.OinIdeal.τ).loc Cert.OinIdeal.main_arg1) = m ((c.tc : Thread Cert.OinIdeal.nD Cert.OinIdeal.τ).loc Cert.OinIdeal.main_arg1)
      ∧ r.2.mem ((c.tc : Thread Cert.OinIdeal.nD Cert.OinIdeal.τ).loc Cert.OinIdeal.main_arg2) = m ((c.tc : Thread Cert.OinIdeal.nD Cert.OinIdeal.τ).loc Cert.OinIdeal.main_arg2)
      ∧ r.2.mem ((c.tc : Thread Cert.OinIdeal.nD Cert.OinIdeal.τ).loc Cert.OinIdeal.main_arg3) = m ((c.tc : Thread Cert.OinIdeal.nD Cert.OinIdeal.τ).loc Cert.OinIdeal.main_arg3))
      ∧ r.2.sem = fun _ => 0)

def quiescent_OinRefIdeal [hOinRefIdeal : Cert.OinRefIdeal.Facts] : Prop :=
  ∀ (m : (ℓ : Loc Cert.OinRefIdeal.nD Cert.OinRefIdeal.τ Cert.OinRefIdeal.sig) → Buf (Elt Ideal) ℓ) (g : Dev Cert.OinRefIdeal.nD → PrngReg), Pre_OinRefIdeal m →
    θ_run (Cert.OinRefIdeal.defs (F := Ideal)) (onTc (τ := Cert.OinRefIdeal.τ) (Cert.OinRefIdeal.main (F := Ideal))) ⟨m, fun _ => 0, g⟩ (fun r => (∀ c : Dev Cert.OinRefIdeal.nD,
      r.2.mem ((c.tc : Thread Cert.OinRefIdeal.nD Cert.OinRefIdeal.τ).loc Cert.OinRefIdeal.main_arg0) = m ((c.tc : Thread Cert.OinRefIdeal.nD Cert.OinRefIdeal.τ).loc Cert.OinRefIdeal.main_arg0)
      ∧ r.2.mem ((c.tc : Thread Cert.OinRefIdeal.nD Cert.OinRefIdeal.τ).loc Cert.OinRefIdeal.main_arg1) = m ((c.tc : Thread Cert.OinRefIdeal.nD Cert.OinRefIdeal.τ).loc Cert.OinRefIdeal.main_arg1)
      ∧ r.2.mem ((c.tc : Thread Cert.OinRefIdeal.nD Cert.OinRefIdeal.τ).loc Cert.OinRefIdeal.main_arg2) = m ((c.tc : Thread Cert.OinRefIdeal.nD Cert.OinRefIdeal.τ).loc Cert.OinRefIdeal.main_arg2)
      ∧ r.2.mem ((c.tc : Thread Cert.OinRefIdeal.nD Cert.OinRefIdeal.τ).loc Cert.OinRefIdeal.main_arg3) = m ((c.tc : Thread Cert.OinRefIdeal.nD Cert.OinRefIdeal.τ).loc Cert.OinRefIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7)
      ∧ r.2.mem ((c.tc : Thread Cert.Oproj.nD Cert.Oproj.τ).loc Cert.Oproj.main_arg8) = m ((c.tc : Thread Cert.Oproj.nD Cert.Oproj.τ).loc Cert.Oproj.main_arg8)
      ∧ r.2.mem ((c.tc : Thread Cert.Oproj.nD Cert.Oproj.τ).loc Cert.Oproj.main_arg9) = m ((c.tc : Thread Cert.Oproj.nD Cert.Oproj.τ).loc Cert.Oproj.main_arg9)
      ∧ r.2.mem ((c.tc : Thread Cert.Oproj.nD Cert.Oproj.τ).loc Cert.Oproj.main_arg10) = m ((c.tc : Thread Cert.Oproj.nD Cert.Oproj.τ).loc Cert.Oproj.main_arg10)
      ∧ r.2.mem ((c.tc : Thread Cert.Oproj.nD Cert.Oproj.τ).loc Cert.Oproj.main_arg11) = m ((c.tc : Thread Cert.Oproj.nD Cert.Oproj.τ).loc Cert.Oproj.main_arg11))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
      ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8)
      ∧ r.2.mem ((c.tc : Thread Cert.OprojIdeal.nD Cert.OprojIdeal.τ).loc Cert.OprojIdeal.main_arg9) = m ((c.tc : Thread Cert.OprojIdeal.nD Cert.OprojIdeal.τ).loc Cert.OprojIdeal.main_arg9)
      ∧ r.2.mem ((c.tc : Thread Cert.OprojIdeal.nD Cert.OprojIdeal.τ).loc Cert.OprojIdeal.main_arg10) = m ((c.tc : Thread Cert.OprojIdeal.nD Cert.OprojIdeal.τ).loc Cert.OprojIdeal.main_arg10)
      ∧ r.2.mem ((c.tc : Thread Cert.OprojIdeal.nD Cert.OprojIdeal.τ).loc Cert.OprojIdeal.main_arg11) = m ((c.tc : Thread Cert.OprojIdeal.nD Cert.OprojIdeal.τ).loc Cert.OprojIdeal.main_arg11))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7)
      ∧ r.2.mem ((c.tc : Thread Cert.OprojRefIdeal.nD Cert.OprojRefIdeal.τ).loc Cert.OprojRefIdeal.main_arg8) = m ((c.tc : Thread Cert.OprojRefIdeal.nD Cert.OprojRefIdeal.τ).loc Cert.OprojRefIdeal.main_arg8)
      ∧ r.2.mem ((c.tc : Thread Cert.OprojRefIdeal.nD Cert.OprojRefIdeal.τ).loc Cert.OprojRefIdeal.main_arg9) = m ((c.tc : Thread Cert.OprojRefIdeal.nD Cert.OprojRefIdeal.τ).loc Cert.OprojRefIdeal.main_arg9)
      ∧ r.2.mem ((c.tc : Thread Cert.OprojRefIdeal.nD Cert.OprojRefIdeal.τ).loc Cert.OprojRefIdeal.main_arg10) = m ((c.tc : Thread Cert.OprojRefIdeal.nD Cert.OprojRefIdeal.τ).loc Cert.OprojRefIdeal.main_arg10)
      ∧ r.2.mem ((c.tc : Thread Cert.OprojRefIdeal.nD Cert.OprojRefIdeal.τ).loc Cert.OprojRefIdeal.main_arg11) = m ((c.tc : Thread Cert.OprojRefIdeal.nD Cert.OprojRefIdeal.τ).loc Cert.OprojRefIdeal.main_arg11))
      ∧ r.2.sem = fun _ => 0)

def quiescent_Oconv [hOconv : Cert.Oconv.Facts] : Prop :=
  ∀ (m : (ℓ : Loc Cert.Oconv.nD Cert.Oconv.τ Cert.Oconv.sig) → Buf (Elt Bits) ℓ) (g : Dev Cert.Oconv.nD → PrngReg), Pre_Oconv m →
    θ_run (Cert.Oconv.defs (F := Bits)) (onTc (τ := Cert.Oconv.τ) (Cert.Oconv.main (F := Bits))) ⟨m, fun _ => 0, g⟩ (fun r => (∀ c : Dev Cert.Oconv.nD,
      r.2.mem ((c.tc : Thread Cert.Oconv.nD Cert.Oconv.τ).loc Cert.Oconv.main_arg0) = m ((c.tc : Thread Cert.Oconv.nD Cert.Oconv.τ).loc Cert.Oconv.main_arg0)
      ∧ r.2.mem ((c.tc : Thread Cert.Oconv.nD Cert.Oconv.τ).loc Cert.Oconv.main_arg1) = m ((c.tc : Thread Cert.Oconv.nD Cert.Oconv.τ).loc Cert.Oconv.main_arg1)
      ∧ r.2.mem ((c.tc : Thread Cert.Oconv.nD Cert.Oconv.τ).loc Cert.Oconv.main_arg2) = m ((c.tc : Thread Cert.Oconv.nD Cert.Oconv.τ).loc Cert.Oconv.main_arg2)
      ∧ r.2.mem ((c.tc : Thread Cert.Oconv.nD Cert.Oconv.τ).loc Cert.Oconv.main_arg3) = m ((c.tc : Thread Cert.Oconv.nD Cert.Oconv.τ).loc Cert.Oconv.main_arg3))
      ∧ r.2.sem = fun _ => 0)

def quiescent_OconvIdeal [hOconvIdeal : Cert.OconvIdeal.Facts] : Prop :=
  ∀ (m : (ℓ : Loc Cert.OconvIdeal.nD Cert.OconvIdeal.τ Cert.OconvIdeal.sig) → Buf (Elt Ideal) ℓ) (g : Dev Cert.OconvIdeal.nD → PrngReg), Pre_OconvIdeal m →
    θ_run (Cert.OconvIdeal.defs (F := Ideal)) (onTc (τ := Cert.OconvIdeal.τ) (Cert.OconvIdeal.main (F := Ideal))) ⟨m, fun _ => 0, g⟩ (fun r => (∀ c : Dev Cert.OconvIdeal.nD,
      r.2.mem ((c.tc : Thread Cert.OconvIdeal.nD Cert.OconvIdeal.τ).loc Cert.OconvIdeal.main_arg0) = m ((c.tc : Thread Cert.OconvIdeal.nD Cert.OconvIdeal.τ).loc Cert.OconvIdeal.main_arg0)
      ∧ r.2.mem ((c.tc : Thread Cert.OconvIdeal.nD Cert.OconvIdeal.τ).loc Cert.OconvIdeal.main_arg1) = m ((c.tc : Thread Cert.OconvIdeal.nD Cert.OconvIdeal.τ).loc Cert.OconvIdeal.main_arg1)
      ∧ r.2.mem ((c.tc : Thread Cert.OconvIdeal.nD Cert.OconvIdeal.τ).loc Cert.OconvIdeal.main_arg2) = m ((c.tc : Thread Cert.OconvIdeal.nD Cert.OconvIdeal.τ).loc Cert.OconvIdeal.main_arg2)
      ∧ r.2.mem ((c.tc : Thread Cert.OconvIdeal.nD Cert.OconvIdeal.τ).loc Cert.OconvIdeal.main_arg3) = m ((c.tc : Thread Cert.OconvIdeal.nD Cert.OconvIdeal.τ).loc Cert.OconvIdeal.main_arg3))
      ∧ r.2.sem = fun _ => 0)

def quiescent_OconvRefIdeal [hOconvRefIdeal : Cert.OconvRefIdeal.Facts] : Prop :=
  ∀ (m : (ℓ : Loc Cert.OconvRefIdeal.nD Cert.OconvRefIdeal.τ Cert.OconvRefIdeal.sig) → Buf (Elt Ideal) ℓ) (g : Dev Cert.OconvRefIdeal.nD → PrngReg), Pre_OconvRefIdeal m →
    θ_run (Cert.OconvRefIdeal.defs (F := Ideal)) (onTc (τ := Cert.OconvRefIdeal.τ) (Cert.OconvRefIdeal.main (F := Ideal))) ⟨m, fun _ => 0, g⟩ (fun r => (∀ c : Dev Cert.OconvRefIdeal.nD,
      r.2.mem ((c.tc : Thread Cert.OconvRefIdeal.nD Cert.OconvRefIdeal.τ).loc Cert.OconvRefIdeal.main_arg0) = m ((c.tc : Thread Cert.OconvRefIdeal.nD Cert.OconvRefIdeal.τ).loc Cert.OconvRefIdeal.main_arg0)
      ∧ r.2.mem ((c.tc : Thread Cert.OconvRefIdeal.nD Cert.OconvRefIdeal.τ).loc Cert.OconvRefIdeal.main_arg1) = m ((c.tc : Thread Cert.OconvRefIdeal.nD Cert.OconvRefIdeal.τ).loc Cert.OconvRefIdeal.main_arg1)
      ∧ r.2.mem ((c.tc : Thread Cert.OconvRefIdeal.nD Cert.OconvRefIdeal.τ).loc Cert.OconvRefIdeal.main_arg2) = m ((c.tc : Thread Cert.OconvRefIdeal.nD Cert.OconvRefIdeal.τ).loc Cert.OconvRefIdeal.main_arg2)
      ∧ r.2.mem ((c.tc : Thread Cert.OconvRefIdeal.nD Cert.OconvRefIdeal.τ).loc Cert.OconvRefIdeal.main_arg3) = m ((c.tc : Thread Cert.OconvRefIdeal.nD Cert.OconvRefIdeal.τ).loc Cert.OconvRefIdeal.main_arg3))
      ∧ r.2.sem = fun _ => 0)

def preserves_Act_ActIdeal : Prop :=
  True

def algebraic_ActIdeal_ActRefIdeal_pre_finite [hActIdeal : Cert.ActIdeal.Facts] [hActRefIdeal : Cert.ActRefIdeal.Facts] [hPre_finite : Cert.Pre_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v7_0)) (v1 : (c : Dev Cert.ActIdeal.nD) → Buf (Elt Ideal) ((c.tc : Thread Cert.ActIdeal.nD Cert.ActIdeal.τ).loc Cert.ActIdeal.main_v7_1)) (v2 : (c : Dev Cert.ActIdeal.nD) → Buf (Elt Ideal) ((c.tc : Thread Cert.ActIdeal.nD Cert.ActIdeal.τ).loc Cert.ActIdeal.main_v7_2)) (v3 : (c : Dev Cert.ActIdeal.nD) → Buf (Elt Ideal) ((c.tc : Thread Cert.ActIdeal.nD Cert.ActIdeal.τ).loc Cert.ActIdeal.main_v7_3)) (v4 : (c : Dev Cert.ActIdeal.nD) → Buf (Elt Ideal) ((c.tc : Thread Cert.ActIdeal.nD Cert.ActIdeal.τ).loc Cert.ActIdeal.main_v7_4)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v7_0) = v0 c
          ∧ r.2.mem ((c.tc : Thread Cert.ActIdeal.nD Cert.ActIdeal.τ).loc Cert.ActIdeal.main_v7_1) = v1 c
          ∧ r.2.mem ((c.tc : Thread Cert.ActIdeal.nD Cert.ActIdeal.τ).loc Cert.ActIdeal.main_v7_2) = v2 c
          ∧ r.2.mem ((c.tc : Thread Cert.ActIdeal.nD Cert.ActIdeal.τ).loc Cert.ActIdeal.main_v7_3) = v3 c
          ∧ r.2.mem ((c.tc : Thread Cert.ActIdeal.nD Cert.ActIdeal.τ).loc Cert.ActIdeal.main_v7_4) = v4 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v17) = v0 c
          ∧ r.2.mem ((c.tc : Thread Cert.ActRefIdeal.nD Cert.ActRefIdeal.τ).loc Cert.ActRefIdeal.main_v19) = v1 c
          ∧ r.2.mem ((c.tc : Thread Cert.ActRefIdeal.nD Cert.ActRefIdeal.τ).loc Cert.ActRefIdeal.main_v20) = v2 c
          ∧ r.2.mem ((c.tc : Thread Cert.ActRefIdeal.nD Cert.ActRefIdeal.τ).loc Cert.ActRefIdeal.main_v21) = v3 c
          ∧ r.2.mem ((c.tc : Thread Cert.ActRefIdeal.nD Cert.ActRefIdeal.τ).loc Cert.ActRefIdeal.main_v22) = v4 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Merge_MergeIdeal : Prop :=
  IdealRules.named_const.Statement Cert.MergeIdeal.κ "gelu_a" .f32 0x3D372713#32 ((8943 / 200000 : ℝ) : EReal)
  ∧ IdealRules.named_const.Statement Cert.MergeIdeal.κ "gelu_3a" .f32 0x3E095D4F#32 ((26829 / 200000 : ℝ) : EReal)

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v88_0)) (v1 : (c : Dev Cert.MergeIdeal.nD) → Buf (Elt Ideal) ((c.tc : Thread Cert.MergeIdeal.nD Cert.MergeIdeal.τ).loc Cert.MergeIdeal.main_v88_1)) (v2 : (c : Dev Cert.MergeIdeal.nD) → Buf (Elt Ideal) ((c.tc : Thread Cert.MergeIdeal.nD Cert.MergeIdeal.τ).loc Cert.MergeIdeal.main_v88_2)) (v3 : (c : Dev Cert.MergeIdeal.nD) → Buf (Elt Ideal) ((c.tc : Thread Cert.MergeIdeal.nD Cert.MergeIdeal.τ).loc Cert.MergeIdeal.main_v88_3)) (v4 : (c : Dev Cert.MergeIdeal.nD) → Buf (Elt Ideal) ((c.tc : Thread Cert.MergeIdeal.nD Cert.MergeIdeal.τ).loc Cert.MergeIdeal.main_v88_4)) (v5 : (c : Dev Cert.MergeIdeal.nD) → Buf (Elt Ideal) ((c.tc : Thread Cert.MergeIdeal.nD Cert.MergeIdeal.τ).loc Cert.MergeIdeal.main_v88_5)) (v6 : (c : Dev Cert.MergeIdeal.nD) → Buf (Elt Ideal) ((c.tc : Thread Cert.MergeIdeal.nD Cert.MergeIdeal.τ).loc Cert.MergeIdeal.main_v88_6)) (v7 : (c : Dev Cert.MergeIdeal.nD) → Buf (Elt Ideal) ((c.tc : Thread Cert.MergeIdeal.nD Cert.MergeIdeal.τ).loc Cert.MergeIdeal.main_v88_7)) (v8 : (c : Dev Cert.MergeIdeal.nD) → Buf (Elt Ideal) ((c.tc : Thread Cert.MergeIdeal.nD Cert.MergeIdeal.τ).loc Cert.MergeIdeal.main_v88_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v88_0) = v0 c
          ∧ r.2.mem ((c.tc : Thread Cert.MergeIdeal.nD Cert.MergeIdeal.τ).loc Cert.MergeIdeal.main_v88_1) = v1 c
          ∧ r.2.mem ((c.tc : Thread Cert.MergeIdeal.nD Cert.MergeIdeal.τ).loc Cert.MergeIdeal.main_v88_2) = v2 c
          ∧ r.2.mem ((c.tc : Thread Cert.MergeIdeal.nD Cert.MergeIdeal.τ).loc Cert.MergeIdeal.main_v88_3) = v3 c
          ∧ r.2.mem ((c.tc : Thread Cert.MergeIdeal.nD Cert.MergeIdeal.τ).loc Cert.MergeIdeal.main_v88_4) = v4 c
          ∧ r.2.mem ((c.tc : Thread Cert.MergeIdeal.nD Cert.MergeIdeal.τ).loc Cert.MergeIdeal.main_v88_5) = v5 c
          ∧ r.2.mem ((c.tc : Thread Cert.MergeIdeal.nD Cert.MergeIdeal.τ).loc Cert.MergeIdeal.main_v88_6) = v6 c
          ∧ r.2.mem ((c.tc : Thread Cert.MergeIdeal.nD Cert.MergeIdeal.τ).loc Cert.MergeIdeal.main_v88_7) = v7 c
          ∧ r.2.mem ((c.tc : Thread Cert.MergeIdeal.nD Cert.MergeIdeal.τ).loc Cert.MergeIdeal.main_v88_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v175) = v0 c
          ∧ r.2.mem ((c.tc : Thread Cert.MergeRefIdeal.nD Cert.MergeRefIdeal.τ).loc Cert.MergeRefIdeal.main_v176) = v1 c
          ∧ r.2.mem ((c.tc : Thread Cert.MergeRefIdeal.nD Cert.MergeRefIdeal.τ).loc Cert.MergeRefIdeal.main_v177) = v2 c
          ∧ r.2.mem ((c.tc : Thread Cert.MergeRefIdeal.nD Cert.MergeRefIdeal.τ).loc Cert.MergeRefIdeal.main_v178) = v3 c
          ∧ r.2.mem ((c.tc : Thread Cert.MergeRefIdeal.nD Cert.MergeRefIdeal.τ).loc Cert.MergeRefIdeal.main_v179) = v4 c
          ∧ r.2.mem ((c.tc : Thread Cert.MergeRefIdeal.nD Cert.MergeRefIdeal.τ).loc Cert.MergeRefIdeal.main_v180) = v5 c
          ∧ r.2.mem ((c.tc : Thread Cert.MergeRefIdeal.nD Cert.MergeRefIdeal.τ).loc Cert.MergeRefIdeal.main_v129) = v6 c
          ∧ r.2.mem ((c.tc : Thread Cert.MergeRefIdeal.nD Cert.MergeRefIdeal.τ).loc Cert.MergeRefIdeal.main_v181) = v7 c
          ∧ r.2.mem ((c.tc : Thread Cert.MergeRefIdeal.nD Cert.MergeRefIdeal.τ).loc Cert.MergeRefIdeal.main_v133) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v21_0)) (v1 : (c : Dev Cert.UpIdeal.nD) → Buf (Elt Ideal) ((c.tc : Thread Cert.UpIdeal.nD Cert.UpIdeal.τ).loc Cert.UpIdeal.main_v21_1)) (v2 : (c : Dev Cert.UpIdeal.nD) → Buf (Elt Ideal) ((c.tc : Thread Cert.UpIdeal.nD Cert.UpIdeal.τ).loc Cert.UpIdeal.main_v21_2)) (v3 : (c : Dev Cert.UpIdeal.nD) → Buf (Elt Ideal) ((c.tc : Thread Cert.UpIdeal.nD Cert.UpIdeal.τ).loc Cert.UpIdeal.main_v21_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v21_0) = v0 c
          ∧ r.2.mem ((c.tc : Thread Cert.UpIdeal.nD Cert.UpIdeal.τ).loc Cert.UpIdeal.main_v21_1) = v1 c
          ∧ r.2.mem ((c.tc : Thread Cert.UpIdeal.nD Cert.UpIdeal.τ).loc Cert.UpIdeal.main_v21_2) = v2 c
          ∧ r.2.mem ((c.tc : Thread Cert.UpIdeal.nD Cert.UpIdeal.τ).loc Cert.UpIdeal.main_v21_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v96) = v0 c
          ∧ r.2.mem ((c.tc : Thread Cert.UpRefIdeal.nD Cert.UpRefIdeal.τ).loc Cert.UpRefIdeal.main_v97) = v1 c
          ∧ r.2.mem ((c.tc : Thread Cert.UpRefIdeal.nD Cert.UpRefIdeal.τ).loc Cert.UpRefIdeal.main_v79) = v2 c
          ∧ r.2.mem ((c.tc : Thread Cert.UpRefIdeal.nD Cert.UpRefIdeal.τ).loc Cert.UpRefIdeal.main_v72) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)
      ∧ m' ((c.tc : Thread Cert.GupRefIdeal.nD Cert.GupRefIdeal.τ).loc Cert.GupRefIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v14)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v14) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v16) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1)
          ∧ r.2.mem ((c.tc : Thread Cert.GupRefIdeal.nD Cert.GupRefIdeal.τ).loc Cert.GupRefIdeal.main_arg2) = m' ((c.tc : Thread Cert.GupRefIdeal.nD Cert.GupRefIdeal.τ).loc Cert.GupRefIdeal.main_arg2))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v8_0)) (v1 : (c : Dev Cert.InIdeal.nD) → Buf (Elt Ideal) ((c.tc : Thread Cert.InIdeal.nD Cert.InIdeal.τ).loc Cert.InIdeal.main_v8_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v8_0) = v0 c
          ∧ r.2.mem ((c.tc : Thread Cert.InIdeal.nD Cert.InIdeal.τ).loc Cert.InIdeal.main_v8_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v19) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)
      ∧ m' ((c.tc : Thread Cert.GinRefIdeal.nD Cert.GinRefIdeal.τ).loc Cert.GinRefIdeal.main_arg2) = m ((c.tc : Thread Cert.GinIdeal.nD Cert.GinIdeal.τ).loc Cert.GinIdeal.main_arg2)) →
    ∃ (v0 : (c : Dev Cert.GinIdeal.nD) → Buf (Elt Ideal) ((c.tc : Thread Cert.GinIdeal.nD Cert.GinIdeal.τ).loc Cert.GinIdeal.main_v19)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v19) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
          ∧ r.2.mem ((c.tc : Thread Cert.GinIdeal.nD Cert.GinIdeal.τ).loc Cert.GinIdeal.main_arg2) = m ((c.tc : Thread Cert.GinIdeal.nD Cert.GinIdeal.τ).loc Cert.GinIdeal.main_arg2))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v18) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1)
          ∧ r.2.mem ((c.tc : Thread Cert.GinRefIdeal.nD Cert.GinRefIdeal.τ).loc Cert.GinRefIdeal.main_arg2) = m' ((c.tc : Thread Cert.GinRefIdeal.nD Cert.GinRefIdeal.τ).loc Cert.GinRefIdeal.main_arg2))

def preserves_Fmerge_FmergeIdeal : Prop :=
  True

def algebraic_FmergeIdeal_FmergeRefIdeal [hFmergeIdeal : Cert.FmergeIdeal.Facts] [hFmergeRefIdeal : Cert.FmergeRefIdeal.Facts] : Prop :=
  ∀ (m : (ℓ : Loc Cert.FmergeIdeal.nD Cert.FmergeIdeal.τ Cert.FmergeIdeal.sig) → Buf (Elt Ideal) ℓ) (g : Dev Cert.FmergeIdeal.nD → PrngReg)
    (m' : (ℓ : Loc Cert.FmergeRefIdeal.nD Cert.FmergeRefIdeal.τ Cert.FmergeRefIdeal.sig) → Buf (Elt Ideal) ℓ) (g' : Dev Cert.FmergeRefIdeal.nD → PrngReg), Pre_FmergeIdeal m →
    (∀ c : Dev Cert.FmergeIdeal.nD,
      m' ((c.tc : Thread Cert.FmergeRefIdeal.nD Cert.FmergeRefIdeal.τ).loc Cert.FmergeRefIdeal.main_arg0) = m ((c.tc : Thread Cert.FmergeIdeal.nD Cert.FmergeIdeal.τ).loc Cert.FmergeIdeal.main_arg0)
      ∧ m' ((c.tc : Thread Cert.FmergeRefIdeal.nD Cert.FmergeRefIdeal.τ).loc Cert.FmergeRefIdeal.main_arg1) = m ((c.tc : Thread Cert.FmergeIdeal.nD Cert.FmergeIdeal.τ).loc Cert.FmergeIdeal.main_arg1)
      ∧ m' ((c.tc : Thread Cert.FmergeRefIdeal.nD Cert.FmergeRefIdeal.τ).loc Cert.FmergeRefIdeal.main_arg2) = m ((c.tc : Thread Cert.FmergeIdeal.nD Cert.FmergeIdeal.τ).loc Cert.FmergeIdeal.main_arg2)
      ∧ m' ((c.tc : Thread Cert.FmergeRefIdeal.nD Cert.FmergeRefIdeal.τ).loc Cert.FmergeRefIdeal.main_arg3) = m ((c.tc : Thread Cert.FmergeIdeal.nD Cert.FmergeIdeal.τ).loc Cert.FmergeIdeal.main_arg3)
      ∧ m' ((c.tc : Thread Cert.FmergeRefIdeal.nD Cert.FmergeRefIdeal.τ).loc Cert.FmergeRefIdeal.main_arg4) = m ((c.tc : Thread Cert.FmergeIdeal.nD Cert.FmergeIdeal.τ).loc Cert.FmergeIdeal.main_arg4)
      ∧ m' ((c.tc : Thread Cert.FmergeRefIdeal.nD Cert.FmergeRefIdeal.τ).loc Cert.FmergeRefIdeal.main_arg5) = m ((c.tc : Thread Cert.FmergeIdeal.nD Cert.FmergeIdeal.τ).loc Cert.FmergeIdeal.main_arg5)
      ∧ m' ((c.tc : Thread Cert.FmergeRefIdeal.nD Cert.FmergeRefIdeal.τ).loc Cert.FmergeRefIdeal.main_arg6) = m ((c.tc : Thread Cert.FmergeIdeal.nD Cert.FmergeIdeal.τ).loc Cert.FmergeIdeal.main_arg6)) →
    ∃ (v0 : (c : Dev Cert.FmergeIdeal.nD) → Buf (Elt Ideal) ((c.tc : Thread Cert.FmergeIdeal.nD Cert.FmergeIdeal.τ).loc Cert.FmergeIdeal.main_v10_0)) (v1 : (c : Dev Cert.FmergeIdeal.nD) → Buf (Elt Ideal) ((c.tc : Thread Cert.FmergeIdeal.nD Cert.FmergeIdeal.τ).loc Cert.FmergeIdeal.main_v10_1)),
      θ_run (Cert.FmergeIdeal.defs (F := Ideal)) (onTc (τ := Cert.FmergeIdeal.τ) (Cert.FmergeIdeal.main (F := Ideal))) ⟨m, fun _ => 0, g⟩ (fun r => ∀ c : Dev Cert.FmergeIdeal.nD,
          r.2.mem ((c.tc : Thread Cert.FmergeIdeal.nD Cert.FmergeIdeal.τ).loc Cert.FmergeIdeal.main_v10_0) = v0 c
          ∧ r.2.mem ((c.tc : Thread Cert.FmergeIdeal.nD Cert.FmergeIdeal.τ).loc Cert.FmergeIdeal.main_v10_1) = v1 c
          ∧ r.2.mem ((c.tc : Thread Cert.FmergeIdeal.nD Cert.FmergeIdeal.τ).loc Cert.FmergeIdeal.main_arg0) = m ((c.tc : Thread Cert.FmergeIdeal.nD Cert.FmergeIdeal.τ).loc Cert.FmergeIdeal.main_arg0)
          ∧ r.2.mem ((c.tc : Thread Cert.FmergeIdeal.nD Cert.FmergeIdeal.τ).loc Cert.FmergeIdeal.main_arg1) = m ((c.tc : Thread Cert.FmergeIdeal.nD Cert.FmergeIdeal.τ).loc Cert.FmergeIdeal.main_arg1)
          ∧ r.2.mem ((c.tc : Thread Cert.FmergeIdeal.nD Cert.FmergeIdeal.τ).loc Cert.FmergeIdeal.main_arg2) = m ((c.tc : Thread Cert.FmergeIdeal.nD Cert.FmergeIdeal.τ).loc Cert.FmergeIdeal.main_arg2)
          ∧ r.2.mem ((c.tc : Thread Cert.FmergeIdeal.nD Cert.FmergeIdeal.τ).loc Cert.FmergeIdeal.main_arg3) = m ((c.tc : Thread Cert.FmergeIdeal.nD Cert.FmergeIdeal.τ).loc Cert.FmergeIdeal.main_arg3)
          ∧ r.2.mem ((c.tc : Thread Cert.FmergeIdeal.nD Cert.FmergeIdeal.τ).loc Cert.FmergeIdeal.main_arg4) = m ((c.tc : Thread Cert.FmergeIdeal.nD Cert.FmergeIdeal.τ).loc Cert.FmergeIdeal.main_arg4)
          ∧ r.2.mem ((c.tc : Thread Cert.FmergeIdeal.nD Cert.FmergeIdeal.τ).loc Cert.FmergeIdeal.main_arg5) = m ((c.tc : Thread Cert.FmergeIdeal.nD Cert.FmergeIdeal.τ).loc Cert.FmergeIdeal.main_arg5)
          ∧ r.2.mem ((c.tc : Thread Cert.FmergeIdeal.nD Cert.FmergeIdeal.τ).loc Cert.FmergeIdeal.main_arg6) = m ((c.tc : Thread Cert.FmergeIdeal.nD Cert.FmergeIdeal.τ).loc Cert.FmergeIdeal.main_arg6))
      ∧ θ_run (Cert.FmergeRefIdeal.defs (F := Ideal)) (onTc (τ := Cert.FmergeRefIdeal.τ) (Cert.FmergeRefIdeal.main (F := Ideal))) ⟨m', fun _ => 0, g'⟩ (fun r => ∀ c : Dev Cert.FmergeRefIdeal.nD,
          r.2.mem ((c.tc : Thread Cert.FmergeRefIdeal.nD Cert.FmergeRefIdeal.τ).loc Cert.FmergeRefIdeal.main_v20) = v0 c
          ∧ r.2.mem ((c.tc : Thread Cert.FmergeRefIdeal.nD Cert.FmergeRefIdeal.τ).loc Cert.FmergeRefIdeal.main_v21) = v1 c
          ∧ r.2.mem ((c.tc : Thread Cert.FmergeRefIdeal.nD Cert.FmergeRefIdeal.τ).loc Cert.FmergeRefIdeal.main_arg0) = m' ((c.tc : Thread Cert.FmergeRefIdeal.nD Cert.FmergeRefIdeal.τ).loc Cert.FmergeRefIdeal.main_arg0)
          ∧ r.2.mem ((c.tc : Thread Cert.FmergeRefIdeal.nD Cert.FmergeRefIdeal.τ).loc Cert.FmergeRefIdeal.main_arg1) = m' ((c.tc : Thread Cert.FmergeRefIdeal.nD Cert.FmergeRefIdeal.τ).loc Cert.FmergeRefIdeal.main_arg1)
          ∧ r.2.mem ((c.tc : Thread Cert.FmergeRefIdeal.nD Cert.FmergeRefIdeal.τ).loc Cert.FmergeRefIdeal.main_arg2) = m' ((c.tc : Thread Cert.FmergeRefIdeal.nD Cert.FmergeRefIdeal.τ).loc Cert.FmergeRefIdeal.main_arg2)
          ∧ r.2.mem ((c.tc : Thread Cert.FmergeRefIdeal.nD Cert.FmergeRefIdeal.τ).loc Cert.FmergeRefIdeal.main_arg3) = m' ((c.tc : Thread Cert.FmergeRefIdeal.nD Cert.FmergeRefIdeal.τ).loc Cert.FmergeRefIdeal.main_arg3)
          ∧ r.2.mem ((c.tc : Thread Cert.FmergeRefIdeal.nD Cert.FmergeRefIdeal.τ).loc Cert.FmergeRefIdeal.main_arg4) = m' ((c.tc : Thread Cert.FmergeRefIdeal.nD Cert.FmergeRefIdeal.τ).loc Cert.FmergeRefIdeal.main_arg4)
          ∧ r.2.mem ((c.tc : Thread Cert.FmergeRefIdeal.nD Cert.FmergeRefIdeal.τ).loc Cert.FmergeRefIdeal.main_arg5) = m' ((c.tc : Thread Cert.FmergeRefIdeal.nD Cert.FmergeRefIdeal.τ).loc Cert.FmergeRefIdeal.main_arg5)
          ∧ r.2.mem ((c.tc : Thread Cert.FmergeRefIdeal.nD Cert.FmergeRefIdeal.τ).loc Cert.FmergeRefIdeal.main_arg6) = m' ((c.tc : Thread Cert.FmergeRefIdeal.nD Cert.FmergeRefIdeal.τ).loc Cert.FmergeRefIdeal.main_arg6))

def preserves_Fin_FinIdeal : Prop :=
  IdealRules.named_const.Statement Cert.FinIdeal.κ "gelu_a" .f32 0x3D372713#32 ((8943 / 200000 : ℝ) : EReal)

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)
      ∧ m' ((c.tc : Thread Cert.FinRefIdeal.nD Cert.FinRefIdeal.τ).loc Cert.FinRefIdeal.main_arg4) = m ((c.tc : Thread Cert.FinIdeal.nD Cert.FinIdeal.τ).loc Cert.FinIdeal.main_arg4)
      ∧ m' ((c.tc : Thread Cert.FinRefIdeal.nD Cert.FinRefIdeal.τ).loc Cert.FinRefIdeal.main_arg5) = m ((c.tc : Thread Cert.FinIdeal.nD Cert.FinIdeal.τ).loc Cert.FinIdeal.main_arg5)) →
    ∃ (v0 : (c : Dev Cert.FinIdeal.nD) → Buf (Elt Ideal) ((c.tc : Thread Cert.FinIdeal.nD Cert.FinIdeal.τ).loc Cert.FinIdeal.main_v3_0)) (v1 : (c : Dev Cert.FinIdeal.nD) → Buf (Elt Ideal) ((c.tc : Thread Cert.FinIdeal.nD Cert.FinIdeal.τ).loc Cert.FinIdeal.main_v3_1)) (v2 : (c : Dev Cert.FinIdeal.nD) → Buf (Elt Ideal) ((c.tc : Thread Cert.FinIdeal.nD Cert.FinIdeal.τ).loc Cert.FinIdeal.main_v3_2)) (v3 : (c : Dev Cert.FinIdeal.nD) → Buf (Elt Ideal) ((c.tc : Thread Cert.FinIdeal.nD Cert.FinIdeal.τ).loc Cert.FinIdeal.main_v3_3)) (v4 : (c : Dev Cert.FinIdeal.nD) → Buf (Elt Ideal) ((c.tc : Thread Cert.FinIdeal.nD Cert.FinIdeal.τ).loc Cert.FinIdeal.main_v3_4)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v3_0) = v0 c
          ∧ r.2.mem ((c.tc : Thread Cert.FinIdeal.nD Cert.FinIdeal.τ).loc Cert.FinIdeal.main_v3_1) = v1 c
          ∧ r.2.mem ((c.tc : Thread Cert.FinIdeal.nD Cert.FinIdeal.τ).loc Cert.FinIdeal.main_v3_2) = v2 c
          ∧ r.2.mem ((c.tc : Thread Cert.FinIdeal.nD Cert.FinIdeal.τ).loc Cert.FinIdeal.main_v3_3) = v3 c
          ∧ r.2.mem ((c.tc : Thread Cert.FinIdeal.nD Cert.FinIdeal.τ).loc Cert.FinIdeal.main_v3_4) = v4 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
          ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
          ∧ r.2.mem ((c.tc : Thread Cert.FinIdeal.nD Cert.FinIdeal.τ).loc Cert.FinIdeal.main_arg5) = m ((c.tc : Thread Cert.FinIdeal.nD Cert.FinIdeal.τ).loc Cert.FinIdeal.main_arg5))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v16) = v0 c
          ∧ r.2.mem ((c.tc : Thread Cert.FinRefIdeal.nD Cert.FinRefIdeal.τ).loc Cert.FinRefIdeal.main_v17) = v1 c
          ∧ r.2.mem ((c.tc : Thread Cert.FinRefIdeal.nD Cert.FinRefIdeal.τ).loc Cert.FinRefIdeal.main_v18) = v2 c
          ∧ r.2.mem ((c.tc : Thread Cert.FinRefIdeal.nD Cert.FinRefIdeal.τ).loc Cert.FinRefIdeal.main_v31) = v3 c
          ∧ r.2.mem ((c.tc : Thread Cert.FinRefIdeal.nD Cert.FinRefIdeal.τ).loc Cert.FinRefIdeal.main_v88) = v4 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3)
          ∧ r.2.mem ((c.tc : Thread Cert.FinRefIdeal.nD Cert.FinRefIdeal.τ).loc Cert.FinRefIdeal.main_arg4) = m' ((c.tc : Thread Cert.FinRefIdeal.nD Cert.FinRefIdeal.τ).loc Cert.FinRefIdeal.main_arg4)
          ∧ r.2.mem ((c.tc : Thread Cert.FinRefIdeal.nD Cert.FinRefIdeal.τ).loc Cert.FinRefIdeal.main_arg5) = m' ((c.tc : Thread Cert.FinRefIdeal.nD Cert.FinRefIdeal.τ).loc Cert.FinRefIdeal.main_arg5))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)) (v2 : (c : Dev Cert.DownIdeal.nD) → Buf (Elt Ideal) ((c.tc : Thread Cert.DownIdeal.nD Cert.DownIdeal.τ).loc Cert.DownIdeal.main_v5_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_v5_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v54) = v0 c
          ∧ r.2.mem ((c.tc : Thread Cert.DownRefIdeal.nD Cert.DownRefIdeal.τ).loc Cert.DownRefIdeal.main_v55) = v1 c
          ∧ r.2.mem ((c.tc : Thread Cert.DownRefIdeal.nD Cert.DownRefIdeal.τ).loc Cert.DownRefIdeal.main_v38) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Fup_FupIdeal : Prop :=
  True

def algebraic_FupIdeal_FupRefIdeal [hFupIdeal : Cert.FupIdeal.Facts] [hFupRefIdeal : Cert.FupRefIdeal.Facts] : Prop :=
  ∀ (m : (ℓ : Loc Cert.FupIdeal.nD Cert.FupIdeal.τ Cert.FupIdeal.sig) → Buf (Elt Ideal) ℓ) (g : Dev Cert.FupIdeal.nD → PrngReg)
    (m' : (ℓ : Loc Cert.FupRefIdeal.nD Cert.FupRefIdeal.τ Cert.FupRefIdeal.sig) → Buf (Elt Ideal) ℓ) (g' : Dev Cert.FupRefIdeal.nD → PrngReg), Pre_FupIdeal m →
    (∀ c : Dev Cert.FupIdeal.nD,
      m' ((c.tc : Thread Cert.FupRefIdeal.nD Cert.FupRefIdeal.τ).loc Cert.FupRefIdeal.main_arg0) = m ((c.tc : Thread Cert.FupIdeal.nD Cert.FupIdeal.τ).loc Cert.FupIdeal.main_arg0)
      ∧ m' ((c.tc : Thread Cert.FupRefIdeal.nD Cert.FupRefIdeal.τ).loc Cert.FupRefIdeal.main_arg1) = m ((c.tc : Thread Cert.FupIdeal.nD Cert.FupIdeal.τ).loc Cert.FupIdeal.main_arg1)
      ∧ m' ((c.tc : Thread Cert.FupRefIdeal.nD Cert.FupRefIdeal.τ).loc Cert.FupRefIdeal.main_arg2) = m ((c.tc : Thread Cert.FupIdeal.nD Cert.FupIdeal.τ).loc Cert.FupIdeal.main_arg2)
      ∧ m' ((c.tc : Thread Cert.FupRefIdeal.nD Cert.FupRefIdeal.τ).loc Cert.FupRefIdeal.main_arg3) = m ((c.tc : Thread Cert.FupIdeal.nD Cert.FupIdeal.τ).loc Cert.FupIdeal.main_arg3)
      ∧ m' ((c.tc : Thread Cert.FupRefIdeal.nD Cert.FupRefIdeal.τ).loc Cert.FupRefIdeal.main_arg4) = m ((c.tc : Thread Cert.FupIdeal.nD Cert.FupIdeal.τ).loc Cert.FupIdeal.main_arg4)) →
    ∃ (v0 : (c : Dev Cert.FupIdeal.nD) → Buf (Elt Ideal) ((c.tc : Thread Cert.FupIdeal.nD Cert.FupIdeal.τ).loc Cert.FupIdeal.main_v3_0)) (v1 : (c : Dev Cert.FupIdeal.nD) → Buf (Elt Ideal) ((c.tc : Thread Cert.FupIdeal.nD Cert.FupIdeal.τ).loc Cert.FupIdeal.main_v3_1)) (v2 : (c : Dev Cert.FupIdeal.nD) → Buf (Elt Ideal) ((c.tc : Thread Cert.FupIdeal.nD Cert.FupIdeal.τ).loc Cert.FupIdeal.main_v3_2)) (v3 : (c : Dev Cert.FupIdeal.nD) → Buf (Elt Ideal) ((c.tc : Thread Cert.FupIdeal.nD Cert.FupIdeal.τ).loc Cert.FupIdeal.main_v3_3)),
      θ_run (Cert.FupIdeal.defs (F := Ideal)) (onTc (τ := Cert.FupIdeal.τ) (Cert.FupIdeal.main (F := Ideal))) ⟨m, fun _ => 0, g⟩ (fun r => ∀ c : Dev Cert.FupIdeal.nD,
          r.2.mem ((c.tc : Thread Cert.FupIdeal.nD Cert.FupIdeal.τ).loc Cert.FupIdeal.main_v3_0) = v0 c
          ∧ r.2.mem ((c.tc : Thread Cert.FupIdeal.nD Cert.FupIdeal.τ).loc Cert.FupIdeal.main_v3_1) = v1 c
          ∧ r.2.mem ((c.tc : Thread Cert.FupIdeal.nD Cert.FupIdeal.τ).loc Cert.FupIdeal.main_v3_2) = v2 c
          ∧ r.2.mem ((c.tc : Thread Cert.FupIdeal.nD Cert.FupIdeal.τ).loc Cert.FupIdeal.main_v3_3) = v3 c
          ∧ r.2.mem ((c.tc : Thread Cert.FupIdeal.nD Cert.FupIdeal.τ).loc Cert.FupIdeal.main_arg0) = m ((c.tc : Thread Cert.FupIdeal.nD Cert.FupIdeal.τ).loc Cert.FupIdeal.main_arg0)
          ∧ r.2.mem ((c.tc : Thread Cert.FupIdeal.nD Cert.FupIdeal.τ).loc Cert.FupIdeal.main_arg1) = m ((c.tc : Thread Cert.FupIdeal.nD Cert.FupIdeal.τ).loc Cert.FupIdeal.main_arg1)
          ∧ r.2.mem ((c.tc : Thread Cert.FupIdeal.nD Cert.FupIdeal.τ).loc Cert.FupIdeal.main_arg2) = m ((c.tc : Thread Cert.FupIdeal.nD Cert.FupIdeal.τ).loc Cert.FupIdeal.main_arg2)
          ∧ r.2.mem ((c.tc : Thread Cert.FupIdeal.nD Cert.FupIdeal.τ).loc Cert.FupIdeal.main_arg3) = m ((c.tc : Thread Cert.FupIdeal.nD Cert.FupIdeal.τ).loc Cert.FupIdeal.main_arg3)
          ∧ r.2.mem ((c.tc : Thread Cert.FupIdeal.nD Cert.FupIdeal.τ).loc Cert.FupIdeal.main_arg4) = m ((c.tc : Thread Cert.FupIdeal.nD Cert.FupIdeal.τ).loc Cert.FupIdeal.main_arg4))
      ∧ θ_run (Cert.FupRefIdeal.defs (F := Ideal)) (onTc (τ := Cert.FupRefIdeal.τ) (Cert.FupRefIdeal.main (F := Ideal))) ⟨m', fun _ => 0, g'⟩ (fun r => ∀ c : Dev Cert.FupRefIdeal.nD,
          r.2.mem ((c.tc : Thread Cert.FupRefIdeal.nD Cert.FupRefIdeal.τ).loc Cert.FupRefIdeal.main_v41) = v0 c
          ∧ r.2.mem ((c.tc : Thread Cert.FupRefIdeal.nD Cert.FupRefIdeal.τ).loc Cert.FupRefIdeal.main_v54) = v1 c
          ∧ r.2.mem ((c.tc : Thread Cert.FupRefIdeal.nD Cert.FupRefIdeal.τ).loc Cert.FupRefIdeal.main_v55) = v2 c
          ∧ r.2.mem ((c.tc : Thread Cert.FupRefIdeal.nD Cert.FupRefIdeal.τ).loc Cert.FupRefIdeal.main_v56) = v3 c
          ∧ r.2.mem ((c.tc : Thread Cert.FupRefIdeal.nD Cert.FupRefIdeal.τ).loc Cert.FupRefIdeal.main_arg0) = m' ((c.tc : Thread Cert.FupRefIdeal.nD Cert.FupRefIdeal.τ).loc Cert.FupRefIdeal.main_arg0)
          ∧ r.2.mem ((c.tc : Thread Cert.FupRefIdeal.nD Cert.FupRefIdeal.τ).loc Cert.FupRefIdeal.main_arg1) = m' ((c.tc : Thread Cert.FupRefIdeal.nD Cert.FupRefIdeal.τ).loc Cert.FupRefIdeal.main_arg1)
          ∧ r.2.mem ((c.tc : Thread Cert.FupRefIdeal.nD Cert.FupRefIdeal.τ).loc Cert.FupRefIdeal.main_arg2) = m' ((c.tc : Thread Cert.FupRefIdeal.nD Cert.FupRefIdeal.τ).loc Cert.FupRefIdeal.main_arg2)
          ∧ r.2.mem ((c.tc : Thread Cert.FupRefIdeal.nD Cert.FupRefIdeal.τ).loc Cert.FupRefIdeal.main_arg3) = m' ((c.tc : Thread Cert.FupRefIdeal.nD Cert.FupRefIdeal.τ).loc Cert.FupRefIdeal.main_arg3)
          ∧ r.2.mem ((c.tc : Thread Cert.FupRefIdeal.nD Cert.FupRefIdeal.τ).loc Cert.FupRefIdeal.main_arg4) = m' ((c.tc : Thread Cert.FupRefIdeal.nD Cert.FupRefIdeal.τ).loc Cert.FupRefIdeal.main_arg4))

def preserves_Offn_OffnIdeal : Prop :=
  True

def algebraic_OffnIdeal_OffnRefIdeal [hOffnIdeal : Cert.OffnIdeal.Facts] [hOffnRefIdeal : Cert.OffnRefIdeal.Facts] : Prop :=
  ∀ (m : (ℓ : Loc Cert.OffnIdeal.nD Cert.OffnIdeal.τ Cert.OffnIdeal.sig) → Buf (Elt Ideal) ℓ) (g : Dev Cert.OffnIdeal.nD → PrngReg)
    (m' : (ℓ : Loc Cert.OffnRefIdeal.nD Cert.OffnRefIdeal.τ Cert.OffnRefIdeal.sig) → Buf (Elt Ideal) ℓ) (g' : Dev Cert.OffnRefIdeal.nD → PrngReg), Pre_OffnIdeal m →
    (∀ c : Dev Cert.OffnIdeal.nD,
      m' ((c.tc : Thread Cert.OffnRefIdeal.nD Cert.OffnRefIdeal.τ).loc Cert.OffnRefIdeal.main_arg0) = m ((c.tc : Thread Cert.OffnIdeal.nD Cert.OffnIdeal.τ).loc Cert.OffnIdeal.main_arg0)
      ∧ m' ((c.tc : Thread Cert.OffnRefIdeal.nD Cert.OffnRefIdeal.τ).loc Cert.OffnRefIdeal.main_arg1) = m ((c.tc : Thread Cert.OffnIdeal.nD Cert.OffnIdeal.τ).loc Cert.OffnIdeal.main_arg1)
      ∧ m' ((c.tc : Thread Cert.OffnRefIdeal.nD Cert.OffnRefIdeal.τ).loc Cert.OffnRefIdeal.main_arg2) = m ((c.tc : Thread Cert.OffnIdeal.nD Cert.OffnIdeal.τ).loc Cert.OffnIdeal.main_arg2)
      ∧ m' ((c.tc : Thread Cert.OffnRefIdeal.nD Cert.OffnRefIdeal.τ).loc Cert.OffnRefIdeal.main_arg3) = m ((c.tc : Thread Cert.OffnIdeal.nD Cert.OffnIdeal.τ).loc Cert.OffnIdeal.main_arg3)
      ∧ m' ((c.tc : Thread Cert.OffnRefIdeal.nD Cert.OffnRefIdeal.τ).loc Cert.OffnRefIdeal.main_arg4) = m ((c.tc : Thread Cert.OffnIdeal.nD Cert.OffnIdeal.τ).loc Cert.OffnIdeal.main_arg4)
      ∧ m' ((c.tc : Thread Cert.OffnRefIdeal.nD Cert.OffnRefIdeal.τ).loc Cert.OffnRefIdeal.main_arg5) = m ((c.tc : Thread Cert.OffnIdeal.nD Cert.OffnIdeal.τ).loc Cert.OffnIdeal.main_arg5)
      ∧ m' ((c.tc : Thread Cert.OffnRefIdeal.nD Cert.OffnRefIdeal.τ).loc Cert.OffnRefIdeal.main_arg6) = m ((c.tc : Thread Cert.OffnIdeal.nD Cert.OffnIdeal.τ).loc Cert.OffnIdeal.main_arg6)
      ∧ m' ((c.tc : Thread Cert.OffnRefIdeal.nD Cert.OffnRefIdeal.τ).loc Cert.OffnRefIdeal.main_arg7) = m ((c.tc : Thread Cert.OffnIdeal.nD Cert.OffnIdeal.τ).loc Cert.OffnIdeal.main_arg7)) →
    ∃ (v0 : (c : Dev Cert.OffnIdeal.nD) → Buf (Elt Ideal) ((c.tc : Thread Cert.OffnIdeal.nD Cert.OffnIdeal.τ).loc Cert.OffnIdeal.main_v0_0)) (v1 : (c : Dev Cert.OffnIdeal.nD) → Buf (Elt Ideal) ((c.tc : Thread Cert.OffnIdeal.nD Cert.OffnIdeal.τ).loc Cert.OffnIdeal.main_v0_1)) (v2 : (c : Dev Cert.OffnIdeal.nD) → Buf (Elt Ideal) ((c.tc : Thread Cert.OffnIdeal.nD Cert.OffnIdeal.τ).loc Cert.OffnIdeal.main_v0_2)) (v3 : (c : Dev Cert.OffnIdeal.nD) → Buf (Elt Ideal) ((c.tc : Thread Cert.OffnIdeal.nD Cert.OffnIdeal.τ).loc Cert.OffnIdeal.main_v0_4)) (v4 : (c : Dev Cert.OffnIdeal.nD) → Buf (Elt Ideal) ((c.tc : Thread Cert.OffnIdeal.nD Cert.OffnIdeal.τ).loc Cert.OffnIdeal.main_v0_5)) (v5 : (c : Dev Cert.OffnIdeal.nD) → Buf (Elt Ideal) ((c.tc : Thread Cert.OffnIdeal.nD Cert.OffnIdeal.τ).loc Cert.OffnIdeal.main_v0_6)),
      θ_run (Cert.OffnIdeal.defs (F := Ideal)) (onTc (τ := Cert.OffnIdeal.τ) (Cert.OffnIdeal.main (F := Ideal))) ⟨m, fun _ => 0, g⟩ (fun r => ∀ c : Dev Cert.OffnIdeal.nD,
          r.2.mem ((c.tc : Thread Cert.OffnIdeal.nD Cert.OffnIdeal.τ).loc Cert.OffnIdeal.main_v0_0) = v0 c
          ∧ r.2.mem ((c.tc : Thread Cert.OffnIdeal.nD Cert.OffnIdeal.τ).loc Cert.OffnIdeal.main_v0_1) = v1 c
          ∧ r.2.mem ((c.tc : Thread Cert.OffnIdeal.nD Cert.OffnIdeal.τ).loc Cert.OffnIdeal.main_v0_2) = v2 c
          ∧ r.2.mem ((c.tc : Thread Cert.OffnIdeal.nD Cert.OffnIdeal.τ).loc Cert.OffnIdeal.main_v0_4) = v3 c
          ∧ r.2.mem ((c.tc : Thread Cert.OffnIdeal.nD Cert.OffnIdeal.τ).loc Cert.OffnIdeal.main_v0_5) = v4 c
          ∧ r.2.mem ((c.tc : Thread Cert.OffnIdeal.nD Cert.OffnIdeal.τ).loc Cert.OffnIdeal.main_v0_6) = v5 c
          ∧ r.2.mem ((c.tc : Thread Cert.OffnIdeal.nD Cert.OffnIdeal.τ).loc Cert.OffnIdeal.main_arg0) = m ((c.tc : Thread Cert.OffnIdeal.nD Cert.OffnIdeal.τ).loc Cert.OffnIdeal.main_arg0)
          ∧ r.2.mem ((c.tc : Thread Cert.OffnIdeal.nD Cert.OffnIdeal.τ).loc Cert.OffnIdeal.main_arg1) = m ((c.tc : Thread Cert.OffnIdeal.nD Cert.OffnIdeal.τ).loc Cert.OffnIdeal.main_arg1)
          ∧ r.2.mem ((c.tc : Thread Cert.OffnIdeal.nD Cert.OffnIdeal.τ).loc Cert.OffnIdeal.main_arg2) = m ((c.tc : Thread Cert.OffnIdeal.nD Cert.OffnIdeal.τ).loc Cert.OffnIdeal.main_arg2)
          ∧ r.2.mem ((c.tc : Thread Cert.OffnIdeal.nD Cert.OffnIdeal.τ).loc Cert.OffnIdeal.main_arg3) = m ((c.tc : Thread Cert.OffnIdeal.nD Cert.OffnIdeal.τ).loc Cert.OffnIdeal.main_arg3)
          ∧ r.2.mem ((c.tc : Thread Cert.OffnIdeal.nD Cert.OffnIdeal.τ).loc Cert.OffnIdeal.main_arg4) = m ((c.tc : Thread Cert.OffnIdeal.nD Cert.OffnIdeal.τ).loc Cert.OffnIdeal.main_arg4)
          ∧ r.2.mem ((c.tc : Thread Cert.OffnIdeal.nD Cert.OffnIdeal.τ).loc Cert.OffnIdeal.main_arg5) = m ((c.tc : Thread Cert.OffnIdeal.nD Cert.OffnIdeal.τ).loc Cert.OffnIdeal.main_arg5)
          ∧ r.2.mem ((c.tc : Thread Cert.OffnIdeal.nD Cert.OffnIdeal.τ).loc Cert.OffnIdeal.main_arg6) = m ((c.tc : Thread Cert.OffnIdeal.nD Cert.OffnIdeal.τ).loc Cert.OffnIdeal.main_arg6)
          ∧ r.2.mem ((c.tc : Thread Cert.OffnIdeal.nD Cert.OffnIdeal.τ).loc Cert.OffnIdeal.main_arg7) = m ((c.tc : Thread Cert.OffnIdeal.nD Cert.OffnIdeal.τ).loc Cert.OffnIdeal.main_arg7))
      ∧ θ_run (Cert.OffnRefIdeal.defs (F := Ideal)) (onTc (τ := Cert.OffnRefIdeal.τ) (Cert.OffnRefIdeal.main (F := Ideal))) ⟨m', fun _ => 0, g'⟩ (fun r => ∀ c : Dev Cert.OffnRefIdeal.nD,
          r.2.mem ((c.tc : Thread Cert.OffnRefIdeal.nD Cert.OffnRefIdeal.τ).loc Cert.OffnRefIdeal.main_v23) = v0 c
          ∧ r.2.mem ((c.tc : Thread Cert.OffnRefIdeal.nD Cert.OffnRefIdeal.τ).loc Cert.OffnRefIdeal.main_v4) = v1 c
          ∧ r.2.mem ((c.tc : Thread Cert.OffnRefIdeal.nD Cert.OffnRefIdeal.τ).loc Cert.OffnRefIdeal.main_v10) = v2 c
          ∧ r.2.mem ((c.tc : Thread Cert.OffnRefIdeal.nD Cert.OffnRefIdeal.τ).loc Cert.OffnRefIdeal.main_v47) = v3 c
          ∧ r.2.mem ((c.tc : Thread Cert.OffnRefIdeal.nD Cert.OffnRefIdeal.τ).loc Cert.OffnRefIdeal.main_v28) = v4 c
          ∧ r.2.mem ((c.tc : Thread Cert.OffnRefIdeal.nD Cert.OffnRefIdeal.τ).loc Cert.OffnRefIdeal.main_v34) = v5 c
          ∧ r.2.mem ((c.tc : Thread Cert.OffnRefIdeal.nD Cert.OffnRefIdeal.τ).loc Cert.OffnRefIdeal.main_arg0) = m' ((c.tc : Thread Cert.OffnRefIdeal.nD Cert.OffnRefIdeal.τ).loc Cert.OffnRefIdeal.main_arg0)
          ∧ r.2.mem ((c.tc : Thread Cert.OffnRefIdeal.nD Cert.OffnRefIdeal.τ).loc Cert.OffnRefIdeal.main_arg1) = m' ((c.tc : Thread Cert.OffnRefIdeal.nD Cert.OffnRefIdeal.τ).loc Cert.OffnRefIdeal.main_arg1)
          ∧ r.2.mem ((c.tc : Thread Cert.OffnRefIdeal.nD Cert.OffnRefIdeal.τ).loc Cert.OffnRefIdeal.main_arg2) = m' ((c.tc : Thread Cert.OffnRefIdeal.nD Cert.OffnRefIdeal.τ).loc Cert.OffnRefIdeal.main_arg2)
          ∧ r.2.mem ((c.tc : Thread Cert.OffnRefIdeal.nD Cert.OffnRefIdeal.τ).loc Cert.OffnRefIdeal.main_arg3) = m' ((c.tc : Thread Cert.OffnRefIdeal.nD Cert.OffnRefIdeal.τ).loc Cert.OffnRefIdeal.main_arg3)
          ∧ r.2.mem ((c.tc : Thread Cert.OffnRefIdeal.nD Cert.OffnRefIdeal.τ).loc Cert.OffnRefIdeal.main_arg4) = m' ((c.tc : Thread Cert.OffnRefIdeal.nD Cert.OffnRefIdeal.τ).loc Cert.OffnRefIdeal.main_arg4)
          ∧ r.2.mem ((c.tc : Thread Cert.OffnRefIdeal.nD Cert.OffnRefIdeal.τ).loc Cert.OffnRefIdeal.main_arg5) = m' ((c.tc : Thread Cert.OffnRefIdeal.nD Cert.OffnRefIdeal.τ).loc Cert.OffnRefIdeal.main_arg5)
          ∧ r.2.mem ((c.tc : Thread Cert.OffnRefIdeal.nD Cert.OffnRefIdeal.τ).loc Cert.OffnRefIdeal.main_arg6) = m' ((c.tc : Thread Cert.OffnRefIdeal.nD Cert.OffnRefIdeal.τ).loc Cert.OffnRefIdeal.main_arg6)
          ∧ r.2.mem ((c.tc : Thread Cert.OffnRefIdeal.nD Cert.OffnRefIdeal.τ).loc Cert.OffnRefIdeal.main_arg7) = m' ((c.tc : Thread Cert.OffnRefIdeal.nD Cert.OffnRefIdeal.τ).loc Cert.OffnRefIdeal.main_arg7))

def preserves_Oin_OinIdeal : Prop :=
  True

def algebraic_OinIdeal_OinRefIdeal [hOinIdeal : Cert.OinIdeal.Facts] [hOinRefIdeal : Cert.OinRefIdeal.Facts] : Prop :=
  ∀ (m : (ℓ : Loc Cert.OinIdeal.nD Cert.OinIdeal.τ Cert.OinIdeal.sig) → Buf (Elt Ideal) ℓ) (g : Dev Cert.OinIdeal.nD → PrngReg)
    (m' : (ℓ : Loc Cert.OinRefIdeal.nD Cert.OinRefIdeal.τ Cert.OinRefIdeal.sig) → Buf (Elt Ideal) ℓ) (g' : Dev Cert.OinRefIdeal.nD → PrngReg), Pre_OinIdeal m →
    (∀ c : Dev Cert.OinIdeal.nD,
      m' ((c.tc : Thread Cert.OinRefIdeal.nD Cert.OinRefIdeal.τ).loc Cert.OinRefIdeal.main_arg0) = m ((c.tc : Thread Cert.OinIdeal.nD Cert.OinIdeal.τ).loc Cert.OinIdeal.main_arg0)
      ∧ m' ((c.tc : Thread Cert.OinRefIdeal.nD Cert.OinRefIdeal.τ).loc Cert.OinRefIdeal.main_arg1) = m ((c.tc : Thread Cert.OinIdeal.nD Cert.OinIdeal.τ).loc Cert.OinIdeal.main_arg1)
      ∧ m' ((c.tc : Thread Cert.OinRefIdeal.nD Cert.OinRefIdeal.τ).loc Cert.OinRefIdeal.main_arg2) = m ((c.tc : Thread Cert.OinIdeal.nD Cert.OinIdeal.τ).loc Cert.OinIdeal.main_arg2)
      ∧ m' ((c.tc : Thread Cert.OinRefIdeal.nD Cert.OinRefIdeal.τ).loc Cert.OinRefIdeal.main_arg3) = m ((c.tc : Thread Cert.OinIdeal.nD Cert.OinIdeal.τ).loc Cert.OinIdeal.main_arg3)) →
    ∃ (v0 : (c : Dev Cert.OinIdeal.nD) → Buf (Elt Ideal) ((c.tc : Thread Cert.OinIdeal.nD Cert.OinIdeal.τ).loc Cert.OinIdeal.main_v4_0)) (v1 : (c : Dev Cert.OinIdeal.nD) → Buf (Elt Ideal) ((c.tc : Thread Cert.OinIdeal.nD Cert.OinIdeal.τ).loc Cert.OinIdeal.main_v4_1)) (v2 : (c : Dev Cert.OinIdeal.nD) → Buf (Elt Ideal) ((c.tc : Thread Cert.OinIdeal.nD Cert.OinIdeal.τ).loc Cert.OinIdeal.main_v4_2)),
      θ_run (Cert.OinIdeal.defs (F := Ideal)) (onTc (τ := Cert.OinIdeal.τ) (Cert.OinIdeal.main (F := Ideal))) ⟨m, fun _ => 0, g⟩ (fun r => ∀ c : Dev Cert.OinIdeal.nD,
          r.2.mem ((c.tc : Thread Cert.OinIdeal.nD Cert.OinIdeal.τ).loc Cert.OinIdeal.main_v4_0) = v0 c
          ∧ r.2.mem ((c.tc : Thread Cert.OinIdeal.nD Cert.OinIdeal.τ).loc Cert.OinIdeal.main_v4_1) = v1 c
          ∧ r.2.mem ((c.tc : Thread Cert.OinIdeal.nD Cert.OinIdeal.τ).loc Cert.OinIdeal.main_v4_2) = v2 c
          ∧ r.2.mem ((c.tc : Thread Cert.OinIdeal.nD Cert.OinIdeal.τ).loc Cert.OinIdeal.main_arg0) = m ((c.tc : Thread Cert.OinIdeal.nD Cert.OinIdeal.τ).loc Cert.OinIdeal.main_arg0)
          ∧ r.2.mem ((c.tc : Thread Cert.OinIdeal.nD Cert.OinIdeal.τ).loc Cert.OinIdeal.main_arg1) = m ((c.tc : Thread Cert.OinIdeal.nD Cert.OinIdeal.τ).loc Cert.OinIdeal.main_arg1)
          ∧ r.2.mem ((c.tc : Thread Cert.OinIdeal.nD Cert.OinIdeal.τ).loc Cert.OinIdeal.main_arg2) = m ((c.tc : Thread Cert.OinIdeal.nD Cert.OinIdeal.τ).loc Cert.OinIdeal.main_arg2)
          ∧ r.2.mem ((c.tc : Thread Cert.OinIdeal.nD Cert.OinIdeal.τ).loc Cert.OinIdeal.main_arg3) = m ((c.tc : Thread Cert.OinIdeal.nD Cert.OinIdeal.τ).loc Cert.OinIdeal.main_arg3))
      ∧ θ_run (Cert.OinRefIdeal.defs (F := Ideal)) (onTc (τ := Cert.OinRefIdeal.τ) (Cert.OinRefIdeal.main (F := Ideal))) ⟨m', fun _ => 0, g'⟩ (fun r => ∀ c : Dev Cert.OinRefIdeal.nD,
          r.2.mem ((c.tc : Thread Cert.OinRefIdeal.nD Cert.OinRefIdeal.τ).loc Cert.OinRefIdeal.main_v24) = v0 c
          ∧ r.2.mem ((c.tc : Thread Cert.OinRefIdeal.nD Cert.OinRefIdeal.τ).loc Cert.OinRefIdeal.main_v25) = v1 c
          ∧ r.2.mem ((c.tc : Thread Cert.OinRefIdeal.nD Cert.OinRefIdeal.τ).loc Cert.OinRefIdeal.main_v26) = v2 c
          ∧ r.2.mem ((c.tc : Thread Cert.OinRefIdeal.nD Cert.OinRefIdeal.τ).loc Cert.OinRefIdeal.main_arg0) = m' ((c.tc : Thread Cert.OinRefIdeal.nD Cert.OinRefIdeal.τ).loc Cert.OinRefIdeal.main_arg0)
          ∧ r.2.mem ((c.tc : Thread Cert.OinRefIdeal.nD Cert.OinRefIdeal.τ).loc Cert.OinRefIdeal.main_arg1) = m' ((c.tc : Thread Cert.OinRefIdeal.nD Cert.OinRefIdeal.τ).loc Cert.OinRefIdeal.main_arg1)
          ∧ r.2.mem ((c.tc : Thread Cert.OinRefIdeal.nD Cert.OinRefIdeal.τ).loc Cert.OinRefIdeal.main_arg2) = m' ((c.tc : Thread Cert.OinRefIdeal.nD Cert.OinRefIdeal.τ).loc Cert.OinRefIdeal.main_arg2)
          ∧ r.2.mem ((c.tc : Thread Cert.OinRefIdeal.nD Cert.OinRefIdeal.τ).loc Cert.OinRefIdeal.main_arg3) = m' ((c.tc : Thread Cert.OinRefIdeal.nD Cert.OinRefIdeal.τ).loc Cert.OinRefIdeal.main_arg3))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)
      ∧ m' ((c.tc : Thread Cert.OprojRefIdeal.nD Cert.OprojRefIdeal.τ).loc Cert.OprojRefIdeal.main_arg8) = m ((c.tc : Thread Cert.OprojIdeal.nD Cert.OprojIdeal.τ).loc Cert.OprojIdeal.main_arg8)
      ∧ m' ((c.tc : Thread Cert.OprojRefIdeal.nD Cert.OprojRefIdeal.τ).loc Cert.OprojRefIdeal.main_arg9) = m ((c.tc : Thread Cert.OprojIdeal.nD Cert.OprojIdeal.τ).loc Cert.OprojIdeal.main_arg9)
      ∧ m' ((c.tc : Thread Cert.OprojRefIdeal.nD Cert.OprojRefIdeal.τ).loc Cert.OprojRefIdeal.main_arg10) = m ((c.tc : Thread Cert.OprojIdeal.nD Cert.OprojIdeal.τ).loc Cert.OprojIdeal.main_arg10)
      ∧ m' ((c.tc : Thread Cert.OprojRefIdeal.nD Cert.OprojRefIdeal.τ).loc Cert.OprojRefIdeal.main_arg11) = m ((c.tc : Thread Cert.OprojIdeal.nD Cert.OprojIdeal.τ).loc Cert.OprojIdeal.main_arg11)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)) (v3 : (c : Dev Cert.OprojIdeal.nD) → Buf (Elt Ideal) ((c.tc : Thread Cert.OprojIdeal.nD Cert.OprojIdeal.τ).loc Cert.OprojIdeal.main_v0_4)) (v4 : (c : Dev Cert.OprojIdeal.nD) → Buf (Elt Ideal) ((c.tc : Thread Cert.OprojIdeal.nD Cert.OprojIdeal.τ).loc Cert.OprojIdeal.main_v0_5)) (v5 : (c : Dev Cert.OprojIdeal.nD) → Buf (Elt Ideal) ((c.tc : Thread Cert.OprojIdeal.nD Cert.OprojIdeal.τ).loc Cert.OprojIdeal.main_v0_6)) (v6 : (c : Dev Cert.OprojIdeal.nD) → Buf (Elt Ideal) ((c.tc : Thread Cert.OprojIdeal.nD Cert.OprojIdeal.τ).loc Cert.OprojIdeal.main_v0_8)) (v7 : (c : Dev Cert.OprojIdeal.nD) → Buf (Elt Ideal) ((c.tc : Thread Cert.OprojIdeal.nD Cert.OprojIdeal.τ).loc Cert.OprojIdeal.main_v0_9)) (v8 : (c : Dev Cert.OprojIdeal.nD) → Buf (Elt Ideal) ((c.tc : Thread Cert.OprojIdeal.nD Cert.OprojIdeal.τ).loc Cert.OprojIdeal.main_v0_10)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_v0_4) = v3 c
          ∧ r.2.mem ((c.tc : Thread Cert.OprojIdeal.nD Cert.OprojIdeal.τ).loc Cert.OprojIdeal.main_v0_5) = v4 c
          ∧ r.2.mem ((c.tc : Thread Cert.OprojIdeal.nD Cert.OprojIdeal.τ).loc Cert.OprojIdeal.main_v0_6) = v5 c
          ∧ r.2.mem ((c.tc : Thread Cert.OprojIdeal.nD Cert.OprojIdeal.τ).loc Cert.OprojIdeal.main_v0_8) = v6 c
          ∧ r.2.mem ((c.tc : Thread Cert.OprojIdeal.nD Cert.OprojIdeal.τ).loc Cert.OprojIdeal.main_v0_9) = v7 c
          ∧ r.2.mem ((c.tc : Thread Cert.OprojIdeal.nD Cert.OprojIdeal.τ).loc Cert.OprojIdeal.main_v0_10) = v8 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
          ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8)
          ∧ r.2.mem ((c.tc : Thread Cert.OprojIdeal.nD Cert.OprojIdeal.τ).loc Cert.OprojIdeal.main_arg9) = m ((c.tc : Thread Cert.OprojIdeal.nD Cert.OprojIdeal.τ).loc Cert.OprojIdeal.main_arg9)
          ∧ r.2.mem ((c.tc : Thread Cert.OprojIdeal.nD Cert.OprojIdeal.τ).loc Cert.OprojIdeal.main_arg10) = m ((c.tc : Thread Cert.OprojIdeal.nD Cert.OprojIdeal.τ).loc Cert.OprojIdeal.main_arg10)
          ∧ r.2.mem ((c.tc : Thread Cert.OprojIdeal.nD Cert.OprojIdeal.τ).loc Cert.OprojIdeal.main_arg11) = m ((c.tc : Thread Cert.OprojIdeal.nD Cert.OprojIdeal.τ).loc Cert.OprojIdeal.main_arg11))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v23) = v0 c
          ∧ r.2.mem ((c.tc : Thread Cert.OprojRefIdeal.nD Cert.OprojRefIdeal.τ).loc Cert.OprojRefIdeal.main_v4) = v1 c
          ∧ r.2.mem ((c.tc : Thread Cert.OprojRefIdeal.nD Cert.OprojRefIdeal.τ).loc Cert.OprojRefIdeal.main_v10) = v2 c
          ∧ r.2.mem ((c.tc : Thread Cert.OprojRefIdeal.nD Cert.OprojRefIdeal.τ).loc Cert.OprojRefIdeal.main_v47) = v3 c
          ∧ r.2.mem ((c.tc : Thread Cert.OprojRefIdeal.nD Cert.OprojRefIdeal.τ).loc Cert.OprojRefIdeal.main_v28) = v4 c
          ∧ r.2.mem ((c.tc : Thread Cert.OprojRefIdeal.nD Cert.OprojRefIdeal.τ).loc Cert.OprojRefIdeal.main_v34) = v5 c
          ∧ r.2.mem ((c.tc : Thread Cert.OprojRefIdeal.nD Cert.OprojRefIdeal.τ).loc Cert.OprojRefIdeal.main_v71) = v6 c
          ∧ r.2.mem ((c.tc : Thread Cert.OprojRefIdeal.nD Cert.OprojRefIdeal.τ).loc Cert.OprojRefIdeal.main_v52) = v7 c
          ∧ r.2.mem ((c.tc : Thread Cert.OprojRefIdeal.nD Cert.OprojRefIdeal.τ).loc Cert.OprojRefIdeal.main_v58) = v8 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7)
          ∧ r.2.mem ((c.tc : Thread Cert.OprojRefIdeal.nD Cert.OprojRefIdeal.τ).loc Cert.OprojRefIdeal.main_arg8) = m' ((c.tc : Thread Cert.OprojRefIdeal.nD Cert.OprojRefIdeal.τ).loc Cert.OprojRefIdeal.main_arg8)
          ∧ r.2.mem ((c.tc : Thread Cert.OprojRefIdeal.nD Cert.OprojRefIdeal.τ).loc Cert.OprojRefIdeal.main_arg9) = m' ((c.tc : Thread Cert.OprojRefIdeal.nD Cert.OprojRefIdeal.τ).loc Cert.OprojRefIdeal.main_arg9)
          ∧ r.2.mem ((c.tc : Thread Cert.OprojRefIdeal.nD Cert.OprojRefIdeal.τ).loc Cert.OprojRefIdeal.main_arg10) = m' ((c.tc : Thread Cert.OprojRefIdeal.nD Cert.OprojRefIdeal.τ).loc Cert.OprojRefIdeal.main_arg10)
          ∧ r.2.mem ((c.tc : Thread Cert.OprojRefIdeal.nD Cert.OprojRefIdeal.τ).loc Cert.OprojRefIdeal.main_arg11) = m' ((c.tc : Thread Cert.OprojRefIdeal.nD Cert.OprojRefIdeal.τ).loc Cert.OprojRefIdeal.main_arg11))

def preserves_Oconv_OconvIdeal : Prop :=
  True

def algebraic_OconvIdeal_OconvRefIdeal [hOconvIdeal : Cert.OconvIdeal.Facts] [hOconvRefIdeal : Cert.OconvRefIdeal.Facts] : Prop :=
  ∀ (m : (ℓ : Loc Cert.OconvIdeal.nD Cert.OconvIdeal.τ Cert.OconvIdeal.sig) → Buf (Elt Ideal) ℓ) (g : Dev Cert.OconvIdeal.nD → PrngReg)
    (m' : (ℓ : Loc Cert.OconvRefIdeal.nD Cert.OconvRefIdeal.τ Cert.OconvRefIdeal.sig) → Buf (Elt Ideal) ℓ) (g' : Dev Cert.OconvRefIdeal.nD → PrngReg), Pre_OconvIdeal m →
    (∀ c : Dev Cert.OconvIdeal.nD,
      m' ((c.tc : Thread Cert.OconvRefIdeal.nD Cert.OconvRefIdeal.τ).loc Cert.OconvRefIdeal.main_arg0) = m ((c.tc : Thread Cert.OconvIdeal.nD Cert.OconvIdeal.τ).loc Cert.OconvIdeal.main_arg0)
      ∧ m' ((c.tc : Thread Cert.OconvRefIdeal.nD Cert.OconvRefIdeal.τ).loc Cert.OconvRefIdeal.main_arg1) = m ((c.tc : Thread Cert.OconvIdeal.nD Cert.OconvIdeal.τ).loc Cert.OconvIdeal.main_arg1)
      ∧ m' ((c.tc : Thread Cert.OconvRefIdeal.nD Cert.OconvRefIdeal.τ).loc Cert.OconvRefIdeal.main_arg2) = m ((c.tc : Thread Cert.OconvIdeal.nD Cert.OconvIdeal.τ).loc Cert.OconvIdeal.main_arg2)
      ∧ m' ((c.tc : Thread Cert.OconvRefIdeal.nD Cert.OconvRefIdeal.τ).loc Cert.OconvRefIdeal.main_arg3) = m ((c.tc : Thread Cert.OconvIdeal.nD Cert.OconvIdeal.τ).loc Cert.OconvIdeal.main_arg3)) →
    ∃ (v0 : (c : Dev Cert.OconvIdeal.nD) → Buf (Elt Ideal) ((c.tc : Thread Cert.OconvIdeal.nD Cert.OconvIdeal.τ).loc Cert.OconvIdeal.main_v4_0)) (v1 : (c : Dev Cert.OconvIdeal.nD) → Buf (Elt Ideal) ((c.tc : Thread Cert.OconvIdeal.nD Cert.OconvIdeal.τ).loc Cert.OconvIdeal.main_v4_1)) (v2 : (c : Dev Cert.OconvIdeal.nD) → Buf (Elt Ideal) ((c.tc : Thread Cert.OconvIdeal.nD Cert.OconvIdeal.τ).loc Cert.OconvIdeal.main_v4_2)),
      θ_run (Cert.OconvIdeal.defs (F := Ideal)) (onTc (τ := Cert.OconvIdeal.τ) (Cert.OconvIdeal.main (F := Ideal))) ⟨m, fun _ => 0, g⟩ (fun r => ∀ c : Dev Cert.OconvIdeal.nD,
          r.2.mem ((c.tc : Thread Cert.OconvIdeal.nD Cert.OconvIdeal.τ).loc Cert.OconvIdeal.main_v4_0) = v0 c
          ∧ r.2.mem ((c.tc : Thread Cert.OconvIdeal.nD Cert.OconvIdeal.τ).loc Cert.OconvIdeal.main_v4_1) = v1 c
          ∧ r.2.mem ((c.tc : Thread Cert.OconvIdeal.nD Cert.OconvIdeal.τ).loc Cert.OconvIdeal.main_v4_2) = v2 c
          ∧ r.2.mem ((c.tc : Thread Cert.OconvIdeal.nD Cert.OconvIdeal.τ).loc Cert.OconvIdeal.main_arg0) = m ((c.tc : Thread Cert.OconvIdeal.nD Cert.OconvIdeal.τ).loc Cert.OconvIdeal.main_arg0)
          ∧ r.2.mem ((c.tc : Thread Cert.OconvIdeal.nD Cert.OconvIdeal.τ).loc Cert.OconvIdeal.main_arg1) = m ((c.tc : Thread Cert.OconvIdeal.nD Cert.OconvIdeal.τ).loc Cert.OconvIdeal.main_arg1)
          ∧ r.2.mem ((c.tc : Thread Cert.OconvIdeal.nD Cert.OconvIdeal.τ).loc Cert.OconvIdeal.main_arg2) = m ((c.tc : Thread Cert.OconvIdeal.nD Cert.OconvIdeal.τ).loc Cert.OconvIdeal.main_arg2)
          ∧ r.2.mem ((c.tc : Thread Cert.OconvIdeal.nD Cert.OconvIdeal.τ).loc Cert.OconvIdeal.main_arg3) = m ((c.tc : Thread Cert.OconvIdeal.nD Cert.OconvIdeal.τ).loc Cert.OconvIdeal.main_arg3))
      ∧ θ_run (Cert.OconvRefIdeal.defs (F := Ideal)) (onTc (τ := Cert.OconvRefIdeal.τ) (Cert.OconvRefIdeal.main (F := Ideal))) ⟨m', fun _ => 0, g'⟩ (fun r => ∀ c : Dev Cert.OconvRefIdeal.nD,
          r.2.mem ((c.tc : Thread Cert.OconvRefIdeal.nD Cert.OconvRefIdeal.τ).loc Cert.OconvRefIdeal.main_v27) = v0 c
          ∧ r.2.mem ((c.tc : Thread Cert.OconvRefIdeal.nD Cert.OconvRefIdeal.τ).loc Cert.OconvRefIdeal.main_v28) = v1 c
          ∧ r.2.mem ((c.tc : Thread Cert.OconvRefIdeal.nD Cert.OconvRefIdeal.τ).loc Cert.OconvRefIdeal.main_v29) = v2 c
          ∧ r.2.mem ((c.tc : Thread Cert.OconvRefIdeal.nD Cert.OconvRefIdeal.τ).loc Cert.OconvRefIdeal.main_arg0) = m' ((c.tc : Thread Cert.OconvRefIdeal.nD Cert.OconvRefIdeal.τ).loc Cert.OconvRefIdeal.main_arg0)
          ∧ r.2.mem ((c.tc : Thread Cert.OconvRefIdeal.nD Cert.OconvRefIdeal.τ).loc Cert.OconvRefIdeal.main_arg1) = m' ((c.tc : Thread Cert.OconvRefIdeal.nD Cert.OconvRefIdeal.τ).loc Cert.OconvRefIdeal.main_arg1)
          ∧ r.2.mem ((c.tc : Thread Cert.OconvRefIdeal.nD Cert.OconvRefIdeal.τ).loc Cert.OconvRefIdeal.main_arg2) = m' ((c.tc : Thread Cert.OconvRefIdeal.nD Cert.OconvRefIdeal.τ).loc Cert.OconvRefIdeal.main_arg2)
          ∧ r.2.mem ((c.tc : Thread Cert.OconvRefIdeal.nD Cert.OconvRefIdeal.τ).loc Cert.OconvRefIdeal.main_arg3) = m' ((c.tc : Thread Cert.OconvRefIdeal.nD Cert.OconvRefIdeal.τ).loc Cert.OconvRefIdeal.main_arg3))

def Claim : Prop :=
  ∃ (hAct : Cert.Act.Facts) (hActIdeal : Cert.ActIdeal.Facts) (hActRefIdeal : Cert.ActRefIdeal.Facts) (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hGup : Cert.Gup.Facts) (hGupIdeal : Cert.GupIdeal.Facts) (hGupRefIdeal : Cert.GupRefIdeal.Facts) (hIn : Cert.In.Facts) (hInIdeal : Cert.InIdeal.Facts) (hInRefIdeal : Cert.InRefIdeal.Facts) (hGin : Cert.Gin.Facts) (hGinIdeal : Cert.GinIdeal.Facts) (hGinRefIdeal : Cert.GinRefIdeal.Facts) (hFmerge : Cert.Fmerge.Facts) (hFmergeIdeal : Cert.FmergeIdeal.Facts) (hFmergeRefIdeal : Cert.FmergeRefIdeal.Facts) (hFin : Cert.Fin.Facts) (hFinIdeal : Cert.FinIdeal.Facts) (hFinRefIdeal : Cert.FinRefIdeal.Facts) (hDown : Cert.Down.Facts) (hDownIdeal : Cert.DownIdeal.Facts) (hDownRefIdeal : Cert.DownRefIdeal.Facts) (hFup : Cert.Fup.Facts) (hFupIdeal : Cert.FupIdeal.Facts) (hFupRefIdeal : Cert.FupRefIdeal.Facts) (hOffn : Cert.Offn.Facts) (hOffnIdeal : Cert.OffnIdeal.Facts) (hOffnRefIdeal : Cert.OffnRefIdeal.Facts) (hOin : Cert.Oin.Facts) (hOinIdeal : Cert.OinIdeal.Facts) (hOinRefIdeal : Cert.OinRefIdeal.Facts) (hOproj : Cert.Oproj.Facts) (hOprojIdeal : Cert.OprojIdeal.Facts) (hOprojRefIdeal : Cert.OprojRefIdeal.Facts) (hOconv : Cert.Oconv.Facts) (hOconvIdeal : Cert.OconvIdeal.Facts) (hOconvRefIdeal : Cert.OconvRefIdeal.Facts) (hPre_finite : Cert.Pre_finite.Facts) (hPre_finite_merge : Cert.Pre_finite_merge.Facts) (hPre_finite_up : Cert.Pre_finite_up.Facts) (hPre_finite_in : Cert.Pre_finite_in.Facts) (hPre_finite_down : Cert.Pre_finite_down.Facts),
    quiescent_Act (hAct := hAct)
    ∧ quiescent_ActIdeal (hActIdeal := hActIdeal)
    ∧ quiescent_ActIdeal_pre_finite (hActIdeal := hActIdeal) (hPre_finite := hPre_finite)
    ∧ quiescent_ActRefIdeal (hActRefIdeal := hActRefIdeal)
    ∧ quiescent_ActRefIdeal_pre_finite (hActRefIdeal := hActRefIdeal) (hPre_finite := hPre_finite)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Gup (hGup := hGup)
    ∧ quiescent_GupIdeal (hGupIdeal := hGupIdeal)
    ∧ quiescent_GupRefIdeal (hGupRefIdeal := hGupRefIdeal)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_Gin (hGin := hGin)
    ∧ quiescent_GinIdeal (hGinIdeal := hGinIdeal)
    ∧ quiescent_GinRefIdeal (hGinRefIdeal := hGinRefIdeal)
    ∧ quiescent_Fmerge (hFmerge := hFmerge)
    ∧ quiescent_FmergeIdeal (hFmergeIdeal := hFmergeIdeal)
    ∧ quiescent_FmergeRefIdeal (hFmergeRefIdeal := hFmergeRefIdeal)
    ∧ quiescent_Fin (hFin := hFin)
    ∧ quiescent_FinIdeal (hFinIdeal := hFinIdeal)
    ∧ quiescent_FinRefIdeal (hFinRefIdeal := hFinRefIdeal)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Fup (hFup := hFup)
    ∧ quiescent_FupIdeal (hFupIdeal := hFupIdeal)
    ∧ quiescent_FupRefIdeal (hFupRefIdeal := hFupRefIdeal)
    ∧ quiescent_Offn (hOffn := hOffn)
    ∧ quiescent_OffnIdeal (hOffnIdeal := hOffnIdeal)
    ∧ quiescent_OffnRefIdeal (hOffnRefIdeal := hOffnRefIdeal)
    ∧ quiescent_Oin (hOin := hOin)
    ∧ quiescent_OinIdeal (hOinIdeal := hOinIdeal)
    ∧ quiescent_OinRefIdeal (hOinRefIdeal := hOinRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Oconv (hOconv := hOconv)
    ∧ quiescent_OconvIdeal (hOconvIdeal := hOconvIdeal)
    ∧ quiescent_OconvRefIdeal (hOconvRefIdeal := hOconvRefIdeal)
    ∧ preserves_Act_ActIdeal
    ∧ algebraic_ActIdeal_ActRefIdeal_pre_finite (hActIdeal := hActIdeal) (hActRefIdeal := hActRefIdeal) (hPre_finite := hPre_finite)
    ∧ preserves_Merge_MergeIdeal
    ∧ algebraic_MergeIdeal_MergeRefIdeal_pre_finite_merge (hMergeIdeal := hMergeIdeal) (hMergeRefIdeal := hMergeRefIdeal) (hPre_finite_merge := hPre_finite_merge)
    ∧ preserves_Up_UpIdeal
    ∧ algebraic_UpIdeal_UpRefIdeal_pre_finite_up (hUpIdeal := hUpIdeal) (hUpRefIdeal := hUpRefIdeal) (hPre_finite_up := hPre_finite_up)
    ∧ preserves_Gup_GupIdeal
    ∧ algebraic_GupIdeal_GupRefIdeal (hGupIdeal := hGupIdeal) (hGupRefIdeal := hGupRefIdeal)
    ∧ preserves_In_InIdeal
    ∧ algebraic_InIdeal_InRefIdeal_pre_finite_in (hInIdeal := hInIdeal) (hInRefIdeal := hInRefIdeal) (hPre_finite_in := hPre_finite_in)
    ∧ preserves_Gin_GinIdeal
    ∧ algebraic_GinIdeal_GinRefIdeal (hGinIdeal := hGinIdeal) (hGinRefIdeal := hGinRefIdeal)
    ∧ preserves_Fmerge_FmergeIdeal
    ∧ algebraic_FmergeIdeal_FmergeRefIdeal (hFmergeIdeal := hFmergeIdeal) (hFmergeRefIdeal := hFmergeRefIdeal)
    ∧ preserves_Fin_FinIdeal
    ∧ algebraic_FinIdeal_FinRefIdeal (hFinIdeal := hFinIdeal) (hFinRefIdeal := hFinRefIdeal)
    ∧ preserves_Down_DownIdeal
    ∧ algebraic_DownIdeal_DownRefIdeal_pre_finite_down (hDownIdeal := hDownIdeal) (hDownRefIdeal := hDownRefIdeal) (hPre_finite_down := hPre_finite_down)
    ∧ preserves_Fup_FupIdeal
    ∧ algebraic_FupIdeal_FupRefIdeal (hFupIdeal := hFupIdeal) (hFupRefIdeal := hFupRefIdeal)
    ∧ preserves_Offn_OffnIdeal
    ∧ algebraic_OffnIdeal_OffnRefIdeal (hOffnIdeal := hOffnIdeal) (hOffnRefIdeal := hOffnRefIdeal)
    ∧ preserves_Oin_OinIdeal
    ∧ algebraic_OinIdeal_OinRefIdeal (hOinIdeal := hOinIdeal) (hOinRefIdeal := hOinRefIdeal)
    ∧ preserves_Oproj_OprojIdeal
    ∧ algebraic_OprojIdeal_OprojRefIdeal (hOprojIdeal := hOprojIdeal) (hOprojRefIdeal := hOprojRefIdeal)
    ∧ preserves_Oconv_OconvIdeal
    ∧ algebraic_OconvIdeal_OconvRefIdeal (hOconvIdeal := hOconvIdeal) (hOconvRefIdeal := hOconvRefIdeal)
-- ==== Pre_finite.lean ====
abbrev S4096x5632 : Shape := ⟨2, ![4096, 5632]⟩
abbrev S1x5632 : Shape := ⟨2, ![1, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S1x5632 : S_.BroadcastsInDim S1x5632 (![] : Fin 0 → Fin S1x5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S1x5632 .f32) (main_arg2 : FVec F S2816x1024 .f32) (main_arg3 : FVec F S4096x1024 .f32) : IVec S4096x5632 1 × IVec S1x5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1x5632 .f32 := Host.absf main_arg1
  let main_cst_0 : FVec F S_ .f32 := constant S_ .f32 0x7F800000#32
  let main_v4 : FVec F S1x5632 .f32 := broadcastInDim S1x5632 ![] bcast_S_S1x5632 main_cst_0
  let main_v5 : IVec S1x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_down.lean ====
abbrev S4096x5632 : Shape := ⟨2, ![4096, 5632]⟩
abbrev S4096x1024 : Shape := ⟨2, ![4096, 1024]⟩
abbrev S2816x1024 : Shape := ⟨2, ![2816, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S4096x1024 .f32) (main_arg2 : FVec F S4096x1024 .f32) (main_arg3 : FVec F S2816x1024 .f32) (main_arg4 : FVec F S1x1024 .f32) : IVec S4096x5632 1 × IVec S4096x1024 1 × IVec S4096x1024 1 × IVec S2816x1024 1 × IVec S1x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_in.lean ====
abbrev S4096x1024 : Shape := ⟨2, ![4096, 1024]⟩
abbrev S1x1024 : Shape := ⟨2, ![1, 1024]⟩
abbrev S1024x3840 : Shape := ⟨2, ![1024, 3840]⟩
abbrev S4096x3840 : Shape := ⟨2, ![4096, 3840]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3840 : S_.BroadcastsInDim S1024x3840 (![] : Fin 0 → Fin S1024x3840.rank)
  bcast_S_S4096x3840 : S_.BroadcastsInDim S4096x3840 (![] : Fin 0 → Fin S4096x3840.rank)

variable [Facts]

def fn {F : FTy → Type} [FloatOps F] (main_arg0 : FVec F S4096x1024 .f32) (main_arg1 : FVec F S1x1024 .f32) (main_arg2 : FVec F S1024x3840 .f32) (main_arg3 : FVec F S4096x1024 .f32) (main_arg4 : FVec F S4096x3840 .f32) : IVec S4096x1024 1 × IVec S1x1024 1 × IVec S1024x3840 1 × IVec S4096x1024 1 × IVec S4096x3840 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3840 .f32 := Host.absf main_arg2
  let main_cst_1 : FVec F S_ .f32 := constant S_ .f32 0x7F800000#32
  let main_v7 : FVec F S1024x3840 .f32 := broadcastInDim S1024x3840 ![] bcast_S_S1024x3840 main_cst_1
  let main_v8 : IVec S1024x3840 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x3840 .f32 := Host.absf main_arg4
  let main_cst_3 : FVec F S_ .f32 := constant S_ .f32 0x7F800000#32
  let main_v13 : FVec F S4096x3840 .f32 := broadcastInDim S4096x3840 ![] bcast_S_S4096x3840 main_cst_3
  let main_v14 : IVec S4096x3840 1 := cmpf .olt main_v12 main_v13
  (main_v2, main_v5, main_v8, main_v11, main_v14)
-- ==== Pre_finite_merge.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x2048 : S_.BroadcastsInDim S4096x2048 (![] : Fin 0 → Fin S4096x2048.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_arg6 : FVec F S1x512 .f32) (main_arg7 : FVec F S4x128x128 .f32) (main_arg8 : FVec F S4x128 .f32) (main_arg9 : FVec F S4096x1024 .f32) (main_v2 : IVec S4096x1024 1) (main_v5 : IVec S4096x512 1) (main_v8 : IVec S4096x2048 1) (main_v11 : IVec S512x1024 1) (main_v14 : IVec S512x1024 1) (main_v17 : IVec S1024x1024 1) : IVec S4096x1024 1 × IVec S4096x512 1 × IVec S4096x2048 1 × IVec S512x1024 1 × IVec S512x1024 1 × IVec S1024x1024 1 × IVec S1x512 1 × IVec S4x128x128 1 × IVec S4x128 1 × IVec S4096x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S4x128x128 .f32 := Host.absf main_arg7
  let main_cst_6 : FVec F S_ .f32 := constant S_ .f32 0x7F800000#32
  let main_v22 : FVec F S4x128x128 .f32 := broadcastInDim S4x128x128 ![] bcast_S_S4x128x128 main_cst_6
  let main_v23 : IVec S4x128x128 1 := cmpf .olt main_v21 main_v22
  let main_v24 : FVec F S4x128 .f32 := Host.absf main_arg8
  let main_cst_7 : FVec F S_ .f32 := constant S_ .f32 0x7F800000#32
  let main_v25 : FVec F S4x128 .f32 := broadcastInDim S4x128 ![] bcast_S_S4x128 main_cst_7
  let main_v26 : IVec S4x128 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x512 .f32) (main_arg2 : FVec F S4096x2048 .f32) (main_arg3 : FVec F S512x1024 .f32) (main_arg4 : FVec F S512x1024 .f32) (main_arg5 : FVec F S1024x1024 .f32) (main_arg6 : FVec F S1x512 .f32) (main_arg7 : FVec F S4x128x128 .f32) (main_arg8 : FVec F S4x128 .f32) (main_arg9 : FVec F S4096x1024 .f32) : IVec S4096x1024 1 × IVec S4096x512 1 × IVec S4096x2048 1 × IVec S512x1024 1 × IVec S512x1024 1 × IVec S1024x1024 1 × IVec S1x512 1 × IVec S4x128x128 1 × IVec S4x128 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_v12 : FVec F S512x1024 .f32 := Host.absf main_arg4
  let main_cst_3 : FVec F S_ .f32 := constant S_ .f32 0x7F800000#32
  let main_v13 : FVec F S512x1024 .f32 := broadcastInDim S512x1024 ![] bcast_S_S512x1024 main_cst_3
  let main_v14 : IVec S512x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_arg9 main_v2 main_v5 main_v8 main_v11 main_v14 main_v17
-- ==== Pre_finite_up.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1x1024 .f32) (main_arg2 : FVec F S1024x5632 .f32) (main_arg3 : FVec F S3x5632 .f32) (main_arg4 : FVec F S4096x1024 .f32) (main_arg5 : FVec F S4096x5632 .f32) : IVec S4096x1024 1 × IVec S1x1024 1 × IVec S1024x5632 1 × IVec S3x5632 1 × IVec S4096x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x5632 .f32 := Host.absf main_arg5
  let main_cst_4 : FVec F S_ .f32 := constant S_ .f32 0x7F800000#32
  let main_v16 : FVec F S4096x5632 .f32 := broadcastInDim S4096x5632 ![] bcast_S_S4096x5632 main_cst_4
  let main_v17 : IVec S4096x5632 1 := cmpf .olt main_v15 main_v16
  (main_v2, main_v5, main_v8, main_v11, main_v14, main_v17)
-- ==== Act.lean ====
abbrev S4096x5632 : Shape := ⟨2, ![4096, 5632]⟩
abbrev S1x5632 : Shape := ⟨2, ![1, 5632]⟩
abbrev S2816x1024 : Shape := ⟨2, ![2816, 1024]⟩
abbrev S4096x1024 : Shape := ⟨2, ![4096, 1024]⟩
abbrev S4096x2816 : Shape := ⟨2, ![4096, 2816]⟩
abbrev S1x2816 : Shape := ⟨2, ![1, 2816]⟩
abbrev S512x1408 : Shape := ⟨2, ![512, 1408]⟩
abbrev S512x1024 : Shape := ⟨2, ![512, 1024]⟩
abbrev S1408x1024 : Shape := ⟨2, ![1408, 1024]⟩
abbrev S1x1408 : Shape := ⟨2, ![1, 1408]⟩
abbrev S1408 : Shape := ⟨1, ![1408]⟩

abbrev nBuf : Space → Nat
  | .hbm => 16
  | .vmem => 19
  | .smem => 0
  | _ => 0

abbrev bufTy : (tb : Table) → Fin (tcTables nBuf tb) → BufTy
  | .hbm, ⟨0, _⟩ => ⟨S4096x5632, .f32⟩
  | .hbm, ⟨1, _⟩ => ⟨S1x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S2816x1024, .bf16⟩
  | .hbm, ⟨11, _⟩ => ⟨S4096x2816, .bf16⟩
  | .hbm, ⟨12, _⟩ => ⟨S4096x2816, .bf16⟩
  | .hbm, ⟨13, _⟩ => ⟨S2816x1024, .bf16⟩
  | .hbm, ⟨14, _⟩ => ⟨S1x2816, .f32⟩
  | .hbm, ⟨15, _⟩ => ⟨S1x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .f32⟩
  | .local _ .vmem, ⟨5, _⟩ => ⟨S512x1024, .f32⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1x1408, .f32⟩
  | .local _ .vmem, ⟨18, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v61 : BitVec 1 := Scalar.cmpi .eq arg1 c7_i32
  let v62 : BitVec 32 := Scalar.extui v61
  let c0_i32_32 : BitVec 32 := 0#32
  let v63 : BitVec 1 := Scalar.cmpi .ne v62 c0_i32_32
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ActRefIdeal.lean ====
abbrev S4096x5632 : Shape := ⟨2, ![4096, 5632]⟩
abbrev S1x5632 : Shape := ⟨2, ![1, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S5632 : Shape := ⟨1, ![5632]⟩
abbrev S1x2816 : Shape := ⟨2, ![1, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S1024x2816, .f32⟩
  | .hbm, ⟨24, _⟩ => ⟨S2816x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S_, .f32⟩
  | .hbm, ⟨34, _⟩ => ⟨S5632, .f32⟩
  | .hbm, ⟨35, _⟩ => ⟨S1x5632, .f32⟩
  | .hbm, ⟨36, _⟩ => ⟨S4096x2816, .f32⟩
  | .hbm, ⟨37, _⟩ => ⟨S4096x2816, .bf16⟩
  | .hbm, ⟨38, _⟩ => ⟨S4096x2816, .f32⟩
  | .hbm, ⟨39, _⟩ => ⟨S4096x2816, .bf16⟩
  | .hbm, ⟨40, _⟩ => ⟨S2816x1024, .bf16⟩
  | .hbm, ⟨41, _⟩ => ⟨S1x2816, .f32⟩
  | .hbm, ⟨42, _⟩ => ⟨S1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Merge.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S4096 : Shape := ⟨1, ![4096]⟩
abbrev S4096x1 : Shape := ⟨2, ![4096, 1]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S128x1 : Shape := ⟨2, ![128, 1]⟩
abbrev S128 : Shape := ⟨1, ![128]⟩
abbrev S512x128 : Shape := ⟨2, ![512, 128]⟩

abbrev nBuf : Space → Nat
  | .hbm => 133
  | .vmem => 33
  | .smem => 0
  | _ => 0

abbrev hbmTy0_0 (i : Nat) : BufTy := match i % 128 with
  | 0 => ⟨S4096x1024, .f32⟩
  | 1 => ⟨S4096x512, .f32⟩
  | 2 => ⟨S4096x2048, .f32⟩
  | 3 => ⟨S512x1024, .f32⟩
  | 4 => ⟨S512x1024, .f32⟩
  | 5 => ⟨S1024x1024, .f32⟩
  | 6 => ⟨S1x512, .f32⟩
  | 7 => ⟨S4x128x128, .f32⟩
  | 8 => ⟨S4x128, .f32⟩
  | 9 => ⟨S4096x1024, .f32⟩
  | 10 => ⟨S4096x512, .f32⟩
  | 11 => ⟨S4096x512, .f32⟩
  | 12 => ⟨S_, .f32⟩
  | 13 => ⟨S_, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S_, .f32⟩
  | 33 => ⟨S_, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1, .f32⟩
  | 61 => ⟨S4096x512, .f32⟩
  | 62 => ⟨S4096x512, .f32⟩
  | 63 => ⟨S4096x512, .f32⟩
  | 64 => ⟨S4096x512, .f32⟩
  | 65 => ⟨S32x128x4x128, .f32⟩
  | 66 => ⟨S_, .f32⟩
  | 67 => ⟨S128x128, .f32⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .f32⟩
  | 75 => ⟨S128x128, .f32⟩
  | 76 => ⟨S128x128, .f32⟩
  | 77 => ⟨S1x128x128, .f32⟩
  | 78 => ⟨S4x128x128, .f32⟩
  | 79 => ⟨S4x128x128, .f32⟩
  | 80 => ⟨S4x32x128x128, .f32⟩
  | 81 => ⟨S32x128x4x128, .f32⟩
  | 82 => ⟨S128x4, .f32⟩
  | 83 => ⟨S1x128x4x1, .f32⟩
  | 84 => ⟨S32x128x4x128, .f32⟩
  | 85 => ⟨S32x128x4x128, .f32⟩
  | 86 => ⟨S4096x512, .f32⟩
  | 87 => ⟨S4096x512, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .bf16⟩
  | 112 => ⟨S4096x512, .bf16⟩
  | 113 => ⟨S4096x512, .bf16⟩
  | 114 => ⟨S4096x2048, .bf16⟩
  | 115 => ⟨S4096x1024, .bf16⟩
  | 116 => ⟨S512x1024, .bf16⟩
  | 117 => ⟨S512x4x256, .bf16⟩
  | 118 => ⟨S4x512x256, .bf16⟩
  | 119 => ⟨S512x1024, .bf16⟩
  | 120 => ⟨S512x4x256, .bf16⟩
  | 121 => ⟨S4x512x256, .bf16⟩
  | 122 => ⟨S1024x1024, .bf16⟩
  | 123 => ⟨S128x4, .f32⟩
  | 124 => ⟨S4096x2048, .bf16⟩
  | 125 => ⟨S4096x1024, .bf16⟩
  | 126 => ⟨S4096x512, .bf16⟩
  | 127 => ⟨S1024x1024, .bf16⟩
  | _ => ⟨S4096x1024, .f32⟩

abbrev hbmTy0_1 (i : Nat) : BufTy := match i % 128 with
  | 0 => ⟨S512x1024, .bf16⟩
  | 1 => ⟨S512x1024, .bf16⟩
  | 2 => ⟨S4x128x128, .f32⟩
  | 3 => ⟨S128x4, .f32⟩
  | 4 => ⟨S1x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S4x512x256, .bf16⟩
  | .local _ .vmem, ⟨13, _⟩ => ⟨S4x512x256, .bf16⟩
  | .local _ .vmem, ⟨14, _⟩ => ⟨S1024x1024, .bf16⟩
  | .local _ .vmem, ⟨15, _⟩ => ⟨S1x512, .f32⟩
  | .local _ .vmem, ⟨16, _⟩ => ⟨S4x128x128, .f32⟩
  | .local _ .vmem, ⟨17, _⟩ => ⟨S128x4, .f32⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S1024x1024, .bf16⟩
  | .local _ .vmem, ⟨25, _⟩ => ⟨S512x1024, .bf16⟩
  | .local _ .vmem, ⟨26, _⟩ => ⟨S512x1024, .bf16⟩
  | .local _ .vmem, ⟨27, _⟩ => ⟨S4x128x128, .f32⟩
  | .local _ .vmem, ⟨28, _⟩ => ⟨S128x4, .f32⟩
  | .local _ .vmem, ⟨29, _⟩ => ⟨S1x512, .f32⟩
  | .local _ .vmem, ⟨30, _⟩ => ⟨S1024x1024, .f32⟩
  | .local _ .vmem, ⟨31, _⟩ => ⟨S512x1024, .f32⟩
  | .local _ .vmem, ⟨32, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_cst : Ref sig .tc := ⟨.hbm, 74, rfl⟩
abbrev main_call0_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88_0 : Ref sig .tc := ⟨.hbm, 124, rfl⟩
abbrev main_v88_1 : Ref sig .tc := ⟨.hbm, 125, rfl⟩
abbrev main_v88_2 : Ref sig .tc := ⟨.hbm, 126, rfl⟩
abbrev main_v88_3 : Ref sig .tc := ⟨.hbm, 127, rfl⟩
abbrev main_v88_4 : Ref sig .tc := ⟨.hbm, 128, rfl⟩
abbrev main_v88_5 : Ref sig .tc := ⟨.hbm, 129, rfl⟩
abbrev main_v88_6 : Ref sig .tc := ⟨.hbm, 130, rfl⟩
abbrev main_v88_7 : Ref sig .tc := ⟨.hbm, 131, rfl⟩
abbrev main_v88_8 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v611 : BitVec 1 := Scalar.cmpi .eq arg0 c7_i32
  let v612 : BitVec 32 := Scalar.extui v611
  let c0_i32_280 : BitVec 32 := 0#32
  let v613 : BitVec 1 := Scalar.cmpi .ne v612 c0_i32_280
  v613

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MergeIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== MergeRefIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S4096 : Shape := ⟨1, ![4096]⟩
abbrev S4096x1 : Shape := ⟨2, ![4096, 1]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S1024x512 : Shape := ⟨2, ![1024, 512]⟩
abbrev S512 : Shape := ⟨1, ![512]⟩

abbrev nBuf : Space → Nat
  | .hbm => 237
  | .vmem => 0
  | .smem => 0
  | _ => 0

abbrev hbmTy0_0 (i : Nat) : BufTy := match i % 128 with
  | 0 => ⟨S4096x1024, .f32⟩
  | 1 => ⟨S4096x512, .f32⟩
  | 2 => ⟨S4096x2048, .f32⟩
  | 3 => ⟨S512x1024, .f32⟩
  | 4 => ⟨S512x1024, .f32⟩
  | 5 => ⟨S1024x1024, .f32⟩
  | 6 => ⟨S1x512, .f32⟩
  | 7 => ⟨S4x128x128, .f32⟩
  | 8 => ⟨S4x128, .f32⟩
  | 9 => ⟨S4096x1024, .f32⟩
  | 10 => ⟨S4096x512, .f32⟩
  | 11 => ⟨S4096x512, .f32⟩
  | 12 => ⟨S_, .f32⟩
  | 13 => ⟨S_, .f32⟩
  | 14 => ⟨S_, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S_, .f32⟩
  | 43 => ⟨S_, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x512, .f32⟩
  | 88 => ⟨S4096x512, .f32⟩
  | 89 => ⟨S4096x512, .f32⟩
  | 90 => ⟨S4096x512, .f32⟩
  | 91 => ⟨S32x128x4x128, .f32⟩
  | 92 => ⟨S_, .f32⟩
  | 93 => ⟨S128x128, .f32⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .f32⟩
  | 101 => ⟨S128x128, .f32⟩
  | 102 => ⟨S128x128, .f32⟩
  | 103 => ⟨S1x128x128, .f32⟩
  | 104 => ⟨S4x128x128, .f32⟩
  | 105 => ⟨S4x128x128, .f32⟩
  | 106 => ⟨S4x32x128x128, .f32⟩
  | 107 => ⟨S32x128x4x128, .f32⟩
  | 108 => ⟨S128x4, .f32⟩
  | 109 => ⟨S1x128x4x1, .f32⟩
  | 110 => ⟨S32x128x4x128, .f32⟩
  | 111 => ⟨S32x128x4x128, .f32⟩
  | 112 => ⟨S4096x512, .f32⟩
  | 113 => ⟨S4096x512, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S_, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S1024x1024, .f32⟩
  | 19 => ⟨S1024x1024, .f32⟩
  | 20 => ⟨S4096x1024, .f32⟩
  | 21 => ⟨S4096x1024, .f32⟩
  | 22 => ⟨S4096x1024, .f32⟩
  | 23 => ⟨S1024x512, .f32⟩
  | 24 => ⟨S512x1024, .f32⟩
  | 25 => ⟨S4096x512, .f32⟩
  | 26 => ⟨S4096x1024, .f32⟩
  | 27 => ⟨S4096x1024, .f32⟩
  | 28 => ⟨S4096x1024, .f32⟩
  | 29 => ⟨S1024x512, .f32⟩
  | 30 => ⟨S512x1024, .f32⟩
  | 31 => ⟨S4096x512, .f32⟩
  | 32 => ⟨S4096x1024, .f32⟩
  | 33 => ⟨S4096x2048, .f32⟩
  | 34 => ⟨S4096x512, .f32⟩
  | 35 => ⟨S4096x512, .f32⟩
  | 36 => ⟨S32x128x4x128, .f32⟩
  | 37 => ⟨S_, .f32⟩
  | 38 => ⟨S128x4, .f32⟩
  | 39 => ⟨S1x128x4x1, .f32⟩
  | 40 => ⟨S_, .f32⟩
  | 41 => ⟨S128x4, .f32⟩
  | 42 => ⟨S4x128, .f32⟩
  | 43 => ⟨S4x32x128x128, .f32⟩
  | 44 => ⟨S4x128x128, .f32⟩
  | 45 => ⟨S4x32x128x128, .f32⟩
  | 46 => ⟨S32x128x4x128, .f32⟩
  | 47 => ⟨S4x128x128, .f32⟩
  | 48 => ⟨S4x128x128, .f32⟩
  | 49 => ⟨S4096x512, .f32⟩
  | 50 => ⟨S4096x512, .f32⟩
  | 51 => ⟨S_, .f32⟩
  | 52 => ⟨S512, .f32⟩
  | 53 => ⟨S1x512, .f32⟩
  | 54 => ⟨S4096x512, .f32⟩
  | 55 => ⟨S4096x512, .f32⟩
  | 56 => ⟨S4096x512, .f32⟩
  | 57 => ⟨S_, .f32⟩
  | 58 => ⟨S4096, .f32⟩
  | 59 => ⟨S4096x1, .f32⟩
  | 60 => ⟨S4096x512, .f32⟩
  | 61 => ⟨S4096x512, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x1024, .f32⟩
  | 102 => ⟨S4096x2048, .bf16⟩
  | 103 => ⟨S4096x1024, .bf16⟩
  | 104 => ⟨S4096x512, .bf16⟩
  | 105 => ⟨S1024x1024, .bf16⟩
  | 106 => ⟨S512x1024, .bf16⟩
  | 107 => ⟨S512x1024, .bf16⟩
  | 108 => ⟨S128x4, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_18 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_19 : Ref sig .tc := ⟨.hbm, 92, rfl⟩
abbrev main_v62 : Ref sig .tc := ⟨.hbm, 93, rfl⟩
abbrev main_call0_v0 : Ref sig .tc := ⟨.hbm, 94, rfl⟩
abbrev main_call0_c : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_cst : Ref sig .tc := ⟨.hbm, 100, rfl⟩
abbrev main_call0_v5 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_20 : Ref sig .tc := ⟨.hbm, 118, rfl⟩
abbrev main_v79 : Ref sig .tc := ⟨.hbm, 119, rfl⟩
abbrev main_v80 : Ref sig .tc := ⟨.hbm, 120, rfl⟩
abbrev main_cst_21 : Ref sig .tc := ⟨.hbm, 121, rfl⟩
abbrev main_v81 : Ref sig .tc := ⟨.hbm, 122, rfl⟩
abbrev main_v82 : Ref sig .tc := ⟨.hbm, 123, rfl⟩
abbrev main_cst_22 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_23 : Ref sig .tc := ⟨.hbm, 132, rfl⟩
abbrev main_v90 : Ref sig .tc := ⟨.hbm, 133, rfl⟩
abbrev main_v91 : Ref sig .tc := ⟨.hbm, 134, rfl⟩
abbrev main_cst_24 : Ref sig .tc := ⟨.hbm, 135, rfl⟩
abbrev main_v92 : Ref sig .tc := ⟨.hbm, 136, rfl⟩
abbrev main_v93 : Ref sig .tc := ⟨.hbm, 137, rfl⟩
abbrev main_cst_25 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_26 : Ref sig .tc := ⟨.hbm, 165, rfl⟩
abbrev main_v120 : Ref sig .tc := ⟨.hbm, 166, rfl⟩
abbrev main_v121 : Ref sig .tc := ⟨.hbm, 167, rfl⟩
abbrev main_cst_27 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_28 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_29 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_30 : Ref sig .tc := ⟨.hbm, 191, rfl⟩
abbrev main_v142 : Ref sig .tc := ⟨.hbm, 192, rfl⟩
abbrev main_v143 : Ref sig .tc := ⟨.hbm, 193, rfl⟩
abbrev main_cst_31 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_32 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_33 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_34 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_35 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩

abbrev nD : Nat := 1
abbrev τ : Topo := Topo.v7x

variable {F : FTy → Type} [FloatOps F]

def κ : String → Option EReal := fun
  | "gelu_3a" => some ((26829 / 200000 : ℝ) : EReal)
  | "gelu_a" => some ((8943 / 200000 : ℝ) : EReal)
  | _ => none
-- ==== Up.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024x4x1408 : Shape := ⟨3, ![1024, 4, 1408]⟩
abbrev S4x1024x1408 : Shape := ⟨3, ![4, 1024, 1408]⟩
abbrev S256x2816 : Shape := ⟨2, ![256, 2816]⟩
abbrev S16x2816 : Shape := ⟨2, ![16, 2816]⟩
abbrev S256x5632 : Shape := ⟨2, ![256, 5632]⟩
abbrev S256x1024 : Shape := ⟨2, ![256, 1024]⟩
abbrev S256x1408 : Shape := ⟨2, ![256, 1408]⟩
abbrev S16x1408 : Shape := ⟨2, ![16, 1408]⟩
abbrev S2x1408 : Shape := ⟨2, ![2, 1408]⟩
abbrev S3x1408 : Shape := ⟨2, ![3, 1408]⟩
abbrev S8x1408 : Shape := ⟨2, ![8, 1408]⟩
abbrev S1x1408 : Shape := ⟨2, ![1, 1408]⟩
abbrev S248x1408 : Shape := ⟨2, ![248, 1408]⟩
abbrev S1x1024x1408 : Shape := ⟨3, ![1, 1024, 1408]⟩
abbrev S1024x1408 : Shape := ⟨2, ![1024, 1408]⟩
abbrev S1408 : Shape := ⟨1, ![1408]⟩
abbrev S256 : Shape := ⟨1, ![256]⟩
abbrev S256x1 : Shape := ⟨2, ![256, 1]⟩
abbrev S1024 : Shape := ⟨1, ![1024]⟩

abbrev nBuf : Space → Nat
  | .hbm => 34
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S4096x1024, .f32⟩
  | .hbm, ⟨5, _⟩ => ⟨S4096x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x2816, .bf16⟩
  | .hbm, ⟨26, _⟩ => ⟨S4096x5632, .bf16⟩
  | .hbm, ⟨27, _⟩ => ⟨S1024x5632, .bf16⟩
  | .hbm, ⟨28, _⟩ => ⟨S1024x4x1408, .bf16⟩
  | .hbm, ⟨29, _⟩ => ⟨S4x1024x1408, .bf16⟩
  | .hbm, ⟨30, _⟩ => ⟨S4096x5632, .bf16⟩
  | .hbm, ⟨31, _⟩ => ⟨S4096x1024, .f32⟩
  | .hbm, ⟨32, _⟩ => ⟨S1x1024, .f32⟩
  | .hbm, ⟨33, _⟩ => ⟨S3x5632, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S16x2816, .bf16⟩
  | .local _ .vmem, ⟨5, _⟩ => ⟨S16x2816, .bf16⟩
  | .local _ .vmem, ⟨6, _⟩ => ⟨S16x2816, .bf16⟩
  | .local _ .vmem, ⟨7, _⟩ => ⟨S16x2816, .bf16⟩
  | .local _ .vmem, ⟨8, _⟩ => ⟨S256x5632, .bf16⟩
  | .local _ .vmem, ⟨9, _⟩ => ⟨S256x5632, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S3x5632, .f32⟩
  | .local _ .vmem, ⟨16, _⟩ => ⟨S4x1024x1408, .bf16⟩
  | .local _ .vmem, ⟨17, _⟩ => ⟨S256x5632, .bf16⟩
  | .local _ .vmem, ⟨18, _⟩ => ⟨S256x5632, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S3x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1408 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== UpRefIdeal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S1024 : Shape := ⟨1, ![1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S4096x1024, .f32⟩
  | .hbm, ⟨5, _⟩ => ⟨S4096x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S2x2048x5632, .f32⟩
  | .hbm, ⟨27, _⟩ => ⟨S_, .f32⟩
  | .hbm, ⟨28, _⟩ => ⟨S2x2x5632, .f32⟩
  | .hbm, ⟨29, _⟩ => ⟨S2x2050x5632, .f32⟩
  | .hbm, ⟨30, _⟩ => ⟨S_, .f32⟩
  | .hbm, ⟨31, _⟩ => ⟨S2x2x5632, .f32⟩
  | .hbm, ⟨32, _⟩ => ⟨S1x5632, .f32⟩
  | .hbm, ⟨33, _⟩ => ⟨S5632, .f32⟩
  | .hbm, ⟨34, _⟩ => ⟨S2x2048x5632, .f32⟩
  | .hbm, ⟨35, _⟩ => ⟨S1x1x5632, .f32⟩
  | .hbm, ⟨36, _⟩ => ⟨S2x2048x5632, .f32⟩
  | .hbm, ⟨37, _⟩ => ⟨S2x2048x5632, .f32⟩
  | .hbm, ⟨38, _⟩ => ⟨S1x5632, .f32⟩
  | .hbm, ⟨39, _⟩ => ⟨S5632, .f32⟩
  | .hbm, ⟨40, _⟩ => ⟨S2x2048x5632, .f32⟩
  | .hbm, ⟨41, _⟩ => ⟨S1x1x5632, .f32⟩
  | .hbm, ⟨42, _⟩ => ⟨S2x2048x5632, .f32⟩
  | .hbm, ⟨43, _⟩ => ⟨S2x2048x5632, .f32⟩
  | .hbm, ⟨44, _⟩ => ⟨S2x2048x5632, .f32⟩
  | .hbm, ⟨45, _⟩ => ⟨S1x5632, .f32⟩
  | .hbm, ⟨46, _⟩ => ⟨S5632, .f32⟩
  | .hbm, ⟨47, _⟩ => ⟨S2x2048x5632, .f32⟩
  | .hbm, ⟨48, _⟩ => ⟨S1x1x5632, .f32⟩
  | .hbm, ⟨49, _⟩ => ⟨S2x2048x5632, .f32⟩
  | .hbm, ⟨50, _⟩ => ⟨S2x2048x5632, .f32⟩
  | .hbm, ⟨51, _⟩ => ⟨S2x2048x5632, .f32⟩
  | .hbm, ⟨52, _⟩ => ⟨S4096x5632, .f32⟩
  | .hbm, ⟨53, _⟩ => ⟨S2x2048x5632, .f32⟩
  | .hbm, ⟨54, _⟩ => ⟨S2x2048x5632, .f32⟩
  | .hbm, ⟨55, _⟩ => ⟨S2x2048x5632, .f32⟩
  | .hbm, ⟨56, _⟩ => ⟨S2x2048x5632, .f32⟩
  | .hbm, ⟨57, _⟩ => ⟨S_, .f32⟩
  | .hbm, ⟨58, _⟩ => ⟨S5632, .f32⟩
  | .hbm, ⟨59, _⟩ => ⟨S1x1x5632, .f32⟩
  | .hbm, ⟨60, _⟩ => ⟨S_, .f32⟩
  | .hbm, ⟨61, _⟩ => ⟨S5632, .f32⟩
  | .hbm, ⟨62, _⟩ => ⟨S_, .f32⟩
  | .hbm, ⟨63, _⟩ => ⟨S2x2050x5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S2x2048x5632, .f32⟩
  | .hbm, ⟨68, _⟩ => ⟨S2x2048x5632, .f32⟩
  | .hbm, ⟨69, _⟩ => ⟨S2x2048x5632, .f32⟩
  | .hbm, ⟨70, _⟩ => ⟨S_, .f32⟩
  | .hbm, ⟨71, _⟩ => ⟨S5632, .f32⟩
  | .hbm, ⟨72, _⟩ => ⟨S1x1x5632, .f32⟩
  | .hbm, ⟨73, _⟩ => ⟨S_, .f32⟩
  | .hbm, ⟨74, _⟩ => ⟨S5632, .f32⟩
  | .hbm, ⟨75, _⟩ => ⟨S_, .f32⟩
  | .hbm, ⟨76, _⟩ => ⟨S2x2050x5632, .f32⟩
  | .hbm, ⟨77, _⟩ => ⟨S2x2050x5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S3x5632, .f32⟩
  | .hbm, ⟨82, _⟩ => ⟨S2x2048x5632, .f32⟩
  | .hbm, ⟨83, _⟩ => ⟨S2x2048x5632, .f32⟩
  | .hbm, ⟨84, _⟩ => ⟨S2x2048x5632, .f32⟩
  | .hbm, ⟨85, _⟩ => ⟨S_, .f32⟩
  | .hbm, ⟨86, _⟩ => ⟨S5632, .f32⟩
  | .hbm, ⟨87, _⟩ => ⟨S1x1x5632, .f32⟩
  | .hbm, ⟨88, _⟩ => ⟨S_, .f32⟩
  | .hbm, ⟨89, _⟩ => ⟨S5632, .f32⟩
  | .hbm, ⟨90, _⟩ => ⟨S_, .f32⟩
  | .hbm, ⟨91, _⟩ => ⟨S2x2050x5632, .f32⟩
  | .hbm, ⟨92, _⟩ => ⟨S2x2050x5632, .f32⟩
  | .hbm, ⟨93, _⟩ => ⟨S1x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S2x2x5632, .f32⟩
  | .hbm, ⟨98, _⟩ => ⟨S2x2048x5632, .f32⟩
  | .hbm, ⟨99, _⟩ => ⟨S4096x5632, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S_, .f32⟩
  | .hbm, ⟨109, _⟩ => ⟨S4096, .f32⟩
  | .hbm, ⟨110, _⟩ => ⟨S4096x1, .f32⟩
  | .hbm, ⟨111, _⟩ => ⟨S4096x1024, .f32⟩
  | .hbm, ⟨112, _⟩ => ⟨S4096x1024, .f32⟩
  | .hbm, ⟨113, _⟩ => ⟨S4096x1, .f32⟩
  | .hbm, ⟨114, _⟩ => ⟨S_, .f32⟩
  | .hbm, ⟨115, _⟩ => ⟨S4096x1, .f32⟩
  | .hbm, ⟨116, _⟩ => ⟨S4096x1, .f32⟩
  | .hbm, ⟨117, _⟩ => ⟨S_, .f32⟩
  | .hbm, ⟨118, _⟩ => ⟨S4096, .f32⟩
  | .hbm, ⟨119, _⟩ => ⟨S4096x1024, .f32⟩
  | .hbm, ⟨120, _⟩ => ⟨S4096x1024, .f32⟩
  | .hbm, ⟨121, _⟩ => ⟨S4096x1024, .f32⟩
  | .hbm, ⟨122, _⟩ => ⟨S4096x1024, .f32⟩
  | .hbm, ⟨123, _⟩ => ⟨S4096x1024, .f32⟩
  | .hbm, ⟨124, _⟩ => ⟨S4096x5632, .bf16⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== Gup.lean ====
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x5632, .bf16⟩
  | .hbm, ⟨20, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GupRefIdeal.lean ====
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S1024x5632 : Shape := ⟨2, ![1024, 5632]⟩
abbrev S4096 : Shape := ⟨1, ![4096]⟩
abbrev S4096x1 : Shape := ⟨2, ![4096, 1]⟩
abbrev S5632x1024 : Shape := ⟨2, ![5632, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x5632, .f32⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S5632x1024, .f32⟩
  | .hbm, ⟨22, _⟩ => ⟨S1024x5632, .f32⟩
  | .hbm, ⟨23, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== In.lean ====
abbrev S4096x1024 : Shape := ⟨2, ![4096, 1024]⟩
abbrev S1x1024 : Shape := ⟨2, ![1, 1024]⟩
abbrev S1024x3840 : Shape := ⟨2, ![1024, 3840]⟩
abbrev S4096x3840 : Shape := ⟨2, ![4096, 3840]⟩
abbrev S4096x768 : Shape := ⟨2, ![4096, 768]⟩
abbrev S4096x2048 : Shape := ⟨2, ![4096, 2048]⟩
abbrev S3840x1024 : Shape := ⟨2, ![3840, 1024]⟩
abbrev S512x2048 : Shape := ⟨2, ![512, 2048]⟩
abbrev S512x1024 : Shape := ⟨2, ![512, 1024]⟩
abbrev S512x768 : Shape := ⟨2, ![512, 768]⟩
abbrev S128x2048 : Shape := ⟨2, ![128, 2048]⟩
abbrev S2048x1024 : Shape := ⟨2, ![2048, 1024]⟩
abbrev S128x1024 : Shape := ⟨2, ![128, 1024]⟩
abbrev S1024x1024 : Shape := ⟨2, ![1024, 1024]⟩
abbrev S128x768 : Shape := ⟨2, ![128, 768]⟩
abbrev S768x1024 : Shape := ⟨2, ![768, 1024]⟩
abbrev S128 : Shape := ⟨1, ![128]⟩
abbrev S128x1 : Shape := ⟨2, ![128, 1]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3840, .f32⟩
  | .hbm, ⟨3, _⟩ => ⟨S4096x1024, .f32⟩
  | .hbm, ⟨4, _⟩ => ⟨S4096x3840, .f32⟩
  | .hbm, ⟨5, _⟩ => ⟨S4096x1024, .f32⟩
  | .hbm, ⟨6, _⟩ => ⟨S4096x768, .f32⟩
  | .hbm, ⟨7, _⟩ => ⟨S4096x2048, .f32⟩
  | .hbm, ⟨8, _⟩ => ⟨S4096x2048, .bf16⟩
  | .hbm, ⟨9, _⟩ => ⟨S4096x1024, .bf16⟩
  | .hbm, ⟨10, _⟩ => ⟨S4096x768, .bf16⟩
  | .hbm, ⟨11, _⟩ => ⟨S3840x1024, .f32⟩
  | .hbm, ⟨12, _⟩ => ⟨S3840x1024, .bf16⟩
  | .hbm, ⟨13, _⟩ => ⟨S4096x1024, .f32⟩
  | .hbm, ⟨14, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x768, .bf16⟩
  | .local _ .vmem, ⟨5, _⟩ => ⟨S512x768, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S3840x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3840x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InRefIdeal.lean ====
abbrev S4096x1024 : Shape := ⟨2, ![4096, 1024]⟩
abbrev S1x1024 : Shape := ⟨2, ![1, 1024]⟩
abbrev S1024x3840 : Shape := ⟨2, ![1024, 3840]⟩
abbrev S4096x3840 : Shape := ⟨2, ![4096, 3840]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3840, .f32⟩
  | .hbm, ⟨3, _⟩ => ⟨S4096x1024, .f32⟩
  | .hbm, ⟨4, _⟩ => ⟨S4096x3840, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3840, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Gin.lean ====
abbrev S4096x1024 : Shape := ⟨2, ![4096, 1024]⟩
abbrev S1x1024 : Shape := ⟨2, ![1, 1024]⟩
abbrev S4096x3840 : Shape := ⟨2, ![4096, 3840]⟩
abbrev S4096x768 : Shape := ⟨2, ![4096, 768]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4x1024x960 : Shape := ⟨3, ![4, 1024, 960]⟩
abbrev S1024x1024 : Shape := ⟨2, ![1024, 1024]⟩
abbrev S1024x768 : Shape := ⟨2, ![1024, 768]⟩
abbrev S1024x2048 : Shape := ⟨2, ![1024, 2048]⟩
abbrev S1024x3840 : Shape := ⟨2, ![1024, 3840]⟩
abbrev S1024x960 : Shape := ⟨2, ![1024, 960]⟩
abbrev S1x1024x960 : Shape := ⟨3, ![1, 1024, 960]⟩

abbrev nBuf : Space → Nat
  | .hbm => 26
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x3840, .f32⟩
  | .hbm, ⟨3, _⟩ => ⟨S4096x1024, .f32⟩
  | .hbm, ⟨4, _⟩ => ⟨S4096x768, .f32⟩
  | .hbm, ⟨5, _⟩ => ⟨S4096x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .bf16⟩
  | .hbm, ⟨23, _⟩ => ⟨S4096x768, .bf16⟩
  | .hbm, ⟨24, _⟩ => ⟨S4096x2048, .bf16⟩
  | .hbm, ⟨25, _⟩ => ⟨S4x1024x960, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x2048, .bf16⟩
  | .local _ .vmem, ⟨7, _⟩ => ⟨S1024x2048, .bf16⟩
  | .local _ .vmem, ⟨8, _⟩ => ⟨S4x1024x960, .bf16⟩
  | .local _ .vmem, ⟨9, _⟩ => ⟨S1024x3840, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GinRefIdeal.lean ====
abbrev S4096x1024 : Shape := ⟨2, ![4096, 1024]⟩
abbrev S1x1024 : Shape := ⟨2, ![1, 1024]⟩
abbrev S4096x3840 : Shape := ⟨2, ![4096, 3840]⟩
abbrev S_ : Shape := ⟨0, ![]⟩
abbrev S1024x3840 : Shape := ⟨2, ![1024, 3840]⟩
abbrev S4096 : Shape := ⟨1, ![4096]⟩
abbrev S4096x1 : Shape := ⟨2, ![4096, 1]⟩
abbrev S3840x1024 : Shape := ⟨2, ![3840, 1024]⟩
abbrev S1024x4x960 : Shape := ⟨3, ![1024, 4, 960]⟩
abbrev S4x1024x960 : Shape := ⟨3, ![4, 1024, 960]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x3840, .f32⟩
  | .hbm, ⟨3, _⟩ => ⟨S_, .f32⟩
  | .hbm, ⟨4, _⟩ => ⟨S1024x3840, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x3840, .f32⟩
  | .hbm, ⟨21, _⟩ => ⟨S3840x1024, .f32⟩
  | .hbm, ⟨22, _⟩ => ⟨S1024x3840, .f32⟩
  | .hbm, ⟨23, _⟩ => ⟨S1024x3840, .bf16⟩
  | .hbm, ⟨24, _⟩ => ⟨S1024x4x960, .bf16⟩
  | .hbm, ⟨25, _⟩ => ⟨S4x1024x960, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Fmerge.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x512, .bf16⟩
  | .hbm, ⟨8, _⟩ => ⟨S4096x512, .bf16⟩
  | .hbm, ⟨9, _⟩ => ⟨S4096x2048, .bf16⟩
  | .hbm, ⟨10, _⟩ => ⟨S512x1024, .bf16⟩
  | .hbm, ⟨11, _⟩ => ⟨S512x4x256, .bf16⟩
  | .hbm, ⟨12, _⟩ => ⟨S4x512x256, .bf16⟩
  | .hbm, ⟨13, _⟩ => ⟨S512x1024, .bf16⟩
  | .hbm, ⟨14, _⟩ => ⟨S512x4x256, .bf16⟩
  | .hbm, ⟨15, _⟩ => ⟨S4x512x256, .bf16⟩
  | .hbm, ⟨16, _⟩ => ⟨S1024x1024, .bf16⟩
  | .hbm, ⟨17, _⟩ => ⟨S4096x1024, .f32⟩
  | .hbm, ⟨18, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S4x512x256, .bf16⟩
  | .local _ .vmem, ⟨9, _⟩ => ⟨S4x512x256, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FmergeRefIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Fin.lean ====
abbrev S4096x1024 : Shape := ⟨2, ![4096, 1024]⟩
abbrev S1x1024 : Shape := ⟨2, ![1, 1024]⟩
abbrev S1024x3840 : Shape := ⟨2, ![1024, 3840]⟩
abbrev S1x512 : Shape := ⟨2, ![1, 512]⟩
abbrev S4x128x128 : Shape := ⟨3, ![4, 128, 128]⟩
abbrev S4x128 : Shape := ⟨2, ![4, 128]⟩
abbrev S3840x1024 : Shape := ⟨2, ![3840, 1024]⟩
abbrev S128x4 : Shape := ⟨2, ![128, 4]⟩
abbrev S4096x2048 : Shape := ⟨2, ![4096, 2048]⟩
abbrev S4096x768 : Shape := ⟨2, ![4096, 768]⟩
abbrev S4096x512 : Shape := ⟨2, ![4096, 512]⟩
abbrev S512x1024 : Shape := ⟨2, ![512, 1024]⟩
abbrev S512x2048 : Shape := ⟨2, ![512, 2048]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S2048x1024 : Shape := ⟨2, ![2048, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3840, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S3840x1024, .f32⟩
  | .hbm, ⟨7, _⟩ => ⟨S3840x1024, .bf16⟩
  | .hbm, ⟨8, _⟩ => ⟨S128x4, .f32⟩
  | .hbm, ⟨9, _⟩ => ⟨S4096x2048, .bf16⟩
  | .hbm, ⟨10, _⟩ => ⟨S4096x1024, .bf16⟩
  | .hbm, ⟨11, _⟩ => ⟨S4096x768, .bf16⟩
  | .hbm, ⟨12, _⟩ => ⟨S4096x1024, .bf16⟩
  | .hbm, ⟨13, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x768, .bf16⟩
  | .local _ .vmem, ⟨12, _⟩ => ⟨S512x768, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinIdeal.lean ====
variable {F : FTy → Type} [FloatOps F] [Named F]
def κ : String → Option EReal := fun
  | "gelu_a" => some ((8943 / 200000 : ℝ) : EReal)
  | _ => none
-- ==== FinRefIdeal.lean ====
abbrev S4096x1024 : Shape := ⟨2, ![4096, 1024]⟩
abbrev S1x1024 : Shape := ⟨2, ![1, 1024]⟩
abbrev S1024x3840 : Shape := ⟨2, ![1024, 3840]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S4096 : Shape := ⟨1, ![4096]⟩
abbrev S4096x1 : Shape := ⟨2, ![4096, 1]⟩
abbrev S4096x3840 : Shape := ⟨2, ![4096, 3840]⟩
abbrev S4096x768 : Shape := ⟨2, ![4096, 768]⟩
abbrev S4096x2048 : Shape := ⟨2, ![4096, 2048]⟩
abbrev S4096x512 : Shape := ⟨2, ![4096, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3840, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3840, .f32⟩
  | .hbm, ⟨22, _⟩ => ⟨S4096x1024, .f32⟩
  | .hbm, ⟨23, _⟩ => ⟨S4096x768, .f32⟩
  | .hbm, ⟨24, _⟩ => ⟨S4096x2048, .f32⟩
  | .hbm, ⟨25, _⟩ => ⟨S4096x2048, .bf16⟩
  | .hbm, ⟨26, _⟩ => ⟨S4096x1024, .bf16⟩
  | .hbm, ⟨27, _⟩ => ⟨S4096x768, .bf16⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S4096x1, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S4096x512, .f32⟩
  | .hbm, ⟨99, _⟩ => ⟨S32x128x4x128, .f32⟩
  | .hbm, ⟨100, _⟩ => ⟨S_, .f32⟩
  | .hbm, ⟨101, _⟩ => ⟨S128x128, .f32⟩
  | .hbm, ⟨102, _⟩ => ⟨S128x128, .i32⟩
  | .hbm, ⟨103, _⟩ => ⟨S_, .i32⟩
  | .hbm, ⟨104, _⟩ => ⟨S128x128, .i32⟩
  | .hbm, ⟨105, _⟩ => ⟨S128x128, .i32⟩
  | .hbm, ⟨106, _⟩ => ⟨S128x128, .i32⟩
  | .hbm, ⟨107, _⟩ => ⟨S128x128, .i1⟩
  | .hbm, ⟨108, _⟩ => ⟨S_, .f32⟩
  | .hbm, ⟨109, _⟩ => ⟨S128x128, .f32⟩
  | .hbm, ⟨110, _⟩ => ⟨S128x128, .f32⟩
  | .hbm, ⟨111, _⟩ => ⟨S1x128x128, .f32⟩
  | .hbm, ⟨112, _⟩ => ⟨S4x128x128, .f32⟩
  | .hbm, ⟨113, _⟩ => ⟨S4x128x128, .f32⟩
  | .hbm, ⟨114, _⟩ => ⟨S4x32x128x128, .f32⟩
  | .hbm, ⟨115, _⟩ => ⟨S32x128x4x128, .f32⟩
  | .hbm, ⟨116, _⟩ => ⟨S128x4, .f32⟩
  | .hbm, ⟨117, _⟩ => ⟨S1x128x4x1, .f32⟩
  | .hbm, ⟨118, _⟩ => ⟨S32x128x4x128, .f32⟩
  | .hbm, ⟨119, _⟩ => ⟨S32x128x4x128, .f32⟩
  | .hbm, ⟨120, _⟩ => ⟨S4096x512, .f32⟩
  | .hbm, ⟨121, _⟩ => ⟨S4096x512, .f32⟩
  | .hbm, ⟨122, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_18 : Ref sig .tc := ⟨.hbm, 100, rfl⟩
abbrev main_v75 : Ref sig .tc := ⟨.hbm, 101, rfl⟩
abbrev main_call0_v0 : Ref sig .tc := ⟨.hbm, 102, rfl⟩
abbrev main_call0_c : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_cst : Ref sig .tc := ⟨.hbm, 108, rfl⟩
abbrev main_call0_v5 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

def κ : String → Option EReal := fun
  | "gelu_a" => some ((8943 / 200000 : ℝ) : EReal)
  | _ => none
-- ==== Down.lean ====
abbrev S4096x5632 : Shape := ⟨2, ![4096, 5632]⟩
abbrev S4096x1024 : Shape := ⟨2, ![4096, 1024]⟩
abbrev S2816x1024 : Shape := ⟨2, ![2816, 1024]⟩
abbrev S1x1024 : Shape := ⟨2, ![1, 1024]⟩
abbrev S4096x2816 : Shape := ⟨2, ![4096, 2816]⟩
abbrev S1x1 : Shape := ⟨2, ![1, 1]⟩
abbrev S512x2816 : Shape := ⟨2, ![512, 2816]⟩
abbrev S512x1024 : Shape := ⟨2, ![512, 1024]⟩
abbrev S128x1024 : Shape := ⟨2, ![128, 1024]⟩
abbrev S128x1408 : Shape := ⟨2, ![128, 1408]⟩
abbrev S1408x1024 : Shape := ⟨2, ![1408, 1024]⟩
abbrev S128 : Shape := ⟨1, ![128]⟩
abbrev S128x1 : Shape := ⟨2, ![128, 1]⟩
abbrev S1 : Shape := ⟨1, ![1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x1024, .f32⟩
  | .hbm, ⟨3, _⟩ => ⟨S2816x1024, .f32⟩
  | .hbm, ⟨4, _⟩ => ⟨S1x1024, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S2816x1024, .bf16⟩
  | .hbm, ⟨10, _⟩ => ⟨S4096x1024, .f32⟩
  | .hbm, ⟨11, _⟩ => ⟨S1x1, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | .local _ .vmem, ⟨13, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownRefIdeal.lean ====
abbrev S4096x5632 : Shape := ⟨2, ![4096, 5632]⟩
abbrev S4096x1024 : Shape := ⟨2, ![4096, 1024]⟩
abbrev S2816x1024 : Shape := ⟨2, ![2816, 1024]⟩
abbrev S1x1024 : Shape := ⟨2, ![1, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x1024, .f32⟩
  | .hbm, ⟨3, _⟩ => ⟨S2816x1024, .f32⟩
  | .hbm, ⟨4, _⟩ => ⟨S1x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Fup.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S2x1408 : Shape := ⟨2, ![2, 1408]⟩
abbrev S8x1408 : Shape := ⟨2, ![8, 1408]⟩
abbrev S1x1408 : Shape := ⟨2, ![1, 1408]⟩
abbrev S248x1408 : Shape := ⟨2, ![248, 1408]⟩
abbrev S3x1408 : Shape := ⟨2, ![3, 1408]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S4096x5632, .bf16⟩
  | .hbm, ⟨9, _⟩ => ⟨S4096x1024, .bf16⟩
  | .hbm, ⟨10, _⟩ => ⟨S4096x2816, .bf16⟩
  | .hbm, ⟨11, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S3x5632, .f32⟩
  | .local _ .vmem, ⟨5, _⟩ => ⟨S1x5632, .f32⟩
  | .local _ .vmem, ⟨6, _⟩ => ⟨S256x5632, .bf16⟩
  | .local _ .vmem, ⟨7, _⟩ => ⟨S256x5632, .bf16⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S8x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FupRefIdeal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S5632 : Shape := ⟨1, ![5632]⟩
abbrev S1x1x5632 : Shape := ⟨3, ![1, 1, 5632]⟩
abbrev S4096x2816 : Shape := ⟨2, ![4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S2x2048x5632, .f32⟩
  | .hbm, ⟨22, _⟩ => ⟨S_, .f32⟩
  | .hbm, ⟨23, _⟩ => ⟨S2x2x5632, .f32⟩
  | .hbm, ⟨24, _⟩ => ⟨S2x2050x5632, .f32⟩
  | .hbm, ⟨25, _⟩ => ⟨S1x5632, .f32⟩
  | .hbm, ⟨26, _⟩ => ⟨S5632, .f32⟩
  | .hbm, ⟨27, _⟩ => ⟨S2x2048x5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S1x5632, .f32⟩
  | .hbm, ⟨32, _⟩ => ⟨S5632, .f32⟩
  | .hbm, ⟨33, _⟩ => ⟨S2x2048x5632, .f32⟩
  | .hbm, ⟨34, _⟩ => ⟨S1x1x5632, .f32⟩
  | .hbm, ⟨35, _⟩ => ⟨S2x2048x5632, .f32⟩
  | .hbm, ⟨36, _⟩ => ⟨S2x2048x5632, .f32⟩
  | .hbm, ⟨37, _⟩ => ⟨S2x2048x5632, .f32⟩
  | .hbm, ⟨38, _⟩ => ⟨S1x5632, .f32⟩
  | .hbm, ⟨39, _⟩ => ⟨S5632, .f32⟩
  | .hbm, ⟨40, _⟩ => ⟨S2x2048x5632, .f32⟩
  | .hbm, ⟨41, _⟩ => ⟨S1x1x5632, .f32⟩
  | .hbm, ⟨42, _⟩ => ⟨S2x2048x5632, .f32⟩
  | .hbm, ⟨43, _⟩ => ⟨S2x2048x5632, .f32⟩
  | .hbm, ⟨44, _⟩ => ⟨S2x2048x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x2816, .f32⟩
  | .hbm, ⟨49, _⟩ => ⟨S4096x2816, .f32⟩
  | .hbm, ⟨50, _⟩ => ⟨S4096x5632, .bf16⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S4096x2816, .bf16⟩
  | .hbm, ⟨68, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Offn.lean ====
abbrev S1024x1408 : Shape := ⟨2, ![1024, 1408]⟩
abbrev S704x1024 : Shape := ⟨2, ![704, 1024]⟩
abbrev S256x1408 : Shape := ⟨2, ![256, 1408]⟩
abbrev S176x1024 : Shape := ⟨2, ![176, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1408, .f32⟩
  | .hbm, ⟨3, _⟩ => ⟨S704x1024, .f32⟩
  | .hbm, ⟨4, _⟩ => ⟨S1024x1408, .f32⟩
  | .hbm, ⟨5, _⟩ => ⟨S704x1024, .f32⟩
  | .hbm, ⟨6, _⟩ => ⟨S1024x1408, .f32⟩
  | .hbm, ⟨7, _⟩ => ⟨S704x1024, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .local _ .vmem, ⟨0, _⟩ => ⟨S256x1408, .f32⟩
  | .local _ .vmem, ⟨1, _⟩ => ⟨S256x1408, .f32⟩
  | .local _ .vmem, ⟨2, _⟩ => ⟨S176x1024, .f32⟩
  | .local _ .vmem, ⟨3, _⟩ => ⟨S176x1024, .f32⟩
  | .local _ .vmem, ⟨4, _⟩ => ⟨S256x1408, .f32⟩
  | .local _ .vmem, ⟨5, _⟩ => ⟨S256x1408, .f32⟩
  | .local _ .vmem, ⟨6, _⟩ => ⟨S176x1024, .f32⟩
  | .local _ .vmem, ⟨7, _⟩ => ⟨S176x1024, .f32⟩
  | .local _ .vmem, ⟨8, _⟩ => ⟨S256x1408, .f32⟩
  | .local _ .vmem, ⟨9, _⟩ => ⟨S256x1408, .f32⟩
  | .local _ .vmem, ⟨10, _⟩ => ⟨S176x1024, .f32⟩
  | .local _ .vmem, ⟨11, _⟩ => ⟨S176x1024, .f32⟩
  | .local _ .vmem, ⟨12, _⟩ => ⟨S256x1408, .f32⟩
  | .local _ .vmem, ⟨13, _⟩ => ⟨S256x1408, .f32⟩
  | .local _ .vmem, ⟨14, _⟩ => ⟨S176x1024, .f32⟩
  | .local _ .vmem, ⟨15, _⟩ => ⟨S176x1024, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .f32⟩
  | .local _ .vmem, ⟨22, _⟩ => ⟨S256x1408, .f32⟩
  | .local _ .vmem, ⟨23, _⟩ => ⟨S256x1408, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OffnRefIdeal.lean ====
abbrev S1024x1408 : Shape := ⟨2, ![1024, 1408]⟩
abbrev S704x1024 : Shape := ⟨2, ![704, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1408, .f32⟩
  | .hbm, ⟨3, _⟩ => ⟨S704x1024, .f32⟩
  | .hbm, ⟨4, _⟩ => ⟨S1024x1408, .f32⟩
  | .hbm, ⟨5, _⟩ => ⟨S704x1024, .f32⟩
  | .hbm, ⟨6, _⟩ => ⟨S1024x1408, .f32⟩
  | .hbm, ⟨7, _⟩ => ⟨S704x1024, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S_, .f32⟩
  | .hbm, ⟨60, _⟩ => ⟨S704x1024, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Oin.lean ====
abbrev S1024x960 : Shape := ⟨2, ![1024, 960]⟩
abbrev S960x1024 : Shape := ⟨2, ![960, 1024]⟩
abbrev S320x1024 : Shape := ⟨2, ![320, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S960x1024, .f32⟩
  | .hbm, ⟨5, _⟩ => ⟨S960x1024, .f32⟩
  | .hbm, ⟨6, _⟩ => ⟨S960x1024, .f32⟩
  | .hbm, ⟨7, _⟩ => ⟨S960x1024, .f32⟩
  | .hbm, ⟨8, _⟩ => ⟨S960x1024, .f32⟩
  | .hbm, ⟨9, _⟩ => ⟨S960x1024, .f32⟩
  | .hbm, ⟨10, _⟩ => ⟨S960x1024, .f32⟩
  | .hbm, ⟨11, _⟩ => ⟨S960x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | _, _ => ⟨S1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OinRefIdeal.lean ====
abbrev S1024x960 : Shape := ⟨2, ![1024, 960]⟩
abbrev S_ : Shape := ⟨0, ![]⟩
abbrev S960x1024 : Shape := ⟨2, ![960, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S_, .f32⟩
  | .hbm, ⟨5, _⟩ => ⟨S1024x960, .f32⟩
  | .hbm, ⟨6, _⟩ => ⟨S1024x960, .f32⟩
  | .hbm, ⟨7, _⟩ => ⟨S_, .f32⟩
  | .hbm, ⟨8, _⟩ => ⟨S1024x960, .f32⟩
  | .hbm, ⟨9, _⟩ => ⟨S1024x960, .f32⟩
  | .hbm, ⟨10, _⟩ => ⟨S1024x960, .f32⟩
  | .hbm, ⟨11, _⟩ => ⟨S_, .f32⟩
  | .hbm, ⟨12, _⟩ => ⟨S1024x960, .f32⟩
  | .hbm, ⟨13, _⟩ => ⟨S1024x960, .f32⟩
  | .hbm, ⟨14, _⟩ => ⟨S1024x960, .f32⟩
  | .hbm, ⟨15, _⟩ => ⟨S_, .f32⟩
  | .hbm, ⟨16, _⟩ => ⟨S1024x960, .f32⟩
  | .hbm, ⟨17, _⟩ => ⟨S1024x960, .f32⟩
  | .hbm, ⟨18, _⟩ => ⟨S1024x960, .f32⟩
  | .hbm, ⟨19, _⟩ => ⟨S_, .f32⟩
  | .hbm, ⟨20, _⟩ => ⟨S1024x960, .f32⟩
  | .hbm, ⟨21, _⟩ => ⟨S1024x960, .f32⟩
  | .hbm, ⟨22, _⟩ => ⟨S_, .f32⟩
  | .hbm, ⟨23, _⟩ => ⟨S1024x960, .f32⟩
  | .hbm, ⟨24, _⟩ => ⟨S1024x960, .f32⟩
  | .hbm, ⟨25, _⟩ => ⟨S1024x960, .f32⟩
  | .hbm, ⟨26, _⟩ => ⟨S_, .f32⟩
  | .hbm, ⟨27, _⟩ => ⟨S1024x960, .f32⟩
  | .hbm, ⟨28, _⟩ => ⟨S1024x960, .f32⟩
  | .hbm, ⟨29, _⟩ => ⟨S1024x960, .f32⟩
  | .hbm, ⟨30, _⟩ => ⟨S_, .f32⟩
  | .hbm, ⟨31, _⟩ => ⟨S1024x960, .f32⟩
  | .hbm, ⟨32, _⟩ => ⟨S1024x960, .f32⟩
  | .hbm, ⟨33, _⟩ => ⟨S1024x960, .f32⟩
  | .hbm, ⟨34, _⟩ => ⟨S_, .f32⟩
  | .hbm, ⟨35, _⟩ => ⟨S1024x960, .f32⟩
  | .hbm, ⟨36, _⟩ => ⟨S1024x960, .f32⟩
  | .hbm, ⟨37, _⟩ => ⟨S960x1024, .f32⟩
  | .hbm, ⟨38, _⟩ => ⟨S960x1024, .f32⟩
  | .hbm, ⟨39, _⟩ => ⟨S960x1024, .f32⟩
  | _, _ => ⟨S1024x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Oproj.lean ====
abbrev S512x256 : Shape := ⟨2, ![512, 256]⟩
abbrev S256x1024 : Shape := ⟨2, ![256, 1024]⟩
abbrev S128x256 : Shape := ⟨2, ![128, 256]⟩
abbrev S64x1024 : Shape := ⟨2, ![64, 1024]⟩

abbrev nBuf : Space → Nat
  | .hbm => 24
  | .vmem => 48
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S256x1024, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x256, .f32⟩
  | .hbm, ⟨7, _⟩ => ⟨S512x256, .f32⟩
  | .hbm, ⟨8, _⟩ => ⟨S256x1024, .f32⟩
  | .hbm, ⟨9, _⟩ => ⟨S512x256, .f32⟩
  | .hbm, ⟨10, _⟩ => ⟨S512x256, .f32⟩
  | .hbm, ⟨11, _⟩ => ⟨S256x1024, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S64x1024, .f32⟩
  | .local _ .vmem, ⟨5, _⟩ => ⟨S64x1024, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S64x1024, .f32⟩
  | .local _ .vmem, ⟨11, _⟩ => ⟨S64x1024, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S64x1024, .f32⟩
  | .local _ .vmem, ⟨17, _⟩ => ⟨S64x1024, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S64x1024, .f32⟩
  | .local _ .vmem, ⟨23, _⟩ => ⟨S64x1024, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S128x256, .f32⟩
  | .local _ .vmem, ⟨36, _⟩ => ⟨S128x256, .f32⟩
  | .local _ .vmem, ⟨37, _⟩ => ⟨S128x256, .f32⟩
  | .local _ .vmem, ⟨38, _⟩ => ⟨S128x256, .f32⟩
  | .local _ .vmem, ⟨39, _⟩ => ⟨S128x256, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== OprojRefIdeal.lean ====
abbrev S512x256 : Shape := ⟨2, ![512, 256]⟩
abbrev S256x1024 : Shape := ⟨2, ![256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S256x1024, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x256, .f32⟩
  | .hbm, ⟨7, _⟩ => ⟨S512x256, .f32⟩
  | .hbm, ⟨8, _⟩ => ⟨S256x1024, .f32⟩
  | .hbm, ⟨9, _⟩ => ⟨S512x256, .f32⟩
  | .hbm, ⟨10, _⟩ => ⟨S512x256, .f32⟩
  | .hbm, ⟨11, _⟩ => ⟨S256x1024, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | .hbm, ⟨48, _⟩ => ⟨S_, .f32⟩
  | .hbm, ⟨49, _⟩ => ⟨S512x256, .f32⟩
  | .hbm, ⟨50, _⟩ => ⟨S512x256, .f32⟩
  | .hbm, ⟨51, _⟩ => ⟨S512x256, .f32⟩
  | .hbm, ⟨52, _⟩ => ⟨S_, .f32⟩
  | .hbm, ⟨53, _⟩ => ⟨S512x256, .f32⟩
  | .hbm, ⟨54, _⟩ => ⟨S512x256, .f32⟩
  | .hbm, ⟨55, _⟩ => ⟨S512x256, .f32⟩
  | .hbm, ⟨56, _⟩ => ⟨S_, .f32⟩
  | .hbm, ⟨57, _⟩ => ⟨S512x256, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S_, .f32⟩
  | .hbm, ⟨64, _⟩ => ⟨S512x256, .f32⟩
  | .hbm, ⟨65, _⟩ => ⟨S512x256, .f32⟩
  | .hbm, ⟨66, _⟩ => ⟨S512x256, .f32⟩
  | .hbm, ⟨67, _⟩ => ⟨S_, .f32⟩
  | .hbm, ⟨68, _⟩ => ⟨S512x256, .f32⟩
  | .hbm, ⟨69, _⟩ => ⟨S512x256, .f32⟩
  | .hbm, ⟨70, _⟩ => ⟨S512x256, .f32⟩
  | .hbm, ⟨71, _⟩ => ⟨S_, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S_, .f32⟩
  | .hbm, ⟨76, _⟩ => ⟨S512x256, .f32⟩
  | .hbm, ⟨77, _⟩ => ⟨S512x256, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Oconv.lean ====
abbrev S1x3x1408 : Shape := ⟨3, ![1, 3, 1408]⟩
abbrev S3x1408 : Shape := ⟨2, ![3, 1408]⟩
abbrev S3x1x1408 : Shape := ⟨3, ![3, 1, 1408]⟩

abbrev nBuf : Space → Nat
  | .hbm => 12
  | .vmem => 8
  | .smem => 0
  | _ => 0

abbrev bufTy : (tb : Table) → Fin (tcTables nBuf tb) → BufTy
  | .hbm, ⟨0, _⟩ => ⟨S1x3x1408, .f32⟩
  | .hbm, ⟨1, _⟩ => ⟨S3x1408, .f32⟩
  | .hbm, ⟨2, _⟩ => ⟨S1x3x1408, .f32⟩
  | .hbm, ⟨3, _⟩ => ⟨S1x3x1408, .f32⟩
  | .hbm, ⟨4, _⟩ => ⟨S3x1x1408, .f32⟩
  | .hbm, ⟨5, _⟩ => ⟨S3x1x1408, .f32⟩
  | .hbm, ⟨6, _⟩ => ⟨S3x1x1408, .f32⟩
  | .hbm, ⟨7, _⟩ => ⟨S3x1x1408, .f32⟩
  | .hbm, ⟨8, _⟩ => ⟨S3x1x1408, .f32⟩
  | .hbm, ⟨9, _⟩ => ⟨S3x1x1408, .f32⟩
  | .hbm, ⟨10, _⟩ => ⟨S3x1x1408, .f32⟩
  | .hbm, ⟨11, _⟩ => ⟨S3x1x1408, .f32⟩
  | .local _ .vmem, ⟨0, _⟩ => ⟨S3x1x1408, .f32⟩
  | .local _ .vmem, ⟨1, _⟩ => ⟨S3x1x1408, .f32⟩
  | .local _ .vmem, ⟨2, _⟩ => ⟨S3x1x1408, .f32⟩
  | .local _ .vmem, ⟨3, _⟩ => ⟨S3x1x1408, .f32⟩
  | .local _ .vmem, ⟨4, _⟩ => ⟨S3x1x1408, .f32⟩
  | .local _ .vmem, ⟨5, _⟩ => ⟨S3x1x1408, .f32⟩
  | .local _ .vmem, ⟨6, _⟩ => ⟨S3x1x1408, .f32⟩
  | .local _ .vmem, ⟨7, _⟩ => ⟨S3x1x1408, .f32⟩
  | _, _ => ⟨S1x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x1x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OconvRefIdeal.lean ====
abbrev S1x3x1408 : Shape := ⟨3, ![1, 3, 1408]⟩
abbrev S3x1408 : Shape := ⟨2, ![3, 1408]⟩
abbrev S_ : Shape := ⟨0, ![]⟩
abbrev S3x1x1408 : Shape := ⟨3, ![3, 1, 1408]⟩

abbrev nBuf : Space → Nat
  | .hbm => 43
  | .vmem => 0
  | .smem => 0
  | _ => 0

abbrev bufTy : (tb : Table) → Fin (tcTables nBuf tb) → BufTy
  | .hbm, ⟨0, _⟩ => ⟨S1x3x1408, .f32⟩
  | .hbm, ⟨1, _⟩ => ⟨S3x1408, .f32⟩
  | .hbm, ⟨2, _⟩ => ⟨S1x3x1408, .f32⟩
  | .hbm, ⟨3, _⟩ => ⟨S1x3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S_, .f32⟩
  | .hbm, ⟨11, _⟩ => ⟨S3x1408, .f32⟩
  | .hbm, ⟨12, _⟩ => ⟨S3x1408, .f32⟩
  | .hbm, ⟨13, _⟩ => ⟨S3x1408, .f32⟩
  | .hbm, ⟨14, _⟩ => ⟨S_, .f32⟩
  | .hbm, ⟨15, _⟩ => ⟨S3x1408, .f32⟩
  | .hbm, ⟨16, _⟩ => ⟨S3x1408, .f32⟩
  | .hbm, ⟨17, _⟩ => ⟨S3x1408, .f32⟩
  | .hbm, ⟨18, _⟩ => ⟨S_, .f32⟩
  | .hbm, ⟨19, _⟩ => ⟨S3x1408, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S_, .f32⟩
  | .hbm, ⟨26, _⟩ => ⟨S3x1408, .f32⟩
  | .hbm, ⟨27, _⟩ => ⟨S3x1408, .f32⟩
  | .hbm, ⟨28, _⟩ => ⟨S3x1408, .f32⟩
  | .hbm, ⟨29, _⟩ => ⟨S_, .f32⟩
  | .hbm, ⟨30, _⟩ => ⟨S3x1408, .f32⟩
  | .hbm, ⟨31, _⟩ => ⟨S3x1408, .f32⟩
  | .hbm, ⟨32, _⟩ => ⟨S3x1408, .f32⟩
  | .hbm, ⟨33, _⟩ => ⟨S_, .f32⟩
  | .hbm, ⟨34, _⟩ => ⟨S3x1408, .f32⟩
  | .hbm, ⟨35, _⟩ => ⟨S3x1408, .f32⟩
  | .hbm, ⟨36, _⟩ => ⟨S3x1408, .f32⟩
  | .hbm, ⟨37, _⟩ => ⟨S_, .f32⟩
  | .hbm, ⟨38, _⟩ => ⟨S3x1408, .f32⟩
  | .hbm, ⟨39, _⟩ => ⟨S3x1408, .f32⟩
  | .hbm, ⟨40, _⟩ => ⟨S3x1x1408, .f32⟩
  | .hbm, ⟨41, _⟩ => ⟨S3x1x1408, .f32⟩
  | .hbm, ⟨42, _⟩ => ⟨S3x1x1408, .f32⟩
  | _, _ => ⟨S1x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.Act.Body.lean ====
module

public import proofs.«01_k».proof.Defs
public import proofs.«01_k».proof.Proof.Gen.ActIdeal.Value
public import Idealize.ShloMosaic.Lib.Pipeline.Value
public import Idealize.ShloMosaic.Lib.Tactic

/-! # The activation backward: what one grid point leaves in its buffers

The body of the feed-forward activation backward, read case by case. Case A is the first row tile of a
run (the carried sums are reset), case B a middle one, case C the last one (the weight gradient is
copied out). Each buffer's contents is the body's own payload over the input blocks and what the
point before left. -/

@[expose] public section

set_option maxRecDepth 16384

noncomputable section

open Idealize.ShloMosaic Idealize.ShloMosaic.TcCoe Idealize.SL.Sem

namespace Cert.ActIdeal.Body

open Cert.ActIdeal Cert.ActIdeal.Gen Cert.ActIdeal.Value

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- The carried state: both gradient blocks, the copied-out weight gradient, both bias sums, the weight sum. -/
abbrev St (F : FTy → Type) : Type := Vec F S512x1408 .bf16 × Vec F S512x1408 .bf16 × Vec F S1408x1024 .bf16 × Vec F S1x1408 .f32 × Vec F S1x1408 .f32 × Vec F S1408x1024 .f32

/-- Point `t`'s blocks: of the gate, the value, the cotangent and the down weight. -/
abbrev bG : Vec F S512x1408 .bf16 := iblk m c 0 t
abbrev bV : Vec F S512x1408 .bf16 := iblk m c 1 t
abbrev bC : Vec F S512x1024 .f32 := iblk m c 2 t
abbrev bW : Vec F S1408x1024 .bf16 := iblk m c 3 t

/-- The gate's gradient on one tile. -/
abbrev dG : Vec F S512x1408 .f32 := k0_pay16 (bC m c t) (bG m c t) (bV m c t) (bW m c t)
/-- The value's gradient on one tile. -/
abbrev dV : Vec F S512x1408 .f32 := k0_pay15 (bC m c t) (bG m c t) (bW m c t)
/-- The weight's gradient: one tile's product added to `acc`. -/
abbrev aW (acc : Vec F S1408x1024 .f32) : Vec F S1408x1024 .f32 := k0_pay2 (k0_pay9 (bC m c t)) (k0_pay11 (bV m c t)) (k0_pay13 (bG m c t)) acc

theorem pay17_eq (x2 : Vec F S512x1024 .f32) (x0 x1 : Vec F S512x1408 .bf16) (x3 : Vec F S1408x1024 .bf16) :
    k0_pay17 x2 x0 x1 x3 = truncf .bf16 (k0_pay16 x2 x0 x1 x3) bitsLt_bf16_f32 := by
  unfold k0_pay17; exact shapeCast_self _ _

theorem pay18_eq (x2 : Vec F S512x1024 .f32) (x0 : Vec F S512x1408 .bf16) (x3 : Vec F S1408x1024 .bf16) :
    k0_pay1 (k0_pay18 x2 x0 x3) = truncf .bf16 (k0_pay15 x2 x0 x3) bitsLt_bf16_f32 := by
  unfold k0_pay1 k0_pay18; exact shapeCast_self _ _

theorem pay5_eq (x : Vec F S1408x1024 .f32) : k0_pay5 x = truncf .bf16 x bitsLt_bf16_f32 := by
  unfold k0_pay5; exact shapeCast_self _ _

/-- A run's first tile: both gradient blocks, and the three sums started from the stored zeros. -/
theorem stA (acc : St F) (h0 : t.val % 8 = 0) (h1 : ¬t.val % 8 = 7) :
    (stAt0 m c t.val t.isLt acc).1 = truncf .bf16 (dG m c t) bitsLt_bf16_f32
    ∧ (stAt0 m c t.val t.isLt acc).2.1 = truncf .bf16 (dV m c t) bitsLt_bf16_f32
    ∧ (stAt0 m c t.val t.isLt acc).2.2.2.1 = k0_pay3 (dG m c t) k0_pay7
    ∧ (stAt0 m c t.val t.isLt acc).2.2.2.2.1 = k0_pay4 (dV m c t) k0_pay8
    ∧ (stAt0 m c t.val t.isLt acc).2.2.2.2.2 = aW m c t k0_pay6 := by
  have e := stAt0_A m c t acc h0 h1
  generalize stAt0 m c t.val t.isLt acc = s at e ⊢
  subst e
  dsimp only
  refine ⟨?_, ?_, ?_, ?_, ?_⟩
  on_goal 1 => unfold out0_A_4
  on_goal 1 => rw [View.read_writes_eq_canon _ _ _ (fun y => cover0_A_4 (y := y) ..)]
  on_goal 2 => unfold out0_A_5
  on_goal 2 => rw [View.read_writes_eq_canon _ _ _ (fun y => cover0_A_5 (y := y) ..)]
  on_goal 3 => unfold out0_A_7
  on_goal 3 => rw [View.read_writes_eq_canon _ _ _ (fun y => cover0_A_7 (y := y) ..)]
  on_goal 4 => unfold out0_A_8
  on_goal 4 => rw [View.read_writes_eq_canon _ _ _ (fun y => cover0_A_8 (y := y) ..)]
  on_goal 5 => unfold sout0_A_0
  on_goal 5 => rw [View.read_writes_eq_canon _ _ _ (fun y => scover0_A_0 (y := y) ..)]
  all_goals
    unfold kernelRun0_A
    dsimp only
    sl_unfold_words
    simp only [View.canon_unit_zero (S := S512x1408) hz, View.canon_cons_unit_zero (S := S1x1408) hz, View.canon_cons_unit_zero (S := S1408x1024) hz,
      View.readCov_unit_zero (S := S1x1408) _ hz, View.readCov_unit_zero (S := S1408x1024) _ hz,
      pay17_eq, pay18_eq, pay5_eq, View.readAt_eq_ld, (hs0_0 t).read_unread, (hs0_1 t).read_unread, (hs0_2 t).read_unread, (hs0_3 t).read_unread,
      View.ld_unit_zero (S := S512x1408) hz, View.ld_unit_zero (S := S512x1024) hz, View.ld_unit_zero (S := S1408x1024) hz]

/-- A middle tile: both gradient blocks, and the three sums added to what the tile before left. -/
theorem stB (acc : St F) (h0 : ¬t.val % 8 = 0) (h1 : ¬t.val % 8 = 7) :
    (stAt0 m c t.val t.isLt acc).1 = truncf .bf16 (dG m c t) bitsLt_bf16_f32
    ∧ (stAt0 m c t.val t.isLt acc).2.1 = truncf .bf16 (dV m c t) bitsLt_bf16_f32
    ∧ (stAt0 m c t.val t.isLt acc).2.2.2.1 = k0_pay3 (dG m c t) acc.2.2.2.1
    ∧ (stAt0 m c t.val t.isLt acc).2.2.2.2.1 = k0_pay4 (dV m c t) acc.2.2.2.2.1
    ∧ (stAt0 m c t.val t.isLt acc).2.2.2.2.2 = aW m c t acc.2.2.2.2.2 := by
  have e := stAt0_B m c t acc h0 h1
  generalize stAt0 m c t.val t.isLt acc = s at e ⊢
  subst e
  dsimp only
  refine ⟨?_, ?_, ?_, ?_, ?_⟩
  on_goal 1 => unfold out0_B_4
  on_goal 1 => rw [View.read_writes_eq_canon _ _ _ (fun y => cover0_B_4 (y := y) ..)]
  on_goal 2 => unfold out0_B_5
  on_goal 2 => rw [View.read_writes_eq_canon _ _ _ (fun y => cover0_B_5 (y := y) ..)]
  on_goal 3 => unfold out0_B_7
  on_goal 3 => rw [View.read_writes_eq_canon _ _ _ (fun y => cover0_B_7 (y := y) ..)]
  on_goal 4 => unfold out0_B_8
  on_goal 4 => rw [View.read_writes_eq_canon _ _ _ (fun y => cover0_B_8 (y := y) ..)]
  on_goal 5 => unfold sout0_B_0
  on_goal 5 => rw [View.read_writes_eq_canon _ _ _ (fun y => scover0_B_0 (y := y) ..)]
  all_goals
    unfold kernelRun0_B
    dsimp only
    sl_unfold_words
    simp only [View.canon_unit_zero (S := S512x1408) hz, View.canon_unit_zero (S := S1x1408) hz, View.canon_unit_zero (S := S1408x1024) hz,
      pay17_eq, pay18_eq, pay5_eq, View.readAt_eq_ld, (hs0_0 t).read_unread, (hs0_1 t).read_unread, (hs0_2 t).read_unread, (hs0_3 t).read_unread,
      (hs0_7 t).read_unread, (hs0_8 t).read_unread, (Memref.isWhole_whole _).read_unread,
      View.ld_unit_zero (S := S512x1408) hz, View.ld_unit_zero (S := S512x1024) hz, View.ld_unit_zero (S := S1408x1024) hz,
      View.ld_unit_zero (S := S1x1408) hz]

/-- A run's last tile: as a middle one, and the finished weight gradient copied out. -/
theorem stC (acc : St F) (h0 : ¬t.val % 8 = 0) (h1 : t.val % 8 = 7) :
    (stAt0 m c t.val t.isLt acc).1 = truncf .bf16 (dG m c t) bitsLt_bf16_f32
    ∧ (stAt0 m c t.val t.isLt acc).2.1 = truncf .bf16 (dV m c t) bitsLt_bf16_f32
    ∧ (stAt0 m c t.val t.isLt acc).2.2.1 = truncf .bf16 (aW m c t acc.2.2.2.2.2) bitsLt_bf16_f32
    ∧ (stAt0 m c t.val t.isLt acc).2.2.2.1 = k0_pay3 (dG m c t) acc.2.2.2.1
    ∧ (stAt0 m c t.val t.isLt acc).2.2.2.2.1 = k0_pay4 (dV m c t) acc.2.2.2.2.1
    ∧ (stAt0 m c t.val t.isLt acc).2.2.2.2.2 = aW m c t acc.2.2.2.2.2 := by
  have e := stAt0_C m c t acc h0 h1
  generalize stAt0 m c t.val t.isLt acc = s at e ⊢
  subst e
  dsimp only
  refine ⟨?_, ?_, ?_, ?_, ?_, ?_⟩
  on_goal 1 => unfold out0_C_4
  on_goal 1 => rw [View.read_writes_eq_canon _ _ _ (fun y => cover0_C_4 (y := y) ..)]
  on_goal 2 => unfold out0_C_5
  on_goal 2 => rw [View.read_writes_eq_canon _ _ _ (fun y => cover0_C_5 (y := y) ..)]
  on_goal 3 => unfold out0_C_6
  on_goal 3 => rw [View.read_writes_eq_canon _ _ _ (fun y => cover0_C_6 (y := y) ..)]
  on_goal 4 => unfold out0_C_7
  on_goal 4 => rw [View.read_writes_eq_canon _ _ _ (fun y => cover0_C_7 (y := y) ..)]
  on_goal 5 => unfold out0_C_8
  on_goal 5 => rw [View.read_writes_eq_canon _ _ _ (fun y => cover0_C_8 (y := y) ..)]
  on_goal 6 => unfold sout0_C_0
  on_goal 6 => rw [View.read_writes_eq_canon _ _ _ (fun y => scover0_C_0 (y := y) ..)]
  all_goals
    unfold kernelRun0_C
    dsimp only
    sl_unfold_words
    simp only [View.canon_unit_zero (S := S512x1408) hz, View.canon_unit_zero (S := S1x1408) hz, View.canon_unit_zero (S := S1408x1024) hz,
      View.readCov_unit_zero (S := S1408x1024) _ hz,
      pay17_eq, pay18_eq, pay5_eq, View.readAt_eq_ld, (hs0_0 t).read_unread, (hs0_1 t).read_unread, (hs0_2 t).read_unread, (hs0_3 t).read_unread,
      (hs0_7 t).read_unread, (hs0_8 t).read_unread, (Memref.isWhole_whole _).read_unread,
      View.ld_unit_zero (S := S512x1408) hz, View.ld_unit_zero (S := S512x1024) hz, View.ld_unit_zero (S := S1408x1024) hz,
      View.ld_unit_zero (S := S1x1408) hz]

end Cert.ActIdeal.Body

end
-- ==== Proof.Common.Reals.lean ====
module

public import Idealize.ShloMosaic.Lib.Pointwise
public import Idealize.ShloMosaic.Lib.IdealHost
public import Idealize.ShloMosaic.Lib.Tactic
public import Idealize.ShloMosaic.PureOps.Ideal
public import Idealize.ShloMosaic.PureOps.Ideal.Laws

/-! # Real numbers inside the extended reals

Each value claim is proved on finite arguments, so every intermediate value is a real number. This module
holds the lemmas that carry a computation over the extended reals to the reals, and the two facts on
sums that every accumulating kernel needs: a carried sum over a run of grid points, and a sum over
tiles of rows. -/

@[expose] public section

set_option maxRecDepth 16384

noncomputable section

open Idealize.ShloMosaic Idealize.ShloMosaic.TcCoe Idealize.SL.Sem

namespace Cert.Reals

/-- A finite sum of reals, taken in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over a finite index set of a function of the index's number, as a sum over a range. -/
theorem coe_sum_fin (n : ℕ) (f : ℕ → ℝ) :
    ∑ i : Fin n, ((f i.val : ℝ) : EReal) = ((∑ i ∈ Finset.range n, f i : ℝ) : EReal) := by
  rw [coe_sum, Fin.sum_univ_eq_sum_range]

theorem exp_coe (x : ℝ) : Ideal.exp (x : EReal) = ((Real.exp x : ℝ) : EReal) := rfl

theorem tanh_coe (x : ℝ) : Ideal.tanh (x : EReal) = ((Real.tanh x : ℝ) : EReal) := rfl

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem rsqrt_coe (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg hx.le.not_gt, if_neg hx.ne']

/-- The logistic function. -/
def logi (x : ℝ) : ℝ := 1 / (1 + Real.exp (-x))

theorem logi_coe (x : ℝ) : Ideal.div ((1 : ℝ) : EReal) (((1 + Real.exp (-x) : ℝ)) : EReal) = ((logi x : ℝ) : EReal) :=
  div_coe _ _ (by positivity)

/-- The logistic function as the kernels write it. -/
theorem logi_at (x : ℝ) : Ideal.div 1 (1 + Ideal.exp (0 - (x : EReal))) = ((logi x : ℝ) : EReal) := by
  rw [zero_sub, ← EReal.coe_neg, exp_coe, ← EReal.coe_one, ← EReal.coe_add]
  exact logi_coe x

/-- A value whose absolute value is below infinity is a real number. -/
theorem eq_coe_of_finite (x : EReal)
    (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have h' : max x (-x) < ⊤ := by
    by_contra hn
    simp [Ideal.cmp, hn] at h
  refine (EReal.coe_toReal ?_ ?_).symm
  · rintro rfl; simp at h'
  · rintro rfl; simp at h'

/-- A two-axis array of extended reals read as real numbers at a pair of naturals (zero outside). -/
def rd {a b : ℕ} (x : (⟨2, ![a, b]⟩ : Shape).Idx → EReal) (r f : ℕ) : ℝ :=
  if h : r < a ∧ f < b then (x (ix2 ⟨r, h.1⟩ ⟨f, h.2⟩)).toReal else 0

/-- A finite array is its real reading. -/
theorem rd_eq {a b : ℕ} (x : (⟨2, ![a, b]⟩ : Shape).Idx → EReal)
    (h : ∀ i, Ideal.cmp .olt (max (x i) (-(x i))) (Ideal.ofBits .f32 0x7F800000#32) = 1#1)
    (r : Fin a) (f : Fin b) : x (ix2 r f) = ((rd x r.val f.val : ℝ) : EReal) := by
  unfold rd
  rw [dif_pos ⟨r.isLt, f.isLt⟩]
  exact eq_coe_of_finite _ (h _)

/-- A two-axis array read at a pair of naturals (zero outside). -/
def at2 {a b : ℕ} (x : (⟨2, ![a, b]⟩ : Shape).Idx → EReal) (r f : ℕ) : EReal :=
  if h : r < a ∧ f < b then x (ix2 ⟨r, h.1⟩ ⟨f, h.2⟩) else 0

theorem at2_eq {a b : ℕ} (x : (⟨2, ![a, b]⟩ : Shape).Idx → EReal) (r : Fin a) (f : Fin b) : at2 x r.val f.val = x (ix2 r f) := by
  unfold at2
  rw [dif_pos ⟨r.isLt, f.isLt⟩]

/-- A statement about every index of a matrix is one about every row and column. -/
theorem all2 {a b : ℕ} {P : (⟨2, ![a, b]⟩ : Shape).Idx → Prop} (h : ∀ r f, P (ix2 r f)) (x : (⟨2, ![a, b]⟩ : Shape).Idx) : P x := by
  have e : x = ix2 (x 0) (x 1) := funext fun i => by match i with | ⟨0, _⟩ => rfl | ⟨1, _⟩ => rfl
  rw [e]
  exact h _ _

/-- Two arrays of two axes are equal when they are equal at every pair of indices. -/
theorem ext2 {a b : ℕ} {M : Type*} {x y : (⟨2, ![a, b]⟩ : Shape).Idx → M} (h : ∀ r f, x (ix2 r f) = y (ix2 r f)) : x = y := by
  funext i
  have e : i = ix2 (i 0) (i 1) := funext fun k => by match k with | ⟨0, _⟩ => rfl | ⟨1, _⟩ => rfl
  rw [e]
  exact h _ _

/-- Index `(p, f)` of a range of columns from `o` on, all rows of it, is index `(p, o + f)` of the matrix. -/
theorem unit_emb2 {a b w o : ℕ} (inb : ∀ i, (![0, o] : Fin 2 → ℕ) i + (![a, w] : Fin 2 → ℕ) i ≤ (⟨2, ![a, b]⟩ : Shape).size i)
    (p : Fin a) (f : Fin w) (h : o + f.val < b) :
    (Rect.unit (s := ⟨2, ![a, b]⟩) ![0, o] ![a, w] inb).emb (ix2 p f) = ix2 p ⟨o + f.val, h⟩ :=
  funext fun i => Fin.ext <| by
    match i with
    | ⟨0, _⟩ => show 0 + 1 * p.val = p.val; omega
    | ⟨1, _⟩ => show o + 1 * f.val = o + f.val; omega

/-- Index `(p, f)` of a range of rows from `o` on is index `(o + p, f)` of the matrix. -/
theorem rows_emb2 {a b k o : ℕ} (inb : ∀ i, (![o, 0] : Fin 2 → ℕ) i + (![k, b] : Fin 2 → ℕ) i ≤ (⟨2, ![a, b]⟩ : Shape).size i)
    (p : Fin k) (f : Fin b) (h : o + p.val < a) :
    (Rect.unit (s := ⟨2, ![a, b]⟩) ![o, 0] ![k, b] inb).emb (ix2 p f) = ix2 ⟨o + p.val, h⟩ f :=
  funext fun i => Fin.ext <| by
    match i with
    | ⟨0, _⟩ => show o + 1 * p.val = o + p.val; omega
    | ⟨1, _⟩ => show 0 + 1 * f.val = f.val; omega

/-- A range of rows holds the indices of those rows. -/
theorem rows_mem2 {a b k o : ℕ} (inb : ∀ i, (![o, 0] : Fin 2 → ℕ) i + (![k, b] : Fin 2 → ℕ) i ≤ (⟨2, ![a, b]⟩ : Shape).size i)
    (p : Fin a) (f : Fin b) (h0 : o ≤ p.val) (h1 : p.val < o + k) : ix2 p f ∈ (Rect.unit (s := ⟨2, ![a, b]⟩) ![o, 0] ![k, b] inb).set := by
  refine (Rect.mem_set_unit (inb := inb)).mpr fun i => ?_
  match i with
  | ⟨0, _⟩ => exact ⟨h0, h1⟩
  | ⟨1, _⟩ => exact ⟨Nat.zero_le _, by show f.val < 0 + b; omega⟩

/-- A statement about every index of an array of three axes is one about every triple. -/
theorem all3 {a b c : ℕ} {P : (⟨3, ![a, b, c]⟩ : Shape).Idx → Prop} (h : ∀ q r f, P (ix3 q r f)) (x : (⟨3, ![a, b, c]⟩ : Shape).Idx) : P x := by
  have e : x = ix3 (x 0) (x 1) (x 2) := funext fun i => by match i with | ⟨0, _⟩ => rfl | ⟨1, _⟩ => rfl | ⟨2, _⟩ => rfl
  rw [e]
  exact h _ _ _

/-- Two arrays of three axes are equal when they are equal at every triple of indices. -/
theorem ext3 {a b c : ℕ} {M : Type*} {x y : (⟨3, ![a, b, c]⟩ : Shape).Idx → M} (h : ∀ q r f, x (ix3 q r f) = y (ix3 q r f)) : x = y :=
  funext (all3 (P := fun i => x i = y i) h)

/-- Slice `o` of an array of three axes: index `(0, p, f)` of the slice is index `(o, p, f)` of the array. -/
theorem unit_emb3 {n a b o : ℕ} (inb : ∀ i, (![o, 0, 0] : Fin 3 → ℕ) i + (![1, a, b] : Fin 3 → ℕ) i ≤ (⟨3, ![n, a, b]⟩ : Shape).size i)
    (u : Fin 1) (p : Fin a) (f : Fin b) :
    (Rect.unit (s := ⟨3, ![n, a, b]⟩) ![o, 0, 0] ![1, a, b] inb).emb (ix3 u p f) = ix3 ⟨o, Nat.lt_of_succ_le (inb 0)⟩ p f :=
  funext fun i => Fin.ext <| by
    match i with
    | ⟨0, _⟩ => show o + 1 * u.val = o; omega
    | ⟨1, _⟩ => show 0 + 1 * p.val = p.val; omega
    | ⟨2, _⟩ => show 0 + 1 * f.val = f.val; omega

/-- An index whose first coordinate is `o` lies in slice `o`. -/
theorem slice_mem3 {n a b o : ℕ} (inb : ∀ i, (![o, 0, 0] : Fin 3 → ℕ) i + (![1, a, b] : Fin 3 → ℕ) i ≤ (⟨3, ![n, a, b]⟩ : Shape).size i)
    (h : o < n) (p : Fin a) (f : Fin b) :
    (ix3 ⟨o, h⟩ p f : (⟨3, ![n, a, b]⟩ : Shape).Idx) ∈ (Rect.unit (s := ⟨3, ![n, a, b]⟩) ![o, 0, 0] ![1, a, b] inb).set := by
  have e := unit_emb3 inb 0 p f
  exact e ▸ LoadRect.idx_mem _ _

/-- A sum over `n` tiles of `k` rows is the sum over all rows. -/
theorem sum_tiles {M : Type*} [AddCommMonoid M] (n k : ℕ) (f : ℕ → M) :
    ∑ i ∈ Finset.range n, ∑ a ∈ Finset.range k, f (k * i + a) = ∑ r ∈ Finset.range (k * n), f r := by
  induction n with
  | zero => simp
  | succ n ih => rw [Finset.sum_range_succ, ih, Nat.mul_succ, Finset.sum_range_add]

/-- The same with each tile's rows indexed by a finite type. -/
theorem sum_tiles_fin {M : Type*} [AddCommMonoid M] (n k : ℕ) (f : ℕ → M) :
    ∑ i ∈ Finset.range n, ∑ a : Fin k, f (k * i + a.val) = ∑ r : Fin (k * n), f r.val := by
  rw [← Finset.sum_range (fun r => f r), ← sum_tiles]
  exact Finset.sum_congr rfl fun i _ => (Finset.sum_range (fun a => f (k * i + a))).symm

/-- A sum over the projection's 3840 features: the first 1024, the next 768 and the last 2048. -/
theorem sum_three (f : ℕ → ℝ) :
    ∑ e : Fin 3840, f e.val = (∑ e : Fin 1024, f e.val) + (∑ e : Fin 768, f (1024 + e.val)) + ∑ e : Fin 2048, f (1792 + e.val) := by
  rw [← Finset.sum_range, ← Finset.sum_range, ← Finset.sum_range (fun e => f (1024 + e)), ← Finset.sum_range (fun e => f (1792 + e)),
    show 3840 = 1024 + 768 + 2048 by norm_num, Finset.sum_range_add, Finset.sum_range_add]

/-- `p` terms `g`, each a tile's sum of reals: the sum over all the rows. -/
theorem run_tiles (p k : ℕ) (g : ℕ → EReal) (f : ℕ → ℝ)
    (hg : ∀ i, i < p → g i = ((∑ a : Fin k, f (k * i + a.val) : ℝ) : EReal)) :
    ∑ i ∈ Finset.range p, g i = ((∑ r : Fin (k * p), f r.val : ℝ) : EReal) := by
  rw [← sum_tiles_fin, ← coe_sum]
  exact Finset.sum_congr rfl fun i hi => hg i (Finset.mem_range.mp hi)

/-- A sequence restarted at each multiple of `p` and otherwise growing by `g`: its value is the sum of `g` over the
    run so far. -/
theorem run_sum {M : Type*} [AddCommMonoid M] {N : ℕ} (p : ℕ) (hp : 0 < p) (s : (n : ℕ) → n < N → M) (g : ℕ → M)
    (h0 : ∀ n h, n % p = 0 → s n h = g n)
    (hs : ∀ n h, ¬(n + 1) % p = 0 → s (n + 1) h = s n (Nat.lt_of_succ_lt h) + g (n + 1)) :
    ∀ n h, s n h = ∑ k ∈ Finset.range (n % p + 1), g (n / p * p + k)
  | 0, h => by rw [h0 0 h (Nat.zero_mod p)]; simp
  | n + 1, h => by
    by_cases hn : (n + 1) % p = 0
    · rw [h0 _ h hn, hn]
      have := Nat.div_add_mod (n + 1) p
      rw [hn, mul_comm] at this
      simp only [zero_add, Finset.range_one, Finset.sum_singleton]
      rw [this]
    · rw [hs n h hn, run_sum p hp s g h0 hs n]
      have hd : (n + 1) / p = n / p := by
        rw [Nat.succ_div, if_neg (fun hdv => hn (Nat.mod_eq_zero_of_dvd hdv)), add_zero]
      have hm : (n + 1) % p = n % p + 1 := by
        have e1 := Nat.div_add_mod (n + 1) p
        have e2 := Nat.div_add_mod n p
        rw [hd] at e1
        omega
      rw [hd, hm, Finset.sum_range_succ _ (n % p + 1)]
      congr 2
      have e2 := Nat.div_add_mod n p
      rw [mul_comm] at e2
      omega

end Cert.Reals

end
-- ==== Proof.Act.Reads.lean ====
module

public import proofs.«01_k».proof.Proof.Act.Body
public import proofs.«01_k».proof.Proof.Common.Reals
public import Idealize.ShloMosaic.Lib.Pointwise
public import Idealize.ShloMosaic.Lib.IdealHost

/-! # The activation backward: its blocks and payloads as real numbers -/

@[expose] public section

set_option maxRecDepth 16384

noncomputable section

open Idealize.ShloMosaic Idealize.ShloMosaic.TcCoe Idealize.SL.Sem

namespace Cert.ActIdeal.Reads

open Cert.ActIdeal Cert.ActIdeal.Gen Cert.ActIdeal.Value Cert.ActIdeal.Body Cert.Reals

variable (m : (ℓ : Loc nD τ sig) → Buf (Elt Ideal) ℓ) (c : Dev nD) (t : Fin cfg0.N)

/-- The grid's block indices: row tile `t % 8`, feature half `t / 8`. -/
theorem index_facts : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = t.val / 8)
    ∧ (win0_2.index t (0 : Fin 2) = t.val % 8 ∧ win0_2.index t (1 : Fin 2) = 0)
    ∧ (win0_3.index t (0 : Fin 2) = t.val / 8 ∧ win0_3.index t (1 : Fin 2) = 0) :=
  (by decide +kernel : ∀ t : Fin grid0.N, _)

/-- The gate, from the convolution's output and its bias. -/
def gate (Y B : ℕ → ℕ → ℝ) (r f : ℕ) : ℝ := Y r f + B 0 f
/-- The value: the other half of the features. -/
def val (Y B : ℕ → ℕ → ℝ) (r f : ℕ) : ℝ := Y r (2816 + f) + B 0 (2816 + f)
/-- The activation's cotangent: the cotangent times the down weight, transposed. -/
def dact (W C : ℕ → ℕ → ℝ) (r f : ℕ) : ℝ := ∑ d : Fin 1024, C r d.val * W f d.val
/-- The gate's gradient. -/
def dgate (Y B W C : ℕ → ℕ → ℝ) (r f : ℕ) : ℝ :=
  dact W C r f * val Y B r f * (logi (gate Y B r f) * (1 + gate Y B r f * (1 - logi (gate Y B r f))))
/-- The value's gradient. -/
def dval (Y B W C : ℕ → ℕ → ℝ) (r f : ℕ) : ℝ := dact W C r f * (gate Y B r f * logi (gate Y B r f))
/-- The activation. -/
def act (Y B : ℕ → ℕ → ℝ) (r f : ℕ) : ℝ := gate Y B r f * logi (gate Y B r f) * val Y B r f

/-- The program's four arguments hold the reals `Y`, `B`, `W` and `C`. -/
structure Args (m : (ℓ : Loc nD τ sig) → Buf (Elt Ideal) ℓ) (c : Dev nD) (Y B W C : ℕ → ℕ → ℝ) : Prop where
  y : ∀ r f, (m ((c : Thread nD τ).loc main_arg0) : S4096x5632.Idx → EReal) (ix2 r f) = (Y r.val f.val : EReal)
  b : ∀ r f, (m ((c : Thread nD τ).loc main_arg1) : S1x5632.Idx → EReal) (ix2 r f) = (B r.val f.val : EReal)
  w : ∀ r f, (m ((c : Thread nD τ).loc main_arg2) : S2816x1024.Idx → EReal) (ix2 r f) = (W r.val f.val : EReal)
  ct : ∀ r f, (m ((c : Thread nD τ).loc main_arg3) : S4096x1024.Idx → EReal) (ix2 r f) = (C r.val f.val : EReal)

variable {m c} {Y B W C : ℕ → ℕ → ℝ} (h : Args m c Y B W C)
include h

theorem V_gate (r : Fin 4096) (f : Fin 2816) :
    (V m c main_v4 : S4096x2816.Idx → EReal) (ix2 r f) = ((gate Y B r.val f.val : ℝ) : EReal) := by
  unfold V
  after_results
  pointwise
  exact (congrArg₂ (fun u v : EReal => u + v) (h.y _ _) (h.b _ _)).trans (EReal.coe_add _ _).symm

theorem V_val (r : Fin 4096) (f : Fin 2816) :
    (V m c main_v5 : S4096x2816.Idx → EReal) (ix2 r f) = ((val Y B r.val f.val : ℝ) : EReal) := by
  unfold V
  after_results
  pointwise
  exact (congrArg₂ (fun u v : EReal => u + v) (h.y _ _) (h.b _ _)).trans (EReal.coe_add _ _).symm

theorem V_w (r : Fin 2816) (f : Fin 1024) :
    (V m c main_v6 : S2816x1024.Idx → EReal) (ix2 r f) = ((W r.val f.val : ℝ) : EReal) := by
  unfold V
  after_results
  exact h.w r f

theorem V_ct (r : Fin 4096) (f : Fin 1024) :
    (V m c main_arg3 : S4096x1024.Idx → EReal) (ix2 r f) = ((C r.val f.val : ℝ) : EReal) := by
  rw [V_main_arg3]
  exact h.ct r f

theorem bG_at (a : Fin 512) (b : Fin 1408) :
    bG m c t (ix2 a b) = ((gate Y B (512 * (t.val % 8) + a.val) (1408 * (t.val / 8) + b.val) : ℝ) : EReal) := by
  have hN : t.val < 16 := lt_of_lt_of_eq t.isLt N_0
  obtain ⟨⟨e0, e1⟩, -, -, -⟩ := index_facts t
  refine Eq.trans ?_ (V_gate h ⟨512 * (t.val % 8) + a.val, by omega⟩ ⟨1408 * (t.val / 8) + b.val, by omega⟩)
  refine congrArg (V m c main_v4 : S4096x2816.Idx → EReal) (funext fun x => Fin.ext ?_)
  match x with
  | ⟨0, _⟩ => show win0_0.index t (0 : Fin 2) * 512 + 1 * a.val = _; rw [e0]; show _ = 512 * (t.val % 8) + a.val; omega
  | ⟨1, _⟩ => show win0_0.index t (1 : Fin 2) * 1408 + 1 * b.val = _; rw [e1]; show _ = 1408 * (t.val / 8) + b.val; omega

theorem bV_at (a : Fin 512) (b : Fin 1408) :
    bV m c t (ix2 a b) = ((val Y B (512 * (t.val % 8) + a.val) (1408 * (t.val / 8) + b.val) : ℝ) : EReal) := by
  have hN : t.val < 16 := lt_of_lt_of_eq t.isLt N_0
  obtain ⟨-, ⟨e0, e1⟩, -, -⟩ := index_facts t
  refine Eq.trans ?_ (V_val h ⟨512 * (t.val % 8) + a.val, by omega⟩ ⟨1408 * (t.val / 8) + b.val, by omega⟩)
  refine congrArg (V m c main_v5 : S4096x2816.Idx → EReal) (funext fun x => Fin.ext ?_)
  match x with
  | ⟨0, _⟩ => show win0_1.index t (0 : Fin 2) * 512 + 1 * a.val = _; rw [e0]; show _ = 512 * (t.val % 8) + a.val; omega
  | ⟨1, _⟩ => show win0_1.index t (1 : Fin 2) * 1408 + 1 * b.val = _; rw [e1]; show _ = 1408 * (t.val / 8) + b.val; omega

theorem bC_at (a : Fin 512) (d : Fin 1024) :
    bC m c t (ix2 a d) = ((C (512 * (t.val % 8) + a.val) d.val : ℝ) : EReal) := by
  have hN : t.val < 16 := lt_of_lt_of_eq t.isLt N_0
  obtain ⟨-, -, ⟨e0, e1⟩, -⟩ := index_facts t
  refine Eq.trans ?_ (V_ct h ⟨512 * (t.val % 8) + a.val, by omega⟩ d)
  refine congrArg (V m c main_arg3 : S4096x1024.Idx → EReal) (funext fun x => Fin.ext ?_)
  match x with
  | ⟨0, _⟩ => show win0_2.index t (0 : Fin 2) * 512 + 1 * a.val = _; rw [e0]; show _ = 512 * (t.val % 8) + a.val; omega
  | ⟨1, _⟩ => show win0_2.index t (1 : Fin 2) * 1024 + 1 * d.val = _; rw [e1]; show _ = d.val; omega

theorem bW_at (b : Fin 1408) (d : Fin 1024) :
    bW m c t (ix2 b d) = ((W (1408 * (t.val / 8) + b.val) d.val : ℝ) : EReal) := by
  have hN : t.val < 16 := lt_of_lt_of_eq t.isLt N_0
  obtain ⟨-, -, -, e0, e1⟩ := index_facts t
  refine Eq.trans ?_ (V_w h ⟨1408 * (t.val / 8) + b.val, by omega⟩ d)
  refine congrArg (V m c main_v6 : S2816x1024.Idx → EReal) (funext fun x => Fin.ext ?_)
  match x with
  | ⟨0, _⟩ => show win0_3.index t (0 : Fin 2) * 1408 + 1 * b.val = _; rw [e0]; show _ = 1408 * (t.val / 8) + b.val; omega
  | ⟨1, _⟩ => show win0_3.index t (1 : Fin 2) * 1024 + 1 * d.val = _; rw [e1]; show _ = d.val; omega

/-- One tile of the gate's gradient. -/
theorem dG_at (a : Fin 512) (b : Fin 1408) :
    dG m c t (ix2 a b) = ((dgate Y B W C (512 * (t.val % 8) + a.val) (1408 * (t.val / 8) + b.val) : ℝ) : EReal) := by
  pointwise [k0_pay16, k0_pay14, k0_pay11, k0_pay12, k0_pay10, k0_pay9]
  simp only [bG_at t h, bV_at t h, bC_at t h, bW_at t h, logi_at]
  simp only [← EReal.coe_mul, ← EReal.coe_one, ← EReal.coe_sub, ← EReal.coe_add, coe_sum]
  rfl

/-- One tile of the value's gradient. -/
theorem dV_at (a : Fin 512) (b : Fin 1408) :
    dV m c t (ix2 a b) = ((dval Y B W C (512 * (t.val % 8) + a.val) (1408 * (t.val / 8) + b.val) : ℝ) : EReal) := by
  pointwise [k0_pay15, k0_pay14, k0_pay13, k0_pay12, k0_pay10, k0_pay9]
  simp only [bG_at t h, bV_at t h, bC_at t h, bW_at t h, logi_at, ← EReal.coe_mul, coe_sum]
  rfl

/-- One tile's part of the weight gradient. -/
theorem aW_at (acc : Vec Ideal S1408x1024 .f32) (p : Fin 1408) (d : Fin 1024) :
    aW m c t acc (ix2 p d) = acc (ix2 p d) + ((∑ a : Fin 512, act Y B (512 * (t.val % 8) + a.val) (1408 * (t.val / 8) + p.val)
      * C (512 * (t.val % 8) + a.val) d.val : ℝ) : EReal) := by
  pointwise [k0_pay2, k0_pay13, k0_pay12, k0_pay11, k0_pay10, k0_pay9]
  simp only [bG_at t h, bV_at t h, bC_at t h, bW_at t h, logi_at, ← EReal.coe_mul, coe_sum]
  rfl

/-- One tile's part of the gate bias's gradient. -/
theorem pay3_at (acc : Vec Ideal S1x1408 .f32) (z : Fin 1) (b : Fin 1408) :
    k0_pay3 (dG m c t) acc (ix2 z b) = acc (ix2 z b)
      + ((∑ a : Fin 512, dgate Y B W C (512 * (t.val % 8) + a.val) (1408 * (t.val / 8) + b.val) : ℝ) : EReal) := by
  generalize hx : dG m c t = x
  pointwise [k0_pay3]
  subst hx
  simp only [dG_at t h, coe_sum]

/-- One tile's part of the value bias's gradient. -/
theorem pay4_at (acc : Vec Ideal S1x1408 .f32) (z : Fin 1) (b : Fin 1408) :
    k0_pay4 (dV m c t) acc (ix2 z b) = acc (ix2 z b)
      + ((∑ a : Fin 512, dval Y B W C (512 * (t.val % 8) + a.val) (1408 * (t.val / 8) + b.val) : ℝ) : EReal) := by
  generalize hx : dV m c t = x
  pointwise [k0_pay4]
  subst hx
  simp only [dV_at t h, coe_sum]

end Cert.ActIdeal.Reads

end
-- ==== Proof.Act.Result.lean ====
module

public import proofs.«01_k».proof.Proof.Act.Reads

/-! # The activation backward: what its five result arrays end holding -/

@[expose] public section

set_option maxRecDepth 16384

noncomputable section

open Idealize.ShloMosaic Idealize.ShloMosaic.TcCoe Idealize.SL.Sem

namespace Cert.ActIdeal.Result

open Cert.ActIdeal Cert.ActIdeal.Gen Cert.ActIdeal.Value Cert.ActIdeal.Body Cert.ActIdeal.Reads Cert.Reals

variable {m : (ℓ : Loc nD τ sig) → Buf (Elt Ideal) ℓ} {c : Dev nD}

/-- What a point leaves is its step over some earlier state, the point before's when there is one. -/
theorem outs_step (n : ℕ) (hn : n < cfg0.N) : ∃ acc, outsAt0 m c n hn = stAt0 m c n hn acc := by
  cases n with
  | zero => exact ⟨_, outsAt0_zero m c hn⟩
  | succ n => exact ⟨_, outsAt0_succ m c n hn⟩

variable {Y B W C : ℕ → ℕ → ℝ} (h : Args m c Y B W C)
include h

/-- Every point leaves its tile of the gate's gradient. -/
theorem outs_dg (n : ℕ) (hn : n < cfg0.N) (a : Fin 512) (b : Fin 1408) :
    (outsAt0 m c n hn).1 (ix2 a b) = ((dgate Y B W C (512 * (n % 8) + a.val) (1408 * (n / 8) + b.val) : ℝ) : EReal) := by
  obtain ⟨acc, e⟩ := outs_step (m := m) (c := c) n hn
  rw [e]
  refine Eq.trans (congrFun ?_ _) (dG_at ⟨n, hn⟩ h a b)
  by_cases h0 : n % 8 = 0
  · exact (stA m c ⟨n, hn⟩ acc h0 (by dsimp only; omega)).1
  · by_cases h1 : n % 8 = 7
    · exact (stC m c ⟨n, hn⟩ acc h0 h1).1
    · exact (stB m c ⟨n, hn⟩ acc h0 h1).1

/-- Every point leaves its tile of the value's gradient. -/
theorem outs_dv (n : ℕ) (hn : n < cfg0.N) (a : Fin 512) (b : Fin 1408) :
    (outsAt0 m c n hn).2.1 (ix2 a b) = ((dval Y B W C (512 * (n % 8) + a.val) (1408 * (n / 8) + b.val) : ℝ) : EReal) := by
  obtain ⟨acc, e⟩ := outs_step (m := m) (c := c) n hn
  rw [e]
  refine Eq.trans (congrFun ?_ _) (dV_at ⟨n, hn⟩ h a b)
  by_cases h0 : n % 8 = 0
  · exact (stA m c ⟨n, hn⟩ acc h0 (by dsimp only; omega)).2.1
  · by_cases h1 : n % 8 = 7
    · exact (stC m c ⟨n, hn⟩ acc h0 h1).2.1
    · exact (stB m c ⟨n, hn⟩ acc h0 h1).2.1

/-- The gate bias's sum so far. -/
theorem outs_gbg (b : Fin 1408) : ∀ (n : ℕ) (hn : n < cfg0.N), (outsAt0 m c n hn).2.2.2.1 (ix2 0 b)
    = ∑ k ∈ Finset.range (n % 8 + 1), ((∑ a : Fin 512, dgate Y B W C (512 * ((n / 8 * 8 + k) % 8) + a.val) (1408 * ((n / 8 * 8 + k) / 8) + b.val) : ℝ) : EReal) := by
  refine run_sum 8 (by decide) (fun n hn => (outsAt0 m c n hn).2.2.2.1 (ix2 0 b))
    (fun n => ((∑ a : Fin 512, dgate Y B W C (512 * (n % 8) + a.val) (1408 * (n / 8) + b.val) : ℝ) : EReal)) (fun n hn h0 => ?_) (fun n hn h0 => ?_)
  · obtain ⟨acc, e⟩ := outs_step (m := m) (c := c) n hn
    rw [e, (stA m c ⟨n, hn⟩ acc h0 (by dsimp only; omega)).2.2.1, pay3_at ⟨n, hn⟩ h]
    pointwise [k0_pay7]
  · rw [outsAt0_succ]
    by_cases h1 : (n + 1) % 8 = 7
    · rw [(stC m c ⟨n + 1, hn⟩ _ h0 h1).2.2.2.1, pay3_at ⟨n + 1, hn⟩ h]
    · rw [(stB m c ⟨n + 1, hn⟩ _ h0 h1).2.2.1, pay3_at ⟨n + 1, hn⟩ h]

/-- The value bias's sum so far. -/
theorem outs_gbv (b : Fin 1408) : ∀ (n : ℕ) (hn : n < cfg0.N), (outsAt0 m c n hn).2.2.2.2.1 (ix2 0 b)
    = ∑ k ∈ Finset.range (n % 8 + 1), ((∑ a : Fin 512, dval Y B W C (512 * ((n / 8 * 8 + k) % 8) + a.val) (1408 * ((n / 8 * 8 + k) / 8) + b.val) : ℝ) : EReal) := by
  refine run_sum 8 (by decide) (fun n hn => (outsAt0 m c n hn).2.2.2.2.1 (ix2 0 b))
    (fun n => ((∑ a : Fin 512, dval Y B W C (512 * (n % 8) + a.val) (1408 * (n / 8) + b.val) : ℝ) : EReal)) (fun n hn h0 => ?_) (fun n hn h0 => ?_)
  · obtain ⟨acc, e⟩ := outs_step (m := m) (c := c) n hn
    rw [e, (stA m c ⟨n, hn⟩ acc h0 (by dsimp only; omega)).2.2.2.1, pay4_at ⟨n, hn⟩ h]
    pointwise [k0_pay8]
  · rw [outsAt0_succ]
    by_cases h1 : (n + 1) % 8 = 7
    · rw [(stC m c ⟨n + 1, hn⟩ _ h0 h1).2.2.2.2.1, pay4_at ⟨n + 1, hn⟩ h]
    · rw [(stB m c ⟨n + 1, hn⟩ _ h0 h1).2.2.2.1, pay4_at ⟨n + 1, hn⟩ h]

/-- The weight's sum so far. -/
theorem outs_sum (p : Fin 1408) (d : Fin 1024) : ∀ (n : ℕ) (hn : n < cfg0.N), (outsAt0 m c n hn).2.2.2.2.2 (ix2 p d)
    = ∑ k ∈ Finset.range (n % 8 + 1), ((∑ a : Fin 512, act Y B (512 * ((n / 8 * 8 + k) % 8) + a.val) (1408 * ((n / 8 * 8 + k) / 8) + p.val)
      * C (512 * ((n / 8 * 8 + k) % 8) + a.val) d.val : ℝ) : EReal) := by
  refine run_sum 8 (by decide) (fun n hn => (outsAt0 m c n hn).2.2.2.2.2 (ix2 p d))
    (fun n => ((∑ a : Fin 512, act Y B (512 * (n % 8) + a.val) (1408 * (n / 8) + p.val) * C (512 * (n % 8) + a.val) d.val : ℝ) : EReal))
    (fun n hn h0 => ?_) (fun n hn h0 => ?_)
  · obtain ⟨acc, e⟩ := outs_step (m := m) (c := c) n hn
    rw [e, (stA m c ⟨n, hn⟩ acc h0 (by dsimp only; omega)).2.2.2.2, aW_at ⟨n, hn⟩ h]
    pointwise [k0_pay6]
  · rw [outsAt0_succ]
    by_cases h1 : (n + 1) % 8 = 7
    · rw [(stC m c ⟨n + 1, hn⟩ _ h0 h1).2.2.2.2.2, aW_at ⟨n + 1, hn⟩ h]
    · rw [(stB m c ⟨n + 1, hn⟩ _ h0 h1).2.2.2.2, aW_at ⟨n + 1, hn⟩ h]

/-- A run's last point copies the weight's sum out. -/
theorem outs_gw (n : ℕ) (hn : n < cfg0.N) (h1 : n % 8 = 7) : (outsAt0 m c n hn).2.2.1 = (outsAt0 m c n hn).2.2.2.2.2 := by
  obtain ⟨acc, e⟩ := outs_step (m := m) (c := c) n hn
  rw [e]
  have := stC m c ⟨n, hn⟩ acc (by dsimp only; omega) h1
  exact this.2.2.1.trans this.2.2.2.2.2.symm

/-- The first result: the gate's gradient. -/
theorem G4_at (r : Fin 4096) (f : Fin 2816) : G4 m c (ix2 r f) = ((dgate Y B W C r.val f.val : ℝ) : EReal) := by
  have hN : cfg0.N = 16 := N_0
  have hp : pt4Of (ix2 r f) = 1 * (r.val / 512 - 0) + 8 * (f.val / 1408 - 0) := rfl
  have hl : pt4Of (ix2 r f) < cfg0.N := by omega
  unfold G4
  rw [dif_pos hl, ← outsAt0_sweep m c _ hl]
  rw [show loc4Of (ix2 r f) = ix2 ⟨r.val % 512, by omega⟩ ⟨f.val % 1408, by omega⟩ from
    funext fun a => by match a with | ⟨0, _⟩ => rfl | ⟨1, _⟩ => rfl]
  refine (outs_dg h _ hl _ _).trans ?_
  rw [hp]
  congr 2 <;> (dsimp only; omega)

/-- The second result: the value's gradient. -/
theorem G5_at (r : Fin 4096) (f : Fin 2816) : G5 m c (ix2 r f) = ((dval Y B W C r.val f.val : ℝ) : EReal) := by
  have hN : cfg0.N = 16 := N_0
  have hp : pt5Of (ix2 r f) = 1 * (r.val / 512 - 0) + 8 * (f.val / 1408 - 0) := rfl
  have hl : pt5Of (ix2 r f) < cfg0.N := by omega
  unfold G5
  rw [dif_pos hl, ← outsAt0_sweep m c _ hl]
  rw [show loc5Of (ix2 r f) = ix2 ⟨r.val % 512, by omega⟩ ⟨f.val % 1408, by omega⟩ from
    funext fun a => by match a with | ⟨0, _⟩ => rfl | ⟨1, _⟩ => rfl]
  refine (outs_dv h _ hl _ _).trans ?_
  rw [hp]
  congr 2 <;> (dsimp only; omega)

/-- The third result: the down projection's weight gradient. -/
theorem G6_at (f : Fin 2816) (d : Fin 1024) :
    G6 m c (ix2 f d) = ((∑ r : Fin 4096, act Y B r.val f.val * C r.val d.val : ℝ) : EReal) := by
  have hN : cfg0.N = 16 := N_0
  have hp : pt6Of (ix2 f d) = 8 * (f.val / 1408) + 7 := by
    show 8 * (1 * (f.val / 1408 - 0) + _ * (d.val / 1024 - 0)) + 7 = _
    omega
  have hl : pt6Of (ix2 f d) < cfg0.N := by omega
  unfold G6
  rw [dif_pos hl, ← outsAt0_sweep m c _ hl, outs_gw h _ hl (by omega)]
  rw [show loc6Of (ix2 f d) = ix2 ⟨f.val % 1408, by omega⟩ ⟨d.val % 1024, by omega⟩ from
    funext fun a => by match a with | ⟨0, _⟩ => rfl | ⟨1, _⟩ => rfl]
  refine (outs_sum h _ _ _ hl).trans ?_
  rw [hp, show (8 * (f.val / 1408) + 7) % 8 + 1 = 8 by omega, show (8 * (f.val / 1408) + 7) / 8 = f.val / 1408 by omega]
  refine (run_tiles 8 512 _ (fun r => act Y B r f.val * C r d.val) (fun i hi => ?_)).trans rfl
  dsimp only
  rw [show (f.val / 1408 * 8 + i) % 8 = i by omega, show (f.val / 1408 * 8 + i) / 8 = f.val / 1408 by omega,
    Nat.div_add_mod, Nat.mod_eq_of_lt d.isLt]

/-- The fourth result: the gate bias's gradient. -/
theorem G7_at (z : Fin 1) (f : Fin 2816) :
    G7 m c (ix2 z f) = ((∑ r : Fin 4096, dgate Y B W C r.val f.val : ℝ) : EReal) := by
  have hN : cfg0.N = 16 := N_0
  obtain rfl : z = 0 := Subsingleton.elim _ _
  have hp : pt7Of (ix2 0 f) = 8 * (f.val / 1408) + 7 := by
    show 8 * (2 * (0 / 1 - 0) + 1 * (f.val / 1408 - 0)) + 7 = _
    omega
  have hl : pt7Of (ix2 0 f) < cfg0.N := by omega
  unfold G7
  rw [dif_pos hl, ← outsAt0_sweep m c _ hl,
    show loc7Of (ix2 0 f) = ix2 0 ⟨f.val % 1408, by omega⟩ from
      funext fun a => by match a with | ⟨0, _⟩ => rfl | ⟨1, _⟩ => rfl]
  refine (outs_gbg h _ _ hl).trans ?_
  rw [hp, show (8 * (f.val / 1408) + 7) % 8 + 1 = 8 by omega, show (8 * (f.val / 1408) + 7) / 8 = f.val / 1408 by omega]
  refine (run_tiles 8 512 _ (fun r => dgate Y B W C r f.val) (fun i hi => ?_)).trans rfl
  dsimp only
  rw [show (f.val / 1408 * 8 + i) % 8 = i by omega, show (f.val / 1408 * 8 + i) / 8 = f.val / 1408 by omega,
    Nat.div_add_mod]

/-- The fifth result: the value bias's gradient. -/
theorem G8_at (z : Fin 1) (f : Fin 2816) :
    G8 m c (ix2 z f) = ((∑ r : Fin 4096, dval Y B W C r.val f.val : ℝ) : EReal) := by
  have hN : cfg0.N = 16 := N_0
  obtain rfl : z = 0 := Subsingleton.elim _ _
  have hp : pt8Of (ix2 0 f) = 8 * (f.val / 1408) + 7 := by
    show 8 * (2 * (0 / 1 - 0) + 1 * (f.val / 1408 - 0)) + 7 = _
    omega
  have hl : pt8Of (ix2 0 f) < cfg0.N := by omega
  unfold G8
  rw [dif_pos hl, ← outsAt0_sweep m c _ hl,
    show loc8Of (ix2 0 f) = ix2 0 ⟨f.val % 1408, by omega⟩ from
      funext fun a => by match a with | ⟨0, _⟩ => rfl | ⟨1, _⟩ => rfl]
  refine (outs_gbv h _ _ hl).trans ?_
  rw [hp, show (8 * (f.val / 1408) + 7) % 8 + 1 = 8 by omega, show (8 * (f.val / 1408) + 7) / 8 = f.val / 1408 by omega]
  refine (run_tiles 8 512 _ (fun r => dval Y B W C r f.val) (fun i hi => ?_)).trans rfl
  dsimp only
  rw [show (f.val / 1408 * 8 + i) % 8 = i by omega, show (f.val / 1408 * 8 + i) / 8 = f.val / 1408 by omega,
    Nat.div_add_mod]

end Cert.ActIdeal.Result

end
-- ==== Proof.Act.Ref.lean ====
module

public import proofs.«01_k».proof.Proof.Act.Reads
public import proofs.«01_k».proof.Proof.Gen.ActRefIdeal.Read

/-! # The reference of the activation backward, read at an index -/

@[expose] public section

set_option maxRecDepth 16384

noncomputable section

open Idealize.ShloMosaic Idealize.ShloMosaic.TcCoe Idealize.SL.Sem

namespace Cert.ActRefIdeal.Result

open Cert.ActRefIdeal Cert.ActRefIdeal.Read Cert.Reals Cert.ActIdeal.Reads

variable {x0 : (⟨S4096x5632, .f32⟩ : BufTy).Contents (Elt Ideal)} {x1 : (⟨S1x5632, .f32⟩ : BufTy).Contents (Elt Ideal)}
  {x2 : (⟨S2816x1024, .f32⟩ : BufTy).Contents (Elt Ideal)} {x3 : (⟨S4096x1024, .f32⟩ : BufTy).Contents (Elt Ideal)}
  {Y B W C : ℕ → ℕ → ℝ}
  (hy : ∀ r f, x0 (ix2 r f) = ((Y r.val f.val : ℝ) : EReal)) (hb : ∀ r f, x1 (ix2 r f) = ((B r.val f.val : ℝ) : EReal))
  (hw : ∀ r f, x2 (ix2 r f) = ((W r.val f.val : ℝ) : EReal)) (hc : ∀ r f, x3 (ix2 r f) = ((C r.val f.val : ℝ) : EReal))

section
include hy hb
omit hw hc

theorem gate_at (r : Fin 4096) (f : Fin 2816) : val_main_v2 x0 x1 (ix2 r f) = ((gate Y B r.val f.val : ℝ) : EReal) := by
  pointwise [val_main_v2, val_main_v1, val_main_v0]
  exact (congrArg₂ (fun u v : EReal => u + v) (hy _ _) (hb _ _)).trans (EReal.coe_add _ _).symm

theorem val_at (r : Fin 4096) (f : Fin 2816) : val_main_v3 x0 x1 (ix2 r f) = ((val Y B r.val f.val : ℝ) : EReal) := by
  pointwise [val_main_v3, val_main_v1, val_main_v0]
  exact (congrArg₂ (fun u v : EReal => u + v) (hy _ _) (hb _ _)).trans (EReal.coe_add _ _).symm

/-- The gate's logistic function. -/
theorem logi_gate_at (r : Fin 4096) (f : Fin 2816) : val_main_v4_2 x0 x1 (ix2 r f) = ((logi (gate Y B r.val f.val) : ℝ) : EReal) := by
  pointwise [val_main_v4_2, val_main_call0_v3, val_main_call0_v2, val_main_call0_v4, val_main_call0_v1, val_main_call0_v0, val_main_call0_cst, val_main_call0_cst_0]
  rw [gate_at hy hb]
  exact logi_coe _

/-- The activation. -/
theorem act_at (r : Fin 4096) (f : Fin 2816) : val_main_v5 x0 x1 (ix2 r f) = ((act Y B r.val f.val : ℝ) : EReal) := by
  pointwise [val_main_v5, val_main_v4_0]
  rw [gate_at hy hb, val_at hy hb, logi_gate_at hy hb]
  simp only [← EReal.coe_mul]
  rfl
end

section
include hw hc
omit hy hb

theorem dact_at (r : Fin 4096) (f : Fin 2816) : val_main_v9 x2 x3 (ix2 r f) = ((dact W C r.val f.val : ℝ) : EReal) := by
  pointwise [val_main_v9]
  simp only [hc, hw, ← EReal.coe_mul, coe_sum]
  rfl
end

include hy hb hw hc

/-- The gate's half of the joined gradient. -/
theorem v12_at (r : Fin 4096) (f : Fin 2816) : val_main_v12 x0 x1 x2 x3 (ix2 r f) = ((dgate Y B W C r.val f.val : ℝ) : EReal) := by
  pointwise [val_main_v12, val_main_call1_v1, val_main_call1_v2, val_main_call1_v0, val_main_v11, val_main_v4_1, val_main_call0_v7, val_main_call0_v6, val_main_call0_cst_1]
  rw [gate_at hy hb, val_at hy hb, logi_gate_at hy hb, dact_at hw hc]
  simp only [← EReal.coe_mul, ← EReal.coe_one, ← EReal.coe_sub, ← EReal.coe_add]
  refine congrArg Real.toEReal ?_
  unfold dgate
  ring

/-- The value's half of the joined gradient. -/
theorem v10_at (r : Fin 4096) (f : Fin 2816) : val_main_v10 x0 x1 x2 x3 (ix2 r f) = ((dval Y B W C r.val f.val : ℝ) : EReal) := by
  pointwise [val_main_v10, val_main_v4_0]
  rw [gate_at hy hb, logi_gate_at hy hb, dact_at hw hc]
  simp only [← EReal.coe_mul]
  refine congrArg Real.toEReal ?_
  unfold dval
  ring

/-- The reference's first result. -/
theorem v17_at (r : Fin 4096) (f : Fin 2816) : val_main_v17 x0 x1 x2 x3 (ix2 r f) = ((dgate Y B W C r.val f.val : ℝ) : EReal) := by
  pointwise [val_main_v17, val_main_v16, val_main_v13]
  exact v12_at hy hb hw hc r f

/-- The reference's second result. -/
theorem v19_at (r : Fin 4096) (f : Fin 2816) : val_main_v19 x0 x1 x2 x3 (ix2 r f) = ((dval Y B W C r.val f.val : ℝ) : EReal) := by
  pointwise [val_main_v19, val_main_v18, val_main_v13]
  exact v10_at hy hb hw hc r f

/-- The reference's third result. -/
theorem v20_at (f : Fin 2816) (d : Fin 1024) : val_main_v20 x0 x1 x3 (ix2 f d) = ((∑ r : Fin 4096, act Y B r.val f.val * C r.val d.val : ℝ) : EReal) := by
  pointwise [val_main_v20, val_main_v8, val_main_v7]
  simp only [hc, act_at hy hb, ← EReal.coe_mul, coe_sum]
  exact congrArg Real.toEReal (Finset.sum_congr rfl fun r _ => mul_comm _ _)

/-- The reference's fourth result. -/
theorem v21_at (z : Fin 1) (f : Fin 2816) : val_main_v21 x0 x1 x2 x3 (ix2 z f) = ((∑ r : Fin 4096, dgate Y B W C r.val f.val : ℝ) : EReal) := by
  pointwise [val_main_v21, val_main_v15, val_main_v14, val_main_v13, val_main_cst]
  simp only [v12_at hy hb hw hc, coe_sum]

/-- The reference's fifth result. -/
theorem v22_at (z : Fin 1) (f : Fin 2816) : val_main_v22 x0 x1 x2 x3 (ix2 z f) = ((∑ r : Fin 4096, dval Y B W C r.val f.val : ℝ) : EReal) := by
  pointwise [val_main_v22, val_main_v15, val_main_v14, val_main_v13, val_main_cst]
  simp only [v10_at hy hb hw hc, coe_sum]

end Cert.ActRefIdeal.Result

end
-- ==== Proof.Act.Claims.lean ====
module

public import proofs.«01_k».proof.Defs
public import proofs.«01_k».proof.Proof.Act.Result
public import proofs.«01_k».proof.Proof.Act.Ref
public import proofs.«01_k».proof.Proof.Gen.Act
public import proofs.«01_k».proof.Proof.Gen.Pre_finite
public import proofs.«01_k».proof.Proof.Gen.ActRefIdeal.Run

/-! # The activation backward: its claims -/

@[expose] public section

set_option maxRecDepth 16384

noncomputable section

open Idealize.ShloMosaic Idealize.ShloMosaic.TcCoe Idealize.SL.Sem

namespace Cert.Act.Claims

open Cert.Reals

/-- The ideal program, over any floats: it runs, its arguments end unchanged and every counter ends at zero. -/
theorem frame_run {F : FTy → Type} [FloatOps F] (m : (ℓ : Loc Cert.ActIdeal.nD Cert.ActIdeal.τ Cert.ActIdeal.sig) → Buf (Elt F) ℓ)
    (ρ : Dev Cert.ActIdeal.nD → PrngReg) :
    θ_run (Cert.ActIdeal.defs (F := F)) (onTc (τ := Cert.ActIdeal.τ) (Cert.ActIdeal.main (F := F))) ⟨m, fun _ => 0, ρ⟩ fun r =>
      (∀ c : Dev Cert.ActIdeal.nD,
        r.2.mem ((c.tc : Thread Cert.ActIdeal.nD Cert.ActIdeal.τ).loc Cert.ActIdeal.main_arg0) = m ((c.tc : Thread Cert.ActIdeal.nD Cert.ActIdeal.τ).loc Cert.ActIdeal.main_arg0)
        ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
        ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
        ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0 :=
  (θ_run _ _ _).mono (fun r h => ⟨fun c => ⟨Cert.ActIdeal.Value.kept_main_arg0 m r h.1 c, Cert.ActIdeal.Value.kept_main_arg1 m r h.1 c,
    Cert.ActIdeal.Value.kept_main_arg2 m r h.1 c, Cert.ActIdeal.Value.kept_main_arg3 m r h.1 c⟩, h.2⟩) (Cert.ActIdeal.Gen.run_main_quiescent m ρ)

/-- The two programs have one table of kernel bodies. -/
theorem bodies_eq {F : FTy → Type} [FloatOps F] : Cert.Act.defs₀ (F := F) = Cert.ActIdeal.defs₀ (F := F) := by
  unfold Cert.Act.defs₀ Cert.ActIdeal.defs₀
  congr 1
  funext l a
  match l, a with
  | 0, (t, s) => rfl

/-- The two programs have one body table. -/
theorem defs_eq {F : FTy → Type} [FloatOps F] : Cert.Act.defs (F := F) = Cert.ActIdeal.defs (F := F) := by
  unfold Cert.Act.defs Cert.ActIdeal.defs
  rw [bodies_eq]
  rfl

/-- The kernel's own frame: the two programs have one text. -/
theorem frame_kernel : Cert.quiescent_Act := fun m ρ _ => by
  rw [defs_eq]
  exact frame_run (F := Bits) m ρ

/-- The ideal program's frame. -/
theorem frame_ideal : Cert.quiescent_ActIdeal := fun m ρ _ => frame_run (F := Ideal) m ρ

/-- The ideal program's frame under the precondition. -/
theorem frame_ideal_pre : Cert.quiescent_ActIdeal_pre_finite := fun m ρ _ => frame_run (F := Ideal) m ρ

/-- The reference's frame. -/
theorem frame_ref : Cert.quiescent_ActRefIdeal := fun m ρ _ =>
  (θ_run _ _ _).mono (fun r h => ⟨fun c => (h c).2.2.2.2.2, sem_eq_zero_of_no_sems (by decide) r.2⟩) (Cert.ActRefIdeal.Value.run (F := Ideal) m ρ)

/-- The reference's frame under the precondition. -/
theorem frame_ref_pre : Cert.quiescent_ActRefIdeal_pre_finite := fun m ρ _ => frame_ref m ρ trivial

/-- Under the precondition the four arguments hold real numbers. -/
theorem args_real (m : (ℓ : Loc Cert.ActIdeal.nD Cert.ActIdeal.τ Cert.ActIdeal.sig) → Buf (Elt Ideal) ℓ) (hm : Cert.Pre_ActIdeal_finite m)
    (c : Dev Cert.ActIdeal.nD) : ∃ Y B W C, Cert.ActIdeal.Reads.Args m c Y B W C := by
  obtain ⟨h0, h1, h2, h3⟩ := hm c
  refine ⟨rd (m ((c.tc : Thread Cert.ActIdeal.nD Cert.ActIdeal.τ).loc Cert.ActIdeal.main_arg0) : Cert.ActIdeal.S4096x5632.Idx → EReal),
    rd (m ((c.tc : Thread Cert.ActIdeal.nD Cert.ActIdeal.τ).loc Cert.ActIdeal.main_arg1) : Cert.ActIdeal.S1x5632.Idx → EReal),
    rd (m ((c.tc : Thread Cert.ActIdeal.nD Cert.ActIdeal.τ).loc Cert.ActIdeal.main_arg2) : Cert.ActIdeal.S2816x1024.Idx → EReal),
    rd (m ((c.tc : Thread Cert.ActIdeal.nD Cert.ActIdeal.τ).loc Cert.ActIdeal.main_arg3) : Cert.ActIdeal.S4096x1024.Idx → EReal), ?_⟩
  constructor
  · exact fun r f => rd_eq _ (congrFun h0) r f
  · exact fun r f => rd_eq _ (congrFun h1) r f
  · exact fun r f => rd_eq _ (congrFun h2) r f
  · exact fun r f => rd_eq _ (congrFun h3) r f

/-- Over the reals the kernel and the reference end with equal results. -/
theorem value : Cert.algebraic_ActIdeal_ActRefIdeal_pre_finite := by
  intro m ρ m' ρ' hm hmm
  refine ⟨fun c => Cert.ActIdeal.Value.G4 m c, fun c => Cert.ActIdeal.Value.G5 m c, fun c => Cert.ActIdeal.Value.G6 m c,
    fun c => Cert.ActIdeal.Value.G7 m c, fun c => Cert.ActIdeal.Value.G8 m c, Cert.ActIdeal.Value.run m ρ, ?_⟩
  refine (θ_run _ _ _).mono (fun r h c => ?_) (Cert.ActRefIdeal.Value.run (F := Ideal) m' ρ')
  obtain ⟨Y, B, W, C, hA⟩ := args_real m hm c
  obtain ⟨e0, e1, e2, e3⟩ := hmm c
  obtain ⟨r0, r1, r2, r3, r4, k⟩ := h c
  rw [e0, e1, e2, e3] at r0 r1 r3 r4
  rw [e0, e1, e3] at r2
  refine ⟨r0.trans ?_, r1.trans ?_, r2.trans ?_, r3.trans ?_, r4.trans ?_, k⟩
  · exact ext2 fun a b => (Cert.ActRefIdeal.Result.v17_at hA.y hA.b hA.w hA.ct a b).trans (Cert.ActIdeal.Result.G4_at hA a b).symm
  · exact ext2 fun a b => (Cert.ActRefIdeal.Result.v19_at hA.y hA.b hA.w hA.ct a b).trans (Cert.ActIdeal.Result.G5_at hA a b).symm
  · exact ext2 fun a b => (Cert.ActRefIdeal.Result.v20_at hA.y hA.b hA.w hA.ct a b).trans (Cert.ActIdeal.Result.G6_at hA a b).symm
  · exact ext2 fun a b => (Cert.ActRefIdeal.Result.v21_at hA.y hA.b hA.w hA.ct a b).trans (Cert.ActIdeal.Result.G7_at hA a b).symm
  · exact ext2 fun a b => (Cert.ActRefIdeal.Result.v22_at hA.y hA.b hA.w hA.ct a b).trans (Cert.ActIdeal.Result.G8_at hA a b).symm

end Cert.Act.Claims

end
-- ==== Proof.Common.Norm.lean ====
module

public import proofs.«01_k».proof.Proof.Common.Reals

/-! # The root-mean-square normalisation over the reals

The reciprocal root of a row's mean square, and the two forms of the normalisation's gradient. -/

@[expose] public section

set_option maxRecDepth 16384

noncomputable section

open Idealize.ShloMosaic Idealize.ShloMosaic.TcCoe Idealize.SL.Sem

namespace Cert.Reals

/-- The constant added under the root: the rational that its float word is. -/
def eps : ℝ := 8796093 / 8796093022208

theorem eps_pos : 0 < eps := by unfold eps; norm_num

theorem word_eps : Ideal.ofBits .f32 897988541#32 = ((eps : ℝ) : EReal) := by
  unfold eps
  simp [Ideal.ofBits, Ideal.ieee]
  norm_num
  rw [← EReal.coe_mul]
  norm_num

theorem word_1024 : Ideal.ofBits .f32 1149239296#32 = ((1024 : ℝ) : EReal) := by
  simp [Ideal.ofBits, Ideal.ieee]
  norm_num
  rw [← EReal.coe_mul]
  norm_num

theorem word_512 : Ideal.ofBits .f32 1140850688#32 = ((512 : ℝ) : EReal) := by
  simp [Ideal.ofBits, Ideal.ieee]
  norm_num
  rw [← EReal.coe_mul]
  norm_num

theorem word_neg_half : Ideal.ofBits .f32 3204448256#32 = ((-(1 / 2) : ℝ) : EReal) := by
  simp [Ideal.ofBits, Ideal.ieee]
  norm_num
  rw [← EReal.coe_mul]
  norm_num

theorem div_1024 (x : ℝ) : Ideal.div (x : EReal) ((1024 : ℝ) : EReal) = ((x / 1024 : ℝ) : EReal) := div_coe _ _ (by norm_num)

theorem div_512 (x : ℝ) : Ideal.div (x : EReal) ((512 : ℝ) : EReal) = ((x / 512 : ℝ) : EReal) := div_coe _ _ (by norm_num)

/-- A row's mean square, with the constant. -/
def msq {n : ℕ} (k : ℝ) (x : Fin n → ℝ) : ℝ := (∑ i, x i * x i) / k + eps

theorem msq_pos {n : ℕ} (k : ℝ) (hk : 0 < k) (x : Fin n → ℝ) : 0 < msq k x :=
  add_pos_of_nonneg_of_pos (div_nonneg (Finset.sum_nonneg fun i _ => mul_self_nonneg _) hk.le) eps_pos

/-- The reciprocal root of a row's mean square. -/
def rinv {n : ℕ} (k : ℝ) (x : Fin n → ℝ) : ℝ := (Real.sqrt (msq k x))⁻¹

theorem rinv_sq {n : ℕ} (k : ℝ) (hk : 0 < k) (x : Fin n → ℝ) : rinv k x * rinv k x = (msq k x)⁻¹ := by
  unfold rinv
  rw [← mul_inv, Real.mul_self_sqrt (msq_pos k hk x).le]

theorem rsqrt_1024 {n : ℕ} (x : Fin n → ℝ) :
    Ideal.rsqrt (((∑ i, x i * x i) / 1024 + eps : ℝ) : EReal) = ((rinv 1024 x : ℝ) : EReal) :=
  rsqrt_coe _ (msq_pos 1024 (by norm_num) x)

theorem rsqrt_512 {n : ℕ} (x : Fin n → ℝ) :
    Ideal.rsqrt (((∑ i, x i * x i) / 512 + eps : ℝ) : EReal) = ((rinv 512 x : ℝ) : EReal) :=
  rsqrt_coe _ (msq_pos 512 (by norm_num) x)

theorem div_msq {n : ℕ} (k : ℝ) (hk : 0 < k) (x : Fin n → ℝ) (a : ℝ) :
    Ideal.div (a : EReal) (((∑ i, x i * x i) / k + eps : ℝ) : EReal) = ((a / msq k x : ℝ) : EReal) :=
  div_coe _ _ (msq_pos k hk x).ne'

/-- The normalisation's gradient: the mean of the gradient along the normalised row is taken out. -/
def rmsBwd {n : ℕ} (k : ℝ) (x dn : Fin n → ℝ) (i : Fin n) : ℝ :=
  rinv k x * (dn i - x i * rinv k x * ((∑ j, dn j * (x j * rinv k x)) / k))

/-- The same gradient as the chain rule gives it, through the square and the reciprocal root. -/
theorem rmsBwd_eq {n : ℕ} (k : ℝ) (hk : 0 < k) (x dn : Fin n → ℝ) (i : Fin n) :
    dn i * rinv k x + x i * ((∑ j, x j * dn j) * (-(1 / 2) * (rinv k x / msq k x)) / k)
      + (∑ j, x j * dn j) * (-(1 / 2) * (rinv k x / msq k x)) / k * x i = rmsBwd k x dn i := by
  have e : ∑ j, dn j * (x j * rinv k x) = (∑ j, x j * dn j) * rinv k x := by
    rw [Finset.sum_mul]
    exact Finset.sum_congr rfl fun j _ => by ring
  unfold rmsBwd
  rw [e, div_eq_mul_inv (rinv k x) (msq k x), ← rinv_sq k hk x]
  ring

end Cert.Reals

end
-- ==== Proof.Merge.Math.lean ====
module

public import proofs.«01_k».proof.Proof.Common.Norm
public import Idealize.ShloMosaic.Lib.Pointwise

/-! # The gated merge's backward over the reals

The forward values and the gradients that both programs compute, as functions of row and column numbers. -/

@[expose] public section

set_option maxRecDepth 16384

noncomputable section

open Idealize.ShloMosaic Idealize.ShloMosaic.TcCoe Idealize.SL.Sem

namespace Cert.MergeMath

open Cert.Reals

/-- The root of two over pi: the rational that its float word is. -/
def cG : ℝ := 13386282 / 16777216

theorem word_cG : Ideal.ofBits .f32 1061962282#32 = ((cG : ℝ) : EReal) := by
  unfold cG
  simp [Ideal.ofBits, Ideal.ieee]
  norm_num
  rw [← EReal.coe_mul]
  norm_num

theorem word_half : Ideal.ofBits .f32 1056964608#32 = ((1 / 2 : ℝ) : EReal) := by
  simp [Ideal.ofBits, Ideal.ieee]
  norm_num
  rw [← EReal.coe_mul]
  norm_num

theorem word_one : Ideal.ofBits .f32 1065353216#32 = ((1 : ℝ) : EReal) := by
  simp [Ideal.ofBits, Ideal.ieee]
  norm_num
  rw [← EReal.coe_mul]
  norm_num

theorem word_three : Ideal.ofBits .f32 1077936128#32 = ((3 : ℝ) : EReal) := by
  simp [Ideal.ofBits, Ideal.ieee]
  norm_num
  rw [← EReal.coe_mul]
  norm_num

theorem word_num : Ideal.ofBits .f32 1194240768#32 = ((44715 : ℝ) : EReal) := by
  simp [Ideal.ofBits, Ideal.ieee]
  norm_num
  rw [← EReal.coe_mul]
  norm_num

theorem word_den : Ideal.ofBits .f32 1232348160#32 = ((1000000 : ℝ) : EReal) := by
  simp [Ideal.ofBits, Ideal.ieee]
  norm_num
  rw [← EReal.coe_mul]
  norm_num

/-- The cubic term's coefficient as the reference divides it out. -/
theorem div_num : Ideal.div ((44715 : ℝ) : EReal) ((1000000 : ℝ) : EReal) = ((8943 / 200000 : ℝ) : EReal) := by
  rw [div_coe _ _ (by norm_num)]
  exact congrArg Real.toEReal (by norm_num)

/-- The inner hyperbolic tangent of the gelu. -/
def th (x : ℝ) : ℝ := Real.tanh (cG * (x + 8943 / 200000 * (x * x * x)))
/-- The gelu and its derivative. -/
def gel (x : ℝ) : ℝ := 1 / 2 * x * (1 + th x)
def gelD (x : ℝ) : ℝ := 1 / 2 * (1 + th x) + 1 / 2 * x * (1 - th x * th x) * (cG * (1 + 26829 / 200000 * x * x))

/-- The derivative as the chain rule gives it, through the two factors and the cube. -/
theorem gelD_chain (x d : ℝ) :
    d * (1 / 2 * (1 + th x)) + cG * (1 / 2 * (x * d) * ((1 + th x) * (1 - th x)))
      + 8943 / 200000 * (cG * (1 / 2 * (x * d) * ((1 + th x) * (1 - th x)))) * (3 * (x * x)) = d * gelD x := by
  unfold gelD
  ring

/-- The ten arguments: the gating projection, the second branch, the gates, the two branch weights, the output weight, the
    gain, the mixing matrices, their biases and the cotangent. -/
structure Dat where
  A : ℕ → ℕ → ℝ
  B : ℕ → ℕ → ℝ
  G : ℕ → ℕ → ℝ
  WA : ℕ → ℕ → ℝ
  WB : ℕ → ℕ → ℝ
  WO : ℕ → ℕ → ℝ
  N : ℕ → ℕ → ℝ
  S : ℕ → ℕ → ℕ → ℝ
  Bs : ℕ → ℕ → ℝ
  C : ℕ → ℕ → ℝ

namespace Dat

variable (D : Dat)

/-- The gating's factor, and its values before the normalisation. -/
def u (r e : ℕ) : ℝ := gel (D.A r e)
def v (r e : ℕ) : ℝ := gel (D.A r (512 + e))
def row (r : ℕ) (e : Fin 512) : ℝ := D.v r e.val
/-- The values normalised, without and with the gain. -/
def vh (r e : ℕ) : ℝ := D.v r e * rinv 512 (D.row r)
def vn (r e : ℕ) : ℝ := D.vh r e * D.N 0 e
/-- The causal mixing matrix of a group. -/
def wm (g t s : ℕ) : ℝ := if s ≤ t then D.S g t s else 0
/-- The mixed values of a chunk, with their bias. -/
def mix (r e : ℕ) : ℝ := (∑ s : Fin 128, D.wm (e / 128) (r % 128) s.val * D.vn (128 * (r / 128) + s.val) e) + D.Bs (e / 128) (r % 128)
def ya (r e : ℕ) : ℝ := D.u r e * D.mix r e
/-- The branches' projections, the gates, and the merged rows. -/
def pa (r k : ℕ) : ℝ := ∑ e : Fin 512, D.ya r e.val * D.WA e.val k
def pb (r k : ℕ) : ℝ := ∑ e : Fin 512, D.B r e.val * D.WB e.val k
def sa (r k : ℕ) : ℝ := logi (D.G r k)
def sb (r k : ℕ) : ℝ := logi (D.G r (1024 + k))
def mg (r k : ℕ) : ℝ := D.sa r k * D.pa r k + D.sb r k * D.pb r k
/-- The cotangents, from the result back. -/
def dm (r k : ℕ) : ℝ := ∑ e : Fin 1024, D.C r e.val * D.WO k e.val
def dpa (r k : ℕ) : ℝ := D.dm r k * D.sa r k
def dpb (r k : ℕ) : ℝ := D.dm r k * D.sb r k
def dga (r k : ℕ) : ℝ := D.dm r k * D.pa r k * (D.sa r k * (1 - D.sa r k))
def dgb (r k : ℕ) : ℝ := D.dm r k * D.pb r k * (D.sb r k * (1 - D.sb r k))
def dya (r e : ℕ) : ℝ := ∑ k : Fin 1024, D.dpa r k.val * D.WA e k.val
def dyb (r e : ℕ) : ℝ := ∑ k : Fin 1024, D.dpb r k.val * D.WB e k.val
def ds (r e : ℕ) : ℝ := D.dya r e * D.u r e
def dmu (r e : ℕ) : ℝ := D.dya r e * D.mix r e
def dvn (r e : ℕ) : ℝ := ∑ t : Fin 128, D.wm (e / 128) t.val (r % 128) * D.ds (128 * (r / 128) + t.val) e
def rowD (r : ℕ) (e : Fin 512) : ℝ := D.dvn r e.val * D.N 0 e.val
def dvv (r : ℕ) (e : Fin 512) : ℝ := rmsBwd 512 (D.row r) (D.rowD r) e
def dau (r e : ℕ) : ℝ := D.dmu r e * gelD (D.A r e)
def dav (r : ℕ) (e : Fin 512) : ℝ := D.dvv r e * gelD (D.A r (512 + e.val))
/-- The gates' and the gating projection's gradients, their two halves side by side. -/
def oG (r k : ℕ) : ℝ := if k < 1024 then D.dga r k else D.dgb r (k - 1024)
def oA (r k : ℕ) : ℝ := if k < 512 then D.dau r k else if h : k - 512 < 512 then D.dav r ⟨k - 512, h⟩ else 0
/-- The weights' gradients. -/
def oWo (k e : ℕ) : ℝ := ∑ r : Fin 4096, D.mg r.val k * D.C r.val e
def oWa (e k : ℕ) : ℝ := ∑ r : Fin 4096, D.ya r.val e * D.dpa r.val k
def oWb (e k : ℕ) : ℝ := ∑ r : Fin 4096, D.B r.val e * D.dpb r.val k
/-- One chunk's part of a mixing matrix's and of a bias's gradient. -/
def pS (g t s q : ℕ) : ℝ := ∑ d : Fin 128, D.ds (128 * q + t) (128 * g + d.val) * D.vn (128 * q + s) (128 * g + d.val)
def pB (g t q : ℕ) : ℝ := ∑ d : Fin 128, D.ds (128 * q + t) (128 * g + d.val)
def oS (g t s : ℕ) : ℝ := if s ≤ t then ∑ q : Fin 32, D.pS g t s q.val else 0
def oB (g t : ℕ) : ℝ := ∑ q : Fin 32, D.pB g t q.val
def oN (e : ℕ) : ℝ := ∑ r : Fin 4096, D.dvn r.val e * D.vh r.val e

end Dat

/-- The lower-triangular mask on 128×128 as the programs compute it from the two counters. -/
theorem mask_word : ∀ t s : Fin 128, IntOp.cmpi .sge (BitVec.ofNat 32 t.val) (BitVec.ofNat 32 s.val) = if s.val ≤ t.val then 1#1 else 0#1 := by
  decide +kernel

theorem mask_sel {α : Type} (t s : Fin 128) (x y : α) :
    Scalar.select (IntOp.cmpi .sge (BitVec.ofNat 32 t.val) (BitVec.ofNat 32 s.val)) x y = if s.val ≤ t.val then x else y := by
  rw [mask_word]
  by_cases h : s.val ≤ t.val
  · rw [if_pos h, if_pos h]; rfl
  · rw [if_neg h, if_neg h]; rfl

theorem mask_sel_add {α : Type} (t s : Fin 128) (x y : α) :
    Scalar.select (IntOp.cmpi .sge (IntOp.addi (BitVec.ofNat 32 t.val) 0#32) (BitVec.ofNat 32 s.val)) x y = if s.val ≤ t.val then x else y := by
  rw [show IntOp.addi (BitVec.ofNat 32 t.val) 0#32 = BitVec.ofNat 32 t.val from BitVec.add_zero _]
  exact mask_sel t s x y

/-- A masked real entry, over the extended reals. -/
theorem coe_mask (p : Prop) [Decidable p] (x : ℝ) : (if p then ((x : ℝ) : EReal) else 0) = ((if p then x else 0 : ℝ) : EReal) := by
  by_cases h : p
  · rw [if_pos h, if_pos h]
  · rw [if_neg h, if_neg h, EReal.coe_zero]

/-- The sum over the first and the last axis of a rank-four array. -/
theorem reduce_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (b : Fin n1) (c : Fin n2) :
    Ideal.hostReduceAdd h v init (ix2 b c) = init + ∑ a : Fin n0, ∑ d : Fin n3, v (ix4 a b c d) := by
  unfold Ideal.hostReduceAdd
  refine congrArg (init + ·) ?_
  rw [← Fintype.sum_prod_type' (fun a d => v (ix4 a b c d))]
  refine Finset.sum_filter_eq_sum_of_fiber _ (fun k : Fin n0 × Fin n3 => ix4 k.1 b c k.2)
    (fun k l e => Prod.ext (congrFun e 0) (congrFun e 3)) (fun i => ⟨fun e => ⟨(i 0, i 3), ?_⟩, ?_⟩) v
  · funext x
    apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x
    apply Fin.ext
    match x with
    | ⟨0, _⟩ => rfl
    | ⟨1, _⟩ => rfl

end Cert.MergeMath

end
-- ==== Proof.Merge.Ref.lean ====
module

public import proofs.«01_k».proof.Proof.Merge.Math
public import proofs.«01_k».proof.Proof.Gen.MergeRefIdeal.Read
public import Idealize.ShloMosaic.Lib.Pointwise
public import Idealize.ShloMosaic.Lib.IdealHost
public import Idealize.ShloMosaic.Lib.Pipeline.Value

/-! # The reference of the gated merge's backward, read at an index -/

@[expose] public section

set_option maxRecDepth 16384

noncomputable section

open Idealize.ShloMosaic Idealize.ShloMosaic.TcCoe Idealize.SL.Sem

namespace Cert.MergeRefIdeal.Result

open Cert.MergeRefIdeal Cert.MergeRefIdeal.Read Cert.Reals Cert.MergeMath

/-- The reference's ten arguments hold the reals of `D`. -/
structure Ins (x0 : (⟨S4096x1024, .f32⟩ : BufTy).Contents (Elt Ideal)) (x1 : (⟨S4096x512, .f32⟩ : BufTy).Contents (Elt Ideal))
    (x2 : (⟨S4096x2048, .f32⟩ : BufTy).Contents (Elt Ideal)) (x3 x4 : (⟨S512x1024, .f32⟩ : BufTy).Contents (Elt Ideal))
    (x5 : (⟨S1024x1024, .f32⟩ : BufTy).Contents (Elt Ideal)) (x6 : (⟨S1x512, .f32⟩ : BufTy).Contents (Elt Ideal))
    (x7 : (⟨S4x128x128, .f32⟩ : BufTy).Contents (Elt Ideal)) (x8 : (⟨S4x128, .f32⟩ : BufTy).Contents (Elt Ideal))
    (x9 : (⟨S4096x1024, .f32⟩ : BufTy).Contents (Elt Ideal)) (D : Dat) : Prop where
  a : ∀ r f, x0 (ix2 r f) = ((D.A r.val f.val : ℝ) : EReal)
  b : ∀ r f, x1 (ix2 r f) = ((D.B r.val f.val : ℝ) : EReal)
  g : ∀ r f, x2 (ix2 r f) = ((D.G r.val f.val : ℝ) : EReal)
  wa : ∀ r f, x3 (ix2 r f) = ((D.WA r.val f.val : ℝ) : EReal)
  wb : ∀ r f, x4 (ix2 r f) = ((D.WB r.val f.val : ℝ) : EReal)
  wo : ∀ r f, x5 (ix2 r f) = ((D.WO r.val f.val : ℝ) : EReal)
  n : ∀ r f, x6 (ix2 r f) = ((D.N r.val f.val : ℝ) : EReal)
  s : ∀ g t s, x7 (ix3 g t s) = ((D.S g.val t.val s.val : ℝ) : EReal)
  bs : ∀ r f, x8 (ix2 r f) = ((D.Bs r.val f.val : ℝ) : EReal)
  c : ∀ r f, x9 (ix2 r f) = ((D.C r.val f.val : ℝ) : EReal)

variable {x0 : (⟨S4096x1024, .f32⟩ : BufTy).Contents (Elt Ideal)} {x1 : (⟨S4096x512, .f32⟩ : BufTy).Contents (Elt Ideal)}
  {x2 : (⟨S4096x2048, .f32⟩ : BufTy).Contents (Elt Ideal)} {x3 x4 : (⟨S512x1024, .f32⟩ : BufTy).Contents (Elt Ideal)}
  {x5 : (⟨S1024x1024, .f32⟩ : BufTy).Contents (Elt Ideal)} {x6 : (⟨S1x512, .f32⟩ : BufTy).Contents (Elt Ideal)}
  {x7 : (⟨S4x128x128, .f32⟩ : BufTy).Contents (Elt Ideal)} {x8 : (⟨S4x128, .f32⟩ : BufTy).Contents (Elt Ideal)}
  {x9 : (⟨S4096x1024, .f32⟩ : BufTy).Contents (Elt Ideal)} {D : Dat} (h : Ins x0 x1 x2 x3 x4 x5 x6 x7 x8 x9 D)
include h

/-! ## The gating's forward values -/

theorem v13_at (r : Fin 4096) (e : Fin 512) : val_main_v13 x0 (ix2 r e) = ((th (D.A r.val e.val) : ℝ) : EReal) := by
  pointwise [val_main_v13, val_main_v12, val_main_v11, val_main_v10, val_main_v9, val_main_v8, val_main_v4, val_main_v3, val_main_v2, val_main_v0, val_main_cst_2, val_main_cst, val_main_cst_0]
  simp only [h.a, ← EReal.coe_mul, word_num, word_den, div_num, word_cG, ← EReal.coe_add, tanh_coe]
  rfl

theorem v35_at (r : Fin 4096) (e : Fin 512) : val_main_v35 x0 (ix2 r e) = ((th (D.A r.val (512 + e.val)) : ℝ) : EReal) := by
  pointwise [val_main_v35, val_main_v34, val_main_v33, val_main_v32, val_main_v31, val_main_v30, val_main_v26, val_main_v25, val_main_v24, val_main_v1, val_main_cst_10, val_main_cst_7, val_main_cst_8]
  simp only [h.a, ← EReal.coe_mul, word_num, word_den, div_num, word_cG, ← EReal.coe_add, tanh_coe]
  rfl

theorem v22_at (r : Fin 4096) (e : Fin 512) : val_main_v22 x0 (ix2 r e) = ((1 / 2 * (1 + th (D.A r.val e.val)) : ℝ) : EReal) := by
  pointwise [val_main_v22, val_main_v21, val_main_v20, val_main_v19, val_main_cst_5, val_main_cst_6]
  rw [v13_at h, word_half, ← EReal.coe_one, ← EReal.coe_add, ← EReal.coe_mul]

theorem v44_at (r : Fin 4096) (e : Fin 512) : val_main_v44 x0 (ix2 r e) = ((1 / 2 * (1 + th (D.A r.val (512 + e.val))) : ℝ) : EReal) := by
  pointwise [val_main_v44, val_main_v43, val_main_v42, val_main_v41, val_main_cst_13, val_main_cst_14]
  rw [v35_at h, word_half, ← EReal.coe_one, ← EReal.coe_add, ← EReal.coe_mul]

theorem v0_at (r : Fin 4096) (e : Fin 512) : val_main_v0 x0 (ix2 r e) = ((D.A r.val e.val : ℝ) : EReal) := by
  pointwise [val_main_v0]
  exact h.a _ _

theorem v1_at (r : Fin 4096) (e : Fin 512) : val_main_v1 x0 (ix2 r e) = ((D.A r.val (512 + e.val) : ℝ) : EReal) := by
  pointwise [val_main_v1]
  exact h.a _ _

theorem v23_at (r : Fin 4096) (e : Fin 512) : val_main_v23 x0 (ix2 r e) = ((D.u r.val e.val : ℝ) : EReal) := by
  pointwise [val_main_v23]
  rw [v0_at h, v22_at h, ← EReal.coe_mul]
  refine congrArg Real.toEReal ?_
  unfold Dat.u gel
  ring

theorem v45_at (r : Fin 4096) (e : Fin 512) : val_main_v45 x0 (ix2 r e) = ((D.v r.val e.val : ℝ) : EReal) := by
  pointwise [val_main_v45]
  rw [v1_at h, v44_at h, ← EReal.coe_mul]
  refine congrArg Real.toEReal ?_
  unfold Dat.v gel
  ring

/-- The rows' mean square and reciprocal root. -/
theorem v52_at (r : Fin 4096) (z : Fin 1) : val_main_v52 x0 (ix2 r z) = ((msq 512 (D.row r.val) : ℝ) : EReal) := by
  pointwise [val_main_v52, val_main_v51, val_main_v50, val_main_v49, val_main_v48, val_main_v47, val_main_v46, val_main_cst_15, val_main_cst_16, val_main_cst_17]
  simp only [v45_at h, ← EReal.coe_mul, coe_sum, word_512, div_512, word_eps, ← EReal.coe_add]
  rfl

theorem v53_at (r : Fin 4096) (z : Fin 1) : val_main_v53 x0 (ix2 r z) = ((rinv 512 (D.row r.val) : ℝ) : EReal) := by
  pointwise [val_main_v53]
  rw [v52_at h]
  exact rsqrt_coe _ (msq_pos 512 (by norm_num) _)

/-- Minus one half of the reciprocal root over the mean square. -/
theorem v56_at (r : Fin 4096) (z : Fin 1) :
    val_main_v56 x0 (ix2 r z) = ((-(1 / 2) * (rinv 512 (D.row r.val) / msq 512 (D.row r.val)) : ℝ) : EReal) := by
  pointwise [val_main_v56, val_main_v55, val_main_v54, val_main_cst_18]
  rw [v53_at h, v52_at h, word_neg_half, div_coe _ _ (msq_pos 512 (by norm_num) _).ne', ← EReal.coe_mul]

theorem v58_at (r : Fin 4096) (e : Fin 512) : val_main_v58 x0 (ix2 r e) = ((D.vh r.val e.val : ℝ) : EReal) := by
  pointwise [val_main_v58, val_main_v57]
  rw [v45_at h, v53_at h, ← EReal.coe_mul]
  rfl

theorem v60_at (r : Fin 4096) (e : Fin 512) : val_main_v60 x0 x6 (ix2 r e) = ((D.vn r.val e.val : ℝ) : EReal) := by
  pointwise [val_main_v60, val_main_v59]
  rw [v58_at h, h.n, ← EReal.coe_mul]
  rfl

/-- The normalised values cut into 32 chunks of rows and four groups of columns. -/
theorem v61_at (q : Fin 32) (s : Fin 128) (g : Fin 4) (d : Fin 128) :
    val_main_v61 x0 x6 (ix4 q s g d) = ((D.vn (128 * q.val + s.val) (128 * g.val + d.val) : ℝ) : EReal) := by
  have e := v60_at h ⟨128 * q.val + s.val, by omega⟩ ⟨128 * g.val + d.val, by omega⟩
  unfold val_main_v61
  generalize val_main_v60 x0 x6 = y at e ⊢
  refine Eq.trans ?_ e
  pointwise []
  refine congrArg y (congrArg₂ ix2 (Fin.ext ?_) (Fin.ext ?_))
  · dsimp only; omega
  · dsimp only; omega

/-- The causal mixing matrices. -/
theorem v66_at (g : Fin 4) (t s : Fin 128) : val_main_v66 x7 (ix3 g t s) = ((D.wm g.val t.val s.val : ℝ) : EReal) := by
  pointwise [val_main_v66, val_main_v65, val_main_v64, val_main_v63, val_main_v62, val_main_call0_v5, val_main_call0_v4, val_main_call0_v3, val_main_call0_v2, val_main_call0_v1, val_main_call0_v0, val_main_call0_c, val_main_call0_cst, val_main_cst_19]
  rw [mask_sel_add, h.s, coe_mask]
  rfl

theorem v73_at (r : Fin 4096) (e : Fin 512) : val_main_v73 x0 x6 x7 x8 (ix2 r e) = ((D.mix r.val e.val : ℝ) : EReal) := by
  have ey := v61_at h
  have ew := v66_at h
  unfold val_main_v73 val_main_v72 val_main_v71 val_main_v70 val_main_v69 val_main_v68 val_main_v67
  generalize val_main_v61 x0 x6 = y at ey
  generalize val_main_v66 x7 = w at ew
  pointwise []
  simp only [ey, ew, h.bs, ← EReal.coe_mul, coe_sum, ← EReal.coe_add]
  refine congrArg Real.toEReal ?_
  unfold Dat.mix
  refine congrArg (· + D.Bs (e.val / 128) (r.val % 128)) (Finset.sum_congr rfl fun s _ => ?_)
  rw [Nat.div_add_mod, mul_comm]

theorem v74_at (r : Fin 4096) (e : Fin 512) : val_main_v74 x0 x6 x7 x8 (ix2 r e) = ((D.ya r.val e.val : ℝ) : EReal) := by
  pointwise [val_main_v74]
  rw [v23_at h, v73_at h, ← EReal.coe_mul]
  rfl

/-! ## The merge's forward values -/

theorem v82_at (r : Fin 4096) (k : Fin 1024) : val_main_v82 x2 (ix2 r k) = ((D.sa r.val k.val : ℝ) : EReal) := by
  pointwise [val_main_v82, val_main_v81, val_main_v80, val_main_v79, val_main_v78, val_main_v77, val_main_v75, val_main_cst_20, val_main_cst_21]
  rw [h.g, ← EReal.coe_neg, exp_coe, ← EReal.coe_one, ← EReal.coe_add]
  exact logi_coe _

theorem v93_at (r : Fin 4096) (k : Fin 1024) : val_main_v93 x2 (ix2 r k) = ((D.sb r.val k.val : ℝ) : EReal) := by
  pointwise [val_main_v93, val_main_v92, val_main_v91, val_main_v90, val_main_v89, val_main_v88, val_main_v76, val_main_cst_23, val_main_cst_24]
  rw [h.g, ← EReal.coe_neg, exp_coe, ← EReal.coe_one, ← EReal.coe_add]
  exact logi_coe _

theorem v86_at (r : Fin 4096) (k : Fin 1024) : val_main_v86 x0 x3 x6 x7 x8 (ix2 r k) = ((D.pa r.val k.val : ℝ) : EReal) := by
  pointwise [val_main_v86]
  simp only [v74_at h, h.wa, ← EReal.coe_mul, coe_sum]
  rfl

theorem v97_at (r : Fin 4096) (k : Fin 1024) : val_main_v97 x1 x4 (ix2 r k) = ((D.pb r.val k.val : ℝ) : EReal) := by
  pointwise [val_main_v97]
  simp only [h.b, h.wb, ← EReal.coe_mul, coe_sum]
  rfl

theorem v99_at (r : Fin 4096) (k : Fin 1024) : val_main_v99 x0 x1 x2 x3 x4 x6 x7 x8 (ix2 r k) = ((D.mg r.val k.val : ℝ) : EReal) := by
  pointwise [val_main_v99, val_main_v98, val_main_v87]
  rw [v82_at h, v86_at h, v93_at h, v97_at h, ← EReal.coe_mul, ← EReal.coe_mul, ← EReal.coe_add]
  rfl

/-! ## The cotangents -/

theorem v103_at (r : Fin 4096) (k : Fin 1024) : val_main_v103 x5 x9 (ix2 r k) = ((D.dm r.val k.val : ℝ) : EReal) := by
  pointwise [val_main_v103]
  simp only [h.c, h.wo, ← EReal.coe_mul, coe_sum]
  rfl

theorem v110_at (r : Fin 4096) (k : Fin 1024) : val_main_v110 x2 x5 x9 (ix2 r k) = ((D.dpa r.val k.val : ℝ) : EReal) := by
  pointwise [val_main_v110]
  rw [v82_at h, v103_at h, ← EReal.coe_mul]
  exact congrArg Real.toEReal (mul_comm _ _)

theorem v104_at (r : Fin 4096) (k : Fin 1024) : val_main_v104 x2 x5 x9 (ix2 r k) = ((D.dpb r.val k.val : ℝ) : EReal) := by
  pointwise [val_main_v104]
  rw [v93_at h, v103_at h, ← EReal.coe_mul]
  exact congrArg Real.toEReal (mul_comm _ _)

theorem v115_at (r : Fin 4096) (k : Fin 1024) : val_main_v115 x0 x2 x3 x5 x6 x7 x8 x9 (ix2 r k) = ((D.dga r.val k.val : ℝ) : EReal) := by
  pointwise [val_main_v115, val_main_v111, val_main_v85, val_main_v84, val_main_v83, val_main_cst_22]
  rw [v82_at h, v103_at h, v86_at h, ← EReal.coe_one, ← EReal.coe_sub]
  simp only [← EReal.coe_mul]
  rfl

theorem v109_at (r : Fin 4096) (k : Fin 1024) : val_main_v109 x1 x2 x4 x5 x9 (ix2 r k) = ((D.dgb r.val k.val : ℝ) : EReal) := by
  pointwise [val_main_v109, val_main_v105, val_main_v96, val_main_v95, val_main_v94, val_main_cst_25]
  rw [v93_at h, v103_at h, v97_at h, ← EReal.coe_one, ← EReal.coe_sub]
  simp only [← EReal.coe_mul]
  rfl

theorem v108_at (r : Fin 4096) (e : Fin 512) : val_main_v108 x2 x4 x5 x9 (ix2 r e) = ((D.dyb r.val e.val : ℝ) : EReal) := by
  pointwise [val_main_v108]
  simp only [v104_at h, h.wb, ← EReal.coe_mul, coe_sum]
  rfl

theorem v114_at (r : Fin 4096) (e : Fin 512) : val_main_v114 x2 x3 x5 x9 (ix2 r e) = ((D.dya r.val e.val : ℝ) : EReal) := by
  pointwise [val_main_v114]
  simp only [v110_at h, h.wa, ← EReal.coe_mul, coe_sum]
  rfl

theorem v117_at (r : Fin 4096) (e : Fin 512) : val_main_v117 x0 x2 x3 x5 x9 (ix2 r e) = ((D.ds r.val e.val : ℝ) : EReal) := by
  pointwise [val_main_v117]
  rw [v23_at h, v114_at h, ← EReal.coe_mul]
  exact congrArg Real.toEReal (mul_comm _ _)

theorem v118_at (r : Fin 4096) (e : Fin 512) : val_main_v118 x0 x2 x3 x5 x6 x7 x8 x9 (ix2 r e) = ((D.dmu r.val e.val : ℝ) : EReal) := by
  pointwise [val_main_v118]
  rw [v73_at h, v114_at h, ← EReal.coe_mul]
  rfl

theorem v119_at (q : Fin 32) (s : Fin 128) (g : Fin 4) (d : Fin 128) :
    val_main_v119 x0 x2 x3 x5 x9 (ix4 q s g d) = ((D.ds (128 * q.val + s.val) (128 * g.val + d.val) : ℝ) : EReal) := by
  have e := v117_at h ⟨128 * q.val + s.val, by omega⟩ ⟨128 * g.val + d.val, by omega⟩
  unfold val_main_v119
  generalize val_main_v117 x0 x2 x3 x5 x9 = y at e ⊢
  refine Eq.trans ?_ e
  pointwise []
  refine congrArg y (congrArg₂ ix2 (Fin.ext ?_) (Fin.ext ?_))
  · dsimp only; omega
  · dsimp only; omega

theorem v130_at (r : Fin 4096) (e : Fin 512) : val_main_v130 x0 x2 x3 x5 x7 x9 (ix2 r e) = ((D.dvn r.val e.val : ℝ) : EReal) := by
  have ey := v119_at h
  have ew := v66_at h
  unfold val_main_v130 val_main_v127 val_main_v126 val_main_v124
  generalize val_main_v119 x0 x2 x3 x5 x9 = y at ey
  generalize val_main_v66 x7 = w at ew
  pointwise []
  simp only [ey, ew, ← EReal.coe_mul, coe_sum]
  refine congrArg Real.toEReal (Finset.sum_congr rfl fun s _ => ?_)
  rw [Nat.div_add_mod, mul_comm]

theorem v135_at (r : Fin 4096) (e : Fin 512) : val_main_v135 x0 x2 x3 x5 x6 x7 x9 (ix2 r e) = ((D.rowD r.val e : ℝ) : EReal) := by
  pointwise [val_main_v135, val_main_v134]
  rw [v130_at h, h.n, ← EReal.coe_mul]
  rfl

theorem v145_at (r : Fin 4096) (e : Fin 512) : val_main_v145 x0 x2 x3 x5 x6 x7 x9 (ix2 r e)
    = (((∑ j, D.row r.val j * D.rowD r.val j) * (-(1 / 2) * (rinv 512 (D.row r.val) / msq 512 (D.row r.val))) / 512 : ℝ) : EReal) := by
  pointwise [val_main_v145, val_main_v144, val_main_v143, val_main_v142, val_main_v141, val_main_v138, val_main_v137, val_main_v136, val_main_cst_29, val_main_cst_30, val_main_cst_31]
  simp only [v56_at h, v135_at h, v45_at h, ← EReal.coe_mul, coe_sum, word_512, div_512]
  exact congrArg Real.toEReal (Fin.sum_univ_one _)

theorem v149_at (r : Fin 4096) (e : Fin 512) : val_main_v149 x0 x2 x3 x5 x6 x7 x9 (ix2 r e) = ((D.dvv r.val e : ℝ) : EReal) := by
  pointwise [val_main_v149, val_main_v148, val_main_v147, val_main_v146, val_main_v140, val_main_v139]
  rw [v135_at h, v145_at h, v53_at h, v45_at h]
  simp only [← EReal.coe_mul, ← EReal.coe_add]
  refine congrArg Real.toEReal ?_
  unfold Dat.dvv
  rw [← rmsBwd_eq 512 (by norm_num)]
  rfl

theorem v161_at (r : Fin 4096) (e : Fin 512) : val_main_v161 x0 x2 x3 x5 x6 x7 x9 (ix2 r e) = ((D.dav r.val e : ℝ) : EReal) := by
  pointwise [val_main_v161, val_main_v160, val_main_v159, val_main_v158, val_main_v157, val_main_v156, val_main_v155, val_main_v154, val_main_v153, val_main_v152, val_main_v151, val_main_v150,
    val_main_v40, val_main_v39, val_main_v38, val_main_v37, val_main_v36, val_main_v29, val_main_v28, val_main_v27, val_main_v24, val_main_cst_32, val_main_cst_33, val_main_cst_11, val_main_cst_12, val_main_cst_9,
    val_main_cst_7, val_main_cst_8]
  rw [v149_at h, v44_at h, v35_at h, v1_at h, word_half, word_cG, word_three, word_num, word_den, div_num, ← EReal.coe_one]
  simp only [← EReal.coe_mul, ← EReal.coe_add, ← EReal.coe_sub]
  exact congrArg Real.toEReal (gelD_chain _ _)

theorem v173_at (r : Fin 4096) (e : Fin 512) : val_main_v173 x0 x2 x3 x5 x6 x7 x8 x9 (ix2 r e) = ((D.dau r.val e.val : ℝ) : EReal) := by
  pointwise [val_main_v173, val_main_v172, val_main_v171, val_main_v170, val_main_v169, val_main_v168, val_main_v167, val_main_v166, val_main_v165, val_main_v164, val_main_v163, val_main_v162,
    val_main_v18, val_main_v17, val_main_v16, val_main_v15, val_main_v14, val_main_v7, val_main_v6, val_main_v5, val_main_v2, val_main_cst_34, val_main_cst_35, val_main_cst_3, val_main_cst_4, val_main_cst_1,
    val_main_cst, val_main_cst_0]
  rw [v118_at h, v22_at h, v13_at h, v0_at h, word_half, word_cG, word_three, word_num, word_den, div_num, ← EReal.coe_one]
  simp only [← EReal.coe_mul, ← EReal.coe_add, ← EReal.coe_sub]
  exact congrArg Real.toEReal (gelD_chain _ _)

/-! ## The nine results -/

/-- The gates' gradient. -/
theorem v175_at (r : Fin 4096) (k : Fin 2048) : val_main_v175 x0 x1 x2 x3 x4 x5 x6 x7 x8 x9 (ix2 r k) = ((D.oG r.val k.val : ℝ) : EReal) := by
  have ea := v115_at h r
  have eb := v109_at h r
  unfold val_main_v175 val_main_v116
  generalize val_main_v115 x0 x2 x3 x5 x6 x7 x8 x9 = a at ea
  generalize val_main_v109 x1 x2 x4 x5 x9 = b at eb
  pointwise []
  unfold Dat.oG
  by_cases hk : k.val < 1024
  · rw [if_pos hk, dif_pos hk]
    exact ea ⟨k.val, hk⟩
  · rw [if_neg hk, dif_neg hk]
    exact eb ⟨k.val - 1024, by omega⟩

/-- The gating projection's gradient. -/
theorem v176_at (r : Fin 4096) (k : Fin 1024) : val_main_v176 x0 x2 x3 x5 x6 x7 x8 x9 (ix2 r k) = ((D.oA r.val k.val : ℝ) : EReal) := by
  have ea := v173_at h r
  have eb := v161_at h r
  unfold val_main_v176 val_main_v174
  generalize val_main_v173 x0 x2 x3 x5 x6 x7 x8 x9 = a at ea
  generalize val_main_v161 x0 x2 x3 x5 x6 x7 x9 = b at eb
  pointwise []
  unfold Dat.oA
  by_cases hk : k.val < 512
  · rw [if_pos hk, dif_pos hk]
    exact ea ⟨k.val, hk⟩
  · have hk' : k.val - 512 < 512 := by omega
    rw [if_neg hk, dif_neg hk, dif_pos hk']
    exact eb ⟨k.val - 512, hk'⟩

theorem v177_at (r : Fin 4096) (e : Fin 512) : val_main_v177 x2 x4 x5 x9 (ix2 r e) = ((D.dyb r.val e.val : ℝ) : EReal) := by
  pointwise [val_main_v177]
  exact v108_at h r e

theorem v178_at (k e : Fin 1024) : val_main_v178 x0 x1 x2 x3 x4 x6 x7 x8 x9 (ix2 k e) = ((D.oWo k.val e.val : ℝ) : EReal) := by
  pointwise [val_main_v178, val_main_v102, val_main_v101]
  simp only [v99_at h, h.c, ← EReal.coe_mul, coe_sum]
  exact congrArg Real.toEReal (Finset.sum_congr rfl fun _ _ => mul_comm _ _)

theorem v179_at (e : Fin 512) (k : Fin 1024) : val_main_v179 x0 x2 x5 x6 x7 x8 x9 (ix2 e k) = ((D.oWa e.val k.val : ℝ) : EReal) := by
  pointwise [val_main_v179, val_main_v113, val_main_v112]
  simp only [v74_at h, v110_at h, ← EReal.coe_mul, coe_sum]
  exact congrArg Real.toEReal (Finset.sum_congr rfl fun _ _ => mul_comm _ _)

theorem v180_at (e : Fin 512) (k : Fin 1024) : val_main_v180 x1 x2 x5 x9 (ix2 e k) = ((D.oWb e.val k.val : ℝ) : EReal) := by
  pointwise [val_main_v180, val_main_v107, val_main_v106]
  simp only [v104_at h, h.b, ← EReal.coe_mul, coe_sum]
  exact congrArg Real.toEReal (Finset.sum_congr rfl fun _ _ => mul_comm _ _)

/-- The mixing matrices' gradient. -/
theorem v129_at (g : Fin 4) (t s : Fin 128) : val_main_v129 x0 x2 x3 x5 x6 x9 (ix3 g t s) = ((D.oS g.val t.val s.val : ℝ) : EReal) := by
  have ey := v119_at h
  have ez := v61_at h
  unfold val_main_v129 val_main_v125 val_main_v124
  generalize val_main_v119 x0 x2 x3 x5 x9 = y at ey
  generalize val_main_v61 x0 x6 = z at ez
  pointwise [val_main_v128, val_main_v64, val_main_v63, val_main_v62, val_main_call0_v5, val_main_call0_v4, val_main_call0_v3, val_main_call0_v2, val_main_call0_v1, val_main_call0_v0, val_main_call0_c, val_main_call0_cst, val_main_cst_19]
  rw [mask_sel_add]
  simp only [ey, ez, ← EReal.coe_mul, coe_sum]
  rw [coe_mask]
  rfl

/-- The biases' gradient. -/
theorem v181_at (t : Fin 128) (g : Fin 4) : val_main_v181 x0 x2 x3 x5 x9 (ix2 t g) = ((D.oB g.val t.val : ℝ) : EReal) := by
  have ey := v119_at h
  unfold val_main_v181 val_main_v123 val_main_v122 val_main_v121 val_main_v120
  generalize val_main_v119 x0 x2 x3 x5 x9 = y at ey
  pointwise []
  refine (reduce_outer _ _ _ t g).trans ?_
  simp only [Fin.sum_univ_one]
  pointwise [reduce_outer, val_main_cst_26, val_main_cst_27]
  simp only [ey, coe_sum]
  rfl

/-- The gain's gradient. -/
theorem v133_at (z : Fin 1) (e : Fin 512) : val_main_v133 x0 x2 x3 x5 x7 x9 (ix2 z e) = ((D.oN e.val : ℝ) : EReal) := by
  pointwise [val_main_v133, val_main_v132, val_main_v131, val_main_cst_28]
  simp only [v58_at h, v130_at h, ← EReal.coe_mul, coe_sum]
  exact congrArg Real.toEReal (Finset.sum_congr rfl fun _ _ => mul_comm _ _)

end Cert.MergeRefIdeal.Result

end
-- ==== Proof.Merge.Body.lean ====
module

public import proofs.«01_k».proof.Defs
public import proofs.«01_k».proof.Proof.Gen.MergeIdeal.Value
public import proofs.«01_k».proof.Proof.Common.Reals
public import Idealize.ShloMosaic.Lib.Pipeline.Value
public import Idealize.ShloMosaic.Lib.Pipeline.ReadBack
public import Idealize.ShloMosaic.Lib.Tactic

/-! # The gated merge's backward: what each grid point leaves -/

@[expose] public section

set_option maxRecDepth 16384
set_option maxHeartbeats 4000000

noncomputable section

open Idealize.ShloMosaic Idealize.ShloMosaic.TcCoe Idealize.SL.Sem

namespace Cert.MergeIdeal.Body

open Cert.MergeIdeal Cert.MergeIdeal.Gen Cert.MergeIdeal.Value

variable {F : FTy → Type} [FloatOps F] [Named F]
variable (m : (ℓ : Loc nD τ sig) → Buf (Elt F) ℓ) (c : Dev nD) (t : Fin cfg0.N)

theorem hz : (![0, 0] : Fin 2 → Nat) = fun _ => 0 := funext fun a => by fin_cases a <;> rfl
theorem hz3 : (![0, 0, 0] : Fin 3 → Nat) = fun _ => 0 := funext fun a => by fin_cases a <;> rfl

/-- The carried state: the nine result blocks, then the three weight sums. -/
abbrev St (F : FTy → Type) : Type := Vec F S512x2048 .bf16 × Vec F S512x1024 .bf16 × Vec F S512x512 .bf16 × Vec F S1024x1024 .bf16 × Vec F S512x1024 .bf16 × Vec F S512x1024 .bf16 × Vec F S4x128x128 .f32 × Vec F S128x4 .f32 × Vec F S1x512 .f32 × Vec F S1024x1024 .f32 × Vec F S512x1024 .f32 × Vec F S512x1024 .f32

/-! ## The chunked gating, block by block: row chunk `k`, column group `g` -/

theorem fits (k g : Fin 4) : S512x512.Slices ![128 * k.val, 128 * g.val] S128x128 :=
  ⟨rfl, fun a => by
    match a with
    | ⟨0, _⟩ => show 128 * k.val + 128 ≤ 512; omega
    | ⟨1, _⟩ => show 128 * g.val + 128 ≤ 512; omega⟩

/-- The 128×128 block of row chunk `k` and column group `g`. -/
def blk {α : Type} (x : S512x512.Idx → α) (k g : Fin 4) : S128x128.Idx → α :=
  extractStridedSlice S128x128 ![128 * k.val, 128 * g.val] x (fits k g)

/-- Four blocks under one another. -/
def rows4 (f : Fin 4 → FVec F S128x128 .f32) : FVec F S512x128 .f32 :=
  concatenate S512x128 0 [⟨S128x128, f 0⟩, ⟨S128x128, f 1⟩, ⟨S128x128, f 2⟩, ⟨S128x128, f 3⟩] concatenates_S128x128_S128x128_S128x128_S128x128_S512x128_d0

/-- Four column groups side by side. -/
def cols4 (f : Fin 4 → FVec F S512x128 .f32) : FVec F S512x512 .f32 :=
  concatenate S512x512 1 [⟨S512x128, f 0⟩, ⟨S512x128, f 1⟩, ⟨S512x128, f 2⟩, ⟨S512x128, f 3⟩] concatenates_S512x128_S512x128_S512x128_S512x128_S512x512_d1

/-- The cotangent of the mixed values on one block. -/
def ds (dy u : FVec F S512x512 .f32) (k g : Fin 4) : FVec F S128x128 .f32 := mulf (blk dy k g) (blk u k g)

/-- The gradient of the first factor on one block: the mixed values, with their bias, times the cotangent. -/
def duB (dy : FVec F S512x512 .f32) (vn : FVec F S512x512 .bf16) (w : FVec F S128x128 .bf16) (b : FVec F S128x1 .f32) (k g : Fin 4) :
    FVec F S128x128 .f32 :=
  mulf (blk dy k g) (addf (matmul dot_S128x128_S128x128_S128x128_1_0_0_1_n_n none w (blk vn k g) (constant S128x128 .f32 0x00000000#32))
    (broadcastTo S128x128 b broadcasts_S128x1_S128x128))

/-- The gradient of the normalised values on one block: the transposed mixing matrix times `ds`. -/
def dvB (dy u : FVec F S512x512 .f32) (w : FVec F S128x128 .bf16) (k g : Fin 4) : FVec F S128x128 .f32 :=
  matmul dot_S128x128_S128x128_S128x128_1_0_0_1_n_n none w (truncf .bf16 (ds dy u k g) bitsLt_bf16_f32) (constant S128x128 .f32 0x00000000#32)

/-- One chunk's part of the mixing matrix's gradient. -/
def gwB (dy u : FVec F S512x512 .f32) (vn : FVec F S512x512 .bf16) (k g : Fin 4) : FVec F S128x128 .f32 :=
  matmul dot_S128x128_S128x128_S128x128_1_1_0_0_n_n none (truncf .bf16 (ds dy u k g) bitsLt_bf16_f32) (blk vn k g) (constant S128x128 .f32 0x00000000#32)

/-- One chunk's part of the bias's gradient. -/
def gbB (dy u : FVec F S512x512 .f32) (k g : Fin 4) : FVec F S128x1 .f32 :=
  shapeCast S128x1 (multiReduction .add [1] S128 (ds dy u k g) 0x00000000#32 reduces_S128x128_S128 (.inl rfl) rfl) shapeCasts_S128_S128x1

/-- The mixing matrix's gradient over a tile's four chunks, masked, added to `old`. -/
def gwN (dy u : FVec F S512x512 .f32) (vn : FVec F S512x512 .bf16) (g : Fin 4) (old : Vec F S1x128x128 .f32) : Vec F S1x128x128 .f32 :=
  shapeCast S1x128x128 (addf (shapeCast S128x128 old shapeCasts_S1x128x128_S128x128)
    (select k0_pay31 (addf (addf (addf (addf (broadcast S128x128 (Scalar.ofBits .f32 0x00000000#32)) (gwB dy u vn 0 g)) (gwB dy u vn 1 g)) (gwB dy u vn 2 g)) (gwB dy u vn 3 g))
      (broadcast S128x128 (Scalar.ofBits .f32 0x00000000#32)))) shapeCasts_S128x128_S1x128x128

/-- The bias's gradient over a tile's four chunks, added to `old`. -/
def gbN (dy u : FVec F S512x512 .f32) (g : Fin 4) (old : Vec F S128x1 .f32) : Vec F S128x1 .f32 :=
  shapeCast S128x1 (addf old
    (addf (addf (addf (addf (broadcast S128x1 (Scalar.ofBits .f32 0x00000000#32)) (gbB dy u 0 g)) (gbB dy u 1 g)) (gbB dy u 2 g)) (gbB dy u 3 g))) shapeCasts_S128x1_S128x1

/-! ## The rectangles -/

/-- Block `k` of a stacked weight. -/
abbrev rW (k : Fin 4) : Rect S4x512x256 := Rect.unit (s := S4x512x256) ![k.val, 0, 0] S1x512x256.size
  (fun a => by match a with | ⟨0, _⟩ => show k.val + 1 ≤ 4; omega | ⟨1, _⟩ => show 0 + 512 ≤ 512; omega | ⟨2, _⟩ => show 0 + 256 ≤ 256; omega)
/-- Group `g`'s mixing matrix. -/
abbrev rS (g : Fin 4) : Rect S4x128x128 := Rect.unit (s := S4x128x128) ![g.val, 0, 0] S1x128x128.size
  (fun a => by match a with | ⟨0, _⟩ => show g.val + 1 ≤ 4; omega | ⟨1, _⟩ => show 0 + 128 ≤ 128; omega | ⟨2, _⟩ => show 0 + 128 ≤ 128; omega)
/-- Group `g`'s bias column. -/
abbrev rB (g : Fin 4) : Rect S128x4 := Rect.unit (s := S128x4) ![0, g.val] S128x1.size
  (fun a => by match a with | ⟨0, _⟩ => show 0 + 128 ≤ 128; omega | ⟨1, _⟩ => show g.val + 1 ≤ 4; omega)
/-- The two column halves of the gates' gradient. -/
abbrev rG0 : Rect S512x2048 := Rect.unit (s := S512x2048) ![0, 0] S512x1024.size inb_S512x2048_S512x1024_0_0
abbrev rG1 : Rect S512x2048 := Rect.unit (s := S512x2048) ![0, 1024] S512x1024.size inb_S512x2048_S512x1024_0_1024
/-- The two column halves of the gating projection's gradient. -/
abbrev rA0 : Rect S512x1024 := Rect.unit (s := S512x1024) ![0, 0] S512x512.size inb_S512x1024_S512x512_0_0
abbrev rA1 : Rect S512x1024 := Rect.unit (s := S512x1024) ![0, 512] S512x512.size inb_S512x1024_S512x512_0_512

/-! ## The point's blocks and the quantities computed from them -/

abbrev bX : Vec F S512x1024 .f32 := iblk m c 0 t
abbrev bM : Vec F S512x1024 .bf16 := iblk m c 1 t
abbrev bYa : Vec F S512x512 .bf16 := iblk m c 2 t
abbrev bYb : Vec F S512x512 .bf16 := iblk m c 3 t
abbrev bG : Vec F S512x2048 .bf16 := iblk m c 4 t
abbrev bP : Vec F S512x1024 .bf16 := iblk m c 5 t
abbrev bWa : Vec F S4x512x256 .bf16 := iblk m c 6 t
abbrev bWb : Vec F S4x512x256 .bf16 := iblk m c 7 t
abbrev bWo : Vec F S1024x1024 .bf16 := iblk m c 8 t
abbrev bGs : Vec F S1x512 .f32 := iblk m c 9 t
abbrev bWs : Vec F S4x128x128 .f32 := iblk m c 10 t
abbrev bBs : Vec F S128x4 .f32 := iblk m c 11 t

/-- The merged product's cotangent. -/
def dm : FVec F S512x1024 .f32 := k0_pay13 (bX m c t) (bWo m c t)
/-- The two branches projected. -/
def pa : FVec F S512x1024 .f32 := k0_pay17 (bYa m c t) (View.ld (bWa m c t) (rW 0)) (View.ld (bWa m c t) (rW 1)) (View.ld (bWa m c t) (rW 2)) (View.ld (bWa m c t) (rW 3))
def pb : FVec F S512x1024 .f32 := k0_pay18 (k0_pay16 (bYb m c t)) (View.ld (bWb m c t) (rW 0)) (View.ld (bWb m c t) (rW 1)) (View.ld (bWb m c t) (rW 2)) (View.ld (bWb m c t) (rW 3))
/-- The cotangents of the projections. -/
def dpa : FVec F S512x1024 .bf16 := k0_pay21 (dm m c t) (k0_pay14 (bG m c t))
def dpb : FVec F S512x1024 .bf16 := k0_pay22 (dm m c t) (k0_pay14 (bG m c t))
/-- The gates' gradient, half by half. -/
def dg0 : FVec F S512x1024 .bf16 := k0_pay24 (k0_pay23 (dm m c t) (k0_pay14 (bG m c t)) (pa m c t))
def dg1 : FVec F S512x1024 .bf16 := k0_pay25 (dm m c t) (pb m c t) (k0_pay20 (k0_pay14 (bG m c t)))
/-- The branches' cotangents. -/
def dy : FVec F S512x512 .f32 := k0_pay30 (k0_pay26 (dpa m c t) (View.ld (bWa m c t) (rW 0)) (View.ld (bWa m c t) (rW 1)) (View.ld (bWa m c t) (rW 2)) (View.ld (bWa m c t) (rW 3)))
def dyb : FVec F S512x512 .bf16 := k0_pay28 (dpb m c t) (k0_pay27 (dpb m c t)) (View.ld (bWb m c t) (rW 0)) (View.ld (bWb m c t) (rW 1)) (View.ld (bWb m c t) (rW 2)) (View.ld (bWb m c t) (rW 3))
/-- The gating's first factor, its values and their normalisation. -/
def uu : FVec F S512x512 .f32 := k0_pay37 (k0_pay32 (bP m c t)) (k0_pay34 (bP m c t)) k0_pay35
def vv : FVec F S512x512 .f32 := k0_pay39 (k0_pay33 (bP m c t))
def rv : FVec F S512x1 .f32 := k0_pay40 (k0_pay33 (bP m c t))
def vn : FVec F S512x512 .bf16 := k0_pay41 (bGs m c t) (k0_pay33 (bP m c t))
/-- Group `g`'s masked mixing matrix, its transpose, and its bias column. -/
def wm (g : Fin 4) : FVec F S128x128 .bf16 := k0_pay42 k0_pay31 (View.ld (bWs m c t) (rS g))
def wt (g : Fin 4) : FVec F S128x128 .bf16 := k0_pay43 k0_pay31 (View.ld (bWs m c t) (rS g))
def bc (g : Fin 4) : FVec F S128x1 .f32 := k0_pay44 (View.ld (bBs m c t) (rB g))
/-- The gradients of the first factor and of the normalised values. -/
def du : FVec F S512x512 .f32 := cols4 fun g => rows4 fun k => duB (dy m c t) (vn m c t) (wm m c t g) (bc m c t g) k g
def dv : FVec F S512x512 .f32 := cols4 fun g => rows4 fun k => dvB (dy m c t) (uu m c t) (wt m c t g) k g
/-- The gating projection's gradient, half by half. -/
def da0 : FVec F S512x512 .bf16 := k0_pay172 (k0_pay171 (k0_pay32 (bP m c t)) (k0_pay36 (k0_pay34 (bP m c t)) k0_pay35) (du m c t))
def da1 : FVec F S512x512 .bf16 := k0_pay173 (k0_pay33 (bP m c t)) (k0_pay38 (k0_pay33 (bP m c t))) (k0_pay170 (bGs m c t) (vv m c t) (rv m c t) (dv m c t))
/-- The sums, one tile's part added to `old`. -/
def gwo (old : Vec F S1024x1024 .f32) : Vec F S1024x1024 .f32 := k0_pay174 (k0_pay12 (bX m c t)) old (bM m c t)
def gpa (old : Vec F S512x1024 .f32) : Vec F S512x1024 .f32 := k0_pay1 (k0_pay175 (k0_pay15 (bYa m c t)) (dpa m c t) old)
def gpb (old : Vec F S512x1024 .f32) : Vec F S512x1024 .f32 := k0_pay2 (k0_pay16 (bYb m c t)) (dpb m c t) old
def ggn (old : Vec F S1x512 .f32) : Vec F S1x512 .f32 := k0_pay169 (vv m c t) (rv m c t) (dv m c t) old

/-- What a point stores in the mixing matrices' gradient, group by group. -/
abbrev wPieces (old : Vec F S4x128x128 .f32) : List (View.Piece (Elt F) S4x128x128 .f32) :=
  [⟨rS 3, gwN (dy m c t) (uu m c t) (vn m c t) 3 (View.ld old (rS 3))⟩, ⟨rS 2, gwN (dy m c t) (uu m c t) (vn m c t) 2 (View.ld old (rS 2))⟩,
   ⟨rS 1, gwN (dy m c t) (uu m c t) (vn m c t) 1 (View.ld old (rS 1))⟩, ⟨rS 0, gwN (dy m c t) (uu m c t) (vn m c t) 0 (View.ld old (rS 0))⟩]
/-- What a point stores in the biases' gradient, group by group. -/
abbrev bPieces (old : Vec F S128x4 .f32) : List (View.Piece (Elt F) S128x4 .f32) :=
  [⟨rB 3, gbN (dy m c t) (uu m c t) 3 (View.ld old (rB 3))⟩, ⟨rB 2, gbN (dy m c t) (uu m c t) 2 (View.ld old (rB 2))⟩,
   ⟨rB 1, gbN (dy m c t) (uu m c t) 1 (View.ld old (rB 1))⟩, ⟨rB 0, gbN (dy m c t) (uu m c t) 0 (View.ld old (rB 0))⟩]
/-- The two halves of the gates' gradient, and of the gating projection's. -/
abbrev gPieces : List (View.Piece (Elt F) S512x2048 .bf16) := [⟨rG1, dg1 m c t⟩, ⟨rG0, dg0 m c t⟩]
abbrev aPieces : List (View.Piece (Elt F) S512x1024 .bf16) := [⟨rA1, da1 m c t⟩, ⟨rA0, da0 m c t⟩]

abbrev rZW : Rect S4x128x128 := Rect.unit (s := S4x128x128) ![0, 0, 0] S4x128x128.size inb_S4x128x128_S4x128x128_0_0_0
abbrev rZB : Rect S128x4 := Rect.unit (s := S128x4) ![0, 0] S128x4.size inb_S128x4_S128x4_0_0

/-- The first tile: the row blocks, and the sums started from the stored zeros. -/
theorem stA (acc : St F) (h0 : t.val % 8 = 0) (h1 : ¬t.val % 8 = 7) :
    (stAt0 m c t.val t.isLt acc).1 = View.canon (gPieces m c t)
    ∧ (stAt0 m c t.val t.isLt acc).2.1 = View.canon (aPieces m c t)
    ∧ (stAt0 m c t.val t.isLt acc).2.2.1 = dyb m c t
    ∧ (stAt0 m c t.val t.isLt acc).2.2.2.2.2.2.1 = View.canon (wPieces m c t k0_pay9 ++ [⟨rZW, k0_pay9⟩])
    ∧ (stAt0 m c t.val t.isLt acc).2.2.2.2.2.2.2.1 = View.canon (bPieces m c t k0_pay10 ++ [⟨rZB, k0_pay10⟩])
    ∧ (stAt0 m c t.val t.isLt acc).2.2.2.2.2.2.2.2.1 = ggn m c t k0_pay11
    ∧ (stAt0 m c t.val t.isLt acc).2.2.2.2.2.2.2.2.2.1 = gwo m c t k0_pay6
    ∧ (stAt0 m c t.val t.isLt acc).2.2.2.2.2.2.2.2.2.2.1 = gpa m c t k0_pay7
    ∧ (stAt0 m c t.val t.isLt acc).2.2.2.2.2.2.2.2.2.2.2 = gpb m c t k0_pay8 := by
  have e := stAt0_A m c t acc h0 h1
  generalize stAt0 m c t.val t.isLt acc = s at e ⊢
  subst e
  dsimp only
  refine ⟨?_, ?_, ?_, ?_, ?_, ?_, ?_, ?_, ?_⟩
  on_goal 1 => unfold out0_A_12
  on_goal 1 => rw [View.read_writes_eq_canon _ _ _ (fun y => cover0_A_12 (y := y) ..)]
  on_goal 2 => unfold out0_A_13
  on_goal 2 => rw [View.read_writes_eq_canon _ _ _ (fun y => cover0_A_13 (y := y) ..)]
  on_goal 3 => unfold out0_A_14
  on_goal 3 => rw [View.read_writes_eq_canon _ _ _ (fun y => cover0_A_14 (y := y) ..)]
  on_goal 4 => unfold out0_A_18
  on_goal 4 => rw [View.read_writes_eq_canon _ _ _ (fun y => cover0_A_18 (y := y) ..)]
  on_goal 5 => unfold out0_A_19
  on_goal 5 => rw [View.read_writes_eq_canon _ _ _ (fun y => cover0_A_19 (y := y) ..)]
  on_goal 6 => unfold out0_A_20
  on_goal 6 => rw [View.read_writes_eq_canon _ _ _ (fun y => cover0_A_20 (y := y) ..)]
  on_goal 7 => unfold sout0_A_0
  on_goal 7 => rw [View.read_writes_eq_canon _ _ _ (fun y => scover0_A_0 (y := y) ..)]
  on_goal 8 => unfold sout0_A_1
  on_goal 8 => rw [View.read_writes_eq_canon _ _ _ (fun y => scover0_A_1 (y := y) ..)]
  on_goal 9 => unfold sout0_A_2
  on_goal 9 => rw [View.read_writes_eq_canon _ _ _ (fun y => scover0_A_2 (y := y) ..)]
  all_goals
    unfold kernelRun0_A
    dsimp only
    sl_unfold_words
    simp only [View.canon_unit_zero (S := S512x512) hz, View.canon_cons_unit_zero (S := S1x512) hz, View.canon_cons_unit_zero (S := S1024x1024) hz, View.canon_cons_unit_zero (S := S512x1024) hz,
      View.readCov_unit_zero (S := S1x512) _ hz, View.readCov_unit_zero (S := S1024x1024) _ hz, View.readCov_unit_zero (S := S512x1024) _ hz,
      View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread,
      (hs0_11 t).read_unread, (hs0_18 t).read_unread, (hs0_19 t).read_unread, (hs0_20 t).read_unread, (Memref.isWhole_whole _).read_unread,
      View.ld_unit_zero (S := S512x1024) hz, View.ld_unit_zero (S := S512x2048) hz, View.ld_unit_zero (S := S1024x1024) hz,
      View.ld_unit_zero (S := S512x512) hz, View.ld_unit_zero (S := S1x512) hz]
  on_goal 4 => have z := fun a => congrFun hz3 a
  on_goal 4 => rw [View.readCov_skip _ (Rect.unit (s := S4x128x128) ![2, 0, 0] S1x128x128.size inb_S4x128x128_S1x128x128_2_0_0) _ _ (Rect.unit (s := S4x128x128) ![3, 0, 0] S1x128x128.size inb_S4x128x128_S1x128x128_3_0_0).toLoadRect (by decide +kernel)]
  on_goal 4 => rw [View.readCov_skip _ (Rect.unit (s := S4x128x128) ![1, 0, 0] S1x128x128.size inb_S4x128x128_S1x128x128_1_0_0) _ _ (Rect.unit (s := S4x128x128) ![3, 0, 0] S1x128x128.size inb_S4x128x128_S1x128x128_3_0_0).toLoadRect (by decide +kernel)]
  on_goal 4 => rw [View.readCov_skip _ (Rect.unit (s := S4x128x128) ![0, 0, 0] S1x128x128.size inb_S4x128x128_S1x128x128_0_0_0) _ _ (Rect.unit (s := S4x128x128) ![3, 0, 0] S1x128x128.size inb_S4x128x128_S1x128x128_3_0_0).toLoadRect (by decide +kernel)]
  on_goal 4 => rw [View.readCov_skip _ (Rect.unit (s := S4x128x128) ![1, 0, 0] S1x128x128.size inb_S4x128x128_S1x128x128_1_0_0) _ _ (Rect.unit (s := S4x128x128) ![2, 0, 0] S1x128x128.size inb_S4x128x128_S1x128x128_2_0_0).toLoadRect (by decide +kernel)]
  on_goal 4 => rw [View.readCov_skip _ (Rect.unit (s := S4x128x128) ![0, 0, 0] S1x128x128.size inb_S4x128x128_S1x128x128_0_0_0) _ _ (Rect.unit (s := S4x128x128) ![2, 0, 0] S1x128x128.size inb_S4x128x128_S1x128x128_2_0_0).toLoadRect (by decide +kernel)]
  on_goal 4 => rw [View.readCov_skip _ (Rect.unit (s := S4x128x128) ![0, 0, 0] S1x128x128.size inb_S4x128x128_S1x128x128_0_0_0) _ _ (Rect.unit (s := S4x128x128) ![1, 0, 0] S1x128x128.size inb_S4x128x128_S1x128x128_1_0_0).toLoadRect (by decide +kernel)]
  on_goal 4 => rw [View.readCov_fill (s := S4x128x128) _ _ _ _ (Rect.unit (s := S4x128x128) ![3, 0, 0] S1x128x128.size inb_S4x128x128_S1x128x128_3_0_0) z]
  on_goal 4 => rw [View.readCov_fill (s := S4x128x128) _ _ _ _ (Rect.unit (s := S4x128x128) ![2, 0, 0] S1x128x128.size inb_S4x128x128_S1x128x128_2_0_0) z]
  on_goal 4 => rw [View.readCov_fill (s := S4x128x128) _ _ _ _ (Rect.unit (s := S4x128x128) ![1, 0, 0] S1x128x128.size inb_S4x128x128_S1x128x128_1_0_0) z]
  on_goal 4 => rw [View.readCov_fill (s := S4x128x128) _ _ _ _ (Rect.unit (s := S4x128x128) ![0, 0, 0] S1x128x128.size inb_S4x128x128_S1x128x128_0_0_0) z]
  on_goal 5 => have z := fun a => congrFun hz a
  on_goal 5 => rw [View.readCov_skip _ (Rect.unit (s := S128x4) ![0, 2] S128x1.size inb_S128x4_S128x1_0_2) _ _ (Rect.unit (s := S128x4) ![0, 3] S128x1.size inb_S128x4_S128x1_0_3).toLoadRect (by decide +kernel)]
  on_goal 5 => rw [View.readCov_skip _ (Rect.unit (s := S128x4) ![0, 1] S128x1.size inb_S128x4_S128x1_0_1) _ _ (Rect.unit (s := S128x4) ![0, 3] S128x1.size inb_S128x4_S128x1_0_3).toLoadRect (by decide +kernel)]
  on_goal 5 => rw [View.readCov_skip _ (Rect.unit (s := S128x4) ![0, 0] S128x1.size inb_S128x4_S128x1_0_0) _ _ (Rect.unit (s := S128x4) ![0, 3] S128x1.size inb_S128x4_S128x1_0_3).toLoadRect (by decide +kernel)]
  on_goal 5 => rw [View.readCov_skip _ (Rect.unit (s := S128x4) ![0, 1] S128x1.size inb_S128x4_S128x1_0_1) _ _ (Rect.unit (s := S128x4) ![0, 2] S128x1.size inb_S128x4_S128x1_0_2).toLoadRect (by decide +kernel)]
  on_goal 5 => rw [View.readCov_skip _ (Rect.unit (s := S128x4) ![0, 0] S128x1.size inb_S128x4_S128x1_0_0) _ _ (Rect.unit (s := S128x4) ![0, 2] S128x1.size inb_S128x4_S128x1_0_2).toLoadRect (by decide +kernel)]
  on_goal 5 => rw [View.readCov_skip _ (Rect.unit (s := S128x4) ![0, 0] S128x1.size inb_S128x4_S128x1_0_0) _ _ (Rect.unit (s := S128x4) ![0, 1] S128x1.size inb_S128x4_S128x1_0_1).toLoadRect (by decide +kernel)]
  on_goal 5 => rw [View.readCov_fill (s := S128x4) _ _ _ _ (Rect.unit (s := S128x4) ![0, 3] S128x1.size inb_S128x4_S128x1_0_3) z]
  on_goal 5 => rw [View.readCov_fill (s := S128x4) _ _ _ _ (Rect.unit (s := S128x4) ![0, 2] S128x1.size inb_S128x4_S128x1_0_2) z]
  on_goal 5 => rw [View.readCov_fill (s := S128x4) _ _ _ _ (Rect.unit (s := S128x4) ![0, 1] S128x1.size inb_S128x4_S128x1_0_1) z]
  on_goal 5 => rw [View.readCov_fill (s := S128x4) _ _ _ _ (Rect.unit (s := S128x4) ![0, 0] S128x1.size inb_S128x4_S128x1_0_0) z]
  all_goals rfl

/-- A tile between the first and the last: the row blocks, and the sums added to what was carried. -/
theorem stB (acc : St F) (h0 : ¬t.val % 8 = 0) (h1 : ¬t.val % 8 = 7) :
    (stAt0 m c t.val t.isLt acc).1 = View.canon (gPieces m c t)
    ∧ (stAt0 m c t.val t.isLt acc).2.1 = View.canon (aPieces m c t)
    ∧ (stAt0 m c t.val t.isLt acc).2.2.1 = dyb m c t
    ∧ (stAt0 m c t.val t.isLt acc).2.2.2.2.2.2.1 = View.canon (wPieces m c t acc.2.2.2.2.2.2.1)
    ∧ (stAt0 m c t.val t.isLt acc).2.2.2.2.2.2.2.1 = View.canon (bPieces m c t acc.2.2.2.2.2.2.2.1)
    ∧ (stAt0 m c t.val t.isLt acc).2.2.2.2.2.2.2.2.1 = ggn m c t acc.2.2.2.2.2.2.2.2.1
    ∧ (stAt0 m c t.val t.isLt acc).2.2.2.2.2.2.2.2.2.1 = gwo m c t acc.2.2.2.2.2.2.2.2.2.1
    ∧ (stAt0 m c t.val t.isLt acc).2.2.2.2.2.2.2.2.2.2.1 = gpa m c t acc.2.2.2.2.2.2.2.2.2.2.1
    ∧ (stAt0 m c t.val t.isLt acc).2.2.2.2.2.2.2.2.2.2.2 = gpb m c t acc.2.2.2.2.2.2.2.2.2.2.2 := by
  have e := stAt0_B m c t acc h0 h1
  generalize stAt0 m c t.val t.isLt acc = s at e ⊢
  subst e
  dsimp only
  refine ⟨?_, ?_, ?_, ?_, ?_, ?_, ?_, ?_, ?_⟩
  on_goal 1 => unfold out0_B_12
  on_goal 1 => rw [View.read_writes_eq_canon _ _ _ (fun y => cover0_B_12 (y := y) ..)]
  on_goal 2 => unfold out0_B_13
  on_goal 2 => rw [View.read_writes_eq_canon _ _ _ (fun y => cover0_B_13 (y := y) ..)]
  on_goal 3 => unfold out0_B_14
  on_goal 3 => rw [View.read_writes_eq_canon _ _ _ (fun y => cover0_B_14 (y := y) ..)]
  on_goal 4 => unfold out0_B_18
  on_goal 4 => rw [View.read_writes_eq_canon _ _ _ (fun y => cover0_B_18 (y := y) ..)]
  on_goal 5 => unfold out0_B_19
  on_goal 5 => rw [View.read_writes_eq_canon _ _ _ (fun y => cover0_B_19 (y := y) ..)]
  on_goal 6 => unfold out0_B_20
  on_goal 6 => rw [View.read_writes_eq_canon _ _ _ (fun y => cover0_B_20 (y := y) ..)]
  on_goal 7 => unfold sout0_B_0
  on_goal 7 => rw [View.read_writes_eq_canon _ _ _ (fun y => scover0_B_0 (y := y) ..)]
  on_goal 8 => unfold sout0_B_1
  on_goal 8 => rw [View.read_writes_eq_canon _ _ _ (fun y => scover0_B_1 (y := y) ..)]
  on_goal 9 => unfold sout0_B_2
  on_goal 9 => rw [View.read_writes_eq_canon _ _ _ (fun y => scover0_B_2 (y := y) ..)]
  all_goals
    unfold kernelRun0_B
    dsimp only
    sl_unfold_words
    simp only [View.canon_unit_zero (S := S512x512) hz, View.canon_unit_zero (S := S1x512) hz, View.canon_unit_zero (S := S1024x1024) hz, View.canon_unit_zero (S := S512x1024) hz,
      View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread,
      (hs0_11 t).read_unread, (hs0_18 t).read_unread, (hs0_19 t).read_unread, (hs0_20 t).read_unread, (Memref.isWhole_whole _).read_unread,
      View.ld_unit_zero (S := S512x1024) hz, View.ld_unit_zero (S := S512x2048) hz, View.ld_unit_zero (S := S1024x1024) hz,
      View.ld_unit_zero (S := S512x512) hz, View.ld_unit_zero (S := S1x512) hz]
  all_goals rfl

/-- The last tile: as a middle one, and the finished weight sums copied out. -/
theorem stC (acc : St F) (h0 : ¬t.val % 8 = 0) (h1 : t.val % 8 = 7) :
    (stAt0 m c t.val t.isLt acc).1 = View.canon (gPieces m c t)
    ∧ (stAt0 m c t.val t.isLt acc).2.1 = View.canon (aPieces m c t)
    ∧ (stAt0 m c t.val t.isLt acc).2.2.1 = dyb m c t
    ∧ (stAt0 m c t.val t.isLt acc).2.2.2.1 = k0_pay3 (gwo m c t acc.2.2.2.2.2.2.2.2.2.1)
    ∧ (stAt0 m c t.val t.isLt acc).2.2.2.2.1 = k0_pay4 (gpa m c t acc.2.2.2.2.2.2.2.2.2.2.1)
    ∧ (stAt0 m c t.val t.isLt acc).2.2.2.2.2.1 = k0_pay5 (gpb m c t acc.2.2.2.2.2.2.2.2.2.2.2)
    ∧ (stAt0 m c t.val t.isLt acc).2.2.2.2.2.2.1 = View.canon (wPieces m c t acc.2.2.2.2.2.2.1)
    ∧ (stAt0 m c t.val t.isLt acc).2.2.2.2.2.2.2.1 = View.canon (bPieces m c t acc.2.2.2.2.2.2.2.1)
    ∧ (stAt0 m c t.val t.isLt acc).2.2.2.2.2.2.2.2.1 = ggn m c t acc.2.2.2.2.2.2.2.2.1
    ∧ (stAt0 m c t.val t.isLt acc).2.2.2.2.2.2.2.2.2.1 = gwo m c t acc.2.2.2.2.2.2.2.2.2.1
    ∧ (stAt0 m c t.val t.isLt acc).2.2.2.2.2.2.2.2.2.2.1 = gpa m c t acc.2.2.2.2.2.2.2.2.2.2.1
    ∧ (stAt0 m c t.val t.isLt acc).2.2.2.2.2.2.2.2.2.2.2 = gpb m c t acc.2.2.2.2.2.2.2.2.2.2.2 := by
  have e := stAt0_C m c t acc h0 h1
  generalize stAt0 m c t.val t.isLt acc = s at e ⊢
  subst e
  dsimp only
  refine ⟨?_, ?_, ?_, ?_, ?_, ?_, ?_, ?_, ?_, ?_, ?_, ?_⟩
  on_goal 1 => unfold out0_C_12
  on_goal 1 => rw [View.read_writes_eq_canon _ _ _ (fun y => cover0_C_12 (y := y) ..)]
  on_goal 2 => unfold out0_C_13
  on_goal 2 => rw [View.read_writes_eq_canon _ _ _ (fun y => cover0_C_13 (y := y) ..)]
  on_goal 3 => unfold out0_C_14
  on_goal 3 => rw [View.read_writes_eq_canon _ _ _ (fun y => cover0_C_14 (y := y) ..)]
  on_goal 4 => unfold out0_C_15
  on_goal 4 => rw [View.read_writes_eq_canon _ _ _ (fun y => cover0_C_15 (y := y) ..)]
  on_goal 5 => unfold out0_C_16
  on_goal 5 => rw [View.read_writes_eq_canon _ _ _ (fun y => cover0_C_16 (y := y) ..)]
  on_goal 6 => unfold out0_C_17
  on_goal 6 => rw [View.read_writes_eq_canon _ _ _ (fun y => cover0_C_17 (y := y) ..)]
  on_goal 7 => unfold out0_C_18
  on_goal 7 => rw [View.read_writes_eq_canon _ _ _ (fun y => cover0_C_18 (y := y) ..)]
  on_goal 8 => unfold out0_C_19
  on_goal 8 => rw [View.read_writes_eq_canon _ _ _ (fun y => cover0_C_19 (y := y) ..)]
  on_goal 9 => unfold out0_C_20
  on_goal 9 => rw [View.read_writes_eq_canon _ _ _ (fun y => cover0_C_20 (y := y) ..)]
  on_goal 10 => unfold sout0_C_0
  on_goal 10 => rw [View.read_writes_eq_canon _ _ _ (fun y => scover0_C_0 (y := y) ..)]
  on_goal 11 => unfold sout0_C_1
  on_goal 11 => rw [View.read_writes_eq_canon _ _ _ (fun y => scover0_C_1 (y := y) ..)]
  on_goal 12 => unfold sout0_C_2
  on_goal 12 => rw [View.read_writes_eq_canon _ _ _ (fun y => scover0_C_2 (y := y) ..)]
  all_goals
    unfold kernelRun0_C
    dsimp only
    sl_unfold_words
    simp only [View.canon_unit_zero (S := S512x512) hz, View.canon_unit_zero (S := S1x512) hz, View.canon_unit_zero (S := S1024x1024) hz, View.canon_unit_zero (S := S512x1024) hz,
      View.readCov_unit_zero (S := S1024x1024) _ hz, View.readCov_unit_zero (S := S512x1024) _ hz,
      View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, (hs0_10 t).read_unread,
      (hs0_11 t).read_unread, (hs0_18 t).read_unread, (hs0_19 t).read_unread, (hs0_20 t).read_unread, (Memref.isWhole_whole _).read_unread,
      View.ld_unit_zero (S := S512x1024) hz, View.ld_unit_zero (S := S512x2048) hz, View.ld_unit_zero (S := S1024x1024) hz,
      View.ld_unit_zero (S := S512x512) hz, View.ld_unit_zero (S := S1x512) hz]
  all_goals rfl

end Cert.MergeIdeal.Body

end
-- ==== Proof.Merge.Reads.lean ====
module

public import proofs.«01_k».proof.Proof.Merge.Body
public import proofs.«01_k».proof.Proof.Merge.Ref
public import Idealize.ShloMosaic.Lib.Pointwise
public import Idealize.ShloMosaic.Lib.IdealHost

/-! # The gated merge's backward: its blocks as real numbers -/

@[expose] public section

set_option maxRecDepth 16384

noncomputable section

open Idealize.ShloMosaic Idealize.ShloMosaic.TcCoe Idealize.SL.Sem

namespace Cert.MergeIdeal.Reads

open Cert.MergeIdeal Cert.MergeIdeal.Gen Cert.MergeIdeal.Value Cert.MergeIdeal.Body Cert.Reals Cert.MergeMath

variable (m : (ℓ : Loc nD τ sig) → Buf (Elt Ideal) ℓ) (c : Dev nD) (t : Fin cfg0.N)

/-- The grid's block indices: the row arrays are cut into tiles, the others are taken whole. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = 0 ∧ win0_10.index t (1 : Fin 3) = 0 ∧ win0_10.index t (2 : Fin 3) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 3) = 0 ∧ win0_18.index t (1 : Fin 3) = 0 ∧ win0_18.index t (2 : Fin 3) = 0)
    ∧ (win0_19.index t (0 : Fin 2) = 0 ∧ win0_19.index t (1 : Fin 2) = 0)
    ∧ (win0_20.index t (0 : Fin 2) = 0 ∧ win0_20.index t (1 : Fin 2) = 0) :=
  (by decide +kernel : ∀ t : Fin grid0.N, _)

/-- The program's ten arguments hold the reals of `D`. -/
def Args (m : (ℓ : Loc nD τ sig) → Buf (Elt Ideal) ℓ) (c : Dev nD) (D : Dat) : Prop :=
  Cert.MergeRefIdeal.Result.Ins (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) D

variable {m c} {D : Dat} (h : Args m c D)
include h

/-! ## The arrays that the host prepares -/

theorem V_merged (r : Fin 4096) (k : Fin 1024) : (V m c main_v75 : S4096x1024.Idx → EReal) (ix2 r k) = ((D.mg r.val k.val : ℝ) : EReal) := by
  entry_read
  exact Cert.MergeRefIdeal.Result.v99_at h r k

theorem V_ya (r : Fin 4096) (k : Fin 512) : (V m c main_v76 : S4096x512.Idx → EReal) (ix2 r k) = ((D.ya r.val k.val : ℝ) : EReal) := by
  entry_read
  exact Cert.MergeRefIdeal.Result.v74_at h r k

theorem V_yb (r : Fin 4096) (k : Fin 512) : (V m c main_v77 : S4096x512.Idx → EReal) (ix2 r k) = ((D.B r.val k.val : ℝ) : EReal) := by
  entry_read
  exact h.b r k

theorem V_g (r : Fin 4096) (k : Fin 2048) : (V m c main_v78 : S4096x2048.Idx → EReal) (ix2 r k) = ((D.G r.val k.val : ℝ) : EReal) := by
  entry_read
  exact h.g r k

theorem V_p (r : Fin 4096) (k : Fin 1024) : (V m c main_v79 : S4096x1024.Idx → EReal) (ix2 r k) = ((D.A r.val k.val : ℝ) : EReal) := by
  entry_read
  exact h.a r k

theorem V_wa (j : Fin 4) (e : Fin 512) (f : Fin 256) : (V m c main_v82 : S4x512x256.Idx → EReal) (ix3 j e f) = ((D.WA e.val (256 * j.val + f.val) : ℝ) : EReal) := by
  show transpose S4x512x256 [1, 0, 2] (shapeCast S512x4x256 (m ((c : Thread nD τ).loc main_arg3) : S512x1024.Idx → EReal) shapeCasts_S512x1024_S512x4x256) transposes_S512x4x256_S4x512x256_1_0_2 (ix3 j e f) = _
  have e1 := h.wa
  generalize (m ((c : Thread nD τ).loc main_arg3) : S512x1024.Idx → EReal) = x at e1 ⊢
  pointwise
  refine Eq.trans (congrArg x (congrArg (ix2 e) (Fin.ext ?_))) (e1 e ⟨256 * j.val + f.val, by omega⟩)
  dsimp only
  omega

theorem V_wb (j : Fin 4) (e : Fin 512) (f : Fin 256) : (V m c main_v85 : S4x512x256.Idx → EReal) (ix3 j e f) = ((D.WB e.val (256 * j.val + f.val) : ℝ) : EReal) := by
  show transpose S4x512x256 [1, 0, 2] (shapeCast S512x4x256 (m ((c : Thread nD τ).loc main_arg4) : S512x1024.Idx → EReal) shapeCasts_S512x1024_S512x4x256) transposes_S512x4x256_S4x512x256_1_0_2 (ix3 j e f) = _
  have e1 := h.wb
  generalize (m ((c : Thread nD τ).loc main_arg4) : S512x1024.Idx → EReal) = x at e1 ⊢
  pointwise
  refine Eq.trans (congrArg x (congrArg (ix2 e) (Fin.ext ?_))) (e1 e ⟨256 * j.val + f.val, by omega⟩)
  dsimp only
  omega

theorem V_wo (r : Fin 1024) (k : Fin 1024) : (V m c main_v86 : S1024x1024.Idx → EReal) (ix2 r k) = ((D.WO r.val k.val : ℝ) : EReal) := by
  entry_read
  exact h.wo r k

theorem V_bs (t : Fin 128) (g : Fin 4) : (V m c main_v87 : S128x4.Idx → EReal) (ix2 t g) = ((D.Bs g.val t.val : ℝ) : EReal) := by
  show transpose S128x4 [1, 0] (m ((c : Thread nD τ).loc main_arg8) : S4x128.Idx → EReal) transposes_S4x128_S128x4_1_0 (ix2 t g) = _
  pointwise
  exact h.bs g t

/-! ## A point's blocks -/

theorem bX_at (a : Fin 512) (f : Fin 1024) : bX m c t (ix2 a f) = ((D.C (512 * t.val + a.val) f.val : ℝ) : EReal) := by
  have hN : t.val < 8 := lt_of_lt_of_eq t.isLt N_0
  obtain ⟨e, -⟩ := index_facts t
  refine Eq.trans ?_ ((congrFun (V_main_arg9 m c) _).trans (h.c ⟨512 * t.val + a.val, by omega⟩ f))
  refine congrArg (V m c main_arg9 : S4096x1024.Idx → EReal) (funext fun x => Fin.ext ?_)
  match x with
  | ⟨0, _⟩ => show win0_0.index t (0 : Fin 2) * 512 + 1 * a.val = _; rw [e.1]; show _ = 512 * t.val + a.val; omega
  | ⟨1, _⟩ => show win0_0.index t (1 : Fin 2) * 1024 + 1 * f.val = _; rw [e.2]; show _ = f.val; omega

theorem bM_at (a : Fin 512) (f : Fin 1024) : bM m c t (ix2 a f) = ((D.mg (512 * t.val + a.val) f.val : ℝ) : EReal) := by
  have hN : t.val < 8 := lt_of_lt_of_eq t.isLt N_0
  obtain ⟨-, e, -⟩ := index_facts t
  refine Eq.trans ?_ (V_merged h ⟨512 * t.val + a.val, by omega⟩ f)
  refine congrArg (V m c main_v75 : S4096x1024.Idx → EReal) (funext fun x => Fin.ext ?_)
  match x with
  | ⟨0, _⟩ => show win0_1.index t (0 : Fin 2) * 512 + 1 * a.val = _; rw [e.1]; show _ = 512 * t.val + a.val; omega
  | ⟨1, _⟩ => show win0_1.index t (1 : Fin 2) * 1024 + 1 * f.val = _; rw [e.2]; show _ = f.val; omega

theorem bYa_at (a : Fin 512) (f : Fin 512) : bYa m c t (ix2 a f) = ((D.ya (512 * t.val + a.val) f.val : ℝ) : EReal) := by
  have hN : t.val < 8 := lt_of_lt_of_eq t.isLt N_0
  obtain ⟨-, -, e, -⟩ := index_facts t
  refine Eq.trans ?_ (V_ya h ⟨512 * t.val + a.val, by omega⟩ f)
  refine congrArg (V m c main_v76 : S4096x512.Idx → EReal) (funext fun x => Fin.ext ?_)
  match x with
  | ⟨0, _⟩ => show win0_2.index t (0 : Fin 2) * 512 + 1 * a.val = _; rw [e.1]; show _ = 512 * t.val + a.val; omega
  | ⟨1, _⟩ => show win0_2.index t (1 : Fin 2) * 512 + 1 * f.val = _; rw [e.2]; show _ = f.val; omega

theorem bYb_at (a : Fin 512) (f : Fin 512) : bYb m c t (ix2 a f) = ((D.B (512 * t.val + a.val) f.val : ℝ) : EReal) := by
  have hN : t.val < 8 := lt_of_lt_of_eq t.isLt N_0
  obtain ⟨-, -, -, e, -⟩ := index_facts t
  refine Eq.trans ?_ (V_yb h ⟨512 * t.val + a.val, by omega⟩ f)
  refine congrArg (V m c main_v77 : S4096x512.Idx → EReal) (funext fun x => Fin.ext ?_)
  match x with
  | ⟨0, _⟩ => show win0_3.index t (0 : Fin 2) * 512 + 1 * a.val = _; rw [e.1]; show _ = 512 * t.val + a.val; omega
  | ⟨1, _⟩ => show win0_3.index t (1 : Fin 2) * 512 + 1 * f.val = _; rw [e.2]; show _ = f.val; omega

theorem bG_at (a : Fin 512) (f : Fin 2048) : bG m c t (ix2 a f) = ((D.G (512 * t.val + a.val) f.val : ℝ) : EReal) := by
  have hN : t.val < 8 := lt_of_lt_of_eq t.isLt N_0
  obtain ⟨-, -, -, -, e, -⟩ := index_facts t
  refine Eq.trans ?_ (V_g h ⟨512 * t.val + a.val, by omega⟩ f)
  refine congrArg (V m c main_v78 : S4096x2048.Idx → EReal) (funext fun x => Fin.ext ?_)
  match x with
  | ⟨0, _⟩ => show win0_4.index t (0 : Fin 2) * 512 + 1 * a.val = _; rw [e.1]; show _ = 512 * t.val + a.val; omega
  | ⟨1, _⟩ => show win0_4.index t (1 : Fin 2) * 2048 + 1 * f.val = _; rw [e.2]; show _ = f.val; omega

theorem bP_at (a : Fin 512) (f : Fin 1024) : bP m c t (ix2 a f) = ((D.A (512 * t.val + a.val) f.val : ℝ) : EReal) := by
  have hN : t.val < 8 := lt_of_lt_of_eq t.isLt N_0
  obtain ⟨-, -, -, -, -, e, -⟩ := index_facts t
  refine Eq.trans ?_ (V_p h ⟨512 * t.val + a.val, by omega⟩ f)
  refine congrArg (V m c main_v79 : S4096x1024.Idx → EReal) (funext fun x => Fin.ext ?_)
  match x with
  | ⟨0, _⟩ => show win0_5.index t (0 : Fin 2) * 512 + 1 * a.val = _; rw [e.1]; show _ = 512 * t.val + a.val; omega
  | ⟨1, _⟩ => show win0_5.index t (1 : Fin 2) * 1024 + 1 * f.val = _; rw [e.2]; show _ = f.val; omega

theorem bWo_at (a : Fin 1024) (f : Fin 1024) : bWo m c t (ix2 a f) = ((D.WO a.val f.val : ℝ) : EReal) := by
  obtain ⟨-, -, -, -, -, -, -, -, e, -⟩ := index_facts t
  refine Eq.trans ?_ (V_wo h a f)
  refine congrArg (V m c main_v86 : S1024x1024.Idx → EReal) (funext fun x => Fin.ext ?_)
  match x with
  | ⟨0, _⟩ => show win0_8.index t (0 : Fin 2) * 1024 + 1 * a.val = _; rw [e.1]; show _ = a.val; omega
  | ⟨1, _⟩ => show win0_8.index t (1 : Fin 2) * 1024 + 1 * f.val = _; rw [e.2]; show _ = f.val; omega

theorem bGs_at (a : Fin 1) (f : Fin 512) : bGs m c t (ix2 a f) = ((D.N a.val f.val : ℝ) : EReal) := by
  obtain ⟨-, -, -, -, -, -, -, -, -, e, -⟩ := index_facts t
  refine Eq.trans ?_ ((congrFun (V_main_arg6 m c) _).trans (h.n a f))
  refine congrArg (V m c main_arg6 : S1x512.Idx → EReal) (funext fun x => Fin.ext ?_)
  match x with
  | ⟨0, _⟩ => show win0_9.index t (0 : Fin 2) * 1 + 1 * a.val = _; rw [e.1]; show _ = a.val; omega
  | ⟨1, _⟩ => show win0_9.index t (1 : Fin 2) * 512 + 1 * f.val = _; rw [e.2]; show _ = f.val; omega

theorem bBs_at (a : Fin 128) (f : Fin 4) : bBs m c t (ix2 a f) = ((D.Bs f.val a.val : ℝ) : EReal) := by
  obtain ⟨-, -, -, -, -, -, -, -, -, -, -, e, -⟩ := index_facts t
  refine Eq.trans ?_ (V_bs h a f)
  refine congrArg (V m c main_v87 : S128x4.Idx → EReal) (funext fun x => Fin.ext ?_)
  match x with
  | ⟨0, _⟩ => show win0_11.index t (0 : Fin 2) * 128 + 1 * a.val = _; rw [e.1]; show _ = a.val; omega
  | ⟨1, _⟩ => show win0_11.index t (1 : Fin 2) * 4 + 1 * f.val = _; rw [e.2]; show _ = f.val; omega

theorem bWa_at (j : Fin 4) (a : Fin 512) (f : Fin 256) : bWa m c t (ix3 j a f) = ((D.WA a.val (256 * j.val + f.val) : ℝ) : EReal) := by
  obtain ⟨-, -, -, -, -, -, e, -⟩ := index_facts t
  refine Eq.trans ?_ (V_wa h j a f)
  refine congrArg (V m c main_v82 : S4x512x256.Idx → EReal) (funext fun x => Fin.ext ?_)
  match x with
  | ⟨0, _⟩ => show win0_6.index t (0 : Fin 3) * 4 + 1 * j.val = _; rw [e.1]; show _ = j.val; omega
  | ⟨1, _⟩ => show win0_6.index t (1 : Fin 3) * 512 + 1 * a.val = _; rw [e.2.1]; show _ = a.val; omega
  | ⟨2, _⟩ => show win0_6.index t (2 : Fin 3) * 256 + 1 * f.val = _; rw [e.2.2]; show _ = f.val; omega

theorem bWb_at (j : Fin 4) (a : Fin 512) (f : Fin 256) : bWb m c t (ix3 j a f) = ((D.WB a.val (256 * j.val + f.val) : ℝ) : EReal) := by
  obtain ⟨-, -, -, -, -, -, -, e, -⟩ := index_facts t
  refine Eq.trans ?_ (V_wb h j a f)
  refine congrArg (V m c main_v85 : S4x512x256.Idx → EReal) (funext fun x => Fin.ext ?_)
  match x with
  | ⟨0, _⟩ => show win0_7.index t (0 : Fin 3) * 4 + 1 * j.val = _; rw [e.1]; show _ = j.val; omega
  | ⟨1, _⟩ => show win0_7.index t (1 : Fin 3) * 512 + 1 * a.val = _; rw [e.2.1]; show _ = a.val; omega
  | ⟨2, _⟩ => show win0_7.index t (2 : Fin 3) * 256 + 1 * f.val = _; rw [e.2.2]; show _ = f.val; omega

theorem bWs_at (j : Fin 4) (a : Fin 128) (f : Fin 128) : bWs m c t (ix3 j a f) = ((D.S j.val a.val f.val : ℝ) : EReal) := by
  obtain ⟨-, -, -, -, -, -, -, -, -, -, e, -⟩ := index_facts t
  refine Eq.trans ?_ ((congrFun (V_main_arg7 m c) _).trans (h.s j a f))
  refine congrArg (V m c main_arg7 : S4x128x128.Idx → EReal) (funext fun x => Fin.ext ?_)
  match x with
  | ⟨0, _⟩ => show win0_10.index t (0 : Fin 3) * 4 + 1 * j.val = _; rw [e.1]; show _ = j.val; omega
  | ⟨1, _⟩ => show win0_10.index t (1 : Fin 3) * 128 + 1 * a.val = _; rw [e.2.1]; show _ = a.val; omega
  | ⟨2, _⟩ => show win0_10.index t (2 : Fin 3) * 128 + 1 * f.val = _; rw [e.2.2]; show _ = f.val; omega

/-- A block of a stacked weight, and a group's mixing matrix and bias column. -/
theorem ldWa_at (j : Fin 4) (u : Fin 1) (e : Fin 512) (f : Fin 256) :
    View.ld (bWa m c t) (rW j) (ix3 u e f) = ((D.WA e.val (256 * j.val + f.val) : ℝ) : EReal) := by
  refine Eq.trans ?_ (bWa_at t h j e f)
  exact congrArg (bWa m c t) (unit_emb3 _ u e f)

theorem ldWb_at (j : Fin 4) (u : Fin 1) (e : Fin 512) (f : Fin 256) :
    View.ld (bWb m c t) (rW j) (ix3 u e f) = ((D.WB e.val (256 * j.val + f.val) : ℝ) : EReal) := by
  refine Eq.trans ?_ (bWb_at t h j e f)
  exact congrArg (bWb m c t) (unit_emb3 _ u e f)

theorem ldWs_at (g : Fin 4) (u : Fin 1) (a b : Fin 128) :
    View.ld (bWs m c t) (rS g) (ix3 u a b) = ((D.S g.val a.val b.val : ℝ) : EReal) := by
  refine Eq.trans ?_ (bWs_at t h g a b)
  exact congrArg (bWs m c t) (unit_emb3 _ u a b)

theorem ldBs_at (g : Fin 4) (a : Fin 128) (u : Fin 1) :
    View.ld (bBs m c t) (rB g) (ix2 a u) = ((D.Bs g.val a.val : ℝ) : EReal) := by
  refine Eq.trans ?_ (bBs_at t h a g)
  refine congrArg (bBs m c t) ((unit_emb2 _ a u (by omega)).trans ?_)
  exact congrArg (ix2 a) (Fin.ext (by show g.val + u.val = g.val; omega))

end Cert.MergeIdeal.Reads

end
-- ==== Proof.Merge.Points.lean ====
module

public import proofs.«01_k».proof.Proof.Merge.Reads

/-! # The gated merge's backward: a tile's quantities as real numbers, row by row -/

@[expose] public section

set_option maxRecDepth 16384

noncomputable section

open Idealize.ShloMosaic Idealize.ShloMosaic.TcCoe Idealize.SL.Sem

namespace Cert.MergeIdeal.Points

open Cert.MergeIdeal Cert.MergeIdeal.Gen Cert.MergeIdeal.Value Cert.MergeIdeal.Body Cert.MergeIdeal.Reads Cert.Reals Cert.MergeMath

/-- The two named constants. -/
theorem named_a : (Named.named (F := Ideal) κ "gelu_a" 0x3D372713#32 : Ideal .f32) = ((8943 / 200000 : ℝ) : EReal) :=
  (IdealRules.named_const.statement Cert.MergeIdeal.κ "gelu_a" .f32 0x3D372713#32 ((8943 / 200000 : ℝ) : EReal) rfl).2.2

theorem named_3a : (Named.named (F := Ideal) κ "gelu_3a" 0x3E095D4F#32 : Ideal .f32) = ((26829 / 200000 : ℝ) : EReal) :=
  (IdealRules.named_const.statement Cert.MergeIdeal.κ "gelu_3a" .f32 0x3E095D4F#32 ((26829 / 200000 : ℝ) : EReal) rfl).2.2

/-! ## The products with a weight stacked in four blocks -/

/-- A row times the stacked weight, block by block. -/
theorem proj_at (y : Vec Ideal S512x512 .bf16) (x0 x1 x2 x3 : Vec Ideal S1x512x256 .bf16) (Y : ℕ → ℝ) (W : ℕ → ℕ → ℝ) (a : Fin 512)
    (hy : ∀ e, y (ix2 a e) = ((Y e.val : ℝ) : EReal)) (h0 : ∀ u e f, x0 (ix3 u e f) = ((W e.val f.val : ℝ) : EReal))
    (h1 : ∀ u e f, x1 (ix3 u e f) = ((W e.val (256 + f.val) : ℝ) : EReal)) (h2 : ∀ u e f, x2 (ix3 u e f) = ((W e.val (512 + f.val) : ℝ) : EReal))
    (h3 : ∀ u e f, x3 (ix3 u e f) = ((W e.val (768 + f.val) : ℝ) : EReal)) (k : Fin 1024) :
    k0_pay17 y x0 x1 x2 x3 (ix2 a k) = ((∑ e : Fin 512, Y e.val * W e.val k.val : ℝ) : EReal) := by
  pointwise [k0_pay17, k0_pay15]
  by_cases c0 : k.val < 256
  · rw [dif_pos c0]
    simp only [hy, h0, ← EReal.coe_mul, coe_sum]
  · rw [dif_neg c0]
    by_cases c1 : k.val < 512
    · rw [dif_pos (by omega)]
      simp only [hy, h1, ← EReal.coe_mul, coe_sum]
      exact congrArg Real.toEReal (Finset.sum_congr rfl fun e _ => congrArg (Y e.val * W e.val ·) (by omega))
    · rw [dif_neg (by omega)]
      by_cases c2 : k.val < 768
      · rw [dif_pos (by omega)]
        simp only [hy, h2, ← EReal.coe_mul, coe_sum]
        exact congrArg Real.toEReal (Finset.sum_congr rfl fun e _ => congrArg (Y e.val * W e.val ·) (by omega))
      · rw [dif_neg (by omega)]
        simp only [hy, h3, ← EReal.coe_mul, coe_sum]
        exact congrArg Real.toEReal (Finset.sum_congr rfl fun e _ => congrArg (Y e.val * W e.val ·) (by omega))

/-- Four partial sums of 256 are the sum over 1024. -/
theorem sum_four (f : ℕ → ℝ) : (∑ i : Fin 256, f i.val) + (∑ i : Fin 256, f (256 + i.val)) + (∑ i : Fin 256, f (512 + i.val)) + (∑ i : Fin 256, f (768 + i.val))
    = ∑ i : Fin 1024, f i.val := by
  rw [← sum_tiles_fin 4 256 f]
  simp only [Finset.sum_range_succ, Finset.sum_range_zero, Nat.mul_zero, zero_add, Nat.mul_one, Nat.reduceMul]

/-- A row times the stacked weight's transpose, block by block. -/
theorem back_at (p : Vec Ideal S512x1024 .bf16) (x0 x1 x2 x3 : Vec Ideal S1x512x256 .bf16) (P : ℕ → ℝ) (W : ℕ → ℕ → ℝ) (a : Fin 512)
    (hp : ∀ k, p (ix2 a k) = ((P k.val : ℝ) : EReal)) (h0 : ∀ u e f, x0 (ix3 u e f) = ((W e.val f.val : ℝ) : EReal))
    (h1 : ∀ u e f, x1 (ix3 u e f) = ((W e.val (256 + f.val) : ℝ) : EReal)) (h2 : ∀ u e f, x2 (ix3 u e f) = ((W e.val (512 + f.val) : ℝ) : EReal))
    (h3 : ∀ u e f, x3 (ix3 u e f) = ((W e.val (768 + f.val) : ℝ) : EReal)) (e : Fin 512) :
    k0_pay26 p x0 x1 x2 x3 (ix2 a e) = ((∑ k : Fin 1024, P k.val * W e.val k.val : ℝ) : EReal) := by
  pointwise [k0_pay26]
  simp only [hp, h0, h1, h2, h3, ← EReal.coe_mul, coe_sum, ← EReal.coe_add]
  exact congrArg Real.toEReal (sum_four fun k => P k * W e.val k)

variable {m : (ℓ : Loc nD τ sig) → Buf (Elt Ideal) ℓ} {c : Dev nD} (t : Fin cfg0.N) {D : Dat} (h : Args m c D)
include h

/-! ## The merge -/

theorem dm_at (a : Fin 512) (k : Fin 1024) : dm m c t (ix2 a k) = ((D.dm (512 * t.val + a.val) k.val : ℝ) : EReal) := by
  have ex := bX_at t h
  have ew := bWo_at t h
  unfold dm
  generalize (bX m c t) = x at ex ⊢
  generalize (bWo m c t) = w at ew ⊢
  pointwise [k0_pay13, k0_pay12]
  simp only [ex, ew, ← EReal.coe_mul, coe_sum]
  rfl

theorem pa_at (a : Fin 512) (k : Fin 1024) : pa m c t (ix2 a k) = ((D.pa (512 * t.val + a.val) k.val : ℝ) : EReal) :=
  (proj_at (bYa m c t) _ _ _ _ (fun e => D.ya (512 * t.val + a.val) e) D.WA a (bYa_at t h a)
    (fun u e f => (ldWa_at t h 0 u e f).trans (by simp)) (ldWa_at t h 1) (ldWa_at t h 2) (ldWa_at t h 3) k)

theorem pb_at (a : Fin 512) (k : Fin 1024) : pb m c t (ix2 a k) = ((D.pb (512 * t.val + a.val) k.val : ℝ) : EReal) :=
  (proj_at (bYb m c t) _ _ _ _ (fun e => D.B (512 * t.val + a.val) e) D.WB a (bYb_at t h a)
    (fun u e f => (ldWb_at t h 0 u e f).trans (by simp)) (ldWb_at t h 1) (ldWb_at t h 2) (ldWb_at t h 3) k)

/-- The two gates. -/
theorem sa_at (a : Fin 512) (k : Fin 1024) : k0_pay19 (k0_pay14 (bG m c t)) (ix2 a k) = ((D.sa (512 * t.val + a.val) k.val : ℝ) : EReal) := by
  have eg := bG_at t h
  generalize (bG m c t) = g at eg ⊢
  pointwise [k0_pay19, k0_pay14]
  simp only [eg]
  exact logi_at _

theorem sb_at (a : Fin 512) (k : Fin 1024) : k0_pay20 (k0_pay14 (bG m c t)) (ix2 a k) = ((D.sb (512 * t.val + a.val) k.val : ℝ) : EReal) := by
  have eg := bG_at t h
  generalize (bG m c t) = g at eg ⊢
  pointwise [k0_pay20, k0_pay14]
  simp only [eg]
  exact logi_at _

theorem dpa_at (a : Fin 512) (k : Fin 1024) : dpa m c t (ix2 a k) = ((D.dpa (512 * t.val + a.val) k.val : ℝ) : EReal) := by
  have e1 := dm_at t h a k
  have e2 := sa_at t h a k
  unfold dpa k0_pay21
  generalize (k0_pay19 (k0_pay14 (bG m c t))) = x at e2 ⊢
  generalize (dm m c t) = y at e1 ⊢
  pointwise []
  rw [e1, e2, ← EReal.coe_mul]
  rfl

theorem dpb_at (a : Fin 512) (k : Fin 1024) : dpb m c t (ix2 a k) = ((D.dpb (512 * t.val + a.val) k.val : ℝ) : EReal) := by
  have e1 := dm_at t h a k
  have e2 := sb_at t h a k
  unfold dpb k0_pay22
  generalize (k0_pay20 (k0_pay14 (bG m c t))) = x at e2 ⊢
  generalize (dm m c t) = y at e1 ⊢
  pointwise []
  rw [e1, e2, ← EReal.coe_mul]
  rfl

theorem dg0_at (a : Fin 512) (k : Fin 1024) : dg0 m c t (ix2 a k) = ((D.dga (512 * t.val + a.val) k.val : ℝ) : EReal) := by
  have e1 := dm_at t h a k
  have e2 := sa_at t h a k
  have e3 := pa_at t h a k
  unfold dg0 k0_pay24 k0_pay23
  generalize (k0_pay19 (k0_pay14 (bG m c t))) = x at e2 ⊢
  generalize (dm m c t) = y at e1 ⊢
  generalize (pa m c t) = z at e3 ⊢
  pointwise []
  rw [e1, e2, e3, ← EReal.coe_one, ← EReal.coe_sub]
  simp only [← EReal.coe_mul]
  rfl

theorem dg1_at (a : Fin 512) (k : Fin 1024) : dg1 m c t (ix2 a k) = ((D.dgb (512 * t.val + a.val) k.val : ℝ) : EReal) := by
  have e1 := dm_at t h a k
  have e2 := sb_at t h a k
  have e3 := pb_at t h a k
  unfold dg1 k0_pay25
  generalize (k0_pay20 (k0_pay14 (bG m c t))) = x at e2 ⊢
  generalize (dm m c t) = y at e1 ⊢
  generalize (pb m c t) = z at e3 ⊢
  pointwise []
  rw [e1, e2, e3, ← EReal.coe_one, ← EReal.coe_sub]
  simp only [← EReal.coe_mul]
  rfl

theorem dy_at (a e : Fin 512) : dy m c t (ix2 a e) = ((D.dya (512 * t.val + a.val) e.val : ℝ) : EReal) :=
  (back_at (dpa m c t) _ _ _ _ (fun k => D.dpa (512 * t.val + a.val) k) D.WA a (dpa_at t h a)
    (fun u e f => (ldWa_at t h 0 u e f).trans (by simp)) (ldWa_at t h 1) (ldWa_at t h 2) (ldWa_at t h 3) e)

theorem dyb_at (a e : Fin 512) : dyb m c t (ix2 a e) = ((D.dyb (512 * t.val + a.val) e.val : ℝ) : EReal) := by
  have e1 := dpb_at t h a
  have w0 := ldWb_at t h 0
  have w1 := ldWb_at t h 1
  have w2 := ldWb_at t h 2
  have w3 := ldWb_at t h 3
  unfold dyb
  generalize (dpb m c t) = y at e1 ⊢
  generalize (View.ld (bWb m c t) (rW 0)) = x0 at w0 ⊢
  generalize (View.ld (bWb m c t) (rW 1)) = x1 at w1 ⊢
  generalize (View.ld (bWb m c t) (rW 2)) = x2 at w2 ⊢
  generalize (View.ld (bWb m c t) (rW 3)) = x3 at w3 ⊢
  refine Eq.trans ?_ (back_at y x0 x1 x2 x3 (fun k => D.dpb (512 * t.val + a.val) k) D.WB a e1
    (fun u e f => (w0 u e f).trans (by simp)) w1 w2 w3 e)
  pointwise [k0_pay28, k0_pay27, k0_pay26]

/-! ## The gating's forward values -/

theorem p32_at (a e : Fin 512) : k0_pay32 (bP m c t) (ix2 a e) = ((D.A (512 * t.val + a.val) e.val : ℝ) : EReal) := by
  have ex := bP_at t h
  generalize (bP m c t) = x at ex ⊢
  pointwise [k0_pay32, k0_pay29]
  exact ex a _

theorem p33_at (a e : Fin 512) : k0_pay33 (bP m c t) (ix2 a e) = ((D.A (512 * t.val + a.val) (512 + e.val) : ℝ) : EReal) := by
  have ex := bP_at t h
  generalize (bP m c t) = x at ex ⊢
  pointwise [k0_pay33, k0_pay29]
  exact ex a _

/-- The inner hyperbolic tangents of the two halves. -/
theorem th0_at (a e : Fin 512) :
    k0_pay36 (k0_pay34 (bP m c t)) k0_pay35 (ix2 a e) = ((th (D.A (512 * t.val + a.val) e.val) : ℝ) : EReal) := by
  have ex := p32_at t h a e
  unfold k0_pay34
  generalize (k0_pay32 (bP m c t)) = x at ex ⊢
  pointwise [k0_pay36, k0_pay35]
  rw [ex, named_a, word_cG]
  simp only [← EReal.coe_mul, ← EReal.coe_add, tanh_coe]
  rfl

theorem th1_at (a e : Fin 512) :
    k0_pay38 (k0_pay33 (bP m c t)) (ix2 a e) = ((th (D.A (512 * t.val + a.val) (512 + e.val)) : ℝ) : EReal) := by
  have ex := p33_at t h a e
  generalize (k0_pay33 (bP m c t)) = x at ex ⊢
  pointwise [k0_pay38]
  rw [ex, named_a, word_cG]
  simp only [← EReal.coe_mul, ← EReal.coe_add, tanh_coe]
  rfl

theorem uu_at (a e : Fin 512) : uu m c t (ix2 a e) = ((D.u (512 * t.val + a.val) e.val : ℝ) : EReal) := by
  have ex := p32_at t h a e
  have et := th0_at t h a e
  unfold uu k0_pay37
  generalize (k0_pay36 (k0_pay34 (bP m c t)) k0_pay35) = y at et ⊢
  generalize (k0_pay32 (bP m c t)) = x at ex ⊢
  pointwise []
  rw [ex, et, word_half, ← EReal.coe_one]
  simp only [← EReal.coe_mul, ← EReal.coe_add]
  rfl

theorem vv_at (a e : Fin 512) : vv m c t (ix2 a e) = ((D.v (512 * t.val + a.val) e.val : ℝ) : EReal) := by
  have ex := p33_at t h a e
  have et := th1_at t h a e
  unfold vv k0_pay39
  generalize (k0_pay38 (k0_pay33 (bP m c t))) = y at et ⊢
  generalize (k0_pay33 (bP m c t)) = x at ex ⊢
  pointwise []
  rw [ex, et, word_half, ← EReal.coe_one]
  simp only [← EReal.coe_mul, ← EReal.coe_add]
  rfl

theorem rv_at (a : Fin 512) (z : Fin 1) : rv m c t (ix2 a z) = ((rinv 512 (D.row (512 * t.val + a.val)) : ℝ) : EReal) := by
  have ev := vv_at t h a
  unfold rv k0_pay40
  change (∀ e : Fin 512, k0_pay39 (k0_pay33 (bP m c t)) (ix2 a e) = _) at ev
  generalize (k0_pay39 (k0_pay33 (bP m c t))) = y at ev ⊢
  pointwise []
  simp only [ev, ← EReal.coe_mul, coe_sum, word_512, div_512, word_eps, ← EReal.coe_add]
  exact rsqrt_512 (D.row (512 * t.val + a.val))

theorem vn_at (a e : Fin 512) : vn m c t (ix2 a e) = ((D.vn (512 * t.val + a.val) e.val : ℝ) : EReal) := by
  have ev := vv_at t h a e
  have er := rv_at t h a
  have eg := bGs_at t h
  unfold vn k0_pay41
  change k0_pay39 (k0_pay33 (bP m c t)) (ix2 a e) = _ at ev
  change (∀ z : Fin 1, k0_pay40 (k0_pay33 (bP m c t)) (ix2 a z) = _) at er
  generalize (k0_pay39 (k0_pay33 (bP m c t))) = y at ev ⊢
  generalize (k0_pay40 (k0_pay33 (bP m c t))) = r at er ⊢
  generalize (bGs m c t) = g at eg ⊢
  pointwise []
  rw [ev, er, eg]
  simp only [← EReal.coe_mul]
  rfl

/-! ## The mixing matrices -/

theorem wm_at (g : Fin 4) (p s : Fin 128) : wm m c t g (ix2 p s) = ((D.wm g.val p.val s.val : ℝ) : EReal) := by
  have ew := ldWs_at t h g
  unfold wm
  generalize (View.ld (bWs m c t) (rS g)) = x at ew ⊢
  pointwise [k0_pay42, k0_pay31]
  rw [mask_sel, ew, coe_mask]
  rfl

theorem wt_at (g : Fin 4) (s p : Fin 128) : wt m c t g (ix2 s p) = ((D.wm g.val p.val s.val : ℝ) : EReal) := by
  have ew := wm_at t h g p s
  unfold wt k0_pay43
  change k0_pay42 k0_pay31 (View.ld (bWs m c t) (rS g)) (ix2 p s) = _ at ew
  generalize (k0_pay42 k0_pay31 (View.ld (bWs m c t) (rS g))) = x at ew ⊢
  pointwise []
  exact ew

theorem bc_at (g : Fin 4) (p : Fin 128) (z : Fin 1) : bc m c t g (ix2 p z) = ((D.Bs g.val p.val : ℝ) : EReal) := by
  have ew := ldBs_at t h g
  unfold bc
  generalize (View.ld (bBs m c t) (rB g)) = x at ew ⊢
  pointwise [k0_pay44]
  exact ew p z

end Cert.MergeIdeal.Points

end
-- ==== Proof.Merge.Gating.lean ====
module

public import proofs.«01_k».proof.Proof.Merge.Points
public import Idealize.ShloMosaic.Lib.Pipeline.Value

/-! # The gated merge's backward: the chunked gating and a tile's part of every sum -/

@[expose] public section

set_option maxRecDepth 16384

noncomputable section

open Idealize.ShloMosaic Idealize.ShloMosaic.TcCoe Idealize.SL.Sem

namespace Cert.MergeIdeal.Gating

open Cert.MergeIdeal Cert.MergeIdeal.Gen Cert.MergeIdeal.Value Cert.MergeIdeal.Body Cert.MergeIdeal.Reads Cert.MergeIdeal.Points Cert.Reals Cert.MergeMath

/-! ## Blocks of 128×128 -/

theorem blk_at {α : Type} (x : S512x512.Idx → α) (k g : Fin 4) (p d : Fin 128) :
    blk x k g (ix2 p d) = x (ix2 ⟨128 * k.val + p.val, by omega⟩ ⟨128 * g.val + d.val, by omega⟩) :=
  congrArg x (funext fun i => Fin.ext (by match i with | ⟨0, _⟩ => rfl | ⟨1, _⟩ => rfl))

theorem rows4_at (f : Fin 4 → FVec Ideal S128x128 .f32) (a : Fin 512) (d : Fin 128) :
    rows4 f (ix2 a d) = f ⟨a.val / 128, by omega⟩ (ix2 ⟨a.val % 128, by omega⟩ d) :=
  concatenate_ofFn_apply (t := S512x128) (s₁ := S128x128) 0 f concatenates_S128x128_S128x128_S128x128_S128x128_S512x128_d0 rfl 128 rfl (ix2 a d)
    ⟨a.val / 128, by omega⟩ rfl (ix2 ⟨a.val % 128, by omega⟩ d) rfl (fun b hb => by
      match b with
      | ⟨0, _⟩ => exact absurd rfl hb
      | ⟨1, _⟩ => rfl)

theorem cols4_at (f : Fin 4 → FVec Ideal S512x128 .f32) (a e : Fin 512) :
    cols4 f (ix2 a e) = f ⟨e.val / 128, by omega⟩ (ix2 a ⟨e.val % 128, by omega⟩) :=
  concatenate_ofFn_apply (t := S512x512) (s₁ := S512x128) 1 f concatenates_S512x128_S512x128_S512x128_S512x128_S512x512_d1 rfl 128 rfl (ix2 a e)
    ⟨e.val / 128, by omega⟩ rfl (ix2 a ⟨e.val % 128, by omega⟩) rfl (fun b hb => by
      match b with
      | ⟨0, _⟩ => rfl
      | ⟨1, _⟩ => exact absurd rfl hb)

/-- Within chunk `q` and group `g` the mixed values and the normalised values' gradient stay within the chunk. -/
theorem mix_block (D : Dat) (q g p d : ℕ) (hp : p < 128) (hd : d < 128) :
    D.mix (128 * q + p) (128 * g + d) = (∑ s : Fin 128, D.wm g p s.val * D.vn (128 * q + s.val) (128 * g + d)) + D.Bs g p := by
  unfold Dat.mix
  rw [show (128 * q + p) / 128 = q by omega, show (128 * q + p) % 128 = p by omega, show (128 * g + d) / 128 = g by omega]

theorem dvn_block (D : Dat) (q g p d : ℕ) (hp : p < 128) (hd : d < 128) :
    D.dvn (128 * q + p) (128 * g + d) = ∑ s : Fin 128, D.wm g s.val p * D.ds (128 * q + s.val) (128 * g + d) := by
  unfold Dat.dvn
  rw [show (128 * q + p) / 128 = q by omega, show (128 * q + p) % 128 = p by omega, show (128 * g + d) / 128 = g by omega]

/-- A tile's row in chunk `k` is a row of chunk `4 t + k`. -/
theorem tile_row (t k p : ℕ) : 512 * t + (128 * k + p) = 128 * (4 * t + k) + p := by omega

theorem chunk_row (t a : ℕ) : 128 * (4 * t + a / 128) + a % 128 = 512 * t + a := by omega

variable {m : (ℓ : Loc nD τ sig) → Buf (Elt Ideal) ℓ} {c : Dev nD} (t : Fin cfg0.N) {D : Dat} (h : Args m c D)
include h

theorem dyBlk_at (k g : Fin 4) (p d : Fin 128) :
    blk (dy m c t) k g (ix2 p d) = ((D.dya (128 * (4 * t.val + k.val) + p.val) (128 * g.val + d.val) : ℝ) : EReal) := by
  rw [blk_at, dy_at t h, tile_row]

theorem uBlk_at (k g : Fin 4) (p d : Fin 128) :
    blk (uu m c t) k g (ix2 p d) = ((D.u (128 * (4 * t.val + k.val) + p.val) (128 * g.val + d.val) : ℝ) : EReal) := by
  rw [blk_at, uu_at t h, tile_row]

theorem vnBlk_at (k g : Fin 4) (p d : Fin 128) :
    blk (vn m c t) k g (ix2 p d) = ((D.vn (128 * (4 * t.val + k.val) + p.val) (128 * g.val + d.val) : ℝ) : EReal) := by
  rw [blk_at, vn_at t h, tile_row]

theorem ds_at (k g : Fin 4) (p d : Fin 128) :
    ds (dy m c t) (uu m c t) k g (ix2 p d) = ((D.ds (128 * (4 * t.val + k.val) + p.val) (128 * g.val + d.val) : ℝ) : EReal) := by
  have e1 := dyBlk_at t h k g p d
  have e2 := uBlk_at t h k g p d
  unfold ds
  generalize (blk (dy m c t) k g) = x at e1 ⊢
  generalize (blk (uu m c t) k g) = y at e2 ⊢
  pointwise []
  rw [e1, e2, ← EReal.coe_mul]
  rfl

theorem duB_at (k g : Fin 4) (p d : Fin 128) :
    duB (dy m c t) (vn m c t) (wm m c t g) (bc m c t g) k g (ix2 p d)
      = ((D.dmu (128 * (4 * t.val + k.val) + p.val) (128 * g.val + d.val) : ℝ) : EReal) := by
  have e1 := dyBlk_at t h k g p d
  have e2 := vnBlk_at t h k g
  have e3 := wm_at t h g
  have e4 := bc_at t h g
  unfold duB
  generalize (blk (dy m c t) k g) = x at e1 ⊢
  generalize (blk (vn m c t) k g) = y at e2 ⊢
  generalize (wm m c t g) = w at e3 ⊢
  generalize (bc m c t g) = b at e4 ⊢
  pointwise []
  simp only [e1, e2, e3, e4, ← EReal.coe_mul, coe_sum, ← EReal.coe_add]
  unfold Dat.dmu
  rw [mix_block D _ _ _ _ p.isLt d.isLt]

theorem dvB_at (k g : Fin 4) (p d : Fin 128) :
    dvB (dy m c t) (uu m c t) (wt m c t g) k g (ix2 p d)
      = ((D.dvn (128 * (4 * t.val + k.val) + p.val) (128 * g.val + d.val) : ℝ) : EReal) := by
  have e1 := ds_at t h k g
  have e3 := wt_at t h g
  unfold dvB
  generalize (ds (dy m c t) (uu m c t) k g) = x at e1 ⊢
  generalize (wt m c t g) = w at e3 ⊢
  pointwise []
  simp only [e1, e3, ← EReal.coe_mul, coe_sum, ← EReal.coe_add]
  rw [dvn_block D _ _ _ _ p.isLt d.isLt]

theorem gwB_at (k g : Fin 4) (p s : Fin 128) :
    gwB (dy m c t) (uu m c t) (vn m c t) k g (ix2 p s) = ((D.pS g.val p.val s.val (4 * t.val + k.val) : ℝ) : EReal) := by
  have e1 := ds_at t h k g
  have e2 := vnBlk_at t h k g
  unfold gwB
  generalize (ds (dy m c t) (uu m c t) k g) = x at e1 ⊢
  generalize (blk (vn m c t) k g) = y at e2 ⊢
  pointwise []
  simp only [e1, e2, ← EReal.coe_mul, coe_sum]
  rfl

theorem gbB_at (k g : Fin 4) (p : Fin 128) (z : Fin 1) :
    gbB (dy m c t) (uu m c t) k g (ix2 p z) = ((D.pB g.val p.val (4 * t.val + k.val) : ℝ) : EReal) := by
  have e1 := ds_at t h k g
  unfold gbB
  generalize (ds (dy m c t) (uu m c t) k g) = x at e1 ⊢
  pointwise []
  simp only [e1, coe_sum]
  rfl

/-! ## A tile's part of the sums -/

/-- Four chunks' parts. -/
def four (f : ℕ → ℝ) (t : ℕ) : ℝ := ∑ k : Fin 4, f (4 * t + k.val)

omit h in
theorem four_eq (f : ℕ → ℝ) (t : ℕ) : f (4 * t + (0 : Fin 4).val) + f (4 * t + (1 : Fin 4).val) + f (4 * t + (2 : Fin 4).val) + f (4 * t + (3 : Fin 4).val) = four f t :=
  (Fin.sum_univ_four fun k : Fin 4 => f (4 * t + k.val)).symm

theorem gwN_at (g : Fin 4) (old : Vec Ideal S1x128x128 .f32) (z : Fin 1) (p s : Fin 128) :
    gwN (dy m c t) (uu m c t) (vn m c t) g old (ix3 z p s)
      = old (ix3 z p s) + ((if s.val ≤ p.val then four (D.pS g.val p.val s.val) t.val else 0 : ℝ) : EReal) := by
  have e0 := gwB_at t h 0 g p s
  have e1 := gwB_at t h 1 g p s
  have e2 := gwB_at t h 2 g p s
  have e3 := gwB_at t h 3 g p s
  unfold gwN
  generalize (gwB (dy m c t) (uu m c t) (vn m c t) 0 g) = x0 at e0 ⊢
  generalize (gwB (dy m c t) (uu m c t) (vn m c t) 1 g) = x1 at e1 ⊢
  generalize (gwB (dy m c t) (uu m c t) (vn m c t) 2 g) = x2 at e2 ⊢
  generalize (gwB (dy m c t) (uu m c t) (vn m c t) 3 g) = x3 at e3 ⊢
  obtain rfl : z = 0 := Subsingleton.elim _ _
  pointwise [k0_pay31]
  rw [mask_sel, e0, e1, e2, e3]
  simp only [← EReal.coe_add]
  rw [coe_mask, four_eq]

theorem gbN_at (g : Fin 4) (old : Vec Ideal S128x1 .f32) (p : Fin 128) (z : Fin 1) :
    gbN (dy m c t) (uu m c t) g old (ix2 p z) = old (ix2 p z) + ((four (D.pB g.val p.val) t.val : ℝ) : EReal) := by
  have e0 := gbB_at t h 0 g p z
  have e1 := gbB_at t h 1 g p z
  have e2 := gbB_at t h 2 g p z
  have e3 := gbB_at t h 3 g p z
  unfold gbN
  generalize (gbB (dy m c t) (uu m c t) 0 g) = x0 at e0 ⊢
  generalize (gbB (dy m c t) (uu m c t) 1 g) = x1 at e1 ⊢
  generalize (gbB (dy m c t) (uu m c t) 2 g) = x2 at e2 ⊢
  generalize (gbB (dy m c t) (uu m c t) 3 g) = x3 at e3 ⊢
  pointwise []
  rw [e0, e1, e2, e3]
  simp only [← EReal.coe_add]
  rw [four_eq]

theorem du_at (a e : Fin 512) : du m c t (ix2 a e) = ((D.dmu (512 * t.val + a.val) e.val : ℝ) : EReal) := by
  unfold du
  rw [cols4_at, rows4_at, duB_at t h]
  dsimp only
  rw [chunk_row, Nat.div_add_mod]

theorem dv_at (a e : Fin 512) : dv m c t (ix2 a e) = ((D.dvn (512 * t.val + a.val) e.val : ℝ) : EReal) := by
  unfold dv
  rw [cols4_at, rows4_at, dvB_at t h]
  dsimp only
  rw [chunk_row, Nat.div_add_mod]

theorem vh_at (a e : Fin 512) : k0_pay168 (vv m c t) (rv m c t) (ix2 a e) = ((D.vh (512 * t.val + a.val) e.val : ℝ) : EReal) := by
  have ev := vv_at t h a e
  have er := rv_at t h a
  generalize (vv m c t) = y at ev ⊢
  generalize (rv m c t) = r at er ⊢
  pointwise [k0_pay168]
  rw [ev, er, ← EReal.coe_mul]
  rfl

/-- The values' gradient through the normalisation. -/
theorem dvv_at (a e : Fin 512) :
    k0_pay170 (bGs m c t) (vv m c t) (rv m c t) (dv m c t) (ix2 a e) = ((D.dvv (512 * t.val + a.val) e : ℝ) : EReal) := by
  have ex := vh_at t h a
  have er := rv_at t h a
  have ed := dv_at t h a
  have eg := bGs_at t h
  unfold k0_pay170
  generalize (k0_pay168 (vv m c t) (rv m c t)) = y at ex ⊢
  generalize (rv m c t) = r at er ⊢
  generalize (dv m c t) = d at ed ⊢
  generalize (bGs m c t) = g at eg ⊢
  pointwise []
  simp only [ex, er, ed, eg, ← EReal.coe_mul, coe_sum, word_512, div_512, ← EReal.coe_sub]
  rfl

theorem da0_at (a e : Fin 512) : da0 m c t (ix2 a e) = ((D.dau (512 * t.val + a.val) e.val : ℝ) : EReal) := by
  have ex := p32_at t h a e
  have et := th0_at t h a e
  have ed := du_at t h a e
  unfold da0
  generalize (k0_pay36 (k0_pay34 (bP m c t)) k0_pay35) = y at et ⊢
  generalize (k0_pay32 (bP m c t)) = x at ex ⊢
  generalize (du m c t) = d at ed ⊢
  pointwise [k0_pay172, k0_pay171]
  rw [ex, et, ed, named_3a, word_half, word_cG, ← EReal.coe_one]
  simp only [← EReal.coe_mul, ← EReal.coe_add, ← EReal.coe_sub]
  refine congrArg Real.toEReal ?_
  unfold Dat.dau gelD
  ring

theorem da1_at (a e : Fin 512) : da1 m c t (ix2 a e) = ((D.dav (512 * t.val + a.val) e : ℝ) : EReal) := by
  have ex := p33_at t h a e
  have et := th1_at t h a e
  have ed := dvv_at t h a e
  unfold da1
  generalize (k0_pay38 (k0_pay33 (bP m c t))) = y at et ⊢
  generalize (k0_pay33 (bP m c t)) = x at ex ⊢
  generalize (k0_pay170 (bGs m c t) (vv m c t) (rv m c t) (dv m c t)) = d at ed ⊢
  pointwise [k0_pay173]
  rw [ex, et, ed, named_3a, word_half, word_cG, ← EReal.coe_one]
  simp only [← EReal.coe_mul, ← EReal.coe_add, ← EReal.coe_sub]
  refine congrArg Real.toEReal ?_
  unfold Dat.dav gelD
  ring

theorem ggn_at (old : Vec Ideal S1x512 .f32) (z : Fin 1) (e : Fin 512) : ggn m c t old (ix2 z e)
    = old (ix2 z e) + ((∑ a : Fin 512, D.dvn (512 * t.val + a.val) e.val * D.vh (512 * t.val + a.val) e.val : ℝ) : EReal) := by
  have ex := vh_at t h
  have ed := dv_at t h
  unfold ggn k0_pay169
  generalize (k0_pay168 (vv m c t) (rv m c t)) = y at ex ⊢
  generalize (dv m c t) = d at ed ⊢
  pointwise []
  simp only [ex, ed, ← EReal.coe_mul, coe_sum]

theorem gwo_at (old : Vec Ideal S1024x1024 .f32) (k e : Fin 1024) : gwo m c t old (ix2 k e)
    = old (ix2 k e) + ((∑ a : Fin 512, D.mg (512 * t.val + a.val) k.val * D.C (512 * t.val + a.val) e.val : ℝ) : EReal) := by
  have ex := bX_at t h
  have em := bM_at t h
  unfold gwo
  generalize (bX m c t) = x at ex ⊢
  generalize (bM m c t) = y at em ⊢
  pointwise [k0_pay174, k0_pay12]
  simp only [ex, em, ← EReal.coe_mul, coe_sum]

theorem gpa_at (old : Vec Ideal S512x1024 .f32) (e : Fin 512) (k : Fin 1024) : gpa m c t old (ix2 e k)
    = old (ix2 e k) + ((∑ a : Fin 512, D.ya (512 * t.val + a.val) e.val * D.dpa (512 * t.val + a.val) k.val : ℝ) : EReal) := by
  have ex := bYa_at t h
  have em := dpa_at t h
  unfold gpa
  generalize (bYa m c t) = x at ex ⊢
  generalize (dpa m c t) = y at em ⊢
  pointwise [k0_pay1, k0_pay175, k0_pay15]
  simp only [ex, em, ← EReal.coe_mul, coe_sum]

theorem gpb_at (old : Vec Ideal S512x1024 .f32) (e : Fin 512) (k : Fin 1024) : gpb m c t old (ix2 e k)
    = old (ix2 e k) + ((∑ a : Fin 512, D.B (512 * t.val + a.val) e.val * D.dpb (512 * t.val + a.val) k.val : ℝ) : EReal) := by
  have ex := bYb_at t h
  have em := dpb_at t h
  unfold gpb
  generalize (bYb m c t) = x at ex ⊢
  generalize (dpb m c t) = y at em ⊢
  pointwise [k0_pay2, k0_pay16]
  simp only [ex, em, ← EReal.coe_mul, coe_sum]

end Cert.MergeIdeal.Gating

end
-- ==== Proof.Merge.Result.lean ====
module

public import proofs.«01_k».proof.Proof.Merge.Gating
public import Idealize.ShloMosaic.Lib.Pipeline.ReadBack
public import Idealize.ShloMosaic.Lib.Tactic

/-! # The gated merge's backward: what the launch leaves in its nine results -/

@[expose] public section

set_option maxRecDepth 16384

noncomputable section

open Idealize.ShloMosaic Idealize.ShloMosaic.TcCoe Idealize.SL.Sem

namespace Cert.MergeIdeal.Result

open Cert.MergeIdeal Cert.MergeIdeal.Gen Cert.MergeIdeal.Value Cert.MergeIdeal.Body Cert.MergeIdeal.Reads Cert.MergeIdeal.Points
  Cert.MergeIdeal.Gating Cert.Reals Cert.MergeMath

/-- An index of a range of columns lies in the range. -/
theorem cols_mem2 {a b w o : ℕ} (inb : ∀ i, (![0, o] : Fin 2 → ℕ) i + (![a, w] : Fin 2 → ℕ) i ≤ (⟨2, ![a, b]⟩ : Shape).size i)
    (p : Fin a) (f : Fin b) (h0 : o ≤ f.val) (h1 : f.val < o + w) : ix2 p f ∈ (Rect.unit (s := ⟨2, ![a, b]⟩) ![0, o] ![a, w] inb).set := by
  refine (Rect.mem_set_unit (inb := inb)).mpr fun i => ?_
  match i with
  | ⟨0, _⟩ => exact ⟨Nat.zero_le _, by show p.val < 0 + a; omega⟩
  | ⟨1, _⟩ => exact ⟨h0, h1⟩

theorem in_rG0 (a : Fin 512) (k : Fin 2048) (hk : k.val < 1024) : ix2 a k ∈ rG0.set := cols_mem2 _ a k (Nat.zero_le _) (by omega)
theorem in_rG1 (a : Fin 512) (k : Fin 2048) (hk : ¬k.val < 1024) : ix2 a k ∈ rG1.set := cols_mem2 _ a k (by omega) (by omega)
theorem in_rA0 (a : Fin 512) (k : Fin 1024) (hk : k.val < 512) : ix2 a k ∈ rA0.set := cols_mem2 _ a k (Nat.zero_le _) (by omega)
theorem in_rA1 (a : Fin 512) (k : Fin 1024) (hk : ¬k.val < 512) : ix2 a k ∈ rA1.set := cols_mem2 _ a k (by omega) (by omega)
theorem in_rS (g : Fin 4) (p s : Fin 128) : ix3 g p s ∈ (rS g).set := slice_mem3 _ g.isLt p s
theorem in_rB (g : Fin 4) (p : Fin 128) : ix2 p g ∈ (rB g).set := cols_mem2 _ p g (Nat.le_refl _) (Nat.lt_succ_self _)

theorem emb_rG1 (p : Fin 512) (f : Fin 1024) : rG1.emb (ix2 p f) = ix2 p ⟨1024 + f.val, by omega⟩ := unit_emb2 _ p f _
theorem emb_rG0 (p : Fin 512) (f : Fin 1024) : rG0.emb (ix2 p f) = ix2 p ⟨f.val, by omega⟩ :=
  (unit_emb2 _ p f (by omega)).trans (congrArg (ix2 p) (Fin.ext (Nat.zero_add _)))
theorem emb_rA1 (p f : Fin 512) : rA1.emb (ix2 p f) = ix2 p ⟨512 + f.val, by omega⟩ := unit_emb2 _ p f _
theorem emb_rA0 (p f : Fin 512) : rA0.emb (ix2 p f) = ix2 p ⟨f.val, by omega⟩ :=
  (unit_emb2 _ p f (by omega)).trans (congrArg (ix2 p) (Fin.ext (Nat.zero_add _)))

variable {m : (ℓ : Loc nD τ sig) → Buf (Elt Ideal) ℓ} {c : Dev nD} {D : Dat}

/-- What a point leaves is its step over some earlier state. -/
theorem outs_step (n : ℕ) (hn : n < cfg0.N) : ∃ acc, outsAt0 m c n hn = stAt0 m c n hn acc := by
  cases n with
  | zero => exact ⟨_, outsAt0_zero m c hn⟩
  | succ n => exact ⟨_, outsAt0_succ m c n hn⟩

/-! ## A tile's row blocks -/

theorem rows (t : Fin cfg0.N) : (outsAt0 m c t.val t.isLt).1 = View.canon (gPieces m c t)
    ∧ (outsAt0 m c t.val t.isLt).2.1 = View.canon (aPieces m c t) ∧ (outsAt0 m c t.val t.isLt).2.2.1 = dyb m c t := by
  obtain ⟨acc, e⟩ := outs_step (m := m) (c := c) t.val t.isLt
  rw [e]
  by_cases h0 : t.val % 8 = 0
  · have s := stA m c t acc h0 (by omega)
    exact ⟨s.1, s.2.1, s.2.2.1⟩
  · by_cases h1 : t.val % 8 = 7
    · have s := stC m c t acc h0 h1
      exact ⟨s.1, s.2.1, s.2.2.1⟩
    · have s := stB m c t acc h0 h1
      exact ⟨s.1, s.2.1, s.2.2.1⟩

/-- A point after the first adds its tile's parts to what was carried. -/
theorem sums (t : Fin cfg0.N) (acc : St Ideal) (h0 : ¬t.val % 8 = 0) :
    (stAt0 m c t.val t.isLt acc).2.2.2.2.2.2.1 = View.canon (wPieces m c t acc.2.2.2.2.2.2.1)
    ∧ (stAt0 m c t.val t.isLt acc).2.2.2.2.2.2.2.1 = View.canon (bPieces m c t acc.2.2.2.2.2.2.2.1)
    ∧ (stAt0 m c t.val t.isLt acc).2.2.2.2.2.2.2.2.1 = ggn m c t acc.2.2.2.2.2.2.2.2.1
    ∧ (stAt0 m c t.val t.isLt acc).2.2.2.2.2.2.2.2.2.1 = gwo m c t acc.2.2.2.2.2.2.2.2.2.1
    ∧ (stAt0 m c t.val t.isLt acc).2.2.2.2.2.2.2.2.2.2.1 = gpa m c t acc.2.2.2.2.2.2.2.2.2.2.1
    ∧ (stAt0 m c t.val t.isLt acc).2.2.2.2.2.2.2.2.2.2.2 = gpb m c t acc.2.2.2.2.2.2.2.2.2.2.2 := by
  by_cases h1 : t.val % 8 = 7
  · have s := stC m c t acc h0 h1
    exact ⟨s.2.2.2.2.2.2.1, s.2.2.2.2.2.2.2.1, s.2.2.2.2.2.2.2.2.1, s.2.2.2.2.2.2.2.2.2.1, s.2.2.2.2.2.2.2.2.2.2.1, s.2.2.2.2.2.2.2.2.2.2.2⟩
  · have s := stB m c t acc h0 h1
    exact ⟨s.2.2.2.1, s.2.2.2.2.1, s.2.2.2.2.2.1, s.2.2.2.2.2.2.1, s.2.2.2.2.2.2.2.1, s.2.2.2.2.2.2.2.2⟩

variable (h : Args m c D)
include h

theorem piece_dg1 (t : Fin cfg0.N) (y : (⟨2, ![512, 1024]⟩ : Shape).Idx) :
    dg1 m c t y = ((D.oG (512 * t.val + (rG1.emb y 0).val) (rG1.emb y 1).val : ℝ) : EReal) := by
  revert y
  refine all2 fun p f => ?_
  rw [emb_rG1]
  refine (dg1_at t h p f).trans (congrArg Real.toEReal ?_)
  show _ = D.oG (512 * t.val + p.val) (1024 + f.val)
  unfold Dat.oG
  rw [if_neg (by omega), Nat.add_sub_cancel_left]

theorem piece_dg0 (t : Fin cfg0.N) (y : (⟨2, ![512, 1024]⟩ : Shape).Idx) :
    dg0 m c t y = ((D.oG (512 * t.val + (rG0.emb y 0).val) (rG0.emb y 1).val : ℝ) : EReal) := by
  revert y
  refine all2 fun p f => ?_
  rw [emb_rG0]
  refine (dg0_at t h p f).trans (congrArg Real.toEReal ?_)
  show _ = D.oG (512 * t.val + p.val) f.val
  unfold Dat.oG
  rw [if_pos f.isLt]

theorem pieces_g (t : Fin cfg0.N) :
    View.PiecesOf (fun y : S512x2048.Idx => ((D.oG (512 * t.val + (y 0).val) (y 1).val : ℝ) : EReal)) (gPieces m c t) :=
  ⟨piece_dg1 h t, piece_dg0 h t, trivial⟩

omit h in
theorem covered_g (t : Fin cfg0.N) (a : Fin 512) (k : Fin 2048) : ∃ pc ∈ gPieces m c t, (ix2 a k : S512x2048.Idx) ∈ pc.1.set := by
  by_cases hk : k.val < 1024
  · exact ⟨_, .tail _ (.head _), in_rG0 a k hk⟩
  · exact ⟨_, .head _, in_rG1 a k hk⟩

theorem outs_g (t : Fin cfg0.N) (a : Fin 512) (k : Fin 2048) :
    (outsAt0 m c t.val t.isLt).1 (ix2 a k) = ((D.oG (512 * t.val + a.val) k.val : ℝ) : EReal) := by
  rw [(rows t).1]
  exact View.canon_apply_of_pieces (fun y : S512x2048.Idx => ((D.oG (512 * t.val + (y 0).val) (y 1).val : ℝ) : EReal)) _ (pieces_g h t).mem _
    (covered_g t a k)

theorem piece_da1 (t : Fin cfg0.N) (y : (⟨2, ![512, 512]⟩ : Shape).Idx) :
    da1 m c t y = ((D.oA (512 * t.val + (rA1.emb y 0).val) (rA1.emb y 1).val : ℝ) : EReal) := by
  revert y
  refine all2 fun p f => ?_
  rw [emb_rA1]
  refine (da1_at t h p f).trans (congrArg Real.toEReal ?_)
  show _ = D.oA (512 * t.val + p.val) (512 + f.val)
  unfold Dat.oA
  rw [if_neg (by omega), dif_pos (by omega)]
  exact congrArg (D.dav _) (Fin.ext (Nat.add_sub_cancel_left 512 f.val).symm)

theorem piece_da0 (t : Fin cfg0.N) (y : (⟨2, ![512, 512]⟩ : Shape).Idx) :
    da0 m c t y = ((D.oA (512 * t.val + (rA0.emb y 0).val) (rA0.emb y 1).val : ℝ) : EReal) := by
  revert y
  refine all2 fun p f => ?_
  rw [emb_rA0]
  refine (da0_at t h p f).trans (congrArg Real.toEReal ?_)
  show _ = D.oA (512 * t.val + p.val) f.val
  unfold Dat.oA
  rw [if_pos f.isLt]

theorem pieces_a (t : Fin cfg0.N) :
    View.PiecesOf (fun y : S512x1024.Idx => ((D.oA (512 * t.val + (y 0).val) (y 1).val : ℝ) : EReal)) (aPieces m c t) :=
  ⟨piece_da1 h t, piece_da0 h t, trivial⟩

omit h in
theorem covered_a (t : Fin cfg0.N) (a : Fin 512) (k : Fin 1024) : ∃ pc ∈ aPieces m c t, (ix2 a k : S512x1024.Idx) ∈ pc.1.set := by
  by_cases hk : k.val < 512
  · exact ⟨_, .tail _ (.head _), in_rA0 a k hk⟩
  · exact ⟨_, .head _, in_rA1 a k hk⟩

theorem outs_a (t : Fin cfg0.N) (a : Fin 512) (k : Fin 1024) :
    (outsAt0 m c t.val t.isLt).2.1 (ix2 a k) = ((D.oA (512 * t.val + a.val) k.val : ℝ) : EReal) := by
  rw [(rows t).2.1]
  exact View.canon_apply_of_pieces (fun y : S512x1024.Idx => ((D.oA (512 * t.val + (y 0).val) (y 1).val : ℝ) : EReal)) _ (pieces_a h t).mem _
    (covered_a t a k)

theorem outs_y (t : Fin cfg0.N) (a e : Fin 512) :
    (outsAt0 m c t.val t.isLt).2.2.1 (ix2 a e) = ((D.dyb (512 * t.val + a.val) e.val : ℝ) : EReal) := by
  rw [(rows t).2.2]
  exact dyb_at t h a e

/-! ## The three row results -/

theorem r12_at (r : Fin 4096) (f : Fin 2048) : (G12 m c : S4096x2048.Idx → EReal) (ix2 r f) = ((D.oG r.val f.val : ℝ) : EReal) := by
  have hN : cfg0.N = 8 := N_0
  have ht : r.val / 512 < cfg0.N := by omega
  have e := congrFun (blocks12 m c ⟨r.val / 512, ht⟩ (flush0_12 _)) (ix2 ⟨r.val % 512, by omega⟩ f)
  rw [flushed12, final12] at e
  refine Eq.trans (Eq.trans ?_ e) ((outs_g h ⟨r.val / 512, ht⟩ ⟨r.val % 512, by omega⟩ f).trans ?_)
  · obtain ⟨-, -, -, -, -, -, -, -, -, -, -, -, ⟨e0, e1⟩, -⟩ := index_facts ⟨r.val / 512, ht⟩
    refine congrArg (G12 m c : S4096x2048.Idx → EReal) (funext fun x => Fin.ext ?_)
    match x with
    | ⟨0, _⟩ => show r.val = win0_12.index ⟨r.val / 512, ht⟩ (0 : Fin 2) * 512 + 1 * (r.val % 512); rw [e0]; show r.val = r.val / 512 * 512 + 1 * (r.val % 512); omega
    | ⟨1, _⟩ => show f.val = win0_12.index ⟨r.val / 512, ht⟩ (1 : Fin 2) * 2048 + 1 * f.val; rw [e1]; omega
  · dsimp only
    rw [Nat.div_add_mod]

theorem r13_at (r : Fin 4096) (f : Fin 1024) : (G13 m c : S4096x1024.Idx → EReal) (ix2 r f) = ((D.oA r.val f.val : ℝ) : EReal) := by
  have hN : cfg0.N = 8 := N_0
  have ht : r.val / 512 < cfg0.N := by omega
  have e := congrFun (blocks13 m c ⟨r.val / 512, ht⟩ (flush0_13 _)) (ix2 ⟨r.val % 512, by omega⟩ f)
  rw [flushed13, final13] at e
  refine Eq.trans (Eq.trans ?_ e) ((outs_a h ⟨r.val / 512, ht⟩ ⟨r.val % 512, by omega⟩ f).trans ?_)
  · obtain ⟨-, -, -, -, -, -, -, -, -, -, -, -, -, ⟨e0, e1⟩, -⟩ := index_facts ⟨r.val / 512, ht⟩
    refine congrArg (G13 m c : S4096x1024.Idx → EReal) (funext fun x => Fin.ext ?_)
    match x with
    | ⟨0, _⟩ => show r.val = win0_13.index ⟨r.val / 512, ht⟩ (0 : Fin 2) * 512 + 1 * (r.val % 512); rw [e0]; show r.val = r.val / 512 * 512 + 1 * (r.val % 512); omega
    | ⟨1, _⟩ => show f.val = win0_13.index ⟨r.val / 512, ht⟩ (1 : Fin 2) * 1024 + 1 * f.val; rw [e1]; omega
  · dsimp only
    rw [Nat.div_add_mod]

theorem r14_at (r : Fin 4096) (f : Fin 512) : (G14 m c : S4096x512.Idx → EReal) (ix2 r f) = ((D.dyb r.val f.val : ℝ) : EReal) := by
  have hN : cfg0.N = 8 := N_0
  have ht : r.val / 512 < cfg0.N := by omega
  have e := congrFun (blocks14 m c ⟨r.val / 512, ht⟩ (flush0_14 _)) (ix2 ⟨r.val % 512, by omega⟩ f)
  rw [flushed14, final14] at e
  refine Eq.trans (Eq.trans ?_ e) ((outs_y h ⟨r.val / 512, ht⟩ ⟨r.val % 512, by omega⟩ f).trans ?_)
  · obtain ⟨-, -, -, -, -, -, -, -, -, -, -, -, -, -, ⟨e0, e1⟩, -⟩ := index_facts ⟨r.val / 512, ht⟩
    refine congrArg (G14 m c : S4096x512.Idx → EReal) (funext fun x => Fin.ext ?_)
    match x with
    | ⟨0, _⟩ => show r.val = win0_14.index ⟨r.val / 512, ht⟩ (0 : Fin 2) * 512 + 1 * (r.val % 512); rw [e0]; show r.val = r.val / 512 * 512 + 1 * (r.val % 512); omega
    | ⟨1, _⟩ => show f.val = win0_14.index ⟨r.val / 512, ht⟩ (1 : Fin 2) * 512 + 1 * f.val; rw [e1]; omega
  · dsimp only
    rw [Nat.div_add_mod]

/-! ## The mixing matrices' and biases' gradients -/

/-- Tile `t`'s part of the mixing matrices' gradient, masked, and of the biases'. -/
def partS (D : Dat) (g p s t : ℕ) : ℝ := if s ≤ p then four (D.pS g p s) t else 0

theorem wPiece (t : Fin cfg0.N) (old : Vec Ideal S4x128x128 .f32) (g : Fin 4) (y : S1x128x128.Idx) :
    gwN (dy m c t) (uu m c t) (vn m c t) g (View.ld old (rS g)) y
      = old ((rS g).emb y) + ((partS D ((rS g).emb y 0).val ((rS g).emb y 1).val ((rS g).emb y 2).val t.val : ℝ) : EReal) := by
  revert y
  refine all3 fun z p s => ?_
  rw [gwN_at t h, unit_emb3]
  refine congrArg₂ (· + ·) ?_ rfl
  exact congrArg old (unit_emb3 _ z p s)

theorem wPieces_of (t : Fin cfg0.N) (old : Vec Ideal S4x128x128 .f32) :
    View.PiecesOf (fun y : S4x128x128.Idx => old y + ((partS D (y 0).val (y 1).val (y 2).val t.val : ℝ) : EReal)) (wPieces m c t old) :=
  ⟨wPiece h t old 3, wPiece h t old 2, wPiece h t old 1, wPiece h t old 0, trivial⟩

omit h in
theorem wCovered (t : Fin cfg0.N) (old : Vec Ideal S4x128x128 .f32) :
    ∀ (g : Fin 4) (p s : Fin 128), ∃ pc ∈ wPieces m c t old, (ix3 g p s : S4x128x128.Idx) ∈ pc.1.set
  | 0, p, s => ⟨_, .tail _ (.tail _ (.tail _ (.head _))), in_rS 0 p s⟩
  | 1, p, s => ⟨_, .tail _ (.tail _ (.head _)), in_rS 1 p s⟩
  | 2, p, s => ⟨_, .tail _ (.head _), in_rS 2 p s⟩
  | 3, p, s => ⟨_, .head _, in_rS 3 p s⟩

theorem bPiece (t : Fin cfg0.N) (old : Vec Ideal S128x4 .f32) (g : Fin 4) (y : S128x1.Idx) :
    gbN (dy m c t) (uu m c t) g (View.ld old (rB g)) y
      = old ((rB g).emb y) + ((four (D.pB ((rB g).emb y 1).val ((rB g).emb y 0).val) t.val : ℝ) : EReal) := by
  revert y
  refine all2 fun p z => ?_
  have e : (rB g).emb (ix2 p z) = ix2 p g := (unit_emb2 _ p z (by omega)).trans (congrArg (ix2 p) (Fin.ext (by show g.val + z.val = g.val; omega)))
  rw [gbN_at t h, e]
  refine congrArg₂ (· + ·) ?_ rfl
  exact congrArg old e

theorem bPieces_of (t : Fin cfg0.N) (old : Vec Ideal S128x4 .f32) :
    View.PiecesOf (fun y : S128x4.Idx => old y + ((four (D.pB (y 1).val (y 0).val) t.val : ℝ) : EReal)) (bPieces m c t old) :=
  ⟨bPiece h t old 3, bPiece h t old 2, bPiece h t old 1, bPiece h t old 0, trivial⟩

omit h in
theorem bCovered (t : Fin cfg0.N) (old : Vec Ideal S128x4 .f32) :
    ∀ (g : Fin 4) (p : Fin 128), ∃ pc ∈ bPieces m c t old, (ix2 p g : S128x4.Idx) ∈ pc.1.set
  | 0, p => ⟨_, .tail _ (.tail _ (.tail _ (.head _))), in_rB 0 p⟩
  | 1, p => ⟨_, .tail _ (.tail _ (.head _)), in_rB 1 p⟩
  | 2, p => ⟨_, .tail _ (.head _), in_rB 2 p⟩
  | 3, p => ⟨_, .head _, in_rB 3 p⟩

/-! ## The sums so far -/

theorem sum_w (g : Fin 4) (p s : Fin 128) : ∀ (n : ℕ) (hn : n < cfg0.N), (outsAt0 m c n hn).2.2.2.2.2.2.1 (ix3 g p s)
    = ∑ k ∈ Finset.range (n % 8 + 1), ((partS D g.val p.val s.val (n / 8 * 8 + k) : ℝ) : EReal) := by
  refine run_sum 8 (by decide) (fun n hn => (outsAt0 m c n hn).2.2.2.2.2.2.1 (ix3 g p s))
    (fun n => ((partS D g.val p.val s.val n : ℝ) : EReal)) (fun n hn h0 => ?_) (fun n hn h0 => ?_)
  · obtain ⟨acc, e⟩ := outs_step (m := m) (c := c) n hn
    rw [e, (stA m c ⟨n, hn⟩ acc h0 (by dsimp only; omega)).2.2.2.1,
      View.canon_append_of_piecesOf _ _ _ (wPieces_of h ⟨n, hn⟩ _) _ (wCovered ⟨n, hn⟩ _ g p s)]
    show k0_pay9 (F := Ideal) (ix3 g p s) + _ = _
    pointwise [k0_pay9]
  · rw [outsAt0_succ, (sums ⟨n + 1, hn⟩ _ h0).1,
      View.canon_apply_of_pieces (fun y : S4x128x128.Idx => (outsAt0 m c n (Nat.lt_of_succ_lt hn)).2.2.2.2.2.2.1 y + ((partS D (y 0).val (y 1).val (y 2).val (n + 1) : ℝ) : EReal)) _ (wPieces_of h ⟨n + 1, hn⟩ (outsAt0 m c n (Nat.lt_of_succ_lt hn)).2.2.2.2.2.2.1).mem _ (wCovered ⟨n + 1, hn⟩ _ g p s)]
    rfl

theorem sum_b (p : Fin 128) (g : Fin 4) : ∀ (n : ℕ) (hn : n < cfg0.N), (outsAt0 m c n hn).2.2.2.2.2.2.2.1 (ix2 p g)
    = ∑ k ∈ Finset.range (n % 8 + 1), ((four (D.pB g.val p.val) (n / 8 * 8 + k) : ℝ) : EReal) := by
  refine run_sum 8 (by decide) (fun n hn => (outsAt0 m c n hn).2.2.2.2.2.2.2.1 (ix2 p g))
    (fun n => ((four (D.pB g.val p.val) n : ℝ) : EReal)) (fun n hn h0 => ?_) (fun n hn h0 => ?_)
  · obtain ⟨acc, e⟩ := outs_step (m := m) (c := c) n hn
    rw [e, (stA m c ⟨n, hn⟩ acc h0 (by dsimp only; omega)).2.2.2.2.1,
      View.canon_append_of_piecesOf _ _ _ (bPieces_of h ⟨n, hn⟩ _) _ (bCovered ⟨n, hn⟩ _ g p)]
    show k0_pay10 (F := Ideal) (ix2 p g) + _ = _
    pointwise [k0_pay10]
  · rw [outsAt0_succ, (sums ⟨n + 1, hn⟩ _ h0).2.1,
      View.canon_apply_of_pieces (fun y : S128x4.Idx => (outsAt0 m c n (Nat.lt_of_succ_lt hn)).2.2.2.2.2.2.2.1 y + ((four (D.pB (y 1).val (y 0).val) (n + 1) : ℝ) : EReal)) _ (bPieces_of h ⟨n + 1, hn⟩ (outsAt0 m c n (Nat.lt_of_succ_lt hn)).2.2.2.2.2.2.2.1).mem _ (bCovered ⟨n + 1, hn⟩ _ g p)]
    rfl

theorem sum_n (z : Fin 1) (e : Fin 512) : ∀ (n : ℕ) (hn : n < cfg0.N), (outsAt0 m c n hn).2.2.2.2.2.2.2.2.1 (ix2 z e)
    = ∑ k' ∈ Finset.range (n % 8 + 1), ((∑ a : Fin 512, D.dvn (512 * (n / 8 * 8 + k') + a.val) e.val * D.vh (512 * (n / 8 * 8 + k') + a.val) e.val : ℝ) : EReal) := by
  refine run_sum 8 (by decide) (fun n hn => (outsAt0 m c n hn).2.2.2.2.2.2.2.2.1 (ix2 z e))
    (fun n => ((∑ a : Fin 512, D.dvn (512 * n + a.val) e.val * D.vh (512 * n + a.val) e.val : ℝ) : EReal)) (fun n hn h0 => ?_) (fun n hn h0 => ?_)
  · obtain ⟨acc, ea⟩ := outs_step (m := m) (c := c) n hn
    rw [ea, (stA m c ⟨n, hn⟩ acc h0 (by dsimp only; omega)).2.2.2.2.2.1, ggn_at ⟨n, hn⟩ h]
    pointwise [k0_pay11]
  · rw [outsAt0_succ, (sums ⟨n + 1, hn⟩ _ h0).2.2.1, ggn_at ⟨n + 1, hn⟩ h]

theorem sum_wo (k e : Fin 1024) : ∀ (n : ℕ) (hn : n < cfg0.N), (outsAt0 m c n hn).2.2.2.2.2.2.2.2.2.1 (ix2 k e)
    = ∑ k' ∈ Finset.range (n % 8 + 1), ((∑ a : Fin 512, D.mg (512 * (n / 8 * 8 + k') + a.val) k.val * D.C (512 * (n / 8 * 8 + k') + a.val) e.val : ℝ) : EReal) := by
  refine run_sum 8 (by decide) (fun n hn => (outsAt0 m c n hn).2.2.2.2.2.2.2.2.2.1 (ix2 k e))
    (fun n => ((∑ a : Fin 512, D.mg (512 * n + a.val) k.val * D.C (512 * n + a.val) e.val : ℝ) : EReal)) (fun n hn h0 => ?_) (fun n hn h0 => ?_)
  · obtain ⟨acc, ea⟩ := outs_step (m := m) (c := c) n hn
    rw [ea, (stA m c ⟨n, hn⟩ acc h0 (by dsimp only; omega)).2.2.2.2.2.2.1, gwo_at ⟨n, hn⟩ h]
    pointwise [k0_pay6]
  · rw [outsAt0_succ, (sums ⟨n + 1, hn⟩ _ h0).2.2.2.1, gwo_at ⟨n + 1, hn⟩ h]

theorem sum_pa (e : Fin 512) (k : Fin 1024) : ∀ (n : ℕ) (hn : n < cfg0.N), (outsAt0 m c n hn).2.2.2.2.2.2.2.2.2.2.1 (ix2 e k)
    = ∑ k' ∈ Finset.range (n % 8 + 1), ((∑ a : Fin 512, D.ya (512 * (n / 8 * 8 + k') + a.val) e.val * D.dpa (512 * (n / 8 * 8 + k') + a.val) k.val : ℝ) : EReal) := by
  refine run_sum 8 (by decide) (fun n hn => (outsAt0 m c n hn).2.2.2.2.2.2.2.2.2.2.1 (ix2 e k))
    (fun n => ((∑ a : Fin 512, D.ya (512 * n + a.val) e.val * D.dpa (512 * n + a.val) k.val : ℝ) : EReal)) (fun n hn h0 => ?_) (fun n hn h0 => ?_)
  · obtain ⟨acc, ea⟩ := outs_step (m := m) (c := c) n hn
    rw [ea, (stA m c ⟨n, hn⟩ acc h0 (by dsimp only; omega)).2.2.2.2.2.2.2.1, gpa_at ⟨n, hn⟩ h]
    pointwise [k0_pay7]
  · rw [outsAt0_succ, (sums ⟨n + 1, hn⟩ _ h0).2.2.2.2.1, gpa_at ⟨n + 1, hn⟩ h]

theorem sum_pb (e : Fin 512) (k : Fin 1024) : ∀ (n : ℕ) (hn : n < cfg0.N), (outsAt0 m c n hn).2.2.2.2.2.2.2.2.2.2.2 (ix2 e k)
    = ∑ k' ∈ Finset.range (n % 8 + 1), ((∑ a : Fin 512, D.B (512 * (n / 8 * 8 + k') + a.val) e.val * D.dpb (512 * (n / 8 * 8 + k') + a.val) k.val : ℝ) : EReal) := by
  refine run_sum 8 (by decide) (fun n hn => (outsAt0 m c n hn).2.2.2.2.2.2.2.2.2.2.2 (ix2 e k))
    (fun n => ((∑ a : Fin 512, D.B (512 * n + a.val) e.val * D.dpb (512 * n + a.val) k.val : ℝ) : EReal)) (fun n hn h0 => ?_) (fun n hn h0 => ?_)
  · obtain ⟨acc, ea⟩ := outs_step (m := m) (c := c) n hn
    rw [ea, (stA m c ⟨n, hn⟩ acc h0 (by dsimp only; omega)).2.2.2.2.2.2.2.2, gpb_at ⟨n, hn⟩ h]
    pointwise [k0_pay8]
  · rw [outsAt0_succ, (sums ⟨n + 1, hn⟩ _ h0).2.2.2.2.2, gpb_at ⟨n + 1, hn⟩ h]

/-! ## The six summed results -/

omit h in
/-- The eight tiles' parts of a sum over the rows. -/
theorem all_rows (f : ℕ → ℝ) : ∑ k ∈ Finset.range (7 % 8 + 1), ((∑ a : Fin 512, f (512 * (7 / 8 * 8 + k) + a.val) : ℝ) : EReal)
    = ((∑ r : Fin 4096, f r.val : ℝ) : EReal) :=
  run_tiles 8 512 _ f fun i _ => by rw [show 7 / 8 * 8 + i = i by omega]

omit h in
/-- The eight tiles' parts, four chunks each, of a sum over the chunks. -/
theorem all_chunks (f : ℕ → ℝ) : ∑ k ∈ Finset.range (7 % 8 + 1), ((four f (7 / 8 * 8 + k) : ℝ) : EReal)
    = ((∑ q : Fin 32, f q.val : ℝ) : EReal) :=
  run_tiles 8 4 _ f fun i _ => by rw [show 7 / 8 * 8 + i = i by omega]; rfl

theorem r15_at (k e : Fin 1024) : (G15 m c : S1024x1024.Idx → EReal) (ix2 k e) = ((D.oWo k.val e.val : ℝ) : EReal) := by
  have h7 : 7 < cfg0.N := lt_of_lt_of_eq (by decide) N_0.symm
  obtain ⟨acc, ea⟩ := outs_step (m := m) (c := c) 7 h7
  have s := stC m c ⟨7, h7⟩ acc (by dsimp only; omega) (by dsimp only)
  have s1 := s.2.2.2.1
  rw [← s.2.2.2.2.2.2.2.2.2.1, ← ea] at s1
  have ev := (sum_wo h k e 7 h7).trans (all_rows (fun r => D.mg r k.val * D.C r e.val))
  rw [G15_last, ← outsAt0_sweep m c _ h7, s1]
  generalize (outsAt0 m c 7 h7).2.2.2.2.2.2.2.2.2.1 = y at ev ⊢
  pointwise [k0_pay3]
  exact ev

theorem r16_at (e : Fin 512) (k : Fin 1024) : (G16 m c : S512x1024.Idx → EReal) (ix2 e k) = ((D.oWa e.val k.val : ℝ) : EReal) := by
  have h7 : 7 < cfg0.N := lt_of_lt_of_eq (by decide) N_0.symm
  obtain ⟨acc, ea⟩ := outs_step (m := m) (c := c) 7 h7
  have s := stC m c ⟨7, h7⟩ acc (by dsimp only; omega) (by dsimp only)
  have s1 := s.2.2.2.2.1
  rw [← s.2.2.2.2.2.2.2.2.2.2.1, ← ea] at s1
  have ev := (sum_pa h e k 7 h7).trans (all_rows (fun r => D.ya r e.val * D.dpa r k.val))
  rw [G16_last, ← outsAt0_sweep m c _ h7, s1]
  generalize (outsAt0 m c 7 h7).2.2.2.2.2.2.2.2.2.2.1 = y at ev ⊢
  pointwise [k0_pay4]
  exact ev

theorem r17_at (e : Fin 512) (k : Fin 1024) : (G17 m c : S512x1024.Idx → EReal) (ix2 e k) = ((D.oWb e.val k.val : ℝ) : EReal) := by
  have h7 : 7 < cfg0.N := lt_of_lt_of_eq (by decide) N_0.symm
  obtain ⟨acc, ea⟩ := outs_step (m := m) (c := c) 7 h7
  have s := stC m c ⟨7, h7⟩ acc (by dsimp only; omega) (by dsimp only)
  have s1 := s.2.2.2.2.2.1
  rw [← s.2.2.2.2.2.2.2.2.2.2.2, ← ea] at s1
  have ev := (sum_pb h e k 7 h7).trans (all_rows (fun r => D.B r e.val * D.dpb r k.val))
  rw [G17_last, ← outsAt0_sweep m c _ h7, s1]
  generalize (outsAt0 m c 7 h7).2.2.2.2.2.2.2.2.2.2.2 = y at ev ⊢
  pointwise [k0_pay5]
  exact ev

/-- The mixing matrices' gradient. -/
theorem r18_at (g : Fin 4) (p s : Fin 128) : (G18 m c : S4x128x128.Idx → EReal) (ix3 g p s) = ((D.oS g.val p.val s.val : ℝ) : EReal) := by
  have h7 : 7 < cfg0.N := lt_of_lt_of_eq (by decide) N_0.symm
  rw [G18_last, ← outsAt0_sweep m c _ h7]
  refine (sum_w h g p s 7 h7).trans ?_
  unfold partS Dat.oS
  by_cases hm : s.val ≤ p.val
  · simp only [if_pos hm]
    exact all_chunks (D.pS g.val p.val s.val)
  · simp only [if_neg hm, EReal.coe_zero, Finset.sum_const_zero]

/-- The biases' gradient. -/
theorem r19_at (p : Fin 128) (g : Fin 4) : (G19 m c : S128x4.Idx → EReal) (ix2 p g) = ((D.oB g.val p.val : ℝ) : EReal) := by
  have h7 : 7 < cfg0.N := lt_of_lt_of_eq (by decide) N_0.symm
  rw [G19_last, ← outsAt0_sweep m c _ h7]
  exact (sum_b h p g 7 h7).trans (all_chunks (D.pB g.val p.val))

/-- The gain's gradient. -/
theorem r20_at (z : Fin 1) (e : Fin 512) : (G20 m c : S1x512.Idx → EReal) (ix2 z e) = ((D.oN e.val : ℝ) : EReal) := by
  have h7 : 7 < cfg0.N := lt_of_lt_of_eq (by decide) N_0.symm
  rw [G20_last, ← outsAt0_sweep m c _ h7]
  exact (sum_n h z e 7 h7).trans (all_rows fun r => D.dvn r e.val * D.vh r e.val)

end Cert.MergeIdeal.Result

end
-- ==== Proof.Merge.Claims.lean ====
module

public import proofs.«01_k».proof.Defs
public import proofs.«01_k».proof.Proof.Gen.Merge
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_finite_merge
public import proofs.«01_k».proof.Proof.Merge.Ref
public import proofs.«01_k».proof.Proof.Merge.Result

/-! # The gated merge's backward: its claims -/

@[expose] public section

set_option maxRecDepth 16384

noncomputable section

open Idealize.ShloMosaic Idealize.ShloMosaic.TcCoe Idealize.SL.Sem

namespace Cert.MergeClaims

open Cert.Reals

section
open Cert.MergeIdeal

/-- The ideal program, over any floats: it runs, its arguments end unchanged and every counter ends at zero. -/
theorem frame_run {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c, Value.kept_main_arg5 m r h.1 c, Value.kept_main_arg6 m r h.1 c, Value.kept_main_arg7 m r h.1 c, Value.kept_main_arg8 m r h.1 c, Value.kept_main_arg9 m r h.1 c⟩, h.2⟩) (Gen.run_main_quiescent m ρ)
end

/-- The reading of a named constant as its float word. -/
instance readBits : Named Bits := ⟨fun _ _ {φ} b => Scalar.ofBits φ b⟩

set_option maxHeartbeats 8000000 in
/-- With named constants read as their words the two programs have one table of kernel bodies. -/
theorem bodies_eq : Cert.Merge.defs₀ (F := Bits) = Cert.MergeIdeal.defs₀ (F := Bits) := by
  unfold Cert.Merge.defs₀ Cert.MergeIdeal.defs₀
  congr 1
  funext l a
  match l, a with
  | 0, (t, s) => rfl

set_option maxHeartbeats 8000000 in
theorem defs_eq : Cert.Merge.defs (F := Bits) = Cert.MergeIdeal.defs (F := Bits) := by
  unfold Cert.Merge.defs Cert.MergeIdeal.defs
  rw [bodies_eq]
  rfl

set_option maxHeartbeats 8000000 in
/-- The kernel's own frame: with named constants read as their words the two programs have one text. -/
theorem frame_kernel : Cert.quiescent_Merge := fun m ρ _ => by
  rw [defs_eq]
  exact frame_run (F := Bits) m ρ

/-- The ideal program's frame. -/
theorem frame_ideal : Cert.quiescent_MergeIdeal := fun m ρ _ => frame_run (F := Ideal) m ρ

/-- The reference's frame. -/
theorem frame_ref : Cert.quiescent_MergeRefIdeal := fun m ρ _ =>
  (θ_run _ _ _).mono (fun r h => ⟨fun c => (h c).2.2.2.2.2.2.2.2.2, sem_eq_zero_of_no_sems (by decide) r.2⟩) (Cert.MergeRefIdeal.Value.run (F := Ideal) m ρ)

/-- The ideal program's frame under the precondition. -/
theorem frame_ideal_pre : Cert.quiescent_MergeIdeal_pre_finite_merge := fun m ρ _ => frame_run (F := Ideal) m ρ

/-- The reference's frame under the precondition. -/
theorem frame_ref_pre : Cert.quiescent_MergeRefIdeal_pre_finite_merge := fun m ρ _ => frame_ref m ρ trivial

/-- The two constants that the ideal program names are what their names say. -/
theorem preserves : Cert.preserves_Merge_MergeIdeal :=
  ⟨IdealRules.named_const.statement Cert.MergeIdeal.κ "gelu_a" .f32 0x3D372713#32 ((8943 / 200000 : ℝ) : EReal) rfl,
    IdealRules.named_const.statement Cert.MergeIdeal.κ "gelu_3a" .f32 0x3E095D4F#32 ((26829 / 200000 : ℝ) : EReal) rfl⟩

/-- An array of three axes read as real numbers. -/
def rd3 {a b c : ℕ} (x : (⟨3, ![a, b, c]⟩ : Shape).Idx → EReal) (g r f : ℕ) : ℝ :=
  if h : g < a ∧ r < b ∧ f < c then (x (ix3 ⟨g, h.1⟩ ⟨r, h.2.1⟩ ⟨f, h.2.2⟩)).toReal else 0

/-- A finite array of three axes is its real reading. -/
theorem rd3_eq {a b c : ℕ} (x : (⟨3, ![a, b, c]⟩ : Shape).Idx → EReal)
    (h : ∀ i, Ideal.cmp .olt (max (x i) (-(x i))) (Ideal.ofBits .f32 0x7F800000#32) = 1#1)
    (g : Fin a) (r : Fin b) (f : Fin c) : x (ix3 g r f) = ((rd3 x g.val r.val f.val : ℝ) : EReal) := by
  unfold rd3
  rw [dif_pos ⟨g.isLt, r.isLt, f.isLt⟩]
  exact eq_coe_of_finite _ (h _)

/-- The precondition gives real arguments. -/
theorem args_real (m : (ℓ : Loc Cert.MergeIdeal.nD Cert.MergeIdeal.τ Cert.MergeIdeal.sig) → Buf (Elt Ideal) ℓ) (hm : Cert.Pre_MergeIdeal_finite_merge m)
    (c : Dev Cert.MergeIdeal.nD) : ∃ D, Cert.MergeIdeal.Reads.Args m c D := by
  obtain ⟨h0, h1, h2, h3, h4, h5, h6, h7, h8, h9⟩ := hm c
  refine ⟨⟨rd (m ((c.tc : Thread Cert.MergeIdeal.nD Cert.MergeIdeal.τ).loc Cert.MergeIdeal.main_arg0) : Cert.MergeIdeal.S4096x1024.Idx → EReal),
    rd (m ((c.tc : Thread Cert.MergeIdeal.nD Cert.MergeIdeal.τ).loc Cert.MergeIdeal.main_arg1) : Cert.MergeIdeal.S4096x512.Idx → EReal),
    rd (m ((c.tc : Thread Cert.MergeIdeal.nD Cert.MergeIdeal.τ).loc Cert.MergeIdeal.main_arg2) : Cert.MergeIdeal.S4096x2048.Idx → EReal),
    rd (m ((c.tc : Thread Cert.MergeIdeal.nD Cert.MergeIdeal.τ).loc Cert.MergeIdeal.main_arg3) : Cert.MergeIdeal.S512x1024.Idx → EReal),
    rd (m ((c.tc : Thread Cert.MergeIdeal.nD Cert.MergeIdeal.τ).loc Cert.MergeIdeal.main_arg4) : Cert.MergeIdeal.S512x1024.Idx → EReal),
    rd (m ((c.tc : Thread Cert.MergeIdeal.nD Cert.MergeIdeal.τ).loc Cert.MergeIdeal.main_arg5) : Cert.MergeIdeal.S1024x1024.Idx → EReal),
    rd (m ((c.tc : Thread Cert.MergeIdeal.nD Cert.MergeIdeal.τ).loc Cert.MergeIdeal.main_arg6) : Cert.MergeIdeal.S1x512.Idx → EReal),
    rd3 (m ((c.tc : Thread Cert.MergeIdeal.nD Cert.MergeIdeal.τ).loc Cert.MergeIdeal.main_arg7) : Cert.MergeIdeal.S4x128x128.Idx → EReal),
    rd (m ((c.tc : Thread Cert.MergeIdeal.nD Cert.MergeIdeal.τ).loc Cert.MergeIdeal.main_arg8) : Cert.MergeIdeal.S4x128.Idx → EReal),
    rd (m ((c.tc : Thread Cert.MergeIdeal.nD Cert.MergeIdeal.τ).loc Cert.MergeIdeal.main_arg9) : Cert.MergeIdeal.S4096x1024.Idx → EReal)⟩, ?_⟩
  constructor
  · exact fun r f => rd_eq _ (congrFun h0) r f
  · exact fun r f => rd_eq _ (congrFun h1) r f
  · exact fun r f => rd_eq _ (congrFun h2) r f
  · exact fun r f => rd_eq _ (congrFun h3) r f
  · exact fun r f => rd_eq _ (congrFun h4) r f
  · exact fun r f => rd_eq _ (congrFun h5) r f
  · exact fun r f => rd_eq _ (congrFun h6) r f
  · exact fun g r f => rd3_eq _ (congrFun h7) g r f
  · exact fun r f => rd_eq _ (congrFun h8) r f
  · exact fun r f => rd_eq _ (congrFun h9) r f

/-- Over the reals the kernel and the reference end with equal results. -/
theorem value : Cert.algebraic_MergeIdeal_MergeRefIdeal_pre_finite_merge := by
  intro m ρ m' ρ' hm hmm
  refine ⟨fun c => Cert.MergeIdeal.Value.G12 m c, fun c => Cert.MergeIdeal.Value.G13 m c, fun c => Cert.MergeIdeal.Value.G14 m c, fun c => Cert.MergeIdeal.Value.G15 m c, fun c => Cert.MergeIdeal.Value.G16 m c, fun c => Cert.MergeIdeal.Value.G17 m c, fun c => Cert.MergeIdeal.Value.G18 m c, fun c => Cert.MergeIdeal.Value.G19 m c, fun c => Cert.MergeIdeal.Value.G20 m c, Cert.MergeIdeal.Value.run m ρ, ?_⟩
  refine (θ_run _ _ _).mono (fun r h c => ?_) (Cert.MergeRefIdeal.Value.run (F := Ideal) m' ρ')
  obtain ⟨D, hA⟩ := args_real m hm c
  obtain ⟨e0, e1, e2, e3, e4, e5, e6, e7, e8, e9⟩ := hmm c
  obtain ⟨r0, r1, r2, r3, r4, r5, r6, r7, r8, k⟩ := h c
  have hB := hA
  unfold Cert.MergeIdeal.Reads.Args at hB
  rw [← e0, ← e1, ← e2, ← e3, ← e4, ← e5, ← e6, ← e7, ← e8, ← e9] at hB
  refine ⟨(r0.trans (Cert.MergeRefIdeal.Read.val_main_v175_eq _)).trans ?_, (r1.trans (Cert.MergeRefIdeal.Read.val_main_v176_eq _)).trans ?_, (r2.trans (Cert.MergeRefIdeal.Read.val_main_v177_eq _)).trans ?_, (r3.trans (Cert.MergeRefIdeal.Read.val_main_v178_eq _)).trans ?_, (r4.trans (Cert.MergeRefIdeal.Read.val_main_v179_eq _)).trans ?_, (r5.trans (Cert.MergeRefIdeal.Read.val_main_v180_eq _)).trans ?_, (r6.trans (Cert.MergeRefIdeal.Read.val_main_v129_eq _)).trans ?_, (r7.trans (Cert.MergeRefIdeal.Read.val_main_v181_eq _)).trans ?_, (r8.trans (Cert.MergeRefIdeal.Read.val_main_v133_eq _)).trans ?_, k⟩
  · exact ext2 fun r k => (Cert.MergeRefIdeal.Result.v175_at hB r k).trans (Cert.MergeIdeal.Result.r12_at hA r k).symm
  · exact ext2 fun r k => (Cert.MergeRefIdeal.Result.v176_at hB r k).trans (Cert.MergeIdeal.Result.r13_at hA r k).symm
  · exact ext2 fun r e => (Cert.MergeRefIdeal.Result.v177_at hB r e).trans (Cert.MergeIdeal.Result.r14_at hA r e).symm
  · exact ext2 fun k e => (Cert.MergeRefIdeal.Result.v178_at hB k e).trans (Cert.MergeIdeal.Result.r15_at hA k e).symm
  · exact ext2 fun e k => (Cert.MergeRefIdeal.Result.v179_at hB e k).trans (Cert.MergeIdeal.Result.r16_at hA e k).symm
  · exact ext2 fun e k => (Cert.MergeRefIdeal.Result.v180_at hB e k).trans (Cert.MergeIdeal.Result.r17_at hA e k).symm
  · exact ext3 fun g t s => (Cert.MergeRefIdeal.Result.v129_at hB g t s).trans (Cert.MergeIdeal.Result.r18_at hA g t s).symm
  · exact ext2 fun t g => (Cert.MergeRefIdeal.Result.v181_at hB t g).trans (Cert.MergeIdeal.Result.r19_at hA t g).symm
  · exact ext2 fun z e => (Cert.MergeRefIdeal.Result.v133_at hB z e).trans (Cert.MergeIdeal.Result.r20_at hA z e).symm

end Cert.MergeClaims

end
-- ==== Proof.Up.Math.lean ====
module

public import proofs.«01_k».proof.Proof.Common.Norm

/-! # The up projection's backward over the reals

The three-tap causal convolution runs inside each sequence of 2048 rows: its gradient takes the cotangent one and two
rows on, and zero past the sequence's end. -/

@[expose] public section

set_option maxRecDepth 16384

noncomputable section

open Idealize.ShloMosaic Idealize.ShloMosaic.TcCoe Idealize.SL.Sem

namespace Cert.UpMath

open Cert.Reals

/-- The six arguments as real numbers: the input, the gain, the weight, the convolution's weight, the incoming gradient
    of the input and the cotangent of the convolution's output. -/
structure Data where
  X : ℕ → ℕ → ℝ
  N : ℕ → ℕ → ℝ
  W : ℕ → ℕ → ℝ
  C : ℕ → ℕ → ℝ
  D : ℕ → ℕ → ℝ
  P : ℕ → ℕ → ℝ

namespace Data

variable (D : Data)

/-- A row of the input. -/
def row (r : ℕ) (d : Fin 1024) : ℝ := D.X r d.val
/-- The normalised input. -/
def nrm (r d : ℕ) : ℝ := D.X r d * rinv 1024 (D.row r)
/-- The projection: the convolution's input. -/
def up (r e : ℕ) : ℝ := ∑ d : Fin 1024, D.nrm r d.val * D.N 0 d.val * D.W d.val e
/-- The cotangent `k` rows on in the same sequence, zero past its end. -/
def sh (k r e : ℕ) : ℝ := if r % 2048 + k < 2048 then D.P (r + k) e else 0
/-- The gradient of the convolution's input. -/
def du (r e : ℕ) : ℝ := D.C 2 e * D.P r e + D.C 1 e * D.sh 1 r e + D.C 0 e * D.sh 2 r e
/-- The cotangent of the normalised input times the gain. -/
def dh (r d : ℕ) : ℝ := ∑ e : Fin 5632, D.du r e.val * D.W d e.val
/-- A row of it times the gain. -/
def rowD (r : ℕ) (d : Fin 1024) : ℝ := D.dh r d.val * D.N 0 d.val
/-- The input's gradient. -/
def oX (r : ℕ) (d : Fin 1024) : ℝ := D.D r d.val + rmsBwd 1024 (D.row r) (D.rowD r) d
/-- One row's part of the gain's gradient. -/
def oN (r d : ℕ) : ℝ := D.dh r d * D.nrm r d
/-- One row's part of the gradient of the convolution's tap that looks `k` rows back. -/
def oC (k r e : ℕ) : ℝ := D.sh k r e * D.up r e

theorem sh_zero (r e : ℕ) : D.sh 0 r e = D.P r e := if_pos (Nat.mod_lt _ (by decide))

/-- Row `p` of tile `t`, `k ≤ 2` rows on: inside the tile, or among the first rows of the next, or past the sequence's end. -/
theorem sh_tile (k t p e : ℕ) (hk : k ≤ 2) (hp : p < 256) :
    (if p + k < 256 then D.P (256 * t + (p + k)) e else if t % 8 = 7 then 0 else D.P (256 * (t + 1) + (p + k - 256)) e) = D.sh k (256 * t + p) e := by
  unfold sh
  by_cases h : p + k < 256
  · rw [if_pos h, if_pos (by omega), Nat.add_assoc]
  · rw [if_neg h]
    by_cases h7 : t % 8 = 7
    · rw [if_pos h7, if_neg (by omega)]
    · rw [if_neg h7, if_pos (by omega)]
      congr 1
      omega

end Data

/-- A sum against values `k` places back is the sum of those values against places `k` on. -/
theorem sum_shift (k n : ℕ) (hk : k ≤ n) (a b : ℕ → ℝ) :
    ∑ i : Fin n, a i.val * (if i.val < k then 0 else b (i.val - k)) = ∑ i : Fin n, (if i.val + k < n then a (i.val + k) else 0) * b i.val := by
  obtain ⟨m, rfl⟩ := Nat.exists_eq_add_of_le hk
  rw [← Finset.sum_range (fun i => a i * (if i < k then 0 else b (i - k))),
    ← Finset.sum_range (fun i => (if i + k < k + m then a (i + k) else 0) * b i), Finset.sum_range_add]
  have e : k + m = m + k := Nat.add_comm k m
  rw [show Finset.range (k + m) = Finset.range (m + k) by rw [e], Finset.sum_range_add, add_comm]
  refine congrArg₂ (· + ·) (Finset.sum_congr rfl fun j hj => ?_) ?_
  · have := Finset.mem_range.mp hj
    rw [if_neg (by omega), if_pos (by omega), Nat.add_sub_cancel_left, Nat.add_comm j k]
  · refine (Finset.sum_eq_zero fun i hi => ?_).trans (Finset.sum_eq_zero fun i hi => ?_).symm
    · rw [if_pos (Finset.mem_range.mp hi), mul_zero]
    · rw [if_neg (by omega), zero_mul]

/-- A sum over 5632 columns is the sum over its four parts of 1408. -/
theorem sum_parts (f : ℕ → ℝ) :
    ∑ e : Fin 5632, f e.val = (∑ e : Fin 1408, f e.val) + (∑ e : Fin 1408, f (1408 + e.val)) + (∑ e : Fin 1408, f (2816 + e.val)) + ∑ e : Fin 1408, f (4224 + e.val) := by
  rw [← sum_tiles_fin 4 1408 f]
  simp only [Finset.sum_range_succ, Finset.sum_range_zero, Nat.mul_zero, Nat.mul_one, zero_add, Nat.reduceMul]

/-- A sum over two sequences of 2048 rows is the sum over all rows. -/
theorem sum_seqs (f : ℕ → ℝ) : ∑ s : Fin 2, ∑ i : Fin 2048, f (2048 * s.val + i.val) = ∑ r : Fin 4096, f r.val := by
  rw [← sum_tiles_fin 2 2048 f, ← Finset.sum_range (fun s => ∑ i : Fin 2048, f (2048 * s + i.val))]

/-- The sum over the first two axes of a rank-three array. -/
theorem reduce_front {n0 n1 n2 : ℕ} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  unfold Ideal.hostReduceAdd
  refine congrArg (init + ·) ?_
  rw [← Fintype.sum_prod_type' (fun a b => v (ix3 a b c))]
  refine Finset.sum_filter_eq_sum_of_fiber _ (fun k : Fin n0 × Fin n1 => ix3 k.1 k.2 c)
    (fun k l e => Prod.ext (congrFun e 0) (congrFun e 1)) (fun i => ⟨fun e => ⟨(i 0, i 1), ?_⟩, ?_⟩) v
  · funext x
    apply Fin.ext
    match x with
    | ⟨0, _⟩ => rfl
    | ⟨1, _⟩ => rfl
    | ⟨2, _⟩ => exact (congrArg Fin.val (congrFun e 0)).symm
  · rintro ⟨k, rfl⟩
    funext x
    apply Fin.ext
    match x with
    | ⟨0, _⟩ => rfl

end Cert.UpMath

end
-- ==== Proof.Up.Ref.lean ====
module

public import proofs.«01_k».proof.Proof.Up.Math
public import proofs.«01_k».proof.Proof.Gen.UpRefIdeal.Read
public import Idealize.ShloMosaic.Lib.Tactic

/-! # The reference of the up projection's backward, read at an index -/

@[expose] public section

set_option maxRecDepth 16384

noncomputable section

open Idealize.ShloMosaic Idealize.ShloMosaic.TcCoe Idealize.SL.Sem

namespace Cert.UpRefIdeal.Result

open Cert.UpRefIdeal Cert.UpRefIdeal.Read Cert.Reals Cert.UpMath

variable {x0 : (⟨S4096x1024, .f32⟩ : BufTy).Contents (Elt Ideal)} {x1 : (⟨S1x1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S4096x1024, .f32⟩ : BufTy).Contents (Elt Ideal)} {x5 : (⟨S4096x5632, .f32⟩ : BufTy).Contents (Elt Ideal)} {D : Data}

/-- The reference's arguments hold the reals of `D`. -/
structure Args (x0 : (⟨S4096x1024, .f32⟩ : BufTy).Contents (Elt Ideal)) (x1 : (⟨S1x1024, .f32⟩ : BufTy).Contents (Elt Ideal))
    (x2 : (⟨S1024x5632, .f32⟩ : BufTy).Contents (Elt Ideal)) (x3 : (⟨S3x5632, .f32⟩ : BufTy).Contents (Elt Ideal))
    (x4 : (⟨S4096x1024, .f32⟩ : BufTy).Contents (Elt Ideal)) (x5 : (⟨S4096x5632, .f32⟩ : BufTy).Contents (Elt Ideal)) (D : Data) : Prop where
  x : ∀ r f, x0 (ix2 r f) = ((D.X r.val f.val : ℝ) : EReal)
  n : ∀ r f, x1 (ix2 r f) = ((D.N r.val f.val : ℝ) : EReal)
  w : ∀ r f, x2 (ix2 r f) = ((D.W r.val f.val : ℝ) : EReal)
  k : ∀ r f, x3 (ix2 r f) = ((D.C r.val f.val : ℝ) : EReal)
  d : ∀ r f, x4 (ix2 r f) = ((D.D r.val f.val : ℝ) : EReal)
  p : ∀ r f, x5 (ix2 r f) = ((D.P r.val f.val : ℝ) : EReal)

variable (h : Args x0 x1 x2 x3 x4 x5 D)
include h

/-- The rows' mean square. -/
theorem v6_at (r : Fin 4096) (z : Fin 1) : val_main_v6 x0 (ix2 r z) = ((msq 1024 (D.row r.val) : ℝ) : EReal) := by
  pointwise [val_main_v6, val_main_v5, val_main_v4, val_main_v3, val_main_v2, val_main_v1, val_main_v0, val_main_cst, val_main_cst_0, val_main_cst_1]
  simp only [h.x, ← EReal.coe_mul, coe_sum, word_1024, div_1024, word_eps, ← EReal.coe_add]
  rfl

/-- The rows' reciprocal root. -/
theorem v7_at (r : Fin 4096) (z : Fin 1) : val_main_v7 x0 (ix2 r z) = ((rinv 1024 (D.row r.val) : ℝ) : EReal) := by
  pointwise [val_main_v7]
  rw [v6_at h]
  exact rsqrt_coe _ (msq_pos 1024 (by norm_num) _)

theorem v12_at (r : Fin 4096) (d : Fin 1024) : val_main_v12 x0 (ix2 r d) = ((D.nrm r.val d.val : ℝ) : EReal) := by
  pointwise [val_main_v12, val_main_v11]
  rw [v7_at h, h.x, ← EReal.coe_mul]
  rfl

/-- Minus one half of the reciprocal root over the mean square. -/
theorem v10_at (r : Fin 4096) (z : Fin 1) :
    val_main_v10 x0 (ix2 r z) = ((-(1 / 2) * (rinv 1024 (D.row r.val) / msq 1024 (D.row r.val)) : ℝ) : EReal) := by
  pointwise [val_main_v10, val_main_v9, val_main_v8, val_main_cst_2]
  rw [v7_at h, v6_at h, word_neg_half, div_coe _ _ (msq_pos 1024 (by norm_num) _).ne', ← EReal.coe_mul]

/-- The projection. -/
theorem v15_at (r : Fin 4096) (e : Fin 5632) : val_main_v15 x0 x1 x2 (ix2 r e) = ((D.up r.val e.val : ℝ) : EReal) := by
  pointwise [val_main_v15, val_main_v14, val_main_v13]
  simp only [v12_at h, h.n, h.w, ← EReal.coe_mul, coe_sum]
  rfl

/-- The projection with two rows of zeros before each sequence. -/
theorem v18_at (s : Fin 2) (y : Fin 2050) (e : Fin 5632) :
    val_main_v18 x0 x1 x2 (ix3 s y e) = (((if y.val < 2 then 0 else D.up (2048 * s.val + (y.val - 2)) e.val) : ℝ) : EReal) := by
  pointwise [val_main_v18, val_main_v17, val_main_v16, val_main_cst_3]
  by_cases hy : y.val < 2
  · rw [if_pos hy]
    exact dif_pos hy
  · rw [if_neg hy]
    refine (dif_neg hy).trans ((v15_at h _ e).trans ?_)
    exact congrArg (fun k => ((D.up k e.val : ℝ) : EReal)) (by dsimp only; omega)

/-- The projection `2 - k` rows back in its sequence, for the slices of it that the three taps take. -/
theorem v22_at (s : Fin 2) (i : Fin 2048) (e : Fin 5632) :
    val_main_v22 x0 x1 x2 (ix3 s i e) = (((if i.val < 2 then 0 else D.up (2048 * s.val + (i.val - 2)) e.val) : ℝ) : EReal) := by
  pointwise [val_main_v22]
  exact v18_at h s _ e

theorem v28_at (s : Fin 2) (i : Fin 2048) (e : Fin 5632) :
    val_main_v28 x0 x1 x2 (ix3 s i e) = (((if i.val < 1 then 0 else D.up (2048 * s.val + (i.val - 1)) e.val) : ℝ) : EReal) := by
  pointwise [val_main_v28]
  refine (v18_at h s _ e).trans (congrArg Real.toEReal ?_)
  dsimp only
  by_cases hi : i.val < 1
  · rw [if_pos hi, if_pos (by omega)]
  · rw [if_neg hi, if_neg (by omega)]
    exact congrArg (fun k => D.up (2048 * s.val + k) e.val) (by omega)

theorem v35_at (s : Fin 2) (i : Fin 2048) (e : Fin 5632) :
    val_main_v35 x0 x1 x2 (ix3 s i e) = (((if i.val < 0 then 0 else D.up (2048 * s.val + (i.val - 0)) e.val) : ℝ) : EReal) := by
  pointwise [val_main_v35]
  refine (v18_at h s _ e).trans (congrArg Real.toEReal ?_)
  dsimp only
  rw [if_neg (by omega), if_neg (by omega)]
  exact congrArg (fun k => D.up (2048 * s.val + k) e.val) (by omega)

theorem v41_at (s : Fin 2) (i : Fin 2048) (e : Fin 5632) : val_main_v41 x5 (ix3 s i e) = ((D.P (2048 * s.val + i.val) e.val : ℝ) : EReal) := by
  pointwise [val_main_v41]
  rw [h.p]
  dsimp only
  rw [Nat.mul_comm]

/-! ## The three taps' parts of the gradient -/

theorem v43_at (s : Fin 2) (i : Fin 2048) (e : Fin 5632) : val_main_v43 x3 x5 (ix3 s i e) = ((D.C 2 e.val * D.P (2048 * s.val + i.val) e.val : ℝ) : EReal) := by
  pointwise [val_main_v43, val_main_v42, val_main_v36, val_main_v34, val_main_v33]
  rw [v41_at h, h.k, ← EReal.coe_mul]
  rfl

theorem v52_at (s : Fin 2) (i : Fin 2048) (e : Fin 5632) : val_main_v52 x3 x5 (ix3 s i e) = ((D.C 1 e.val * D.P (2048 * s.val + i.val) e.val : ℝ) : EReal) := by
  pointwise [val_main_v52, val_main_v51, val_main_v29, val_main_v27, val_main_v26]
  rw [v41_at h, h.k, ← EReal.coe_mul]
  rfl

theorem v63_at (s : Fin 2) (i : Fin 2048) (e : Fin 5632) : val_main_v63 x3 x5 (ix3 s i e) = ((D.C 0 e.val * D.P (2048 * s.val + i.val) e.val : ℝ) : EReal) := by
  pointwise [val_main_v63, val_main_v62, val_main_v23, val_main_v21, val_main_v20]
  rw [v41_at h, h.k, ← EReal.coe_mul]
  rfl

/-- The gradient of the padded sequence at a row of the sequence itself. -/
theorem v69_at (s : Fin 2) (i : Fin 2048) (e : Fin 5632) :
    val_main_v69 x3 x5 (ix3 s ⟨2 + i.val, by omega⟩ e) = ((D.du (2048 * s.val + i.val) e.val : ℝ) : EReal) := by
  have hs : ∀ k, D.C (2 - k) e.val * D.sh k (2048 * s.val + i.val) e.val = if i.val + k < 2048 then D.C (2 - k) e.val * D.P (2048 * s.val + (i.val + k)) e.val else 0 := by
    intro k
    unfold Data.sh
    by_cases hk : i.val + k < 2048
    · rw [if_pos hk, if_pos (by omega), Nat.add_assoc]
    · rw [if_neg hk, if_neg (by omega), mul_zero]
  pointwise [val_main_v69, val_main_v58, val_main_v48, val_main_v57, val_main_v68, val_main_cst_7, val_main_cst_11, val_main_cst_15]
  rw [v43_at h]
  unfold Data.du
  rw [show D.C 1 e.val * D.sh 1 (2048 * s.val + i.val) e.val = _ from hs 1, show D.C 0 e.val * D.sh 2 (2048 * s.val + i.val) e.val = _ from hs 2,
    EReal.coe_add, EReal.coe_add]
  refine congrArg₂ (· + ·) (congrArg₂ (· + ·) ?_ ?_) ?_
  · rfl
  · by_cases hk : i.val + 1 < 2048
    · rw [if_pos hk]
      refine (dif_pos (by omega)).trans ((v52_at h _ _ e).trans ?_)
      exact congrArg (fun k => ((D.C 1 e.val * D.P (2048 * s.val + k) e.val : ℝ) : EReal)) (by dsimp only; omega)
    · rw [if_neg hk]
      exact dif_neg (by omega)
  · by_cases hk : i.val + 2 < 2048
    · rw [if_pos hk]
      refine (dif_pos (by omega)).trans ((v63_at h _ _ e).trans ?_)
      exact congrArg (fun k => ((D.C 0 e.val * D.P (2048 * s.val + k) e.val : ℝ) : EReal)) (by dsimp only; omega)
    · rw [if_neg hk]
      exact dif_neg (by omega)

/-- The gradient of the convolution's input. -/
theorem v75_at (r : Fin 4096) (e : Fin 5632) : val_main_v75 x3 x5 (ix2 r e) = ((D.du r.val e.val : ℝ) : EReal) := by
  pointwise [val_main_v75, val_main_v74]
  refine (v69_at h ⟨r.val / 2048, by omega⟩ ⟨r.val % 2048, by omega⟩ e).trans ?_
  dsimp only
  rw [Nat.div_add_mod]

/-- The reference's first result. -/
theorem v96_at (r : Fin 4096) (e : Fin 5632) : val_main_v96 x3 x5 (ix2 r e) = ((D.du r.val e.val : ℝ) : EReal) := by
  pointwise [val_main_v96]
  exact v75_at h r e

/-! ## The convolution's weight -/

/-- The cotangent against the projection `k` rows back, summed over both sequences. -/
theorem taps (k : ℕ) (hk : k ≤ 2048) (e : ℕ) :
    ∑ s : Fin 2, ∑ i : Fin 2048, D.P (2048 * s.val + i.val) e * (if i.val < k then 0 else D.up (2048 * s.val + (i.val - k)) e) = ∑ r : Fin 4096, D.oC k r.val e := by
  rw [← sum_seqs (fun r => D.oC k r e)]
  refine Finset.sum_congr rfl fun s _ => ?_
  rw [sum_shift k 2048 hk (fun i => D.P (2048 * s.val + i) e) (fun i => D.up (2048 * s.val + i) e)]
  refine Finset.sum_congr rfl fun i _ => ?_
  unfold Data.oC Data.sh
  refine congrArg (fun x => x * D.up (2048 * s.val + i.val) e) ?_
  by_cases hi : i.val + k < 2048
  · rw [if_pos hi, if_pos (by omega), Nat.add_assoc]
  · rw [if_neg hi, if_neg (by omega)]

theorem v47_at (e : Fin 5632) : val_main_v47 x0 x1 x2 x5 (ix1 e) = ((∑ r : Fin 4096, D.oC 0 r.val e.val : ℝ) : EReal) := by
  refine (reduce_front _ (val_main_v46 x0 x1 x2 x5) _ e).trans ?_
  pointwise [val_main_v46, val_main_cst_6]
  rw [Fin.sum_univ_one, Fin.sum_univ_one]
  refine (reduce_front _ (val_main_v44 x0 x1 x2 x5) _ e).trans ?_
  pointwise [val_main_v44, val_main_cst_5]
  simp only [v41_at h, v35_at h, ← EReal.coe_mul, coe_sum]
  exact congrArg Real.toEReal (taps h 0 (by decide) e.val)

theorem v56_at (e : Fin 5632) : val_main_v56 x0 x1 x2 x5 (ix1 e) = ((∑ r : Fin 4096, D.oC 1 r.val e.val : ℝ) : EReal) := by
  refine (reduce_front _ (val_main_v55 x0 x1 x2 x5) _ e).trans ?_
  pointwise [val_main_v55, val_main_cst_10]
  rw [Fin.sum_univ_one, Fin.sum_univ_one]
  refine (reduce_front _ (val_main_v53 x0 x1 x2 x5) _ e).trans ?_
  pointwise [val_main_v53, val_main_cst_9]
  simp only [v41_at h, v28_at h, ← EReal.coe_mul, coe_sum]
  exact congrArg Real.toEReal (taps h 1 (by decide) e.val)

theorem v67_at (e : Fin 5632) : val_main_v67 x0 x1 x2 x5 (ix1 e) = ((∑ r : Fin 4096, D.oC 2 r.val e.val : ℝ) : EReal) := by
  refine (reduce_front _ (val_main_v66 x0 x1 x2 x5) _ e).trans ?_
  pointwise [val_main_v66, val_main_cst_14]
  rw [Fin.sum_univ_one, Fin.sum_univ_one]
  refine (reduce_front _ (val_main_v64 x0 x1 x2 x5) _ e).trans ?_
  pointwise [val_main_v64, val_main_cst_13]
  simp only [v41_at h, v22_at h, ← EReal.coe_mul, coe_sum]
  exact congrArg Real.toEReal (taps h 2 (by decide) e.val)

/-- The reference's fourth result. -/
theorem v72_at (k : Fin 3) (e : Fin 5632) : val_main_v72 x0 x1 x2 x5 (ix2 k e) = ((∑ r : Fin 4096, D.oC (2 - k.val) r.val e.val : ℝ) : EReal) := by
  pointwise [val_main_v72, val_main_v61, val_main_v50, val_main_v49, val_main_v60, val_main_v59, val_main_v71, val_main_v70, val_main_cst_8, val_main_cst_12, val_main_cst_16]
  rw [v47_at h, v56_at h, v67_at h]
  match k with
  | 0 => simp
  | 1 => simp
  | 2 => simp

/-! ## The gain and the input -/

theorem v76_at (r : Fin 4096) (d : Fin 1024) : val_main_v76 x2 x3 x5 (ix2 r d) = ((D.dh r.val d.val : ℝ) : EReal) := by
  pointwise [val_main_v76]
  simp only [v75_at h, h.w, ← EReal.coe_mul, coe_sum]
  rfl

theorem v81_at (r : Fin 4096) (d : Fin 1024) : val_main_v81 x1 x2 x3 x5 (ix2 r d) = ((D.rowD r.val d : ℝ) : EReal) := by
  pointwise [val_main_v81, val_main_v80]
  rw [v76_at h, h.n, ← EReal.coe_mul]
  rfl

/-- The reference's third result. -/
theorem v79_at (z : Fin 1) (d : Fin 1024) : val_main_v79 x0 x2 x3 x5 (ix2 z d) = ((∑ r : Fin 4096, D.oN r.val d.val : ℝ) : EReal) := by
  pointwise [val_main_v79, val_main_v78, val_main_v77, val_main_cst_17]
  simp only [v12_at h, v76_at h, ← EReal.coe_mul, coe_sum]
  exact congrArg Real.toEReal (Finset.sum_congr rfl fun r _ => mul_comm _ _)

theorem v91_at (r : Fin 4096) (d : Fin 1024) : val_main_v91 x0 x1 x2 x3 x5 (ix2 r d)
    = (((∑ j, D.row r.val j * D.rowD r.val j) * (-(1 / 2) * (rinv 1024 (D.row r.val) / msq 1024 (D.row r.val))) / 1024 : ℝ) : EReal) := by
  pointwise [val_main_v91, val_main_v90, val_main_v89, val_main_v88, val_main_v87, val_main_v84, val_main_v83, val_main_v82, val_main_cst_18, val_main_cst_19, val_main_cst_20]
  simp only [v10_at h, v81_at h, h.x, ← EReal.coe_mul, coe_sum, word_1024, div_1024]
  exact congrArg Real.toEReal (Fin.sum_univ_one _)

/-- The reference's second result. -/
theorem v97_at (r : Fin 4096) (d : Fin 1024) : val_main_v97 x0 x1 x2 x3 x4 x5 (ix2 r d) = ((D.oX r.val d : ℝ) : EReal) := by
  pointwise [val_main_v97, val_main_v95, val_main_v94, val_main_v93, val_main_v92, val_main_v86, val_main_v85]
  rw [v81_at h, v91_at h, v7_at h, h.x, h.d]
  simp only [← EReal.coe_mul, ← EReal.coe_add]
  refine congrArg Real.toEReal ?_
  unfold Data.oX
  rw [← rmsBwd_eq 1024 (by norm_num)]
  rfl

end Cert.UpRefIdeal.Result

end
-- ==== Proof.Up.Body.lean ====
module

public import proofs.«01_k».proof.Defs
public import proofs.«01_k».proof.Proof.Gen.UpIdeal.Value
public import proofs.«01_k».proof.Proof.Common.Reals
public import Idealize.ShloMosaic.Lib.Pipeline.Value
public import Idealize.ShloMosaic.Lib.Pipeline.ReadBack
public import Idealize.ShloMosaic.Lib.Tactic

/-! # The up projection's backward: what each grid point leaves -/

@[expose] public section

set_option maxRecDepth 16384
set_option maxHeartbeats 4000000

noncomputable section

open Idealize.ShloMosaic Idealize.ShloMosaic.TcCoe Idealize.SL.Sem

namespace Cert.UpIdeal.Body

open Cert.UpIdeal Cert.UpIdeal.Gen Cert.UpIdeal.Value

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-! ## The rectangles: part `j` is a quarter of the 5632 columns -/

/-- Part `j`'s columns of a block of 256 rows. -/
abbrev rC (j : Fin 4) : Rect S256x5632 := Rect.unit (s := S256x5632) ![0, 1408 * j.val] S256x1408.size
  (fun a => by match a with | ⟨0, _⟩ => show 0 + 256 ≤ 256; omega | ⟨1, _⟩ => show 1408 * j.val + 1408 ≤ 5632; omega)
/-- Tap `k` of the convolution's weight on part `j`'s columns. -/
abbrev rK (k : Fin 3) (j : Fin 4) : Rect S3x5632 := Rect.unit (s := S3x5632) ![k.val, 1408 * j.val] S1x1408.size
  (fun a => by match a with | ⟨0, _⟩ => show k.val + 1 ≤ 3; omega | ⟨1, _⟩ => show 1408 * j.val + 1408 ≤ 5632; omega)
/-- All three taps on part `j`'s columns. -/
abbrev rT (j : Fin 4) : Rect S3x5632 := Rect.unit (s := S3x5632) ![0, 1408 * j.val] S3x1408.size
  (fun a => by match a with | ⟨0, _⟩ => show 0 + 3 ≤ 3; omega | ⟨1, _⟩ => show 1408 * j.val + 1408 ≤ 5632; omega)
/-- Slice `j` of the stacked weight. -/
abbrev rW (j : Fin 4) : Rect S4x1024x1408 := Rect.unit (s := S4x1024x1408) ![j.val, 0, 0] S1x1024x1408.size
  (fun a => by match a with | ⟨0, _⟩ => show j.val + 1 ≤ 4; omega | ⟨1, _⟩ => show 0 + 1024 ≤ 1024; omega | ⟨2, _⟩ => show 0 + 1408 ≤ 1408; omega)
/-- Half `q` of the columns of a half's block, and of the rows after it. -/
abbrev rD (q : Fin 2) : Rect S256x2816 := Rect.unit (s := S256x2816) ![0, 1408 * q.val] S256x1408.size
  (fun a => by match a with | ⟨0, _⟩ => show 0 + 256 ≤ 256; omega | ⟨1, _⟩ => show 1408 * q.val + 1408 ≤ 2816; omega)
abbrev rH (q : Fin 2) : Rect S16x2816 := Rect.unit (s := S16x2816) ![0, 1408 * q.val] S16x1408.size
  (fun a => by match a with | ⟨0, _⟩ => show 0 + 16 ≤ 16; omega | ⟨1, _⟩ => show 1408 * q.val + 1408 ≤ 2816; omega)
abbrev rZ : Rect S3x5632 := Rect.unit (s := S3x5632) ![0, 0] S3x5632.size inb_S3x5632_S3x5632_0_0

/-! ## The point's blocks and the quantities computed from them -/

abbrev bG : Vec F S256x2816 .bf16 := iblk m c 0 t
abbrev bV : Vec F S256x2816 .bf16 := iblk m c 1 t
abbrev hG : Vec F S16x2816 .bf16 := iblk m c 2 t
abbrev hV : Vec F S16x2816 .bf16 := iblk m c 3 t
abbrev bU : Vec F S256x5632 .bf16 := iblk m c 4 t
abbrev bD : Vec F S256x1024 .f32 := iblk m c 5 t
abbrev bX : Vec F S256x1024 .f32 := iblk m c 6 t
abbrev bN : Vec F S1x1024 .f32 := iblk m c 7 t
abbrev bC : Vec F S3x5632 .f32 := iblk m c 8 t
abbrev bW : Vec F S4x1024x1408 .bf16 := iblk m c 9 t

/-- Part `j` of the cotangent, and of the sixteen rows after the block. -/
def px (j : Fin 4) : Vec F S256x1408 .bf16 := (![View.ld (bG m c t) (rD 0), View.ld (bG m c t) (rD 1), View.ld (bV m c t) (rD 0), View.ld (bV m c t) (rD 1)] : Fin 4 → Vec F S256x1408 .bf16) j
def hx (j : Fin 4) : Vec F S16x1408 .bf16 := (![View.ld (hG m c t) (rH 0), View.ld (hG m c t) (rH 1), View.ld (hV m c t) (rH 0), View.ld (hV m c t) (rH 1)] : Fin 4 → Vec F S16x1408 .bf16) j
/-- The cotangent, the two rows after the block, and the cotangent one and two rows on. -/
def pd (j : Fin 4) : FVec F S256x1408 .f32 := k0_pay20 (px m c t j)
def ph (j : Fin 4) : FVec F S2x1408 .f32 := k0_pay7 (grid0.coords t) (hx m c t j)
def p1 (j : Fin 4) : FVec F S256x1408 .f32 := k0_pay8 (grid0.coords t) (px m c t j) (hx m c t j)
def p2 (j : Fin 4) : FVec F S256x1408 .f32 := k0_pay23 (pd m c t j) (ph m c t j)
/-- The gradient of the convolution's input on part `j`. -/
def du (j : Fin 4) : FVec F S256x1408 .bf16 := k0_pay25 (pd m c t j) (ph m c t j) (View.ld (bC m c t) (rT j)) (p1 m c t j)
/-- Part `j`'s product with the weight, added to `old`. -/
def dhS (j : Fin 4) (old : FVec F S256x1024 .f32) : FVec F S256x1024 .f32 :=
  k0_pay26 old (pd m c t j) (ph m c t j) (View.ld (bC m c t) (rT j)) (p1 m c t j) (View.ld (bW m c t) (rW j))
/-- The cotangent of the normalised input: the four parts' products. -/
def dh : FVec F S256x1024 .f32 := dhS m c t 3 (dhS m c t 2 (dhS m c t 1 (dhS m c t 0 k0_pay5)))
/-- One tap's gradient on part `j`, added to `old`. -/
def gk (a : Fin 4 → FVec F S256x1408 .f32) (j : Fin 4) (old : Vec F S1x1408 .f32) : FVec F S1x1408 .f32 :=
  k0_pay18 (a j) (k0_pay27 (View.ld (bU m c t) (rC j))) old
/-- The input's gradient. -/
def gx : FVec F S256x1024 .f32 := k0_pay1 (dh m c t) (k0_pay62 (bX m c t)) (k0_pay63 (bX m c t)) (bD m c t) (bN m c t)
/-- The gain's gradient, added to `old`. -/
def gg (old : Vec F S1x1024 .f32) : FVec F S1x1024 .f32 := k0_pay2 (dh m c t) (k0_pay63 (bX m c t)) old

/-- What a point stores in the gradient of the convolution's input. -/
abbrev uPieces : List (View.Piece (Elt F) S256x5632 .bf16) :=
  [⟨rC 3, du m c t 3⟩, ⟨rC 2, du m c t 2⟩, ⟨rC 1, du m c t 1⟩, ⟨rC 0, du m c t 0⟩]

/-- What a point stores for tap `k` and part `j` of the convolution's weight. -/
abbrev cp (a : Fin 4 → FVec F S256x1408 .f32) (k : Fin 3) (j : Fin 4) (old : Vec F S3x5632 .f32) : View.Piece (Elt F) S3x5632 .f32 :=
  ⟨rK k j, gk m c t a j (View.ld old (rK k j))⟩
/-- What it stores for all taps and parts. -/
abbrev cPieces (old : Vec F S3x5632 .f32) : List (View.Piece (Elt F) S3x5632 .f32) :=
  [cp m c t (pd m c t) 2 3 old, cp m c t (p1 m c t) 1 3 old, cp m c t (p2 m c t) 0 3 old,
   cp m c t (pd m c t) 2 2 old, cp m c t (p1 m c t) 1 2 old, cp m c t (p2 m c t) 0 2 old,
   cp m c t (pd m c t) 2 1 old, cp m c t (p1 m c t) 1 1 old, cp m c t (p2 m c t) 0 1 old,
   cp m c t (pd m c t) 2 0 old, cp m c t (p1 m c t) 1 0 old, cp m c t (p2 m c t) 0 0 old]

/-- The first point: both sums start from the stored zeros. -/
theorem outsA (h0 : t.val % 16 = 0) :
    (outsAt0 m c t.val t.isLt).1 = View.canon (uPieces m c t) ∧ (outsAt0 m c t.val t.isLt).2.1 = gx m c t
    ∧ (outsAt0 m c t.val t.isLt).2.2.1 = gg m c t k0_pay3
    ∧ (outsAt0 m c t.val t.isLt).2.2.2 = View.canon (cPieces m c t k0_pay4 ++ [⟨rZ, k0_pay4⟩]) := by
  have e := outsAt0_A m c t h0
  generalize outsAt0 m c t.val t.isLt = s at e ⊢
  subst e
  dsimp only
  refine ⟨?_, ?_, ?_, ?_⟩
  on_goal 1 => unfold out0_A_10
  on_goal 1 => rw [View.read_writes_eq_canon _ _ _ (fun y => cover0_A_10 (y := y) ..)]
  on_goal 2 => unfold out0_A_11
  on_goal 2 => rw [View.read_writes_eq_canon _ _ _ (fun y => cover0_A_11 (y := y) ..)]
  on_goal 3 => unfold out0_A_12
  on_goal 3 => rw [View.read_writes_eq_canon _ _ _ (fun y => cover0_A_12 (y := y) ..)]
  on_goal 4 => unfold out0_A_13
  on_goal 4 => rw [View.read_writes_eq_canon _ _ _ (fun y => cover0_A_13 (y := y) ..)]
  all_goals
    unfold kernelRun0_A
    dsimp only
    sl_unfold_words
    simp only [View.canon_cons_unit_zero (S := S1x1024) hz, View.canon_unit_zero (S := S256x1024) hz, View.readCov_unit_zero (S := S1x1024) _ hz, View.readAt_eq_ld,
      (hs0_0 t).read_unread, (hs0_1 t).read_unread, (hs0_2 t).read_unread, (hs0_3 t).read_unread, (hs0_4 t).read_unread, (hs0_5 t).read_unread, (hs0_6 t).read_unread,
      (hs0_7 t).read_unread, (hs0_8 t).read_unread, (hs0_9 t).read_unread,
      View.ld_unit_zero (S := S1x1024) hz, View.ld_unit_zero (S := S256x1024) hz]
  on_goal 4 => simp (disch := decide +kernel) only [↓View.readCov_skip, ↓View.readCov_fill]
  all_goals rfl

/-- A later point: it adds to what was carried. -/
theorem outsB (h0 : ¬t.val % 16 = 0) :
    (outsAt0 m c t.val t.isLt).1 = View.canon (uPieces m c t) ∧ (outsAt0 m c t.val t.isLt).2.1 = gx m c t
    ∧ (outsAt0 m c t.val t.isLt).2.2.1 = gg m c t (outsAt0 m c (t.val - 1) (lt_of_le_of_lt (Nat.sub_le _ _) t.isLt)).2.2.1
    ∧ (outsAt0 m c t.val t.isLt).2.2.2 = View.canon (cPieces m c t (outsAt0 m c (t.val - 1) (lt_of_le_of_lt (Nat.sub_le _ _) t.isLt)).2.2.2) := by
  have e := outsAt0_B m c t h0
  generalize outsAt0 m c t.val t.isLt = s at e ⊢
  subst e
  dsimp only
  refine ⟨?_, ?_, ?_, ?_⟩
  on_goal 1 => unfold out0_B_10
  on_goal 1 => rw [View.read_writes_eq_canon _ _ _ (fun y => cover0_B_10 (y := y) ..)]
  on_goal 2 => unfold out0_B_11
  on_goal 2 => rw [View.read_writes_eq_canon _ _ _ (fun y => cover0_B_11 (y := y) ..)]
  on_goal 3 => unfold out0_B_12
  on_goal 3 => rw [View.read_writes_eq_canon _ _ _ (fun y => cover0_B_12 (y := y) ..)]
  on_goal 4 => unfold out0_B_13
  on_goal 4 => rw [View.read_writes_eq_canon _ _ _ (fun y => cover0_B_13 (y := y) ..)]
  all_goals
    unfold kernelRun0_B
    dsimp only
    sl_unfold_words
    simp only [View.canon_unit_zero (S := S1x1024) hz, View.canon_unit_zero (S := S256x1024) hz, View.readCov_unit_zero (S := S1x1024) _ hz, View.readAt_eq_ld,
      (hs0_0 t).read_unread, (hs0_1 t).read_unread, (hs0_2 t).read_unread, (hs0_3 t).read_unread, (hs0_4 t).read_unread, (hs0_5 t).read_unread, (hs0_6 t).read_unread,
      (hs0_7 t).read_unread, (hs0_8 t).read_unread, (hs0_9 t).read_unread, (hs0_12 t).read_unread, (hs0_13 t).read_unread,
      View.ld_unit_zero (S := S1x1024) hz, View.ld_unit_zero (S := S256x1024) hz]
  all_goals rfl

end Cert.UpIdeal.Body

end
-- ==== Proof.Up.Shift.lean ====
module

public import proofs.«01_k».proof.Proof.Up.Body
public import proofs.«01_k».proof.Proof.Up.Math
public import Idealize.ShloMosaic.Lib.Pointwise
public import Idealize.ShloMosaic.Lib.IdealHost

/-! # The up projection's backward: its row shifts and products, read at an index -/

@[expose] public section

set_option maxRecDepth 16384

noncomputable section

open Idealize.ShloMosaic Idealize.ShloMosaic.TcCoe Idealize.SL.Sem

namespace Cert.UpIdeal.Shift

open Cert.UpIdeal Cert.UpIdeal.Gen Cert.UpIdeal.Value Cert.UpIdeal.Body Cert.Reals

/-- A choice on whether two small numbers are equal. -/
theorem sel_eq {M : Type} (k n : ℕ) (hk : k < 8) (hn : n < 8) (x y : M) :
    Scalar.select (IntOp.cmpi .eq (BitVec.ofNat 32 k) (BitVec.ofNat 32 n)) x y = if k = n then x else y := by
  interval_cases k <;> interval_cases n <;> rfl

/-- One row on: inside the block the next row, on the last row the first of the rows after the block. -/
theorem pay8_at (i : grid0.Coords) (x : Vec Ideal S256x1408 .bf16) (h : Vec Ideal S16x1408 .bf16) (p : Fin 256) (f : Fin 1408) :
    k0_pay8 i x h (ix2 p f) = if hp : p.val + 1 < 256 then k0_pay20 x (ix2 ⟨p.val + 1, hp⟩ f) else k0_pay7 i h (ix2 0 f) := by
  unfold k0_pay8
  rw [show k0_pay6 x = k0_pay20 x from rfl]
  generalize k0_pay20 x = y
  generalize k0_pay7 i h = z
  pointwise []
  by_cases h0 : p.val < 248
  · rw [dif_pos h0, dif_pos (by omega)]
    exact congrArg (fun k => y (ix2 k f)) (Fin.ext (by dsimp only; omega))
  · rw [dif_neg h0, sel_eq _ 7 (by omega) (by decide)]
    by_cases h1 : p.val + 1 < 256
    · rw [dif_pos h1, if_neg (by omega)]
      exact congrArg (fun k => y (ix2 k f)) (Fin.ext (by dsimp only; omega))
    · rw [dif_neg h1, if_pos (by omega)]

/-- Two rows on. -/
theorem pay23_at (y : FVec Ideal S256x1408 .f32) (z : FVec Ideal S2x1408 .f32) (p : Fin 256) (f : Fin 1408) :
    k0_pay23 y z (ix2 p f) = if hp : p.val + 2 < 256 then y (ix2 ⟨p.val + 2, hp⟩ f) else z (ix2 ⟨p.val + 2 - 256, by omega⟩ f) := by
  unfold k0_pay23
  pointwise []
  by_cases h0 : p.val < 248
  · rw [dif_pos h0, dif_pos (by omega)]
    exact congrArg (fun k => y (ix2 k f)) (Fin.ext (by dsimp only; omega))
  · rw [dif_neg h0, sel_eq _ 6 (by omega) (by decide), sel_eq _ 7 (by omega) (by decide)]
    by_cases h1 : p.val + 2 < 256
    · rw [dif_pos h1, if_neg (by omega), if_neg (by omega)]
      exact congrArg (fun k => y (ix2 k f)) (Fin.ext (by dsimp only; omega))
    · rw [dif_neg h1]
      by_cases h2 : p.val - 248 = 6
      · rw [if_pos h2]
        exact congrArg (fun k => z (ix2 k f)) (Fin.ext (by show 0 = p.val + 2 - 256; omega))
      · rw [if_neg h2, if_pos (by omega)]
        exact congrArg (fun k => z (ix2 k f)) (Fin.ext (by show 1 = p.val + 2 - 256; omega))

/-- The kernel's test for the last of a sequence's eight tiles. -/
def lastBit (n : ℕ) : BitVec 1 :=
  let v1 : BitVec 32 := Scalar.select (Scalar.cmpi .eq 8#32 0#32) 1#32 8#32
  let v2 : BitVec 32 := Scalar.remsi (BitVec.ofNat 32 n) v1
  Scalar.cmpi .eq (Scalar.select (Scalar.andi (Scalar.xori (Scalar.cmpi .slt v2 0#32) (Scalar.cmpi .slt v1 0#32)) (Scalar.cmpi .ne v2 0#32))
    (Scalar.addi v2 v1) v2) 7#32

theorem lastBit_eq : ∀ n : Fin 16, lastBit n.val = if n.val % 8 = 7 then 1#1 else 0#1 := by decide

/-- The rows after the block count for nothing at a sequence's end. -/
theorem pay7_at (i : grid0.Coords) (h : Vec Ideal S16x1408 .bf16) (q : Fin 2) (f : Fin 1408) :
    k0_pay7 i h (ix2 q f) = if (i 0).val % 8 = 7 then 0 else h (ix2 ⟨q.val, by omega⟩ f) := by
  unfold k0_pay7
  pointwise []
  refine (congrArg (fun b => Scalar.select b (0 : EReal) _) (lastBit_eq (i 0))).trans ?_
  by_cases h7 : (i 0).val % 8 = 7
  · rw [if_pos h7, if_pos h7]
    rfl
  · rw [if_neg h7, if_neg h7]
    rfl

/-- The convolution's gradient: the three taps on the cotangent and its two shifts. -/
theorem pay24_at (a : FVec Ideal S256x1408 .f32) (z : FVec Ideal S2x1408 .f32) (w : Vec Ideal S3x1408 .f32) (b : FVec Ideal S256x1408 .f32) (p : Fin 256) (f : Fin 1408) :
    k0_pay24 a z w b (ix2 p f) = w (ix2 2 f) * a (ix2 p f) + w (ix2 1 f) * b (ix2 p f) + w (ix2 0 f) * k0_pay23 a z (ix2 p f) := by
  unfold k0_pay24
  generalize k0_pay23 a z = y
  pointwise []

theorem pay25_at (a : FVec Ideal S256x1408 .f32) (z : FVec Ideal S2x1408 .f32) (w : Vec Ideal S3x1408 .f32) (b : FVec Ideal S256x1408 .f32) (p : Fin 256) (f : Fin 1408) :
    k0_pay25 a z w b (ix2 p f) = k0_pay24 a z w b (ix2 p f) := by
  unfold k0_pay25
  generalize k0_pay24 a z w b = y
  pointwise []

/-- A part's product, added to `o`. -/
theorem pay26_at (o : FVec Ideal S256x1024 .f32) (a : FVec Ideal S256x1408 .f32) (z : FVec Ideal S2x1408 .f32) (w : Vec Ideal S3x1408 .f32) (b : FVec Ideal S256x1408 .f32)
    (u : Vec Ideal S1x1024x1408 .bf16) (p : Fin 256) (d : Fin 1024) :
    k0_pay26 o a z w b u (ix2 p d) = o (ix2 p d) + ∑ f : Fin 1408, k0_pay24 a z w b (ix2 p f) * u (ix3 0 d f) := by
  unfold k0_pay26
  generalize k0_pay24 a z w b = y
  pointwise []

/-- A tap's sum over the block's rows, added to `old`. -/
theorem pay18_at (a : FVec Ideal S256x1408 .f32) (u : FVec Ideal S256x1408 .f32) (old : Vec Ideal S1x1408 .f32) (z : Fin 1) (f : Fin 1408) :
    k0_pay18 a u old (ix2 z f) = old (ix2 z f) + ∑ p : Fin 256, a (ix2 p f) * u (ix2 p f) := by
  pointwise [k0_pay18]

end Cert.UpIdeal.Shift

end
-- ==== Proof.Up.Reads.lean ====
module

public import proofs.«01_k».proof.Proof.Up.Shift

/-! # The up projection's backward: its blocks and payloads as real numbers -/

@[expose] public section

set_option maxRecDepth 16384

noncomputable section

open Idealize.ShloMosaic Idealize.ShloMosaic.TcCoe Idealize.SL.Sem

namespace Cert.UpIdeal.Reads

open Cert.UpIdeal Cert.UpIdeal.Gen Cert.UpIdeal.Value Cert.UpIdeal.Body Cert.UpIdeal.Shift Cert.Reals Cert.UpMath

variable (m : (ℓ : Loc nD τ sig) → Buf (Elt Ideal) ℓ) (c : Dev nD) (t : Fin cfg0.N)

/-- The grid's block indices: row tile `t`; the sixteen rows after it; the gain and the weights are taken whole. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = min ((t.val + 1) * 16) 255 ∧ win0_2.index t (1 : Fin 2) = 0)
    ∧ (win0_3.index t (0 : Fin 2) = min ((t.val + 1) * 16) 255 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = 0 ∧ win0_9.index t (1 : Fin 3) = 0 ∧ win0_9.index t (2 : Fin 3) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

theorem coords_val : ∀ t : Fin cfg0.N, (grid0.coords t 0).val = t.val :=
  (by decide +kernel : ∀ t : Fin grid0.N, (grid0.coords t 0).val = t.val)

/-- The program's six arguments hold the reals of `D`. -/
structure Args (m : (ℓ : Loc nD τ sig) → Buf (Elt Ideal) ℓ) (c : Dev nD) (D : Data) : Prop where
  x : ∀ r f, (m ((c : Thread nD τ).loc main_arg0) : S4096x1024.Idx → EReal) (ix2 r f) = (D.X r.val f.val : EReal)
  n : ∀ r f, (m ((c : Thread nD τ).loc main_arg1) : S1x1024.Idx → EReal) (ix2 r f) = (D.N r.val f.val : EReal)
  w : ∀ r f, (m ((c : Thread nD τ).loc main_arg2) : S1024x5632.Idx → EReal) (ix2 r f) = (D.W r.val f.val : EReal)
  k : ∀ r f, (m ((c : Thread nD τ).loc main_arg3) : S3x5632.Idx → EReal) (ix2 r f) = (D.C r.val f.val : EReal)
  d : ∀ r f, (m ((c : Thread nD τ).loc main_arg4) : S4096x1024.Idx → EReal) (ix2 r f) = (D.D r.val f.val : EReal)
  p : ∀ r f, (m ((c : Thread nD τ).loc main_arg5) : S4096x5632.Idx → EReal) (ix2 r f) = (D.P r.val f.val : EReal)

variable {m c} {D : Data} (h : Args m c D)
include h

theorem V_g (r : Fin 4096) (f : Fin 2816) : (V m c main_v15 : S4096x2816.Idx → EReal) (ix2 r f) = ((D.P r.val f.val : ℝ) : EReal) := by
  unfold V
  after_results
  pointwise
  exact h.p r _

theorem V_v (r : Fin 4096) (f : Fin 2816) : (V m c main_v16 : S4096x2816.Idx → EReal) (ix2 r f) = ((D.P r.val (2816 + f.val) : ℝ) : EReal) := by
  unfold V
  after_results
  pointwise
  exact h.p r _

theorem V_u (r : Fin 4096) (e : Fin 5632) : (V m c main_v17 : S4096x5632.Idx → EReal) (ix2 r e) = ((D.up r.val e.val : ℝ) : EReal) := by
  unfold V
  after_results
  pointwise
  simp only [h.x, h.n, h.w, ← EReal.coe_mul, coe_sum, word_1024, div_1024, word_eps, ← EReal.coe_add, rsqrt_1024]
  rfl

theorem V_w (j : Fin 4) (d : Fin 1024) (f : Fin 1408) : (V m c main_v20 : S4x1024x1408.Idx → EReal) (ix3 j d f) = ((D.W d.val (1408 * j.val + f.val) : ℝ) : EReal) := by
  show transpose S4x1024x1408 [1, 0, 2] (shapeCast S1024x4x1408 (m ((c : Thread nD τ).loc main_arg2) : S1024x5632.Idx → EReal) shapeCasts_S1024x5632_S1024x4x1408) transposes_S1024x4x1408_S4x1024x1408_1_0_2 (ix3 j d f) = _
  have e1 := h.w
  generalize (m ((c : Thread nD τ).loc main_arg2) : S1024x5632.Idx → EReal) = x at e1 ⊢
  pointwise
  refine Eq.trans (congrArg x (congrArg (ix2 d) (Fin.ext ?_))) (e1 d ⟨1408 * j.val + f.val, by omega⟩)
  dsimp only
  omega

theorem bG_at (p : Fin 256) (f : Fin 2816) : bG m c t (ix2 p f) = ((D.P (256 * t.val + p.val) f.val : ℝ) : EReal) := by
  have hN : t.val < 16 := lt_of_lt_of_eq t.isLt N_0
  obtain ⟨⟨e0, e1⟩, -⟩ := index_facts t
  refine Eq.trans ?_ (V_g h ⟨256 * t.val + p.val, by omega⟩ f)
  refine congrArg (V m c main_v15 : S4096x2816.Idx → EReal) (funext fun x => Fin.ext ?_)
  match x with
  | ⟨0, _⟩ => show win0_0.index t (0 : Fin 2) * 256 + 1 * p.val = _; rw [e0]; show _ = 256 * t.val + p.val; omega
  | ⟨1, _⟩ => show win0_0.index t (1 : Fin 2) * 2816 + 1 * f.val = _; rw [e1]; show _ = f.val; omega

theorem bV_at (p : Fin 256) (f : Fin 2816) : bV m c t (ix2 p f) = ((D.P (256 * t.val + p.val) (2816 + f.val) : ℝ) : EReal) := by
  have hN : t.val < 16 := lt_of_lt_of_eq t.isLt N_0
  obtain ⟨-, ⟨e0, e1⟩, -⟩ := index_facts t
  refine Eq.trans ?_ (V_v h ⟨256 * t.val + p.val, by omega⟩ f)
  refine congrArg (V m c main_v16 : S4096x2816.Idx → EReal) (funext fun x => Fin.ext ?_)
  match x with
  | ⟨0, _⟩ => show win0_1.index t (0 : Fin 2) * 256 + 1 * p.val = _; rw [e0]; show _ = 256 * t.val + p.val; omega
  | ⟨1, _⟩ => show win0_1.index t (1 : Fin 2) * 2816 + 1 * f.val = _; rw [e1]; show _ = f.val; omega

theorem hG_at (ht : t.val < 15) (p : Fin 16) (f : Fin 2816) : hG m c t (ix2 p f) = ((D.P (256 * (t.val + 1) + p.val) f.val : ℝ) : EReal) := by
  have hN : t.val < 16 := lt_of_lt_of_eq t.isLt N_0
  obtain ⟨-, -, ⟨e0, e1⟩, -⟩ := index_facts t
  refine Eq.trans ?_ (V_g h ⟨256 * (t.val + 1) + p.val, by omega⟩ f)
  refine congrArg (V m c main_v15 : S4096x2816.Idx → EReal) (funext fun x => Fin.ext ?_)
  match x with
  | ⟨0, _⟩ => show win0_2.index t (0 : Fin 2) * 16 + 1 * p.val = _; rw [e0]; show _ = 256 * (t.val + 1) + p.val; omega
  | ⟨1, _⟩ => show win0_2.index t (1 : Fin 2) * 2816 + 1 * f.val = _; rw [e1]; show _ = f.val; omega

theorem hV_at (ht : t.val < 15) (p : Fin 16) (f : Fin 2816) : hV m c t (ix2 p f) = ((D.P (256 * (t.val + 1) + p.val) (2816 + f.val) : ℝ) : EReal) := by
  have hN : t.val < 16 := lt_of_lt_of_eq t.isLt N_0
  obtain ⟨-, -, -, ⟨e0, e1⟩, -⟩ := index_facts t
  refine Eq.trans ?_ (V_v h ⟨256 * (t.val + 1) + p.val, by omega⟩ f)
  refine congrArg (V m c main_v16 : S4096x2816.Idx → EReal) (funext fun x => Fin.ext ?_)
  match x with
  | ⟨0, _⟩ => show win0_3.index t (0 : Fin 2) * 16 + 1 * p.val = _; rw [e0]; show _ = 256 * (t.val + 1) + p.val; omega
  | ⟨1, _⟩ => show win0_3.index t (1 : Fin 2) * 2816 + 1 * f.val = _; rw [e1]; show _ = f.val; omega

theorem bU_at (p : Fin 256) (f : Fin 5632) : bU m c t (ix2 p f) = ((D.up (256 * t.val + p.val) f.val : ℝ) : EReal) := by
  have hN : t.val < 16 := lt_of_lt_of_eq t.isLt N_0
  obtain ⟨-, -, -, -, ⟨e0, e1⟩, -⟩ := index_facts t
  refine Eq.trans ?_ (V_u h ⟨256 * t.val + p.val, by omega⟩ f)
  refine congrArg (V m c main_v17 : S4096x5632.Idx → EReal) (funext fun x => Fin.ext ?_)
  match x with
  | ⟨0, _⟩ => show win0_4.index t (0 : Fin 2) * 256 + 1 * p.val = _; rw [e0]; show _ = 256 * t.val + p.val; omega
  | ⟨1, _⟩ => show win0_4.index t (1 : Fin 2) * 5632 + 1 * f.val = _; rw [e1]; show _ = f.val; omega

theorem bD_at (p : Fin 256) (f : Fin 1024) : bD m c t (ix2 p f) = ((D.D (256 * t.val + p.val) f.val : ℝ) : EReal) := by
  have hN : t.val < 16 := lt_of_lt_of_eq t.isLt N_0
  obtain ⟨-, -, -, -, -, ⟨e0, e1⟩, -⟩ := index_facts t
  refine Eq.trans ?_ ((congrFun (V_main_arg4 m c) _).trans (h.d ⟨256 * t.val + p.val, by omega⟩ f))
  refine congrArg (V m c main_arg4 : S4096x1024.Idx → EReal) (funext fun x => Fin.ext ?_)
  match x with
  | ⟨0, _⟩ => show win0_5.index t (0 : Fin 2) * 256 + 1 * p.val = _; rw [e0]; show _ = 256 * t.val + p.val; omega
  | ⟨1, _⟩ => show win0_5.index t (1 : Fin 2) * 1024 + 1 * f.val = _; rw [e1]; show _ = f.val; omega

theorem bX_at (p : Fin 256) (f : Fin 1024) : bX m c t (ix2 p f) = ((D.X (256 * t.val + p.val) f.val : ℝ) : EReal) := by
  have hN : t.val < 16 := lt_of_lt_of_eq t.isLt N_0
  obtain ⟨-, -, -, -, -, -, ⟨e0, e1⟩, -⟩ := index_facts t
  refine Eq.trans ?_ ((congrFun (V_main_arg0 m c) _).trans (h.x ⟨256 * t.val + p.val, by omega⟩ f))
  refine congrArg (V m c main_arg0 : S4096x1024.Idx → EReal) (funext fun x => Fin.ext ?_)
  match x with
  | ⟨0, _⟩ => show win0_6.index t (0 : Fin 2) * 256 + 1 * p.val = _; rw [e0]; show _ = 256 * t.val + p.val; omega
  | ⟨1, _⟩ => show win0_6.index t (1 : Fin 2) * 1024 + 1 * f.val = _; rw [e1]; show _ = f.val; omega

theorem bN_at (p : Fin 1) (f : Fin 1024) : bN m c t (ix2 p f) = ((D.N p.val f.val : ℝ) : EReal) := by
  have hN : t.val < 16 := lt_of_lt_of_eq t.isLt N_0
  obtain ⟨-, -, -, -, -, -, -, ⟨e0, e1⟩, -⟩ := index_facts t
  refine Eq.trans ?_ ((congrFun (V_main_arg1 m c) _).trans (h.n p f))
  refine congrArg (V m c main_arg1 : S1x1024.Idx → EReal) (funext fun x => Fin.ext ?_)
  match x with
  | ⟨0, _⟩ => show win0_7.index t (0 : Fin 2) * 1 + 1 * p.val = _; rw [e0]; show _ = p.val; omega
  | ⟨1, _⟩ => show win0_7.index t (1 : Fin 2) * 1024 + 1 * f.val = _; rw [e1]; show _ = f.val; omega

theorem bC_at (p : Fin 3) (f : Fin 5632) : bC m c t (ix2 p f) = ((D.C p.val f.val : ℝ) : EReal) := by
  have hN : t.val < 16 := lt_of_lt_of_eq t.isLt N_0
  obtain ⟨-, -, -, -, -, -, -, -, ⟨e0, e1⟩, -⟩ := index_facts t
  refine Eq.trans ?_ ((congrFun (V_main_arg3 m c) _).trans (h.k p f))
  refine congrArg (V m c main_arg3 : S3x5632.Idx → EReal) (funext fun x => Fin.ext ?_)
  match x with
  | ⟨0, _⟩ => show win0_8.index t (0 : Fin 2) * 3 + 1 * p.val = _; rw [e0]; show _ = p.val; omega
  | ⟨1, _⟩ => show win0_8.index t (1 : Fin 2) * 5632 + 1 * f.val = _; rw [e1]; show _ = f.val; omega

theorem bW_at (j : Fin 4) (d : Fin 1024) (f : Fin 1408) : bW m c t (ix3 j d f) = ((D.W d.val (1408 * j.val + f.val) : ℝ) : EReal) := by
  obtain ⟨-, -, -, -, -, -, -, -, -, ⟨e0, e1, e2⟩, -⟩ := index_facts t
  refine Eq.trans ?_ (V_w h j d f)
  refine congrArg (V m c main_v20 : S4x1024x1408.Idx → EReal) (funext fun x => Fin.ext ?_)
  match x with
  | ⟨0, _⟩ => show win0_9.index t (0 : Fin 3) * 4 + 1 * j.val = _; rw [e0]; show _ = j.val; omega
  | ⟨1, _⟩ => show win0_9.index t (1 : Fin 3) * 1024 + 1 * d.val = _; rw [e1]; show _ = d.val; omega
  | ⟨2, _⟩ => show win0_9.index t (2 : Fin 3) * 1408 + 1 * f.val = _; rw [e2]; show _ = f.val; omega

omit h in
theorem ldD (b : Vec Ideal S256x2816 .bf16) (q : Fin 2) (p : Fin 256) (f : Fin 1408) : View.ld b (rD q) (ix2 p f) = b (ix2 p ⟨1408 * q.val + f.val, by omega⟩) :=
  congrArg b (unit_emb2 (a := 256) (b := 2816) (w := 1408) (o := 1408 * q.val) _ p f (by omega))

omit h in
theorem ldC (b : Vec Ideal S256x5632 .bf16) (j : Fin 4) (p : Fin 256) (f : Fin 1408) : View.ld b (rC j) (ix2 p f) = b (ix2 p ⟨1408 * j.val + f.val, by omega⟩) :=
  congrArg b (unit_emb2 (a := 256) (b := 5632) (w := 1408) (o := 1408 * j.val) _ p f (by omega))

omit h in
theorem ldH (b : Vec Ideal S16x2816 .bf16) (q : Fin 2) (p : Fin 16) (f : Fin 1408) : View.ld b (rH q) (ix2 p f) = b (ix2 p ⟨1408 * q.val + f.val, by omega⟩) :=
  congrArg b (unit_emb2 (a := 16) (b := 2816) (w := 1408) (o := 1408 * q.val) _ p f (by omega))

/-- Part `j` of the cotangent's rows. -/
theorem px_at (j : Fin 4) (p : Fin 256) (f : Fin 1408) : px m c t j (ix2 p f) = ((D.P (256 * t.val + p.val) (1408 * j.val + f.val) : ℝ) : EReal) := by
  match j with
  | 0 => exact (ldD _ 0 p f).trans (bG_at t h p _)
  | 1 => exact (ldD _ 1 p f).trans (bG_at t h p _)
  | 2 => exact (ldD _ 0 p f).trans ((bV_at t h p _).trans (congrArg (fun e => ((D.P (256 * t.val + p.val) e : ℝ) : EReal)) (by show 2816 + (1408 * 0 + f.val) = 1408 * 2 + f.val; omega)))
  | 3 => exact (ldD _ 1 p f).trans ((bV_at t h p _).trans (congrArg (fun e => ((D.P (256 * t.val + p.val) e : ℝ) : EReal)) (by show 2816 + (1408 * 1 + f.val) = 1408 * 3 + f.val; omega)))

/-- Part `j` of the sixteen rows after the block. -/
theorem hx_at (ht : t.val < 15) (j : Fin 4) (p : Fin 16) (f : Fin 1408) : hx m c t j (ix2 p f) = ((D.P (256 * (t.val + 1) + p.val) (1408 * j.val + f.val) : ℝ) : EReal) := by
  match j with
  | 0 => exact (ldH _ 0 p f).trans (hG_at t h ht p _)
  | 1 => exact (ldH _ 1 p f).trans (hG_at t h ht p _)
  | 2 => exact (ldH _ 0 p f).trans ((hV_at t h ht p _).trans (congrArg (fun e => ((D.P (256 * (t.val + 1) + p.val) e : ℝ) : EReal)) (by show 2816 + (1408 * 0 + f.val) = 1408 * 2 + f.val; omega)))
  | 3 => exact (ldH _ 1 p f).trans ((hV_at t h ht p _).trans (congrArg (fun e => ((D.P (256 * (t.val + 1) + p.val) e : ℝ) : EReal)) (by show 2816 + (1408 * 1 + f.val) = 1408 * 3 + f.val; omega)))

theorem pay20_at (j : Fin 4) (p : Fin 256) (f : Fin 1408) : k0_pay20 (px m c t j) (ix2 p f) = ((D.P (256 * t.val + p.val) (1408 * j.val + f.val) : ℝ) : EReal) := by
  have e := px_at t h j p f
  generalize px m c t j = x at e ⊢
  pointwise [k0_pay20]
  exact e

theorem pd_at (j : Fin 4) (p : Fin 256) (f : Fin 1408) : pd m c t j (ix2 p f) = ((D.sh 0 (256 * t.val + p.val) (1408 * j.val + f.val) : ℝ) : EReal) :=
  (pay20_at t h j p f).trans (congrArg Real.toEReal (D.sh_zero _ _).symm)

/-- The two rows after the block, zero at a sequence's end. -/
theorem ph_at (j : Fin 4) (q : Fin 2) (f : Fin 1408) :
    ph m c t j (ix2 q f) = (((if t.val % 8 = 7 then 0 else D.P (256 * (t.val + 1) + q.val) (1408 * j.val + f.val)) : ℝ) : EReal) := by
  have hN : t.val < 16 := lt_of_lt_of_eq t.isLt N_0
  refine (pay7_at (grid0.coords t) (hx m c t j) q f).trans ?_
  rw [coords_val t]
  by_cases h7 : t.val % 8 = 7
  · rw [if_pos h7, if_pos h7]
    rfl
  · rw [if_neg h7, if_neg h7]
    exact hx_at t h (by omega) j ⟨q.val, by omega⟩ f

/-- The cotangent one row on. -/
theorem p1_at (j : Fin 4) (p : Fin 256) (f : Fin 1408) : p1 m c t j (ix2 p f) = ((D.sh 1 (256 * t.val + p.val) (1408 * j.val + f.val) : ℝ) : EReal) := by
  refine (pay8_at (grid0.coords t) (px m c t j) (hx m c t j) p f).trans ?_
  rw [← D.sh_tile 1 t.val p.val _ (by decide) p.isLt]
  by_cases hp : p.val + 1 < 256
  · rw [dif_pos hp, if_pos hp]
    exact pay20_at t h j ⟨p.val + 1, hp⟩ f
  · rw [dif_neg hp, if_neg hp, show p.val + 1 - 256 = (0 : Fin 2).val by show _ = 0; omega]
    exact ph_at t h j 0 f

/-- The cotangent two rows on. -/
theorem p2_at (j : Fin 4) (p : Fin 256) (f : Fin 1408) : p2 m c t j (ix2 p f) = ((D.sh 2 (256 * t.val + p.val) (1408 * j.val + f.val) : ℝ) : EReal) := by
  refine (pay23_at (pd m c t j) (ph m c t j) p f).trans ?_
  rw [← D.sh_tile 2 t.val p.val _ (by decide) p.isLt]
  by_cases hp : p.val + 2 < 256
  · rw [dif_pos hp, if_pos hp]
    exact pay20_at t h j ⟨p.val + 2, hp⟩ f
  · rw [dif_neg hp, if_neg hp]
    exact ph_at t h j _ f

theorem wc_at (j : Fin 4) (k : Fin 3) (f : Fin 1408) : View.ld (bC m c t) (rT j) (ix2 k f) = ((D.C k.val (1408 * j.val + f.val) : ℝ) : EReal) :=
  (congrArg (bC m c t) (unit_emb2 (a := 3) (b := 5632) (w := 1408) (o := 1408 * j.val) _ k f (by omega))).trans (bC_at t h k _)

theorem wt_at (j : Fin 4) (z : Fin 1) (d : Fin 1024) (f : Fin 1408) : View.ld (bW m c t) (rW j) (ix3 z d f) = ((D.W d.val (1408 * j.val + f.val) : ℝ) : EReal) :=
  (congrArg (bW m c t) (unit_emb3 (n := 4) (a := 1024) (b := 1408) (o := j.val) _ z d f)).trans (bW_at t h j d f)

theorem ut_at (j : Fin 4) (p : Fin 256) (f : Fin 1408) : k0_pay27 (View.ld (bU m c t) (rC j)) (ix2 p f) = ((D.up (256 * t.val + p.val) (1408 * j.val + f.val) : ℝ) : EReal) := by
  have e := (ldC (bU m c t) j p f).trans (bU_at t h p _)
  generalize View.ld (bU m c t) (rC j) = x at e ⊢
  pointwise [k0_pay27]
  exact e

/-- The convolution's gradient on part `j`. -/
theorem dz_at (j : Fin 4) (p : Fin 256) (f : Fin 1408) :
    k0_pay24 (pd m c t j) (ph m c t j) (View.ld (bC m c t) (rT j)) (p1 m c t j) (ix2 p f) = ((D.du (256 * t.val + p.val) (1408 * j.val + f.val) : ℝ) : EReal) := by
  refine (pay24_at _ _ _ _ p f).trans ?_
  rw [show k0_pay23 (pd m c t j) (ph m c t j) = p2 m c t j from rfl, p2_at t h, p1_at t h, pd_at t h, wc_at t h, wc_at t h, wc_at t h, D.sh_zero]
  simp only [← EReal.coe_mul, ← EReal.coe_add]
  rfl

theorem du_at (j : Fin 4) (p : Fin 256) (f : Fin 1408) : du m c t j (ix2 p f) = ((D.du (256 * t.val + p.val) (1408 * j.val + f.val) : ℝ) : EReal) :=
  (pay25_at _ _ _ _ p f).trans (dz_at t h j p f)

/-- Part `j`'s product with the weight. -/
theorem dhS_at (j : Fin 4) (o : FVec Ideal S256x1024 .f32) (p : Fin 256) (d : Fin 1024) :
    dhS m c t j o (ix2 p d) = o (ix2 p d) + ((∑ f : Fin 1408, D.du (256 * t.val + p.val) (1408 * j.val + f.val) * D.W d.val (1408 * j.val + f.val) : ℝ) : EReal) := by
  refine (pay26_at _ _ _ _ _ _ p d).trans ?_
  simp only [dz_at t h, wt_at t h, ← EReal.coe_mul, coe_sum]

/-- The four products together are the whole product. -/
theorem dh_at (p : Fin 256) (d : Fin 1024) : dh m c t (ix2 p d) = ((D.dh (256 * t.val + p.val) d.val : ℝ) : EReal) := by
  unfold dh
  rw [dhS_at t h, dhS_at t h, dhS_at t h, dhS_at t h, show (k0_pay5 : FVec Ideal S256x1024 .f32) (ix2 p d) = 0 by pointwise [k0_pay5], zero_add]
  simp only [← EReal.coe_add]
  refine congrArg Real.toEReal ?_
  unfold Data.dh
  rw [sum_parts (fun e => D.du (256 * t.val + p.val) e * D.W d.val e)]
  simp only [Fin.val_zero, Fin.val_one, show (2 : Fin 4).val = 2 from rfl, show (3 : Fin 4).val = 3 from rfl, Nat.mul_zero, Nat.zero_add, Nat.mul_one, Nat.reduceMul]

/-- The rows' reciprocal root. -/
theorem r_at (p : Fin 256) (z : Fin 1) : k0_pay62 (bX m c t) (ix2 p z) = ((rinv 1024 (D.row (256 * t.val + p.val)) : ℝ) : EReal) := by
  have e := bX_at t h p
  generalize bX m c t = x at e ⊢
  pointwise [k0_pay62]
  simp only [e, ← EReal.coe_mul, coe_sum, word_1024, div_1024, word_eps, ← EReal.coe_add, rsqrt_1024]
  rfl

/-- The normalised rows. -/
theorem n_at (p : Fin 256) (d : Fin 1024) : k0_pay63 (bX m c t) (ix2 p d) = ((D.nrm (256 * t.val + p.val) d.val : ℝ) : EReal) := by
  have er := r_at t h p 0
  have e := bX_at t h p
  unfold k0_pay63
  generalize k0_pay62 (bX m c t) = r at er ⊢
  generalize bX m c t = x at e ⊢
  pointwise []
  rw [er, e, ← EReal.coe_mul]
  rfl

/-- The input's gradient. -/
theorem gx_at (p : Fin 256) (d : Fin 1024) : gx m c t (ix2 p d) = ((D.oX (256 * t.val + p.val) d : ℝ) : EReal) := by
  have er := r_at t h p 0
  have en := n_at t h p
  have ed := dh_at t h p
  have ec := bD_at t h p
  have eg := bN_at t h
  unfold gx
  generalize dh m c t = y at ed ⊢
  generalize k0_pay62 (bX m c t) = r at er ⊢
  generalize k0_pay63 (bX m c t) = n at en ⊢
  generalize bD m c t = u at ec ⊢
  generalize bN m c t = v at eg ⊢
  pointwise [k0_pay1]
  simp only [er, en, ed, ec, eg, ← EReal.coe_mul, coe_sum, word_1024, div_1024, ← EReal.coe_sub, ← EReal.coe_add]
  rfl

/-- A point adds its 256 rows' part of the gain's gradient. -/
theorem gg_at (old : Vec Ideal S1x1024 .f32) (z : Fin 1) (d : Fin 1024) :
    gg m c t old (ix2 z d) = old (ix2 z d) + ((∑ p : Fin 256, D.oN (256 * t.val + p.val) d.val : ℝ) : EReal) := by
  have en := fun p => n_at t h p d
  have ed := fun p => dh_at t h p d
  unfold gg
  generalize dh m c t = y at ed ⊢
  generalize k0_pay63 (bX m c t) = n at en ⊢
  pointwise [k0_pay2]
  simp only [en, ed, ← EReal.coe_mul, coe_sum]
  rfl

/-- A point adds its 256 rows' part of a tap's gradient. -/
theorem gk_at (k : ℕ) (a : Fin 4 → FVec Ideal S256x1408 .f32) (j : Fin 4)
    (ha : ∀ p f, a j (ix2 p f) = ((D.sh k (256 * t.val + p.val) (1408 * j.val + f.val) : ℝ) : EReal)) (old : Vec Ideal S1x1408 .f32) (z : Fin 1) (f : Fin 1408) :
    gk m c t a j old (ix2 z f) = old (ix2 z f) + ((∑ p : Fin 256, D.oC k (256 * t.val + p.val) (1408 * j.val + f.val) : ℝ) : EReal) := by
  refine (pay18_at _ _ old z f).trans ?_
  simp only [ha, ut_at t h, ← EReal.coe_mul, coe_sum]
  rfl

end Cert.UpIdeal.Reads

end
-- ==== Proof.Up.Result.lean ====
module

public import proofs.«01_k».proof.Proof.Up.Reads
public import proofs.«01_k».proof.Proof.Gen.UpIdeal.Value
public import Idealize.ShloMosaic.Lib.Pipeline.Value
public import Idealize.ShloMosaic.Lib.Pipeline.ReadBack

/-! # The up projection's backward: what the kernel leaves in its four results -/

@[expose] public section

set_option maxRecDepth 16384

noncomputable section

open Idealize.ShloMosaic Idealize.ShloMosaic.TcCoe Idealize.SL.Sem

namespace Cert.UpIdeal.Result

open Cert.UpIdeal Cert.UpIdeal.Gen Cert.UpIdeal.Value Cert.UpIdeal.Body Cert.UpIdeal.Reads Cert.Reals Cert.UpMath

/-- An index lies in the part of the columns that it is in. -/
theorem mem_rC (p : Fin 256) (e : Fin 5632) (j : Fin 4) (h0 : 1408 * j.val ≤ e.val) (h1 : e.val < 1408 * j.val + 1408) :
    (ix2 p e : S256x5632.Idx) ∈ (rC j).set := by
  refine Rect.mem_set_unit.mpr fun i => ?_
  match i with
  | ⟨0, _⟩ => exact ⟨Nat.zero_le _, by show p.val < 0 + 256; omega⟩
  | ⟨1, _⟩ => exact ⟨h0, h1⟩

/-- An index lies in its tap's row of the part of the columns that it is in. -/
theorem mem_rK (k : Fin 3) (e : Fin 5632) (j : Fin 4) (h0 : 1408 * j.val ≤ e.val) (h1 : e.val < 1408 * j.val + 1408) :
    (ix2 k e : S3x5632.Idx) ∈ (rK k j).set := by
  refine Rect.mem_set_unit.mpr fun i => ?_
  match i with
  | ⟨0, _⟩ => exact ⟨Nat.le_refl _, Nat.lt_succ_self _⟩
  | ⟨1, _⟩ => exact ⟨h0, h1⟩

theorem emb_rK (k : Fin 3) (j : Fin 4) (z : Fin 1) (f : Fin 1408) : (rK k j).emb (ix2 z f) = (ix2 k ⟨1408 * j.val + f.val, by omega⟩ : S3x5632.Idx) :=
  funext fun i => Fin.ext <| by
    match i with
    | ⟨0, _⟩ => show k.val + 1 * z.val = k.val; omega
    | ⟨1, _⟩ => show 1408 * j.val + 1 * f.val = 1408 * j.val + f.val; omega

variable {m : (ℓ : Loc nD τ sig) → Buf (Elt Ideal) ℓ} {c : Dev nD} {D : Data}

/-- Each part of the columns is among the stored pieces. -/
theorem piece_u (t : Fin cfg0.N) (j : Fin 4) : ∃ pc ∈ uPieces m c t, pc.1 = rC j := by
  match j with
  | 0 => exact ⟨_, .tail _ (.tail _ (.tail _ (.head _))), rfl⟩
  | 1 => exact ⟨_, .tail _ (.tail _ (.head _)), rfl⟩
  | 2 => exact ⟨_, .tail _ (.head _), rfl⟩
  | 3 => exact ⟨_, .head _, rfl⟩

theorem covered_u (t : Fin cfg0.N) (p : Fin 256) (e : Fin 5632) : ∃ pc ∈ uPieces m c t, (ix2 p e : S256x5632.Idx) ∈ pc.1.set := by
  obtain ⟨pc, hm, he⟩ := piece_u (m := m) (c := c) t ⟨e.val / 1408, by omega⟩
  exact ⟨pc, hm, by rw [he]; exact mem_rC p e _ (by dsimp only; omega) (by dsimp only; omega)⟩

/-- Each tap and part is among the stored pieces. -/
theorem piece_c (t : Fin cfg0.N) (old : Vec Ideal S3x5632 .f32) (k : Fin 3) (j : Fin 4) : ∃ pc ∈ cPieces m c t old, pc.1 = rK k j := by
  refine ⟨(cPieces m c t old)[3 * (3 - j.val) + (2 - k.val)]'(by show _ < 12; omega), List.getElem_mem _, ?_⟩
  fin_cases k <;> fin_cases j <;> rfl

theorem covered_c (t : Fin cfg0.N) (old : Vec Ideal S3x5632 .f32) (k : Fin 3) (e : Fin 5632) :
    ∃ pc ∈ cPieces m c t old, (ix2 k e : S3x5632.Idx) ∈ pc.1.set := by
  obtain ⟨pc, hm, he⟩ := piece_c (m := m) (c := c) t old k ⟨e.val / 1408, by omega⟩
  exact ⟨pc, hm, by rw [he]; exact mem_rK k e _ (by dsimp only; omega) (by dsimp only; omega)⟩

variable (h : Args m c D)
include h

/-- The gradient of the convolution's input on point `t`'s 256 rows. -/
def tileU (D : Data) (t : ℕ) : S256x5632.Idx → EReal := fun y => ((D.du (256 * t + (y 0).val) (y 1).val : ℝ) : EReal)

theorem part_u (t : Fin cfg0.N) (j : Fin 4) : ∀ y : (⟨2, ![256, 1408]⟩ : Shape).Idx, du m c t j y = tileU D t.val ((rC j).emb y) :=
  all2 fun p f => (du_at t h j p f).trans
    (congrArg (tileU D t.val) (unit_emb2 (a := 256) (b := 5632) (w := 1408) (o := 1408 * j.val) _ p f (by omega))).symm

theorem pieces_u (t : Fin cfg0.N) : View.PiecesOf (tileU D t.val) (uPieces m c t) :=
  ⟨part_u h t 3, part_u h t 2, part_u h t 1, part_u h t 0, trivial⟩

/-- Every point leaves its tile of the gradient of the convolution's input. -/
theorem outs_u (t : Fin cfg0.N) (p : Fin 256) (e : Fin 5632) :
    (outsAt0 m c t.val t.isLt).1 (ix2 p e) = ((D.du (256 * t.val + p.val) e.val : ℝ) : EReal) := by
  have e0 : (outsAt0 m c t.val t.isLt).1 = View.canon (uPieces m c t) := by
    by_cases h0 : t.val % 16 = 0
    · exact (outsA m c t h0).1
    · exact (outsB m c t h0).1
  rw [e0]
  exact View.canon_apply_of_pieces (tileU D t.val) _ (pieces_u h t).mem _ (covered_u t p e)

/-- Every point leaves its tile of the input's gradient. -/
theorem outs_x (t : Fin cfg0.N) (p : Fin 256) (d : Fin 1024) :
    (outsAt0 m c t.val t.isLt).2.1 (ix2 p d) = ((D.oX (256 * t.val + p.val) d : ℝ) : EReal) := by
  have e0 : (outsAt0 m c t.val t.isLt).2.1 = gx m c t := by
    by_cases h0 : t.val % 16 = 0
    · exact (outsA m c t h0).2.1
    · exact (outsB m c t h0).2.1
  rw [e0]
  exact gx_at t h p d

/-- The gain's gradient so far. -/
theorem outs_n (z : Fin 1) (d : Fin 1024) : ∀ (n : ℕ) (hn : n < cfg0.N), (outsAt0 m c n hn).2.2.1 (ix2 z d)
    = ∑ k ∈ Finset.range (n % 16 + 1), ((∑ p : Fin 256, D.oN (256 * (n / 16 * 16 + k) + p.val) d.val : ℝ) : EReal) := by
  refine run_sum 16 (by decide) (fun n hn => (outsAt0 m c n hn).2.2.1 (ix2 z d))
    (fun n => ((∑ p : Fin 256, D.oN (256 * n + p.val) d.val : ℝ) : EReal)) (fun n hn h0 => ?_) (fun n hn h0 => ?_)
  · rw [(outsA m c ⟨n, hn⟩ h0).2.2.1, gg_at ⟨n, hn⟩ h]
    pointwise [k0_pay3]
  · rw [(outsB m c ⟨n + 1, hn⟩ h0).2.2.1, gg_at ⟨n + 1, hn⟩ h]
    rfl

/-- The taps' gradients after a point: what was there and the point's 256 rows' part. -/
def stepC (D : Data) (t : ℕ) (old : S3x5632.Idx → EReal) : S3x5632.Idx → EReal :=
  fun y => old y + ((∑ p : Fin 256, D.oC (2 - (y 0).val) (256 * t + p.val) (y 1).val : ℝ) : EReal)

theorem part_c (t : Fin cfg0.N) (old : Vec Ideal S3x5632 .f32) (k : Fin 3) (j : Fin 4) (a : Fin 4 → FVec Ideal S256x1408 .f32)
    (ha : ∀ p f, a j (ix2 p f) = ((D.sh (2 - k.val) (256 * t.val + p.val) (1408 * j.val + f.val) : ℝ) : EReal)) :
    ∀ y : (⟨2, ![1, 1408]⟩ : Shape).Idx, gk m c t a j (View.ld old (rK k j)) y = stepC D t.val old ((rK k j).emb y) :=
  all2 fun z f => by
    refine (gk_at t h _ a j ha _ z f).trans ?_
    show old ((rK k j).emb (ix2 z f)) + _ = _
    rw [emb_rK]
    rfl

theorem pieces_c (t : Fin cfg0.N) (old : Vec Ideal S3x5632 .f32) : View.PiecesOf (stepC D t.val old) (cPieces m c t old) :=
  ⟨part_c h t old 2 3 _ (pd_at t h 3), part_c h t old 1 3 _ (p1_at t h 3), part_c h t old 0 3 _ (p2_at t h 3),
   part_c h t old 2 2 _ (pd_at t h 2), part_c h t old 1 2 _ (p1_at t h 2), part_c h t old 0 2 _ (p2_at t h 2),
   part_c h t old 2 1 _ (pd_at t h 1), part_c h t old 1 1 _ (p1_at t h 1), part_c h t old 0 1 _ (p2_at t h 1),
   part_c h t old 2 0 _ (pd_at t h 0), part_c h t old 1 0 _ (p1_at t h 0), part_c h t old 0 0 _ (p2_at t h 0), trivial⟩

/-- The taps' gradients so far. -/
theorem outs_c (k : Fin 3) (e : Fin 5632) : ∀ (n : ℕ) (hn : n < cfg0.N), (outsAt0 m c n hn).2.2.2 (ix2 k e)
    = ∑ i ∈ Finset.range (n % 16 + 1), ((∑ p : Fin 256, D.oC (2 - k.val) (256 * (n / 16 * 16 + i) + p.val) e.val : ℝ) : EReal) := by
  refine run_sum 16 (by decide) (fun n hn => (outsAt0 m c n hn).2.2.2 (ix2 k e))
    (fun n => ((∑ p : Fin 256, D.oC (2 - k.val) (256 * n + p.val) e.val : ℝ) : EReal)) (fun n hn h0 => ?_) (fun n hn h0 => ?_)
  · rw [(outsA m c ⟨n, hn⟩ h0).2.2.2, View.canon_append_of_piecesOf _ _ _ (pieces_c h ⟨n, hn⟩ _) _ (covered_c ⟨n, hn⟩ _ k e)]
    show k0_pay4 (F := Ideal) (ix2 k e) + _ = _
    pointwise [k0_pay4]
  · rw [(outsB m c ⟨n + 1, hn⟩ h0).2.2.2]
    exact View.canon_apply_of_pieces (stepC D (n + 1) (outsAt0 m c n (Nat.lt_of_succ_lt hn)).2.2.2) _ (pieces_c h ⟨n + 1, hn⟩ _).mem _ (covered_c ⟨n + 1, hn⟩ _ k e)

/-- The first result: the gradient of the convolution's input. -/
theorem r10_at (r : Fin 4096) (f : Fin 5632) :
    ((dats m 0 c).arrAt 10 cfg0.N : S4096x5632.Idx → EReal) (ix2 r f) = ((D.du r.val f.val : ℝ) : EReal) := by
  have hN : cfg0.N = 16 := N_0
  have ht : r.val / 256 < cfg0.N := by omega
  have e := congrFun (blocks10 m c ⟨r.val / 256, ht⟩ (flush0_10 _)) (ix2 ⟨r.val % 256, by omega⟩ f)
  rw [flushed10] at e
  refine Eq.trans (Eq.trans ?_ e) ((outs_u h ⟨r.val / 256, ht⟩ ⟨r.val % 256, by omega⟩ f).trans ?_)
  · obtain ⟨-, -, -, -, -, -, -, -, -, -, ⟨e0, e1⟩, -⟩ := index_facts ⟨r.val / 256, ht⟩
    refine congrArg ((dats m 0 c).arrAt 10 cfg0.N : S4096x5632.Idx → EReal) (funext fun x => Fin.ext ?_)
    match x with
    | ⟨0, _⟩ => show r.val = win0_10.index ⟨r.val / 256, ht⟩ (0 : Fin 2) * 256 + 1 * (r.val % 256); rw [e0]; show r.val = r.val / 256 * 256 + 1 * (r.val % 256); omega
    | ⟨1, _⟩ => show f.val = win0_10.index ⟨r.val / 256, ht⟩ (1 : Fin 2) * 5632 + 1 * f.val; rw [e1]; omega
  · dsimp only
    rw [Nat.div_add_mod]

/-- The second result: the input's gradient. -/
theorem r11_at (r : Fin 4096) (f : Fin 1024) :
    ((dats m 0 c).arrAt 11 cfg0.N : S4096x1024.Idx → EReal) (ix2 r f) = ((D.oX r.val f : ℝ) : EReal) := by
  have hN : cfg0.N = 16 := N_0
  have ht : r.val / 256 < cfg0.N := by omega
  have e := congrFun (blocks11 m c ⟨r.val / 256, ht⟩ (flush0_11 _)) (ix2 ⟨r.val % 256, by omega⟩ f)
  rw [flushed11] at e
  refine Eq.trans (Eq.trans ?_ e) ((outs_x h ⟨r.val / 256, ht⟩ ⟨r.val % 256, by omega⟩ f).trans ?_)
  · obtain ⟨-, -, -, -, -, -, -, -, -, -, -, ⟨e0, e1⟩, -⟩ := index_facts ⟨r.val / 256, ht⟩
    refine congrArg ((dats m 0 c).arrAt 11 cfg0.N : S4096x1024.Idx → EReal) (funext fun x => Fin.ext ?_)
    match x with
    | ⟨0, _⟩ => show r.val = win0_11.index ⟨r.val / 256, ht⟩ (0 : Fin 2) * 256 + 1 * (r.val % 256); rw [e0]; show r.val = r.val / 256 * 256 + 1 * (r.val % 256); omega
    | ⟨1, _⟩ => show f.val = win0_11.index ⟨r.val / 256, ht⟩ (1 : Fin 2) * 1024 + 1 * f.val; rw [e1]; omega
  · dsimp only
    rw [Nat.div_add_mod]

omit h in
theorem disjoint12 : ∀ t t' : Fin cfg0.N, (cfg0.win 12).flush t = true → (cfg0.win 12).flush t' = true → t ≠ t' →
    Disjoint ((cfg0.win 12).blk t).view.set ((cfg0.win 12).blk t').view.set := by
  intro t t' h h' hne
  have hN : cfg0.N = 16 := N_0
  have a := (flush0_12 t).mp h
  have b := (flush0_12 t').mp h'
  exact absurd (Fin.ext (by omega)) hne

omit h in
theorem disjoint13 : ∀ t t' : Fin cfg0.N, (cfg0.win 13).flush t = true → (cfg0.win 13).flush t' = true → t ≠ t' →
    Disjoint ((cfg0.win 13).blk t).view.set ((cfg0.win 13).blk t').view.set := by
  intro t t' h h' hne
  have hN : cfg0.N = 16 := N_0
  have a := (flush0_13 t).mp h
  have b := (flush0_13 t').mp h'
  exact absurd (Fin.ext (by omega)) hne

omit h in
/-- The sixteen tiles' sums together are the sum over all rows. -/
theorem all_rows (f : ℕ → ℝ) : ∑ i ∈ Finset.range (15 % 16 + 1), ((∑ p : Fin 256, f (256 * (15 / 16 * 16 + i) + p.val) : ℝ) : EReal)
    = ((∑ r : Fin 4096, f r.val : ℝ) : EReal) :=
  run_tiles 16 256 _ f fun i _ => by rw [show 15 / 16 * 16 + i = i by omega]

/-- The third result: the gain's gradient. -/
theorem r12_at (z : Fin 1) (d : Fin 1024) :
    ((dats m 0 c).arrAt 12 cfg0.N : S1x1024.Idx → EReal) (ix2 z d) = ((∑ r : Fin 4096, D.oN r.val d.val : ℝ) : EReal) := by
  have hN : cfg0.N = 16 := N_0
  obtain ⟨t, ht⟩ : ∃ t : Fin cfg0.N, t.val = 15 := ⟨⟨15, by omega⟩, rfl⟩
  have e := congrFun ((dats m 0 c).read_blk_arrAt_eq_flushed 12 disjoint12 cfg0.N t t.isLt ((flush0_12 t).mpr (by omega))) (ix2 z d)
  rw [flushed12] at e
  refine Eq.trans (Eq.trans ?_ e) ((outs_n h z d t.val t.isLt).trans ?_)
  · obtain ⟨-, -, -, -, -, -, -, -, -, -, -, -, ⟨e0, e1⟩, -⟩ := index_facts t
    refine congrArg ((dats m 0 c).arrAt 12 cfg0.N : S1x1024.Idx → EReal) (funext fun x => Fin.ext ?_)
    match x with
    | ⟨0, _⟩ => show z.val = win0_12.index t (0 : Fin 2) * 1 + 1 * z.val; rw [e0]; omega
    | ⟨1, _⟩ => show d.val = win0_12.index t (1 : Fin 2) * 1024 + 1 * d.val; rw [e1]; omega
  · rw [ht]
    exact all_rows (fun r => D.oN r d.val)

/-- The fourth result: the gradient of the convolution's weight. -/
theorem r13_at (k : Fin 3) (e : Fin 5632) :
    ((dats m 0 c).arrAt 13 cfg0.N : S3x5632.Idx → EReal) (ix2 k e) = ((∑ r : Fin 4096, D.oC (2 - k.val) r.val e.val : ℝ) : EReal) := by
  have hN : cfg0.N = 16 := N_0
  obtain ⟨t, ht⟩ : ∃ t : Fin cfg0.N, t.val = 15 := ⟨⟨15, by omega⟩, rfl⟩
  have e' := congrFun ((dats m 0 c).read_blk_arrAt_eq_flushed 13 disjoint13 cfg0.N t t.isLt ((flush0_13 t).mpr (by omega))) (ix2 k e)
  rw [flushed13] at e'
  refine Eq.trans (Eq.trans ?_ e') ((outs_c h k e t.val t.isLt).trans ?_)
  · obtain ⟨-, -, -, -, -, -, -, -, -, -, -, -, -, ⟨e0, e1⟩⟩ := index_facts t
    refine congrArg ((dats m 0 c).arrAt 13 cfg0.N : S3x5632.Idx → EReal) (funext fun x => Fin.ext ?_)
    match x with
    | ⟨0, _⟩ => show k.val = win0_13.index t (0 : Fin 2) * 3 + 1 * k.val; rw [e0]; omega
    | ⟨1, _⟩ => show e.val = win0_13.index t (1 : Fin 2) * 5632 + 1 * e.val; rw [e1]; omega
  · rw [ht]
    exact all_rows (fun r => D.oC (2 - k.val) r e.val)

end Cert.UpIdeal.Result

end
-- ==== Proof.Up.Claims.lean ====
module

public import proofs.«01_k».proof.Defs
public import proofs.«01_k».proof.Proof.Gen.Up
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_finite_up
public import proofs.«01_k».proof.Proof.Up.Ref
public import proofs.«01_k».proof.Proof.Up.Result

/-! # The up projection's backward: its claims -/

@[expose] public section

set_option maxRecDepth 16384

noncomputable section

open Idealize.ShloMosaic Idealize.ShloMosaic.TcCoe Idealize.SL.Sem

namespace Cert.UpClaims

open Cert.Reals

section
open Cert.UpIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c, Value.kept_main_arg5 m r h.1 c⟩, h.2⟩) (Gen.run_main_quiescent m ρ)
end

set_option maxHeartbeats 8000000 in
/-- The two programs have one table of kernel bodies. -/
theorem bodies_eq {F : FTy → Type} [FloatOps F] : Cert.Up.defs₀ (F := F) = Cert.UpIdeal.defs₀ (F := F) := by
  unfold Cert.Up.defs₀ Cert.UpIdeal.defs₀
  congr 1
  funext l a
  match l, a with
  | 0, (t, s) => rfl

theorem defs_eq {F : FTy → Type} [FloatOps F] : Cert.Up.defs (F := F) = Cert.UpIdeal.defs (F := F) := by
  unfold Cert.Up.defs Cert.UpIdeal.defs
  rw [bodies_eq]
  rfl

/-- The kernel's own frame: the two programs have one text. -/
theorem frame_kernel : Cert.quiescent_Up := fun m ρ _ => by
  rw [defs_eq]
  exact frame_run (F := Bits) m ρ

/-- The ideal program's frame. -/
theorem frame_ideal : Cert.quiescent_UpIdeal := fun m ρ _ => frame_run (F := Ideal) m ρ

/-- The reference's frame. -/
theorem frame_ref : Cert.quiescent_UpRefIdeal := fun m ρ _ =>
  (θ_run _ _ _).mono (fun r h => ⟨fun c => (h c).2.2.2.2, sem_eq_zero_of_no_sems (by decide) r.2⟩) (Cert.UpRefIdeal.Value.run (F := Ideal) m ρ)

/-- The ideal program's frame under the precondition. -/
theorem frame_ideal_pre : Cert.quiescent_UpIdeal_pre_finite_up := fun m ρ _ => frame_run (F := Ideal) m ρ

/-- The reference's frame under the precondition. -/
theorem frame_ref_pre : Cert.quiescent_UpRefIdeal_pre_finite_up := fun m ρ _ => frame_ref m ρ trivial

/-- The precondition gives real arguments. -/
theorem args_real (m : (ℓ : Loc Cert.UpIdeal.nD Cert.UpIdeal.τ Cert.UpIdeal.sig) → Buf (Elt Ideal) ℓ) (hm : Cert.Pre_UpIdeal_finite_up m)
    (c : Dev Cert.UpIdeal.nD) : ∃ D, Cert.UpIdeal.Reads.Args m c D := by
  obtain ⟨h0, h1, h2, h3, h4, h5⟩ := hm c
  refine ⟨⟨rd (m ((c.tc : Thread Cert.UpIdeal.nD Cert.UpIdeal.τ).loc Cert.UpIdeal.main_arg0) : Cert.UpIdeal.S4096x1024.Idx → EReal),
    rd (m ((c.tc : Thread Cert.UpIdeal.nD Cert.UpIdeal.τ).loc Cert.UpIdeal.main_arg1) : Cert.UpIdeal.S1x1024.Idx → EReal),
    rd (m ((c.tc : Thread Cert.UpIdeal.nD Cert.UpIdeal.τ).loc Cert.UpIdeal.main_arg2) : Cert.UpIdeal.S1024x5632.Idx → EReal),
    rd (m ((c.tc : Thread Cert.UpIdeal.nD Cert.UpIdeal.τ).loc Cert.UpIdeal.main_arg3) : Cert.UpIdeal.S3x5632.Idx → EReal),
    rd (m ((c.tc : Thread Cert.UpIdeal.nD Cert.UpIdeal.τ).loc Cert.UpIdeal.main_arg4) : Cert.UpIdeal.S4096x1024.Idx → EReal),
    rd (m ((c.tc : Thread Cert.UpIdeal.nD Cert.UpIdeal.τ).loc Cert.UpIdeal.main_arg5) : Cert.UpIdeal.S4096x5632.Idx → EReal)⟩, ?_⟩
  constructor
  · exact fun r f => rd_eq _ (congrFun h0) r f
  · exact fun r f => rd_eq _ (congrFun h1) r f
  · exact fun r f => rd_eq _ (congrFun h2) r f
  · exact fun r f => rd_eq _ (congrFun h3) r f
  · exact fun r f => rd_eq _ (congrFun h4) r f
  · exact fun r f => rd_eq _ (congrFun h5) r f

/-- Over the reals the kernel and the reference end with equal results. -/
theorem value : Cert.algebraic_UpIdeal_UpRefIdeal_pre_finite_up := by
  intro m ρ m' ρ' hm hmm
  refine ⟨fun c => (Cert.UpIdeal.Gen.dats m 0 c).arrAt 10 Cert.UpIdeal.cfg0.N, fun c => (Cert.UpIdeal.Gen.dats m 0 c).arrAt 11 Cert.UpIdeal.cfg0.N,
    fun c => (Cert.UpIdeal.Gen.dats m 0 c).arrAt 12 Cert.UpIdeal.cfg0.N, fun c => (Cert.UpIdeal.Gen.dats m 0 c).arrAt 13 Cert.UpIdeal.cfg0.N,
    Cert.UpIdeal.Value.run_blocks m ρ, ?_⟩
  refine (θ_run _ _ _).mono (fun r h c => ?_) (Cert.UpRefIdeal.Value.run (F := Ideal) m' ρ')
  obtain ⟨D, hA⟩ := args_real m hm c
  obtain ⟨e0, e1, e2, e3, e4, e5⟩ := hmm c
  obtain ⟨r0, r1, r2, r3, k⟩ := h c
  have hB : Cert.UpRefIdeal.Result.Args (m' ((c.tc : Thread Cert.UpRefIdeal.nD Cert.UpRefIdeal.τ).loc Cert.UpRefIdeal.main_arg0))
      (m' ((c.tc : Thread Cert.UpRefIdeal.nD Cert.UpRefIdeal.τ).loc Cert.UpRefIdeal.main_arg1))
      (m' ((c.tc : Thread Cert.UpRefIdeal.nD Cert.UpRefIdeal.τ).loc Cert.UpRefIdeal.main_arg2))
      (m' ((c.tc : Thread Cert.UpRefIdeal.nD Cert.UpRefIdeal.τ).loc Cert.UpRefIdeal.main_arg3))
      (m' ((c.tc : Thread Cert.UpRefIdeal.nD Cert.UpRefIdeal.τ).loc Cert.UpRefIdeal.main_arg4))
      (m' ((c.tc : Thread Cert.UpRefIdeal.nD Cert.UpRefIdeal.τ).loc Cert.UpRefIdeal.main_arg5)) D :=
    ⟨by rw [e0]; exact hA.x, by rw [e1]; exact hA.n, by rw [e2]; exact hA.w, by rw [e3]; exact hA.k, by rw [e4]; exact hA.d, by rw [e5]; exact hA.p⟩
  refine ⟨(r0.trans (Cert.UpRefIdeal.Read.val_main_v96_eq _ _)).trans ?_, (r1.trans (Cert.UpRefIdeal.Read.val_main_v97_eq _ _)).trans ?_,
    (r2.trans (Cert.UpRefIdeal.Read.val_main_v79_eq _ _ _ _)).trans ?_, (r3.trans (Cert.UpRefIdeal.Read.val_main_v72_eq _ _)).trans ?_, k⟩
  · exact ext2 fun a b => (Cert.UpRefIdeal.Result.v96_at hB a b).trans (Cert.UpIdeal.Result.r10_at hA a b).symm
  · exact ext2 fun a b => (Cert.UpRefIdeal.Result.v97_at hB a b).trans (Cert.UpIdeal.Result.r11_at hA a b).symm
  · exact ext2 fun a b => (Cert.UpRefIdeal.Result.v79_at hB a b).trans (Cert.UpIdeal.Result.r12_at hA a b).symm
  · exact ext2 fun a b => (Cert.UpRefIdeal.Result.v72_at hB a b).trans (Cert.UpIdeal.Result.r13_at hA a b).symm

end Cert.UpClaims

end
-- ==== Proof.Gup.Result.lean ====
module

public import proofs.«01_k».proof.Defs
public import proofs.«01_k».proof.Proof.Gen.GupIdeal.Value
public import proofs.«01_k».proof.Proof.Common.Reals
public import Idealize.ShloMosaic.Lib.Pipeline.Value
public import Idealize.ShloMosaic.Lib.Tactic

/-! # The up projection's weight gradient: what the kernel leaves in its result -/

@[expose] public section

set_option maxRecDepth 16384

noncomputable section

open Idealize.ShloMosaic Idealize.ShloMosaic.TcCoe Idealize.SL.Sem

namespace Cert.GupIdeal.Result

open Cert.GupIdeal Cert.GupIdeal.Gen Cert.GupIdeal.Value Cert.Reals

section
variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- Point `t`'s blocks: of the normalised input and of the cotangent. -/
abbrev bH : Vec F S2048x1024 .bf16 := iblk m c 0 t
abbrev bD : Vec F S2048x1408 .bf16 := iblk m c 1 t

/-- The first row tile of a column block: the product started from the stored zeros. -/
theorem stA (acc : Vec F S1024x1408 .bf16 × Vec F S1024x1408 .f32) (h0 : t.val % 2 = 0) (h1 : ¬t.val % 2 = 1) :
    (stAt0 m c t.val t.isLt acc).2 = k0_pay2 k0_pay1 (bH m c t) (bD m c t) := by
  rw [stAt0_A m c t acc h0 h1]
  dsimp only
  unfold sout0_A_0
  rw [View.read_writes_eq_canon _ _ _ (fun y => scover0_A_0 (y := y) ..)]
  unfold kernelRun0_A
  dsimp only
  sl_unfold_words
  simp only [View.canon_cons_unit_zero (S := S1024x1408) hz, View.readCov_unit_zero (S := S1024x1408) _ hz, View.readAt_eq_ld,
    (hs0_0 t).read_unread, (hs0_1 t).read_unread, View.ld_unit_zero (S := S2048x1024) hz, View.ld_unit_zero (S := S2048x1408) hz]

/-- The last row tile: the product added to what was carried, and the sum copied out. -/
theorem stB (acc : Vec F S1024x1408 .bf16 × Vec F S1024x1408 .f32) (h0 : ¬t.val % 2 = 0) (h1 : t.val % 2 = 1) :
    (stAt0 m c t.val t.isLt acc).1 = k0_pay3 (k0_pay2 acc.2 (bH m c t) (bD m c t))
    ∧ (stAt0 m c t.val t.isLt acc).2 = k0_pay2 acc.2 (bH m c t) (bD m c t) := by
  have e := stAt0_B m c t acc h0 h1
  generalize stAt0 m c t.val t.isLt acc = s at e ⊢
  subst e
  dsimp only
  refine ⟨?_, ?_⟩
  on_goal 1 => unfold out0_B_2
  on_goal 1 => rw [View.read_writes_eq_canon _ _ _ (fun y => cover0_B_2 (y := y) ..)]
  on_goal 2 => unfold sout0_B_0
  on_goal 2 => rw [View.read_writes_eq_canon _ _ _ (fun y => scover0_B_0 (y := y) ..)]
  all_goals
    unfold kernelRun0_B
    dsimp only
    sl_unfold_words
    simp only [View.canon_unit_zero (S := S1024x1408) hz, View.readCov_unit_zero (S := S1024x1408) _ hz, View.readAt_eq_ld,
      (hs0_0 t).read_unread, (hs0_1 t).read_unread, (Memref.isWhole_whole _).read_unread,
      View.ld_unit_zero (S := S2048x1024) hz, View.ld_unit_zero (S := S2048x1408) hz, View.ld_unit_zero (S := S1024x1408) hz]
end

variable (m : (ℓ : Loc nD τ sig) → Buf (Elt Ideal) ℓ) (c : Dev nD)

/-- The grid's block indices: row tile `t % 2`, column block `t / 2`. -/
theorem index_facts : ∀ t : Fin cfg0.N,
    (win0_0.index t (0 : Fin 2) = t.val % 2 ∧ win0_0.index t (1 : Fin 2) = 0)
    ∧ (win0_1.index t (0 : Fin 2) = t.val % 2 ∧ win0_1.index t (1 : Fin 2) = t.val / 2) :=
  (by decide +kernel : ∀ t : Fin grid0.N, _)

/-- The normalised input and the cotangent, as the launch finds them, read at a pair of naturals. -/
abbrev H : ℕ → ℕ → EReal := at2 (V m c main_v12 : S4096x1024.Idx → EReal)
abbrev D : ℕ → ℕ → EReal := at2 (V m c main_v13 : S4096x5632.Idx → EReal)

theorem bH_at (t : Fin cfg0.N) (a : Fin 2048) (p : Fin 1024) : bH m c t (ix2 a p) = H m c (2048 * (t.val % 2) + a.val) p.val := by
  have hN : t.val < 8 := lt_of_lt_of_eq t.isLt N_0
  obtain ⟨⟨e0, e1⟩, -⟩ := index_facts t
  refine Eq.trans ?_ (at2_eq (V m c main_v12 : S4096x1024.Idx → EReal) ⟨2048 * (t.val % 2) + a.val, by omega⟩ p).symm
  refine congrArg (V m c main_v12 : S4096x1024.Idx → EReal) (funext fun x => Fin.ext ?_)
  match x with
  | ⟨0, _⟩ => show win0_0.index t (0 : Fin 2) * 2048 + 1 * a.val = _; rw [e0]; show _ = 2048 * (t.val % 2) + a.val; omega
  | ⟨1, _⟩ => show win0_0.index t (1 : Fin 2) * 1024 + 1 * p.val = _; rw [e1]; show _ = p.val; omega

theorem bD_at (t : Fin cfg0.N) (a : Fin 2048) (f : Fin 1408) :
    bD m c t (ix2 a f) = D m c (2048 * (t.val % 2) + a.val) (1408 * (t.val / 2) + f.val) := by
  have hN : t.val < 8 := lt_of_lt_of_eq t.isLt N_0
  obtain ⟨-, e0, e1⟩ := index_facts t
  refine Eq.trans ?_ (at2_eq (V m c main_v13 : S4096x5632.Idx → EReal) ⟨2048 * (t.val % 2) + a.val, by omega⟩ ⟨1408 * (t.val / 2) + f.val, by omega⟩).symm
  refine congrArg (V m c main_v13 : S4096x5632.Idx → EReal) (funext fun x => Fin.ext ?_)
  match x with
  | ⟨0, _⟩ => show win0_1.index t (0 : Fin 2) * 2048 + 1 * a.val = _; rw [e0]; show _ = 2048 * (t.val % 2) + a.val; omega
  | ⟨1, _⟩ => show win0_1.index t (1 : Fin 2) * 1408 + 1 * f.val = _; rw [e1]; show _ = 1408 * (t.val / 2) + f.val; omega

/-- One tile's product added to `acc`. -/
theorem pay2_at (t : Fin cfg0.N) (acc : Vec Ideal S1024x1408 .f32) (p : Fin 1024) (f : Fin 1408) :
    k0_pay2 acc (bH m c t) (bD m c t) (ix2 p f) = acc (ix2 p f)
      + ∑ a : Fin 2048, H m c (2048 * (t.val % 2) + a.val) p.val * D m c (2048 * (t.val % 2) + a.val) (1408 * (t.val / 2) + f.val) := by
  pointwise [k0_pay2]
  simp only [bH_at, bD_at]

/-- What a point leaves is its step over some earlier state. -/
theorem outs_step (n : ℕ) (hn : n < cfg0.N) : ∃ acc, outsAt0 m c n hn = stAt0 m c n hn acc := by
  cases n with
  | zero => exact ⟨_, outsAt0_zero m c hn⟩
  | succ n => exact ⟨_, outsAt0_succ m c n hn⟩

/-- The sum so far. -/
theorem outs_sum (p : Fin 1024) (f : Fin 1408) : ∀ (n : ℕ) (hn : n < cfg0.N), (outsAt0 m c n hn).2 (ix2 p f)
    = ∑ k ∈ Finset.range (n % 2 + 1), ∑ a : Fin 2048, H m c (2048 * ((n / 2 * 2 + k) % 2) + a.val) p.val
      * D m c (2048 * ((n / 2 * 2 + k) % 2) + a.val) (1408 * ((n / 2 * 2 + k) / 2) + f.val) := by
  refine run_sum 2 (by decide) (fun n hn => (outsAt0 m c n hn).2 (ix2 p f))
    (fun n => ∑ a : Fin 2048, H m c (2048 * (n % 2) + a.val) p.val * D m c (2048 * (n % 2) + a.val) (1408 * (n / 2) + f.val))
    (fun n hn h0 => ?_) (fun n hn h0 => ?_)
  · obtain ⟨acc, e⟩ := outs_step m c n hn
    rw [e, stA m c ⟨n, hn⟩ acc h0 (by dsimp only; omega), pay2_at]
    pointwise [k0_pay1]
  · rw [outsAt0_succ, (stB m c ⟨n + 1, hn⟩ _ h0 (by dsimp only; omega)).2, pay2_at]

/-- The result: the normalised input, transposed, times the cotangent. -/
theorem G2_at (p : Fin 1024) (f : Fin 5632) :
    G2 m c (ix2 p f) = ∑ r : Fin 4096, H m c r.val p.val * D m c r.val f.val := by
  have hN : cfg0.N = 8 := N_0
  have hp : pt2Of (ix2 p f) = 2 * (f.val / 1408) + 1 := by
    show 2 * (4 * (p.val / 1024 - 0) + 1 * (f.val / 1408 - 0)) + 1 = _
    omega
  have hl : pt2Of (ix2 p f) < cfg0.N := by omega
  have hc : ∀ n (hn : n < cfg0.N), n % 2 = 1 → (outsAt0 m c n hn).1 = (outsAt0 m c n hn).2 := fun n hn h1 => by
    obtain ⟨acc, e⟩ := outs_step m c n hn
    have s := stB m c ⟨n, hn⟩ acc (by dsimp only; omega) h1
    rw [e]
    refine s.1.trans (Eq.trans ?_ s.2.symm)
    unfold k0_pay3
    exact shapeCast_self _ _
  unfold G2
  rw [dif_pos hl, ← outsAt0_sweep m c _ hl, hc _ hl (by omega)]
  rw [show loc2Of (ix2 p f) = ix2 ⟨p.val % 1024, by omega⟩ ⟨f.val % 1408, by omega⟩ from
    funext fun a => by match a with | ⟨0, _⟩ => rfl | ⟨1, _⟩ => rfl]
  refine (outs_sum m c _ _ _ hl).trans ?_
  rw [hp, show (2 * (f.val / 1408) + 1) % 2 + 1 = 2 by omega, show (2 * (f.val / 1408) + 1) / 2 = f.val / 1408 by omega]
  refine Eq.trans (Finset.sum_congr rfl fun i hi => ?_) (sum_tiles_fin 2 2048 (fun r => H m c r p.val * D m c r f.val))
  have := Finset.mem_range.mp hi
  dsimp only
  rw [show (f.val / 1408 * 2 + i) % 2 = i by omega, show (f.val / 1408 * 2 + i) / 2 = f.val / 1408 by omega,
    Nat.div_add_mod, Nat.mod_eq_of_lt p.isLt]

end Cert.GupIdeal.Result

end
-- ==== Proof.Gup.Claims.lean ====
module

public import proofs.«01_k».proof.Defs
public import proofs.«01_k».proof.Proof.Gen.Gup
public import proofs.«01_k».proof.Proof.Gen.GupIdeal
public import proofs.«01_k».proof.Proof.Gen.GupIdeal.Frame
public import proofs.«01_k».proof.Proof.Gen.GupRefIdeal
public import proofs.«01_k».proof.Proof.Gen.GupRefIdeal.Run
public import proofs.«01_k».proof.Proof.Gen.GupRefIdeal.Read
public import proofs.«01_k».proof.Proof.Gup.Result

/-! # The up projection's weight gradient: its claims -/

@[expose] public section

set_option maxRecDepth 16384

noncomputable section

open Idealize.ShloMosaic Idealize.ShloMosaic.TcCoe Idealize.SL.Sem

namespace Cert.GupClaims

open Cert.Reals

section
open Cert.GupIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run _ _ _).mono (fun r h => ⟨fun c => ⟨Value.kept_main_arg0 m r h.1 c, Value.kept_main_arg1 m r h.1 c, Value.kept_main_arg2 m r h.1 c⟩, h.2⟩) (Gen.run_main_quiescent m ρ)
end

/-- The two programs have one table of kernel bodies. -/
theorem bodies_eq {F : FTy → Type} [FloatOps F] : Cert.Gup.defs₀ (F := F) = Cert.GupIdeal.defs₀ (F := F) := by
  unfold Cert.Gup.defs₀ Cert.GupIdeal.defs₀
  congr 1
  funext l a
  match l, a with
  | 0, (t, s) => rfl

theorem defs_eq {F : FTy → Type} [FloatOps F] : Cert.Gup.defs (F := F) = Cert.GupIdeal.defs (F := F) := by
  unfold Cert.Gup.defs Cert.GupIdeal.defs
  rw [bodies_eq]
  rfl

/-- The kernel's own frame: the two programs have one text. -/
theorem frame_kernel : Cert.quiescent_Gup := fun m ρ _ => by
  rw [defs_eq]
  exact frame_run (F := Bits) m ρ

/-- The ideal program's frame. -/
theorem frame_ideal : Cert.quiescent_GupIdeal := fun m ρ _ => frame_run (F := Ideal) m ρ

/-- The reference's frame. -/
theorem frame_ref : Cert.quiescent_GupRefIdeal := fun m ρ _ =>
  (θ_run _ _ _).mono (fun r h => ⟨fun c => (h c).2, sem_eq_zero_of_no_sems (by decide) r.2⟩) (Cert.GupRefIdeal.Value.run (F := Ideal) m ρ)

/-- The normalised input the kernel's launch finds is the reference's. -/
theorem V_h (m : (ℓ : Loc Cert.GupIdeal.nD Cert.GupIdeal.τ Cert.GupIdeal.sig) → Buf (Elt Ideal) ℓ) (c : Dev Cert.GupIdeal.nD) :
    (Cert.GupIdeal.Gen.V m c Cert.GupIdeal.main_v12 : Cert.GupIdeal.S4096x1024.Idx → EReal)
      = Cert.GupRefIdeal.Read.val_main_v12 (F := Ideal) (m ((c.tc : Thread Cert.GupIdeal.nD Cert.GupIdeal.τ).loc Cert.GupIdeal.main_arg0))
          (m ((c.tc : Thread Cert.GupIdeal.nD Cert.GupIdeal.τ).loc Cert.GupIdeal.main_arg1)) := by
  unfold Cert.GupIdeal.Gen.V
  after_results
  rfl

theorem V_d (m : (ℓ : Loc Cert.GupIdeal.nD Cert.GupIdeal.τ Cert.GupIdeal.sig) → Buf (Elt Ideal) ℓ) (c : Dev Cert.GupIdeal.nD) :
    (Cert.GupIdeal.Gen.V m c Cert.GupIdeal.main_v13 : Cert.GupIdeal.S4096x5632.Idx → EReal)
      = (m ((c.tc : Thread Cert.GupIdeal.nD Cert.GupIdeal.τ).loc Cert.GupIdeal.main_arg2) : Cert.GupIdeal.S4096x5632.Idx → EReal) := by
  unfold Cert.GupIdeal.Gen.V
  after_results
  rfl

section
open Cert.GupRefIdeal Cert.GupRefIdeal.Read

/-- The reference's result at an index. -/
theorem v16_at (x0 : (⟨S4096x1024, .f32⟩ : BufTy).Contents (Elt Ideal)) (x1 : (⟨S1x1024, .f32⟩ : BufTy).Contents (Elt Ideal))
    (x2 : (⟨S4096x5632, .f32⟩ : BufTy).Contents (Elt Ideal)) (p : Fin 1024) (f : Fin 5632) :
    val_main_v16 x0 x1 x2 (ix2 p f) = ∑ r : Fin 4096, x2 (ix2 r f) * val_main_v12 x0 x1 (ix2 r p) := by
  pointwise [val_main_v16, val_main_v15, val_main_v14]
end

/-- Over the reals the kernel and the reference end with equal results. -/
theorem value : Cert.algebraic_GupIdeal_GupRefIdeal := by
  intro m ρ m' ρ' hm hmm
  refine ⟨fun c => Cert.GupIdeal.Value.G2 m c, Cert.GupIdeal.Value.run m ρ, ?_⟩
  refine (θ_run _ _ _).mono (fun r h c => ?_) (Cert.GupRefIdeal.Value.run (F := Ideal) m' ρ')
  obtain ⟨e0, e1, e2⟩ := hmm c
  obtain ⟨r0, k⟩ := h c
  rw [e0, e1, e2] at r0
  refine ⟨r0.trans ?_, k⟩
  refine ext2 fun p f => (v16_at _ _ _ p f).trans (Eq.trans ?_ (Cert.GupIdeal.Result.G2_at m c p f).symm)
  refine Finset.sum_congr rfl fun r _ => ?_
  rw [mul_comm]
  unfold Cert.GupIdeal.Result.H Cert.GupIdeal.Result.D
  rw [V_h, V_d]
  exact congrArg₂ (fun u v : EReal => u * v) (at2_eq _ r p).symm (at2_eq _ r f).symm

end Cert.GupClaims

end
-- ==== Proof.In.Body.lean ====
module

public import proofs.«01_k».proof.Defs
public import proofs.«01_k».proof.Proof.Gen.InIdeal.Value
public import proofs.«01_k».proof.Proof.Common.Reals
public import Idealize.ShloMosaic.Lib.Pipeline.Value
public import Idealize.ShloMosaic.Lib.Pipeline.ReadBack
public import Idealize.ShloMosaic.Lib.Tactic

/-! # The input projection's backward: what each grid point leaves -/

@[expose] public section

set_option maxRecDepth 16384

noncomputable section

open Idealize.ShloMosaic Idealize.ShloMosaic.TcCoe Idealize.SL.Sem

namespace Cert.InIdeal.Body

open Cert.InIdeal Cert.InIdeal.Gen Cert.InIdeal.Value Cert.Reals

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- Point `t`'s blocks: of the three cotangents, of the input, of the incoming gradient; and the gain and the weight. -/
abbrev bG : Vec F S512x2048 .bf16 := iblk m c 0 t
abbrev bA : Vec F S512x1024 .bf16 := iblk m c 1 t
abbrev bB : Vec F S512x768 .bf16 := iblk m c 2 t
abbrev bX : Vec F S512x1024 .f32 := iblk m c 3 t
abbrev bD : Vec F S512x1024 .f32 := iblk m c 4 t
abbrev bN : Vec F S1x1024 .f32 := iblk m c 5 t
abbrev bW : Vec F S3840x1024 .bf16 := iblk m c 6 t

/-- The rows from `o` to `o + 127` of a block of 512 rows. -/
abbrev rows (w o : ℕ) (h : o + 128 ≤ 512) : Rect ⟨2, ![512, w]⟩ :=
  Rect.unit (s := ⟨2, ![512, w]⟩) ![o, 0] ![128, w] (fun a => by
    match a with | ⟨0, _⟩ => exact h | ⟨1, _⟩ => exact le_of_eq (Nat.zero_add w))

/-- The cotangent of the normalised input on those rows: three products, one for each column range of the cotangent. -/
abbrev dh (o : ℕ) (h : o + 128 ≤ 512) : FVec F S128x1024 .f32 :=
  k0_pay4 (View.ld (bG m c t) (rows 2048 o h)) (View.ld (bW m c t) (Rect.unit (s := S3840x1024) ![1792, 0] S2048x1024.size inb_S3840x1024_S2048x1024_1792_0))
    (View.ld (bA m c t) (rows 1024 o h)) (View.ld (bW m c t) (Rect.unit (s := S3840x1024) ![0, 0] S1024x1024.size inb_S3840x1024_S1024x1024_0_0))
    (View.ld (bB m c t) (rows 768 o h)) (View.ld (bW m c t) (Rect.unit (s := S3840x1024) ![1024, 0] S768x1024.size inb_S3840x1024_S768x1024_1024_0))

/-- The input on those rows. -/
abbrev xs (o : ℕ) (h : o + 128 ≤ 512) : Vec F S128x1024 .f32 := View.ld (bX m c t) (rows 1024 o h)

/-- The input's gradient on those rows. -/
abbrev gx (o : ℕ) (h : o + 128 ≤ 512) : FVec F S128x1024 .f32 :=
  k0_pay13 (dh m c t o h) (xs m c t o h) (View.ld (bD m c t) (rows 1024 o h)) (bN m c t)

/-- What a point stores in the input's gradient. -/
abbrev pieces : List (View.Piece (Elt F) S512x1024 .f32) :=
  [⟨rows 1024 384 (by decide), gx m c t 384 (by decide)⟩, ⟨rows 1024 256 (by decide), gx m c t 256 (by decide)⟩,
    ⟨rows 1024 128 (by decide), gx m c t 128 (by decide)⟩, ⟨rows 1024 0 (by decide), gx m c t 0 (by decide)⟩]

/-- The gain's gradient after a point: `acc` and the four parts' sums. -/
abbrev gg (acc : Vec F S1x1024 .f32) : FVec F S1x1024 .f32 :=
  k0_pay3 (dh m c t 384 (by decide)) (k0_pay18 (dh m c t 256 (by decide)) (k0_pay18 (dh m c t 128 (by decide)) (k0_pay14 (dh m c t 0 (by decide)) (xs m c t 0 (by decide)))
    (xs m c t 128 (by decide))) (xs m c t 256 (by decide))) (k0_pay12 (xs m c t 384 (by decide))) acc

/-- The first point: the gain's gradient starts from the stored zeros. -/
theorem outsA (h0 : t.val % 8 = 0) :
    (outsAt0 m c t.val t.isLt).1 = View.canon (pieces m c t) ∧ (outsAt0 m c t.val t.isLt).2 = gg m c t k0_pay2 := by
  have e := outsAt0_A m c t h0
  generalize outsAt0 m c t.val t.isLt = s at e ⊢
  subst e
  dsimp only
  refine ⟨?_, ?_⟩
  on_goal 1 => unfold out0_A_7
  on_goal 1 => rw [View.read_writes_eq_canon _ _ _ (fun y => cover0_A_7 (y := y) ..)]
  on_goal 2 => unfold out0_A_8
  on_goal 2 => rw [View.read_writes_eq_canon _ _ _ (fun y => cover0_A_8 (y := y) ..)]
  all_goals
    unfold kernelRun0_A
    dsimp only
    sl_unfold_words
    simp only [View.canon_cons_unit_zero (S := S1x1024) hz, View.readCov_unit_zero (S := S1x1024) _ hz, View.readAt_eq_ld,
      (hs0_0 t).read_unread, (hs0_1 t).read_unread, (hs0_2 t).read_unread, (hs0_3 t).read_unread, (hs0_4 t).read_unread, (hs0_5 t).read_unread, (hs0_6 t).read_unread,
      View.ld_unit_zero (S := S1x1024) hz]
    rfl

/-- A later point: it adds to what was carried. -/
theorem outsB (h0 : ¬t.val % 8 = 0) :
    (outsAt0 m c t.val t.isLt).1 = View.canon (pieces m c t)
    ∧ (outsAt0 m c t.val t.isLt).2 = gg m c t (outsAt0 m c (t.val - 1) (lt_of_le_of_lt (Nat.sub_le _ _) t.isLt)).2 := by
  have e := outsAt0_B m c t h0
  generalize outsAt0 m c t.val t.isLt = s at e ⊢
  subst e
  dsimp only
  refine ⟨?_, ?_⟩
  on_goal 1 => unfold out0_B_7
  on_goal 1 => rw [View.read_writes_eq_canon _ _ _ (fun y => cover0_B_7 (y := y) ..)]
  on_goal 2 => unfold out0_B_8
  on_goal 2 => rw [View.read_writes_eq_canon _ _ _ (fun y => cover0_B_8 (y := y) ..)]
  all_goals
    unfold kernelRun0_B
    dsimp only
    sl_unfold_words
    simp only [View.canon_unit_zero (S := S1x1024) hz, View.readCov_unit_zero (S := S1x1024) _ hz, View.readAt_eq_ld,
      (hs0_0 t).read_unread, (hs0_1 t).read_unread, (hs0_2 t).read_unread, (hs0_3 t).read_unread, (hs0_4 t).read_unread, (hs0_5 t).read_unread, (hs0_6 t).read_unread,
      (hs0_8 t).read_unread, View.ld_unit_zero (S := S1x1024) hz]
    rfl

end Cert.InIdeal.Body

end
-- ==== Proof.In.Reads.lean ====
module

public import proofs.«01_k».proof.Proof.In.Body
public import proofs.«01_k».proof.Proof.Common.Norm
public import Idealize.ShloMosaic.Lib.Pointwise
public import Idealize.ShloMosaic.Lib.IdealHost

/-! # The input projection's backward: its blocks and payloads as real numbers -/

@[expose] public section

set_option maxRecDepth 16384

noncomputable section

open Idealize.ShloMosaic Idealize.ShloMosaic.TcCoe Idealize.SL.Sem

namespace Cert.InIdeal.Reads

open Cert.InIdeal Cert.InIdeal.Gen Cert.InIdeal.Value Cert.InIdeal.Body Cert.Reals

variable (m : (ℓ : Loc nD τ sig) → Buf (Elt Ideal) ℓ) (c : Dev nD) (t : Fin cfg0.N)

/-- The grid's block indices: row tile `t`; the gain and the weight are taken whole. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- The cotangent of the normalised input: the projection's cotangent times the weight, transposed. -/
def dnorm (W P : ℕ → ℕ → ℝ) (r d : ℕ) : ℝ := ∑ e : Fin 3840, P r e.val * W d e.val
/-- A row of the input. -/
def row (X : ℕ → ℕ → ℝ) (r : ℕ) (d : Fin 1024) : ℝ := X r d.val
/-- A row of that cotangent times the gain. -/
def rowD (N W P : ℕ → ℕ → ℝ) (r : ℕ) (d : Fin 1024) : ℝ := dnorm W P r d.val * N 0 d.val
/-- The input's gradient. -/
def gradX (X N W D P : ℕ → ℕ → ℝ) (r : ℕ) (d : Fin 1024) : ℝ := D r d.val + rmsBwd 1024 (row X r) (rowD N W P r) d
/-- One row's part of the gain's gradient. -/
def gradN (X W P : ℕ → ℕ → ℝ) (r d : ℕ) : ℝ := dnorm W P r d * (X r d * rinv 1024 (row X r))

/-- The program's five arguments hold the reals `X`, `N`, `W`, `D` and `P`. -/
structure Args (m : (ℓ : Loc nD τ sig) → Buf (Elt Ideal) ℓ) (c : Dev nD) (X N W D P : ℕ → ℕ → ℝ) : Prop where
  x : ∀ r f, (m ((c : Thread nD τ).loc main_arg0) : S4096x1024.Idx → EReal) (ix2 r f) = (X r.val f.val : EReal)
  n : ∀ r f, (m ((c : Thread nD τ).loc main_arg1) : S1x1024.Idx → EReal) (ix2 r f) = (N r.val f.val : EReal)
  w : ∀ r f, (m ((c : Thread nD τ).loc main_arg2) : S1024x3840.Idx → EReal) (ix2 r f) = (W r.val f.val : EReal)
  d : ∀ r f, (m ((c : Thread nD τ).loc main_arg3) : S4096x1024.Idx → EReal) (ix2 r f) = (D r.val f.val : EReal)
  p : ∀ r f, (m ((c : Thread nD τ).loc main_arg4) : S4096x3840.Idx → EReal) (ix2 r f) = (P r.val f.val : EReal)

variable {m c} {X N W D P : ℕ → ℕ → ℝ} (h : Args m c X N W D P)
include h

theorem V_g (r : Fin 4096) (f : Fin 2048) : (V m c main_v3 : S4096x2048.Idx → EReal) (ix2 r f) = ((P r.val (1792 + f.val) : ℝ) : EReal) := by
  unfold V
  after_results
  pointwise
  exact h.p r _

theorem V_a (r : Fin 4096) (f : Fin 1024) : (V m c main_v4 : S4096x1024.Idx → EReal) (ix2 r f) = ((P r.val f.val : ℝ) : EReal) := by
  unfold V
  after_results
  pointwise
  exact h.p r _

theorem V_b (r : Fin 4096) (f : Fin 768) : (V m c main_v5 : S4096x768.Idx → EReal) (ix2 r f) = ((P r.val (1024 + f.val) : ℝ) : EReal) := by
  unfold V
  after_results
  pointwise
  exact h.p r _

theorem V_w (e : Fin 3840) (d : Fin 1024) : (V m c main_v7 : S3840x1024.Idx → EReal) (ix2 e d) = ((W d.val e.val : ℝ) : EReal) := by
  unfold V
  after_results
  pointwise
  exact h.w d e

theorem bG_at (a : Fin 512) (f : Fin 2048) : bG m c t (ix2 a f) = ((P (512 * t.val + a.val) (1792 + f.val) : ℝ) : EReal) := by
  have hN : t.val < 8 := lt_of_lt_of_eq t.isLt N_0
  obtain ⟨⟨e0, e1⟩, -⟩ := index_facts t
  refine Eq.trans ?_ (V_g h ⟨512 * t.val + a.val, by omega⟩ f)
  refine congrArg (V m c main_v3 : S4096x2048.Idx → EReal) (funext fun x => Fin.ext ?_)
  match x with
  | ⟨0, _⟩ => show win0_0.index t (0 : Fin 2) * 512 + 1 * a.val = _; rw [e0]; show _ = 512 * t.val + a.val; omega
  | ⟨1, _⟩ => show win0_0.index t (1 : Fin 2) * 2048 + 1 * f.val = _; rw [e1]; show _ = f.val; omega

theorem bA_at (a : Fin 512) (f : Fin 1024) : bA m c t (ix2 a f) = ((P (512 * t.val + a.val) f.val : ℝ) : EReal) := by
  have hN : t.val < 8 := lt_of_lt_of_eq t.isLt N_0
  obtain ⟨-, ⟨e0, e1⟩, -⟩ := index_facts t
  refine Eq.trans ?_ (V_a h ⟨512 * t.val + a.val, by omega⟩ f)
  refine congrArg (V m c main_v4 : S4096x1024.Idx → EReal) (funext fun x => Fin.ext ?_)
  match x with
  | ⟨0, _⟩ => show win0_1.index t (0 : Fin 2) * 512 + 1 * a.val = _; rw [e0]; show _ = 512 * t.val + a.val; omega
  | ⟨1, _⟩ => show win0_1.index t (1 : Fin 2) * 1024 + 1 * f.val = _; rw [e1]; show _ = f.val; omega

theorem bB_at (a : Fin 512) (f : Fin 768) : bB m c t (ix2 a f) = ((P (512 * t.val + a.val) (1024 + f.val) : ℝ) : EReal) := by
  have hN : t.val < 8 := lt_of_lt_of_eq t.isLt N_0
  obtain ⟨-, -, ⟨e0, e1⟩, -⟩ := index_facts t
  refine Eq.trans ?_ (V_b h ⟨512 * t.val + a.val, by omega⟩ f)
  refine congrArg (V m c main_v5 : S4096x768.Idx → EReal) (funext fun x => Fin.ext ?_)
  match x with
  | ⟨0, _⟩ => show win0_2.index t (0 : Fin 2) * 512 + 1 * a.val = _; rw [e0]; show _ = 512 * t.val + a.val; omega
  | ⟨1, _⟩ => show win0_2.index t (1 : Fin 2) * 768 + 1 * f.val = _; rw [e1]; show _ = f.val; omega

theorem bX_at (a : Fin 512) (f : Fin 1024) : bX m c t (ix2 a f) = ((X (512 * t.val + a.val) f.val : ℝ) : EReal) := by
  have hN : t.val < 8 := lt_of_lt_of_eq t.isLt N_0
  obtain ⟨-, -, -, ⟨e0, e1⟩, -⟩ := index_facts t
  refine Eq.trans ?_ ((congrFun (V_main_arg0 m c) _).trans (h.x ⟨512 * t.val + a.val, by omega⟩ f))
  refine congrArg (V m c main_arg0 : S4096x1024.Idx → EReal) (funext fun x => Fin.ext ?_)
  match x with
  | ⟨0, _⟩ => show win0_3.index t (0 : Fin 2) * 512 + 1 * a.val = _; rw [e0]; show _ = 512 * t.val + a.val; omega
  | ⟨1, _⟩ => show win0_3.index t (1 : Fin 2) * 1024 + 1 * f.val = _; rw [e1]; show _ = f.val; omega

theorem bD_at (a : Fin 512) (f : Fin 1024) : bD m c t (ix2 a f) = ((D (512 * t.val + a.val) f.val : ℝ) : EReal) := by
  have hN : t.val < 8 := lt_of_lt_of_eq t.isLt N_0
  obtain ⟨-, -, -, -, ⟨e0, e1⟩, -⟩ := index_facts t
  refine Eq.trans ?_ ((congrFun (V_main_arg3 m c) _).trans (h.d ⟨512 * t.val + a.val, by omega⟩ f))
  refine congrArg (V m c main_arg3 : S4096x1024.Idx → EReal) (funext fun x => Fin.ext ?_)
  match x with
  | ⟨0, _⟩ => show win0_4.index t (0 : Fin 2) * 512 + 1 * a.val = _; rw [e0]; show _ = 512 * t.val + a.val; omega
  | ⟨1, _⟩ => show win0_4.index t (1 : Fin 2) * 1024 + 1 * f.val = _; rw [e1]; show _ = f.val; omega

theorem bN_at (a : Fin 1) (f : Fin 1024) : bN m c t (ix2 a f) = ((N a.val f.val : ℝ) : EReal) := by
  obtain ⟨-, -, -, -, -, ⟨e0, e1⟩, -⟩ := index_facts t
  refine Eq.trans ?_ ((congrFun (V_main_arg1 m c) _).trans (h.n a f))
  refine congrArg (V m c main_arg1 : S1x1024.Idx → EReal) (funext fun x => Fin.ext ?_)
  match x with
  | ⟨0, _⟩ => show win0_5.index t (0 : Fin 2) * 1 + 1 * a.val = _; rw [e0]; show _ = a.val; omega
  | ⟨1, _⟩ => show win0_5.index t (1 : Fin 2) * 1024 + 1 * f.val = _; rw [e1]; show _ = f.val; omega

theorem bW_at (e : Fin 3840) (d : Fin 1024) : bW m c t (ix2 e d) = ((W d.val e.val : ℝ) : EReal) := by
  obtain ⟨-, -, -, -, -, -, ⟨e0, e1⟩, -⟩ := index_facts t
  refine Eq.trans ?_ (V_w h e d)
  refine congrArg (V m c main_v7 : S3840x1024.Idx → EReal) (funext fun x => Fin.ext ?_)
  match x with
  | ⟨0, _⟩ => show win0_6.index t (0 : Fin 2) * 3840 + 1 * e.val = _; rw [e0]; show _ = e.val; omega
  | ⟨1, _⟩ => show win0_6.index t (1 : Fin 2) * 1024 + 1 * d.val = _; rw [e1]; show _ = d.val; omega

/-- The three products together are the whole product. -/
theorem dh_at (o : ℕ) (ho : o + 128 ≤ 512) (a : Fin 128) (d : Fin 1024) :
    dh m c t o ho (ix2 a d) = ((dnorm W P (512 * t.val + (o + a.val)) d.val : ℝ) : EReal) := by
  pointwise [k0_pay4]
  simp only [bG_at t h, bA_at t h, bB_at t h, bW_at t h, ← EReal.coe_mul, coe_sum, ← EReal.coe_add]
  refine congrArg Real.toEReal ?_
  unfold dnorm
  rw [sum_three (fun e => P (512 * t.val + (o + a.val)) e * W d.val e)]
  ring

theorem xs_at (o : ℕ) (ho : o + 128 ≤ 512) (a : Fin 128) (d : Fin 1024) :
    xs m c t o ho (ix2 a d) = ((row X (512 * t.val + (o + a.val)) d : ℝ) : EReal) := by
  show View.ld (bX m c t) (rows 1024 o ho) (ix2 a d) = _
  generalize hb : bX m c t = b
  pointwise []
  subst hb
  exact bX_at t h ⟨o + a.val, by omega⟩ d

/-- The rows' reciprocal root. -/
theorem r_at (o : ℕ) (ho : o + 128 ≤ 512) (a : Fin 128) (z : Fin 1) :
    k0_pay11 (xs m c t o ho) (ix2 a z) = ((rinv 1024 (row X (512 * t.val + (o + a.val))) : ℝ) : EReal) := by
  generalize hx : xs m c t o ho = x
  pointwise [k0_pay11]
  subst hx
  simp only [xs_at t h, ← EReal.coe_mul, coe_sum, word_1024, div_1024, word_eps, ← EReal.coe_add, rsqrt_1024]

/-- The normalised rows. -/
theorem n_at (o : ℕ) (ho : o + 128 ≤ 512) (a : Fin 128) (d : Fin 1024) :
    k0_pay12 (xs m c t o ho) (ix2 a d) = ((X (512 * t.val + (o + a.val)) d.val * rinv 1024 (row X (512 * t.val + (o + a.val))) : ℝ) : EReal) := by
  have e := r_at t h o ho a 0
  generalize hx : xs m c t o ho = x at e
  generalize hr : k0_pay11 x = y at e
  unfold k0_pay12
  rw [hr]
  pointwise []
  rw [e, ← hx, xs_at t h, ← EReal.coe_mul]
  rfl

/-- The input's gradient on a part's rows. -/
theorem gx_at (o : ℕ) (ho : o + 128 ≤ 512) (a : Fin 128) (d : Fin 1024) :
    gx m c t o ho (ix2 a d) = ((gradX X N W D P (512 * t.val + (o + a.val)) d : ℝ) : EReal) := by
  have er := r_at t h o ho a 0
  have en := n_at t h o ho a
  have ed := dh_at t h o ho a
  show k0_pay13 _ _ _ _ _ = _
  generalize dh m c t o ho = y at ed
  generalize xs m c t o ho = x at er en
  unfold k0_pay13
  generalize k0_pay11 x = r at er
  generalize k0_pay12 x = n at en
  pointwise []
  simp only [er, en, ed, bD_at t h, bN_at t h, ← EReal.coe_mul, coe_sum, word_1024, div_1024, ← EReal.coe_sub, ← EReal.coe_add]
  rfl

/-- A part's sum for the gain's gradient. -/
def part (X W P : ℕ → ℕ → ℝ) (r d : ℕ) : ℝ := ∑ a : Fin 128, gradN X W P (r + a.val) d

theorem pay14_at (o : ℕ) (ho : o + 128 ≤ 512) (z : Fin 1) (d : Fin 1024) :
    k0_pay14 (dh m c t o ho) (xs m c t o ho) (ix2 z d) = ((part X W P (512 * t.val + o) d.val : ℝ) : EReal) := by
  have en := fun a => n_at t h o ho a d
  have ed := fun a => dh_at t h o ho a d
  generalize dh m c t o ho = y at ed
  unfold k0_pay14
  generalize k0_pay12 (xs m c t o ho) = n at en
  pointwise []
  simp only [en, ed, ← EReal.coe_mul, coe_sum]
  simp only [← Nat.add_assoc]
  rfl

theorem pay18_at (o : ℕ) (ho : o + 128 ≤ 512) (acc : FVec Ideal S1x1024 .f32) (z : Fin 1) (d : Fin 1024) :
    k0_pay18 (dh m c t o ho) acc (xs m c t o ho) (ix2 z d) = acc (ix2 z d) + ((part X W P (512 * t.val + o) d.val : ℝ) : EReal) := by
  have en := fun a => n_at t h o ho a d
  have ed := fun a => dh_at t h o ho a d
  generalize dh m c t o ho = y at ed
  unfold k0_pay18
  rw [show k0_pay16 (xs m c t o ho) = k0_pay12 (xs m c t o ho) from rfl]
  generalize k0_pay12 (xs m c t o ho) = n at en
  pointwise []
  simp only [en, ed, ← EReal.coe_mul, coe_sum]
  simp only [← Nat.add_assoc]
  rfl

theorem pay3_at (o : ℕ) (ho : o + 128 ≤ 512) (p acc : FVec Ideal S1x1024 .f32) (z : Fin 1) (d : Fin 1024) :
    k0_pay3 (dh m c t o ho) p (k0_pay12 (xs m c t o ho)) acc (ix2 z d)
      = acc (ix2 z d) + (p (ix2 z d) + ((part X W P (512 * t.val + o) d.val : ℝ) : EReal)) := by
  have en := fun a => n_at t h o ho a d
  have ed := fun a => dh_at t h o ho a d
  generalize dh m c t o ho = y at ed
  generalize k0_pay12 (xs m c t o ho) = n at en
  pointwise [k0_pay3]
  simp only [en, ed, ← EReal.coe_mul, coe_sum]
  simp only [← Nat.add_assoc]
  rfl

/-- A point adds its 512 rows' part of the gain's gradient. -/
theorem gg_at (acc : Vec Ideal S1x1024 .f32) (z : Fin 1) (d : Fin 1024) :
    gg m c t acc (ix2 z d) = acc (ix2 z d) + ((∑ a : Fin 512, gradN X W P (512 * t.val + a.val) d.val : ℝ) : EReal) := by
  refine (pay3_at t h 384 (by decide) _ acc z d).trans (congrArg (fun u : EReal => acc (ix2 z d) + u) ?_)
  rw [pay18_at t h, pay18_at t h, pay14_at t h]
  simp only [← EReal.coe_add]
  refine congrArg Real.toEReal ?_
  rw [← sum_tiles_fin 4 128 (fun a => gradN X W P (512 * t.val + a) d.val)]
  simp only [Finset.sum_range_succ, Finset.sum_range_zero, ← Nat.add_assoc, part, Nat.mul_zero, Nat.mul_one, Nat.add_zero, zero_add, Nat.reduceMul]

end Cert.InIdeal.Reads

end
-- ==== Proof.In.Ref.lean ====
module

public import proofs.«01_k».proof.Proof.In.Reads
public import proofs.«01_k».proof.Proof.Gen.InRefIdeal.Read

/-! # The reference of the input projection's backward, read at an index -/

@[expose] public section

set_option maxRecDepth 16384

noncomputable section

open Idealize.ShloMosaic Idealize.ShloMosaic.TcCoe Idealize.SL.Sem

namespace Cert.InRefIdeal.Result

open Cert.InRefIdeal Cert.InRefIdeal.Read Cert.Reals Cert.InIdeal.Reads

variable {x0 : (⟨S4096x1024, .f32⟩ : BufTy).Contents (Elt Ideal)} {x1 : (⟨S1x1024, .f32⟩ : BufTy).Contents (Elt Ideal)}
  {x2 : (⟨S1024x3840, .f32⟩ : BufTy).Contents (Elt Ideal)} {x3 : (⟨S4096x1024, .f32⟩ : BufTy).Contents (Elt Ideal)}
  {x4 : (⟨S4096x3840, .f32⟩ : BufTy).Contents (Elt Ideal)} {X N W D P : ℕ → ℕ → ℝ}
  (hx : ∀ r f, x0 (ix2 r f) = ((X r.val f.val : ℝ) : EReal)) (hn : ∀ r f, x1 (ix2 r f) = ((N r.val f.val : ℝ) : EReal))
  (hw : ∀ r f, x2 (ix2 r f) = ((W r.val f.val : ℝ) : EReal)) (hd : ∀ r f, x3 (ix2 r f) = ((D r.val f.val : ℝ) : EReal))
  (hp : ∀ r f, x4 (ix2 r f) = ((P r.val f.val : ℝ) : EReal))

section
include hx
omit hn hw hd hp

/-- The rows' mean square. -/
theorem v6_at (r : Fin 4096) (z : Fin 1) : val_main_v6 x0 (ix2 r z) = ((msq 1024 (row X r.val) : ℝ) : EReal) := by
  pointwise [val_main_v6, val_main_v5, val_main_v4, val_main_v3, val_main_v2, val_main_v1, val_main_v0, val_main_cst, val_main_cst_0, val_main_cst_1]
  simp only [hx, ← EReal.coe_mul, coe_sum, word_1024, div_1024, word_eps, ← EReal.coe_add]
  rfl

/-- The rows' reciprocal root. -/
theorem v7_at (r : Fin 4096) (z : Fin 1) : val_main_v7 x0 (ix2 r z) = ((rinv 1024 (row X r.val) : ℝ) : EReal) := by
  pointwise [val_main_v7]
  rw [v6_at hx]
  exact rsqrt_coe _ (msq_pos 1024 (by norm_num) _)

theorem v12_at (r : Fin 4096) (d : Fin 1024) : val_main_v12 x0 (ix2 r d) = ((X r.val d.val * rinv 1024 (row X r.val) : ℝ) : EReal) := by
  pointwise [val_main_v12, val_main_v11]
  rw [v7_at hx, hx, ← EReal.coe_mul]

/-- Minus one half of the reciprocal root over the mean square. -/
theorem v10_at (r : Fin 4096) (z : Fin 1) :
    val_main_v10 x0 (ix2 r z) = ((-(1 / 2) * (rinv 1024 (row X r.val) / msq 1024 (row X r.val)) : ℝ) : EReal) := by
  pointwise [val_main_v10, val_main_v9, val_main_v8, val_main_cst_2]
  rw [v7_at hx, v6_at hx, word_neg_half, div_coe _ _ (msq_pos 1024 (by norm_num) _).ne', ← EReal.coe_mul]
end

section
include hw hp
omit hx hn hd

theorem v16_at (r : Fin 4096) (d : Fin 1024) : val_main_v16 x2 x4 (ix2 r d) = ((dnorm W P r.val d.val : ℝ) : EReal) := by
  pointwise [val_main_v16]
  simp only [hw, hp, ← EReal.coe_mul, coe_sum]
  rfl
end

section
include hn hw hp
omit hx hd

theorem v21_at (r : Fin 4096) (d : Fin 1024) : val_main_v21 x1 x2 x4 (ix2 r d) = ((rowD N W P r.val d : ℝ) : EReal) := by
  pointwise [val_main_v21, val_main_v20]
  rw [v16_at hw hp, hn, ← EReal.coe_mul]
  rfl
end

section
include hx hw hp
omit hn hd

/-- The reference's second result. -/
theorem v19_at (z : Fin 1) (d : Fin 1024) : val_main_v19 x0 x2 x4 (ix2 z d) = ((∑ r : Fin 4096, gradN X W P r.val d.val : ℝ) : EReal) := by
  pointwise [val_main_v19, val_main_v18, val_main_v17, val_main_cst_3]
  simp only [v12_at hx, v16_at hw hp, ← EReal.coe_mul, coe_sum]
  exact congrArg Real.toEReal (Finset.sum_congr rfl fun r _ => mul_comm _ _)
end

section
include hx hn hw hp
omit hd

theorem v31_at (r : Fin 4096) (d : Fin 1024) : val_main_v31 x0 x1 x2 x4 (ix2 r d)
    = (((∑ j, row X r.val j * rowD N W P r.val j) * (-(1 / 2) * (rinv 1024 (row X r.val) / msq 1024 (row X r.val))) / 1024 : ℝ) : EReal) := by
  pointwise [val_main_v31, val_main_v30, val_main_v29, val_main_v28, val_main_v27, val_main_v24, val_main_v23, val_main_v22, val_main_cst_4, val_main_cst_5, val_main_cst_6]
  simp only [v10_at hx, v21_at hn hw hp, hx, ← EReal.coe_mul, coe_sum, word_1024, div_1024]
  exact congrArg Real.toEReal (Fin.sum_univ_one _)
end

include hx hn hw hd hp

/-- The reference's first result. -/
theorem v36_at (r : Fin 4096) (d : Fin 1024) : val_main_v36 x0 x1 x2 x3 x4 (ix2 r d) = ((gradX X N W D P r.val d : ℝ) : EReal) := by
  pointwise [val_main_v36, val_main_v35, val_main_v34, val_main_v33, val_main_v32, val_main_v26, val_main_v25]
  rw [v21_at hn hw hp, v31_at hx hn hw hp, v7_at hx, hx, hd]
  simp only [← EReal.coe_mul, ← EReal.coe_add]
  refine congrArg Real.toEReal ?_
  unfold gradX
  rw [← rmsBwd_eq 1024 (by norm_num)]
  rfl

end Cert.InRefIdeal.Result

end
-- ==== Proof.In.Result.lean ====
module

public import proofs.«01_k».proof.Proof.In.Reads
public import proofs.«01_k».proof.Proof.Gen.InIdeal.Value
public import Idealize.ShloMosaic.Lib.Pipeline.Value
public import Idealize.ShloMosaic.Lib.Pipeline.ReadBack

/-! # The input projection's backward: what the kernel leaves in its two results -/

@[expose] public section

set_option maxRecDepth 16384

noncomputable section

open Idealize.ShloMosaic Idealize.ShloMosaic.TcCoe Idealize.SL.Sem

namespace Cert.InIdeal.Result

open Cert.InIdeal Cert.InIdeal.Gen Cert.InIdeal.Value Cert.InIdeal.Body Cert.InIdeal.Reads Cert.Reals

variable {m : (ℓ : Loc nD τ sig) → Buf (Elt Ideal) ℓ} {c : Dev nD} {X N W D P : ℕ → ℕ → ℝ} (h : Args m c X N W D P)

/-- The input's gradient on point `t`'s 512 rows. -/
def tile (X N W D P : ℕ → ℕ → ℝ) (t : ℕ) : S512x1024.Idx → EReal :=
  fun x => ((gradX X N W D P (512 * t + (x 0).val) (x 1) : ℝ) : EReal)

include h

theorem part_of (t : Fin cfg0.N) (o : ℕ) (ho : o + 128 ≤ 512) :
    ∀ x : (rows 1024 o ho).shape.Idx, gx m c t o ho x = tile X N W D P t.val ((rows 1024 o ho).emb x) :=
  all2 fun p f => (gx_at t h o ho p f).trans (congrArg (tile X N W D P t.val) (rows_emb2 _ p f (by omega))).symm

theorem pieces_of (t : Fin cfg0.N) : View.PiecesOf (tile X N W D P t.val) (pieces m c t) :=
  ⟨part_of h t 384 (by decide), part_of h t 256 (by decide), part_of h t 128 (by decide), part_of h t 0 (by decide), trivial⟩

omit h in
theorem rows_mem (o : ℕ) (ho : o + 128 ≤ 512) (p : Fin 512) (f : Fin 1024) (h0 : o ≤ p.val) (h1 : p.val < o + 128) :
    (ix2 p f : S512x1024.Idx) ∈ (rows 1024 o ho).set := rows_mem2 _ p f h0 h1

omit h in
theorem covered (t : Fin cfg0.N) (p : Fin 512) (f : Fin 1024) : ∃ pc ∈ pieces m c t, (ix2 p f : S512x1024.Idx) ∈ pc.1.set := by
  by_cases h0 : p.val < 128
  · exact ⟨_, .tail _ (.tail _ (.tail _ (.head _))), rows_mem 0 (by decide) p f (by omega) (by omega)⟩
  by_cases h1 : p.val < 256
  · exact ⟨_, .tail _ (.tail _ (.head _)), rows_mem 128 (by decide) p f (by omega) (by omega)⟩
  by_cases h2 : p.val < 384
  · exact ⟨_, .tail _ (.head _), rows_mem 256 (by decide) p f (by omega) (by omega)⟩
  · exact ⟨_, .head _, rows_mem 384 (by decide) p f (by omega) (by omega)⟩

/-- Every point leaves its tile of the input's gradient. -/
theorem outs_x (t : Fin cfg0.N) (p : Fin 512) (f : Fin 1024) :
    (outsAt0 m c t.val t.isLt).1 (ix2 p f) = ((gradX X N W D P (512 * t.val + p.val) f : ℝ) : EReal) := by
  have e : (outsAt0 m c t.val t.isLt).1 = View.canon (pieces m c t) := by
    by_cases h0 : t.val % 8 = 0
    · exact (outsA m c t h0).1
    · exact (outsB m c t h0).1
  rw [e]
  exact View.canon_apply_of_pieces (tile X N W D P t.val) _ (pieces_of h t).mem _ (covered t p f)

/-- The gain's gradient so far. -/
theorem outs_n (d : Fin 1024) : ∀ (n : ℕ) (hn : n < cfg0.N), (outsAt0 m c n hn).2 (ix2 0 d)
    = ∑ k ∈ Finset.range (n % 8 + 1), ((∑ a : Fin 512, gradN X W P (512 * (n / 8 * 8 + k) + a.val) d.val : ℝ) : EReal) := by
  refine run_sum 8 (by decide) (fun n hn => (outsAt0 m c n hn).2 (ix2 0 d))
    (fun n => ((∑ a : Fin 512, gradN X W P (512 * n + a.val) d.val : ℝ) : EReal)) (fun n hn h0 => ?_) (fun n hn h0 => ?_)
  · rw [(outsA m c ⟨n, hn⟩ h0).2, gg_at ⟨n, hn⟩ h]
    pointwise [k0_pay2]
  · rw [(outsB m c ⟨n + 1, hn⟩ h0).2, gg_at ⟨n + 1, hn⟩ h]
    rfl

/-- The first result: the input's gradient. -/
theorem r7_at (r : Fin 4096) (f : Fin 1024) :
    ((dats m 0 c).arrAt 7 cfg0.N : S4096x1024.Idx → EReal) (ix2 r f) = ((gradX X N W D P r.val f : ℝ) : EReal) := by
  have hN : cfg0.N = 8 := N_0
  have ht : r.val / 512 < cfg0.N := by omega
  have e := congrFun (blocks7 m c ⟨r.val / 512, ht⟩ (flush0_7 _)) (ix2 ⟨r.val % 512, by omega⟩ f)
  rw [flushed7] at e
  refine Eq.trans (Eq.trans ?_ e) ((outs_x h ⟨r.val / 512, ht⟩ ⟨r.val % 512, by omega⟩ f).trans ?_)
  · obtain ⟨-, -, -, -, -, -, -, ⟨e0, e1⟩, -⟩ := index_facts ⟨r.val / 512, ht⟩
    refine congrArg ((dats m 0 c).arrAt 7 cfg0.N : S4096x1024.Idx → EReal) (funext fun x => Fin.ext ?_)
    match x with
    | ⟨0, _⟩ => show r.val = win0_7.index ⟨r.val / 512, ht⟩ (0 : Fin 2) * 512 + 1 * (r.val % 512); rw [e0]; show r.val = r.val / 512 * 512 + 1 * (r.val % 512); omega
    | ⟨1, _⟩ => show f.val = win0_7.index ⟨r.val / 512, ht⟩ (1 : Fin 2) * 1024 + 1 * f.val; rw [e1]; omega
  · dsimp only
    rw [Nat.div_add_mod]

omit h in
theorem disjoint8 : ∀ t t' : Fin cfg0.N, (cfg0.win 8).flush t = true → (cfg0.win 8).flush t' = true → t ≠ t' →
    Disjoint ((cfg0.win 8).blk t).view.set ((cfg0.win 8).blk t').view.set := by
  intro t t' h h' hne
  have hN : cfg0.N = 8 := N_0
  have a := (flush0_8 t).mp h
  have b := (flush0_8 t').mp h'
  exact absurd (Fin.ext (by omega)) hne

/-- The second result: the gain's gradient. -/
theorem r8_at (z : Fin 1) (d : Fin 1024) :
    ((dats m 0 c).arrAt 8 cfg0.N : S1x1024.Idx → EReal) (ix2 z d) = ((∑ r : Fin 4096, gradN X W P r.val d.val : ℝ) : EReal) := by
  have hN : cfg0.N = 8 := N_0
  have ht : 7 < cfg0.N := by omega
  obtain rfl : z = 0 := Subsingleton.elim _ _
  have e := congrFun ((dats m 0 c).read_blk_arrAt_eq_flushed 8 disjoint8 cfg0.N ⟨7, ht⟩ ht ((flush0_8 _).mpr rfl)) (ix2 0 d)
  rw [flushed8] at e
  refine Eq.trans (Eq.trans ?_ e) ((outs_n h d 7 ht).trans ?_)
  · obtain ⟨-, -, -, -, -, -, -, -, ⟨e0, e1⟩⟩ := index_facts ⟨7, ht⟩
    refine congrArg ((dats m 0 c).arrAt 8 cfg0.N : S1x1024.Idx → EReal) (funext fun x => Fin.ext ?_)
    match x with
    | ⟨0, _⟩ => show 0 = win0_8.index ⟨7, ht⟩ (0 : Fin 2) * 1 + 1 * 0; rw [e0]
    | ⟨1, _⟩ => show d.val = win0_8.index ⟨7, ht⟩ (1 : Fin 2) * 1024 + 1 * d.val; rw [e1]; omega
  · exact (run_tiles 8 512 _ (fun r => gradN X W P r d.val) (fun i hi => by rw [show 7 / 8 * 8 + i = i by omega])).trans rfl

end Cert.InIdeal.Result

end
-- ==== Proof.In.Claims.lean ====
module

public import proofs.«01_k».proof.Defs
public import proofs.«01_k».proof.Proof.Gen.In
public import proofs.«01_k».proof.Proof.Gen.InIdeal
public import proofs.«01_k».proof.Proof.Gen.InIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.Pre_finite_in
public import proofs.«01_k».proof.Proof.In.Ref
public import proofs.«01_k».proof.Proof.In.Result

/-! # The input projection's backward: its claims -/

@[expose] public section

set_option maxRecDepth 16384

noncomputable section

open Idealize.ShloMosaic Idealize.ShloMosaic.TcCoe Idealize.SL.Sem

namespace Cert.InClaims

open Cert.Reals

section
open Cert.InIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c⟩, h.2⟩) (Gen.run_main_quiescent m ρ)
end

/-- The two programs have one table of kernel bodies. -/
theorem bodies_eq {F : FTy → Type} [FloatOps F] : Cert.In.defs₀ (F := F) = Cert.InIdeal.defs₀ (F := F) := by
  unfold Cert.In.defs₀ Cert.InIdeal.defs₀
  congr 1
  funext l a
  match l, a with
  | 0, (t, s) => rfl

theorem defs_eq {F : FTy → Type} [FloatOps F] : Cert.In.defs (F := F) = Cert.InIdeal.defs (F := F) := by
  unfold Cert.In.defs Cert.InIdeal.defs
  rw [bodies_eq]
  rfl

/-- The kernel's own frame: the two programs have one text. -/
theorem frame_kernel : Cert.quiescent_In := fun m ρ _ => by
  rw [defs_eq]
  exact frame_run (F := Bits) m ρ

/-- The ideal program's frame. -/
theorem frame_ideal : Cert.quiescent_InIdeal := fun m ρ _ => frame_run (F := Ideal) m ρ

/-- The reference's frame. -/
theorem frame_ref : Cert.quiescent_InRefIdeal := fun m ρ _ =>
  (θ_run _ _ _).mono (fun r h => ⟨fun c => (h c).2.2, sem_eq_zero_of_no_sems (by decide) r.2⟩) (Cert.InRefIdeal.Value.run (F := Ideal) m ρ)

/-- The ideal program's frame under the precondition. -/
theorem frame_ideal_pre : Cert.quiescent_InIdeal_pre_finite_in := fun m ρ _ => frame_run (F := Ideal) m ρ

/-- The reference's frame under the precondition. -/
theorem frame_ref_pre : Cert.quiescent_InRefIdeal_pre_finite_in := fun m ρ _ => frame_ref m ρ trivial
/-- The precondition gives real arguments. -/
theorem args_real (m : (ℓ : Loc Cert.InIdeal.nD Cert.InIdeal.τ Cert.InIdeal.sig) → Buf (Elt Ideal) ℓ) (hm : Cert.Pre_InIdeal_finite_in m)
    (c : Dev Cert.InIdeal.nD) : ∃ X N W D P, Cert.InIdeal.Reads.Args m c X N W D P := by
  obtain ⟨h0, h1, h2, h3, h4⟩ := hm c
  refine ⟨rd (m ((c.tc : Thread Cert.InIdeal.nD Cert.InIdeal.τ).loc Cert.InIdeal.main_arg0) : Cert.InIdeal.S4096x1024.Idx → EReal),
    rd (m ((c.tc : Thread Cert.InIdeal.nD Cert.InIdeal.τ).loc Cert.InIdeal.main_arg1) : Cert.InIdeal.S1x1024.Idx → EReal),
    rd (m ((c.tc : Thread Cert.InIdeal.nD Cert.InIdeal.τ).loc Cert.InIdeal.main_arg2) : Cert.InIdeal.S1024x3840.Idx → EReal),
    rd (m ((c.tc : Thread Cert.InIdeal.nD Cert.InIdeal.τ).loc Cert.InIdeal.main_arg3) : Cert.InIdeal.S4096x1024.Idx → EReal),
    rd (m ((c.tc : Thread Cert.InIdeal.nD Cert.InIdeal.τ).loc Cert.InIdeal.main_arg4) : Cert.InIdeal.S4096x3840.Idx → EReal), ?_⟩
  constructor
  · exact fun r f => rd_eq _ (congrFun h0) r f
  · exact fun r f => rd_eq _ (congrFun h1) r f
  · exact fun r f => rd_eq _ (congrFun h2) r f
  · exact fun r f => rd_eq _ (congrFun h3) r f
  · exact fun r f => rd_eq _ (congrFun h4) r f

/-- Over the reals the kernel and the reference end with equal results. -/
theorem value : Cert.algebraic_InIdeal_InRefIdeal_pre_finite_in := by
  intro m ρ m' ρ' hm hmm
  refine ⟨fun c => (Cert.InIdeal.Gen.dats m 0 c).arrAt 7 Cert.InIdeal.cfg0.N, fun c => (Cert.InIdeal.Gen.dats m 0 c).arrAt 8 Cert.InIdeal.cfg0.N,
    Cert.InIdeal.Value.run_blocks m ρ, ?_⟩
  refine (θ_run _ _ _).mono (fun r h c => ?_) (Cert.InRefIdeal.Value.run (F := Ideal) m' ρ')
  obtain ⟨X, N, W, D, P, hA⟩ := args_real m hm c
  obtain ⟨e0, e1, e2, e3, e4⟩ := hmm c
  obtain ⟨r0, r1, k⟩ := h c
  rw [Cert.InRefIdeal.Read.val_main_v36_eq, e0, e1, e2, e3, e4] at r0
  rw [e0, e2, e4] at r1
  refine ⟨r0.trans ?_, r1.trans ?_, k⟩
  · exact ext2 fun a b => (Cert.InRefIdeal.Result.v36_at hA.x hA.n hA.w hA.d hA.p a b).trans (Cert.InIdeal.Result.r7_at hA a b).symm
  · exact ext2 fun a b => (Cert.InRefIdeal.Result.v19_at hA.x hA.w hA.p a b).trans (Cert.InIdeal.Result.r8_at hA a b).symm

end Cert.InClaims

end
-- ==== Proof.Gin.Result.lean ====
module

public import proofs.«01_k».proof.Defs
public import proofs.«01_k».proof.Proof.Gen.GinIdeal.Value
public import proofs.«01_k».proof.Proof.Common.Reals
public import Idealize.ShloMosaic.Lib.Pipeline.Value
public import Idealize.ShloMosaic.Lib.Pipeline.ReadBack
public import Idealize.ShloMosaic.Lib.Tactic

/-! # The input projection's weight gradient: what the kernel leaves in its result -/

@[expose] public section

set_option maxRecDepth 16384

noncomputable section

open Idealize.ShloMosaic Idealize.ShloMosaic.TcCoe Idealize.SL.Sem

namespace Cert.GinIdeal.Result

open Cert.GinIdeal Cert.GinIdeal.Gen Cert.GinIdeal.Value Cert.Reals

section
variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- Point `t`'s blocks: of the normalised input and of the three cotangents. -/
abbrev bH : Vec F S1024x1024 .bf16 := iblk m c 0 t
abbrev bX : Vec F S1024x1024 .bf16 := iblk m c 1 t
abbrev bY : Vec F S1024x768 .bf16 := iblk m c 2 t
abbrev bZ : Vec F S1024x2048 .bf16 := iblk m c 3 t

/-- The three column ranges of the sum. -/
abbrev rX : Rect S1024x3840 := Rect.unit (s := S1024x3840) ![0, 0] S1024x1024.size inb_S1024x3840_S1024x1024_0_0
abbrev rY : Rect S1024x3840 := Rect.unit (s := S1024x3840) ![0, 1024] S1024x768.size inb_S1024x3840_S1024x768_0_1024
abbrev rZ : Rect S1024x3840 := Rect.unit (s := S1024x3840) ![0, 1792] S1024x2048.size inb_S1024x3840_S1024x2048_0_1792

/-- What a point stores in the sum, range by range: the products added to `acc`. -/
abbrev pieces (acc : Vec F S1024x3840 .f32) : List (View.Piece (Elt F) S1024x3840 .f32) :=
  [⟨rZ, k0_pay9 (bH m c t) (View.ld acc rZ) (bZ m c t)⟩, ⟨rY, k0_pay8 (bH m c t) (View.ld acc rY) (bY m c t)⟩,
    ⟨rX, k0_pay7 (bH m c t) (View.ld acc rX) (bX m c t)⟩]

/-- A row tile after the first: the products added to what was carried. -/
theorem stB (acc : Vec F S4x1024x960 .bf16 × Vec F S1024x3840 .f32) (h0 : ¬t.val % 4 = 0) (h1 : ¬t.val % 4 = 3) :
    (stAt0 m c t.val t.isLt acc).2 = View.canon (pieces m c t acc.2) := by
  rw [stAt0_B m c t acc h0 h1]
  dsimp only
  unfold sout0_B_0
  rw [View.read_writes_eq_canon _ _ _ (fun y => scover0_B_0 (y := y) ..)]
  unfold kernelRun0_B
  dsimp only
  sl_unfold_words
  simp only [View.readAt_eq_ld, (hs0_0 t).read_unread, (hs0_1 t).read_unread, (hs0_2 t).read_unread, (hs0_3 t).read_unread,
    (Memref.isWhole_whole _).read_unread,
    View.ld_unit_zero (S := S1024x1024) hz, View.ld_unit_zero (S := S1024x768) hz, View.ld_unit_zero (S := S1024x2048) hz]

/-- The first row tile: the products added to the stored zeros. -/
theorem stA (acc : Vec F S4x1024x960 .bf16 × Vec F S1024x3840 .f32) (h0 : t.val % 4 = 0) (h1 : ¬t.val % 4 = 3) :
    (stAt0 m c t.val t.isLt acc).2 = View.canon (pieces m c t k0_pay5
      ++ [⟨Rect.unit (s := S1024x3840) ![0, 0] S1024x3840.size inb_S1024x3840_S1024x3840_0_0, k0_pay5⟩]) := by
  rw [stAt0_A m c t acc h0 h1]
  dsimp only
  unfold sout0_A_0
  rw [View.read_writes_eq_canon _ _ _ (fun y => scover0_A_0 (y := y) ..)]
  unfold kernelRun0_A
  dsimp only
  sl_unfold_words
  simp only [View.readAt_eq_ld, (hs0_0 t).read_unread, (hs0_1 t).read_unread, (hs0_2 t).read_unread, (hs0_3 t).read_unread,
    View.ld_unit_zero (S := S1024x1024) hz, View.ld_unit_zero (S := S1024x768) hz, View.ld_unit_zero (S := S1024x2048) hz]
  have z : ∀ a, (![0, 0] : Fin 2 → Nat) a = 0 := fun a => congrFun hz a
  rw [View.readCov_skip _ rY _ _ rZ.toLoadRect (by decide +kernel), View.readCov_skip _ rX _ _ rZ.toLoadRect (by decide +kernel),
    View.readCov_skip _ rX _ _ rY.toLoadRect (by decide +kernel)]
  rw [View.readCov_fill (s := S1024x3840) _ _ _ _ rZ z, View.readCov_fill (s := S1024x3840) _ _ _ _ rY z,
    View.readCov_fill (s := S1024x3840) _ _ _ _ rX z]
  rfl

/-- The last row tile: the sum, and the sum copied out block of columns by block of columns. -/
theorem stC (acc : Vec F S4x1024x960 .bf16 × Vec F S1024x3840 .f32) (h0 : ¬t.val % 4 = 0) (h1 : t.val % 4 = 3) :
    (stAt0 m c t.val t.isLt acc).1 = View.canon
      [⟨Rect.unit (s := S4x1024x960) ![3, 0, 0] S1x1024x960.size inb_S4x1024x960_S1x1024x960_3_0_0, k0_pay4 (View.ld (View.canon (pieces m c t acc.2)) (Rect.unit (s := S1024x3840) ![0, 2880] S1024x960.size inb_S1024x3840_S1024x960_0_2880))⟩,
       ⟨Rect.unit (s := S4x1024x960) ![2, 0, 0] S1x1024x960.size inb_S4x1024x960_S1x1024x960_2_0_0, k0_pay3 (View.ld (View.canon (pieces m c t acc.2)) (Rect.unit (s := S1024x3840) ![0, 1920] S1024x960.size inb_S1024x3840_S1024x960_0_1920))⟩,
       ⟨Rect.unit (s := S4x1024x960) ![1, 0, 0] S1x1024x960.size inb_S4x1024x960_S1x1024x960_1_0_0, k0_pay2 (View.ld (View.canon (pieces m c t acc.2)) (Rect.unit (s := S1024x3840) ![0, 960] S1024x960.size inb_S1024x3840_S1024x960_0_960))⟩,
       ⟨Rect.unit (s := S4x1024x960) ![0, 0, 0] S1x1024x960.size inb_S4x1024x960_S1x1024x960_0_0_0, k0_pay1 (View.ld (View.canon (pieces m c t acc.2)) (Rect.unit (s := S1024x3840) ![0, 0] S1024x960.size inb_S1024x3840_S1024x960_0_0))⟩]
    ∧ (stAt0 m c t.val t.isLt acc).2 = View.canon (pieces m c t acc.2) := by
  have e := stAt0_C m c t acc h0 h1
  generalize stAt0 m c t.val t.isLt acc = s at e ⊢
  subst e
  dsimp only
  refine ⟨?_, ?_⟩
  on_goal 1 => unfold out0_C_4
  on_goal 1 => rw [View.read_writes_eq_canon _ _ _ (fun y => cover0_C_4 (y := y) ..)]
  on_goal 2 => unfold sout0_C_0
  on_goal 2 => rw [View.read_writes_eq_canon _ _ _ (fun y => scover0_C_0 (y := y) ..)]
  all_goals
    unfold kernelRun0_C
    dsimp only
    sl_unfold_words
    simp only [View.readAt_eq_ld, (hs0_0 t).read_unread, (hs0_1 t).read_unread, (hs0_2 t).read_unread, (hs0_3 t).read_unread,
      (Memref.isWhole_whole _).read_unread, View.readCov_eq_canon',
      View.ld_unit_zero (S := S1024x1024) hz, View.ld_unit_zero (S := S1024x768) hz, View.ld_unit_zero (S := S1024x2048) hz]
end

variable (m : (ℓ : Loc nD τ sig) → Buf (Elt Ideal) ℓ) (c : Dev nD)

/-- The grid's block indices: row tile `t`. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The normalised input, as the launch finds it, read at a pair of naturals. -/
abbrev H : ℕ → ℕ → EReal := at2 (V m c main_v15 : S4096x1024.Idx → EReal)

/-- The three cotangents side by side, read at a pair of naturals. -/
def D (r f : ℕ) : EReal :=
  if f < 1024 then at2 (V m c main_v16 : S4096x1024.Idx → EReal) r f
  else if f < 1792 then at2 (V m c main_v17 : S4096x768.Idx → EReal) r (f - 1024)
  else at2 (V m c main_v18 : S4096x2048.Idx → EReal) r (f - 1792)

/-- A block of 1024 rows at block index `(t, 0)` reads row `1024 t + a`. -/
theorem bH_at (t : Fin cfg0.N) (a : Fin 1024) (p : Fin 1024) : bH m c t (ix2 a p) = H m c (1024 * t.val + a.val) p.val := by
  have hN : t.val < 4 := lt_of_lt_of_eq t.isLt N_0
  obtain ⟨⟨e0, e1⟩, -⟩ := index_facts t
  refine Eq.trans ?_ (at2_eq (V m c main_v15 : S4096x1024.Idx → EReal) ⟨1024 * t.val + a.val, by omega⟩ p).symm
  refine congrArg (V m c main_v15 : S4096x1024.Idx → EReal) (funext fun x => Fin.ext ?_)
  match x with
  | ⟨0, _⟩ => show win0_0.index t (0 : Fin 2) * 1024 + 1 * a.val = _; rw [e0]; show _ = 1024 * t.val + a.val; omega
  | ⟨1, _⟩ => show win0_0.index t (1 : Fin 2) * 1024 + 1 * p.val = _; rw [e1]; show _ = p.val; omega

theorem bX_at (t : Fin cfg0.N) (a : Fin 1024) (f : Fin 1024) : bX m c t (ix2 a f) = D m c (1024 * t.val + a.val) f.val := by
  have hN : t.val < 4 := lt_of_lt_of_eq t.isLt N_0
  obtain ⟨-, ⟨e0, e1⟩, -⟩ := index_facts t
  unfold D
  rw [if_pos f.isLt]
  refine Eq.trans ?_ (at2_eq (V m c main_v16 : S4096x1024.Idx → EReal) ⟨1024 * t.val + a.val, by omega⟩ f).symm
  refine congrArg (V m c main_v16 : S4096x1024.Idx → EReal) (funext fun x => Fin.ext ?_)
  match x with
  | ⟨0, _⟩ => show win0_1.index t (0 : Fin 2) * 1024 + 1 * a.val = _; rw [e0]; show _ = 1024 * t.val + a.val; omega
  | ⟨1, _⟩ => show win0_1.index t (1 : Fin 2) * 1024 + 1 * f.val = _; rw [e1]; show _ = f.val; omega

theorem bY_at (t : Fin cfg0.N) (a : Fin 1024) (f : Fin 768) : bY m c t (ix2 a f) = D m c (1024 * t.val + a.val) (1024 + f.val) := by
  have hN : t.val < 4 := lt_of_lt_of_eq t.isLt N_0
  obtain ⟨-, -, ⟨e0, e1⟩, -⟩ := index_facts t
  unfold D
  rw [if_neg (by omega), if_pos (by omega), Nat.add_sub_cancel_left]
  refine Eq.trans ?_ (at2_eq (V m c main_v17 : S4096x768.Idx → EReal) ⟨1024 * t.val + a.val, by omega⟩ f).symm
  refine congrArg (V m c main_v17 : S4096x768.Idx → EReal) (funext fun x => Fin.ext ?_)
  match x with
  | ⟨0, _⟩ => show win0_2.index t (0 : Fin 2) * 1024 + 1 * a.val = _; rw [e0]; show _ = 1024 * t.val + a.val; omega
  | ⟨1, _⟩ => show win0_2.index t (1 : Fin 2) * 768 + 1 * f.val = _; rw [e1]; show _ = f.val; omega

theorem bZ_at (t : Fin cfg0.N) (a : Fin 1024) (f : Fin 2048) : bZ m c t (ix2 a f) = D m c (1024 * t.val + a.val) (1792 + f.val) := by
  have hN : t.val < 4 := lt_of_lt_of_eq t.isLt N_0
  obtain ⟨-, -, -, e0, e1⟩ := index_facts t
  unfold D
  rw [if_neg (by omega), if_neg (by omega), Nat.add_sub_cancel_left]
  refine Eq.trans ?_ (at2_eq (V m c main_v18 : S4096x2048.Idx → EReal) ⟨1024 * t.val + a.val, by omega⟩ f).symm
  refine congrArg (V m c main_v18 : S4096x2048.Idx → EReal) (funext fun x => Fin.ext ?_)
  match x with
  | ⟨0, _⟩ => show win0_3.index t (0 : Fin 2) * 1024 + 1 * a.val = _; rw [e0]; show _ = 1024 * t.val + a.val; omega
  | ⟨1, _⟩ => show win0_3.index t (1 : Fin 2) * 2048 + 1 * f.val = _; rw [e1]; show _ = f.val; omega

/-- One tile's product added to `acc`, as a function of the index. -/
def add (t : ℕ) (acc : Vec Ideal S1024x3840 .f32) : Vec Ideal S1024x3840 .f32 := fun y => acc y
  + ∑ a : Fin 1024, H m c (1024 * t + a.val) (y 0).val * D m c (1024 * t + a.val) (y 1).val

/-- Each stored range holds the tile's product added to `acc`. -/
theorem pieces_of (t : Fin cfg0.N) (acc : Vec Ideal S1024x3840 .f32) :
    View.PiecesOf (add m c t.val acc) (pieces m c t acc) := by
  refine ⟨all2 fun p f => ?_, all2 fun p f => ?_, all2 fun p f => ?_, trivial⟩
  · rw [show rZ.emb (ix2 p f) = ix2 p ⟨1792 + f.val, by omega⟩ from unit_emb2 _ _ _ _]
    pointwise [k0_pay9, k0_pay6]
    simp only [bH_at, bZ_at]
    rfl
  · rw [show rY.emb (ix2 p f) = ix2 p ⟨1024 + f.val, by omega⟩ from unit_emb2 _ _ _ _]
    pointwise [k0_pay8, k0_pay6]
    simp only [bH_at, bY_at]
    rfl
  · rw [show rX.emb (ix2 p f) = ix2 p ⟨f.val, by omega⟩ from (unit_emb2 _ _ _ (by omega)).trans (congrArg (ix2 p) (Fin.ext (Nat.zero_add _)))]
    pointwise [k0_pay7, k0_pay6]
    simp only [bH_at, bX_at]
    rfl

/-- The three ranges cover the sum. -/
theorem covered (t : Fin cfg0.N) (acc : Vec Ideal S1024x3840 .f32) (y : S1024x3840.Idx) :
    ∃ pc ∈ pieces m c t acc, y ∈ pc.1.set := by
  have h0 : (y 0).val < 1024 := (y 0).isLt
  have h1 : (y 1).val < 3840 := (y 1).isLt
  by_cases hx : (y 1).val < 1024
  · exact ⟨_, .tail _ (.tail _ (.head _)), (Rect.mem_set_unit (inb := inb_S1024x3840_S1024x1024_0_0)).mpr fun a => by
      match a with
      | ⟨0, _⟩ => exact ⟨Nat.zero_le _, lt_of_lt_of_eq h0 (Nat.zero_add 1024).symm⟩
      | ⟨1, _⟩ => exact ⟨Nat.zero_le _, lt_of_lt_of_eq hx (Nat.zero_add 1024).symm⟩⟩
  by_cases hy : (y 1).val < 1792
  · exact ⟨_, .tail _ (.head _), (Rect.mem_set_unit (inb := inb_S1024x3840_S1024x768_0_1024)).mpr fun a => by
      match a with
      | ⟨0, _⟩ => exact ⟨Nat.zero_le _, lt_of_lt_of_eq h0 (Nat.zero_add 1024).symm⟩
      | ⟨1, _⟩ => exact ⟨Nat.le_of_not_lt hx, hy⟩⟩
  · exact ⟨_, .head _, (Rect.mem_set_unit (inb := inb_S1024x3840_S1024x2048_0_1792)).mpr fun a => by
      match a with
      | ⟨0, _⟩ => exact ⟨Nat.zero_le _, lt_of_lt_of_eq h0 (Nat.zero_add 1024).symm⟩
      | ⟨1, _⟩ => exact ⟨Nat.le_of_not_lt hy, h1⟩⟩

theorem canon_pieces (t : Fin cfg0.N) (acc : Vec Ideal S1024x3840 .f32) : View.canon (pieces m c t acc) = add m c t.val acc :=
  funext fun y => View.canon_apply_of_pieces _ _ (pieces_of m c t acc).mem y (covered m c t acc y)

/-- What a point leaves is its step over some earlier state. -/
theorem outs_step (n : ℕ) (hn : n < cfg0.N) : ∃ acc, outsAt0 m c n hn = stAt0 m c n hn acc := by
  cases n with
  | zero => exact ⟨_, outsAt0_zero m c hn⟩
  | succ n => exact ⟨_, outsAt0_succ m c n hn⟩

/-- A point after the first adds its tile's product to what was carried. -/
theorem st_add (t : Fin cfg0.N) (acc : Vec Ideal S4x1024x960 .bf16 × Vec Ideal S1024x3840 .f32) (h0 : ¬t.val % 4 = 0) :
    (stAt0 m c t.val t.isLt acc).2 = add m c t.val acc.2 := by
  rw [← canon_pieces]
  by_cases h1 : t.val % 4 = 3
  · exact (stC m c t acc h0 h1).2
  · exact stB m c t acc h0 h1

/-- The sum so far. -/
theorem outs_sum (p : Fin 1024) (f : Fin 3840) : ∀ (n : ℕ) (hn : n < cfg0.N), (outsAt0 m c n hn).2 (ix2 p f)
    = ∑ k ∈ Finset.range (n % 4 + 1), ∑ a : Fin 1024, H m c (1024 * (n / 4 * 4 + k) + a.val) p.val
      * D m c (1024 * (n / 4 * 4 + k) + a.val) f.val := by
  refine run_sum 4 (by decide) (fun n hn => (outsAt0 m c n hn).2 (ix2 p f))
    (fun n => ∑ a : Fin 1024, H m c (1024 * n + a.val) p.val * D m c (1024 * n + a.val) f.val)
    (fun n hn h0 => ?_) (fun n hn h0 => ?_)
  · obtain ⟨acc, e⟩ := outs_step m c n hn
    rw [e, stA m c ⟨n, hn⟩ acc h0 (by dsimp only; omega),
      View.canon_append_of_piecesOf _ _ _ (pieces_of m c ⟨n, hn⟩ _) _ (covered m c ⟨n, hn⟩ _ _)]
    show k0_pay5 (F := Ideal) (ix2 p f) + _ = _
    pointwise [k0_pay5]
  · rw [outsAt0_succ, st_add m c ⟨n + 1, hn⟩ _ h0]
    rfl

/-- What the last point stores in the result: the sum's columns, block by block. -/
abbrev outPieces (S : Vec Ideal S1024x3840 .f32) : List (View.Piece (Elt Ideal) S4x1024x960 .bf16) :=
  [⟨Rect.unit (s := S4x1024x960) ![3, 0, 0] S1x1024x960.size inb_S4x1024x960_S1x1024x960_3_0_0, k0_pay4 (View.ld S (Rect.unit (s := S1024x3840) ![0, 2880] S1024x960.size inb_S1024x3840_S1024x960_0_2880))⟩,
    ⟨Rect.unit (s := S4x1024x960) ![2, 0, 0] S1x1024x960.size inb_S4x1024x960_S1x1024x960_2_0_0, k0_pay3 (View.ld S (Rect.unit (s := S1024x3840) ![0, 1920] S1024x960.size inb_S1024x3840_S1024x960_0_1920))⟩,
    ⟨Rect.unit (s := S4x1024x960) ![1, 0, 0] S1x1024x960.size inb_S4x1024x960_S1x1024x960_1_0_0, k0_pay2 (View.ld S (Rect.unit (s := S1024x3840) ![0, 960] S1024x960.size inb_S1024x3840_S1024x960_0_960))⟩,
    ⟨Rect.unit (s := S4x1024x960) ![0, 0, 0] S1x1024x960.size inb_S4x1024x960_S1x1024x960_0_0_0, k0_pay1 (View.ld S (Rect.unit (s := S1024x3840) ![0, 0] S1024x960.size inb_S1024x3840_S1024x960_0_0))⟩]

/-- Block `q` of the result holds columns `960 q` to `960 q + 959`. -/
abbrev blockOf (S : Vec Ideal S1024x3840 .f32) : S4x1024x960.Idx → EReal := fun z => at2 S (z 1).val (960 * (z 0).val + (z 2).val)

theorem outPieces_of (S : Vec Ideal S1024x3840 .f32) : View.PiecesOf (blockOf S) (outPieces S) := by
  refine ⟨all3 fun u p j => ?_, all3 fun u p j => ?_, all3 fun u p j => ?_, all3 fun u p j => ?_, trivial⟩
  · rw [unit_emb3]
    pointwise [k0_pay4]
    exact (at2_eq S p ⟨2880 + j.val, by omega⟩).symm
  · rw [unit_emb3]
    pointwise [k0_pay3]
    exact (at2_eq S p ⟨1920 + j.val, by omega⟩).symm
  · rw [unit_emb3]
    pointwise [k0_pay2]
    exact (at2_eq S p ⟨960 + j.val, by omega⟩).symm
  · rw [unit_emb3]
    pointwise [k0_pay1]
    exact (at2_eq S p ⟨j.val, by omega⟩).symm.trans (congrArg (at2 S p.val) (Nat.zero_add j.val).symm)

theorem outCovered (S : Vec Ideal S1024x3840 .f32) : ∀ (q : Fin 4) (p : Fin 1024) (j : Fin 960), ∃ pc ∈ outPieces S, (ix3 q p j : S4x1024x960.Idx) ∈ pc.1.set
  | 0, p, j => ⟨_, .tail _ (.tail _ (.tail _ (.head _))), slice_mem3 inb_S4x1024x960_S1x1024x960_0_0_0 _ p j⟩
  | 1, p, j => ⟨_, .tail _ (.tail _ (.head _)), slice_mem3 inb_S4x1024x960_S1x1024x960_1_0_0 _ p j⟩
  | 2, p, j => ⟨_, .tail _ (.head _), slice_mem3 inb_S4x1024x960_S1x1024x960_2_0_0 _ p j⟩
  | 3, p, j => ⟨_, .head _, slice_mem3 inb_S4x1024x960_S1x1024x960_3_0_0 _ p j⟩

theorem blocks_at (S : Vec Ideal S1024x3840 .f32) (q : Fin 4) (p : Fin 1024) (j : Fin 960) :
    View.canon (outPieces S) (ix3 q p j) = S (ix2 p ⟨960 * q.val + j.val, by omega⟩) :=
  (View.canon_apply_of_pieces (blockOf S) _ (outPieces_of S).mem _ (outCovered S q p j)).trans (at2_eq S p ⟨960 * q.val + j.val, by omega⟩)

/-- The result, block `q` of 960 columns: the normalised input, transposed, times the cotangents. -/
theorem G4_at (q : Fin 4) (p : Fin 1024) (j : Fin 960) :
    G4 m c (ix3 q p j) = ∑ r : Fin 4096, H m c r.val p.val * D m c r.val (960 * q.val + j.val) := by
  have hN : cfg0.N = 4 := N_0
  have h3 : 3 < cfg0.N := by omega
  have e : ∀ f : Fin 3840, (outsAt0 m c 3 h3).2 (ix2 p f) = ∑ r : Fin 4096, H m c r.val p.val * D m c r.val f.val := fun f => by
    refine (outs_sum m c p f 3 h3).trans (Eq.trans (Finset.sum_congr rfl fun i hi => ?_)
      (sum_tiles_fin 4 1024 (fun r => H m c r p.val * D m c r f.val)))
    rw [show 3 / 4 * 4 + i = i by omega]
  obtain ⟨acc, ea⟩ := outs_step m c 3 h3
  have s := stC m c ⟨3, h3⟩ acc (by dsimp only; omega) (by dsimp only)
  rw [← s.2] at s
  rw [G4_last, ← outsAt0_sweep m c _ h3, ea, s.1, ← ea]
  exact (blocks_at _ q p j).trans (e _)

end Cert.GinIdeal.Result

end
-- ==== Proof.Gin.Claims.lean ====
module

public import proofs.«01_k».proof.Defs
public import proofs.«01_k».proof.Proof.Gen.Gin
public import proofs.«01_k».proof.Proof.Gen.GinIdeal
public import proofs.«01_k».proof.Proof.Gen.GinIdeal.Frame
public import proofs.«01_k».proof.Proof.Gen.GinRefIdeal
public import proofs.«01_k».proof.Proof.Gen.GinRefIdeal.Run
public import proofs.«01_k».proof.Proof.Gen.GinRefIdeal.Read
public import proofs.«01_k».proof.Proof.Gin.Result

/-! # The input projection's weight gradient: its claims -/

@[expose] public section

set_option maxRecDepth 16384

noncomputable section

open Idealize.ShloMosaic Idealize.ShloMosaic.TcCoe Idealize.SL.Sem

namespace Cert.GinClaims

open Cert.Reals

section
open Cert.GinIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run _ _ _).mono (fun r h => ⟨fun c => ⟨Value.kept_main_arg0 m r h.1 c, Value.kept_main_arg1 m r h.1 c, Value.kept_main_arg2 m r h.1 c⟩, h.2⟩) (Gen.run_main_quiescent m ρ)
end

/-- The two programs have one table of kernel bodies. -/
theorem bodies_eq {F : FTy → Type} [FloatOps F] : Cert.Gin.defs₀ (F := F) = Cert.GinIdeal.defs₀ (F := F) := by
  unfold Cert.Gin.defs₀ Cert.GinIdeal.defs₀
  congr 1
  funext l a
  match l, a with
  | 0, (t, s) => rfl

theorem defs_eq {F : FTy → Type} [FloatOps F] : Cert.Gin.defs (F := F) = Cert.GinIdeal.defs (F := F) := by
  unfold Cert.Gin.defs Cert.GinIdeal.defs
  rw [bodies_eq]
  rfl

/-- The kernel's own frame: the two programs have one text. -/
theorem frame_kernel : Cert.quiescent_Gin := fun m ρ _ => by
  rw [defs_eq]
  exact frame_run (F := Bits) m ρ

/-- The ideal program's frame. -/
theorem frame_ideal : Cert.quiescent_GinIdeal := fun m ρ _ => frame_run (F := Ideal) m ρ

/-- The reference's frame. -/
theorem frame_ref : Cert.quiescent_GinRefIdeal := fun m ρ _ =>
  (θ_run _ _ _).mono (fun r h => ⟨fun c => (h c).2, sem_eq_zero_of_no_sems (by decide) r.2⟩) (Cert.GinRefIdeal.Value.run (F := Ideal) m ρ)

theorem V_h (m : (ℓ : Loc Cert.GinIdeal.nD Cert.GinIdeal.τ Cert.GinIdeal.sig) → Buf (Elt Ideal) ℓ) (c : Dev Cert.GinIdeal.nD) :
    (Cert.GinIdeal.Gen.V m c Cert.GinIdeal.main_v15 : Cert.GinIdeal.S4096x1024.Idx → EReal)
      = Cert.GinRefIdeal.Read.val_main_v12 (F := Ideal) (m ((c.tc : Thread Cert.GinIdeal.nD Cert.GinIdeal.τ).loc Cert.GinIdeal.main_arg0))
          (m ((c.tc : Thread Cert.GinIdeal.nD Cert.GinIdeal.τ).loc Cert.GinIdeal.main_arg1)) := by
  unfold Cert.GinIdeal.Gen.V
  after_results
  rfl

section
open Cert.GinIdeal Cert.GinIdeal.Gen
variable (m : (ℓ : Loc nD τ sig) → Buf (Elt Ideal) ℓ) (c : Dev nD)

/-- The cotangent, as the program is given it. -/
abbrev cot : S4096x3840.Idx → EReal := m ((c.tc : Thread nD τ).loc main_arg2)

theorem V_x (r : Fin 4096) (f : Fin 1024) : (V m c main_v16 : S4096x1024.Idx → EReal) (ix2 r f) = cot m c (ix2 r ⟨f.val, by omega⟩) := by
  unfold V
  after_results
  pointwise []

theorem V_y (r : Fin 4096) (f : Fin 768) : (V m c main_v17 : S4096x768.Idx → EReal) (ix2 r f) = cot m c (ix2 r ⟨1024 + f.val, by omega⟩) := by
  unfold V
  after_results
  pointwise []

theorem V_z (r : Fin 4096) (f : Fin 2048) : (V m c main_v18 : S4096x2048.Idx → EReal) (ix2 r f) = cot m c (ix2 r ⟨1792 + f.val, by omega⟩) := by
  unfold V
  after_results
  pointwise []

/-- The three slices side by side are the cotangent. -/
theorem D_at (r : Fin 4096) (f : Fin 3840) : Cert.GinIdeal.Result.D m c r.val f.val = cot m c (ix2 r f) := by
  unfold Cert.GinIdeal.Result.D
  split
  · exact (at2_eq _ r ⟨f.val, ‹_›⟩).trans (V_x m c r _)
  split
  · refine (at2_eq _ r ⟨f.val - 1024, by omega⟩).trans ((V_y m c r _).trans (congrArg (fun k => cot m c (ix2 r k)) (Fin.ext ?_)))
    dsimp only
    omega
  · refine (at2_eq _ r ⟨f.val - 1792, by omega⟩).trans ((V_z m c r _).trans (congrArg (fun k => cot m c (ix2 r k)) (Fin.ext ?_)))
    dsimp only
    omega
end

section
open Cert.GinRefIdeal Cert.GinRefIdeal.Read

/-- The reference's result at an index. -/
theorem v18_at (x0 : (⟨S4096x1024, .f32⟩ : BufTy).Contents (Elt Ideal)) (x1 : (⟨S1x1024, .f32⟩ : BufTy).Contents (Elt Ideal))
    (x2 : (⟨S4096x3840, .f32⟩ : BufTy).Contents (Elt Ideal)) (q : Fin 4) (p : Fin 1024) (j : Fin 960) :
    val_main_v18 x0 x1 x2 (ix3 q p j) = ∑ r : Fin 4096, x2 (ix2 r ⟨960 * q.val + j.val, by omega⟩) * val_main_v12 x0 x1 (ix2 r p) := by
  have e : val_main_v18 x0 x1 x2 (ix3 q p j) = val_main_v16 x0 x1 x2 (ix2 p ⟨960 * q.val + j.val, by omega⟩) := by
    rw [val_main_v18_apply, val_main_v17_apply]
    refine congrArg (val_main_v16 x0 x1 x2) (funext fun a => Fin.ext ?_)
    match a with
    | ⟨0, _⟩ => show ((p.val * 4 + q.val) * 960 + j.val) / 3840 = p.val; omega
    | ⟨1, _⟩ => show ((p.val * 4 + q.val) * 960 + j.val) % 3840 = 960 * q.val + j.val; omega
  rw [e]
  pointwise [val_main_v16, val_main_v15, val_main_v14]
end

/-- Over the reals the kernel and the reference end with equal results. -/
theorem value : Cert.algebraic_GinIdeal_GinRefIdeal := by
  intro m ρ m' ρ' hm hmm
  refine ⟨fun c => Cert.GinIdeal.Value.G4 m c, Cert.GinIdeal.Value.run m ρ, ?_⟩
  refine (θ_run _ _ _).mono (fun r h c => ?_) (Cert.GinRefIdeal.Value.run (F := Ideal) m' ρ')
  obtain ⟨e0, e1, e2⟩ := hmm c
  obtain ⟨r0, k⟩ := h c
  rw [e0, e1, e2] at r0
  refine ⟨r0.trans ?_, k⟩
  refine ext3 fun q p j => (v18_at _ _ _ q p j).trans (Eq.trans ?_ (Cert.GinIdeal.Result.G4_at m c q p j).symm)
  refine Finset.sum_congr rfl fun r _ => ?_
  rw [mul_comm, D_at m c r ⟨960 * q.val + j.val, by omega⟩]
  unfold Cert.GinIdeal.Result.H
  rw [V_h]
  exact congrArg (fun u : EReal => u * _) (at2_eq _ r p).symm

end Cert.GinClaims

end
-- ==== Proof.Fmerge.Result.lean ====
module

public import proofs.«01_k».proof.Defs
public import proofs.«01_k».proof.Proof.Gen.FmergeIdeal.Value
public import proofs.«01_k».proof.Proof.Common.Reals
public import Idealize.ShloMosaic.Lib.Pipeline.Value
public import Idealize.ShloMosaic.Lib.Pointwise
public import Idealize.ShloMosaic.Lib.IdealHost
public import Idealize.ShloMosaic.Lib.Tactic

/-! # The forward gated merge: what the kernel leaves in its two results -/

@[expose] public section

set_option maxRecDepth 16384

noncomputable section

open Idealize.ShloMosaic Idealize.ShloMosaic.TcCoe Idealize.SL.Sem

namespace Cert.FmergeIdeal.Result

open Cert.FmergeIdeal Cert.FmergeIdeal.Gen Cert.FmergeIdeal.Value Cert.Reals

section
variable {F : FTy → Type} [FloatOps F]

theorem hz : (![0, 0] : Fin 2 → Nat) = fun _ => 0 := funext fun a => by fin_cases a <;> rfl

/-- The `j`-th of the four column blocks of a stacked weight. -/
abbrev rW (j : Fin 4) : Rect S4x512x256 := Rect.unit (s := S4x512x256) ![j.val, 0, 0] S1x512x256.size
  (fun a => by have := j.isLt; match a with | ⟨0, _⟩ => show j.val + 1 ≤ 4; omega | ⟨1, _⟩ => exact le_refl 512 | ⟨2, _⟩ => exact le_refl 256)

/-- Rows times one column block, and the four products side by side. -/
abbrev mm (a : Vec F S512x512 .bf16) (w : Vec F S4x512x256 .bf16) (j : Fin 4) : FVec F S512x256 .f32 :=
  matmul (φ₁ := .bf16) (φ₂ := .bf16) dot_S512x512_S512x256_S512x256_1_0_0_1_n_n none (shapeCast S512x512 a shapeCasts_S512x512_S512x512)
    (shapeCast S512x256 (View.ld w (rW j)) shapeCasts_S1x512x256_S512x256) (constant S512x256 .f32 0x00000000#32)

abbrev cols4 (f : Fin 4 → FVec F S512x256 .f32) : FVec F S512x1024 .f32 :=
  concatenate S512x1024 1 [⟨S512x256, f 0⟩, ⟨S512x256, f 1⟩, ⟨S512x256, f 2⟩, ⟨S512x256, f 3⟩] concatenates_S512x256_S512x256_S512x256_S512x256_S512x1024_d1

/-- The gated sum of the two projections. -/
abbrev gate (g : Vec F S512x2048 .bf16) (pa pb : FVec F S512x1024 .f32) : FVec F S512x1024 .f32 :=
  addf (mulf (divf (broadcast S512x1024 (Scalar.ofBits .f32 0x3F800000#32)) (addf (broadcast S512x1024 (Scalar.ofBits .f32 0x3F800000#32))
      (exp (subf (broadcast S512x1024 (Scalar.ofBits .f32 0x00000000#32)) (extractStridedSlice S512x1024 ![0, 0] (k0_pay1 g) slices_S512x2048_o0_0_S512x1024))))) pa)
    (mulf (divf (broadcast S512x1024 (Scalar.ofBits .f32 0x3F800000#32)) (addf (broadcast S512x1024 (Scalar.ofBits .f32 0x3F800000#32))
      (exp (subf (broadcast S512x1024 (Scalar.ofBits .f32 0x00000000#32)) (extractStridedSlice S512x1024 ![0, 1024] (k0_pay1 g) slices_S512x2048_o0_1024_S512x1024))))) pb)

/-- The merged rows that a point stores, and the residual sum. -/
theorem out8_eq (x : Vec F S512x1024 .f32) (a b : Vec F S512x512 .bf16) (g : Vec F S512x2048 .bf16) (wa wb : Vec F S4x512x256 .bf16) (wo : Vec F S1024x1024 .bf16) :
    out0_8 x a b g wa wb wo = truncf .bf16 (gate g (cols4 (mm a wa)) (cols4 (mm b wb))) bitsLt_bf16_f32 := by
  unfold_out out0_8
  rw [View.canon_unit_zero (S := S512x1024) hz]
  simp only [View.ld_unit_zero (S := S512x2048) hz, View.ld_unit_zero (S := S512x512) hz]
  unfold k0_pay7
  exact shapeCast_self _ _

theorem out7_eq (x : Vec F S512x1024 .f32) (a b : Vec F S512x512 .bf16) (g : Vec F S512x2048 .bf16) (wa wb : Vec F S4x512x256 .bf16) (wo : Vec F S1024x1024 .bf16) :
    out0_7 x a b g wa wb wo = addf x (matmul (φ₁ := .bf16) (φ₂ := .bf16) dot_S512x1024_S1024x1024_S512x1024_1_0_0_1_n_n none
      (truncf .bf16 (gate g (cols4 (mm a wa)) (cols4 (mm b wb))) bitsLt_bf16_f32) (shapeCast S1024x1024 wo shapeCasts_S1024x1024_S1024x1024) (constant S512x1024 .f32 0x00000000#32)) := by
  unfold_out out0_7
  rw [View.canon_unit_zero (S := S512x1024) hz]
  simp only [View.ld_unit_zero (S := S512x2048) hz, View.ld_unit_zero (S := S512x512) hz, View.ld_unit_zero (S := S512x1024) hz, View.ld_unit_zero (S := S1024x1024) hz]
  unfold k0_pay8
  exact shapeCast_self _ _
end

theorem cols4_at (f : Fin 4 → FVec Ideal S512x256 .f32) (a : Fin 512) (e : Fin 1024) :
    cols4 f (ix2 a e) = f ⟨e.val / 256, by omega⟩ (ix2 a ⟨e.val % 256, by omega⟩) :=
  concatenate_ofFn_apply (t := S512x1024) (s₁ := S512x256) 1 f concatenates_S512x256_S512x256_S512x256_S512x256_S512x1024_d1 rfl 256 rfl (ix2 a e)
    ⟨e.val / 256, by omega⟩ rfl (ix2 a ⟨e.val % 256, by omega⟩) rfl (fun b hb => by
      match b with
      | ⟨0, _⟩ => rfl
      | ⟨1, _⟩ => exact absurd rfl hb)

theorem dot_at (a : Vec Ideal S512x512 .bf16) (x : Vec Ideal S1x512x256 .bf16) (p : Fin 512) (f : Fin 256) :
    matmul (F := Ideal) (φ₁ := .bf16) (φ₂ := .bf16) dot_S512x512_S512x256_S512x256_1_0_0_1_n_n none (shapeCast S512x512 a shapeCasts_S512x512_S512x512)
      (shapeCast S512x256 x shapeCasts_S1x512x256_S512x256) (constant S512x256 .f32 0x00000000#32) (ix2 p f) = ∑ e : Fin 512, a (ix2 p e) * x (ix3 0 e f) := by
  pointwise

theorem mm_at (a : Vec Ideal S512x512 .bf16) (w : Vec Ideal S4x512x256 .bf16) (j : Fin 4) (p : Fin 512) (f : Fin 256) :
    mm a w j (ix2 p f) = ∑ e : Fin 512, a (ix2 p e) * w (ix3 j e f) :=
  (dot_at a _ p f).trans (Finset.sum_congr rfl fun e _ => congrArg (fun z : EReal => a (ix2 p e) * z) (congrArg w (unit_emb3 _ 0 e f)))

theorem gate_at (g : Vec Ideal S512x2048 .bf16) (pa pb : FVec Ideal S512x1024 .f32) (p : Fin 512) (f : Fin 1024) :
    gate g pa pb (ix2 p f) = Ideal.div 1 (1 + Ideal.exp (0 - g (ix2 p ⟨f.val, by omega⟩))) * pa (ix2 p f)
      + Ideal.div 1 (1 + Ideal.exp (0 - g (ix2 p ⟨1024 + f.val, by omega⟩))) * pb (ix2 p f) := by
  unfold gate
  pointwise [k0_pay1]

/-! ## The arguments and the blocks -/

variable (m : (ℓ : Loc nD τ sig) → Buf (Elt Ideal) ℓ) (c : Dev nD)

/-- The program's arguments, each read at a pair of naturals. -/
abbrev X : ℕ → ℕ → EReal := at2 (m ((c : Thread nD τ).loc main_arg0) : S4096x1024.Idx → EReal)
abbrev A : ℕ → ℕ → EReal := at2 (m ((c : Thread nD τ).loc main_arg1) : S4096x512.Idx → EReal)
abbrev B : ℕ → ℕ → EReal := at2 (m ((c : Thread nD τ).loc main_arg2) : S4096x512.Idx → EReal)
abbrev G : ℕ → ℕ → EReal := at2 (m ((c : Thread nD τ).loc main_arg3) : S4096x2048.Idx → EReal)
abbrev WA : ℕ → ℕ → EReal := at2 (m ((c : Thread nD τ).loc main_arg4) : S512x1024.Idx → EReal)
abbrev WB : ℕ → ℕ → EReal := at2 (m ((c : Thread nD τ).loc main_arg5) : S512x1024.Idx → EReal)
abbrev WO : ℕ → ℕ → EReal := at2 (m ((c : Thread nD τ).loc main_arg6) : S1024x1024.Idx → EReal)

/-- The merged value and the residual sum at a row and a column. -/
def mg (A B G WA WB : ℕ → ℕ → EReal) (r f : ℕ) : EReal :=
  Ideal.div 1 (1 + Ideal.exp (0 - G r f)) * (∑ e : Fin 512, A r e.val * WA e.val f)
    + Ideal.div 1 (1 + Ideal.exp (0 - G r (1024 + f))) * (∑ e : Fin 512, B r e.val * WB e.val f)

def sum (X A B G WA WB WO : ℕ → ℕ → EReal) (r f : ℕ) : EReal := X r f + ∑ k : Fin 1024, mg A B G WA WB r k.val * WO k.val f

/-- The grid's block indices: the row arrays are cut into tiles, the weights are taken whole. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem V_a (r : Fin 4096) (k : Fin 512) : (V m c main_v0 : S4096x512.Idx → EReal) (ix2 r k) = A m c r.val k.val := by
  refine Eq.trans ?_ (at2_eq _ r k).symm
  entry_read
  rfl

theorem V_b (r : Fin 4096) (k : Fin 512) : (V m c main_v1 : S4096x512.Idx → EReal) (ix2 r k) = B m c r.val k.val := by
  refine Eq.trans ?_ (at2_eq _ r k).symm
  entry_read
  rfl

theorem V_g (r : Fin 4096) (k : Fin 2048) : (V m c main_v2 : S4096x2048.Idx → EReal) (ix2 r k) = G m c r.val k.val := by
  refine Eq.trans ?_ (at2_eq _ r k).symm
  entry_read
  rfl

theorem V_wo (r : Fin 1024) (k : Fin 1024) : (V m c main_v9 : S1024x1024.Idx → EReal) (ix2 r k) = WO m c r.val k.val := by
  refine Eq.trans ?_ (at2_eq _ r k).symm
  entry_read
  rfl

theorem V_x (r : Fin 4096) (k : Fin 1024) : (V m c main_arg0 : S4096x1024.Idx → EReal) (ix2 r k) = X m c r.val k.val :=
  (congrFun (V_main_arg0 m c) _).trans (at2_eq _ r k).symm

theorem V_wa (j : Fin 4) (e : Fin 512) (f : Fin 256) : (V m c main_v5 : S4x512x256.Idx → EReal) (ix3 j e f) = WA m c e.val (256 * j.val + f.val) := by
  show transpose S4x512x256 [1, 0, 2] (shapeCast S512x4x256 (m ((c : Thread nD τ).loc main_arg4) : S512x1024.Idx → EReal) shapeCasts_S512x1024_S512x4x256) transposes_S512x4x256_S4x512x256_1_0_2 (ix3 j e f) = _
  refine Eq.trans ?_ (at2_eq _ e ⟨256 * j.val + f.val, by omega⟩).symm
  generalize (m ((c : Thread nD τ).loc main_arg4) : S512x1024.Idx → EReal) = x
  pointwise
  refine congrArg x (congrArg (ix2 e) (Fin.ext ?_))
  dsimp only
  omega

theorem V_wb (j : Fin 4) (e : Fin 512) (f : Fin 256) : (V m c main_v8 : S4x512x256.Idx → EReal) (ix3 j e f) = WB m c e.val (256 * j.val + f.val) := by
  show transpose S4x512x256 [1, 0, 2] (shapeCast S512x4x256 (m ((c : Thread nD τ).loc main_arg5) : S512x1024.Idx → EReal) shapeCasts_S512x1024_S512x4x256) transposes_S512x4x256_S4x512x256_1_0_2 (ix3 j e f) = _
  refine Eq.trans ?_ (at2_eq _ e ⟨256 * j.val + f.val, by omega⟩).symm
  generalize (m ((c : Thread nD τ).loc main_arg5) : S512x1024.Idx → EReal) = x
  pointwise
  refine congrArg x (congrArg (ix2 e) (Fin.ext ?_))
  dsimp only
  omega

variable (t : Fin cfg0.N)

/-- Point `t`'s blocks. -/
abbrev bX : Vec Ideal S512x1024 .f32 := iblk m c 0 t
abbrev bA : Vec Ideal S512x512 .bf16 := iblk m c 1 t
abbrev bB : Vec Ideal S512x512 .bf16 := iblk m c 2 t
abbrev bG : Vec Ideal S512x2048 .bf16 := iblk m c 3 t
abbrev bWa : Vec Ideal S4x512x256 .bf16 := iblk m c 4 t
abbrev bWb : Vec Ideal S4x512x256 .bf16 := iblk m c 5 t
abbrev bWo : Vec Ideal S1024x1024 .bf16 := iblk m c 6 t

theorem bX_at (a : Fin 512) (f : Fin 1024) : bX m c t (ix2 a f) = X m c (512 * t.val + a.val) f.val := by
  have hN : t.val < 8 := lt_of_lt_of_eq t.isLt N_0
  obtain ⟨e, -⟩ := index_facts t
  refine Eq.trans ?_ (V_x m c ⟨512 * t.val + a.val, by omega⟩ f)
  refine congrArg (V m c main_arg0 : S4096x1024.Idx → EReal) (funext fun x => Fin.ext ?_)
  match x with
  | ⟨0, _⟩ => show win0_0.index t (0 : Fin 2) * 512 + 1 * a.val = _; rw [e.1]; show _ = 512 * t.val + a.val; omega
  | ⟨1, _⟩ => show win0_0.index t (1 : Fin 2) * 1024 + 1 * f.val = _; rw [e.2]; show _ = f.val; omega

theorem bA_at (a : Fin 512) (f : Fin 512) : bA m c t (ix2 a f) = A m c (512 * t.val + a.val) f.val := by
  have hN : t.val < 8 := lt_of_lt_of_eq t.isLt N_0
  obtain ⟨-, e, -⟩ := index_facts t
  refine Eq.trans ?_ (V_a m c ⟨512 * t.val + a.val, by omega⟩ f)
  refine congrArg (V m c main_v0 : S4096x512.Idx → EReal) (funext fun x => Fin.ext ?_)
  match x with
  | ⟨0, _⟩ => show win0_1.index t (0 : Fin 2) * 512 + 1 * a.val = _; rw [e.1]; show _ = 512 * t.val + a.val; omega
  | ⟨1, _⟩ => show win0_1.index t (1 : Fin 2) * 512 + 1 * f.val = _; rw [e.2]; show _ = f.val; omega

theorem bB_at (a : Fin 512) (f : Fin 512) : bB m c t (ix2 a f) = B m c (512 * t.val + a.val) f.val := by
  have hN : t.val < 8 := lt_of_lt_of_eq t.isLt N_0
  obtain ⟨-, -, e, -⟩ := index_facts t
  refine Eq.trans ?_ (V_b m c ⟨512 * t.val + a.val, by omega⟩ f)
  refine congrArg (V m c main_v1 : S4096x512.Idx → EReal) (funext fun x => Fin.ext ?_)
  match x with
  | ⟨0, _⟩ => show win0_2.index t (0 : Fin 2) * 512 + 1 * a.val = _; rw [e.1]; show _ = 512 * t.val + a.val; omega
  | ⟨1, _⟩ => show win0_2.index t (1 : Fin 2) * 512 + 1 * f.val = _; rw [e.2]; show _ = f.val; omega

theorem bG_at (a : Fin 512) (f : Fin 2048) : bG m c t (ix2 a f) = G m c (512 * t.val + a.val) f.val := by
  have hN : t.val < 8 := lt_of_lt_of_eq t.isLt N_0
  obtain ⟨-, -, -, e, -⟩ := index_facts t
  refine Eq.trans ?_ (V_g m c ⟨512 * t.val + a.val, by omega⟩ f)
  refine congrArg (V m c main_v2 : S4096x2048.Idx → EReal) (funext fun x => Fin.ext ?_)
  match x with
  | ⟨0, _⟩ => show win0_3.index t (0 : Fin 2) * 512 + 1 * a.val = _; rw [e.1]; show _ = 512 * t.val + a.val; omega
  | ⟨1, _⟩ => show win0_3.index t (1 : Fin 2) * 2048 + 1 * f.val = _; rw [e.2]; show _ = f.val; omega

theorem bWa_at (j : Fin 4) (e : Fin 512) (f : Fin 256) : bWa m c t (ix3 j e f) = WA m c e.val (256 * j.val + f.val) := by
  obtain ⟨-, -, -, -, q, -⟩ := index_facts t
  refine Eq.trans ?_ (V_wa m c j e f)
  refine congrArg (V m c main_v5 : S4x512x256.Idx → EReal) (funext fun x => Fin.ext ?_)
  match x with
  | ⟨0, _⟩ => show win0_4.index t (0 : Fin 3) * 4 + 1 * j.val = _; rw [q.1]; show _ = j.val; omega
  | ⟨1, _⟩ => show win0_4.index t (1 : Fin 3) * 512 + 1 * e.val = _; rw [q.2.1]; show _ = e.val; omega
  | ⟨2, _⟩ => show win0_4.index t (2 : Fin 3) * 256 + 1 * f.val = _; rw [q.2.2]; show _ = f.val; omega

theorem bWb_at (j : Fin 4) (e : Fin 512) (f : Fin 256) : bWb m c t (ix3 j e f) = WB m c e.val (256 * j.val + f.val) := by
  obtain ⟨-, -, -, -, -, q, -⟩ := index_facts t
  refine Eq.trans ?_ (V_wb m c j e f)
  refine congrArg (V m c main_v8 : S4x512x256.Idx → EReal) (funext fun x => Fin.ext ?_)
  match x with
  | ⟨0, _⟩ => show win0_5.index t (0 : Fin 3) * 4 + 1 * j.val = _; rw [q.1]; show _ = j.val; omega
  | ⟨1, _⟩ => show win0_5.index t (1 : Fin 3) * 512 + 1 * e.val = _; rw [q.2.1]; show _ = e.val; omega
  | ⟨2, _⟩ => show win0_5.index t (2 : Fin 3) * 256 + 1 * f.val = _; rw [q.2.2]; show _ = f.val; omega

theorem bWo_at (a : Fin 1024) (f : Fin 1024) : bWo m c t (ix2 a f) = WO m c (a.val) f.val := by
  obtain ⟨-, -, -, -, -, -, e, -⟩ := index_facts t
  refine Eq.trans ?_ (V_wo m c a f)
  refine congrArg (V m c main_v9 : S1024x1024.Idx → EReal) (funext fun x => Fin.ext ?_)
  match x with
  | ⟨0, _⟩ => show win0_6.index t (0 : Fin 2) * 1024 + 1 * a.val = _; rw [e.1]; show _ = a.val; omega
  | ⟨1, _⟩ => show win0_6.index t (1 : Fin 2) * 1024 + 1 * f.val = _; rw [e.2]; show _ = f.val; omega

/-! ## What a point stores -/

theorem mgd_at (p : Fin 512) (f : Fin 1024) :
    gate (bG m c t) (cols4 (mm (bA m c t) (bWa m c t))) (cols4 (mm (bB m c t) (bWb m c t))) (ix2 p f)
      = mg (A m c) (B m c) (G m c) (WA m c) (WB m c) (512 * t.val + p.val) f.val := by
  rw [gate_at, cols4_at, cols4_at, mm_at, mm_at]
  simp only [bG_at, bA_at, bB_at, bWa_at, bWb_at, Nat.div_add_mod]
  rfl

theorem out8_at (p : Fin 512) (f : Fin 1024) :
    out0_8 (bX m c t) (bA m c t) (bB m c t) (bG m c t) (bWa m c t) (bWb m c t) (bWo m c t) (ix2 p f)
      = mg (A m c) (B m c) (G m c) (WA m c) (WB m c) (512 * t.val + p.val) f.val := by
  rw [out8_eq]
  exact mgd_at m c t p f

theorem out7_at (p : Fin 512) (f : Fin 1024) :
    out0_7 (bX m c t) (bA m c t) (bB m c t) (bG m c t) (bWa m c t) (bWb m c t) (bWo m c t) (ix2 p f)
      = sum (X m c) (A m c) (B m c) (G m c) (WA m c) (WB m c) (WO m c) (512 * t.val + p.val) f.val := by
  rw [out7_eq]
  have e := mgd_at m c t
  generalize gate (bG m c t) (cols4 (mm (bA m c t) (bWa m c t))) (cols4 (mm (bB m c t) (bWb m c t))) = y at e ⊢
  pointwise
  simp only [e, bX_at, bWo_at]
  rfl

/-! ## The results -/

/-- The first result: the residual sum. -/
theorem r7_at (r : Fin 4096) (f : Fin 1024) : ((dats m 0 c).arrAt 7 cfg0.N : S4096x1024.Idx → EReal) (ix2 r f) = sum (X m c) (A m c) (B m c) (G m c) (WA m c) (WB m c) (WO m c) r.val f.val := by
  have hN : cfg0.N = 8 := N_0
  have ht : r.val / 512 < cfg0.N := by omega
  have e := congrFun (blocks7 m c ⟨r.val / 512, ht⟩ (flush0_7 _)) (ix2 ⟨r.val % 512, by omega⟩ f)
  rw [flushed7] at e
  refine Eq.trans (Eq.trans ?_ e) ((out7_at m c ⟨r.val / 512, ht⟩ ⟨r.val % 512, by omega⟩ f).trans ?_)
  · obtain ⟨-, -, -, -, -, -, -, ⟨e0, e1⟩, -⟩ := index_facts ⟨r.val / 512, ht⟩
    refine congrArg ((dats m 0 c).arrAt 7 cfg0.N : S4096x1024.Idx → EReal) (funext fun x => Fin.ext ?_)
    match x with
    | ⟨0, _⟩ => show r.val = win0_7.index ⟨r.val / 512, ht⟩ (0 : Fin 2) * 512 + 1 * (r.val % 512); rw [e0]; show r.val = r.val / 512 * 512 + 1 * (r.val % 512); omega
    | ⟨1, _⟩ => show f.val = win0_7.index ⟨r.val / 512, ht⟩ (1 : Fin 2) * 1024 + 1 * f.val; rw [e1]; omega
  · dsimp only
    rw [Nat.div_add_mod]

/-- The second result: the merged rows. -/
theorem r8_at (r : Fin 4096) (f : Fin 1024) : ((dats m 0 c).arrAt 8 cfg0.N : S4096x1024.Idx → EReal) (ix2 r f) = mg (A m c) (B m c) (G m c) (WA m c) (WB m c) r.val f.val := by
  have hN : cfg0.N = 8 := N_0
  have ht : r.val / 512 < cfg0.N := by omega
  have e := congrFun (blocks8 m c ⟨r.val / 512, ht⟩ (flush0_8 _)) (ix2 ⟨r.val % 512, by omega⟩ f)
  rw [flushed8] at e
  refine Eq.trans (Eq.trans ?_ e) ((out8_at m c ⟨r.val / 512, ht⟩ ⟨r.val % 512, by omega⟩ f).trans ?_)
  · obtain ⟨-, -, -, -, -, -, -, -, e0, e1⟩ := index_facts ⟨r.val / 512, ht⟩
    refine congrArg ((dats m 0 c).arrAt 8 cfg0.N : S4096x1024.Idx → EReal) (funext fun x => Fin.ext ?_)
    match x with
    | ⟨0, _⟩ => show r.val = win0_8.index ⟨r.val / 512, ht⟩ (0 : Fin 2) * 512 + 1 * (r.val % 512); rw [e0]; show r.val = r.val / 512 * 512 + 1 * (r.val % 512); omega
    | ⟨1, _⟩ => show f.val = win0_8.index ⟨r.val / 512, ht⟩ (1 : Fin 2) * 1024 + 1 * f.val; rw [e1]; omega
  · dsimp only
    rw [Nat.div_add_mod]

end Cert.FmergeIdeal.Result

end
-- ==== Proof.Fmerge.Claims.lean ====
module

public import proofs.«01_k».proof.Defs
public import proofs.«01_k».proof.Proof.Gen.Fmerge
public import proofs.«01_k».proof.Proof.Gen.FmergeIdeal
public import proofs.«01_k».proof.Proof.Gen.FmergeIdeal.Frame
public import proofs.«01_k».proof.Proof.Gen.FmergeRefIdeal
public import proofs.«01_k».proof.Proof.Gen.FmergeRefIdeal.Run
public import proofs.«01_k».proof.Proof.Gen.FmergeRefIdeal.Read
public import proofs.«01_k».proof.Proof.Fmerge.Result

/-! # The forward gated merge: its claims -/

@[expose] public section

set_option maxRecDepth 16384

noncomputable section

open Idealize.ShloMosaic Idealize.ShloMosaic.TcCoe Idealize.SL.Sem

namespace Cert.FmergeClaims

open Cert.Reals

section
open Cert.FmergeIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c, Value.kept_main_arg5 m r h.1 c, Value.kept_main_arg6 m r h.1 c⟩, h.2⟩) (Gen.run_main_quiescent m ρ)
end

set_option maxHeartbeats 8000000 in
/-- The two programs have one table of kernel bodies. -/
theorem bodies_eq {F : FTy → Type} [FloatOps F] : Cert.Fmerge.defs₀ (F := F) = Cert.FmergeIdeal.defs₀ (F := F) := by
  unfold Cert.Fmerge.defs₀ Cert.FmergeIdeal.defs₀
  congr 1
  funext l a
  match l, a with
  | 0, (t, s) => rfl

theorem defs_eq {F : FTy → Type} [FloatOps F] : Cert.Fmerge.defs (F := F) = Cert.FmergeIdeal.defs (F := F) := by
  unfold Cert.Fmerge.defs Cert.FmergeIdeal.defs
  rw [bodies_eq]
  rfl

/-- The kernel's own frame: the two programs have one text. -/
theorem frame_kernel : Cert.quiescent_Fmerge := fun m ρ _ => by
  rw [defs_eq]
  exact frame_run (F := Bits) m ρ

/-- The ideal program's frame. -/
theorem frame_ideal : Cert.quiescent_FmergeIdeal := fun m ρ _ => frame_run (F := Ideal) m ρ

/-- The reference's frame. -/
theorem frame_ref : Cert.quiescent_FmergeRefIdeal := fun m ρ _ =>
  (θ_run _ _ _).mono (fun r h => ⟨fun c => (h c).2.2, sem_eq_zero_of_no_sems (by decide) r.2⟩) (Cert.FmergeRefIdeal.Value.run (F := Ideal) m ρ)

section
open Cert.FmergeRefIdeal Cert.FmergeRefIdeal.Read Cert.FmergeIdeal.Result

/-- The reference's merged rows at an index. -/
theorem v18_at (x1 x2 : (⟨S4096x512, .f32⟩ : BufTy).Contents (Elt Ideal)) (x3 : (⟨S4096x2048, .f32⟩ : BufTy).Contents (Elt Ideal))
    (x4 x5 : (⟨S512x1024, .f32⟩ : BufTy).Contents (Elt Ideal)) (r : Fin 4096) (f : Fin 1024) :
    val_main_v18 x1 x2 x3 x4 x5 (ix2 r f) = mg (at2 x1) (at2 x2) (at2 x3) (at2 x4) (at2 x5) r.val f.val := by
  unfold mg
  simp only [at2_eq x1, at2_eq x2, at2_eq x4, at2_eq x5]
  rw [show at2 x3 r.val f.val = x3 (ix2 r ⟨f.val, by omega⟩) from at2_eq x3 r ⟨f.val, by omega⟩,
    show at2 x3 r.val (1024 + f.val) = x3 (ix2 r ⟨1024 + f.val, by omega⟩) from at2_eq x3 r ⟨1024 + f.val, by omega⟩]
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  simp only [sub_eq_add_neg, zero_add]

/-- The reference's residual sum at an index. -/
theorem v20_at (x0 : (⟨S4096x1024, .f32⟩ : BufTy).Contents (Elt Ideal)) (x1 x2 : (⟨S4096x512, .f32⟩ : BufTy).Contents (Elt Ideal))
    (x3 : (⟨S4096x2048, .f32⟩ : BufTy).Contents (Elt Ideal)) (x4 x5 : (⟨S512x1024, .f32⟩ : BufTy).Contents (Elt Ideal))
    (x6 : (⟨S1024x1024, .f32⟩ : BufTy).Contents (Elt Ideal)) (r : Fin 4096) (f : Fin 1024) :
    val_main_v20 x0 x1 x2 x3 x4 x5 x6 (ix2 r f) = sum (at2 x0) (at2 x1) (at2 x2) (at2 x3) (at2 x4) (at2 x5) (at2 x6) r.val f.val := by
  have e := v18_at x1 x2 x3 x4 x5
  unfold sum
  unfold val_main_v20 val_main_v19
  generalize val_main_v18 x1 x2 x3 x4 x5 = y at e ⊢
  pointwise
  simp only [e, at2_eq x0, at2_eq x6]
end

/-- Over the reals the kernel and the reference end with equal results. -/
theorem value : Cert.algebraic_FmergeIdeal_FmergeRefIdeal := by
  intro m ρ m' ρ' hm hmm
  refine ⟨fun c => (Cert.FmergeIdeal.Gen.dats m 0 c).arrAt 7 Cert.FmergeIdeal.cfg0.N, fun c => (Cert.FmergeIdeal.Gen.dats m 0 c).arrAt 8 Cert.FmergeIdeal.cfg0.N,
    Cert.FmergeIdeal.Value.run_blocks m ρ, ?_⟩
  refine (θ_run _ _ _).mono (fun r h c => ?_) (Cert.FmergeRefIdeal.Value.run (F := Ideal) m' ρ')
  obtain ⟨e0, e1, e2, e3, e4, e5, e6⟩ := hmm c
  obtain ⟨r0, r1, k⟩ := h c
  rw [Cert.FmergeRefIdeal.Read.val_main_v20_eq, e0, e1, e2, e3, e4, e5, e6] at r0
  rw [Cert.FmergeRefIdeal.Read.val_main_v21_eq, e1, e2, e3, e4, e5] at r1
  refine ⟨r0.trans ?_, r1.trans ?_, k⟩
  · exact ext2 fun a b => (v20_at _ _ _ _ _ _ _ a b).trans (Cert.FmergeIdeal.Result.r7_at m c a b).symm
  · exact ext2 fun a b => (v18_at _ _ _ _ _ a b).trans (Cert.FmergeIdeal.Result.r8_at m c a b).symm

end Cert.FmergeClaims

end
-- ==== Proof.Fin.Result.lean ====
module

public import proofs.«01_k».proof.Defs
public import proofs.«01_k».proof.Proof.Gen.FinIdeal.Value
public import proofs.«01_k».proof.Proof.Common.Reals
public import proofs.«01_k».proof.Proof.Merge.Math
public import Idealize.ShloMosaic.Lib.Pipeline.Value
public import Idealize.ShloMosaic.Lib.Pipeline.ReadBack
public import Idealize.ShloMosaic.Lib.Pointwise
public import Idealize.ShloMosaic.Lib.IdealHost
public import Idealize.ShloMosaic.Lib.Tactic

/-! # The forward input projection with its gating: what the kernel leaves in its five results -/

@[expose] public section

set_option maxRecDepth 16384

noncomputable section

open Idealize.ShloMosaic Idealize.ShloMosaic.TcCoe Idealize.SL.Sem

namespace Cert.FinIdeal.Result

open Cert.FinIdeal Cert.FinIdeal.Gen Cert.FinIdeal.Value Cert.Reals

theorem hz : (![0, 0] : Fin 2 → Nat) = fun _ => 0 := funext fun a => by fin_cases a <;> rfl

/-- A three-axis array read at three naturals (zero outside). -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at3_eq {a b c : ℕ} (x : (⟨3, ![a, b, c]⟩ : Shape).Idx → EReal) (i : Fin a) (j : Fin b) (k : Fin c) : at3 x i.val j.val k.val = x (ix3 i j k) := by
  unfold at3
  rw [dif_pos ⟨i.isLt, j.isLt, k.isLt⟩]

theorem named_a : (Named.named (F := Ideal) κ "gelu_a" 0x3D372713#32 : Ideal .f32) = ((8943 / 200000 : ℝ) : EReal) :=
  (IdealRules.named_const.statement Cert.FinIdeal.κ "gelu_a" .f32 0x3D372713#32 ((8943 / 200000 : ℝ) : EReal) rfl).2.2

/-! ## The functions of the arguments -/

/-- The normalising factor of a row of `n` entries: the reciprocal root of the mean square (the count is the word `w`) plus the constant. -/
def nrm (n : ℕ) (w : BitVec 32) (x : Fin n → EReal) : EReal :=
  Ideal.rsqrt (Ideal.div (∑ i, x i * x i) (Ideal.ofBits .f32 w) + Ideal.ofBits .f32 897988541#32)

/-- The smooth gate of a number. -/
def gl (z : EReal) : EReal :=
  Ideal.ofBits .f32 1056964608#32 * z * (1 + Ideal.tanh (Ideal.ofBits .f32 1061962282#32 * (z + ((8943 / 200000 : ℝ) : EReal) * (z * z * z))))

def hn (X G : ℕ → ℕ → EReal) (r k : ℕ) : EReal := X r k * nrm 1024 1149239296#32 (fun i => X r i.val) * G 0 k

def pj (X G W : ℕ → ℕ → EReal) (r f : ℕ) : EReal := ∑ k : Fin 1024, hn X G r k.val * W k.val f

def uu (X G W : ℕ → ℕ → EReal) (r e : ℕ) : EReal := gl (pj X G W r e)

def vn (X G W N : ℕ → ℕ → EReal) (r e : ℕ) : EReal :=
  gl (pj X G W r (512 + e)) * nrm 512 1140850688#32 (fun i => gl (pj X G W r (512 + i.val))) * N 0 e

/-- The gating of two arrays: the second mixed, inside its chunk of 128 rows, by its column group's masked matrix. -/
def mix (U V : ℕ → ℕ → EReal) (S : ℕ → ℕ → ℕ → EReal) (B : ℕ → ℕ → EReal) (r e : ℕ) : EReal :=
  U r e * ((∑ s : Fin 128, (if s.val ≤ r % 128 then S (e / 128) (r % 128) s.val else 0) * V (128 * (r / 128) + s.val) e) + B (e / 128) (r % 128))

/-! ## The body's values at an index -/

theorem pay4_at (x : Vec Ideal S512x1024 .f32) (g : Vec Ideal S1x1024 .f32) (p : Fin 512) (k : Fin 1024) :
    k0_pay4 x g (ix2 p k) = x (ix2 p k) * nrm 1024 1149239296#32 (fun i => x (ix2 p i)) * g (ix2 0 k) := by
  pointwise [k0_pay4]
  rfl

theorem pay6_at (x : Vec Ideal S512x1024 .f32) (g : Vec Ideal S1x1024 .f32) (w : Vec Ideal S1024x1024 .bf16) (p : Fin 512) (f : Fin 1024) :
    k0_pay6 x g w (ix2 p f) = ∑ k : Fin 1024, k0_pay4 x g (ix2 p k) * w (ix2 f k) := by
  unfold k0_pay6
  generalize k0_pay4 x g = y
  pointwise

theorem pay8_at (x : Vec Ideal S512x1024 .f32) (g : Vec Ideal S1x1024 .f32) (w : Vec Ideal S768x1024 .bf16) (p : Fin 512) (f : Fin 768) :
    k0_pay8 x g w (ix2 p f) = ∑ k : Fin 1024, k0_pay4 x g (ix2 p k) * w (ix2 f k) := by
  unfold k0_pay8
  generalize k0_pay4 x g = y
  pointwise

theorem pay10_at (y : FVec Ideal S512x1024 .bf16) (w : Vec Ideal S2048x1024 .bf16) (p : Fin 512) (f : Fin 2048) :
    k0_pay10 y (k0_pay9 w) (constant S512x2048 .f32 0x00000000#32) (ix2 p f) = ∑ k : Fin 1024, y (ix2 p k) * w (ix2 f k) := by
  unfold k0_pay10 k0_pay9
  pointwise

theorem pay13_at (y : FVec Ideal S512x1024 .bf16) (p e : Fin 512) : k0_pay13 y (ix2 p e) = gl (y (ix2 p ⟨e.val, by omega⟩)) := by
  pointwise [k0_pay13, k0_pay11]
  rw [named_a]
  rfl

theorem pay14_at (y : FVec Ideal S512x1024 .bf16) (p e : Fin 512) : k0_pay14 y (ix2 p e) = gl (y (ix2 p ⟨512 + e.val, by omega⟩)) := by
  pointwise [k0_pay14, k0_pay11]
  rw [named_a]
  rfl

theorem pay17_at (y : FVec Ideal S512x1024 .bf16) (g : Vec Ideal S1x512 .f32) (p e : Fin 512) :
    k0_pay17 g (k0_pay14 y) (k0_pay15 y) k0_pay16 (ix2 p e)
      = k0_pay14 y (ix2 p e) * nrm 512 1140850688#32 (fun i => k0_pay14 y (ix2 p i)) * g (ix2 0 e) := by
  unfold k0_pay17 k0_pay15 k0_pay16
  generalize k0_pay14 y = v
  pointwise
  rfl

theorem pay18_at (w : Vec Ideal S1x128x128 .f32) (p s : Fin 128) :
    k0_pay18 k0_pay12 w (ix2 p s) = if s.val ≤ p.val then w (ix3 0 p s) else 0 := by
  pointwise [k0_pay18, k0_pay12]
  rw [Cert.MergeMath.mask_sel]

section
variable {F : FTy → Type} [FloatOps F] [Named F]

/-- The 128×128 block of row chunk `k` and column group `g`, as a range of the stored buffer and of a value. -/
theorem fits (k g : Fin 4) : S512x512.Slices ![128 * k.val, 128 * g.val] S128x128 :=
  ⟨rfl, fun a => by
    match a with
    | ⟨0, _⟩ => show 128 * k.val + 128 ≤ 512; omega
    | ⟨1, _⟩ => show 128 * g.val + 128 ≤ 512; omega⟩

def blk {α : Type} (x : S512x512.Idx → α) (k g : Fin 4) : S128x128.Idx → α := extractStridedSlice S128x128 ![128 * k.val, 128 * g.val] x (fits k g)

abbrev rO (k g : Fin 4) : Rect S512x512 := Rect.unit (s := S512x512) ![128 * k.val, 128 * g.val] S128x128.size
  (fun a => by match a with | ⟨0, _⟩ => show 128 * k.val + 128 ≤ 512; omega | ⟨1, _⟩ => show 128 * g.val + 128 ≤ 512; omega)

/-- One group's mixing matrix and bias column. -/
abbrev rS (g : Fin 4) : Rect S4x128x128 := Rect.unit (s := S4x128x128) ![g.val, 0, 0] S1x128x128.size
  (fun a => by have := g.isLt; match a with | ⟨0, _⟩ => show g.val + 1 ≤ 4; omega | ⟨1, _⟩ => exact le_refl 128 | ⟨2, _⟩ => exact le_refl 128)
abbrev rB (g : Fin 4) : Rect S128x4 := Rect.unit (s := S128x4) ![0, g.val] S128x1.size
  (fun a => by have := g.isLt; match a with | ⟨0, _⟩ => exact le_refl 128 | ⟨1, _⟩ => show g.val + 1 ≤ 4; omega)

/-- A block's stored value: the first factor times the mixed second one with its bias. -/
def pcOf (u : FVec F S128x128 .f32) (v : FVec F S128x128 .bf16) (w : Vec F S1x128x128 .f32) (b : Vec F S128x1 .f32) : FVec F S128x128 .bf16 :=
  shapeCast S128x128 (truncf .bf16 (mulf u (addf (matmul dot_S128x128_S128x128_S128x128_1_0_0_1_n_n none (k0_pay18 k0_pay12 w) v (constant S128x128 .f32 0x00000000#32))
    (broadcastTo S128x128 (k0_pay19 b) broadcasts_S128x1_S128x128))) bitsLt_bf16_f32) shapeCasts_S128x128_S128x128

def pc (u : FVec F S512x512 .f32) (v : FVec F S512x512 .bf16) (ws : Vec F S4x128x128 .f32) (bs : Vec F S128x4 .f32) (k g : Fin 4) : FVec F S128x128 .bf16 :=
  pcOf (blk u k g) (blk v k g) (View.ld ws (rS g)) (View.ld bs (rB g))

/-- The sixteen stored blocks, the last one first. -/
def pieces (u : FVec F S512x512 .f32) (v : FVec F S512x512 .bf16) (ws : Vec F S4x128x128 .f32) (bs : Vec F S128x4 .f32) : List (View.Piece (Elt F) S512x512 .bf16) :=
  [⟨rO 3 3, pc u v ws bs 3 3⟩, ⟨rO 2 3, pc u v ws bs 2 3⟩, ⟨rO 1 3, pc u v ws bs 1 3⟩, ⟨rO 0 3, pc u v ws bs 0 3⟩,
    ⟨rO 3 2, pc u v ws bs 3 2⟩, ⟨rO 2 2, pc u v ws bs 2 2⟩, ⟨rO 1 2, pc u v ws bs 1 2⟩, ⟨rO 0 2, pc u v ws bs 0 2⟩,
    ⟨rO 3 1, pc u v ws bs 3 1⟩, ⟨rO 2 1, pc u v ws bs 2 1⟩, ⟨rO 1 1, pc u v ws bs 1 1⟩, ⟨rO 0 1, pc u v ws bs 0 1⟩,
    ⟨rO 3 0, pc u v ws bs 3 0⟩, ⟨rO 2 0, pc u v ws bs 2 0⟩, ⟨rO 1 0, pc u v ws bs 1 0⟩, ⟨rO 0 0, pc u v ws bs 0 0⟩]

theorem pieces_mem (u : FVec F S512x512 .f32) (v : FVec F S512x512 .bf16) (ws : Vec F S4x128x128 .f32) (bs : Vec F S128x4 .f32) (k g : Fin 4) :
    ⟨rO k g, pc u v ws bs k g⟩ ∈ pieces u v ws bs := by
  unfold pieces
  match k, g with
  | 0, 0 => exact .tail _ (.tail _ (.tail _ (.tail _ (.tail _ (.tail _ (.tail _ (.tail _ (.tail _ (.tail _ (.tail _ (.tail _ (.tail _ (.tail _ (.tail _ (.head _)))))))))))))))
  | 0, 1 => exact .tail _ (.tail _ (.tail _ (.tail _ (.tail _ (.tail _ (.tail _ (.tail _ (.tail _ (.tail _ (.tail _ (.head _)))))))))))
  | 0, 2 => exact .tail _ (.tail _ (.tail _ (.tail _ (.tail _ (.tail _ (.tail _ (.head _)))))))
  | 0, 3 => exact .tail _ (.tail _ (.tail _ (.head _)))
  | 1, 0 => exact .tail _ (.tail _ (.tail _ (.tail _ (.tail _ (.tail _ (.tail _ (.tail _ (.tail _ (.tail _ (.tail _ (.tail _ (.tail _ (.tail _ (.head _))))))))))))))
  | 1, 1 => exact .tail _ (.tail _ (.tail _ (.tail _ (.tail _ (.tail _ (.tail _ (.tail _ (.tail _ (.tail _ (.head _))))))))))
  | 1, 2 => exact .tail _ (.tail _ (.tail _ (.tail _ (.tail _ (.tail _ (.head _))))))
  | 1, 3 => exact .tail _ (.tail _ (.head _))
  | 2, 0 => exact .tail _ (.tail _ (.tail _ (.tail _ (.tail _ (.tail _ (.tail _ (.tail _ (.tail _ (.tail _ (.tail _ (.tail _ (.tail _ (.head _)))))))))))))
  | 2, 1 => exact .tail _ (.tail _ (.tail _ (.tail _ (.tail _ (.tail _ (.tail _ (.tail _ (.tail _ (.head _)))))))))
  | 2, 2 => exact .tail _ (.tail _ (.tail _ (.tail _ (.tail _ (.head _)))))
  | 2, 3 => exact .tail _ (.head _)
  | 3, 0 => exact .tail _ (.tail _ (.tail _ (.tail _ (.tail _ (.tail _ (.tail _ (.tail _ (.tail _ (.tail _ (.tail _ (.tail _ (.head _))))))))))))
  | 3, 1 => exact .tail _ (.tail _ (.tail _ (.tail _ (.tail _ (.tail _ (.tail _ (.tail _ (.head _))))))))
  | 3, 2 => exact .tail _ (.tail _ (.tail _ (.tail _ (.head _))))
  | 3, 3 => exact .head _

/-- The five stored blocks of a point. -/
theorem out9_eq (x0 : Vec F S512x1024 .f32) (x1 : Vec F S1x1024 .f32) (x2 : Vec F S3840x1024 .bf16) (x3 : Vec F S1x512 .f32) (x4 : Vec F S4x128x128 .f32) (x5 : Vec F S128x4 .f32) :
    out0_9 x0 x1 x2 x3 x4 x5 = k0_pay4 x0 x1 := by
  unfold_out out0_9
  rw [View.canon_unit_zero (S := S512x1024) hz]
  simp only [View.ld_unit_zero (S := S512x1024) hz, View.ld_unit_zero (S := S1x1024) hz]
  exact shapeCast_self _ _

theorem out7_eq (x0 : Vec F S512x1024 .f32) (x1 : Vec F S1x1024 .f32) (x2 : Vec F S3840x1024 .bf16) (x3 : Vec F S1x512 .f32) (x4 : Vec F S4x128x128 .f32) (x5 : Vec F S128x4 .f32) :
    out0_7 x0 x1 x2 x3 x4 x5 = k0_pay6 x0 x1 (View.ld x2 r0_2) := by
  unfold_out out0_7
  rw [View.canon_unit_zero (S := S512x1024) hz]
  simp only [View.ld_unit_zero (S := S512x1024) hz, View.ld_unit_zero (S := S1x1024) hz]
  exact shapeCast_self _ _

theorem out8_eq (x0 : Vec F S512x1024 .f32) (x1 : Vec F S1x1024 .f32) (x2 : Vec F S3840x1024 .bf16) (x3 : Vec F S1x512 .f32) (x4 : Vec F S4x128x128 .f32) (x5 : Vec F S128x4 .f32) :
    out0_8 x0 x1 x2 x3 x4 x5 = k0_pay8 x0 x1 (View.ld x2 r0_3) := by
  unfold_out out0_8
  rw [View.canon_unit_zero (S := S512x768) hz]
  simp only [View.ld_unit_zero (S := S512x1024) hz, View.ld_unit_zero (S := S1x1024) hz]

theorem out6_eq (x0 : Vec F S512x1024 .f32) (x1 : Vec F S1x1024 .f32) (x2 : Vec F S3840x1024 .bf16) (x3 : Vec F S1x512 .f32) (x4 : Vec F S4x128x128 .f32) (x5 : Vec F S128x4 .f32) :
    out0_6 x0 x1 x2 x3 x4 x5 = k0_pay10 (k0_pay4 x0 x1) (k0_pay9 (View.ld x2 r0_5)) (constant S512x2048 .f32 0x00000000#32) := by
  unfold_out out0_6
  rw [View.canon_unit_zero (S := S512x2048) hz]
  simp only [View.ld_unit_zero (S := S512x1024) hz, View.ld_unit_zero (S := S1x1024) hz]

theorem out10_eq (x0 : Vec F S512x1024 .f32) (x1 : Vec F S1x1024 .f32) (x2 : Vec F S3840x1024 .bf16) (x3 : Vec F S1x512 .f32) (x4 : Vec F S4x128x128 .f32) (x5 : Vec F S128x4 .f32) :
    out0_10 x0 x1 x2 x3 x4 x5 = View.canon (pieces (k0_pay44 x0 x1 x2 x3 x4 x5) (k0_pay48 x0 x1 x2 x3 x4 x5) x4 x5) := rfl

theorem u_eq (x0 : Vec F S512x1024 .f32) (x1 : Vec F S1x1024 .f32) (x2 : Vec F S3840x1024 .bf16) (x3 : Vec F S1x512 .f32) (x4 : Vec F S4x128x128 .f32) (x5 : Vec F S128x4 .f32) :
    k0_pay44 x0 x1 x2 x3 x4 x5 = k0_pay13 (k0_pay6 x0 x1 (View.ld x2 r0_2)) := by
  unfold k0_pay44 k0_pay42
  simp only [View.ld_unit_zero (S := S512x1024) hz, View.ld_unit_zero (S := S1x1024) hz]

theorem v_eq (x0 : Vec F S512x1024 .f32) (x1 : Vec F S1x1024 .f32) (x2 : Vec F S3840x1024 .bf16) (x3 : Vec F S1x512 .f32) (x4 : Vec F S4x128x128 .f32) (x5 : Vec F S128x4 .f32) :
    k0_pay48 x0 x1 x2 x3 x4 x5 = k0_pay17 x3 (k0_pay14 (k0_pay6 x0 x1 (View.ld x2 r0_2))) (k0_pay15 (k0_pay6 x0 x1 (View.ld x2 r0_2))) k0_pay16 := by
  unfold k0_pay48 k0_pay47 k0_pay46 k0_pay45 k0_pay42
  simp only [View.ld_unit_zero (S := S512x1024) hz, View.ld_unit_zero (S := S1x1024) hz, View.ld_unit_zero (S := S1x512) hz]
end

theorem blk_at {α : Type} (x : S512x512.Idx → α) (k g : Fin 4) (p d : Fin 128) :
    blk x k g (ix2 p d) = x (ix2 ⟨128 * k.val + p.val, by omega⟩ ⟨128 * g.val + d.val, by omega⟩) :=
  congrArg x (funext fun i => Fin.ext (by match i with | ⟨0, _⟩ => rfl | ⟨1, _⟩ => rfl))

theorem rO_emb (k g : Fin 4) (p d : Fin 128) :
    (rO k g).emb (ix2 p d) = ix2 ⟨128 * k.val + p.val, by omega⟩ ⟨128 * g.val + d.val, by omega⟩ :=
  funext fun i => Fin.ext <| by
    match i with
    | ⟨0, _⟩ => show 128 * k.val + 1 * p.val = 128 * k.val + p.val; omega
    | ⟨1, _⟩ => show 128 * g.val + 1 * d.val = 128 * g.val + d.val; omega

theorem rO_mem (k g : Fin 4) (p f : Fin 512) (hk : p.val / 128 = k.val) (hg : f.val / 128 = g.val) : (ix2 p f : S512x512.Idx) ∈ (rO k g).set := by
  refine Rect.mem_set_unit.mpr fun i => ?_
  match i with
  | ⟨0, _⟩ => exact ⟨by show 128 * k.val ≤ p.val; omega, by show p.val < 128 * k.val + 128; omega⟩
  | ⟨1, _⟩ => exact ⟨by show 128 * g.val ≤ f.val; omega, by show f.val < 128 * g.val + 128; omega⟩

theorem pcOf_at (u : FVec Ideal S128x128 .f32) (v : FVec Ideal S128x128 .bf16) (w : Vec Ideal S1x128x128 .f32) (b : Vec Ideal S128x1 .f32) (p d : Fin 128) :
    pcOf u v w b (ix2 p d) = u (ix2 p d) * ((∑ s : Fin 128, (if s.val ≤ p.val then w (ix3 0 p s) else 0) * v (ix2 s d)) + b (ix2 p 0)) := by
  have e := pay18_at w
  unfold pcOf k0_pay19
  generalize k0_pay18 k0_pay12 w = y at e ⊢
  pointwise
  simp only [e]

/-! ## The arguments and the blocks -/

variable (m : (ℓ : Loc nD τ sig) → Buf (Elt Ideal) ℓ) (c : Dev nD)

/-- The program's arguments, each read at naturals. -/
abbrev X : ℕ → ℕ → EReal := at2 (m ((c : Thread nD τ).loc main_arg0) : S4096x1024.Idx → EReal)
abbrev G : ℕ → ℕ → EReal := at2 (m ((c : Thread nD τ).loc main_arg1) : S1x1024.Idx → EReal)
abbrev W : ℕ → ℕ → EReal := at2 (m ((c : Thread nD τ).loc main_arg2) : S1024x3840.Idx → EReal)
abbrev N : ℕ → ℕ → EReal := at2 (m ((c : Thread nD τ).loc main_arg3) : S1x512.Idx → EReal)
abbrev S : ℕ → ℕ → ℕ → EReal := at3 (m ((c : Thread nD τ).loc main_arg4) : S4x128x128.Idx → EReal)
abbrev B : ℕ → ℕ → EReal := at2 (m ((c : Thread nD τ).loc main_arg5) : S4x128.Idx → EReal)

/-- The grid's block indices: the row arrays are cut into tiles, the others are taken whole. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem V_x (r : Fin 4096) (k : Fin 1024) : (V m c main_arg0 : S4096x1024.Idx → EReal) (ix2 r k) = X m c r.val k.val :=
  (congrFun (V_main_arg0 m c) _).trans (at2_eq _ r k).symm

theorem V_g (r : Fin 1) (k : Fin 1024) : (V m c main_arg1 : S1x1024.Idx → EReal) (ix2 r k) = G m c r.val k.val :=
  (congrFun (V_main_arg1 m c) _).trans (at2_eq _ r k).symm

theorem V_n (r : Fin 1) (k : Fin 512) : (V m c main_arg3 : S1x512.Idx → EReal) (ix2 r k) = N m c r.val k.val :=
  (congrFun (V_main_arg3 m c) _).trans (at2_eq _ r k).symm

theorem V_s (j : Fin 4) (e f : Fin 128) : (V m c main_arg4 : S4x128x128.Idx → EReal) (ix3 j e f) = S m c j.val e.val f.val :=
  (congrFun (V_main_arg4 m c) _).trans (at3_eq _ j e f).symm

theorem V_w (r : Fin 3840) (k : Fin 1024) : (V m c main_v1 : S3840x1024.Idx → EReal) (ix2 r k) = W m c k.val r.val := by
  show transpose S3840x1024 [1, 0] (m ((c : Thread nD τ).loc main_arg2) : S1024x3840.Idx → EReal) transposes_S1024x3840_S3840x1024_1_0 (ix2 r k) = _
  refine Eq.trans ?_ (at2_eq _ k r).symm
  pointwise

theorem V_b (r : Fin 128) (k : Fin 4) : (V m c main_v2 : S128x4.Idx → EReal) (ix2 r k) = B m c k.val r.val := by
  show transpose S128x4 [1, 0] (m ((c : Thread nD τ).loc main_arg5) : S4x128.Idx → EReal) transposes_S4x128_S128x4_1_0 (ix2 r k) = _
  refine Eq.trans ?_ (at2_eq _ k r).symm
  pointwise

variable (t : Fin cfg0.N)

/-- Point `t`'s blocks. -/
abbrev bX : Vec Ideal S512x1024 .f32 := iblk m c 0 t
abbrev bG : Vec Ideal S1x1024 .f32 := iblk m c 1 t
abbrev bW : Vec Ideal S3840x1024 .bf16 := iblk m c 2 t
abbrev bN : Vec Ideal S1x512 .f32 := iblk m c 3 t
abbrev bS : Vec Ideal S4x128x128 .f32 := iblk m c 4 t
abbrev bB : Vec Ideal S128x4 .f32 := iblk m c 5 t

theorem bX_at (a : Fin 512) (f : Fin 1024) : bX m c t (ix2 a f) = X m c (512 * t.val + a.val) f.val := by
  have hN : t.val < 8 := lt_of_lt_of_eq t.isLt N_0
  obtain ⟨e, -⟩ := index_facts t
  refine Eq.trans ?_ (V_x m c ⟨512 * t.val + a.val, by omega⟩ f)
  refine congrArg (V m c main_arg0 : S4096x1024.Idx → EReal) (funext fun x => Fin.ext ?_)
  match x with
  | ⟨0, _⟩ => show win0_0.index t (0 : Fin 2) * 512 + 1 * a.val = _; rw [e.1]; show _ = 512 * t.val + a.val; omega
  | ⟨1, _⟩ => show win0_0.index t (1 : Fin 2) * 1024 + 1 * f.val = _; rw [e.2]; show _ = f.val; omega

theorem bG_at (a : Fin 1) (f : Fin 1024) : bG m c t (ix2 a f) = G m c (a.val) f.val := by
  obtain ⟨-, e, -⟩ := index_facts t
  refine Eq.trans ?_ (V_g m c a f)
  refine congrArg (V m c main_arg1 : S1x1024.Idx → EReal) (funext fun x => Fin.ext ?_)
  match x with
  | ⟨0, _⟩ => show win0_1.index t (0 : Fin 2) * 1 + 1 * a.val = _; rw [e.1]; show _ = a.val; omega
  | ⟨1, _⟩ => show win0_1.index t (1 : Fin 2) * 1024 + 1 * f.val = _; rw [e.2]; show _ = f.val; omega

theorem bW_at (a : Fin 3840) (f : Fin 1024) : bW m c t (ix2 a f) = W m c f.val a.val := by
  obtain ⟨-, -, e, -⟩ := index_facts t
  refine Eq.trans ?_ (V_w m c a f)
  refine congrArg (V m c main_v1 : S3840x1024.Idx → EReal) (funext fun x => Fin.ext ?_)
  match x with
  | ⟨0, _⟩ => show win0_2.index t (0 : Fin 2) * 3840 + 1 * a.val = _; rw [e.1]; show _ = a.val; omega
  | ⟨1, _⟩ => show win0_2.index t (1 : Fin 2) * 1024 + 1 * f.val = _; rw [e.2]; show _ = f.val; omega

theorem bN_at (a : Fin 1) (f : Fin 512) : bN m c t (ix2 a f) = N m c (a.val) f.val := by
  obtain ⟨-, -, -, e, -⟩ := index_facts t
  refine Eq.trans ?_ (V_n m c a f)
  refine congrArg (V m c main_arg3 : S1x512.Idx → EReal) (funext fun x => Fin.ext ?_)
  match x with
  | ⟨0, _⟩ => show win0_3.index t (0 : Fin 2) * 1 + 1 * a.val = _; rw [e.1]; show _ = a.val; omega
  | ⟨1, _⟩ => show win0_3.index t (1 : Fin 2) * 512 + 1 * f.val = _; rw [e.2]; show _ = f.val; omega

theorem bS_at (j : Fin 4) (e : Fin 128) (f : Fin 128) : bS m c t (ix3 j e f) = S m c j.val e.val f.val := by
  obtain ⟨-, -, -, -, q, -⟩ := index_facts t
  refine Eq.trans ?_ (V_s m c j e f)
  refine congrArg (V m c main_arg4 : S4x128x128.Idx → EReal) (funext fun x => Fin.ext ?_)
  match x with
  | ⟨0, _⟩ => show win0_4.index t (0 : Fin 3) * 4 + 1 * j.val = _; rw [q.1]; show _ = j.val; omega
  | ⟨1, _⟩ => show win0_4.index t (1 : Fin 3) * 128 + 1 * e.val = _; rw [q.2.1]; show _ = e.val; omega
  | ⟨2, _⟩ => show win0_4.index t (2 : Fin 3) * 128 + 1 * f.val = _; rw [q.2.2]; show _ = f.val; omega

theorem bB_at (a : Fin 128) (f : Fin 4) : bB m c t (ix2 a f) = B m c f.val a.val := by
  obtain ⟨-, -, -, -, -, e, -⟩ := index_facts t
  refine Eq.trans ?_ (V_b m c a f)
  refine congrArg (V m c main_v2 : S128x4.Idx → EReal) (funext fun x => Fin.ext ?_)
  match x with
  | ⟨0, _⟩ => show win0_5.index t (0 : Fin 2) * 128 + 1 * a.val = _; rw [e.1]; show _ = a.val; omega
  | ⟨1, _⟩ => show win0_5.index t (1 : Fin 2) * 4 + 1 * f.val = _; rw [e.2]; show _ = f.val; omega

theorem ld2_at (f : Fin 1024) (k : Fin 1024) : View.ld (bW m c t) r0_2 (ix2 f k) = W m c k.val (0 + f.val) := by
  refine Eq.trans (congrArg (bW m c t) (rows_emb2 _ f k (by omega))) ?_
  exact bW_at m c t ⟨0 + f.val, by omega⟩ k

theorem ld3_at (f : Fin 768) (k : Fin 1024) : View.ld (bW m c t) r0_3 (ix2 f k) = W m c k.val (1024 + f.val) := by
  refine Eq.trans (congrArg (bW m c t) (rows_emb2 _ f k (by omega))) ?_
  exact bW_at m c t ⟨1024 + f.val, by omega⟩ k

theorem ld5_at (f : Fin 2048) (k : Fin 1024) : View.ld (bW m c t) r0_5 (ix2 f k) = W m c k.val (1792 + f.val) := by
  refine Eq.trans (congrArg (bW m c t) (rows_emb2 _ f k (by omega))) ?_
  exact bW_at m c t ⟨1792 + f.val, by omega⟩ k

theorem ldS_at (g : Fin 4) (a b : Fin 128) : View.ld (bS m c t) (rS g) (ix3 0 a b) = S m c g.val a.val b.val :=
  (congrArg (bS m c t) (unit_emb3 _ 0 a b)).trans (bS_at m c t g a b)

theorem ldB_at (g : Fin 4) (a : Fin 128) : View.ld (bB m c t) (rB g) (ix2 a 0) = B m c g.val a.val := by
  refine Eq.trans ?_ (bB_at m c t a g)
  exact congrArg (bB m c t) (unit_emb2 _ a 0 (by have := g.isLt; show g.val + 0 < 4; omega))

/-! ## What a point stores -/

theorem h_at (p : Fin 512) (k : Fin 1024) : k0_pay4 (bX m c t) (bG m c t) (ix2 p k) = hn (X m c) (G m c) (512 * t.val + p.val) k.val := by
  rw [pay4_at]
  simp only [bX_at, bG_at]
  rfl

theorem pa_at (p : Fin 512) (f : Fin 1024) :
    k0_pay6 (bX m c t) (bG m c t) (View.ld (bW m c t) r0_2) (ix2 p f) = pj (X m c) (G m c) (W m c) (512 * t.val + p.val) f.val := by
  rw [pay6_at]
  simp only [h_at, ld2_at, Nat.zero_add]
  rfl

theorem out9_at (p : Fin 512) (k : Fin 1024) :
    out0_9 (bX m c t) (bG m c t) (bW m c t) (bN m c t) (bS m c t) (bB m c t) (ix2 p k) = hn (X m c) (G m c) (512 * t.val + p.val) k.val := by
  rw [out9_eq]
  exact h_at m c t p k

theorem out7_at (p : Fin 512) (f : Fin 1024) :
    out0_7 (bX m c t) (bG m c t) (bW m c t) (bN m c t) (bS m c t) (bB m c t) (ix2 p f) = pj (X m c) (G m c) (W m c) (512 * t.val + p.val) f.val := by
  rw [out7_eq]
  exact pa_at m c t p f

theorem out8_at (p : Fin 512) (f : Fin 768) :
    out0_8 (bX m c t) (bG m c t) (bW m c t) (bN m c t) (bS m c t) (bB m c t) (ix2 p f) = pj (X m c) (G m c) (W m c) (512 * t.val + p.val) (1024 + f.val) := by
  rw [out8_eq, pay8_at]
  simp only [h_at, ld3_at]
  rfl

theorem out6_at (p : Fin 512) (f : Fin 2048) :
    out0_6 (bX m c t) (bG m c t) (bW m c t) (bN m c t) (bS m c t) (bB m c t) (ix2 p f) = pj (X m c) (G m c) (W m c) (512 * t.val + p.val) (1792 + f.val) := by
  rw [out6_eq, pay10_at]
  simp only [h_at, ld5_at]
  rfl

/-- The two factors of the gating. -/
theorem u_at (p e : Fin 512) :
    k0_pay44 (bX m c t) (bG m c t) (bW m c t) (bN m c t) (bS m c t) (bB m c t) (ix2 p e) = uu (X m c) (G m c) (W m c) (512 * t.val + p.val) e.val := by
  rw [u_eq, pay13_at, pa_at]
  rfl

theorem v_at (p e : Fin 512) :
    k0_pay48 (bX m c t) (bG m c t) (bW m c t) (bN m c t) (bS m c t) (bB m c t) (ix2 p e) = vn (X m c) (G m c) (W m c) (N m c) (512 * t.val + p.val) e.val := by
  rw [v_eq, pay17_at]
  simp only [pay14_at, pa_at, bN_at]
  rfl

/-- The gating's output on point `t`'s rows. -/
def tile (t : ℕ) : S512x512.Idx → EReal := fun x =>
  mix (uu (X m c) (G m c) (W m c)) (vn (X m c) (G m c) (W m c) (N m c)) (S m c) (B m c) (512 * t + (x 0).val) (x 1).val

theorem pc_at (k g : Fin 4) (p d : Fin 128) :
    pc (k0_pay44 (bX m c t) (bG m c t) (bW m c t) (bN m c t) (bS m c t) (bB m c t)) (k0_pay48 (bX m c t) (bG m c t) (bW m c t) (bN m c t) (bS m c t) (bB m c t))
      (bS m c t) (bB m c t) k g (ix2 p d) = tile m c t.val (ix2 ⟨128 * k.val + p.val, by omega⟩ ⟨128 * g.val + d.val, by omega⟩) := by
  unfold pc
  rw [pcOf_at, blk_at, u_at]
  simp only [blk_at, v_at, ldB_at]
  simp only [ldS_at]
  unfold tile mix
  show _ = uu _ _ _ (512 * t.val + (128 * k.val + p.val)) (128 * g.val + d.val) * ((∑ s : Fin 128, (if s.val ≤ (512 * t.val + (128 * k.val + p.val)) % 128
      then S m c ((128 * g.val + d.val) / 128) ((512 * t.val + (128 * k.val + p.val)) % 128) s.val else 0)
      * vn _ _ _ _ (128 * ((512 * t.val + (128 * k.val + p.val)) / 128) + s.val) (128 * g.val + d.val))
    + B m c ((128 * g.val + d.val) / 128) ((512 * t.val + (128 * k.val + p.val)) % 128))
  have e1 : (512 * t.val + (128 * k.val + p.val)) % 128 = p.val := by omega
  have e2 : (512 * t.val + (128 * k.val + p.val)) / 128 = 4 * t.val + k.val := by omega
  have e3 : (128 * g.val + d.val) / 128 = g.val := by omega
  rw [e1, e2, e3]
  have e4 : ∀ s : Fin 128, 128 * (4 * t.val + k.val) + s.val = 512 * t.val + (128 * k.val + s.val) := fun s => by omega
  simp only [e4]

theorem out10_at (p f : Fin 512) :
    out0_10 (bX m c t) (bG m c t) (bW m c t) (bN m c t) (bS m c t) (bB m c t) (ix2 p f)
      = mix (uu (X m c) (G m c) (W m c)) (vn (X m c) (G m c) (W m c) (N m c)) (S m c) (B m c) (512 * t.val + p.val) f.val := by
  rw [out10_eq]
  have H : ∀ k g : Fin 4, ∀ x : (rO k g).shape.Idx, pc (k0_pay44 (bX m c t) (bG m c t) (bW m c t) (bN m c t) (bS m c t) (bB m c t))
      (k0_pay48 (bX m c t) (bG m c t) (bW m c t) (bN m c t) (bS m c t) (bB m c t)) (bS m c t) (bB m c t) k g x = tile m c t.val ((rO k g).emb x) :=
    fun k g => all2 fun p d => (pc_at m c t k g p d).trans (congrArg (tile m c t.val) (rO_emb k g p d)).symm
  have HP : View.PiecesOf (tile m c t.val) (pieces (k0_pay44 (bX m c t) (bG m c t) (bW m c t) (bN m c t) (bS m c t) (bB m c t)) (k0_pay48 (bX m c t) (bG m c t) (bW m c t) (bN m c t) (bS m c t) (bB m c t)) (bS m c t) (bB m c t)) :=
    ⟨H 3 3, H 2 3, H 1 3, H 0 3, H 3 2, H 2 2, H 1 2, H 0 2, H 3 1, H 2 1, H 1 1, H 0 1, H 3 0, H 2 0, H 1 0, H 0 0, trivial⟩
  exact View.canon_apply_of_pieces (Val := Elt Ideal) (S := S512x512) (e := .bf16) (tile m c t.val) _ (View.PiecesOf.mem HP) (ix2 p f) ⟨_, pieces_mem _ _ _ _ ⟨p.val / 128, by omega⟩ ⟨f.val / 128, by omega⟩, rO_mem _ _ p f rfl rfl⟩

/-! ## The results -/

/-- The first result: the gates. -/
theorem r6_at (r : Fin 4096) (f : Fin 2048) : ((dats m 0 c).arrAt 6 cfg0.N : S4096x2048.Idx → EReal) (ix2 r f) = pj (X m c) (G m c) (W m c) r.val (1792 + f.val) := by
  have hN : cfg0.N = 8 := N_0
  have ht : r.val / 512 < cfg0.N := by omega
  have e := congrFun (blocks6 m c ⟨r.val / 512, ht⟩ (flush0_6 _)) (ix2 ⟨r.val % 512, by omega⟩ f)
  rw [flushed6] at e
  refine Eq.trans (Eq.trans ?_ e) ((out6_at m c ⟨r.val / 512, ht⟩ ⟨r.val % 512, by omega⟩ f).trans ?_)
  · obtain ⟨-, -, -, -, -, -, ⟨e0, e1⟩, -⟩ := index_facts ⟨r.val / 512, ht⟩
    refine congrArg ((dats m 0 c).arrAt 6 cfg0.N : S4096x2048.Idx → EReal) (funext fun x => Fin.ext ?_)
    match x with
    | ⟨0, _⟩ => show r.val = win0_6.index ⟨r.val / 512, ht⟩ (0 : Fin 2) * 512 + 1 * (r.val % 512); rw [e0]; show r.val = r.val / 512 * 512 + 1 * (r.val % 512); omega
    | ⟨1, _⟩ => show f.val = win0_6.index ⟨r.val / 512, ht⟩ (1 : Fin 2) * 2048 + 1 * f.val; rw [e1]; omega
  · dsimp only
    rw [Nat.div_add_mod]

/-- The second result: the gating's input. -/
theorem r7_at (r : Fin 4096) (f : Fin 1024) : ((dats m 0 c).arrAt 7 cfg0.N : S4096x1024.Idx → EReal) (ix2 r f) = pj (X m c) (G m c) (W m c) r.val f.val := by
  have hN : cfg0.N = 8 := N_0
  have ht : r.val / 512 < cfg0.N := by omega
  have e := congrFun (blocks7 m c ⟨r.val / 512, ht⟩ (flush0_7 _)) (ix2 ⟨r.val % 512, by omega⟩ f)
  rw [flushed7] at e
  refine Eq.trans (Eq.trans ?_ e) ((out7_at m c ⟨r.val / 512, ht⟩ ⟨r.val % 512, by omega⟩ f).trans ?_)
  · obtain ⟨-, -, -, -, -, -, -, ⟨e0, e1⟩, -⟩ := index_facts ⟨r.val / 512, ht⟩
    refine congrArg ((dats m 0 c).arrAt 7 cfg0.N : S4096x1024.Idx → EReal) (funext fun x => Fin.ext ?_)
    match x with
    | ⟨0, _⟩ => show r.val = win0_7.index ⟨r.val / 512, ht⟩ (0 : Fin 2) * 512 + 1 * (r.val % 512); rw [e0]; show r.val = r.val / 512 * 512 + 1 * (r.val % 512); omega
    | ⟨1, _⟩ => show f.val = win0_7.index ⟨r.val / 512, ht⟩ (1 : Fin 2) * 1024 + 1 * f.val; rw [e1]; omega
  · dsimp only
    rw [Nat.div_add_mod]

/-- The third result: the attention's input. -/
theorem r8_at (r : Fin 4096) (f : Fin 768) : ((dats m 0 c).arrAt 8 cfg0.N : S4096x768.Idx → EReal) (ix2 r f) = pj (X m c) (G m c) (W m c) r.val (1024 + f.val) := by
  have hN : cfg0.N = 8 := N_0
  have ht : r.val / 512 < cfg0.N := by omega
  have e := congrFun (blocks8 m c ⟨r.val / 512, ht⟩ (flush0_8 _)) (ix2 ⟨r.val % 512, by omega⟩ f)
  rw [flushed8] at e
  refine Eq.trans (Eq.trans ?_ e) ((out8_at m c ⟨r.val / 512, ht⟩ ⟨r.val % 512, by omega⟩ f).trans ?_)
  · obtain ⟨-, -, -, -, -, -, -, -, ⟨e0, e1⟩, -⟩ := index_facts ⟨r.val / 512, ht⟩
    refine congrArg ((dats m 0 c).arrAt 8 cfg0.N : S4096x768.Idx → EReal) (funext fun x => Fin.ext ?_)
    match x with
    | ⟨0, _⟩ => show r.val = win0_8.index ⟨r.val / 512, ht⟩ (0 : Fin 2) * 512 + 1 * (r.val % 512); rw [e0]; show r.val = r.val / 512 * 512 + 1 * (r.val % 512); omega
    | ⟨1, _⟩ => show f.val = win0_8.index ⟨r.val / 512, ht⟩ (1 : Fin 2) * 768 + 1 * f.val; rw [e1]; omega
  · dsimp only
    rw [Nat.div_add_mod]

/-- The fourth result: the normalised rows. -/
theorem r9_at (r : Fin 4096) (f : Fin 1024) : ((dats m 0 c).arrAt 9 cfg0.N : S4096x1024.Idx → EReal) (ix2 r f) = hn (X m c) (G m c) r.val f.val := by
  have hN : cfg0.N = 8 := N_0
  have ht : r.val / 512 < cfg0.N := by omega
  have e := congrFun (blocks9 m c ⟨r.val / 512, ht⟩ (flush0_9 _)) (ix2 ⟨r.val % 512, by omega⟩ f)
  rw [flushed9] at e
  refine Eq.trans (Eq.trans ?_ e) ((out9_at m c ⟨r.val / 512, ht⟩ ⟨r.val % 512, by omega⟩ f).trans ?_)
  · obtain ⟨-, -, -, -, -, -, -, -, -, ⟨e0, e1⟩, -⟩ := index_facts ⟨r.val / 512, ht⟩
    refine congrArg ((dats m 0 c).arrAt 9 cfg0.N : S4096x1024.Idx → EReal) (funext fun x => Fin.ext ?_)
    match x with
    | ⟨0, _⟩ => show r.val = win0_9.index ⟨r.val / 512, ht⟩ (0 : Fin 2) * 512 + 1 * (r.val % 512); rw [e0]; show r.val = r.val / 512 * 512 + 1 * (r.val % 512); omega
    | ⟨1, _⟩ => show f.val = win0_9.index ⟨r.val / 512, ht⟩ (1 : Fin 2) * 1024 + 1 * f.val; rw [e1]; omega
  · dsimp only
    rw [Nat.div_add_mod]

/-- The fifth result: the gating's output. -/
theorem r10_at (r : Fin 4096) (f : Fin 512) : ((dats m 0 c).arrAt 10 cfg0.N : S4096x512.Idx → EReal) (ix2 r f) = mix (uu (X m c) (G m c) (W m c)) (vn (X m c) (G m c) (W m c) (N m c)) (S m c) (B m c) r.val f.val := by
  have hN : cfg0.N = 8 := N_0
  have ht : r.val / 512 < cfg0.N := by omega
  have e := congrFun (blocks10 m c ⟨r.val / 512, ht⟩ (flush0_10 _)) (ix2 ⟨r.val % 512, by omega⟩ f)
  rw [flushed10] at e
  refine Eq.trans (Eq.trans ?_ e) ((out10_at m c ⟨r.val / 512, ht⟩ ⟨r.val % 512, by omega⟩ f).trans ?_)
  · obtain ⟨-, -, -, -, -, -, -, -, -, -, e0, e1⟩ := index_facts ⟨r.val / 512, ht⟩
    refine congrArg ((dats m 0 c).arrAt 10 cfg0.N : S4096x512.Idx → EReal) (funext fun x => Fin.ext ?_)
    match x with
    | ⟨0, _⟩ => show r.val = win0_10.index ⟨r.val / 512, ht⟩ (0 : Fin 2) * 512 + 1 * (r.val % 512); rw [e0]; show r.val = r.val / 512 * 512 + 1 * (r.val % 512); omega
    | ⟨1, _⟩ => show f.val = win0_10.index ⟨r.val / 512, ht⟩ (1 : Fin 2) * 512 + 1 * f.val; rw [e1]; omega
  · dsimp only
    rw [Nat.div_add_mod]

end Cert.FinIdeal.Result

end
-- ==== Proof.Fin.Ref.lean ====
module

public import proofs.«01_k».proof.Defs
public import proofs.«01_k».proof.Proof.Gen.FinRefIdeal.Read
public import proofs.«01_k».proof.Proof.Fin.Result

/-! # The forward input projection with its gating: the reference's results at an index -/

@[expose] public section

set_option maxRecDepth 16384

noncomputable section

open Idealize.ShloMosaic Idealize.ShloMosaic.TcCoe Idealize.SL.Sem

namespace Cert.FinClaims

open Cert.Reals Cert.FinRefIdeal Cert.FinRefIdeal.Read Cert.FinIdeal.Result

/-- The normalised rows, as the projection's input and as a result. -/
theorem v11_at (x0 : (⟨S4096x1024, .f32⟩ : BufTy).Contents (Elt Ideal)) (x1 : (⟨S1x1024, .f32⟩ : BufTy).Contents (Elt Ideal)) (r : Fin 4096) (k : Fin 1024) :
    val_main_v11 x0 x1 (ix2 r k) = hn (at2 x0) (at2 x1) r.val k.val := by
  unfold hn nrm
  rw [show at2 x1 0 k.val = x1 (ix2 0 k) from at2_eq x1 0 k]
  simp only [at2_eq x0]
  pointwise [val_main_v11, val_main_v10, val_main_v9, val_main_v8, val_main_v7, val_main_v6, val_main_v5, val_main_v4, val_main_v3, val_main_v2, val_main_v1, val_main_v0, val_main_cst, val_main_cst_0, val_main_cst_1]

theorem v30_at (x0 : (⟨S4096x1024, .f32⟩ : BufTy).Contents (Elt Ideal)) (x1 : (⟨S1x1024, .f32⟩ : BufTy).Contents (Elt Ideal)) (r : Fin 4096) (k : Fin 1024) :
    val_main_v30 x0 x1 (ix2 r k) = hn (at2 x0) (at2 x1) r.val k.val := by
  unfold hn nrm
  rw [show at2 x1 0 k.val = x1 (ix2 0 k) from at2_eq x1 0 k]
  simp only [at2_eq x0]
  pointwise [val_main_v30, val_main_v29, val_main_v28, val_main_v27, val_main_v26, val_main_v25, val_main_v24, val_main_v23, val_main_v22, val_main_v21, val_main_v20, val_main_v19, val_main_cst_2, val_main_cst_3, val_main_cst_4]

/-- The projection. -/
theorem v12_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (r : Fin 4096) (f : Fin 3840) :
    val_main_v12 x0 x1 x2 (ix2 r f) = pj (at2 x0) (at2 x1) (at2 x2) r.val f.val := by
  have e := v11_at x0 x1
  unfold pj
  unfold val_main_v12
  generalize val_main_v11 x0 x1 = y at e ⊢
  pointwise
  simp only [e, at2_eq x2]

/-- Its three parts: the gates, the gating's input and the attention's input. -/
theorem v15_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (r : Fin 4096) (f : Fin 2048) :
    val_main_v15 x0 x1 x2 (ix2 r f) = pj (at2 x0) (at2 x1) (at2 x2) r.val (1792 + f.val) := by
  have e := v12_at x0 x1 x2
  unfold val_main_v15
  generalize val_main_v12 x0 x1 x2 = y at e ⊢
  pointwise
  exact e r ⟨1792 + f.val, by omega⟩

theorem v13_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (r : Fin 4096) (f : Fin 1024) :
    val_main_v13 x0 x1 x2 (ix2 r f) = pj (at2 x0) (at2 x1) (at2 x2) r.val f.val := by
  have e := v12_at x0 x1 x2
  unfold val_main_v13
  generalize val_main_v12 x0 x1 x2 = y at e ⊢
  pointwise
  exact e r ⟨f.val, by omega⟩

theorem v14_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (r : Fin 4096) (f : Fin 768) :
    val_main_v14 x0 x1 x2 (ix2 r f) = pj (at2 x0) (at2 x1) (at2 x2) r.val (1024 + f.val) := by
  have e := v12_at x0 x1 x2
  unfold val_main_v14
  generalize val_main_v12 x0 x1 x2 = y at e ⊢
  pointwise
  exact e r ⟨1024 + f.val, by omega⟩

/-- The reference's smooth gate, with its factors in another order. -/
theorem gl_eq (z : EReal) :
    z * (Ideal.ofBits .f32 1056964608#32 * (1 + Ideal.tanh (Ideal.ofBits .f32 1061962282#32 * (z + Ideal.div (Ideal.ofBits .f32 1194240768#32) (Ideal.ofBits .f32 1232348160#32) * (z * z * z))))) = gl z := by
  rw [Cert.MergeMath.word_num, Cert.MergeMath.word_den, Cert.MergeMath.div_num]
  unfold gl
  rw [← mul_assoc, mul_comm z]

theorem v47_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (r : Fin 4096) (e : Fin 512) :
    val_main_v47 x0 x1 x2 (ix2 r e) = uu (at2 x0) (at2 x1) (at2 x2) r.val e.val := by
  have h := v13_at x0 x1 x2 r ⟨e.val, by omega⟩
  unfold uu
  unfold val_main_v47 val_main_v46 val_main_v45 val_main_v44 val_main_v43 val_main_v42 val_main_v41 val_main_v40 val_main_v39 val_main_v38 val_main_v37 val_main_v36 val_main_v35 val_main_v34 val_main_v32 val_main_cst_5 val_main_cst_6 val_main_cst_7 val_main_cst_8 val_main_cst_9
  generalize val_main_v13 x0 x1 x2 = y at h ⊢
  rw [← h, ← gl_eq]
  pointwise

theorem v61_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (r : Fin 4096) (e : Fin 512) :
    val_main_v61 x0 x1 x2 (ix2 r e) = gl (pj (at2 x0) (at2 x1) (at2 x2) r.val (512 + e.val)) := by
  have h := v13_at x0 x1 x2 r ⟨512 + e.val, by omega⟩
  unfold val_main_v61 val_main_v60 val_main_v59 val_main_v58 val_main_v57 val_main_v56 val_main_v55 val_main_v54 val_main_v53 val_main_v52 val_main_v51 val_main_v50 val_main_v49 val_main_v48 val_main_cst_10 val_main_cst_11 val_main_cst_12 val_main_cst_13 val_main_cst_14 val_main_v33
  generalize val_main_v13 x0 x1 x2 = y at h ⊢
  rw [← h, ← gl_eq]
  pointwise

/-- The normalised second factor. -/
theorem v73_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (x3 : (⟨S1x512, .f32⟩ : BufTy).Contents (Elt Ideal)) (r : Fin 4096) (e : Fin 512) :
    val_main_v73 x0 x1 x2 x3 (ix2 r e) = vn (at2 x0) (at2 x1) (at2 x2) (at2 x3) r.val e.val := by
  have h := v61_at x0 x1 x2 r
  unfold vn nrm
  rw [show at2 x3 0 e.val = x3 (ix2 0 e) from at2_eq x3 0 e]
  unfold val_main_v73 val_main_v72 val_main_v71 val_main_v70 val_main_v69 val_main_v68 val_main_v67 val_main_v66 val_main_v65 val_main_v64 val_main_v63 val_main_v62 val_main_cst_15 val_main_cst_16 val_main_cst_17
  generalize val_main_v61 x0 x1 x2 = y at h ⊢
  simp only [← h]
  pointwise

theorem v74_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (x3 : (⟨S1x512, .f32⟩ : BufTy).Contents (Elt Ideal)) (q : Fin 32) (s : Fin 128) (g : Fin 4) (d : Fin 128) :
    val_main_v74 x0 x1 x2 x3 (ix4 q s g d) = vn (at2 x0) (at2 x1) (at2 x2) (at2 x3) (128 * q.val + s.val) (128 * g.val + d.val) := by
  have e := v73_at x0 x1 x2 x3 ⟨128 * q.val + s.val, by omega⟩ ⟨128 * g.val + d.val, by omega⟩
  unfold val_main_v74
  generalize val_main_v73 x0 x1 x2 x3 = y at e ⊢
  refine Eq.trans ?_ e
  pointwise []
  refine congrArg y (congrArg₂ ix2 (Fin.ext ?_) (Fin.ext ?_))
  · dsimp only; omega
  · dsimp only; omega

/-- The masked mixing matrices. -/
theorem v79_at (x4 : (⟨S4x128x128, .f32⟩ : BufTy).Contents (Elt Ideal)) (g : Fin 4) (t s : Fin 128) :
    val_main_v79 x4 (ix3 g t s) = if s.val ≤ t.val then at3 x4 g.val t.val s.val else 0 := by
  rw [at3_eq x4]
  pointwise [val_main_v79, val_main_v78, val_main_v77, val_main_v76, val_main_v75, val_main_call0_v5, val_main_call0_v4, val_main_call0_v3, val_main_call0_v2, val_main_call0_v1, val_main_call0_v0, val_main_call0_c, val_main_call0_cst, val_main_cst_18]
  rw [Cert.MergeMath.mask_sel_add]

/-- The mixed values with their bias. -/
theorem v86_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (x3 : (⟨S1x512, .f32⟩ : BufTy).Contents (Elt Ideal))
    (x4 : (⟨S4x128x128, .f32⟩ : BufTy).Contents (Elt Ideal)) (x5 : (⟨S4x128, .f32⟩ : BufTy).Contents (Elt Ideal)) (r : Fin 4096) (e : Fin 512) :
    val_main_v86 x0 x1 x2 x3 x4 x5 (ix2 r e)
      = (∑ s : Fin 128, (if s.val ≤ r.val % 128 then at3 x4 (e.val / 128) (r.val % 128) s.val else 0)
          * vn (at2 x0) (at2 x1) (at2 x2) (at2 x3) (128 * (r.val / 128) + s.val) e.val) + at2 x5 (e.val / 128) (r.val % 128) := by
  have ey := v74_at x0 x1 x2 x3
  have ew := v79_at x4
  rw [show at2 x5 (e.val / 128) (r.val % 128) = x5 (ix2 ⟨e.val / 128, by omega⟩ ⟨r.val % 128, by omega⟩) from at2_eq x5 ⟨e.val / 128, by omega⟩ ⟨r.val % 128, by omega⟩]
  unfold val_main_v86 val_main_v85 val_main_v84 val_main_v83 val_main_v82 val_main_v81 val_main_v80
  generalize val_main_v74 x0 x1 x2 x3 = y at ey ⊢
  generalize val_main_v79 x4 = w at ew ⊢
  pointwise []
  simp only [ey, ew]
  refine congrArg (· + _) (Finset.sum_congr rfl fun s _ => ?_)
  rw [mul_comm, Nat.div_add_mod]

/-- The gating's output. -/
theorem v87_at (x0 : (⟨S4096x1024, .f32⟩ : BufTy).Contents (Elt Ideal)) (x1 : (⟨S1x1024, .f32⟩ : BufTy).Contents (Elt Ideal))
    (x2 : (⟨S1024x3840, .f32⟩ : BufTy).Contents (Elt Ideal)) (x3 : (⟨S1x512, .f32⟩ : BufTy).Contents (Elt Ideal))
    (x4 : (⟨S4x128x128, .f32⟩ : BufTy).Contents (Elt Ideal)) (x5 : (⟨S4x128, .f32⟩ : BufTy).Contents (Elt Ideal)) (r : Fin 4096) (e : Fin 512) :
    val_main_v87 x0 x1 x2 x3 x4 x5 (ix2 r e)
      = mix (uu (at2 x0) (at2 x1) (at2 x2)) (vn (at2 x0) (at2 x1) (at2 x2) (at2 x3)) (at3 x4) (at2 x5) r.val e.val := by
  unfold mix
  rw [← v86_at x0 x1 x2 x3 x4 x5, ← v47_at x0 x1 x2]
  unfold val_main_v87
  generalize val_main_v47 x0 x1 x2 = y
  generalize val_main_v86 x0 x1 x2 x3 x4 x5 = z
  pointwise []

end Cert.FinClaims

end
-- ==== Proof.Fin.Claims.lean ====
module

public import proofs.«01_k».proof.Defs
public import proofs.«01_k».proof.Proof.Gen.Fin
public import proofs.«01_k».proof.Proof.Gen.FinIdeal
public import proofs.«01_k».proof.Proof.Gen.FinIdeal.Frame
public import proofs.«01_k».proof.Proof.Gen.FinRefIdeal
public import proofs.«01_k».proof.Proof.Gen.FinRefIdeal.Run
public import proofs.«01_k».proof.Proof.Gen.FinRefIdeal.Read
public import proofs.«01_k».proof.Proof.Fin.Ref

/-! # The forward input projection: its claims -/

@[expose] public section

set_option maxRecDepth 16384

noncomputable section

open Idealize.ShloMosaic Idealize.ShloMosaic.TcCoe Idealize.SL.Sem

namespace Cert.FinClaims

open Cert.Reals

section
open Cert.FinIdeal

/-- The ideal program, over any floats: it runs, its arguments end unchanged and every counter ends at zero. -/
theorem frame_run {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c, Value.kept_main_arg5 m r h.1 c⟩, h.2⟩) (Gen.run_main_quiescent m ρ)
end

/-- The reading of a named constant as its float word. -/
instance readBits : Named Bits := ⟨fun _ _ {φ} b => Scalar.ofBits φ b⟩

set_option maxHeartbeats 8000000 in
/-- With named constants read as their words the two programs have one table of kernel bodies. -/
theorem bodies_eq : Cert.Fin.defs₀ (F := Bits) = Cert.FinIdeal.defs₀ (F := Bits) := by
  unfold Cert.Fin.defs₀ Cert.FinIdeal.defs₀
  congr 1
  funext l a
  match l, a with
  | 0, (t, s) => rfl

set_option maxHeartbeats 8000000 in
theorem defs_eq : Cert.Fin.defs (F := Bits) = Cert.FinIdeal.defs (F := Bits) := by
  unfold Cert.Fin.defs Cert.FinIdeal.defs
  rw [bodies_eq]
  rfl

set_option maxHeartbeats 8000000 in
/-- The kernel's own frame: with named constants read as their words the two programs have one text. -/
theorem frame_kernel : Cert.quiescent_Fin := fun m ρ _ => by
  rw [defs_eq]
  exact frame_run (F := Bits) m ρ

/-- The ideal program's frame. -/
theorem frame_ideal : Cert.quiescent_FinIdeal := fun m ρ _ => frame_run (F := Ideal) m ρ

/-- The reference's frame. -/
theorem frame_ref : Cert.quiescent_FinRefIdeal := fun m ρ _ =>
  (θ_run _ _ _).mono (fun r h => ⟨fun c => (h c).2.2.2.2.2, sem_eq_zero_of_no_sems (by decide) r.2⟩) (Cert.FinRefIdeal.Value.run (F := Ideal) m ρ)

/-- The constant that the ideal program names is what its name says. -/
theorem preserves : Cert.preserves_Fin_FinIdeal :=
  IdealRules.named_const.statement Cert.FinIdeal.κ "gelu_a" .f32 0x3D372713#32 ((8943 / 200000 : ℝ) : EReal) rfl

/-- Over the reals the kernel and the reference end with equal results. -/
theorem value : Cert.algebraic_FinIdeal_FinRefIdeal := by
  intro m ρ m' ρ' hm hmm
  refine ⟨fun c => (Cert.FinIdeal.Gen.dats m 0 c).arrAt 6 Cert.FinIdeal.cfg0.N, fun c => (Cert.FinIdeal.Gen.dats m 0 c).arrAt 7 Cert.FinIdeal.cfg0.N,
    fun c => (Cert.FinIdeal.Gen.dats m 0 c).arrAt 8 Cert.FinIdeal.cfg0.N, fun c => (Cert.FinIdeal.Gen.dats m 0 c).arrAt 9 Cert.FinIdeal.cfg0.N,
    fun c => (Cert.FinIdeal.Gen.dats m 0 c).arrAt 10 Cert.FinIdeal.cfg0.N, Cert.FinIdeal.Value.run_blocks m ρ, ?_⟩
  refine (θ_run _ _ _).mono (fun r h c => ?_) (Cert.FinRefIdeal.Value.run (F := Ideal) m' ρ')
  obtain ⟨e0, e1, e2, e3, e4, e5⟩ := hmm c
  obtain ⟨r0, r1, r2, r3, r4, k⟩ := h c
  rw [Cert.FinRefIdeal.Read.val_main_v16_eq, e0, e1, e2] at r0
  rw [Cert.FinRefIdeal.Read.val_main_v17_eq, e0, e1, e2] at r1
  rw [Cert.FinRefIdeal.Read.val_main_v18_eq, e0, e1, e2] at r2
  rw [Cert.FinRefIdeal.Read.val_main_v31_eq, e0, e1] at r3
  rw [Cert.FinRefIdeal.Read.val_main_v88_eq, e0, e1, e2, e3, e4, e5] at r4
  refine ⟨r0.trans ?_, r1.trans ?_, r2.trans ?_, r3.trans ?_, r4.trans ?_, k⟩
  · exact ext2 fun a b => (v15_at _ _ _ a b).trans (Cert.FinIdeal.Result.r6_at m c a b).symm
  · exact ext2 fun a b => (v13_at _ _ _ a b).trans (Cert.FinIdeal.Result.r7_at m c a b).symm
  · exact ext2 fun a b => (v14_at _ _ _ a b).trans (Cert.FinIdeal.Result.r8_at m c a b).symm
  · exact ext2 fun a b => (v30_at _ _ a b).trans (Cert.FinIdeal.Result.r9_at m c a b).symm
  · exact ext2 fun a b => (v87_at _ _ _ _ _ _ a b).trans (Cert.FinIdeal.Result.r10_at m c a b).symm

end Cert.FinClaims

end
-- ==== Proof.Down.Body.lean ====
module

public import proofs.«01_k».proof.Defs
public import proofs.«01_k».proof.Proof.Gen.DownIdeal.Value
public import proofs.«01_k».proof.Proof.Common.Reals
public import Idealize.ShloMosaic.Lib.Pipeline.Value
public import Idealize.ShloMosaic.Lib.Pipeline.ReadBack
public import Idealize.ShloMosaic.Lib.Tactic

/-! # The down projection with the final normalisation and the loss: what each grid point leaves -/

@[expose] public section

set_option maxRecDepth 16384

noncomputable section

open Idealize.ShloMosaic Idealize.ShloMosaic.TcCoe Idealize.SL.Sem

namespace Cert.DownIdeal.Body

open Cert.DownIdeal Cert.DownIdeal.Gen Cert.DownIdeal.Value Cert.Reals

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- Point `t`'s blocks: of the gate, the value, the residual and the target; and the weight and the gain. -/
abbrev bU : Vec F S512x2816 .bf16 := iblk m c 0 t
abbrev bV : Vec F S512x2816 .bf16 := iblk m c 1 t
abbrev bX : Vec F S512x1024 .f32 := iblk m c 2 t
abbrev bT : Vec F S512x1024 .f32 := iblk m c 3 t
abbrev bW : Vec F S2816x1024 .bf16 := iblk m c 4 t
abbrev bG : Vec F S1x1024 .f32 := iblk m c 5 t

/-- The rows from `o` to `o + 127` of a block of 512 rows. -/
abbrev rows (o : ℕ) (h : o + 128 ≤ 512) : Rect S512x1024 :=
  Rect.unit (s := S512x1024) ![o, 0] ![128, 1024] (fun a => by
    match a with | ⟨0, _⟩ => exact h | ⟨1, _⟩ => exact le_of_eq (Nat.zero_add 1024))

/-- Those rows, in one half of the columns of the gate or the value. -/
abbrev half (o q : ℕ) (h : o + 128 ≤ 512) (hq : q + 1408 ≤ 2816) : Rect S512x2816 :=
  Rect.unit (s := S512x2816) ![o, q] ![128, 1408] (fun a => by
    match a with | ⟨0, _⟩ => exact h | ⟨1, _⟩ => exact hq)

/-- The down projection on those rows: one product for each half of the inner columns. -/
def acc (o : ℕ) (h : o + 128 ≤ 512) : FVec F S128x1024 .f32 :=
  k0_pay3 (k0_pay1 (View.ld (bU m c t) (half o 0 h (by decide))) (View.ld (bV m c t) (half o 0 h (by decide)))
      (View.ld (bW m c t) (Rect.unit (s := S2816x1024) ![0, 0] S1408x1024.size inb_S2816x1024_S1408x1024_0_0)))
    (k0_pay2 (View.ld (bU m c t) (half o 1408 h (by decide))) (View.ld (bV m c t) (half o 1408 h (by decide))))
    (View.ld (bW m c t) (Rect.unit (s := S2816x1024) ![1408, 0] S1408x1024.size inb_S2816x1024_S1408x1024_1408_0))

/-- The residual and the target on those rows. -/
def xs (o : ℕ) (h : o + 128 ≤ 512) : Vec F S128x1024 .f32 := View.ld (bX m c t) (rows o h)
def ts (o : ℕ) (h : o + 128 ≤ 512) : Vec F S128x1024 .f32 := View.ld (bT m c t) (rows o h)

/-- The gradient on those rows. -/
def gx (o : ℕ) (h : o + 128 ≤ 512) : FVec F S128x1024 .f32 := k0_pay19 (bG m c t) (acc m c t o h) (xs m c t o h) (ts m c t o h)

/-- The squared errors on those rows, and their part of the loss. -/
def se (o : ℕ) (h : o + 128 ≤ 512) : FVec F S128x1024 .f32 := k0_pay20 (bG m c t) (acc m c t o h) (xs m c t o h) (ts m c t o h)
def lp (o : ℕ) (h : o + 128 ≤ 512) : FVec F S1x1 .f32 := k0_pay21 (se m c t o h)

/-- Those rows' normalised values and cotangents, and their part of the gain's gradient. -/
def nv (o : ℕ) (h : o + 128 ≤ 512) : FVec F S128x1024 .f32 := k0_pay16 (acc m c t o h) (xs m c t o h)
def dv (o : ℕ) (h : o + 128 ≤ 512) : FVec F S128x1024 .f32 := k0_pay18 (bG m c t) (acc m c t o h) (xs m c t o h) (ts m c t o h)
def gp (o : ℕ) (h : o + 128 ≤ 512) : FVec F S1x1024 .f32 := k0_pay22 (nv m c t o h) (dv m c t o h)

/-- What a point stores in the gradient. -/
abbrev pieces : List (View.Piece (Elt F) S512x1024 .f32) :=
  [⟨rows 384 (by decide), gx m c t 384 (by decide)⟩, ⟨rows 256 (by decide), gx m c t 256 (by decide)⟩,
    ⟨rows 128 (by decide), gx m c t 128 (by decide)⟩, ⟨rows 0 (by decide), gx m c t 0 (by decide)⟩]

/-- The loss after a point: `a` and the four parts. -/
def ll (a : Vec F S1x1 .f32) : FVec F S1x1 .f32 :=
  k0_pay50 (lp m c t 0 (by decide)) (lp m c t 128 (by decide)) (lp m c t 256 (by decide)) (se m c t 384 (by decide)) a

/-- The gain's gradient after a point: `a` and the four parts. -/
def gg (a : Vec F S1x1024 .f32) : FVec F S1x1024 .f32 :=
  k0_pay51 (gp m c t 0 (by decide)) (gp m c t 128 (by decide)) (gp m c t 256 (by decide)) (nv m c t 384 (by decide)) (dv m c t 384 (by decide)) a

/-- The first point: the two sums start from the stored zeros. -/
theorem outsA (h0 : t.val % 8 = 0) :
    (outsAt0 m c t.val t.isLt).1 = View.canon (pieces m c t) ∧ (outsAt0 m c t.val t.isLt).2.1 = ll m c t k0_pay48
      ∧ (outsAt0 m c t.val t.isLt).2.2 = gg m c t k0_pay49 := by
  have e := outsAt0_A m c t h0
  generalize outsAt0 m c t.val t.isLt = s at e ⊢
  subst e
  dsimp only
  refine ⟨?_, ?_, ?_⟩
  on_goal 1 => unfold out0_A_6
  on_goal 1 => rw [View.read_writes_eq_canon _ _ _ (fun y => cover0_A_6 (y := y) ..)]
  on_goal 2 => unfold out0_A_7
  on_goal 2 => rw [View.read_writes_eq_canon _ _ _ (fun y => cover0_A_7 (y := y) ..)]
  on_goal 3 => unfold out0_A_8
  on_goal 3 => rw [View.read_writes_eq_canon _ _ _ (fun y => cover0_A_8 (y := y) ..)]
  all_goals
    unfold kernelRun0_A
    dsimp only
    sl_unfold_words
    simp only [View.canon_cons_unit_zero (S := S1x1024) hz, View.readCov_unit_zero (S := S1x1024) _ hz,
      View.canon_cons_unit_zero (S := S1x1) hz, View.readCov_unit_zero (S := S1x1) _ hz, View.readAt_eq_ld,
      (hs0_0 t).read_unread, (hs0_1 t).read_unread, (hs0_2 t).read_unread, (hs0_3 t).read_unread, (hs0_4 t).read_unread, (hs0_5 t).read_unread,
      View.ld_unit_zero (S := S1x1024) hz, View.ld_unit_zero (S := S1x1) hz]
    rfl

/-- A later point: it adds to what was carried. -/
theorem outsB (h0 : ¬t.val % 8 = 0) :
    (outsAt0 m c t.val t.isLt).1 = View.canon (pieces m c t)
    ∧ (outsAt0 m c t.val t.isLt).2.1 = ll m c t (outsAt0 m c (t.val - 1) (lt_of_le_of_lt (Nat.sub_le _ _) t.isLt)).2.1
    ∧ (outsAt0 m c t.val t.isLt).2.2 = gg m c t (outsAt0 m c (t.val - 1) (lt_of_le_of_lt (Nat.sub_le _ _) t.isLt)).2.2 := by
  have e := outsAt0_B m c t h0
  generalize outsAt0 m c t.val t.isLt = s at e ⊢
  subst e
  dsimp only
  refine ⟨?_, ?_, ?_⟩
  on_goal 1 => unfold out0_B_6
  on_goal 1 => rw [View.read_writes_eq_canon _ _ _ (fun y => cover0_B_6 (y := y) ..)]
  on_goal 2 => unfold out0_B_7
  on_goal 2 => rw [View.read_writes_eq_canon _ _ _ (fun y => cover0_B_7 (y := y) ..)]
  on_goal 3 => unfold out0_B_8
  on_goal 3 => rw [View.read_writes_eq_canon _ _ _ (fun y => cover0_B_8 (y := y) ..)]
  all_goals
    unfold kernelRun0_B
    dsimp only
    sl_unfold_words
    simp only [View.canon_unit_zero (S := S1x1024) hz, View.readCov_unit_zero (S := S1x1024) _ hz,
      View.canon_unit_zero (S := S1x1) hz, View.readCov_unit_zero (S := S1x1) _ hz, View.readAt_eq_ld,
      (hs0_0 t).read_unread, (hs0_1 t).read_unread, (hs0_2 t).read_unread, (hs0_3 t).read_unread, (hs0_4 t).read_unread, (hs0_5 t).read_unread,
      (hs0_7 t).read_unread, (hs0_8 t).read_unread, View.ld_unit_zero (S := S1x1024) hz, View.ld_unit_zero (S := S1x1) hz]
    rfl

end Cert.DownIdeal.Body

end
-- ==== Proof.Down.Reads.lean ====
module

public import proofs.«01_k».proof.Proof.Down.Body
public import proofs.«01_k».proof.Proof.Common.Norm
public import proofs.«01_k».proof.Proof.Merge.Math
public import Idealize.ShloMosaic.Lib.Pointwise
public import Idealize.ShloMosaic.Lib.IdealHost

/-! # The down projection with the final normalisation and the loss: its blocks and payloads as real numbers -/

@[expose] public section

set_option maxRecDepth 16384

noncomputable section

open Idealize.ShloMosaic Idealize.ShloMosaic.TcCoe Idealize.SL.Sem

namespace Cert.DownIdeal.Reads

open Cert.DownIdeal Cert.DownIdeal.Gen Cert.DownIdeal.Value Cert.DownIdeal.Body Cert.Reals

variable (m : (ℓ : Loc nD τ sig) → Buf (Elt Ideal) ℓ) (c : Dev nD) (t : Fin cfg0.N)

/-- The grid's block indices: row tile `t`; the weight, the gain, the loss and the gain's gradient are taken whole. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The gated activation. -/
def act (U : ℕ → ℕ → ℝ) (r f : ℕ) : ℝ := U r f * logi (U r f) * U r (2816 + f)
/-- The residual sum: the layer's input and the down projection. -/
def res (U X W : ℕ → ℕ → ℝ) (r : ℕ) (d : Fin 1024) : ℝ := X r d.val + ∑ f : Fin 2816, act U r f.val * W f.val d.val
/-- Its normalised rows. -/
def nr (U X W : ℕ → ℕ → ℝ) (r : ℕ) (d : Fin 1024) : ℝ := res U X W r d * rinv 1024 (res U X W r)
/-- The error against the target. -/
def err (U X T W G : ℕ → ℕ → ℝ) (r : ℕ) (d : Fin 1024) : ℝ := nr U X W r d * G 0 d.val - T r d.val
/-- The loss's cotangent of the normalised and scaled rows. -/
def dy (U X T W G : ℕ → ℕ → ℝ) (r : ℕ) (d : Fin 1024) : ℝ := err U X T W G r d * (1 / 1024)
/-- That cotangent times the gain. -/
def dn (U X T W G : ℕ → ℕ → ℝ) (r : ℕ) (d : Fin 1024) : ℝ := dy U X T W G r d * G 0 d.val
/-- The gradient of the residual sum. -/
def gradX (U X T W G : ℕ → ℕ → ℝ) (r : ℕ) (d : Fin 1024) : ℝ := rmsBwd 1024 (res U X W r) (dn U X T W G r) d
/-- A row's mean squared error. -/
def lossR (U X T W G : ℕ → ℕ → ℝ) (r : ℕ) : ℝ := (∑ d, err U X T W G r d * err U X T W G r d) / 1024
/-- A row's part of the gain's gradient. -/
def gradG (U X T W G : ℕ → ℕ → ℝ) (r : ℕ) (d : Fin 1024) : ℝ := dy U X T W G r d * nr U X W r d

theorem word_inv : Ideal.ofBits .f32 981467136#32 = ((1 / 1024 : ℝ) : EReal) := by
  simp [Ideal.ofBits, Ideal.ieee]
  norm_num
  rw [← EReal.coe_mul]
  norm_num

/-- The program's five arguments hold the reals `U`, `X`, `T`, `W` and `G`. -/
structure Args (m : (ℓ : Loc nD τ sig) → Buf (Elt Ideal) ℓ) (c : Dev nD) (U X T W G : ℕ → ℕ → ℝ) : Prop where
  u : ∀ r f, (m ((c : Thread nD τ).loc main_arg0) : S4096x5632.Idx → EReal) (ix2 r f) = (U r.val f.val : EReal)
  x : ∀ r f, (m ((c : Thread nD τ).loc main_arg1) : S4096x1024.Idx → EReal) (ix2 r f) = (X r.val f.val : EReal)
  t : ∀ r f, (m ((c : Thread nD τ).loc main_arg2) : S4096x1024.Idx → EReal) (ix2 r f) = (T r.val f.val : EReal)
  w : ∀ r f, (m ((c : Thread nD τ).loc main_arg3) : S2816x1024.Idx → EReal) (ix2 r f) = (W r.val f.val : EReal)
  g : ∀ r f, (m ((c : Thread nD τ).loc main_arg4) : S1x1024.Idx → EReal) (ix2 r f) = (G r.val f.val : EReal)

variable {m c} {U X T W G : ℕ → ℕ → ℝ} (h : Args m c U X T W G)
include h

theorem V_u (r : Fin 4096) (f : Fin 2816) : (V m c main_v2 : S4096x2816.Idx → EReal) (ix2 r f) = ((U r.val f.val : ℝ) : EReal) := by
  unfold V
  after_results
  pointwise
  exact h.u r _

theorem V_v (r : Fin 4096) (f : Fin 2816) : (V m c main_v3 : S4096x2816.Idx → EReal) (ix2 r f) = ((U r.val (2816 + f.val) : ℝ) : EReal) := by
  unfold V
  after_results
  pointwise
  exact h.u r _

theorem V_w (e : Fin 2816) (d : Fin 1024) : (V m c main_v4 : S2816x1024.Idx → EReal) (ix2 e d) = ((W e.val d.val : ℝ) : EReal) := by
  unfold V
  after_results
  pointwise
  exact h.w e d

theorem bU_at (a : Fin 512) (f : Fin 2816) : bU m c t (ix2 a f) = ((U (512 * t.val + a.val) f.val : ℝ) : EReal) := by
  have hN : t.val < 8 := lt_of_lt_of_eq t.isLt N_0
  obtain ⟨⟨e0, e1⟩, -⟩ := index_facts t
  refine Eq.trans ?_ (V_u h ⟨512 * t.val + a.val, by omega⟩ f)
  refine congrArg (V m c main_v2 : S4096x2816.Idx → EReal) (funext fun x => Fin.ext ?_)
  match x with
  | ⟨0, _⟩ => show win0_0.index t (0 : Fin 2) * 512 + 1 * a.val = _; rw [e0]; show _ = 512 * t.val + a.val; omega
  | ⟨1, _⟩ => show win0_0.index t (1 : Fin 2) * 2816 + 1 * f.val = _; rw [e1]; show _ = f.val; omega

theorem bV_at (a : Fin 512) (f : Fin 2816) : bV m c t (ix2 a f) = ((U (512 * t.val + a.val) (2816 + f.val) : ℝ) : EReal) := by
  have hN : t.val < 8 := lt_of_lt_of_eq t.isLt N_0
  obtain ⟨-, ⟨e0, e1⟩, -⟩ := index_facts t
  refine Eq.trans ?_ (V_v h ⟨512 * t.val + a.val, by omega⟩ f)
  refine congrArg (V m c main_v3 : S4096x2816.Idx → EReal) (funext fun x => Fin.ext ?_)
  match x with
  | ⟨0, _⟩ => show win0_1.index t (0 : Fin 2) * 512 + 1 * a.val = _; rw [e0]; show _ = 512 * t.val + a.val; omega
  | ⟨1, _⟩ => show win0_1.index t (1 : Fin 2) * 2816 + 1 * f.val = _; rw [e1]; show _ = f.val; omega

theorem bX_at (a : Fin 512) (f : Fin 1024) : bX m c t (ix2 a f) = ((X (512 * t.val + a.val) f.val : ℝ) : EReal) := by
  have hN : t.val < 8 := lt_of_lt_of_eq t.isLt N_0
  obtain ⟨-, -, ⟨e0, e1⟩, -⟩ := index_facts t
  refine Eq.trans ?_ ((congrFun (V_main_arg1 m c) _).trans (h.x ⟨512 * t.val + a.val, by omega⟩ f))
  refine congrArg (V m c main_arg1 : S4096x1024.Idx → EReal) (funext fun x => Fin.ext ?_)
  match x with
  | ⟨0, _⟩ => show win0_2.index t (0 : Fin 2) * 512 + 1 * a.val = _; rw [e0]; show _ = 512 * t.val + a.val; omega
  | ⟨1, _⟩ => show win0_2.index t (1 : Fin 2) * 1024 + 1 * f.val = _; rw [e1]; show _ = f.val; omega

theorem bT_at (a : Fin 512) (f : Fin 1024) : bT m c t (ix2 a f) = ((T (512 * t.val + a.val) f.val : ℝ) : EReal) := by
  have hN : t.val < 8 := lt_of_lt_of_eq t.isLt N_0
  obtain ⟨-, -, -, ⟨e0, e1⟩, -⟩ := index_facts t
  refine Eq.trans ?_ ((congrFun (V_main_arg2 m c) _).trans (h.t ⟨512 * t.val + a.val, by omega⟩ f))
  refine congrArg (V m c main_arg2 : S4096x1024.Idx → EReal) (funext fun x => Fin.ext ?_)
  match x with
  | ⟨0, _⟩ => show win0_3.index t (0 : Fin 2) * 512 + 1 * a.val = _; rw [e0]; show _ = 512 * t.val + a.val; omega
  | ⟨1, _⟩ => show win0_3.index t (1 : Fin 2) * 1024 + 1 * f.val = _; rw [e1]; show _ = f.val; omega

theorem bW_at (a : Fin 2816) (f : Fin 1024) : bW m c t (ix2 a f) = ((W a.val f.val : ℝ) : EReal) := by
  obtain ⟨-, -, -, -, ⟨e0, e1⟩, -⟩ := index_facts t
  refine Eq.trans ?_ (V_w h a f)
  refine congrArg (V m c main_v4 : S2816x1024.Idx → EReal) (funext fun x => Fin.ext ?_)
  match x with
  | ⟨0, _⟩ => show win0_4.index t (0 : Fin 2) * 2816 + 1 * a.val = _; rw [e0]; show _ = a.val; omega
  | ⟨1, _⟩ => show win0_4.index t (1 : Fin 2) * 1024 + 1 * f.val = _; rw [e1]; show _ = f.val; omega

theorem bG_at (a : Fin 1) (f : Fin 1024) : bG m c t (ix2 a f) = ((G a.val f.val : ℝ) : EReal) := by
  obtain ⟨-, -, -, -, -, ⟨e0, e1⟩, -⟩ := index_facts t
  refine Eq.trans ?_ ((congrFun (V_main_arg4 m c) _).trans (h.g a f))
  refine congrArg (V m c main_arg4 : S1x1024.Idx → EReal) (funext fun x => Fin.ext ?_)
  match x with
  | ⟨0, _⟩ => show win0_5.index t (0 : Fin 2) * 1 + 1 * a.val = _; rw [e0]; show _ = a.val; omega
  | ⟨1, _⟩ => show win0_5.index t (1 : Fin 2) * 1024 + 1 * f.val = _; rw [e1]; show _ = f.val; omega

omit h in
/-- A product over one half of the inner columns, at an index. -/
theorem pay1_at (u v : Vec Ideal S128x1408 .bf16) (w : Vec Ideal S1408x1024 .bf16) (a : Fin 128) (d : Fin 1024) :
    k0_pay1 u v w (ix2 a d) = ∑ f : Fin 1408, u (ix2 a f) * Ideal.div 1 (1 + Ideal.exp (0 - u (ix2 a f))) * v (ix2 a f) * w (ix2 f d) := by
  pointwise [k0_pay1]
  try rw [zero_add]

omit h in
theorem pay3_at (s : FVec Ideal S128x1024 .f32) (u v : Vec Ideal S128x1408 .bf16) (w : Vec Ideal S1408x1024 .bf16) (a : Fin 128) (d : Fin 1024) :
    k0_pay3 s (k0_pay2 u v) w (ix2 a d)
      = s (ix2 a d) + ∑ f : Fin 1408, u (ix2 a f) * Ideal.div 1 (1 + Ideal.exp (0 - u (ix2 a f))) * v (ix2 a f) * w (ix2 f d) := by
  pointwise [k0_pay3, k0_pay2]

omit h in
theorem half_at (b : Vec Ideal S512x2816 .bf16) (o q : ℕ) (ho : o + 128 ≤ 512) (hq : q + 1408 ≤ 2816) (a : Fin 128) (f : Fin 1408) :
    View.ld b (half o q ho hq) (ix2 a f) = b (ix2 ⟨o + a.val, by omega⟩ ⟨q + f.val, by omega⟩) := by
  pointwise []

omit h in
theorem low_at (b : Vec Ideal S2816x1024 .bf16) (f : Fin 1408) (d : Fin 1024) :
    View.ld b (Rect.unit (s := S2816x1024) ![0, 0] S1408x1024.size inb_S2816x1024_S1408x1024_0_0) (ix2 f d) = b (ix2 ⟨f.val, by omega⟩ d) := by
  pointwise []

omit h in
theorem high_at (b : Vec Ideal S2816x1024 .bf16) (f : Fin 1408) (d : Fin 1024) :
    View.ld b (Rect.unit (s := S2816x1024) ![1408, 0] S1408x1024.size inb_S2816x1024_S1408x1024_1408_0) (ix2 f d) = b (ix2 ⟨1408 + f.val, by omega⟩ d) := by
  pointwise []

omit h in
theorem sum_two (f : ℕ → ℝ) : ∑ i : Fin 2816, f i.val = ∑ i : Fin 1408, f i.val + ∑ i : Fin 1408, f (1408 + i.val) := by
  rw [← sum_tiles_fin 2 1408 f]
  simp only [Finset.sum_range_succ, Finset.sum_range_zero, Nat.mul_zero, Nat.mul_one, Nat.zero_add, zero_add]

omit h in
/-- The two products, over real blocks. -/
theorem pay3_real (u v u' v' : Vec Ideal S128x1408 .bf16) (w w' : Vec Ideal S1408x1024 .bf16) (a : Fin 128) (d : Fin 1024) (r : ℕ)
    (hu : ∀ f : Fin 1408, u (ix2 a f) = ((U r f.val : ℝ) : EReal)) (hv : ∀ f : Fin 1408, v (ix2 a f) = ((U r (2816 + f.val) : ℝ) : EReal))
    (hw : ∀ f : Fin 1408, w (ix2 f d) = ((W f.val d.val : ℝ) : EReal))
    (hu' : ∀ f : Fin 1408, u' (ix2 a f) = ((U r (1408 + f.val) : ℝ) : EReal)) (hv' : ∀ f : Fin 1408, v' (ix2 a f) = ((U r (2816 + (1408 + f.val)) : ℝ) : EReal))
    (hw' : ∀ f : Fin 1408, w' (ix2 f d) = ((W (1408 + f.val) d.val : ℝ) : EReal)) :
    k0_pay3 (k0_pay1 u v w) (k0_pay2 u' v') w' (ix2 a d) = ((∑ f : Fin 2816, act U r f.val * W f.val d.val : ℝ) : EReal) := by
  rw [pay3_at, pay1_at]
  simp only [hu, hv, hw, hu', hv', hw', logi_at, ← EReal.coe_mul, coe_sum, ← EReal.coe_add]
  refine congrArg Real.toEReal ?_
  rw [sum_two (fun f => act U r f * W f d.val)]
  rfl

/-- The two products together are the down projection. -/
theorem acc_at (o : ℕ) (ho : o + 128 ≤ 512) (a : Fin 128) (d : Fin 1024) :
    acc m c t o ho (ix2 a d) = ((∑ f : Fin 2816, act U (512 * t.val + (o + a.val)) f.val * W f.val d.val : ℝ) : EReal) := by
  refine pay3_real _ _ _ _ _ _ a d (512 * t.val + (o + a.val)) (fun f => ?_) (fun f => ?_) (fun f => ?_) (fun f => ?_) (fun f => ?_) (fun f => ?_)
  · refine (half_at _ o 0 ho (by decide) a f).trans ((bU_at t h _ _).trans ?_); simp only [Nat.zero_add]
  · refine (half_at _ o 0 ho (by decide) a f).trans ((bV_at t h _ _).trans ?_); simp only [Nat.zero_add]
  · exact (low_at _ f d).trans (bW_at t h _ _)
  · exact (half_at _ o 1408 ho (by decide) a f).trans (bU_at t h _ _)
  · exact (half_at _ o 1408 ho (by decide) a f).trans (bV_at t h _ _)
  · exact (high_at _ f d).trans (bW_at t h _ _)

theorem xs_at (o : ℕ) (ho : o + 128 ≤ 512) (a : Fin 128) (d : Fin 1024) :
    xs m c t o ho (ix2 a d) = ((X (512 * t.val + (o + a.val)) d.val : ℝ) : EReal) := by
  show View.ld (bX m c t) (rows o ho) (ix2 a d) = _
  generalize hb : bX m c t = b
  pointwise []
  subst hb
  exact bX_at t h ⟨o + a.val, by omega⟩ d

theorem ts_at (o : ℕ) (ho : o + 128 ≤ 512) (a : Fin 128) (d : Fin 1024) :
    ts m c t o ho (ix2 a d) = ((T (512 * t.val + (o + a.val)) d.val : ℝ) : EReal) := by
  show View.ld (bT m c t) (rows o ho) (ix2 a d) = _
  generalize hb : bT m c t = b
  pointwise []
  subst hb
  exact bT_at t h ⟨o + a.val, by omega⟩ d

/-- The residual sum. -/
theorem s_at (o : ℕ) (ho : o + 128 ≤ 512) (a : Fin 128) (d : Fin 1024) :
    k0_pay14 (acc m c t o ho) (xs m c t o ho) (ix2 a d) = ((res U X W (512 * t.val + (o + a.val)) d : ℝ) : EReal) := by
  have ea := acc_at t h o ho a d
  have ex := xs_at t h o ho a d
  generalize acc m c t o ho = y at ea
  generalize xs m c t o ho = x at ex
  pointwise [k0_pay14]
  rw [ea, ex, ← EReal.coe_add]
  rfl

/-- The rows' reciprocal root. -/
theorem r_at (o : ℕ) (ho : o + 128 ≤ 512) (a : Fin 128) (z : Fin 1) :
    k0_pay15 (acc m c t o ho) (xs m c t o ho) (ix2 a z) = ((rinv 1024 (res U X W (512 * t.val + (o + a.val))) : ℝ) : EReal) := by
  have e := s_at t h o ho a
  unfold k0_pay15
  generalize k0_pay14 (acc m c t o ho) (xs m c t o ho) = y at e
  pointwise []
  simp only [e, ← EReal.coe_mul, coe_sum, word_1024, div_1024, word_eps, ← EReal.coe_add, rsqrt_1024]

/-- The normalised rows. -/
theorem n_at (o : ℕ) (ho : o + 128 ≤ 512) (a : Fin 128) (d : Fin 1024) :
    nv m c t o ho (ix2 a d) = ((nr U X W (512 * t.val + (o + a.val)) d : ℝ) : EReal) := by
  have e := s_at t h o ho a d
  have er := r_at t h o ho a 0
  unfold nv k0_pay16
  generalize k0_pay14 (acc m c t o ho) (xs m c t o ho) = y at e
  generalize k0_pay15 (acc m c t o ho) (xs m c t o ho) = r at er
  pointwise []
  rw [e, er, ← EReal.coe_mul]
  rfl

/-- The errors. -/
theorem e_at (o : ℕ) (ho : o + 128 ≤ 512) (a : Fin 128) (d : Fin 1024) :
    k0_pay17 (bG m c t) (acc m c t o ho) (xs m c t o ho) (ts m c t o ho) (ix2 a d) = ((err U X T W G (512 * t.val + (o + a.val)) d : ℝ) : EReal) := by
  have en := n_at t h o ho a d
  have et := ts_at t h o ho a d
  have eg := bG_at t h 0 d
  unfold nv at en
  unfold k0_pay17
  generalize k0_pay16 (acc m c t o ho) (xs m c t o ho) = n at en
  generalize ts m c t o ho = q at et
  generalize bG m c t = g at eg
  pointwise []
  rw [en, et, eg, ← EReal.coe_mul, ← EReal.coe_sub]
  rfl

theorem d_at (o : ℕ) (ho : o + 128 ≤ 512) (a : Fin 128) (d : Fin 1024) :
    dv m c t o ho (ix2 a d) = ((dy U X T W G (512 * t.val + (o + a.val)) d : ℝ) : EReal) := by
  have e := e_at t h o ho a d
  unfold dv k0_pay18
  generalize k0_pay17 (bG m c t) (acc m c t o ho) (xs m c t o ho) (ts m c t o ho) = y at e
  pointwise []
  rw [e, word_inv, ← EReal.coe_mul]
  rfl

theorem q_at (o : ℕ) (ho : o + 128 ≤ 512) (a : Fin 128) (d : Fin 1024) :
    se m c t o ho (ix2 a d) = ((err U X T W G (512 * t.val + (o + a.val)) d * err U X T W G (512 * t.val + (o + a.val)) d : ℝ) : EReal) := by
  have e := e_at t h o ho a d
  unfold se k0_pay20
  generalize k0_pay17 (bG m c t) (acc m c t o ho) (xs m c t o ho) (ts m c t o ho) = y at e
  pointwise []
  rw [e, ← EReal.coe_mul]

/-- The gradient on a part's rows. -/
theorem gx_at (o : ℕ) (ho : o + 128 ≤ 512) (a : Fin 128) (d : Fin 1024) :
    gx m c t o ho (ix2 a d) = ((gradX U X T W G (512 * t.val + (o + a.val)) d : ℝ) : EReal) := by
  have er := r_at t h o ho a 0
  have en := n_at t h o ho a
  have ed := d_at t h o ho a
  have eg := bG_at t h 0
  unfold nv at en
  unfold dv at ed
  unfold gx k0_pay19
  generalize k0_pay15 (acc m c t o ho) (xs m c t o ho) = r at er
  generalize k0_pay16 (acc m c t o ho) (xs m c t o ho) = n at en
  generalize k0_pay18 (bG m c t) (acc m c t o ho) (xs m c t o ho) (ts m c t o ho) = y at ed
  generalize bG m c t = g at eg
  pointwise []
  simp only [er, en, ed, eg, ← EReal.coe_mul, coe_sum, word_1024, div_1024, ← EReal.coe_sub]
  rfl

/-- A part's sum for the loss, and for the gain's gradient. -/
def partL (U X T W G : ℕ → ℕ → ℝ) (r : ℕ) : ℝ := ∑ a : Fin 128, lossR U X T W G (r + a.val)
def partG (U X T W G : ℕ → ℕ → ℝ) (r : ℕ) (d : Fin 1024) : ℝ := ∑ a : Fin 128, gradG U X T W G (r + a.val) d

theorem lp_at (o : ℕ) (ho : o + 128 ≤ 512) (z z' : Fin 1) :
    lp m c t o ho (ix2 z z') = ((partL U X T W G (512 * t.val + o) : ℝ) : EReal) := by
  have eq := q_at t h o ho
  unfold lp
  generalize se m c t o ho = y at eq
  pointwise [k0_pay21]
  simp only [eq, coe_sum, word_1024, div_1024]
  simp only [← Nat.add_assoc]
  rfl

theorem gp_at (o : ℕ) (ho : o + 128 ≤ 512) (z : Fin 1) (d : Fin 1024) :
    gp m c t o ho (ix2 z d) = ((partG U X T W G (512 * t.val + o) d : ℝ) : EReal) := by
  have en := fun a => n_at t h o ho a d
  have ed := fun a => d_at t h o ho a d
  unfold gp
  generalize nv m c t o ho = n at en
  generalize dv m c t o ho = y at ed
  pointwise [k0_pay22]
  simp only [en, ed, ← EReal.coe_mul, coe_sum]
  simp only [← Nat.add_assoc]
  rfl

/-- A point adds one half of its 512 rows' mean squared errors to the loss. -/
theorem ll_at (s : Vec Ideal S1x1 .f32) (z z' : Fin 1) :
    ll m c t s (ix2 z z') = s (ix2 z z') + ((∑ a : Fin 512, 1 / 2 * lossR U X T W G (512 * t.val + a.val) : ℝ) : EReal) := by
  have eq := q_at t h 384 (by decide)
  have e0 := lp_at t h 0 (by decide) z z'
  have e1 := lp_at t h 128 (by decide) z z'
  have e2 := lp_at t h 256 (by decide) z z'
  unfold ll
  generalize lp m c t 0 _ = y0 at e0
  generalize lp m c t 128 _ = y1 at e1
  generalize lp m c t 256 _ = y2 at e2
  generalize se m c t 384 _ = y3 at eq
  pointwise [k0_pay50]
  simp only [eq, e0, e1, e2, coe_sum, word_1024, div_1024, zero_add, ← EReal.coe_add, Cert.MergeMath.word_half, ← EReal.coe_mul]
  refine congrArg (fun u : ℝ => s (ix2 z z') + (u : EReal)) ?_
  rw [← sum_tiles_fin 4 128 (fun a => 1 / 2 * lossR U X T W G (512 * t.val + a))]
  simp only [← Finset.mul_sum, Finset.sum_range_succ, Finset.sum_range_zero, ← Nat.add_assoc, partL, lossR, Nat.mul_zero, Nat.mul_one, Nat.add_zero, zero_add, Nat.reduceMul]
  try ring

/-- A point adds its 512 rows' part of the gain's gradient. -/
theorem gg_at (s : Vec Ideal S1x1024 .f32) (z : Fin 1) (d : Fin 1024) :
    gg m c t s (ix2 z d) = s (ix2 z d) + ((∑ a : Fin 512, gradG U X T W G (512 * t.val + a.val) d : ℝ) : EReal) := by
  have en := fun a => n_at t h 384 (by decide) a d
  have ed := fun a => d_at t h 384 (by decide) a d
  have e0 := gp_at t h 0 (by decide) z d
  have e1 := gp_at t h 128 (by decide) z d
  have e2 := gp_at t h 256 (by decide) z d
  unfold gg
  generalize gp m c t 0 _ = y0 at e0
  generalize gp m c t 128 _ = y1 at e1
  generalize gp m c t 256 _ = y2 at e2
  generalize nv m c t 384 _ = n at en
  generalize dv m c t 384 _ = y at ed
  pointwise [k0_pay51]
  simp only [en, ed, e0, e1, e2, ← EReal.coe_mul, coe_sum, zero_add, ← EReal.coe_add]
  refine congrArg (fun u : ℝ => s (ix2 z d) + (u : EReal)) ?_
  rw [← sum_tiles_fin 4 128 (fun a => gradG U X T W G (512 * t.val + a) d)]
  simp only [Finset.sum_range_succ, Finset.sum_range_zero, ← Nat.add_assoc, partG, gradG, Nat.mul_zero, Nat.mul_one, Nat.add_zero, zero_add, Nat.reduceMul]

end Cert.DownIdeal.Reads

end
-- ==== Proof.Down.Ref.lean ====
module

public import proofs.«01_k».proof.Proof.Down.Reads
public import proofs.«01_k».proof.Proof.Gen.DownRefIdeal.Read

/-! # The down projection with the final normalisation and the loss: the reference, read at an index -/

@[expose] public section

set_option maxRecDepth 16384

noncomputable section

open Idealize.ShloMosaic Idealize.ShloMosaic.TcCoe Idealize.SL.Sem

namespace Cert.DownRefIdeal.Result

open Cert.DownRefIdeal Cert.DownRefIdeal.Read Cert.Reals Cert.DownIdeal.Reads

variable {x0 : (⟨S4096x5632, .f32⟩ : BufTy).Contents (Elt Ideal)} {x1 x2 : (⟨S4096x1024, .f32⟩ : BufTy).Contents (Elt Ideal)}
  {x3 : (⟨S2816x1024, .f32⟩ : BufTy).Contents (Elt Ideal)} {x4 : (⟨S1x1024, .f32⟩ : BufTy).Contents (Elt Ideal)} {U X T W G : ℕ → ℕ → ℝ}
  (hu : ∀ r f, x0 (ix2 r f) = ((U r.val f.val : ℝ) : EReal)) (hx : ∀ r f, x1 (ix2 r f) = ((X r.val f.val : ℝ) : EReal))
  (hw : ∀ r f, x3 (ix2 r f) = ((W r.val f.val : ℝ) : EReal)) (ht : ∀ r f, x2 (ix2 r f) = ((T r.val f.val : ℝ) : EReal))
  (hg : ∀ r f, x4 (ix2 r f) = ((G r.val f.val : ℝ) : EReal))

theorem word_two : Ideal.ofBits .f32 1073741824#32 = ((2 : ℝ) : EReal) := by
  simp [Ideal.ofBits, Ideal.ieee]
  norm_num
  rw [← EReal.coe_mul]
  norm_num

/-- The logistic function, as the host negates. -/
theorem logi_neg (x : ℝ) : Ideal.div 1 (1 + Ideal.exp (-(x : EReal))) = ((logi x : ℝ) : EReal) := by
  rw [← logi_at, sub_eq_add_neg, zero_add]

section
include hu

theorem v3_at (r : Fin 4096) (f : Fin 2816) : val_main_v3 x0 (ix2 r f) = ((act U r.val f.val : ℝ) : EReal) := by
  pointwise [val_main_v3, val_main_v2, val_main_v1, val_main_v0, val_main_call0_v5, val_main_call0_v4, val_main_call0_v3, val_main_call0_v2, val_main_call0_v1, val_main_call0_v0, val_main_call0_cst, val_main_call0_cst_0]
  simp only [hu, logi_neg, ← EReal.coe_mul]
  rfl
end

section
include hu hx hw

/-- The residual sum. -/
theorem v5_at (r : Fin 4096) (d : Fin 1024) : val_main_v5 x0 x1 x3 (ix2 r d) = ((res U X W r.val d : ℝ) : EReal) := by
  pointwise [val_main_v5, val_main_v4]
  simp only [v3_at hu, hx, hw, ← EReal.coe_mul, coe_sum, ← EReal.coe_add]
  rfl

/-- The rows' mean square. -/
theorem v12_at (r : Fin 4096) (z : Fin 1) : val_main_v12 x0 x1 x3 (ix2 r z) = ((msq 1024 (res U X W r.val) : ℝ) : EReal) := by
  pointwise [val_main_v12, val_main_v11, val_main_v10, val_main_v9, val_main_v8, val_main_v7, val_main_v6, val_main_cst, val_main_cst_0, val_main_cst_1]
  simp only [v5_at hu hx hw, ← EReal.coe_mul, coe_sum, word_1024, div_1024, word_eps, ← EReal.coe_add]
  rfl

/-- The rows' reciprocal root. -/
theorem v13_at (r : Fin 4096) (z : Fin 1) : val_main_v13 x0 x1 x3 (ix2 r z) = ((rinv 1024 (res U X W r.val) : ℝ) : EReal) := by
  pointwise [val_main_v13]
  rw [v12_at hu hx hw]
  exact rsqrt_coe _ (msq_pos 1024 (by norm_num) _)

/-- Minus one half of the reciprocal root over the mean square. -/
theorem v16_at (r : Fin 4096) (z : Fin 1) :
    val_main_v16 x0 x1 x3 (ix2 r z) = ((-(1 / 2) * (rinv 1024 (res U X W r.val) / msq 1024 (res U X W r.val)) : ℝ) : EReal) := by
  pointwise [val_main_v16, val_main_v15, val_main_v14, val_main_cst_2]
  rw [v13_at hu hx hw, v12_at hu hx hw, word_neg_half, div_coe _ _ (msq_pos 1024 (by norm_num) _).ne', ← EReal.coe_mul]

/-- The normalised rows. -/
theorem v18_at (r : Fin 4096) (d : Fin 1024) : val_main_v18 x0 x1 x3 (ix2 r d) = ((nr U X W r.val d : ℝ) : EReal) := by
  pointwise [val_main_v18, val_main_v17]
  rw [v13_at hu hx hw, v5_at hu hx hw, ← EReal.coe_mul]
  rfl
end

include hu hx hw ht hg

/-- The errors. -/
theorem v21_at (r : Fin 4096) (d : Fin 1024) : val_main_v21 x0 x1 x2 x3 x4 (ix2 r d) = ((err U X T W G r.val d : ℝ) : EReal) := by
  pointwise [val_main_v21, val_main_v20, val_main_v19]
  rw [v18_at hu hx hw, ht, hg, ← EReal.coe_mul, ← EReal.coe_sub]
  rfl

/-- The reference's second result: the loss. -/
theorem v55_at (z z' : Fin 1) : val_main_v55 x0 x1 x2 x3 x4 (ix2 z z') = ((∑ r : Fin 4096, 1 / 2 * lossR U X T W G r.val : ℝ) : EReal) := by
  pointwise [val_main_v55, val_main_v29, val_main_v28, val_main_v27, val_main_v26, val_main_v25, val_main_v22, val_main_cst_4, val_main_cst_5, val_main_cst_6, val_main_cst_7]
  simp only [v21_at hu hx hw ht hg, ← EReal.coe_mul, coe_sum, word_1024, div_1024, Cert.MergeMath.word_half]
  rw [← Finset.mul_sum]
  rfl

/-- The loss's cotangent of the normalised and scaled rows. -/
theorem v35_at (r : Fin 4096) (d : Fin 1024) : val_main_v35 x0 x1 x2 x3 x4 (ix2 r d) = ((dy U X T W G r.val d : ℝ) : EReal) := by
  pointwise [val_main_v35, val_main_v34, val_main_v33, val_main_v32, val_main_v31, val_main_v30, val_main_v24, val_main_v23, val_main_cst_3, val_main_cst_8, val_main_cst_9, val_main_cst_10]
  rw [v21_at hu hx hw ht hg, Cert.MergeMath.word_half, word_two, word_1024, div_1024]
  simp only [← EReal.coe_mul]
  refine congrArg Real.toEReal ?_
  unfold dy
  ring

/-- The reference's third result: the gain's gradient. -/
theorem v38_at (z : Fin 1) (d : Fin 1024) : val_main_v38 x0 x1 x2 x3 x4 (ix2 z d) = ((∑ r : Fin 4096, gradG U X T W G r.val d : ℝ) : EReal) := by
  pointwise [val_main_v38, val_main_v37, val_main_v36, val_main_cst_11]
  simp only [v18_at hu hx hw, v35_at hu hx hw ht hg, ← EReal.coe_mul, coe_sum]
  exact congrArg Real.toEReal (Finset.sum_congr rfl fun r _ => mul_comm _ _)

theorem v40_at (r : Fin 4096) (d : Fin 1024) : val_main_v40 x0 x1 x2 x3 x4 (ix2 r d) = ((dn U X T W G r.val d : ℝ) : EReal) := by
  pointwise [val_main_v40, val_main_v39]
  rw [v35_at hu hx hw ht hg, hg, ← EReal.coe_mul]
  rfl

theorem v50_at (r : Fin 4096) (d : Fin 1024) : val_main_v50 x0 x1 x2 x3 x4 (ix2 r d)
    = (((∑ j, res U X W r.val j * dn U X T W G r.val j) * (-(1 / 2) * (rinv 1024 (res U X W r.val) / msq 1024 (res U X W r.val))) / 1024 : ℝ) : EReal) := by
  pointwise [val_main_v50, val_main_v49, val_main_v48, val_main_v47, val_main_v46, val_main_v43, val_main_v42, val_main_v41, val_main_cst_12, val_main_cst_13, val_main_cst_14]
  simp only [v16_at hu hx hw, v40_at hu hx hw ht hg, v5_at hu hx hw, ← EReal.coe_mul, coe_sum, word_1024, div_1024]
  exact congrArg Real.toEReal (Fin.sum_univ_one _)

/-- The reference's first result: the residual sum's gradient. -/
theorem v54_at (r : Fin 4096) (d : Fin 1024) : val_main_v54 x0 x1 x2 x3 x4 (ix2 r d) = ((gradX U X T W G r.val d : ℝ) : EReal) := by
  pointwise [val_main_v54, val_main_v53, val_main_v52, val_main_v51, val_main_v45, val_main_v44]
  rw [v40_at hu hx hw ht hg, v50_at hu hx hw ht hg, v13_at hu hx hw, v5_at hu hx hw]
  simp only [← EReal.coe_mul, ← EReal.coe_add]
  refine congrArg Real.toEReal ?_
  unfold gradX
  rw [← rmsBwd_eq 1024 (by norm_num)]

end Cert.DownRefIdeal.Result

end
-- ==== Proof.Down.Result.lean ====
module

public import proofs.«01_k».proof.Proof.Down.Reads
public import proofs.«01_k».proof.Proof.Gen.DownIdeal.Value
public import Idealize.ShloMosaic.Lib.Pipeline.Value
public import Idealize.ShloMosaic.Lib.Pipeline.ReadBack

/-! # The down projection with the final normalisation and the loss: what the kernel leaves in its three results -/

@[expose] public section

set_option maxRecDepth 16384

noncomputable section

open Idealize.ShloMosaic Idealize.ShloMosaic.TcCoe Idealize.SL.Sem

namespace Cert.DownIdeal.Result

open Cert.DownIdeal Cert.DownIdeal.Gen Cert.DownIdeal.Value Cert.DownIdeal.Body Cert.DownIdeal.Reads Cert.Reals

variable {m : (ℓ : Loc nD τ sig) → Buf (Elt Ideal) ℓ} {c : Dev nD} {U X T W G : ℕ → ℕ → ℝ} (h : Args m c U X T W G)

/-- The residual sum's gradient on point `t`'s 512 rows. -/
def tile (U X T W G : ℕ → ℕ → ℝ) (t : ℕ) : S512x1024.Idx → EReal :=
  fun x => ((gradX U X T W G (512 * t + (x 0).val) (x 1) : ℝ) : EReal)

include h

theorem part_of (t : Fin cfg0.N) (o : ℕ) (ho : o + 128 ≤ 512) :
    ∀ x : (rows o ho).shape.Idx, gx m c t o ho x = tile U X T W G t.val ((rows o ho).emb x) :=
  all2 fun p f => (gx_at t h o ho p f).trans (congrArg (tile U X T W G t.val) (rows_emb2 _ p f (by omega))).symm

theorem pieces_of (t : Fin cfg0.N) : View.PiecesOf (tile U X T W G t.val) (pieces m c t) :=
  ⟨part_of h t 384 (by decide), part_of h t 256 (by decide), part_of h t 128 (by decide), part_of h t 0 (by decide), trivial⟩

omit h in
theorem rows_mem (o : ℕ) (ho : o + 128 ≤ 512) (p : Fin 512) (f : Fin 1024) (h0 : o ≤ p.val) (h1 : p.val < o + 128) :
    (ix2 p f : S512x1024.Idx) ∈ (rows o ho).set := rows_mem2 _ p f h0 h1

omit h in
theorem covered (t : Fin cfg0.N) (p : Fin 512) (f : Fin 1024) : ∃ pc ∈ pieces m c t, (ix2 p f : S512x1024.Idx) ∈ pc.1.set := by
  by_cases h0 : p.val < 128
  · exact ⟨_, .tail _ (.tail _ (.tail _ (.head _))), rows_mem 0 (by decide) p f (by omega) (by omega)⟩
  by_cases h1 : p.val < 256
  · exact ⟨_, .tail _ (.tail _ (.head _)), rows_mem 128 (by decide) p f (by omega) (by omega)⟩
  by_cases h2 : p.val < 384
  · exact ⟨_, .tail _ (.head _), rows_mem 256 (by decide) p f (by omega) (by omega)⟩
  · exact ⟨_, .head _, rows_mem 384 (by decide) p f (by omega) (by omega)⟩

/-- Every point leaves its tile of the gradient. -/
theorem outs_x (t : Fin cfg0.N) (p : Fin 512) (f : Fin 1024) :
    (outsAt0 m c t.val t.isLt).1 (ix2 p f) = ((gradX U X T W G (512 * t.val + p.val) f : ℝ) : EReal) := by
  have e : (outsAt0 m c t.val t.isLt).1 = View.canon (pieces m c t) := by
    by_cases h0 : t.val % 8 = 0
    · exact (outsA m c t h0).1
    · exact (outsB m c t h0).1
  rw [e]
  exact View.canon_apply_of_pieces (tile U X T W G t.val) _ (pieces_of h t).mem _ (covered t p f)

/-- The loss so far. -/
theorem outs_l : ∀ (n : ℕ) (hn : n < cfg0.N), (outsAt0 m c n hn).2.1 (ix2 0 0)
    = ∑ k ∈ Finset.range (n % 8 + 1), ((∑ a : Fin 512, 1 / 2 * lossR U X T W G (512 * (n / 8 * 8 + k) + a.val) : ℝ) : EReal) := by
  refine run_sum 8 (by decide) (fun n hn => (outsAt0 m c n hn).2.1 (ix2 0 0))
    (fun n => ((∑ a : Fin 512, 1 / 2 * lossR U X T W G (512 * n + a.val) : ℝ) : EReal)) (fun n hn h0 => ?_) (fun n hn h0 => ?_)
  · rw [(outsA m c ⟨n, hn⟩ h0).2.1, ll_at ⟨n, hn⟩ h]
    pointwise [k0_pay48]
  · rw [(outsB m c ⟨n + 1, hn⟩ h0).2.1, ll_at ⟨n + 1, hn⟩ h]
    rfl

/-- The gain's gradient so far. -/
theorem outs_g (d : Fin 1024) : ∀ (n : ℕ) (hn : n < cfg0.N), (outsAt0 m c n hn).2.2 (ix2 0 d)
    = ∑ k ∈ Finset.range (n % 8 + 1), ((∑ a : Fin 512, gradG U X T W G (512 * (n / 8 * 8 + k) + a.val) d : ℝ) : EReal) := by
  refine run_sum 8 (by decide) (fun n hn => (outsAt0 m c n hn).2.2 (ix2 0 d))
    (fun n => ((∑ a : Fin 512, gradG U X T W G (512 * n + a.val) d : ℝ) : EReal)) (fun n hn h0 => ?_) (fun n hn h0 => ?_)
  · rw [(outsA m c ⟨n, hn⟩ h0).2.2, gg_at ⟨n, hn⟩ h]
    pointwise [k0_pay49]
  · rw [(outsB m c ⟨n + 1, hn⟩ h0).2.2, gg_at ⟨n + 1, hn⟩ h]
    rfl

/-- The first result: the residual sum's gradient. -/
theorem r6_at (r : Fin 4096) (f : Fin 1024) :
    ((dats m 0 c).arrAt 6 cfg0.N : S4096x1024.Idx → EReal) (ix2 r f) = ((gradX U X T W G r.val f : ℝ) : EReal) := by
  have hN : cfg0.N = 8 := N_0
  have ht : r.val / 512 < cfg0.N := by omega
  have e := congrFun (blocks6 m c ⟨r.val / 512, ht⟩ (flush0_6 _)) (ix2 ⟨r.val % 512, by omega⟩ f)
  rw [flushed6] at e
  refine Eq.trans (Eq.trans ?_ e) ((outs_x h ⟨r.val / 512, ht⟩ ⟨r.val % 512, by omega⟩ f).trans ?_)
  · obtain ⟨-, -, -, -, -, -, ⟨e0, e1⟩, -⟩ := index_facts ⟨r.val / 512, ht⟩
    refine congrArg ((dats m 0 c).arrAt 6 cfg0.N : S4096x1024.Idx → EReal) (funext fun x => Fin.ext ?_)
    match x with
    | ⟨0, _⟩ => show r.val = win0_6.index ⟨r.val / 512, ht⟩ (0 : Fin 2) * 512 + 1 * (r.val % 512); rw [e0]; show r.val = r.val / 512 * 512 + 1 * (r.val % 512); omega
    | ⟨1, _⟩ => show f.val = win0_6.index ⟨r.val / 512, ht⟩ (1 : Fin 2) * 1024 + 1 * f.val; rw [e1]; omega
  · dsimp only
    rw [Nat.div_add_mod]

omit h in
theorem last_flush {t t' : Fin cfg0.N} (a : t.val % 8 = 7) (b : t'.val % 8 = 7) (hne : t ≠ t') : False := by
  have hN : cfg0.N = 8 := N_0
  exact hne (Fin.ext (by omega))

/-- The second result: the loss. -/
theorem r7_at (z z' : Fin 1) :
    ((dats m 0 c).arrAt 7 cfg0.N : S1x1.Idx → EReal) (ix2 z z') = ((∑ r : Fin 4096, 1 / 2 * lossR U X T W G r.val : ℝ) : EReal) := by
  have hN : cfg0.N = 8 := N_0
  obtain rfl : z = 0 := Subsingleton.elim _ _
  obtain rfl : z' = 0 := Subsingleton.elim _ _
  obtain ⟨t, ht⟩ : ∃ t : Fin cfg0.N, t.val = 7 := ⟨⟨7, by omega⟩, rfl⟩
  have e := congrFun ((dats m 0 c).read_blk_arrAt_eq_flushed 7
    (fun _ _ a b hne => (last_flush ((flush0_7 _).mp a) ((flush0_7 _).mp b) hne).elim) cfg0.N t t.isLt ((flush0_7 t).mpr (by rw [ht]))) (ix2 0 0)
  rw [flushed7] at e
  refine Eq.trans (Eq.trans ?_ e) ((outs_l h t.val t.isLt).trans ?_)
  · have u : ∀ x y : S1x1.Idx, x = y := fun x y => funext fun a => Fin.ext (by
      match a with
      | ⟨0, _⟩ => have p : (x 0).val < 1 := (x 0).isLt; have q : (y 0).val < 1 := (y 0).isLt; show (x 0).val = (y 0).val; omega
      | ⟨1, _⟩ => have p : (x 1).val < 1 := (x 1).isLt; have q : (y 1).val < 1 := (y 1).isLt; show (x 1).val = (y 1).val; omega)
    exact congrArg ((dats m 0 c).arrAt 7 cfg0.N : S1x1.Idx → EReal) (u _ (((cfg0.win 7).blk t).view.emb (ix2 0 0)))
  · rw [ht]
    exact (run_tiles 8 512 _ (fun r => 1 / 2 * lossR U X T W G r) (fun i hi => by rw [show 7 / 8 * 8 + i = i by omega])).trans rfl

/-- The third result: the gain's gradient. -/
theorem r8_at (z : Fin 1) (d : Fin 1024) :
    ((dats m 0 c).arrAt 8 cfg0.N : S1x1024.Idx → EReal) (ix2 z d) = ((∑ r : Fin 4096, gradG U X T W G r.val d : ℝ) : EReal) := by
  have hN : cfg0.N = 8 := N_0
  obtain rfl : z = 0 := Subsingleton.elim _ _
  obtain ⟨t, ht⟩ : ∃ t : Fin cfg0.N, t.val = 7 := ⟨⟨7, by omega⟩, rfl⟩
  have e := congrFun ((dats m 0 c).read_blk_arrAt_eq_flushed 8
    (fun _ _ a b hne => (last_flush ((flush0_8 _).mp a) ((flush0_8 _).mp b) hne).elim) cfg0.N t t.isLt ((flush0_8 t).mpr (by rw [ht]))) (ix2 0 d)
  rw [flushed8] at e
  refine Eq.trans (Eq.trans ?_ e) ((outs_g h d t.val t.isLt).trans ?_)
  · obtain ⟨-, -, -, -, -, -, -, -, ⟨e0, e1⟩⟩ := index_facts t
    refine congrArg ((dats m 0 c).arrAt 8 cfg0.N : S1x1024.Idx → EReal) (funext fun x => Fin.ext ?_)
    match x with
    | ⟨0, _⟩ => show 0 = win0_8.index t (0 : Fin 2) * 1 + 1 * 0; rw [e0]
    | ⟨1, _⟩ => show d.val = win0_8.index t (1 : Fin 2) * 1024 + 1 * d.val; rw [e1]; omega
  · rw [ht]
    exact (run_tiles 8 512 _ (fun r => gradG U X T W G r d) (fun i hi => by rw [show 7 / 8 * 8 + i = i by omega])).trans rfl

end Cert.DownIdeal.Result

end
-- ==== Proof.Down.Claims.lean ====
module

public import proofs.«01_k».proof.Defs
public import proofs.«01_k».proof.Proof.Gen.Down
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_finite_down
public import proofs.«01_k».proof.Proof.Down.Ref
public import proofs.«01_k».proof.Proof.Down.Result

/-! # The down projection with the final normalisation and the loss: its claims -/

@[expose] public section

set_option maxRecDepth 16384

noncomputable section

open Idealize.ShloMosaic Idealize.ShloMosaic.TcCoe Idealize.SL.Sem

namespace Cert.DownClaims

open Cert.Reals

section
open Cert.DownIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c⟩, h.2⟩) (Gen.run_main_quiescent m ρ)
end

/-- The two programs have one table of kernel bodies. -/
theorem bodies_eq {F : FTy → Type} [FloatOps F] : Cert.Down.defs₀ (F := F) = Cert.DownIdeal.defs₀ (F := F) := by
  unfold Cert.Down.defs₀ Cert.DownIdeal.defs₀
  congr 1
  funext l a
  match l, a with
  | 0, (t, s) => rfl

theorem defs_eq {F : FTy → Type} [FloatOps F] : Cert.Down.defs (F := F) = Cert.DownIdeal.defs (F := F) := by
  unfold Cert.Down.defs Cert.DownIdeal.defs
  rw [bodies_eq]
  rfl

/-- The kernel's own frame: the two programs have one text. -/
theorem frame_kernel : Cert.quiescent_Down := fun m ρ _ => by
  rw [defs_eq]
  exact frame_run (F := Bits) m ρ

/-- The ideal program's frame. -/
theorem frame_ideal : Cert.quiescent_DownIdeal := fun m ρ _ => frame_run (F := Ideal) m ρ

/-- The reference's frame. -/
theorem frame_ref : Cert.quiescent_DownRefIdeal := fun m ρ _ =>
  (θ_run _ _ _).mono (fun r h => ⟨fun c => (h c).2.2.2, sem_eq_zero_of_no_sems (by decide) r.2⟩) (Cert.DownRefIdeal.Value.run (F := Ideal) m ρ)

/-- The ideal program's frame under the precondition. -/
theorem frame_ideal_pre : Cert.quiescent_DownIdeal_pre_finite_down := fun m ρ _ => frame_run (F := Ideal) m ρ

/-- The reference's frame under the precondition. -/
theorem frame_ref_pre : Cert.quiescent_DownRefIdeal_pre_finite_down := fun m ρ _ => frame_ref m ρ trivial
/-- The precondition gives real arguments. -/
theorem args_real (m : (ℓ : Loc Cert.DownIdeal.nD Cert.DownIdeal.τ Cert.DownIdeal.sig) → Buf (Elt Ideal) ℓ) (hm : Cert.Pre_DownIdeal_finite_down m)
    (c : Dev Cert.DownIdeal.nD) : ∃ U X T W G, Cert.DownIdeal.Reads.Args m c U X T W G := by
  obtain ⟨h0, h1, h2, h3, h4⟩ := hm c
  refine ⟨rd (m ((c.tc : Thread Cert.DownIdeal.nD Cert.DownIdeal.τ).loc Cert.DownIdeal.main_arg0) : Cert.DownIdeal.S4096x5632.Idx → EReal),
    rd (m ((c.tc : Thread Cert.DownIdeal.nD Cert.DownIdeal.τ).loc Cert.DownIdeal.main_arg1) : Cert.DownIdeal.S4096x1024.Idx → EReal),
    rd (m ((c.tc : Thread Cert.DownIdeal.nD Cert.DownIdeal.τ).loc Cert.DownIdeal.main_arg2) : Cert.DownIdeal.S4096x1024.Idx → EReal),
    rd (m ((c.tc : Thread Cert.DownIdeal.nD Cert.DownIdeal.τ).loc Cert.DownIdeal.main_arg3) : Cert.DownIdeal.S2816x1024.Idx → EReal),
    rd (m ((c.tc : Thread Cert.DownIdeal.nD Cert.DownIdeal.τ).loc Cert.DownIdeal.main_arg4) : Cert.DownIdeal.S1x1024.Idx → EReal), ?_⟩
  constructor
  · exact fun r f => rd_eq _ (congrFun h0) r f
  · exact fun r f => rd_eq _ (congrFun h1) r f
  · exact fun r f => rd_eq _ (congrFun h2) r f
  · exact fun r f => rd_eq _ (congrFun h3) r f
  · exact fun r f => rd_eq _ (congrFun h4) r f

/-- Over the reals the kernel and the reference end with equal results. -/
theorem value : Cert.algebraic_DownIdeal_DownRefIdeal_pre_finite_down := by
  intro m ρ m' ρ' hm hmm
  refine ⟨fun c => (Cert.DownIdeal.Gen.dats m 0 c).arrAt 6 Cert.DownIdeal.cfg0.N, fun c => (Cert.DownIdeal.Gen.dats m 0 c).arrAt 7 Cert.DownIdeal.cfg0.N,
    fun c => (Cert.DownIdeal.Gen.dats m 0 c).arrAt 8 Cert.DownIdeal.cfg0.N, Cert.DownIdeal.Value.run_blocks m ρ, ?_⟩
  refine (θ_run _ _ _).mono (fun r h c => ?_) (Cert.DownRefIdeal.Value.run (F := Ideal) m' ρ')
  obtain ⟨U, X, T, W, G, hA⟩ := args_real m hm c
  obtain ⟨e0, e1, e2, e3, e4⟩ := hmm c
  obtain ⟨r0, r1, r2, k⟩ := h c
  rw [Cert.DownRefIdeal.Read.val_main_v54_eq, e0, e1, e2, e3, e4] at r0
  rw [Cert.DownRefIdeal.Read.val_main_v55_eq, e0, e1, e2, e3, e4] at r1
  rw [Cert.DownRefIdeal.Read.val_main_v38_eq, e0, e1, e2, e3, e4] at r2
  refine ⟨r0.trans ?_, r1.trans ?_, r2.trans ?_, k⟩
  · exact ext2 fun a b => (Cert.DownRefIdeal.Result.v54_at hA.u hA.x hA.w hA.t hA.g a b).trans (Cert.DownIdeal.Result.r6_at hA a b).symm
  · exact ext2 fun a b => (Cert.DownRefIdeal.Result.v55_at hA.u hA.x hA.w hA.t hA.g a b).trans (Cert.DownIdeal.Result.r7_at hA a b).symm
  · exact ext2 fun a b => (Cert.DownRefIdeal.Result.v38_at hA.u hA.x hA.w hA.t hA.g a b).trans (Cert.DownIdeal.Result.r8_at hA a b).symm

end Cert.DownClaims

end
-- ==== Proof.Fup.Run.lean ====
module

public import proofs.«01_k».proof.Defs
public import proofs.«01_k».proof.Proof.Gen.FupIdeal.Frame
public import proofs.«01_k».proof.Proof.Gen.FupIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! # The forward up projection: one run of the body, the scratch at any contents -/

@[expose] public section

set_option maxRecDepth 16384

noncomputable section

namespace Cert.FupIdeal.Run

open Cert.FupIdeal Cert.FupIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes to its four results and to the scratch that starts at `s`, with the triple of the
    body that says so: the inputs are left as they were. -/
noncomputable def bodyRun (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S256x5632 .bf16) (harg6 : arg6.IsWhole) (arg7 : Memref sig .tc .vmem S256x1024 .bf16) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S8x5632 .f32) (harg10 : arg10.IsWhole)
    (x0 : Vec F S256x1024 .f32) (x1 : Vec F S1x1024 .f32) (x2 : Vec F S4x1024x1408 .bf16) (x3 : Vec F S3x5632 .f32) (x4 : Vec F S1x5632 .f32) (s : Vec F S8x5632 .f32) :
    Σ' (L6 : List (View.Piece (Elt F) S256x5632 .bf16)), Σ' (L7 : List (View.Piece (Elt F) S256x1024 .bf16)), Σ' (L8 : List (View.Piece (Elt F) S256x2816 .bf16)), Σ' (L9 : List (View.Piece (Elt F) S256x2816 .bf16)), { L10 : List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_upproj i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_upproj_eq_skeleton]
    unfold cc0_upproj_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%d9, %f9, -, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg10.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.FupIdeal.Run

end
-- ==== Proof.Fup.Body.lean ====
module

public import proofs.«01_k».proof.Proof.Fup.Run
public import Idealize.ShloMosaic.Lib.Pipeline.Value
public import Idealize.ShloMosaic.Lib.Pipeline.ReadBack

/-! # The forward up projection: what one run of the body writes, named -/

@[expose] public section

set_option maxRecDepth 16384
set_option maxHeartbeats 4000000

noncomputable section

open Idealize.ShloMosaic Idealize.ShloMosaic.TcCoe Idealize.SL.Sem

namespace Cert.FupIdeal.Body

open Cert.FupIdeal Cert.FupIdeal.Gen Cert.FupIdeal.Run

variable {F : FTy → Type} [FloatOps F]

theorem hz : (![0, 0] : Fin 2 → Nat) = fun _ => 0 := funext fun a => by fin_cases a <;> rfl

/-! ## The rectangles: part `j` is a quarter of the 5632 columns -/

/-- Part `j`'s columns of a block of 256 rows. -/
abbrev rC (j : Fin 4) : Rect S256x5632 := Rect.unit (s := S256x5632) ![0, 1408 * j.val] S256x1408.size
  (fun a => by match a with | ⟨0, _⟩ => show 0 + 256 ≤ 256; omega | ⟨1, _⟩ => show 1408 * j.val + 1408 ≤ 5632; omega)
/-- The three taps on part `j`'s columns. -/
abbrev rT (j : Fin 4) : Rect S3x5632 := Rect.unit (s := S3x5632) ![0, 1408 * j.val] S3x1408.size
  (fun a => by match a with | ⟨0, _⟩ => show 0 + 3 ≤ 3; omega | ⟨1, _⟩ => show 1408 * j.val + 1408 ≤ 5632; omega)
/-- The bias on part `j`'s columns. -/
abbrev rB (j : Fin 4) : Rect S1x5632 := Rect.unit (s := S1x5632) ![0, 1408 * j.val] S1x1408.size
  (fun a => by match a with | ⟨0, _⟩ => show 0 + 1 ≤ 1; omega | ⟨1, _⟩ => show 1408 * j.val + 1408 ≤ 5632; omega)
/-- Slice `j` of the stacked weight. -/
abbrev rW (j : Fin 4) : Rect S4x1024x1408 := Rect.unit (s := S4x1024x1408) ![j.val, 0, 0] S1x1024x1408.size
  (fun a => by match a with | ⟨0, _⟩ => show j.val + 1 ≤ 4; omega | ⟨1, _⟩ => show 0 + 1024 ≤ 1024; omega | ⟨2, _⟩ => show 0 + 1408 ≤ 1408; omega)
/-- Half `q` of the columns of a half's block. -/
abbrev rD (q : Fin 2) : Rect S256x2816 := Rect.unit (s := S256x2816) ![0, 1408 * q.val] S256x1408.size
  (fun a => by match a with | ⟨0, _⟩ => show 0 + 256 ≤ 256; omega | ⟨1, _⟩ => show 1408 * q.val + 1408 ≤ 2816; omega)
/-- The carried rows on part `j`'s columns, and the last two of them. -/
abbrev rS (j : Fin 4) : Rect S8x5632 := Rect.unit (s := S8x5632) ![0, 1408 * j.val] S8x1408.size
  (fun a => by match a with | ⟨0, _⟩ => show 0 + 8 ≤ 8; omega | ⟨1, _⟩ => show 1408 * j.val + 1408 ≤ 5632; omega)
abbrev rL (j : Fin 4) : Rect S8x5632 := Rect.unit (s := S8x5632) ![6, 1408 * j.val] S2x1408.size
  (fun a => by match a with | ⟨0, _⟩ => show 6 + 2 ≤ 8; omega | ⟨1, _⟩ => show 1408 * j.val + 1408 ≤ 5632; omega)
abbrev rZ : Rect S256x1024 := Rect.unit (s := S256x1024) ![0, 0] S256x1024.size inb_S256x1024_S256x1024_0_0

/-- The body's test of whether its block starts a sequence. -/
def atS (i : grid0.Coords) : BitVec 1 :=
  let one : BitVec 32 := Scalar.select (Scalar.cmpi .eq 8#32 0#32) 1#32 8#32
  let q : BitVec 32 := Scalar.remsi (BitVec.ofNat 32 (i 0).val) one
  Scalar.cmpi .eq (Scalar.select (Scalar.andi (Scalar.xori (Scalar.cmpi .slt q 0#32) (Scalar.cmpi .slt one 0#32)) (Scalar.cmpi .ne q 0#32))
    (Scalar.addi q one) q) 0#32

/-! ## The quantities computed from the blocks -/

variable (x : Vec F S256x1024 .f32) (g : Vec F S1x1024 .f32) (w : Vec F S4x1024x1408 .bf16) (wc : Vec F S3x5632 .f32) (bc : Vec F S1x5632 .f32)
  (i : grid0.Coords) (s : Vec F S8x5632 .f32)

/-- The normalised block. -/
def hn : FVec F S256x1024 .bf16 := k0_pay2 x g
/-- Its product with slice `j` of the weight, also rounded, and its last eight rows. -/
def un (j : Fin 4) : FVec F S256x1408 .f32 := k0_pay18 (hn x g) (View.ld w (rW j))
def ub (j : Fin 4) : FVec F S256x1408 .bf16 := k0_pay19 (hn x g) (View.ld w (rW j))
def tl (j : Fin 4) : FVec F S8x1408 .f32 := k0_pay22 (k0_pay21 (hn x g) (View.ld w (rW j)))
/-- The two rows before the block: zeros where a sequence starts, otherwise the carried ones. -/
def hl (j : Fin 4) : FVec F S2x1408 .f32 := k0_pay20 (atS i) (View.ld s (rL j))
/-- The convolution on part `j`. -/
def co (j : Fin 4) : FVec F S256x1408 .bf16 := k0_pay24 (k0_pay23 (un x g w j) (hl i s j) (View.ld wc (rT j)) (View.ld bc (rB j)))

/-- The pieces of the product, of the convolution's two halves and of the carried rows. -/
abbrev uP : List (View.Piece (Elt F) S256x5632 .bf16) := [⟨rC 3, ub x g w 3⟩, ⟨rC 2, ub x g w 2⟩, ⟨rC 1, ub x g w 1⟩, ⟨rC 0, ub x g w 0⟩]
abbrev gP : List (View.Piece (Elt F) S256x2816 .bf16) := [⟨rD 1, co x g w wc bc i s 1⟩, ⟨rD 0, co x g w wc bc i s 0⟩]
abbrev vP : List (View.Piece (Elt F) S256x2816 .bf16) := [⟨rD 1, co x g w wc bc i s 3⟩, ⟨rD 0, co x g w wc bc i s 2⟩]
abbrev sP : List (View.Piece (Elt F) S8x5632 .f32) := [⟨rS 3, tl x g w 3⟩, ⟨rS 2, tl x g w 2⟩, ⟨rS 1, tl x g w 1⟩, ⟨rS 0, tl x g w 0⟩]

/-- The run's pieces are these. -/
theorem bodyRun_eq (c : Dev nD) (arg1 : Memref sig .tc .vmem S256x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S256x5632 .bf16) (harg6 : arg6.IsWhole) (arg7 : Memref sig .tc .vmem S256x1024 .bf16) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S8x5632 .f32) (harg10 : arg10.IsWhole) :
    (bodyRun c i arg1 harg1 arg2 harg2 arg3 harg3 arg4 harg4 arg5 harg5 arg6 harg6 arg7 harg7 arg8 harg8 arg9 harg9 arg10 harg10 x g w wc bc s).1 = uP x g w ∧ (bodyRun c i arg1 harg1 arg2 harg2 arg3 harg3 arg4 harg4 arg5 harg5 arg6 harg6 arg7 harg7 arg8 harg8 arg9 harg9 arg10 harg10 x g w wc bc s).2.1 = [⟨rZ, k0_pay3 x g⟩]
    ∧ (bodyRun c i arg1 harg1 arg2 harg2 arg3 harg3 arg4 harg4 arg5 harg5 arg6 harg6 arg7 harg7 arg8 harg8 arg9 harg9 arg10 harg10 x g w wc bc s).2.2.1 = gP x g w wc bc i s ∧ (bodyRun c i arg1 harg1 arg2 harg2 arg3 harg3 arg4 harg4 arg5 harg5 arg6 harg6 arg7 harg7 arg8 harg8 arg9 harg9 arg10 harg10 x g w wc bc s).2.2.2.1 = vP x g w wc bc i s
    ∧ (bodyRun c i arg1 harg1 arg2 harg2 arg3 harg3 arg4 harg4 arg5 harg5 arg6 harg6 arg7 harg7 arg8 harg8 arg9 harg9 arg10 harg10 x g w wc bc s).2.2.2.2.1 = sP x g w := by
  refine ⟨?_, ?_, ?_, ?_, ?_⟩
  all_goals
    unfold bodyRun
    dsimp only
    sl_unfold_words
    simp only [View.readAt_eq_ld, harg1.read_unread, harg2.read_unread, harg3.read_unread, harg4.read_unread, harg5.read_unread, harg10.read_unread,
      View.ld_unit_zero (S := S1x1024) hz, View.ld_unit_zero (S := S256x1024) hz]
    all_goals rfl

end Cert.FupIdeal.Body

end
-- ==== Proof.Fup.Frame.lean ====
module

public import proofs.«01_k».proof.Proof.Fup.Body

/-! # The forward up projection: the pipeline's proof data and the launch -/

@[expose] public section

set_option maxRecDepth 16384

noncomputable section

namespace Cert.FupIdeal.Body

open Cert.FupIdeal Cert.FupIdeal.Gen Cert.FupIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

abbrev bX (c : Dev nD) (t : Fin cfg0.N) : Vec F S256x1024 .f32 := iblk m c 0 t
abbrev bG (c : Dev nD) (t : Fin cfg0.N) : Vec F S1x1024 .f32 := iblk m c 1 t
abbrev bW (c : Dev nD) (t : Fin cfg0.N) : Vec F S4x1024x1408 .bf16 := iblk m c 2 t
abbrev bC (c : Dev nD) (t : Fin cfg0.N) : Vec F S3x5632 .f32 := iblk m c 3 t
abbrev bB (c : Dev nD) (t : Fin cfg0.N) : Vec F S1x5632 .f32 := iblk m c 4 t

/-- The rows carried from point `t`: they depend on that point's blocks alone. -/
def scr (c : Dev nD) (t : Fin cfg0.N) : Vec F S8x5632 .f32 := View.canon (sP (bX m c t) (bG m c t) (bW m c t))
/-- The rows point `t` finds, where a sequence does not start. -/
def prev (c : Dev nD) (t : Fin cfg0.N) : Vec F S8x5632 .f32 := scr m c ⟨t.val - 1, lt_of_le_of_lt (Nat.sub_le _ _) t.isLt⟩

/-- The carried rows do not enter where a sequence starts. -/
theorem co_start (x : Vec F S256x1024 .f32) (g : Vec F S1x1024 .f32) (w : Vec F S4x1024x1408 .bf16) (wc : Vec F S3x5632 .f32) (bc : Vec F S1x5632 .f32)
    (i : grid0.Coords) (s s' : Vec F S8x5632 .f32) (h : atS i = 1#1) : co x g w wc bc i s = co x g w wc bc i s' := by
  funext j; unfold co hl k0_pay20; rw [h]; rfl

/-- The test holds at every eighth point. -/
theorem atS_start (t : Fin cfg0.N) : atS (grid0.coords t) = if t.val % 8 = 0 then 1#1 else 0#1 := by
  have ht : t.val < 16 := Nat.lt_of_lt_of_eq t.isLt N_0
  have e0 : (grid0.coords t 0).val = t.val / 1 % 16 := Pipeline.Grid.coords_val t 0 (by decide) rfl
  rw [Nat.div_one, Nat.mod_eq_of_lt ht] at e0
  unfold atS
  rw [e0]
  generalize t.val = n at ht ⊢
  interval_cases n <;> rfl

/-- The invariant before point `n`: the scratch holds what the point before left, and anything before the first. -/
def PhiS (c : Dev nD) (n : Nat) (h : n ≤ cfg0.N) : sProp 𝕄 :=
  iprop((∃ s : Vec F S8x5632 .f32, ⌜∀ t : Fin cfg0.N, t.val + 1 = n → s = scr m c t⌝
      ∗ owns (c : Thread nD τ) (Memref.whole cc0_scratch0) fullShare s) ∗ ∃ r, prngReg c r)

/-- The proof data: what each window's staging buffer holds after point `t`, and the invariant. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => View.canon (uP (bX m c t) (bG m c t) (bW m c t))
    | 6 => k0_pay3 (bX m c t) (bG m c t)
    | 7 => View.canon (gP (bX m c t) (bG m c t) (bW m c t) (bC m c t) (bB m c t) (grid0.coords t) (prev m c t))
    | 8 => View.canon (vP (bX m c t) (bG m c t) (bW m c t) (bC m c t) (bB m c t) (grid0.coords t) (prev m c t))
  Φ n := PhiS m c n.val (Nat.le_of_lt_succ n.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = View.canon (uP (bX m c t) (bG m c t) (bW m c t)) := by dsimp only [dats]
theorem after_6 (c : Dev nD) (t : Fin cfg0.N) : (dats m 0 c).after 6 t = k0_pay3 (bX m c t) (bG m c t) := by dsimp only [dats]
theorem after_7 (c : Dev nD) (t : Fin cfg0.N) : (dats m 0 c).after 7 t
    = View.canon (gP (bX m c t) (bG m c t) (bW m c t) (bC m c t) (bB m c t) (grid0.coords t) (prev m c t)) := by dsimp only [dats]
theorem after_8 (c : Dev nD) (t : Fin cfg0.N) : (dats m 0 c).after 8 t
    = View.canon (vP (bX m c t) (bG m c t) (bW m c t) (bC m c t) (bB m c t) (grid0.coords t) (prev m c t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The pieces cover their buffers -/

section Cover
variable (x : Vec F S256x1024 .f32) (g : Vec F S1x1024 .f32) (w : Vec F S4x1024x1408 .bf16) (wc : Vec F S3x5632 .f32) (bc : Vec F S1x5632 .f32)
  (i : grid0.Coords) (s : Vec F S8x5632 .f32)

theorem cover_u (y : S256x5632.Idx) : ∃ p ∈ uP x g w, y ∈ p.1.set := View.cover_of_tiledL (uP x g w) S256x1408.size (by sl_kernel_rfl) y
theorem cover_h (y : S256x1024.Idx) : ∃ p ∈ [(⟨rZ, k0_pay3 x g⟩ : View.Piece (Elt F) S256x1024 .bf16)], y ∈ p.1.set := View.cover_of_tiledL [(⟨rZ, k0_pay3 x g⟩ : View.Piece (Elt F) S256x1024 .bf16)] S256x1024.size (by sl_kernel_rfl) y
theorem cover_g (y : S256x2816.Idx) : ∃ p ∈ gP x g w wc bc i s, y ∈ p.1.set := View.cover_of_tiledL (gP x g w wc bc i s) S256x1408.size (by sl_kernel_rfl) y
theorem cover_v (y : S256x2816.Idx) : ∃ p ∈ vP x g w wc bc i s, y ∈ p.1.set := View.cover_of_tiledL (vP x g w wc bc i s) S256x1408.size (by sl_kernel_rfl) y
theorem cover_s (y : S8x5632.Idx) : ∃ p ∈ sP x g w, y ∈ p.1.set := View.cover_of_tiledL (sP x g w) S8x1408.size (by sl_kernel_rfl) y

end Cover

/-! ## The body at a point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- Both halves of the convolution depend on the scratch only as the invariant describes it. -/
theorem co_prev (c : Dev nD) (t : Fin cfg0.N) (s : Vec F S8x5632 .f32) (hs : ∀ t' : Fin cfg0.N, t'.val + 1 = t.val → s = scr m c t') :
    co (bX m c t) (bG m c t) (bW m c t) (bC m c t) (bB m c t) (grid0.coords t) s
      = co (bX m c t) (bG m c t) (bW m c t) (bC m c t) (bB m c t) (grid0.coords t) (prev m c t) := by
  by_cases h0 : t.val = 0
  · exact co_start _ _ _ _ _ _ _ _ (by rw [atS_start, if_pos (by omega)])
  · rw [hs ⟨t.val - 1, lt_of_le_of_lt (Nat.sub_le _ _) t.isLt⟩ (by show t.val - 1 + 1 = t.val; omega)]; rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.castSucc = PhiS m c t.val (Nat.le_of_lt t.isLt) from by dsimp only [dats]; exact Pipeline.Dat.Φ_castSucc (PhiS m c) t,
    show (dats m 0 c).Φ t.succ = PhiS m c (t.val + 1) t.isLt from rfl,
    show (dats m 0 c).owesAt () t.succ = (dats m 0 c).owesAt () t.castSucc from rfl,
    after_0, after_1, after_2, after_3, after_4, after_5, after_6, after_7, after_8]
  unfold PhiS
  iintro ⟨⟨⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hco := co_prev m c t s hs
  iapply ((bodyRun c (grid0.coords t) _ _ _ _ _ _ _ _ _ _ _ _ _ _ _ _ _ _ _ _ (iblk m c 0 t) (iblk m c 1 t) (iblk m c 2 t) (iblk m c 3 t) (iblk m c 4 t) s).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [Hs]; · iexact Hs
  iintro ⟨H0, H1, H2, H3, H4, ⟨%e5, H5⟩, ⟨%e6, H6⟩, ⟨%e7, H7⟩, ⟨%e8, H8⟩, ⟨%es, Hs⟩⟩
  isplitl [Hs Hg]
  · isplitl [Hs]
    · iexists (scr m c t)
      isplitr
      · ipureintro; intro t' ht'; rw [show t' = t from Fin.ext (by omega)]
      unfold owns; iexists _; isplitr
      swap; · iexact Hs
      ipureintro
      rw [(bodyRun_eq _ _ _ _ _ _ _ _ _ _ _ _ _ _ _ _ _ _ _ _ _ _ _ _ _ _ _ _).2.2.2.2]
      exact View.read_writes_eq_canon _ _ _ (cover_s _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [(bodyRun_eq _ _ _ _ _ _ _ _ _ _ _ _ _ _ _ _ _ _ _ _ _ _ _ _ _ _ _ _ ).1]
    exact View.read_writes_eq_canon _ _ _ (cover_u _ _ _)
  isplitl [H6]
  · unfold owns; iexists _; isplitr
    swap; · iexact H6
    ipureintro
    rw [(bodyRun_eq _ _ _ _ _ _ _ _ _ _ _ _ _ _ _ _ _ _ _ _ _ _ _ _ _ _ _ _ ).2.1]
    exact (View.read_writes_eq_canon _ _ _ (cover_h _ _)).trans (View.canon_unit_zero (S := S256x1024) hz _ _)
  isplitl [H7]
  · unfold owns; iexists _; isplitr
    swap; · iexact H7
    ipureintro
    rw [(bodyRun_eq _ _ _ _ _ _ _ _ _ _ _ _ _ _ _ _ _ _ _ _ _ _ _ _ _ _ _ _ ).2.2.1]
    unfold gP; rw [hco]; exact View.read_writes_eq_canon _ _ _ (cover_g _ _ _ _ _ _ _)
  unfold owns; iexists _; isplitr
  swap; · iexact H8
  ipureintro
  rw [(bodyRun_eq _ _ _ _ _ _ _ _ _ _ _ _ _ _ _ _ _ _ _ _ _ _ _ _ _ _ _ _ ).2.2.2.1]
  unfold vP; rw [hco]; exact View.read_writes_eq_canon _ _ _ (cover_v _ _ _ _ _ _ _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands over is the invariant before the first point; after the last point the invariant gives it back. -/
theorem hin (c : Dev nD) : Pipeline.ΦA spec0 c ⊢ (dats (F := F) m 0 c).Φ 0 := by
  rw [show (dats m 0 c).Φ 0 = PhiS m c 0 (Nat.zero_le _) from rfl]
  unfold Pipeline.ΦA PhiS
  rw [scopedRest0_eq]
  iintro ⟨⟨%f, Hs⟩, Hg⟩
  isplitl [Hs]
  · iexists f
    isplitr
    · ipureintro; intro t' ht'; omega
    rw [owns_whole]; iexact Hs
  iexact Hg
theorem hout (c : Dev nD) : (dats (F := F) m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  unfold Pipeline.ΦA PhiS
  rw [scopedRest0_eq]
  simp only [owns_whole]
  iintro ⟨⟨%s, -, Hs⟩, Hg⟩
  isplitl [Hs]
  · iexists s
    iexact Hs
  iexact Hg

set_option backward.isDefEq.respectTransparency.types false in
/-- Every execution ends, each array at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.FupIdeal.Body

end
-- ==== Proof.Fup.Math.lean ====
module

public import proofs.«01_k».proof.Proof.Common.Reals
public import proofs.«01_k».proof.Proof.Common.Norm

/-! # The forward up projection and the causal convolution, row by row -/

@[expose] public section

noncomputable section

open Idealize.ShloMosaic

namespace Cert.FupMath

/-- The five arguments at pairs of naturals: input rows, gain, weight, taps, bias. -/
structure Data where
  X : ℕ → ℕ → EReal
  N : ℕ → ℕ → EReal
  W : ℕ → ℕ → EReal
  C : ℕ → ℕ → EReal
  B : ℕ → ℕ → EReal

variable (D : Data)

/-- The normalised input. -/
def Data.nrm (r d : ℕ) : EReal :=
  D.X r d * Ideal.rsqrt (Ideal.div (∑ k : Fin 1024, D.X r k.val * D.X r k.val) (Ideal.ofBits .f32 1149239296#32) + Ideal.ofBits .f32 897988541#32) * D.N 0 d
/-- The projection. -/
def Data.up (r e : ℕ) : EReal := ∑ d : Fin 1024, D.nrm r d.val * D.W d.val e
/-- The projection `k` rows back in the row's sequence, zero before the sequence. -/
def Data.sh (k r e : ℕ) : EReal := if r % 2048 < k then 0 else D.up (r - k) e
/-- The convolution with its bias. -/
def Data.cv (r e : ℕ) : EReal := D.C 0 e * D.sh 2 r e + D.C 1 e * D.sh 1 r e + D.C 2 e * D.up r e + D.B 0 e

/-- Inside a sequence's rows: the position decides, the row counts back. -/
theorem Data.sh_row (k s i e : ℕ) (hi : i < 2048) : D.sh k (2048 * s + i) e = if i < k then 0 else D.up (2048 * s + (i - k)) e := by
  unfold Data.sh
  rw [show (2048 * s + i) % 2048 = i by omega]
  by_cases h : i < k
  · rw [if_pos h, if_pos h]
  · rw [if_neg h, if_neg h, show 2048 * s + i - k = 2048 * s + (i - k) by omega]

/-- Inside a tile of 256 rows: past the first `k` rows the tile's own, otherwise those of the tile before, zero where a sequence starts. -/
theorem Data.sh_tile (k t p e : ℕ) (hk : k ≤ 2) (hp : p < 256) :
    D.sh k (256 * t + p) e = if p < k then (if t % 8 = 0 then 0 else D.up (256 * t + (p + 2 - k) - 2) e) else D.up (256 * t + (p - k)) e := by
  unfold Data.sh
  by_cases h : p < k
  · rw [if_pos h]
    by_cases h0 : t % 8 = 0
    · rw [if_pos h0, if_pos (by omega)]
    · rw [if_neg h0, if_neg (by omega)]
      exact congrArg (fun r => D.up r e) (by omega)
  · rw [if_neg h, if_neg (by omega)]
    exact congrArg (fun r => D.up r e) (by omega)

end Cert.FupMath

end
-- ==== Proof.Fup.Reads.lean ====
module

public import proofs.«01_k».proof.Proof.Fup.Frame
public import proofs.«01_k».proof.Proof.Fup.Math
public import Idealize.ShloMosaic.Lib.Pointwise
public import Idealize.ShloMosaic.Lib.IdealHost

/-! # The forward up projection: its blocks and payloads, read at an index -/

@[expose] public section

set_option maxRecDepth 16384

noncomputable section

open Idealize.ShloMosaic Idealize.ShloMosaic.TcCoe Idealize.SL.Sem

namespace Cert.FupIdeal.Reads

open Cert.FupIdeal Cert.FupIdeal.Gen Cert.FupIdeal.Body Cert.Reals Cert.FupMath

/-! ## The payloads -/

theorem sel_eq {M : Type} (k n : ℕ) (hk : k < 8) (hn : n < 8) (x y : M) :
    Scalar.select (IntOp.cmpi .eq (BitVec.ofNat 32 k) (BitVec.ofNat 32 n)) x y = if k = n then x else y := by
  interval_cases k <;> interval_cases n <;> rfl

theorem sel_one {M : Type} (x y : M) : Scalar.select 1#1 x y = x := rfl
theorem sel_zero {M : Type} (x y : M) : Scalar.select 0#1 x y = y := rfl

theorem zero_at (q : Fin 2) (f : Fin 1408) : (broadcast S2x1408 (Scalar.ofBits .f32 0x00000000#32 : Ideal .f32) : FVec Ideal S2x1408 .f32) (ix2 q f) = 0 := by
  pointwise []

/-- The convolution of a block `y` whose two rows before are `z`. -/
theorem pay23_at (y : FVec Ideal S256x1408 .f32) (z : FVec Ideal S2x1408 .f32) (w : Vec Ideal S3x1408 .f32) (b : Vec Ideal S1x1408 .f32) (p : Fin 256) (f : Fin 1408) :
    k0_pay24 (k0_pay23 y z w b) (ix2 p f)
      = w (ix2 0 f) * (if hp : p.val < 2 then z (ix2 ⟨p.val, hp⟩ f) else y (ix2 ⟨p.val - 2, by omega⟩ f))
        + w (ix2 1 f) * (if p.val < 1 then z (ix2 1 f) else y (ix2 ⟨p.val - 1, by omega⟩ f)) + w (ix2 2 f) * y (ix2 p f) + b (ix2 0 f) := by
  pointwise [k0_pay24, k0_pay23]
  have c2 : (if h : p.val < 8 then Scalar.select (IntOp.cmpi CmpIPredicate.eq (BitVec.ofNat 32 p.val) 0#32) (z (ix2 0 f))
        (Scalar.select (IntOp.cmpi CmpIPredicate.eq (BitVec.ofNat 32 p.val) 1#32) (z (ix2 1 f)) (y (ix2 ⟨(p.val + 256 - 2) % 256, by omega⟩ f)))
      else y (ix2 ⟨(8 + (p.val - 8) + 256 - 2) % 256, by omega⟩ f)) = if hp : p.val < 2 then z (ix2 ⟨p.val, hp⟩ f) else y (ix2 ⟨p.val - 2, by omega⟩ f) := by
    by_cases h8 : p.val < 8
    · rw [dif_pos h8]
      refine (sel_eq p.val 0 h8 (by decide) _ _).trans ?_
      by_cases h0 : p.val = 0
      · rw [if_pos h0, dif_pos (by omega)]
        exact congrArg z (congrArg (fun i => ix2 i f) (Fin.ext h0.symm))
      · rw [if_neg h0]
        refine (sel_eq p.val 1 h8 (by decide) _ _).trans ?_
        by_cases h1 : p.val = 1
        · rw [if_pos h1, dif_pos (by omega)]
          exact congrArg z (congrArg (fun i => ix2 i f) (Fin.ext h1.symm))
        · rw [if_neg h1, dif_neg (by omega)]
          exact congrArg y (congrArg (fun i => ix2 i f) (Fin.ext (by dsimp only; omega)))
    · rw [dif_neg h8, dif_neg (by omega)]
      exact congrArg y (congrArg (fun i => ix2 i f) (Fin.ext (by dsimp only; omega)))
  have c1 : (if h : p.val < 8 then Scalar.select (IntOp.cmpi CmpIPredicate.eq (BitVec.ofNat 32 p.val) 0#32) (z (ix2 1 f)) (y (ix2 ⟨(p.val + 256 - 1) % 256, by omega⟩ f))
      else y (ix2 ⟨(8 + (p.val - 8) + 256 - 1) % 256, by omega⟩ f)) = if p.val < 1 then z (ix2 1 f) else y (ix2 ⟨p.val - 1, by omega⟩ f) := by
    by_cases h8 : p.val < 8
    · rw [dif_pos h8]
      refine (sel_eq p.val 0 h8 (by decide) _ _).trans ?_
      by_cases h0 : p.val = 0
      · rw [if_pos h0, if_pos (by omega)]
      · rw [if_neg h0, if_neg (by omega)]
        exact congrArg y (congrArg (fun i => ix2 i f) (Fin.ext (by dsimp only; omega)))
    · rw [dif_neg h8, if_neg (by omega)]
      exact congrArg y (congrArg (fun i => ix2 i f) (Fin.ext (by dsimp only; omega)))
  rw [← c2, ← c1]

/-! ## The blocks -/

/-- The grid's block indices: row tile `t`; the gain, the weights and the bias are taken whole. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The program's five arguments hold the values of `D`. -/
structure Args (m : (ℓ : Loc nD τ sig) → Buf (Elt Ideal) ℓ) (c : Dev nD) (D : Data) : Prop where
  x : ∀ r f, (m ((c : Thread nD τ).loc main_arg0) : S4096x1024.Idx → EReal) (ix2 r f) = D.X r.val f.val
  n : ∀ r f, (m ((c : Thread nD τ).loc main_arg1) : S1x1024.Idx → EReal) (ix2 r f) = D.N r.val f.val
  w : ∀ r f, (m ((c : Thread nD τ).loc main_arg2) : S1024x5632.Idx → EReal) (ix2 r f) = D.W r.val f.val
  k : ∀ r f, (m ((c : Thread nD τ).loc main_arg3) : S3x5632.Idx → EReal) (ix2 r f) = D.C r.val f.val
  b : ∀ r f, (m ((c : Thread nD τ).loc main_arg4) : S1x5632.Idx → EReal) (ix2 r f) = D.B r.val f.val

variable {m : (ℓ : Loc nD τ sig) → Buf (Elt Ideal) ℓ} {c : Dev nD} (t : Fin cfg0.N) {D : Data} (h : Args m c D)
include h

theorem V_w (j : Fin 4) (d : Fin 1024) (f : Fin 1408) : (V m c main_v2 : S4x1024x1408.Idx → EReal) (ix3 j d f) = D.W d.val (1408 * j.val + f.val) := by
  show transpose S4x1024x1408 [1, 0, 2] (shapeCast S1024x4x1408 (m ((c : Thread nD τ).loc main_arg2) : S1024x5632.Idx → EReal) shapeCasts_S1024x5632_S1024x4x1408) transposes_S1024x4x1408_S4x1024x1408_1_0_2 (ix3 j d f) = _
  have e1 := h.w
  generalize (m ((c : Thread nD τ).loc main_arg2) : S1024x5632.Idx → EReal) = x at e1 ⊢
  pointwise
  refine Eq.trans (congrArg x (congrArg (ix2 d) (Fin.ext ?_))) (e1 d ⟨1408 * j.val + f.val, by omega⟩)
  dsimp only
  omega

theorem bX_at (p : Fin 256) (f : Fin 1024) : bX m c t (ix2 p f) = D.X (256 * t.val + p.val) f.val := by
  have hN : t.val < 16 := lt_of_lt_of_eq t.isLt N_0
  obtain ⟨⟨e0, e1⟩, -⟩ := index_facts t
  refine Eq.trans ?_ ((congrFun (V_main_arg0 m c) _).trans (h.x ⟨256 * t.val + p.val, by omega⟩ f))
  refine congrArg (V m c main_arg0 : S4096x1024.Idx → EReal) (funext fun x => Fin.ext ?_)
  match x with
  | ⟨0, _⟩ => show win0_0.index t (0 : Fin 2) * 256 + 1 * p.val = _; rw [e0]; show _ = 256 * t.val + p.val; omega
  | ⟨1, _⟩ => show win0_0.index t (1 : Fin 2) * 1024 + 1 * f.val = _; rw [e1]; show _ = f.val; omega

theorem bG_at (p : Fin 1) (f : Fin 1024) : bG m c t (ix2 p f) = D.N p.val f.val := by
  obtain ⟨-, ⟨e0, e1⟩, -⟩ := index_facts t
  refine Eq.trans ?_ ((congrFun (V_main_arg1 m c) _).trans (h.n p f))
  refine congrArg (V m c main_arg1 : S1x1024.Idx → EReal) (funext fun x => Fin.ext ?_)
  match x with
  | ⟨0, _⟩ => show win0_1.index t (0 : Fin 2) * 1 + 1 * p.val = _; rw [e0]; show _ = p.val; omega
  | ⟨1, _⟩ => show win0_1.index t (1 : Fin 2) * 1024 + 1 * f.val = _; rw [e1]; show _ = f.val; omega

theorem bW_at (j : Fin 4) (d : Fin 1024) (f : Fin 1408) : bW m c t (ix3 j d f) = D.W d.val (1408 * j.val + f.val) := by
  obtain ⟨-, -, ⟨e0, e1, e2⟩, -⟩ := index_facts t
  refine Eq.trans ?_ (V_w h j d f)
  refine congrArg (V m c main_v2 : S4x1024x1408.Idx → EReal) (funext fun x => Fin.ext ?_)
  match x with
  | ⟨0, _⟩ => show win0_2.index t (0 : Fin 3) * 4 + 1 * j.val = _; rw [e0]; show _ = j.val; omega
  | ⟨1, _⟩ => show win0_2.index t (1 : Fin 3) * 1024 + 1 * d.val = _; rw [e1]; show _ = d.val; omega
  | ⟨2, _⟩ => show win0_2.index t (2 : Fin 3) * 1408 + 1 * f.val = _; rw [e2]; show _ = f.val; omega

theorem bC_at (p : Fin 3) (f : Fin 5632) : bC m c t (ix2 p f) = D.C p.val f.val := by
  obtain ⟨-, -, -, ⟨e0, e1⟩, -⟩ := index_facts t
  refine Eq.trans ?_ ((congrFun (V_main_arg3 m c) _).trans (h.k p f))
  refine congrArg (V m c main_arg3 : S3x5632.Idx → EReal) (funext fun x => Fin.ext ?_)
  match x with
  | ⟨0, _⟩ => show win0_3.index t (0 : Fin 2) * 3 + 1 * p.val = _; rw [e0]; show _ = p.val; omega
  | ⟨1, _⟩ => show win0_3.index t (1 : Fin 2) * 5632 + 1 * f.val = _; rw [e1]; show _ = f.val; omega

theorem bB_at (p : Fin 1) (f : Fin 5632) : bB m c t (ix2 p f) = D.B p.val f.val := by
  obtain ⟨-, -, -, -, ⟨e0, e1⟩, -⟩ := index_facts t
  refine Eq.trans ?_ ((congrFun (V_main_arg4 m c) _).trans (h.b p f))
  refine congrArg (V m c main_arg4 : S1x5632.Idx → EReal) (funext fun x => Fin.ext ?_)
  match x with
  | ⟨0, _⟩ => show win0_4.index t (0 : Fin 2) * 1 + 1 * p.val = _; rw [e0]; show _ = p.val; omega
  | ⟨1, _⟩ => show win0_4.index t (1 : Fin 2) * 5632 + 1 * f.val = _; rw [e1]; show _ = f.val; omega

theorem wc_at (j : Fin 4) (k : Fin 3) (f : Fin 1408) : View.ld (bC m c t) (rT j) (ix2 k f) = D.C k.val (1408 * j.val + f.val) :=
  (congrArg (bC m c t) (unit_emb2 (a := 3) (b := 5632) (w := 1408) (o := 1408 * j.val) _ k f (by omega))).trans (bC_at t h k _)

theorem bc_at (j : Fin 4) (k : Fin 1) (f : Fin 1408) : View.ld (bB m c t) (rB j) (ix2 k f) = D.B k.val (1408 * j.val + f.val) :=
  (congrArg (bB m c t) (unit_emb2 (a := 1) (b := 5632) (w := 1408) (o := 1408 * j.val) _ k f (by omega))).trans (bB_at t h k _)

theorem wt_at (j : Fin 4) (z : Fin 1) (d : Fin 1024) (f : Fin 1408) : View.ld (bW m c t) (rW j) (ix3 z d f) = D.W d.val (1408 * j.val + f.val) :=
  (congrArg (bW m c t) (unit_emb3 (n := 4) (a := 1024) (b := 1408) (o := j.val) _ z d f)).trans (bW_at t h j d f)

/-! ## What a point computes -/

/-- The normalised block. -/
theorem hn_at (p : Fin 256) (d : Fin 1024) : hn (bX m c t) (bG m c t) (ix2 p d) = D.nrm (256 * t.val + p.val) d.val := by
  have e := bX_at t h
  have e1 := bG_at t h
  unfold hn
  generalize bX m c t = x at e ⊢
  generalize bG m c t = g at e1 ⊢
  pointwise [k0_pay2]
  simp only [e, e1]
  rfl

/-- The normalised block as it is stored. -/
theorem hs_at (p : Fin 256) (d : Fin 1024) : k0_pay3 (bX m c t) (bG m c t) (ix2 p d) = D.nrm (256 * t.val + p.val) d.val := by
  have e := hn_at t h p d
  unfold hn at e
  unfold k0_pay3
  generalize k0_pay2 (bX m c t) (bG m c t) = y at e ⊢
  pointwise []
  exact e

/-- The product on part `j`. -/
theorem un_at (j : Fin 4) (p : Fin 256) (f : Fin 1408) :
    un (bX m c t) (bG m c t) (bW m c t) j (ix2 p f) = D.up (256 * t.val + p.val) (1408 * j.val + f.val) := by
  have e := hn_at t h p
  have e1 := fun d => wt_at t h j 0 d f
  unfold un
  generalize hn (bX m c t) (bG m c t) = y at e ⊢
  generalize View.ld (bW m c t) (rW j) = w at e1 ⊢
  pointwise [k0_pay18]
  simp only [e, e1]
  rfl

/-- The product rounded, and its last eight rows. -/
theorem ub_at (j : Fin 4) (p : Fin 256) (f : Fin 1408) :
    ub (bX m c t) (bG m c t) (bW m c t) j (ix2 p f) = D.up (256 * t.val + p.val) (1408 * j.val + f.val) := by
  have e := un_at t h j p f
  unfold un at e
  unfold ub k0_pay19
  generalize k0_pay18 (hn (bX m c t) (bG m c t)) (View.ld (bW m c t) (rW j)) = y at e ⊢
  pointwise []
  exact e

theorem tl_at (j : Fin 4) (q : Fin 8) (f : Fin 1408) :
    tl (bX m c t) (bG m c t) (bW m c t) j (ix2 q f) = D.up (256 * t.val + (248 + q.val)) (1408 * j.val + f.val) := by
  have e := un_at t h j ⟨248 + q.val, by omega⟩ f
  unfold un at e
  unfold tl k0_pay22 k0_pay21
  generalize k0_pay18 (hn (bX m c t) (bG m c t)) (View.ld (bW m c t) (rW j)) = y at e ⊢
  pointwise []
  exact e

/-! ## The carried rows -/

omit h in
/-- The last eight rows of tile `t` of the projection. -/
def tileS (D : Data) (t : ℕ) : S8x5632.Idx → EReal := fun y => D.up (256 * t + (248 + (y 0).val)) (y 1).val

theorem part_s (j : Fin 4) : ∀ y : (⟨2, ![8, 1408]⟩ : Shape).Idx, tl (bX m c t) (bG m c t) (bW m c t) j y = tileS D t.val ((rS j).emb y) :=
  all2 fun p f => (tl_at t h j p f).trans
    (congrArg (tileS D t.val) (unit_emb2 (a := 8) (b := 5632) (w := 1408) (o := 1408 * j.val) _ p f (by omega))).symm

theorem pieces_s : View.PiecesOf (tileS D t.val) (sP (bX m c t) (bG m c t) (bW m c t)) :=
  ⟨part_s t h 3, part_s t h 2, part_s t h 1, part_s t h 0, trivial⟩

theorem scr_at (q : Fin 8) (e : Fin 5632) : scr m c t (ix2 q e) = D.up (256 * t.val + (248 + q.val)) e.val := by
  unfold scr
  exact View.canon_apply_of_pieces (tileS D t.val) (sP (F := Ideal) (bX m c t) (bG m c t) (bW m c t)) (pieces_s t h).mem (ix2 q e) (cover_s (F := Ideal) _ _ _ _)

/-- The two rows before the block. -/
theorem hl_at (j : Fin 4) (q : Fin 2) (f : Fin 1408) :
    hl (grid0.coords t) (prev m c t) j (ix2 q f) = if t.val % 8 = 0 then 0 else D.up (256 * t.val + q.val - 2) (1408 * j.val + f.val) := by
  unfold hl k0_pay20
  rw [atS_start]
  by_cases h0 : t.val % 8 = 0
  · rw [if_pos h0, if_pos h0]
    rw [sel_one]
    exact zero_at q f
  · rw [if_neg h0, if_neg h0]
    rw [sel_zero]
    have e : (rL j).emb (ix2 q f) = (ix2 ⟨6 + q.val, by omega⟩ ⟨1408 * j.val + f.val, by omega⟩ : S8x5632.Idx) := funext fun i => Fin.ext <| by
      match i with
      | ⟨0, _⟩ => show 6 + 1 * q.val = 6 + q.val; omega
      | ⟨1, _⟩ => show 1408 * j.val + 1 * f.val = 1408 * j.val + f.val; omega
    refine (congrArg (prev m c t) e).trans ((scr_at _ h _ _).trans ?_)
    exact congrArg (fun r => D.up r (1408 * j.val + f.val)) (by dsimp only; omega)

/-- The convolution on part `j`. -/
theorem co_at (j : Fin 4) (p : Fin 256) (f : Fin 1408) :
    co (bX m c t) (bG m c t) (bW m c t) (bC m c t) (bB m c t) (grid0.coords t) (prev m c t) j (ix2 p f) = D.cv (256 * t.val + p.val) (1408 * j.val + f.val) := by
  refine (pay23_at _ _ _ _ p f).trans ?_
  rw [un_at t h j p f, wc_at t h, wc_at t h, wc_at t h, bc_at t h]
  unfold Data.cv
  rw [D.sh_tile 2 t.val p.val _ (by decide) p.isLt, D.sh_tile 1 t.val p.val _ (by decide) p.isLt]
  refine congrArg₂ (· + ·) (congrArg₂ (· + ·) (congrArg₂ (· + ·) (congrArg₂ (· * ·) rfl ?_) (congrArg₂ (· * ·) rfl ?_)) rfl) rfl
  · by_cases hp : p.val < 2
    · rw [dif_pos hp, if_pos hp]
      exact hl_at t h j _ f
    · rw [dif_neg hp, if_neg hp]
      exact un_at t h j _ f
  · by_cases hp : p.val < 1
    · rw [if_pos hp, if_pos hp, show p.val + 2 - 1 = (1 : Fin 2).val by show _ = 1; omega]
      exact hl_at t h j 1 f
    · rw [if_neg hp, if_neg hp]
      exact un_at t h j _ f

end Cert.FupIdeal.Reads

end
-- ==== Proof.Fup.Result.lean ====
module

public import proofs.«01_k».proof.Proof.Fup.Reads

/-! # The forward up projection: what its launch leaves -/

@[expose] public section

set_option maxRecDepth 16384

noncomputable section

open Idealize.ShloMosaic Idealize.ShloMosaic.TcCoe Idealize.SL.Sem

namespace Cert.FupIdeal.Result

open Cert.FupIdeal Cert.FupIdeal.Gen Cert.FupIdeal.Body Cert.FupIdeal.Reads Cert.Reals Cert.FupMath

/-! ## No two points write one index -/

theorem idx_inj5 : ∀ t t' : Fin cfg0.N, win0_5.index t = win0_5.index t' → t = t' :=
  (by decide +kernel : ∀ t t' : Fin grid0.N, win0_5.index t = win0_5.index t' → t = t')
theorem idx_inj6 : ∀ t t' : Fin cfg0.N, win0_6.index t = win0_6.index t' → t = t' :=
  (by decide +kernel : ∀ t t' : Fin grid0.N, win0_6.index t = win0_6.index t' → t = t')
theorem idx_inj7 : ∀ t t' : Fin cfg0.N, win0_7.index t = win0_7.index t' → t = t' :=
  (by decide +kernel : ∀ t t' : Fin grid0.N, win0_7.index t = win0_7.index t' → t = t')
theorem idx_inj8 : ∀ t t' : Fin cfg0.N, win0_8.index t = win0_8.index t' → t = t' :=
  (by decide +kernel : ∀ t t' : Fin grid0.N, win0_8.index t = win0_8.index t' → t = t')

variable {m : (ℓ : Loc nD τ sig) → Buf (Elt Ideal) ℓ} {c : Dev nD} (t : Fin cfg0.N) {D : Data}

/-- A final array's block of point `t` is what point `t` left. -/
theorem block5 : ((cfg0.win 5).blk t).view.read (Elt Ideal) ((dats m 0 c).arrAt 5 cfg0.N) = (cfg0.win 5).cut (grid0.coords t) ((dats m 0 c).after 5 t) :=
  (dats m 0 c).read_blk_arrAt_eq_flushed 5 (fun _ _ _ _ hne => (cfg0.win 5).disjoint_blk fun e => hne (idx_inj5 _ _ e)) cfg0.N t t.isLt (flush0_5 t)
theorem block6 : ((cfg0.win 6).blk t).view.read (Elt Ideal) ((dats m 0 c).arrAt 6 cfg0.N) = (cfg0.win 6).cut (grid0.coords t) ((dats m 0 c).after 6 t) :=
  (dats m 0 c).read_blk_arrAt_eq_flushed 6 (fun _ _ _ _ hne => (cfg0.win 6).disjoint_blk fun e => hne (idx_inj6 _ _ e)) cfg0.N t t.isLt (flush0_6 t)
theorem block7 : ((cfg0.win 7).blk t).view.read (Elt Ideal) ((dats m 0 c).arrAt 7 cfg0.N) = (cfg0.win 7).cut (grid0.coords t) ((dats m 0 c).after 7 t) :=
  (dats m 0 c).read_blk_arrAt_eq_flushed 7 (fun _ _ _ _ hne => (cfg0.win 7).disjoint_blk fun e => hne (idx_inj7 _ _ e)) cfg0.N t t.isLt (flush0_7 t)
theorem block8 : ((cfg0.win 8).blk t).view.read (Elt Ideal) ((dats m 0 c).arrAt 8 cfg0.N) = (cfg0.win 8).cut (grid0.coords t) ((dats m 0 c).after 8 t) :=
  (dats m 0 c).read_blk_arrAt_eq_flushed 8 (fun _ _ _ _ hne => (cfg0.win 8).disjoint_blk fun e => hne (idx_inj8 _ _ e)) cfg0.N t t.isLt (flush0_8 t)

/-! ## What a point leaves -/

/-- Tile `t` of the projection; tile `t` of the convolution from column `o` on. -/
def tileU (D : Data) (t : ℕ) : S256x5632.Idx → EReal := fun y => D.up (256 * t + (y 0).val) (y 1).val
def tileG (D : Data) (o t : ℕ) : S256x2816.Idx → EReal := fun y => D.cv (256 * t + (y 0).val) (o + (y 1).val)

variable (h : Args m c D)
include h

theorem part_u (j : Fin 4) : ∀ y : (⟨2, ![256, 1408]⟩ : Shape).Idx, ub (bX m c t) (bG m c t) (bW m c t) j y = tileU D t.val ((rC j).emb y) :=
  all2 fun p f => (ub_at t h j p f).trans
    (congrArg (tileU D t.val) (unit_emb2 (a := 256) (b := 5632) (w := 1408) (o := 1408 * j.val) _ p f (by omega))).symm

theorem pieces_u : View.PiecesOf (tileU D t.val) (uP (bX m c t) (bG m c t) (bW m c t)) :=
  ⟨part_u t h 3, part_u t h 2, part_u t h 1, part_u t h 0, trivial⟩

/-- A part of the convolution lies in its half where its columns do. -/
theorem part_g (o : ℕ) (q : Fin 2) (j : Fin 4) (hj : 1408 * j.val = o + 1408 * q.val) : ∀ y : (⟨2, ![256, 1408]⟩ : Shape).Idx,
    co (bX m c t) (bG m c t) (bW m c t) (bC m c t) (bB m c t) (grid0.coords t) (prev m c t) j y = tileG D o t.val ((rD q).emb y) :=
  all2 fun p f => by
    refine (co_at t h j p f).trans (Eq.trans ?_
      (congrArg (tileG D o t.val) (unit_emb2 (a := 256) (b := 2816) (w := 1408) (o := 1408 * q.val) _ p f (by omega))).symm)
    rw [hj, Nat.add_assoc]
    rfl

theorem pieces_g : View.PiecesOf (tileG D 0 t.val) (gP (bX m c t) (bG m c t) (bW m c t) (bC m c t) (bB m c t) (grid0.coords t) (prev m c t)) :=
  ⟨part_g t h 0 1 1 rfl, part_g t h 0 0 0 rfl, trivial⟩

theorem pieces_v : View.PiecesOf (tileG D 2816 t.val) (vP (bX m c t) (bG m c t) (bW m c t) (bC m c t) (bB m c t) (grid0.coords t) (prev m c t)) :=
  ⟨part_g t h 2816 1 3 rfl, part_g t h 2816 0 2 rfl, trivial⟩

theorem outs_u (p : Fin 256) (e : Fin 5632) : (dats m 0 c).after 5 t (ix2 p e) = D.up (256 * t.val + p.val) e.val := by
  rw [after_5]
  exact View.canon_apply_of_pieces (tileU D t.val) (uP (F := Ideal) (bX m c t) (bG m c t) (bW m c t)) (pieces_u t h).mem (ix2 p e) (cover_u (F := Ideal) _ _ _ _)

theorem outs_h (p : Fin 256) (d : Fin 1024) : (dats m 0 c).after 6 t (ix2 p d) = D.nrm (256 * t.val + p.val) d.val := by
  rw [after_6]
  exact hs_at t h p d

theorem outs_g (p : Fin 256) (e : Fin 2816) : (dats m 0 c).after 7 t (ix2 p e) = D.cv (256 * t.val + p.val) e.val := by
  rw [after_7]
  refine (View.canon_apply_of_pieces (tileG D 0 t.val) (gP (F := Ideal) (bX m c t) (bG m c t) (bW m c t) (bC m c t) (bB m c t) (grid0.coords t) (prev m c t)) (pieces_g t h).mem (ix2 p e) (cover_g (F := Ideal) _ _ _ _ _ _ _ _)).trans ?_
  exact congrArg (D.cv (256 * t.val + p.val)) (Nat.zero_add e.val)

theorem outs_v (p : Fin 256) (e : Fin 2816) : (dats m 0 c).after 8 t (ix2 p e) = D.cv (256 * t.val + p.val) (2816 + e.val) := by
  rw [after_8]
  exact View.canon_apply_of_pieces (tileG D 2816 t.val) (vP (F := Ideal) (bX m c t) (bG m c t) (bW m c t) (bC m c t) (bB m c t) (grid0.coords t) (prev m c t)) (pieces_v t h).mem (ix2 p e) (cover_v (F := Ideal) _ _ _ _ _ _ _ _)

/-! ## The final arrays -/

/-- The first result: the projection. -/
theorem r5_at (r : Fin 4096) (f : Fin 5632) : ((dats m 0 c).arrAt 5 cfg0.N : S4096x5632.Idx → EReal) (ix2 r f) = D.up r.val f.val := by
  have hN : cfg0.N = 16 := N_0
  have ht : r.val / 256 < cfg0.N := by omega
  have e := congrFun (block5 (m := m) (c := c) ⟨r.val / 256, ht⟩) (ix2 ⟨r.val % 256, by omega⟩ f)
  refine Eq.trans (Eq.trans ?_ e) ((outs_u ⟨r.val / 256, ht⟩ h ⟨r.val % 256, by omega⟩ f).trans ?_)
  · obtain ⟨-, -, -, -, -, ⟨e0, e1⟩, -⟩ := index_facts ⟨r.val / 256, ht⟩
    refine congrArg ((dats m 0 c).arrAt 5 cfg0.N : S4096x5632.Idx → EReal) (funext fun x => Fin.ext ?_)
    match x with
    | ⟨0, _⟩ => show r.val = win0_5.index ⟨r.val / 256, ht⟩ (0 : Fin 2) * 256 + 1 * (r.val % 256); rw [e0]; show r.val = r.val / 256 * 256 + 1 * (r.val % 256); omega
    | ⟨1, _⟩ => show f.val = win0_5.index ⟨r.val / 256, ht⟩ (1 : Fin 2) * 5632 + 1 * f.val; rw [e1]; omega
  · dsimp only
    rw [Nat.div_add_mod]

/-- The second result: the normalised input. -/
theorem r6_at (r : Fin 4096) (f : Fin 1024) : ((dats m 0 c).arrAt 6 cfg0.N : S4096x1024.Idx → EReal) (ix2 r f) = D.nrm r.val f.val := by
  have hN : cfg0.N = 16 := N_0
  have ht : r.val / 256 < cfg0.N := by omega
  have e := congrFun (block6 (m := m) (c := c) ⟨r.val / 256, ht⟩) (ix2 ⟨r.val % 256, by omega⟩ f)
  refine Eq.trans (Eq.trans ?_ e) ((outs_h ⟨r.val / 256, ht⟩ h ⟨r.val % 256, by omega⟩ f).trans ?_)
  · obtain ⟨-, -, -, -, -, -, ⟨e0, e1⟩, -⟩ := index_facts ⟨r.val / 256, ht⟩
    refine congrArg ((dats m 0 c).arrAt 6 cfg0.N : S4096x1024.Idx → EReal) (funext fun x => Fin.ext ?_)
    match x with
    | ⟨0, _⟩ => show r.val = win0_6.index ⟨r.val / 256, ht⟩ (0 : Fin 2) * 256 + 1 * (r.val % 256); rw [e0]; show r.val = r.val / 256 * 256 + 1 * (r.val % 256); omega
    | ⟨1, _⟩ => show f.val = win0_6.index ⟨r.val / 256, ht⟩ (1 : Fin 2) * 1024 + 1 * f.val; rw [e1]; omega
  · dsimp only
    rw [Nat.div_add_mod]

/-- The third result: the convolution's first half. -/
theorem r7_at (r : Fin 4096) (f : Fin 2816) : ((dats m 0 c).arrAt 7 cfg0.N : S4096x2816.Idx → EReal) (ix2 r f) = D.cv r.val f.val := by
  have hN : cfg0.N = 16 := N_0
  have ht : r.val / 256 < cfg0.N := by omega
  have e := congrFun (block7 (m := m) (c := c) ⟨r.val / 256, ht⟩) (ix2 ⟨r.val % 256, by omega⟩ f)
  refine Eq.trans (Eq.trans ?_ e) ((outs_g ⟨r.val / 256, ht⟩ h ⟨r.val % 256, by omega⟩ f).trans ?_)
  · obtain ⟨-, -, -, -, -, -, -, ⟨e0, e1⟩, -⟩ := index_facts ⟨r.val / 256, ht⟩
    refine congrArg ((dats m 0 c).arrAt 7 cfg0.N : S4096x2816.Idx → EReal) (funext fun x => Fin.ext ?_)
    match x with
    | ⟨0, _⟩ => show r.val = win0_7.index ⟨r.val / 256, ht⟩ (0 : Fin 2) * 256 + 1 * (r.val % 256); rw [e0]; show r.val = r.val / 256 * 256 + 1 * (r.val % 256); omega
    | ⟨1, _⟩ => show f.val = win0_7.index ⟨r.val / 256, ht⟩ (1 : Fin 2) * 2816 + 1 * f.val; rw [e1]; omega
  · dsimp only
    rw [Nat.div_add_mod]

/-- The fourth result: its second half. -/
theorem r8_at (r : Fin 4096) (f : Fin 2816) : ((dats m 0 c).arrAt 8 cfg0.N : S4096x2816.Idx → EReal) (ix2 r f) = D.cv r.val (2816 + f.val) := by
  have hN : cfg0.N = 16 := N_0
  have ht : r.val / 256 < cfg0.N := by omega
  have e := congrFun (block8 (m := m) (c := c) ⟨r.val / 256, ht⟩) (ix2 ⟨r.val % 256, by omega⟩ f)
  refine Eq.trans (Eq.trans ?_ e) ((outs_v ⟨r.val / 256, ht⟩ h ⟨r.val % 256, by omega⟩ f).trans ?_)
  · obtain ⟨-, -, -, -, -, -, -, -, ⟨e0, e1⟩⟩ := index_facts ⟨r.val / 256, ht⟩
    refine congrArg ((dats m 0 c).arrAt 8 cfg0.N : S4096x2816.Idx → EReal) (funext fun x => Fin.ext ?_)
    match x with
    | ⟨0, _⟩ => show r.val = win0_8.index ⟨r.val / 256, ht⟩ (0 : Fin 2) * 256 + 1 * (r.val % 256); rw [e0]; show r.val = r.val / 256 * 256 + 1 * (r.val % 256); omega
    | ⟨1, _⟩ => show f.val = win0_8.index ⟨r.val / 256, ht⟩ (1 : Fin 2) * 2816 + 1 * f.val; rw [e1]; omega
  · dsimp only
    rw [Nat.div_add_mod]

end Cert.FupIdeal.Result

end
-- ==== Proof.Fup.Ref.lean ====
module

public import proofs.«01_k».proof.Proof.Fup.Math
public import proofs.«01_k».proof.Proof.Gen.FupRefIdeal.Read
public import Idealize.ShloMosaic.Lib.Tactic

/-! # The reference of the forward up projection, read at an index -/

@[expose] public section

set_option maxRecDepth 16384

noncomputable section

open Idealize.ShloMosaic Idealize.ShloMosaic.TcCoe Idealize.SL.Sem

namespace Cert.FupRefIdeal.Result

open Cert.FupRefIdeal Cert.FupRefIdeal.Read Cert.Reals Cert.FupMath

variable {x0 : (⟨S4096x1024, .f32⟩ : BufTy).Contents (Elt Ideal)} {x1 : (⟨S1x1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S1x5632, .f32⟩ : BufTy).Contents (Elt Ideal)} {D : Data}

/-- The reference's arguments hold the values of `D`. -/
structure Args (x0 : (⟨S4096x1024, .f32⟩ : BufTy).Contents (Elt Ideal)) (x1 : (⟨S1x1024, .f32⟩ : BufTy).Contents (Elt Ideal))
    (x2 : (⟨S1024x5632, .f32⟩ : BufTy).Contents (Elt Ideal)) (x3 : (⟨S3x5632, .f32⟩ : BufTy).Contents (Elt Ideal))
    (x4 : (⟨S1x5632, .f32⟩ : BufTy).Contents (Elt Ideal)) (D : Data) : Prop where
  x : ∀ r f, x0 (ix2 r f) = D.X r.val f.val
  n : ∀ r f, x1 (ix2 r f) = D.N r.val f.val
  w : ∀ r f, x2 (ix2 r f) = D.W r.val f.val
  k : ∀ r f, x3 (ix2 r f) = D.C r.val f.val
  b : ∀ r f, x4 (ix2 r f) = D.B r.val f.val

variable (h : Args x0 x1 x2 x3 x4 D)
include h

/-- The normalised input. -/
theorem v11_at (r : Fin 4096) (d : Fin 1024) : val_main_v11 x0 x1 (ix2 r d) = D.nrm r.val d.val := by
  pointwise [val_main_v11, val_main_v10, val_main_v9, val_main_v8, val_main_v7, val_main_v6, val_main_v5, val_main_v4, val_main_v3, val_main_v2, val_main_v1, val_main_v0,
    val_main_cst, val_main_cst_0, val_main_cst_1]
  simp only [h.x, h.n]
  rfl

/-- The second result. -/
theorem v54_at (r : Fin 4096) (d : Fin 1024) : val_main_v54 x0 x1 (ix2 r d) = D.nrm r.val d.val := by
  pointwise [val_main_v54, val_main_v53, val_main_v52, val_main_v51, val_main_v50, val_main_v49, val_main_v48, val_main_v47, val_main_v46, val_main_v45, val_main_v44, val_main_v43,
    val_main_v42, val_main_cst_3, val_main_cst_4, val_main_cst_5]
  simp only [h.x, h.n]
  rfl

/-- The projection. -/
theorem v12_at (r : Fin 4096) (e : Fin 5632) : val_main_v12 x0 x1 x2 (ix2 r e) = D.up r.val e.val := by
  pointwise [val_main_v12]
  simp only [v11_at h, h.w]
  rfl

/-- The first result. -/
theorem v41_at (r : Fin 4096) (e : Fin 5632) : val_main_v41 x0 x1 x2 (ix2 r e) = D.up r.val e.val := by
  pointwise [val_main_v41]
  exact v12_at h r e

/-- The projection with two rows of zeros before each sequence. -/
theorem v15_at (s : Fin 2) (y : Fin 2050) (e : Fin 5632) :
    val_main_v15 x0 x1 x2 (ix3 s y e) = if y.val < 2 then 0 else D.up (2048 * s.val + (y.val - 2)) e.val := by
  pointwise [val_main_v15, val_main_v14, val_main_v13, val_main_cst_2]
  by_cases hy : y.val < 2
  · rw [if_pos hy]
    exact dif_pos hy
  · rw [if_neg hy]
    refine (dif_neg hy).trans ((v12_at h _ e).trans ?_)
    exact congrArg (fun k => D.up k e.val) (by dsimp only; omega)

/-- The three slices of it: the projection two rows back, one row back and in place. -/
theorem v18_at (s : Fin 2) (i : Fin 2048) (e : Fin 5632) : val_main_v18 x0 x1 x2 (ix3 s i e) = D.sh 2 (2048 * s.val + i.val) e.val := by
  pointwise [val_main_v18]
  exact (v15_at h s _ e).trans (D.sh_row 2 s.val i.val e.val i.isLt).symm

theorem v24_at (s : Fin 2) (i : Fin 2048) (e : Fin 5632) : val_main_v24 x0 x1 x2 (ix3 s i e) = D.sh 1 (2048 * s.val + i.val) e.val := by
  pointwise [val_main_v24]
  refine (v15_at h s _ e).trans (Eq.trans ?_ (D.sh_row 1 s.val i.val e.val i.isLt).symm)
  dsimp only
  by_cases hi : i.val < 1
  · rw [if_pos hi, if_pos (by omega)]
  · rw [if_neg hi, if_neg (by omega)]
    exact congrArg (fun k => D.up (2048 * s.val + k) e.val) (by omega)

theorem v31_at (s : Fin 2) (i : Fin 2048) (e : Fin 5632) : val_main_v31 x0 x1 x2 (ix3 s i e) = D.up (2048 * s.val + i.val) e.val := by
  pointwise [val_main_v31]
  refine (v15_at h s _ e).trans ?_
  dsimp only
  rw [if_neg (by omega)]
  exact congrArg (fun k => D.up (2048 * s.val + k) e.val) (by omega)

/-- The convolution, by sequence and row. -/
theorem v35_at (s : Fin 2) (i : Fin 2048) (e : Fin 5632) : val_main_v35 x0 x1 x2 x3 (ix3 s i e)
    = D.C 0 e.val * D.sh 2 (2048 * s.val + i.val) e.val + D.C 1 e.val * D.sh 1 (2048 * s.val + i.val) e.val + D.C 2 e.val * D.up (2048 * s.val + i.val) e.val := by
  have e2 := v18_at h s i e
  have e1 := v24_at h s i e
  have e0 := v31_at h s i e
  unfold val_main_v35 val_main_v34 val_main_v28 val_main_v27 val_main_v21
  generalize val_main_v18 x0 x1 x2 = y2 at e2 ⊢
  generalize val_main_v24 x0 x1 x2 = y1 at e1 ⊢
  generalize val_main_v31 x0 x1 x2 = y0 at e0 ⊢
  pointwise [val_main_v33, val_main_v32, val_main_v30, val_main_v29, val_main_v26, val_main_v25, val_main_v23, val_main_v22, val_main_v20, val_main_v19, val_main_v17, val_main_v16]
  rw [e2, e1, e0]
  simp only [h.k]
  rfl

/-- The convolution with its bias. -/
theorem v38_at (r : Fin 4096) (e : Fin 5632) : val_main_v38 x0 x1 x2 x3 x4 (ix2 r e) = D.cv r.val e.val := by
  have e3 := v35_at h ⟨r.val / 2048, by omega⟩ ⟨r.val % 2048, by omega⟩ e
  dsimp only at e3
  rw [Nat.div_add_mod] at e3
  unfold val_main_v38 val_main_v36
  generalize val_main_v35 x0 x1 x2 x3 = y at e3 ⊢
  pointwise [val_main_v37]
  rw [e3, h.b]
  rfl

/-- The third and fourth results: the convolution's two halves. -/
theorem v55_at (r : Fin 4096) (f : Fin 2816) : val_main_v55 x0 x1 x2 x3 x4 (ix2 r f) = D.cv r.val f.val := by
  pointwise [val_main_v55, val_main_v39]
  exact v38_at h r _

theorem v56_at (r : Fin 4096) (f : Fin 2816) : val_main_v56 x0 x1 x2 x3 x4 (ix2 r f) = D.cv r.val (2816 + f.val) := by
  pointwise [val_main_v56, val_main_v40]
  exact v38_at h r _

end Cert.FupRefIdeal.Result

end
-- ==== Proof.Fup.Claims.lean ====
module

public import proofs.«01_k».proof.Defs
public import proofs.«01_k».proof.Proof.Gen.Fup
public import proofs.«01_k».proof.Proof.Gen.FupIdeal
public import proofs.«01_k».proof.Proof.Gen.FupRefIdeal
public import proofs.«01_k».proof.Proof.Gen.FupRefIdeal.Run
public import proofs.«01_k».proof.Proof.Gen.FupRefIdeal.Read
public import proofs.«01_k».proof.Proof.Fup.Result
public import proofs.«01_k».proof.Proof.Fup.Ref

/-! # The forward up projection: its claims -/

@[expose] public section

set_option maxRecDepth 16384

noncomputable section

open Idealize.ShloMosaic Idealize.ShloMosaic.TcCoe Idealize.SL.Sem

namespace Cert.FupClaims

open Cert.Reals

section
open Cert.FupIdeal

variable {F : FTy → Type} [FloatOps F] (m : (ℓ : Loc nD τ sig) → Buf (Elt F) ℓ) (ρ : Dev nD → PrngReg)

/-- A state's five arguments are those of `m`. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- The launch leaves the five arguments unchanged: four are inputs of the pipeline, the weight is outside it. -/
theorem kept (r : PUnit × MemSt nD τ sig (Elt F)) (h : Pipeline.FramePost cfgs (Body.dats m) 0 (Gen.V m) r) (c : Dev nD) : Kept m r c :=
  ⟨((h c).1 0).trans (((Body.dats m 0 c).arrAt_in 0 rfl _).trans ((Body.A_eq m c 0).trans (Gen.V_main_arg0 m c))),
   ((h c).1 1).trans (((Body.dats m 0 c).arrAt_in 1 rfl _).trans ((Body.A_eq m c 1).trans (Gen.V_main_arg1 m c))),
   ((h c).2 main_arg2 (Pipeline.mem_restRefs_of main_arg2 (by decide) (by decide))).trans (Gen.V_main_arg2 m c),
   ((h c).1 3).trans (((Body.dats m 0 c).arrAt_in 3 rfl _).trans ((Body.A_eq m c 3).trans (Gen.V_main_arg3 m c))),
   ((h c).1 4).trans (((Body.dats m 0 c).arrAt_in 4 rfl _).trans ((Body.A_eq m c 4).trans (Gen.V_main_arg4 m c)))⟩

/-- The ideal program, over any floats: it runs, its arguments end unchanged and every counter ends at zero. -/
theorem frame_run : θ_run (defs (F := F)) (onTc (τ := τ) (main (F := F))) ⟨m, fun _ => 0, ρ⟩ fun r => (∀ c : Dev nD, Kept m r c) ∧ r.2.sem = fun _ => 0 :=
  (θ_run _ _ _).mono (fun r h => ⟨kept m r h.1, h.2⟩) (Body.run_main_quiescent m ρ)

/-- The run with its four results named. -/
theorem run_arrays : θ_run (defs (F := F)) (onTc (τ := τ) (main (F := F))) ⟨m, fun _ => 0, ρ⟩ fun r => ∀ c : Dev nD,
      r.2.mem ((c.tc : Thread nD τ).loc main_v3_0) = (Body.dats m 0 c).arrAt 5 cfg0.N
      ∧ r.2.mem ((c.tc : Thread nD τ).loc main_v3_1) = (Body.dats m 0 c).arrAt 6 cfg0.N
      ∧ r.2.mem ((c.tc : Thread nD τ).loc main_v3_2) = (Body.dats m 0 c).arrAt 7 cfg0.N
      ∧ r.2.mem ((c.tc : Thread nD τ).loc main_v3_3) = (Body.dats m 0 c).arrAt 8 cfg0.N
      ∧ Kept m r c :=
  (θ_run _ _ _).mono (fun r h c => ⟨(h c).1 5, (h c).1 6, (h c).1 7, (h c).1 8, kept m r h c⟩) (Body.run_main m ρ)
end

/-- The two programs have one table of kernel bodies. -/
theorem bodies_eq {F : FTy → Type} [FloatOps F] : Cert.Fup.defs₀ (F := F) = Cert.FupIdeal.defs₀ (F := F) := by
  unfold Cert.Fup.defs₀ Cert.FupIdeal.defs₀
  congr 1
  funext l a
  match l, a with
  | 0, (t, s) => rfl

theorem defs_eq {F : FTy → Type} [FloatOps F] : Cert.Fup.defs (F := F) = Cert.FupIdeal.defs (F := F) := by
  unfold Cert.Fup.defs Cert.FupIdeal.defs
  rw [bodies_eq]
  rfl

/-- The kernel's own frame: the two programs have one text. -/
theorem frame_kernel : Cert.quiescent_Fup := fun m ρ _ => by
  rw [defs_eq]
  exact frame_run (F := Bits) m ρ

/-- The ideal program's frame. -/
theorem frame_ideal : Cert.quiescent_FupIdeal := fun m ρ _ => frame_run (F := Ideal) m ρ

/-- The reference's frame. -/
theorem frame_ref : Cert.quiescent_FupRefIdeal := fun m ρ _ =>
  (θ_run _ _ _).mono (fun r h => ⟨fun c => (h c).2.2.2.2, sem_eq_zero_of_no_sems (by decide) r.2⟩) (Cert.FupRefIdeal.Value.run (F := Ideal) m ρ)

section
open Cert.FupIdeal

/-- The five arguments at pairs of naturals. -/
def D (m : (ℓ : Loc nD τ sig) → Buf (Elt Ideal) ℓ) (c : Dev nD) : Cert.FupMath.Data where
  X := at2 (m ((c.tc : Thread nD τ).loc main_arg0) : S4096x1024.Idx → EReal)
  N := at2 (m ((c.tc : Thread nD τ).loc main_arg1) : S1x1024.Idx → EReal)
  W := at2 (m ((c.tc : Thread nD τ).loc main_arg2) : S1024x5632.Idx → EReal)
  C := at2 (m ((c.tc : Thread nD τ).loc main_arg3) : S3x5632.Idx → EReal)
  B := at2 (m ((c.tc : Thread nD τ).loc main_arg4) : S1x5632.Idx → EReal)

theorem args (m : (ℓ : Loc nD τ sig) → Buf (Elt Ideal) ℓ) (c : Dev nD) : Reads.Args m c (D m c) where
  x r f := (at2_eq _ r f).symm
  n r f := (at2_eq _ r f).symm
  w r f := (at2_eq _ r f).symm
  k r f := (at2_eq _ r f).symm
  b r f := (at2_eq _ r f).symm

theorem args_ref (m : (ℓ : Loc nD τ sig) → Buf (Elt Ideal) ℓ) (c : Dev nD) :
    Cert.FupRefIdeal.Result.Args (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (D m c) where
  x r f := (at2_eq _ r f).symm
  n r f := (at2_eq _ r f).symm
  w r f := (at2_eq _ r f).symm
  k r f := (at2_eq _ r f).symm
  b r f := (at2_eq _ r f).symm
end

/-- Over the reals the kernel and the reference end with equal results. -/
theorem value : Cert.algebraic_FupIdeal_FupRefIdeal := by
  intro m ρ m' ρ' hm hmm
  refine ⟨fun c => (Cert.FupIdeal.Body.dats m 0 c).arrAt 5 Cert.FupIdeal.cfg0.N, fun c => (Cert.FupIdeal.Body.dats m 0 c).arrAt 6 Cert.FupIdeal.cfg0.N,
    fun c => (Cert.FupIdeal.Body.dats m 0 c).arrAt 7 Cert.FupIdeal.cfg0.N, fun c => (Cert.FupIdeal.Body.dats m 0 c).arrAt 8 Cert.FupIdeal.cfg0.N,
    run_arrays m ρ, ?_⟩
  refine (θ_run _ _ _).mono (fun r h c => ?_) (Cert.FupRefIdeal.Value.run (F := Ideal) m' ρ')
  obtain ⟨e0, e1, e2, e3, e4⟩ := hmm c
  obtain ⟨r0, r1, r2, r3, k⟩ := h c
  rw [Cert.FupRefIdeal.Read.val_main_v41_eq, e0, e1, e2] at r0
  rw [Cert.FupRefIdeal.Read.val_main_v54_eq, e0, e1] at r1
  rw [Cert.FupRefIdeal.Read.val_main_v55_eq, e0, e1, e2, e3, e4] at r2
  rw [Cert.FupRefIdeal.Read.val_main_v56_eq, e0, e1, e2, e3, e4] at r3
  refine ⟨r0.trans ?_, r1.trans ?_, r2.trans ?_, r3.trans ?_, k⟩
  · exact ext2 fun a b => (Cert.FupRefIdeal.Result.v41_at (args_ref m c) a b).trans (Cert.FupIdeal.Result.r5_at (args m c) a b).symm
  · exact ext2 fun a b => (Cert.FupRefIdeal.Result.v54_at (args_ref m c) a b).trans (Cert.FupIdeal.Result.r6_at (args m c) a b).symm
  · exact ext2 fun a b => (Cert.FupRefIdeal.Result.v55_at (args_ref m c) a b).trans (Cert.FupIdeal.Result.r7_at (args m c) a b).symm
  · exact ext2 fun a b => (Cert.FupRefIdeal.Result.v56_at (args_ref m c) a b).trans (Cert.FupIdeal.Result.r8_at (args m c) a b).symm

end Cert.FupClaims

end
-- ==== Proof.Common.Adam.lean ====
module

public import Idealize.ShloMosaic.Lib.Pointwise
public import Idealize.ShloMosaic.Lib.IdealHost
public import Idealize.ShloMosaic.Lib.Tactic
public import Idealize.ShloMosaic.PureOps.Ideal
public import Idealize.ShloMosaic.PureOps.Ideal.Laws

/-! # AdamW, at one element

The optimiser changes every weight by itself, from the weight, its gradient and its two moments. These are its three
results over the extended reals, with the step's constants as the words both programs hold. -/

@[expose] public section

noncomputable section

open Idealize.ShloMosaic Idealize.ShloMosaic.TcCoe Idealize.SL.Sem

namespace Cert.Adam

/-- The first moment: a weighted mean of the gradient and of the moment before. -/
def mom (g m : EReal) : EReal :=
  Ideal.ofBits .f32 0x3F666666#32 * m + Ideal.ofBits .f32 0x3DCCCCCD#32 * g

/-- The second moment: a weighted mean of the gradient's square and of the moment before. -/
def var (g v : EReal) : EReal :=
  Ideal.ofBits .f32 0x3F7FBE77#32 * v + Ideal.ofBits .f32 0x3A83126F#32 * (g * g)

/-- The change of the weight: the corrected moments' quotient and the weight's decay, times the negated rate. -/
def del (w g m v : EReal) : EReal :=
  Ideal.ofBits .f32 0xBA83126F#32
    * (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

section
variable {S : Shape} (h : (⟨0, ![]⟩ : Shape).BroadcastsInDim S (![] : Fin 0 → Fin S.rank)) (w g m v : FVec Ideal S .f32)

/-- A word spread over an array, as the references write their constants. -/
abbrev word (b : BitVec 32) : FVec Ideal S .f32 := broadcastInDim S ![] h (constant (⟨0, ![]⟩ : Shape) .f32 b)

/-- The first moment as the references write it. -/
theorem host_mom : addf (mulf (word h 0x3F666666#32) m) (mulf (word h 0x3DCCCCCD#32) g) = fun i => mom (g i) (m i) := rfl

/-- The second moment as the references write it. -/
theorem host_var : addf (mulf (word h 0x3F7FBE77#32) v) (mulf (word h 0x3A83126F#32) (mulf g g)) = fun i => var (g i) (v i) := rfl

/-- The change of the weight as the references write it. -/
theorem host_del :
    mulf (word h 0xBA83126F#32)
        (addf (Host.divf (Host.divf (addf (mulf (word h 0x3F666666#32) m) (mulf (word h 0x3DCCCCCD#32) g)) (word h 0x3F26BD02#32))
            (addf (Host.sqrt (Host.divf (addf (mulf (word h 0x3F7FBE77#32) v) (mulf (word h 0x3A83126F#32) (mulf g g))) (word h 0x3C231ACC#32)))
              (word h 0x322BCC77#32)))
          (mulf (word h 0x3C23D70A#32) w))
      = fun i => del (w i) (g i) (m i) (v i) := rfl
end

end Cert.Adam

end
-- ==== Proof.Offn.Result.lean ====
module

public import proofs.«01_k».proof.Proof.Common.Reals
public import proofs.«01_k».proof.Proof.Common.Adam
public import proofs.«01_k».proof.Proof.Gen.OffnIdeal.Value
public import Idealize.ShloMosaic.Lib.Pipeline.Value

/-! # The feed-forward weights' update: what the kernel leaves in its results -/

@[expose] public section

set_option maxRecDepth 16384

noncomputable section

open Idealize.ShloMosaic Idealize.ShloMosaic.TcCoe Idealize.SL.Sem

namespace Cert.OffnIdeal.Result

open Cert.OffnIdeal Cert.OffnIdeal.Gen Cert.OffnIdeal.Value Cert.Reals

variable (m : (ℓ : Loc nD τ sig) → Buf (Elt Ideal) ℓ) (c : Dev nD)

/-- Where index `y` of point `t`'s tile lies in the up weight. Its windows all move alike. -/
abbrev atU (t : Fin cfg0.N) (y : S256x1408.Idx) : S1024x1408.Idx := ((cfg0.win 8).blk t).view.emb y

theorem indexU : ∀ t : Fin cfg0.N, win0_8.index t (0 : Fin 2) = t.val ∧ win0_8.index t (1 : Fin 2) = 0 :=
  (by decide +kernel : ∀ t : Fin grid0.N, _)

/-- Every index lies in a tile. -/
theorem atU_onto (i : S1024x1408.Idx) : ∃ t y, atU t y = i := by
  have h0 : (i 0).val < 1024 := (i 0).isLt
  have hN : cfg0.N = 4 := N_0
  have ht : (i 0).val / 256 < cfg0.N := by omega
  refine ⟨⟨(i 0).val / 256, ht⟩, ix2 ⟨(i 0).val % 256, by omega⟩ (i 1), funext fun x => Fin.ext ?_⟩
  obtain ⟨e0, e1⟩ := indexU ⟨(i 0).val / 256, ht⟩
  match x with
  | ⟨0, _⟩ => show win0_8.index ⟨(i 0).val / 256, ht⟩ (0 : Fin 2) * 256 + 1 * ((i 0).val % 256) = (i 0).val; rw [e0]; show (i 0).val / 256 * 256 + 1 * ((i 0).val % 256) = (i 0).val; omega
  | ⟨1, _⟩ => show win0_8.index ⟨(i 0).val / 256, ht⟩ (1 : Fin 2) * 1408 + 1 * (i 1).val = (i 1).val; rw [e1]; omega

theorem ldU (x : Vec Ideal S256x1408 .f32) : View.ld x r0_0 = x :=
  View.ld_unit_zero (S := S256x1408) (by funext a; match a with | 0 => rfl | 1 => rfl) _ x

/-- A tile's index under itself. -/
theorem selfU (y : S256x1408.Idx) : ix8_0 y = y := funext fun a => by
  match a with
  | ⟨0, _⟩ => rfl
  | ⟨1, _⟩ => rfl

/-- The changes of the up weight. -/
theorem r8_eq : ((dats m 0 c).arrAt 8 cfg0.N : S1024x1408.Idx → EReal)
    = fun i => Adam.del ((m ((c.tc : Thread nD τ).loc main_arg0) : S1024x1408.Idx → EReal) i) ((m ((c.tc : Thread nD τ).loc main_arg2) : S1024x1408.Idx → EReal) i) ((m ((c.tc : Thread nD τ).loc main_arg4) : S1024x1408.Idx → EReal) i) ((m ((c.tc : Thread nD τ).loc main_arg6) : S1024x1408.Idx → EReal) i) := by
  funext i
  obtain ⟨t, y, rfl⟩ := atU_onto i
  have e := congrFun (blocks8 m c t (flush0_8 t)) y
  rw [flushed8] at e
  refine e.trans ?_
  show out0_8 _ _ _ _ _ _ _ _ y = _
  unfold out0_8
  rw [ldU, ldU, ldU, ldU, canon8_eq]
  refine Eq.trans ?_ (congrArg (fun z => Adam.del (iblk m c 0 t z) (iblk m c 2 t z) (iblk m c 4 t z) (iblk m c 6 t z)) (selfU y))
  rfl

/-- The first moments of the up weight. -/
theorem r9_eq : ((dats m 0 c).arrAt 9 cfg0.N : S1024x1408.Idx → EReal)
    = fun i => Adam.mom ((m ((c.tc : Thread nD τ).loc main_arg2) : S1024x1408.Idx → EReal) i) ((m ((c.tc : Thread nD τ).loc main_arg4) : S1024x1408.Idx → EReal) i) := by
  funext i
  obtain ⟨t, y, rfl⟩ := atU_onto i
  have e := congrFun (blocks9 m c t (flush0_9 t)) y
  rw [flushed9] at e
  refine e.trans ?_
  show out0_9 _ _ _ _ _ _ _ _ y = _
  unfold out0_9
  rw [ldU, ldU, canon9_eq]
  refine Eq.trans ?_ (congrArg (fun z => Adam.mom (iblk m c 2 t z) (iblk m c 4 t z)) (selfU y))
  rfl

/-- The second moments of the up weight. -/
theorem r10_eq : ((dats m 0 c).arrAt 10 cfg0.N : S1024x1408.Idx → EReal)
    = fun i => Adam.var ((m ((c.tc : Thread nD τ).loc main_arg2) : S1024x1408.Idx → EReal) i) ((m ((c.tc : Thread nD τ).loc main_arg6) : S1024x1408.Idx → EReal) i) := by
  funext i
  obtain ⟨t, y, rfl⟩ := atU_onto i
  have e := congrFun (blocks10 m c t (flush0_10 t)) y
  rw [flushed10] at e
  refine e.trans ?_
  show out0_10 _ _ _ _ _ _ _ _ y = _
  unfold out0_10
  rw [ldU, ldU, canon10_eq]
  refine Eq.trans ?_ (congrArg (fun z => Adam.var (iblk m c 2 t z) (iblk m c 6 t z)) (selfU y))
  rfl

/-- Where index `y` of point `t`'s tile lies in the down weight. Its windows all move alike. -/
abbrev atD (t : Fin cfg0.N) (y : S176x1024.Idx) : S704x1024.Idx := ((cfg0.win 12).blk t).view.emb y

theorem indexD : ∀ t : Fin cfg0.N, win0_12.index t (0 : Fin 2) = t.val ∧ win0_12.index t (1 : Fin 2) = 0 :=
  (by decide +kernel : ∀ t : Fin grid0.N, _)

/-- Every index lies in a tile. -/
theorem atD_onto (i : S704x1024.Idx) : ∃ t y, atD t y = i := by
  have h0 : (i 0).val < 704 := (i 0).isLt
  have hN : cfg0.N = 4 := N_0
  have ht : (i 0).val / 176 < cfg0.N := by omega
  refine ⟨⟨(i 0).val / 176, ht⟩, ix2 ⟨(i 0).val % 176, by omega⟩ (i 1), funext fun x => Fin.ext ?_⟩
  obtain ⟨e0, e1⟩ := indexD ⟨(i 0).val / 176, ht⟩
  match x with
  | ⟨0, _⟩ => show win0_12.index ⟨(i 0).val / 176, ht⟩ (0 : Fin 2) * 176 + 1 * ((i 0).val % 176) = (i 0).val; rw [e0]; show (i 0).val / 176 * 176 + 1 * ((i 0).val % 176) = (i 0).val; omega
  | ⟨1, _⟩ => show win0_12.index ⟨(i 0).val / 176, ht⟩ (1 : Fin 2) * 1024 + 1 * (i 1).val = (i 1).val; rw [e1]; omega

theorem ldD (x : Vec Ideal S176x1024 .f32) : View.ld x r0_1 = x :=
  View.ld_unit_zero (S := S176x1024) (by funext a; match a with | 0 => rfl | 1 => rfl) _ x

/-- A tile's index under itself. -/
theorem selfD (y : S176x1024.Idx) : ix12_0 y = y := funext fun a => by
  match a with
  | ⟨0, _⟩ => rfl
  | ⟨1, _⟩ => rfl

/-- The changes of the down weight. -/
theorem r12_eq : ((dats m 0 c).arrAt 12 cfg0.N : S704x1024.Idx → EReal)
    = fun i => Adam.del ((m ((c.tc : Thread nD τ).loc main_arg1) : S704x1024.Idx → EReal) i) ((m ((c.tc : Thread nD τ).loc main_arg3) : S704x1024.Idx → EReal) i) ((m ((c.tc : Thread nD τ).loc main_arg5) : S704x1024.Idx → EReal) i) ((m ((c.tc : Thread nD τ).loc main_arg7) : S704x1024.Idx → EReal) i) := by
  funext i
  obtain ⟨t, y, rfl⟩ := atD_onto i
  have e := congrFun (blocks12 m c t (flush0_12 t)) y
  rw [flushed12] at e
  refine e.trans ?_
  show out0_12 _ _ _ _ _ _ _ _ y = _
  unfold out0_12
  rw [ldD, ldD, ldD, ldD, canon12_eq]
  refine Eq.trans ?_ (congrArg (fun z => Adam.del (iblk m c 1 t z) (iblk m c 3 t z) (iblk m c 5 t z) (iblk m c 7 t z)) (selfD y))
  rfl

/-- The first moments of the down weight. -/
theorem r13_eq : ((dats m 0 c).arrAt 13 cfg0.N : S704x1024.Idx → EReal)
    = fun i => Adam.mom ((m ((c.tc : Thread nD τ).loc main_arg3) : S704x1024.Idx → EReal) i) ((m ((c.tc : Thread nD τ).loc main_arg5) : S704x1024.Idx → EReal) i) := by
  funext i
  obtain ⟨t, y, rfl⟩ := atD_onto i
  have e := congrFun (blocks13 m c t (flush0_13 t)) y
  rw [flushed13] at e
  refine e.trans ?_
  show out0_13 _ _ _ _ _ _ _ _ y = _
  unfold out0_13
  rw [ldD, ldD, canon13_eq]
  refine Eq.trans ?_ (congrArg (fun z => Adam.mom (iblk m c 3 t z) (iblk m c 5 t z)) (selfD y))
  rfl

/-- The second moments of the down weight. -/
theorem r14_eq : ((dats m 0 c).arrAt 14 cfg0.N : S704x1024.Idx → EReal)
    = fun i => Adam.var ((m ((c.tc : Thread nD τ).loc main_arg3) : S704x1024.Idx → EReal) i) ((m ((c.tc : Thread nD τ).loc main_arg7) : S704x1024.Idx → EReal) i) := by
  funext i
  obtain ⟨t, y, rfl⟩ := atD_onto i
  have e := congrFun (blocks14 m c t (flush0_14 t)) y
  rw [flushed14] at e
  refine e.trans ?_
  show out0_14 _ _ _ _ _ _ _ _ y = _
  unfold out0_14
  rw [ldD, ldD, canon14_eq]
  refine Eq.trans ?_ (congrArg (fun z => Adam.var (iblk m c 3 t z) (iblk m c 7 t z)) (selfD y))
  rfl

end Cert.OffnIdeal.Result

end
-- ==== Proof.Offn.Claims.lean ====
module

public import proofs.«01_k».proof.Defs
public import proofs.«01_k».proof.Proof.Gen.Offn
public import proofs.«01_k».proof.Proof.Gen.OffnIdeal
public import proofs.«01_k».proof.Proof.Gen.OffnIdeal.Frame
public import proofs.«01_k».proof.Proof.Gen.OffnRefIdeal
public import proofs.«01_k».proof.Proof.Gen.OffnRefIdeal.Run
public import proofs.«01_k».proof.Proof.Offn.Result

/-! # The feed-forward weights' update: its claims -/

@[expose] public section

set_option maxRecDepth 16384

noncomputable section

open Idealize.ShloMosaic Idealize.ShloMosaic.TcCoe Idealize.SL.Sem

namespace Cert.OffnClaims

open Cert.Reals

section
open Cert.OffnIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c, Value.kept_main_arg5 m r h.1 c, Value.kept_main_arg6 m r h.1 c, Value.kept_main_arg7 m r h.1 c⟩, h.2⟩) (Gen.run_main_quiescent m ρ)
end

set_option maxHeartbeats 8000000 in
/-- The two programs have one table of kernel bodies. -/
theorem bodies_eq {F : FTy → Type} [FloatOps F] : Cert.Offn.defs₀ (F := F) = Cert.OffnIdeal.defs₀ (F := F) := by
  unfold Cert.Offn.defs₀ Cert.OffnIdeal.defs₀
  congr 1
  funext l a
  match l, a with
  | 0, (t, s) => rfl

theorem defs_eq {F : FTy → Type} [FloatOps F] : Cert.Offn.defs (F := F) = Cert.OffnIdeal.defs (F := F) := by
  unfold Cert.Offn.defs Cert.OffnIdeal.defs
  rw [bodies_eq]
  rfl

/-- The kernel's own frame: the two programs have one text. -/
theorem frame_kernel : Cert.quiescent_Offn := fun m ρ _ => by
  rw [defs_eq]
  exact frame_run (F := Bits) m ρ

/-- The ideal program's frame. -/
theorem frame_ideal : Cert.quiescent_OffnIdeal := fun m ρ _ => frame_run (F := Ideal) m ρ

/-- The reference's frame. -/
theorem frame_ref : Cert.quiescent_OffnRefIdeal := fun m ρ _ =>
  (θ_run _ _ _).mono (fun r h => ⟨fun c => (h c).2.2.2.2.2.2, sem_eq_zero_of_no_sems (by decide) r.2⟩) (Cert.OffnRefIdeal.Value.run (F := Ideal) m ρ)

/-- Over the reals the kernel and the reference end with equal results. -/
theorem value : Cert.algebraic_OffnIdeal_OffnRefIdeal := by
  intro m ρ m' ρ' hm hmm
  refine ⟨fun c => (Cert.OffnIdeal.Gen.dats m 0 c).arrAt 8 Cert.OffnIdeal.cfg0.N, fun c => (Cert.OffnIdeal.Gen.dats m 0 c).arrAt 9 Cert.OffnIdeal.cfg0.N, fun c => (Cert.OffnIdeal.Gen.dats m 0 c).arrAt 10 Cert.OffnIdeal.cfg0.N, fun c => (Cert.OffnIdeal.Gen.dats m 0 c).arrAt 12 Cert.OffnIdeal.cfg0.N, fun c => (Cert.OffnIdeal.Gen.dats m 0 c).arrAt 13 Cert.OffnIdeal.cfg0.N, fun c => (Cert.OffnIdeal.Gen.dats m 0 c).arrAt 14 Cert.OffnIdeal.cfg0.N,
    (θ_run _ _ _).mono (fun r h c => ⟨(h c).1, (h c).2.1, (h c).2.2.1, (h c).2.2.2.2.1, (h c).2.2.2.2.2.1, (h c).2.2.2.2.2.2.1, (h c).2.2.2.2.2.2.2.2⟩) (Cert.OffnIdeal.Value.run_blocks m ρ), ?_⟩
  refine (θ_run _ _ _).mono (fun r h c => ?_) (Cert.OffnRefIdeal.Value.run (F := Ideal) m' ρ')
  obtain ⟨e0, e1, e2, e3, e4, e5, e6, e7⟩ := hmm c
  obtain ⟨r0, r1, r2, r3, r4, r5, k⟩ := h c
  rw [e0, e2, e4, e6] at r0
  rw [e2, e4] at r1
  rw [e2, e6] at r2
  rw [e1, e3, e5, e7] at r3
  rw [e3, e5] at r4
  rw [e3, e7] at r5
  exact ⟨r0.trans ((Cert.Adam.host_del _ _ _ _ _).trans (Cert.OffnIdeal.Result.r8_eq m c).symm),
    r1.trans ((Cert.Adam.host_mom _ _ _).trans (Cert.OffnIdeal.Result.r9_eq m c).symm),
    r2.trans ((Cert.Adam.host_var _ _ _).trans (Cert.OffnIdeal.Result.r10_eq m c).symm),
    r3.trans ((Cert.Adam.host_del _ _ _ _ _).trans (Cert.OffnIdeal.Result.r12_eq m c).symm),
    r4.trans ((Cert.Adam.host_mom _ _ _).trans (Cert.OffnIdeal.Result.r13_eq m c).symm),
    r5.trans ((Cert.Adam.host_var _ _ _).trans (Cert.OffnIdeal.Result.r14_eq m c).symm), k⟩

end Cert.OffnClaims

end
-- ==== Proof.Oin.Result.lean ====
module

public import proofs.«01_k».proof.Proof.Common.Reals
public import proofs.«01_k».proof.Proof.Common.Adam
public import proofs.«01_k».proof.Proof.Gen.OinIdeal.Value
public import Idealize.ShloMosaic.Lib.Pipeline.Value

/-! # The input weight's update: what the kernel leaves in its results -/

@[expose] public section

set_option maxRecDepth 16384

noncomputable section

open Idealize.ShloMosaic Idealize.ShloMosaic.TcCoe Idealize.SL.Sem

namespace Cert.OinIdeal.Result

open Cert.OinIdeal Cert.OinIdeal.Gen Cert.OinIdeal.Value Cert.Reals

variable (m : (ℓ : Loc nD τ sig) → Buf (Elt Ideal) ℓ) (c : Dev nD)

/-- The four transposed arguments that the launch finds. -/
def W : S960x1024.Idx → EReal := V m c main_v0
def G : S960x1024.Idx → EReal := V m c main_v1
def M : S960x1024.Idx → EReal := V m c main_v2
def U : S960x1024.Idx → EReal := V m c main_v3

/-- Where index `y` of point `t`'s tile lies in the whole array. All seven windows move alike. -/
abbrev at0 (t : Fin cfg0.N) (y : S320x1024.Idx) : S960x1024.Idx := ((cfg0.win 4).blk t).view.emb y

theorem index4 : ∀ t : Fin cfg0.N, win0_4.index t (0 : Fin 2) = t.val ∧ win0_4.index t (1 : Fin 2) = 0 :=
  (by decide +kernel : ∀ t : Fin grid0.N, _)

/-- Every index lies in a tile. -/
theorem at0_onto (i : S960x1024.Idx) : ∃ t y, at0 t y = i := by
  have h0 : (i 0).val < 960 := (i 0).isLt
  have hN : cfg0.N = 3 := N_0
  have ht : (i 0).val / 320 < cfg0.N := by omega
  refine ⟨⟨(i 0).val / 320, ht⟩, ix2 ⟨(i 0).val % 320, by omega⟩ (i 1), funext fun x => Fin.ext ?_⟩
  obtain ⟨e0, e1⟩ := index4 ⟨(i 0).val / 320, ht⟩
  match x with
  | ⟨0, _⟩ => show win0_4.index ⟨(i 0).val / 320, ht⟩ (0 : Fin 2) * 320 + 1 * ((i 0).val % 320) = (i 0).val; rw [e0]; show (i 0).val / 320 * 320 + 1 * ((i 0).val % 320) = (i 0).val; omega
  | ⟨1, _⟩ => show win0_4.index ⟨(i 0).val / 320, ht⟩ (1 : Fin 2) * 1024 + 1 * (i 1).val = (i 1).val; rw [e1]; omega

theorem ld0 (x : Vec Ideal S320x1024 .f32) : View.ld x r0_0 = x :=
  View.ld_unit_zero (S := S320x1024) (by funext a; match a with | 0 => rfl | 1 => rfl) _ x

/-- A tile's index under itself. -/
theorem self_ix (y : S320x1024.Idx) : ix4_0 y = y := funext fun a => by
  match a with
  | ⟨0, _⟩ => rfl
  | ⟨1, _⟩ => rfl

/-- The tile of changes that the body leaves. -/
theorem tile4 (x0 x1 x2 x3 : Vec Ideal S320x1024 .f32) (y : S320x1024.Idx) :
    out0_4 x0 x1 x2 x3 y = Adam.del (x0 y) (x1 y) (x2 y) (x3 y) := by
  unfold out0_4
  rw [ld0, ld0, ld0, ld0, canon4_eq x2 x1 x3 x0 y]
  refine Eq.trans ?_ (congrArg (fun z => Adam.del (x0 z) (x1 z) (x2 z) (x3 z)) (self_ix y))
  rfl

/-- The tile of first moments that the body leaves. -/
theorem tile5 (x0 x1 x2 x3 : Vec Ideal S320x1024 .f32) (y : S320x1024.Idx) : out0_5 x0 x1 x2 x3 y = Adam.mom (x1 y) (x2 y) := by
  unfold out0_5
  rw [ld0, ld0, canon5_eq x2 x1 y]
  refine Eq.trans ?_ (congrArg (fun z => Adam.mom (x1 z) (x2 z)) (self_ix y))
  rfl

/-- The tile of second moments that the body leaves. -/
theorem tile6 (x0 x1 x2 x3 : Vec Ideal S320x1024 .f32) (y : S320x1024.Idx) : out0_6 x0 x1 x2 x3 y = Adam.var (x1 y) (x3 y) := by
  unfold out0_6
  rw [ld0, ld0, canon6_eq x3 x1 y]
  refine Eq.trans ?_ (congrArg (fun z => Adam.var (x1 z) (x3 z)) (self_ix y))
  rfl

/-- The changes. -/
theorem r4_eq : ((dats m 0 c).arrAt 4 cfg0.N : S960x1024.Idx → EReal) = fun i => Adam.del (W m c i) (G m c i) (M m c i) (U m c i) := by
  funext i
  obtain ⟨t, y, rfl⟩ := at0_onto i
  have e := congrFun (blocks4 m c t (flush0_4 t)) y
  rw [flushed4] at e
  exact e.trans (tile4 _ _ _ _ y)

/-- The first moments. -/
theorem r5_eq : ((dats m 0 c).arrAt 5 cfg0.N : S960x1024.Idx → EReal) = fun i => Adam.mom (G m c i) (M m c i) := by
  funext i
  obtain ⟨t, y, rfl⟩ := at0_onto i
  have e := congrFun (blocks5 m c t (flush0_5 t)) y
  rw [flushed5] at e
  exact e.trans (tile5 _ _ _ _ y)

/-- The second moments. -/
theorem r6_eq : ((dats m 0 c).arrAt 6 cfg0.N : S960x1024.Idx → EReal) = fun i => Adam.var (G m c i) (U m c i) := by
  funext i
  obtain ⟨t, y, rfl⟩ := at0_onto i
  have e := congrFun (blocks6 m c t (flush0_6 t)) y
  rw [flushed6] at e
  exact e.trans (tile6 _ _ _ _ y)

end Cert.OinIdeal.Result

end
-- ==== Proof.Oin.Claims.lean ====
module

public import proofs.«01_k».proof.Defs
public import proofs.«01_k».proof.Proof.Gen.Oin
public import proofs.«01_k».proof.Proof.Gen.OinIdeal
public import proofs.«01_k».proof.Proof.Gen.OinIdeal.Frame
public import proofs.«01_k».proof.Proof.Gen.OinRefIdeal
public import proofs.«01_k».proof.Proof.Gen.OinRefIdeal.Run
public import proofs.«01_k».proof.Proof.Oin.Result

/-! # The input weight's update: its claims -/

@[expose] public section

set_option maxRecDepth 16384

noncomputable section

open Idealize.ShloMosaic Idealize.ShloMosaic.TcCoe Idealize.SL.Sem

namespace Cert.OinClaims

open Cert.Reals

section
open Cert.OinIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c⟩, h.2⟩) (Gen.run_main_quiescent m ρ)
end

/-- The two programs have one table of kernel bodies. -/
theorem bodies_eq {F : FTy → Type} [FloatOps F] : Cert.Oin.defs₀ (F := F) = Cert.OinIdeal.defs₀ (F := F) := by
  unfold Cert.Oin.defs₀ Cert.OinIdeal.defs₀
  congr 1
  funext l a
  match l, a with
  | 0, (t, s) => rfl

theorem defs_eq {F : FTy → Type} [FloatOps F] : Cert.Oin.defs (F := F) = Cert.OinIdeal.defs (F := F) := by
  unfold Cert.Oin.defs Cert.OinIdeal.defs
  rw [bodies_eq]
  rfl

/-- The kernel's own frame: the two programs have one text. -/
theorem frame_kernel : Cert.quiescent_Oin := fun m ρ _ => by
  rw [defs_eq]
  exact frame_run (F := Bits) m ρ

/-- The ideal program's frame. -/
theorem frame_ideal : Cert.quiescent_OinIdeal := fun m ρ _ => frame_run (F := Ideal) m ρ

/-- The reference's frame. -/
theorem frame_ref : Cert.quiescent_OinRefIdeal := fun m ρ _ =>
  (θ_run _ _ _).mono (fun r h => ⟨fun c => (h c).2.2.2, sem_eq_zero_of_no_sems (by decide) r.2⟩) (Cert.OinRefIdeal.Value.run (F := Ideal) m ρ)

section
open Cert.OinIdeal Cert.OinIdeal.Result Facts₀

variable (m : (ℓ : Loc nD τ sig) → Buf (Elt Ideal) ℓ) (c : Dev nD)

/-- The launch finds the weight, its gradient and its moments transposed. -/
theorem W_eq : W m c = transpose S960x1024 [1, 0] (m ((c.tc : Thread nD τ).loc main_arg0) : S1024x960.Idx → EReal) transposes_S1024x960_S960x1024_1_0 := by
  unfold W Cert.OinIdeal.Gen.V
  after_results

theorem G_eq : G m c = transpose S960x1024 [1, 0] (m ((c.tc : Thread nD τ).loc main_arg1) : S1024x960.Idx → EReal) transposes_S1024x960_S960x1024_1_0 := by
  unfold G Cert.OinIdeal.Gen.V
  after_results

theorem M_eq : Result.M m c = transpose S960x1024 [1, 0] (m ((c.tc : Thread nD τ).loc main_arg2) : S1024x960.Idx → EReal) transposes_S1024x960_S960x1024_1_0 := by
  unfold Result.M Cert.OinIdeal.Gen.V
  after_results

theorem U_eq : U m c = transpose S960x1024 [1, 0] (m ((c.tc : Thread nD τ).loc main_arg3) : S1024x960.Idx → EReal) transposes_S1024x960_S960x1024_1_0 := by
  unfold U Cert.OinIdeal.Gen.V
  after_results
end

/-- Over the reals the kernel and the reference end with equal results. -/
theorem value : Cert.algebraic_OinIdeal_OinRefIdeal := by
  intro m ρ m' ρ' hm hmm
  refine ⟨fun c => (Cert.OinIdeal.Gen.dats m 0 c).arrAt 4 Cert.OinIdeal.cfg0.N, fun c => (Cert.OinIdeal.Gen.dats m 0 c).arrAt 5 Cert.OinIdeal.cfg0.N,
    fun c => (Cert.OinIdeal.Gen.dats m 0 c).arrAt 6 Cert.OinIdeal.cfg0.N,
    (θ_run _ _ _).mono (fun r h c => ⟨(h c).1, (h c).2.1, (h c).2.2.1, (h c).2.2.2.2⟩) (Cert.OinIdeal.Value.run_blocks m ρ), ?_⟩
  refine (θ_run _ _ _).mono (fun r h c => ?_) (Cert.OinRefIdeal.Value.run (F := Ideal) m' ρ')
  obtain ⟨e0, e1, e2, e3⟩ := hmm c
  obtain ⟨r0, r1, r2, k⟩ := h c
  rw [e0, e1, e2, e3] at r0
  rw [e1, e2] at r1
  rw [e1, e3] at r2
  refine ⟨r0.trans (Eq.symm ((Cert.OinIdeal.Result.r4_eq m c).trans ?_)), r1.trans (Eq.symm ((Cert.OinIdeal.Result.r5_eq m c).trans ?_)),
    r2.trans (Eq.symm ((Cert.OinIdeal.Result.r6_eq m c).trans ?_)), k⟩
  · rw [W_eq, G_eq, M_eq, U_eq]
    rfl
  · rw [G_eq, M_eq]
    rfl
  · rw [G_eq, U_eq]
    rfl

end Cert.OinClaims

end
-- ==== Proof.Oproj.Result.lean ====
module

public import proofs.«01_k».proof.Proof.Common.Reals
public import proofs.«01_k».proof.Proof.Common.Adam
public import proofs.«01_k».proof.Proof.Gen.OprojIdeal.Value
public import Idealize.ShloMosaic.Lib.Pipeline.Value

/-! # The projections' update: what the kernel leaves in its results -/

@[expose] public section

set_option maxRecDepth 16384

noncomputable section

open Idealize.ShloMosaic Idealize.ShloMosaic.TcCoe Idealize.SL.Sem

namespace Cert.OprojIdeal.Result

open Cert.OprojIdeal Cert.OprojIdeal.Gen Cert.OprojIdeal.Value Cert.Reals

variable (m : (ℓ : Loc nD τ sig) → Buf (Elt Ideal) ℓ) (c : Dev nD)

/-- Where index `y` of point `t`'s tile lies in a branch projection. Its windows all move alike. -/
abbrev atP (t : Fin cfg0.N) (y : S128x256.Idx) : S512x256.Idx := ((cfg0.win 12).blk t).view.emb y

theorem indexP : ∀ t : Fin cfg0.N, win0_12.index t (0 : Fin 2) = t.val ∧ win0_12.index t (1 : Fin 2) = 0 :=
  (by decide +kernel : ∀ t : Fin grid0.N, _)

/-- Every index lies in a tile. -/
theorem atP_onto (i : S512x256.Idx) : ∃ t y, atP t y = i := by
  have h0 : (i 0).val < 512 := (i 0).isLt
  have hN : cfg0.N = 4 := N_0
  have ht : (i 0).val / 128 < cfg0.N := by omega
  refine ⟨⟨(i 0).val / 128, ht⟩, ix2 ⟨(i 0).val % 128, by omega⟩ (i 1), funext fun x => Fin.ext ?_⟩
  obtain ⟨e0, e1⟩ := indexP ⟨(i 0).val / 128, ht⟩
  match x with
  | ⟨0, _⟩ => show win0_12.index ⟨(i 0).val / 128, ht⟩ (0 : Fin 2) * 128 + 1 * ((i 0).val % 128) = (i 0).val; rw [e0]; show (i 0).val / 128 * 128 + 1 * ((i 0).val % 128) = (i 0).val; omega
  | ⟨1, _⟩ => show win0_12.index ⟨(i 0).val / 128, ht⟩ (1 : Fin 2) * 256 + 1 * (i 1).val = (i 1).val; rw [e1]; omega

theorem ldP (x : Vec Ideal S128x256 .f32) : View.ld x r0_0 = x :=
  View.ld_unit_zero (S := S128x256) (by funext a; match a with | 0 => rfl | 1 => rfl) _ x

/-- A tile's index under itself. -/
theorem selfP (y : S128x256.Idx) : ix12_0 y = y := funext fun a => by
  match a with
  | ⟨0, _⟩ => rfl
  | ⟨1, _⟩ => rfl

/-- The changes of the first branch's projection. -/
theorem r12_eq : ((dats m 0 c).arrAt 12 cfg0.N : S512x256.Idx → EReal)
    = fun i => Adam.del ((m ((c.tc : Thread nD τ).loc main_arg0) : S512x256.Idx → EReal) i) ((m ((c.tc : Thread nD τ).loc main_arg3) : S512x256.Idx → EReal) i) ((m ((c.tc : Thread nD τ).loc main_arg6) : S512x256.Idx → EReal) i) ((m ((c.tc : Thread nD τ).loc main_arg9) : S512x256.Idx → EReal) i) := by
  funext i
  obtain ⟨t, y, rfl⟩ := atP_onto i
  have e := congrFun (blocks12 m c t (flush0_12 t)) y
  rw [flushed12] at e
  refine e.trans ?_
  show out0_12 _ _ _ _ _ _ _ _ _ _ _ _ y = _
  unfold out0_12
  rw [ldP, ldP, ldP, ldP, canon12_eq]
  refine Eq.trans ?_ (congrArg (fun z => Adam.del (iblk m c 0 t z) (iblk m c 3 t z) (iblk m c 6 t z) (iblk m c 9 t z)) (selfP y))
  rfl

/-- The first moments of the first branch's projection. -/
theorem r13_eq : ((dats m 0 c).arrAt 13 cfg0.N : S512x256.Idx → EReal)
    = fun i => Adam.mom ((m ((c.tc : Thread nD τ).loc main_arg3) : S512x256.Idx → EReal) i) ((m ((c.tc : Thread nD τ).loc main_arg6) : S512x256.Idx → EReal) i) := by
  funext i
  obtain ⟨t, y, rfl⟩ := atP_onto i
  have e := congrFun (blocks13 m c t (flush0_13 t)) y
  rw [flushed13] at e
  refine e.trans ?_
  show out0_13 _ _ _ _ _ _ _ _ _ _ _ _ y = _
  unfold out0_13
  rw [ldP, ldP, canon13_eq]
  refine Eq.trans ?_ (congrArg (fun z => Adam.mom (iblk m c 3 t z) (iblk m c 6 t z)) (selfP y))
  rfl

/-- The second moments of the first branch's projection. -/
theorem r14_eq : ((dats m 0 c).arrAt 14 cfg0.N : S512x256.Idx → EReal)
    = fun i => Adam.var ((m ((c.tc : Thread nD τ).loc main_arg3) : S512x256.Idx → EReal) i) ((m ((c.tc : Thread nD τ).loc main_arg9) : S512x256.Idx → EReal) i) := by
  funext i
  obtain ⟨t, y, rfl⟩ := atP_onto i
  have e := congrFun (blocks14 m c t (flush0_14 t)) y
  rw [flushed14] at e
  refine e.trans ?_
  show out0_14 _ _ _ _ _ _ _ _ _ _ _ _ y = _
  unfold out0_14
  rw [ldP, ldP, canon14_eq]
  refine Eq.trans ?_ (congrArg (fun z => Adam.var (iblk m c 3 t z) (iblk m c 9 t z)) (selfP y))
  rfl

/-- The changes of the second branch's projection. -/
theorem r16_eq : ((dats m 0 c).arrAt 16 cfg0.N : S512x256.Idx → EReal)
    = fun i => Adam.del ((m ((c.tc : Thread nD τ).loc main_arg1) : S512x256.Idx → EReal) i) ((m ((c.tc : Thread nD τ).loc main_arg4) : S512x256.Idx → EReal) i) ((m ((c.tc : Thread nD τ).loc main_arg7) : S512x256.Idx → EReal) i) ((m ((c.tc : Thread nD τ).loc main_arg10) : S512x256.Idx → EReal) i) := by
  funext i
  obtain ⟨t, y, rfl⟩ := atP_onto i
  have e := congrFun (blocks16 m c t (flush0_16 t)) y
  rw [flushed16] at e
  refine e.trans ?_
  show out0_16 _ _ _ _ _ _ _ _ _ _ _ _ y = _
  unfold out0_16
  rw [ldP, ldP, ldP, ldP, canon16_eq]
  refine Eq.trans ?_ (congrArg (fun z => Adam.del (iblk m c 1 t z) (iblk m c 4 t z) (iblk m c 7 t z) (iblk m c 10 t z)) (selfP y))
  rfl

/-- The first moments of the second branch's projection. -/
theorem r17_eq : ((dats m 0 c).arrAt 17 cfg0.N : S512x256.Idx → EReal)
    = fun i => Adam.mom ((m ((c.tc : Thread nD τ).loc main_arg4) : S512x256.Idx → EReal) i) ((m ((c.tc : Thread nD τ).loc main_arg7) : S512x256.Idx → EReal) i) := by
  funext i
  obtain ⟨t, y, rfl⟩ := atP_onto i
  have e := congrFun (blocks17 m c t (flush0_17 t)) y
  rw [flushed17] at e
  refine e.trans ?_
  show out0_17 _ _ _ _ _ _ _ _ _ _ _ _ y = _
  unfold out0_17
  rw [ldP, ldP, canon17_eq]
  refine Eq.trans ?_ (congrArg (fun z => Adam.mom (iblk m c 4 t z) (iblk m c 7 t z)) (selfP y))
  rfl

/-- The second moments of the second branch's projection. -/
theorem r18_eq : ((dats m 0 c).arrAt 18 cfg0.N : S512x256.Idx → EReal)
    = fun i => Adam.var ((m ((c.tc : Thread nD τ).loc main_arg4) : S512x256.Idx → EReal) i) ((m ((c.tc : Thread nD τ).loc main_arg10) : S512x256.Idx → EReal) i) := by
  funext i
  obtain ⟨t, y, rfl⟩ := atP_onto i
  have e := congrFun (blocks18 m c t (flush0_18 t)) y
  rw [flushed18] at e
  refine e.trans ?_
  show out0_18 _ _ _ _ _ _ _ _ _ _ _ _ y = _
  unfold out0_18
  rw [ldP, ldP, canon18_eq]
  refine Eq.trans ?_ (congrArg (fun z => Adam.var (iblk m c 4 t z) (iblk m c 10 t z)) (selfP y))
  rfl

/-- Where index `y` of point `t`'s tile lies in the output projection. Its windows all move alike. -/
abbrev atO (t : Fin cfg0.N) (y : S64x1024.Idx) : S256x1024.Idx := ((cfg0.win 20).blk t).view.emb y

theorem indexO : ∀ t : Fin cfg0.N, win0_20.index t (0 : Fin 2) = t.val ∧ win0_20.index t (1 : Fin 2) = 0 :=
  (by decide +kernel : ∀ t : Fin grid0.N, _)

/-- Every index lies in a tile. -/
theorem atO_onto (i : S256x1024.Idx) : ∃ t y, atO t y = i := by
  have h0 : (i 0).val < 256 := (i 0).isLt
  have hN : cfg0.N = 4 := N_0
  have ht : (i 0).val / 64 < cfg0.N := by omega
  refine ⟨⟨(i 0).val / 64, ht⟩, ix2 ⟨(i 0).val % 64, by omega⟩ (i 1), funext fun x => Fin.ext ?_⟩
  obtain ⟨e0, e1⟩ := indexO ⟨(i 0).val / 64, ht⟩
  match x with
  | ⟨0, _⟩ => show win0_20.index ⟨(i 0).val / 64, ht⟩ (0 : Fin 2) * 64 + 1 * ((i 0).val % 64) = (i 0).val; rw [e0]; show (i 0).val / 64 * 64 + 1 * ((i 0).val % 64) = (i 0).val; omega
  | ⟨1, _⟩ => show win0_20.index ⟨(i 0).val / 64, ht⟩ (1 : Fin 2) * 1024 + 1 * (i 1).val = (i 1).val; rw [e1]; omega

theorem ldO (x : Vec Ideal S64x1024 .f32) : View.ld x r0_1 = x :=
  View.ld_unit_zero (S := S64x1024) (by funext a; match a with | 0 => rfl | 1 => rfl) _ x

/-- A tile's index under itself. -/
theorem selfO (y : S64x1024.Idx) : ix20_0 y = y := funext fun a => by
  match a with
  | ⟨0, _⟩ => rfl
  | ⟨1, _⟩ => rfl

/-- The changes of the output projection. -/
theorem r20_eq : ((dats m 0 c).arrAt 20 cfg0.N : S256x1024.Idx → EReal)
    = fun i => Adam.del ((m ((c.tc : Thread nD τ).loc main_arg2) : S256x1024.Idx → EReal) i) ((m ((c.tc : Thread nD τ).loc main_arg5) : S256x1024.Idx → EReal) i) ((m ((c.tc : Thread nD τ).loc main_arg8) : S256x1024.Idx → EReal) i) ((m ((c.tc : Thread nD τ).loc main_arg11) : S256x1024.Idx → EReal) i) := by
  funext i
  obtain ⟨t, y, rfl⟩ := atO_onto i
  have e := congrFun (blocks20 m c t (flush0_20 t)) y
  rw [flushed20] at e
  refine e.trans ?_
  show out0_20 _ _ _ _ _ _ _ _ _ _ _ _ y = _
  unfold out0_20
  rw [ldO, ldO, ldO, ldO, canon20_eq]
  refine Eq.trans ?_ (congrArg (fun z => Adam.del (iblk m c 2 t z) (iblk m c 5 t z) (iblk m c 8 t z) (iblk m c 11 t z)) (selfO y))
  rfl

/-- The first moments of the output projection. -/
theorem r21_eq : ((dats m 0 c).arrAt 21 cfg0.N : S256x1024.Idx → EReal)
    = fun i => Adam.mom ((m ((c.tc : Thread nD τ).loc main_arg5) : S256x1024.Idx → EReal) i) ((m ((c.tc : Thread nD τ).loc main_arg8) : S256x1024.Idx → EReal) i) := by
  funext i
  obtain ⟨t, y, rfl⟩ := atO_onto i
  have e := congrFun (blocks21 m c t (flush0_21 t)) y
  rw [flushed21] at e
  refine e.trans ?_
  show out0_21 _ _ _ _ _ _ _ _ _ _ _ _ y = _
  unfold out0_21
  rw [ldO, ldO, canon21_eq]
  refine Eq.trans ?_ (congrArg (fun z => Adam.mom (iblk m c 5 t z) (iblk m c 8 t z)) (selfO y))
  rfl

/-- The second moments of the output projection. -/
theorem r22_eq : ((dats m 0 c).arrAt 22 cfg0.N : S256x1024.Idx → EReal)
    = fun i => Adam.var ((m ((c.tc : Thread nD τ).loc main_arg5) : S256x1024.Idx → EReal) i) ((m ((c.tc : Thread nD τ).loc main_arg11) : S256x1024.Idx → EReal) i) := by
  funext i
  obtain ⟨t, y, rfl⟩ := atO_onto i
  have e := congrFun (blocks22 m c t (flush0_22 t)) y
  rw [flushed22] at e
  refine e.trans ?_
  show out0_22 _ _ _ _ _ _ _ _ _ _ _ _ y = _
  unfold out0_22
  rw [ldO, ldO, canon22_eq]
  refine Eq.trans ?_ (congrArg (fun z => Adam.var (iblk m c 5 t z) (iblk m c 11 t z)) (selfO y))
  rfl

end Cert.OprojIdeal.Result

end
-- ==== Proof.Oproj.Claims.lean ====
module

public import proofs.«01_k».proof.Defs
public import proofs.«01_k».proof.Proof.Gen.Oproj
public import proofs.«01_k».proof.Proof.Gen.OprojIdeal
public import proofs.«01_k».proof.Proof.Gen.OprojIdeal.Frame
public import proofs.«01_k».proof.Proof.Gen.OprojRefIdeal
public import proofs.«01_k».proof.Proof.Gen.OprojRefIdeal.Run
public import proofs.«01_k».proof.Proof.Oproj.Result

/-! # The projections' update: its claims -/

@[expose] public section

set_option maxRecDepth 16384
set_option maxHeartbeats 8000000

noncomputable section

open Idealize.ShloMosaic Idealize.ShloMosaic.TcCoe Idealize.SL.Sem

namespace Cert.OprojClaims

open Cert.Reals

section
open Cert.OprojIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c, Value.kept_main_arg4 m r h.1 c, Value.kept_main_arg5 m r h.1 c, Value.kept_main_arg6 m r h.1 c, Value.kept_main_arg7 m r h.1 c, Value.kept_main_arg8 m r h.1 c, Value.kept_main_arg9 m r h.1 c, Value.kept_main_arg10 m r h.1 c, Value.kept_main_arg11 m r h.1 c⟩, h.2⟩) (Gen.run_main_quiescent m ρ)
end

/-- The two programs have one table of kernel bodies. -/
theorem bodies_eq {F : FTy → Type} [FloatOps F] : Cert.Oproj.defs₀ (F := F) = Cert.OprojIdeal.defs₀ (F := F) := by
  unfold Cert.Oproj.defs₀ Cert.OprojIdeal.defs₀
  congr 1
  funext l a
  match l, a with
  | 0, (t, s) => rfl

theorem defs_eq {F : FTy → Type} [FloatOps F] : Cert.Oproj.defs (F := F) = Cert.OprojIdeal.defs (F := F) := by
  unfold Cert.Oproj.defs Cert.OprojIdeal.defs
  rw [bodies_eq]
  rfl

/-- The kernel's own frame: the two programs have one text. -/
theorem frame_kernel : Cert.quiescent_Oproj := fun m ρ _ => by
  rw [defs_eq]
  exact frame_run (F := Bits) m ρ

/-- The ideal program's frame. -/
theorem frame_ideal : Cert.quiescent_OprojIdeal := fun m ρ _ => frame_run (F := Ideal) m ρ

/-- The reference's frame. -/
theorem frame_ref : Cert.quiescent_OprojRefIdeal := fun m ρ _ =>
  (θ_run _ _ _).mono (fun r h => ⟨fun c => (h c).2.2.2.2.2.2.2.2.2, sem_eq_zero_of_no_sems (by decide) r.2⟩) (Cert.OprojRefIdeal.Value.run (F := Ideal) m ρ)

/-- Over the reals the kernel and the reference end with equal results. -/
theorem value : Cert.algebraic_OprojIdeal_OprojRefIdeal := by
  intro m ρ m' ρ' hm hmm
  refine ⟨fun c => (Cert.OprojIdeal.Gen.dats m 0 c).arrAt 12 Cert.OprojIdeal.cfg0.N, fun c => (Cert.OprojIdeal.Gen.dats m 0 c).arrAt 13 Cert.OprojIdeal.cfg0.N, fun c => (Cert.OprojIdeal.Gen.dats m 0 c).arrAt 14 Cert.OprojIdeal.cfg0.N, fun c => (Cert.OprojIdeal.Gen.dats m 0 c).arrAt 16 Cert.OprojIdeal.cfg0.N, fun c => (Cert.OprojIdeal.Gen.dats m 0 c).arrAt 17 Cert.OprojIdeal.cfg0.N, fun c => (Cert.OprojIdeal.Gen.dats m 0 c).arrAt 18 Cert.OprojIdeal.cfg0.N, fun c => (Cert.OprojIdeal.Gen.dats m 0 c).arrAt 20 Cert.OprojIdeal.cfg0.N, fun c => (Cert.OprojIdeal.Gen.dats m 0 c).arrAt 21 Cert.OprojIdeal.cfg0.N, fun c => (Cert.OprojIdeal.Gen.dats m 0 c).arrAt 22 Cert.OprojIdeal.cfg0.N,
    (θ_run _ _ _).mono (fun r h c => ⟨(h c).1, (h c).2.1, (h c).2.2.1, (h c).2.2.2.2.1, (h c).2.2.2.2.2.1, (h c).2.2.2.2.2.2.1, (h c).2.2.2.2.2.2.2.2.1, (h c).2.2.2.2.2.2.2.2.2.1, (h c).2.2.2.2.2.2.2.2.2.2.1, (h c).2.2.2.2.2.2.2.2.2.2.2.2⟩) (Cert.OprojIdeal.Value.run_blocks m ρ), ?_⟩
  refine (θ_run _ _ _).mono (fun r h c => ?_) (Cert.OprojRefIdeal.Value.run (F := Ideal) m' ρ')
  obtain ⟨e0, e1, e2, e3, e4, e5, e6, e7, e8, e9, e10, e11⟩ := hmm c
  obtain ⟨r0, r1, r2, r3, r4, r5, r6, r7, r8, k⟩ := h c
  rw [e0, e3, e6, e9] at r0
  rw [e3, e6] at r1
  rw [e3, e9] at r2
  rw [e1, e4, e7, e10] at r3
  rw [e4, e7] at r4
  rw [e4, e10] at r5
  rw [e2, e5, e8, e11] at r6
  rw [e5, e8] at r7
  rw [e5, e11] at r8
  exact ⟨r0.trans ((Cert.Adam.host_del _ _ _ _ _).trans (Cert.OprojIdeal.Result.r12_eq m c).symm),
    r1.trans ((Cert.Adam.host_mom _ _ _).trans (Cert.OprojIdeal.Result.r13_eq m c).symm),
    r2.trans ((Cert.Adam.host_var _ _ _).trans (Cert.OprojIdeal.Result.r14_eq m c).symm),
    r3.trans ((Cert.Adam.host_del _ _ _ _ _).trans (Cert.OprojIdeal.Result.r16_eq m c).symm),
    r4.trans ((Cert.Adam.host_mom _ _ _).trans (Cert.OprojIdeal.Result.r17_eq m c).symm),
    r5.trans ((Cert.Adam.host_var _ _ _).trans (Cert.OprojIdeal.Result.r18_eq m c).symm),
    r6.trans ((Cert.Adam.host_del _ _ _ _ _).trans (Cert.OprojIdeal.Result.r20_eq m c).symm),
    r7.trans ((Cert.Adam.host_mom _ _ _).trans (Cert.OprojIdeal.Result.r21_eq m c).symm),
    r8.trans ((Cert.Adam.host_var _ _ _).trans (Cert.OprojIdeal.Result.r22_eq m c).symm), k⟩

end Cert.OprojClaims

end
-- ==== Proof.Oconv.Result.lean ====
module

public import proofs.«01_k».proof.Proof.Common.Reals
public import proofs.«01_k».proof.Proof.Common.Adam
public import proofs.«01_k».proof.Proof.Gen.OconvIdeal.Value
public import Idealize.ShloMosaic.Lib.Pipeline.Value

/-! # The convolution taps' update: what the kernel leaves in its results -/

@[expose] public section

set_option maxRecDepth 16384

noncomputable section

open Idealize.ShloMosaic Idealize.ShloMosaic.TcCoe Idealize.SL.Sem

namespace Cert.OconvIdeal.Result

open Cert.OconvIdeal Cert.OconvIdeal.Gen Cert.OconvIdeal.Value Cert.Reals

variable (m : (ℓ : Loc nD τ sig) → Buf (Elt Ideal) ℓ) (c : Dev nD)

/-- The four arguments that the launch finds, each with an axis of size one in the middle. -/
def W : S3x1x1408.Idx → EReal := V m c main_v0
def G : S3x1x1408.Idx → EReal := V m c main_v1
def M : S3x1x1408.Idx → EReal := V m c main_v2
def U : S3x1x1408.Idx → EReal := V m c main_v3

/-- Where index `y` of the only tile lies in the whole array. All seven windows move alike. -/
abbrev at0 (t : Fin cfg0.N) (y : S3x1x1408.Idx) : S3x1x1408.Idx := ((cfg0.win 4).blk t).view.emb y

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

/-- The only tile is the whole array. -/
theorem at0_onto (i : S3x1x1408.Idx) : ∃ t y, at0 t y = i := by
  have hN : cfg0.N = 1 := N_0
  refine ⟨⟨0, by omega⟩, i, funext fun x => Fin.ext ?_⟩
  obtain ⟨e0, e1, e2⟩ := index4 ⟨0, by omega⟩
  match x with
  | ⟨0, _⟩ => show win0_4.index ⟨0, _⟩ (0 : Fin 3) * 3 + 1 * (i 0).val = (i 0).val; rw [e0]; omega
  | ⟨1, _⟩ => show win0_4.index ⟨0, _⟩ (1 : Fin 3) * 1 + 1 * (i 1).val = (i 1).val; rw [e1]; omega
  | ⟨2, _⟩ => show win0_4.index ⟨0, _⟩ (2 : Fin 3) * 1408 + 1 * (i 2).val = (i 2).val; rw [e2]; omega

theorem ld0 (x : Vec Ideal S3x1x1408 .f32) : View.ld x r0_0 = x :=
  View.ld_unit_zero (S := S3x1x1408) (by funext a; match a with | 0 => rfl | 1 => rfl | 2 => rfl) _ x

/-- A tile's index under itself. -/
theorem self_ix (y : S3x1x1408.Idx) : ix4_0 y = y := funext fun a => Fin.ext <| by
  have h1 : (y 1).val < 1 := (y 1).isLt
  match a with
  | ⟨0, _⟩ => rfl
  | ⟨1, _⟩ => show 0 = (y 1).val; omega
  | ⟨2, _⟩ => rfl

/-- The tile of changes that the body leaves. -/
theorem tile4 (x0 x1 x2 x3 : Vec Ideal S3x1x1408 .f32) (y : S3x1x1408.Idx) :
    out0_4 x0 x1 x2 x3 y = Adam.del (x0 y) (x1 y) (x2 y) (x3 y) := by
  unfold out0_4
  rw [ld0, ld0, ld0, ld0, canon4_eq x2 x1 x3 x0 y]
  refine Eq.trans ?_ (congrArg (fun z => Adam.del (x0 z) (x1 z) (x2 z) (x3 z)) (self_ix y))
  rfl

/-- The tile of first moments that the body leaves. -/
theorem tile5 (x0 x1 x2 x3 : Vec Ideal S3x1x1408 .f32) (y : S3x1x1408.Idx) : out0_5 x0 x1 x2 x3 y = Adam.mom (x1 y) (x2 y) := by
  unfold out0_5
  rw [ld0, ld0, canon5_eq x2 x1 y]
  refine Eq.trans ?_ (congrArg (fun z => Adam.mom (x1 z) (x2 z)) (self_ix y))
  rfl

/-- The tile of second moments that the body leaves. -/
theorem tile6 (x0 x1 x2 x3 : Vec Ideal S3x1x1408 .f32) (y : S3x1x1408.Idx) : out0_6 x0 x1 x2 x3 y = Adam.var (x1 y) (x3 y) := by
  unfold out0_6
  rw [ld0, ld0, canon6_eq x3 x1 y]
  refine Eq.trans ?_ (congrArg (fun z => Adam.var (x1 z) (x3 z)) (self_ix y))
  rfl

/-- The changes. -/
theorem r4_eq : ((dats m 0 c).arrAt 4 cfg0.N : S3x1x1408.Idx → EReal) = fun i => Adam.del (W m c i) (G m c i) (M m c i) (U m c i) := by
  funext i
  obtain ⟨t, y, rfl⟩ := at0_onto i
  have e := congrFun (blocks4 m c t (flush0_4 t)) y
  rw [flushed4] at e
  exact e.trans (tile4 _ _ _ _ y)

/-- The first moments. -/
theorem r5_eq : ((dats m 0 c).arrAt 5 cfg0.N : S3x1x1408.Idx → EReal) = fun i => Adam.mom (G m c i) (M m c i) := by
  funext i
  obtain ⟨t, y, rfl⟩ := at0_onto i
  have e := congrFun (blocks5 m c t (flush0_5 t)) y
  rw [flushed5] at e
  exact e.trans (tile5 _ _ _ _ y)

/-- The second moments. -/
theorem r6_eq : ((dats m 0 c).arrAt 6 cfg0.N : S3x1x1408.Idx → EReal) = fun i => Adam.var (G m c i) (U m c i) := by
  funext i
  obtain ⟨t, y, rfl⟩ := at0_onto i
  have e := congrFun (blocks6 m c t (flush0_6 t)) y
  rw [flushed6] at e
  exact e.trans (tile6 _ _ _ _ y)

end Cert.OconvIdeal.Result

end
-- ==== Proof.Oconv.Claims.lean ====
module

public import proofs.«01_k».proof.Defs
public import proofs.«01_k».proof.Proof.Gen.Oconv
public import proofs.«01_k».proof.Proof.Gen.OconvIdeal
public import proofs.«01_k».proof.Proof.Gen.OconvIdeal.Frame
public import proofs.«01_k».proof.Proof.Gen.OconvRefIdeal
public import proofs.«01_k».proof.Proof.Gen.OconvRefIdeal.Run
public import proofs.«01_k».proof.Proof.Oconv.Result

/-! # The convolution taps' update: its claims -/

@[expose] public section

set_option maxRecDepth 16384

noncomputable section

open Idealize.ShloMosaic Idealize.ShloMosaic.TcCoe Idealize.SL.Sem

namespace Cert.OconvClaims

open Cert.Reals

section
open Cert.OconvIdeal

/-- The ideal program, over any floats: it runs, its arguments end unchanged and every counter ends at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun r h => ⟨fun c => ⟨Value.kept_main_arg0 m r h.1 c, Value.kept_main_arg1 m r h.1 c, Value.kept_main_arg2 m r h.1 c, Value.kept_main_arg3 m r h.1 c⟩, h.2⟩) (Gen.run_main_quiescent m ρ)
end

/-- The two programs have one table of kernel bodies. -/
theorem bodies_eq {F : FTy → Type} [FloatOps F] : Cert.Oconv.defs₀ (F := F) = Cert.OconvIdeal.defs₀ (F := F) := by
  unfold Cert.Oconv.defs₀ Cert.OconvIdeal.defs₀
  congr 1
  funext l a
  match l, a with
  | 0, (t, s) => rfl

theorem defs_eq {F : FTy → Type} [FloatOps F] : Cert.Oconv.defs (F := F) = Cert.OconvIdeal.defs (F := F) := by
  unfold Cert.Oconv.defs Cert.OconvIdeal.defs
  rw [bodies_eq]
  rfl

/-- The kernel's own frame: the two programs have one text. -/
theorem frame_kernel : Cert.quiescent_Oconv := fun m ρ _ => by
  rw [defs_eq]
  exact frame_run (F := Bits) m ρ

/-- The ideal program's frame. -/
theorem frame_ideal : Cert.quiescent_OconvIdeal := fun m ρ _ => frame_run (F := Ideal) m ρ

/-- The reference's frame. -/
theorem frame_ref : Cert.quiescent_OconvRefIdeal := fun m ρ _ =>
  (θ_run _ _ _).mono (fun r h => ⟨fun c => (h c).2.2.2, sem_eq_zero_of_no_sems (by decide) r.2⟩) (Cert.OconvRefIdeal.Value.run (F := Ideal) m ρ)

section
open Cert.OconvIdeal Cert.OconvIdeal.Result Cert.OconvRefIdeal.Facts₀

variable (m : (ℓ : Loc nD τ sig) → Buf (Elt Ideal) ℓ) (c : Dev nD)

/-- Leaving out an axis of size one and putting one in elsewhere is a transposition. -/
theorem lay (x : S1x3x1408.Idx → EReal) : broadcastInDim S3x1x1408 ![0, 2] bcast_S3x1408_S3x1x1408_0_2
      (shapeCast Cert.OconvRefIdeal.S3x1408 x shapeCasts_S1x3x1408_S3x1408)
    = transpose S3x1x1408 [1, 0, 2] x Cert.OconvIdeal.Facts₀.transposes_S1x3x1408_S3x1x1408_1_0_2 := by
  have e : ∀ (p : Fin 3) (q : Fin 1) (f : Fin 1408), broadcastInDim S3x1x1408 ![0, 2] bcast_S3x1408_S3x1x1408_0_2
        (shapeCast Cert.OconvRefIdeal.S3x1408 x shapeCasts_S1x3x1408_S3x1408) (ix3 p q f)
      = transpose S3x1x1408 [1, 0, 2] x Cert.OconvIdeal.Facts₀.transposes_S1x3x1408_S3x1x1408_1_0_2 (ix3 p q f) := fun p q f => by
    pointwise
  refine funext fun j => ?_
  have hj : j = ix3 (j 0) (j 1) (j 2) := funext fun a => by
    match a with
    | ⟨0, _⟩ => rfl
    | ⟨1, _⟩ => rfl
    | ⟨2, _⟩ => rfl
  rw [hj]
  exact e (j 0) (j 1) (j 2)

/-- What the launch finds, as the reference writes it. -/
theorem W_eq : W m c = broadcastInDim S3x1x1408 ![0, 2] bcast_S3x1408_S3x1x1408_0_2
    (shapeCast Cert.OconvRefIdeal.S3x1408 (m ((c.tc : Thread nD τ).loc main_arg0) : S1x3x1408.Idx → EReal) shapeCasts_S1x3x1408_S3x1408) := by
  rw [lay]
  unfold W Cert.OconvIdeal.Gen.V
  after_results

theorem G_eq : G m c = broadcastInDim S3x1x1408 ![0, 2] bcast_S3x1408_S3x1x1408_0_2 (m ((c.tc : Thread nD τ).loc main_arg1) : S3x1408.Idx → EReal) := by
  unfold G Cert.OconvIdeal.Gen.V
  after_results

theorem M_eq : Result.M m c = broadcastInDim S3x1x1408 ![0, 2] bcast_S3x1408_S3x1x1408_0_2
    (shapeCast Cert.OconvRefIdeal.S3x1408 (m ((c.tc : Thread nD τ).loc main_arg2) : S1x3x1408.Idx → EReal) shapeCasts_S1x3x1408_S3x1408) := by
  rw [lay]
  unfold Result.M Cert.OconvIdeal.Gen.V
  after_results

theorem U_eq : U m c = broadcastInDim S3x1x1408 ![0, 2] bcast_S3x1408_S3x1x1408_0_2
    (shapeCast Cert.OconvRefIdeal.S3x1408 (m ((c.tc : Thread nD τ).loc main_arg3) : S1x3x1408.Idx → EReal) shapeCasts_S1x3x1408_S3x1408) := by
  rw [lay]
  unfold U Cert.OconvIdeal.Gen.V
  after_results
end

/-- Over the reals the kernel and the reference end with equal results. -/
theorem value : Cert.algebraic_OconvIdeal_OconvRefIdeal := by
  intro m ρ m' ρ' hm hmm
  refine ⟨fun c => (Cert.OconvIdeal.Gen.dats m 0 c).arrAt 4 Cert.OconvIdeal.cfg0.N, fun c => (Cert.OconvIdeal.Gen.dats m 0 c).arrAt 5 Cert.OconvIdeal.cfg0.N, fun c => (Cert.OconvIdeal.Gen.dats m 0 c).arrAt 6 Cert.OconvIdeal.cfg0.N,
    (θ_run _ _ _).mono (fun r h c => ⟨(h c).1, (h c).2.1, (h c).2.2.1, (h c).2.2.2.2⟩) (Cert.OconvIdeal.Value.run_blocks m ρ), ?_⟩
  refine (θ_run _ _ _).mono (fun r h c => ?_) (Cert.OconvRefIdeal.Value.run (F := Ideal) m' ρ')
  obtain ⟨e0, e1, e2, e3⟩ := hmm c
  obtain ⟨r0, r1, r2, k⟩ := h c
  rw [e0, e1, e2, e3] at r0
  rw [e1, e2] at r1
  rw [e1, e3] at r2
  refine ⟨r0.trans (Eq.symm ((Cert.OconvIdeal.Result.r4_eq m c).trans ?_)), r1.trans (Eq.symm ((Cert.OconvIdeal.Result.r5_eq m c).trans ?_)),
    r2.trans (Eq.symm ((Cert.OconvIdeal.Result.r6_eq m c).trans ?_)), k⟩
  · rw [W_eq, G_eq, M_eq, U_eq]
    rfl
  · rw [G_eq, M_eq]
    rfl
  · rw [G_eq, U_eq]
    rfl

end Cert.OconvClaims

end
-- ==== Proof.lean ====
module

public import proofs.«01_k».proof.Defs
public import proofs.«01_k».proof.Proof.Gen.Act
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.Gen.Pre_finite
public import proofs.«01_k».proof.Proof.Gen.Merge
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_finite_merge
public import proofs.«01_k».proof.Proof.Gen.Up
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_finite_up
public import proofs.«01_k».proof.Proof.Gen.Gup
public import proofs.«01_k».proof.Proof.Gen.GupIdeal
public import proofs.«01_k».proof.Proof.Gen.GupIdeal.Frame
public import proofs.«01_k».proof.Proof.Gen.GupIdeal.Value
public import proofs.«01_k».proof.Proof.Gen.GupRefIdeal
public import proofs.«01_k».proof.Proof.Gen.GupRefIdeal.Run
public import proofs.«01_k».proof.Proof.Gen.GupRefIdeal.Read
public import proofs.«01_k».proof.Proof.Gen.In
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Pre_finite_in
public import proofs.«01_k».proof.Proof.Gen.Gin
public import proofs.«01_k».proof.Proof.Gen.GinIdeal
public import proofs.«01_k».proof.Proof.Gen.GinIdeal.Frame
public import proofs.«01_k».proof.Proof.Gen.GinIdeal.Value
public import proofs.«01_k».proof.Proof.Gen.GinRefIdeal
public import proofs.«01_k».proof.Proof.Gen.GinRefIdeal.Run
public import proofs.«01_k».proof.Proof.Gen.GinRefIdeal.Read
public import proofs.«01_k».proof.Proof.Gen.Fmerge
public import proofs.«01_k».proof.Proof.Gen.FmergeIdeal
public import proofs.«01_k».proof.Proof.Gen.FmergeIdeal.Frame
public import proofs.«01_k».proof.Proof.Gen.FmergeIdeal.Value
public import proofs.«01_k».proof.Proof.Gen.FmergeRefIdeal
public import proofs.«01_k».proof.Proof.Gen.FmergeRefIdeal.Run
public import proofs.«01_k».proof.Proof.Gen.FmergeRefIdeal.Read
public import proofs.«01_k».proof.Proof.Gen.Fin
public import proofs.«01_k».proof.Proof.Gen.FinIdeal
public import proofs.«01_k».proof.Proof.Gen.FinIdeal.Frame
public import proofs.«01_k».proof.Proof.Gen.FinIdeal.Value
public import proofs.«01_k».proof.Proof.Gen.FinRefIdeal
public import proofs.«01_k».proof.Proof.Gen.FinRefIdeal.Run
public import proofs.«01_k».proof.Proof.Gen.FinRefIdeal.Read
public import proofs.«01_k».proof.Proof.Gen.Down
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_finite_down
public import proofs.«01_k».proof.Proof.Gen.Fup
public import proofs.«01_k».proof.Proof.Gen.FupIdeal
public import proofs.«01_k».proof.Proof.Gen.FupIdeal.Frame
public import proofs.«01_k».proof.Proof.Gen.FupRefIdeal
public import proofs.«01_k».proof.Proof.Gen.FupRefIdeal.Run
public import proofs.«01_k».proof.Proof.Gen.FupRefIdeal.Read
public import proofs.«01_k».proof.Proof.Gen.Offn
public import proofs.«01_k».proof.Proof.Gen.OffnIdeal
public import proofs.«01_k».proof.Proof.Gen.OffnIdeal.Frame
public import proofs.«01_k».proof.Proof.Gen.OffnIdeal.Value
public import proofs.«01_k».proof.Proof.Gen.OffnRefIdeal
public import proofs.«01_k».proof.Proof.Gen.OffnRefIdeal.Run
public import proofs.«01_k».proof.Proof.Gen.OffnRefIdeal.Read
public import proofs.«01_k».proof.Proof.Gen.Oin
public import proofs.«01_k».proof.Proof.Gen.OinIdeal
public import proofs.«01_k».proof.Proof.Gen.OinIdeal.Frame
public import proofs.«01_k».proof.Proof.Gen.OinIdeal.Value
public import proofs.«01_k».proof.Proof.Gen.OinRefIdeal
public import proofs.«01_k».proof.Proof.Gen.OinRefIdeal.Run
public import proofs.«01_k».proof.Proof.Gen.OinRefIdeal.Read
public import proofs.«01_k».proof.Proof.Gen.Oproj
public import proofs.«01_k».proof.Proof.Gen.OprojIdeal
public import proofs.«01_k».proof.Proof.Gen.OprojIdeal.Frame
public import proofs.«01_k».proof.Proof.Gen.OprojIdeal.Value
public import proofs.«01_k».proof.Proof.Gen.OprojRefIdeal
public import proofs.«01_k».proof.Proof.Gen.OprojRefIdeal.Run
public import proofs.«01_k».proof.Proof.Gen.OprojRefIdeal.Read
public import proofs.«01_k».proof.Proof.Gen.Oconv
public import proofs.«01_k».proof.Proof.Gen.OconvIdeal
public import proofs.«01_k».proof.Proof.Gen.OconvIdeal.Frame
public import proofs.«01_k».proof.Proof.Gen.OconvIdeal.Value
public import proofs.«01_k».proof.Proof.Gen.OconvRefIdeal
public import proofs.«01_k».proof.Proof.Gen.OconvRefIdeal.Run
public import proofs.«01_k».proof.Proof.Gen.OconvRefIdeal.Read
public import proofs.«01_k».proof.Proof.Act.Claims
public import proofs.«01_k».proof.Proof.Merge.Claims
public import proofs.«01_k».proof.Proof.Up.Claims
public import proofs.«01_k».proof.Proof.Gup.Claims
public import proofs.«01_k».proof.Proof.In.Claims
public import proofs.«01_k».proof.Proof.Gin.Claims
public import proofs.«01_k».proof.Proof.Fmerge.Claims
public import proofs.«01_k».proof.Proof.Fin.Claims
public import proofs.«01_k».proof.Proof.Down.Claims
public import proofs.«01_k».proof.Proof.Fup.Claims
public import proofs.«01_k».proof.Proof.Offn.Claims
public import proofs.«01_k».proof.Proof.Oin.Claims
public import proofs.«01_k».proof.Proof.Oproj.Claims
public import proofs.«01_k».proof.Proof.Oconv.Claims

/-! # The certificate -/

@[expose] public section

noncomputable section

namespace Cert.Proof

/-- Every claim of the certificate. -/
theorem claim : Cert.Claim :=
  ⟨Cert.Act.Gen.facts, Cert.ActIdeal.Gen.facts, Cert.ActRefIdeal.Gen.facts,
    Cert.Merge.Gen.facts, Cert.MergeIdeal.Gen.facts, Cert.MergeRefIdeal.Gen.facts,
    Cert.Up.Gen.facts, Cert.UpIdeal.Gen.facts, Cert.UpRefIdeal.Gen.facts,
    Cert.Gup.Gen.facts, Cert.GupIdeal.Gen.facts, Cert.GupRefIdeal.Gen.facts,
    Cert.In.Gen.facts, Cert.InIdeal.Gen.facts, Cert.InRefIdeal.Gen.facts,
    Cert.Gin.Gen.facts, Cert.GinIdeal.Gen.facts, Cert.GinRefIdeal.Gen.facts,
    Cert.Fmerge.Gen.facts, Cert.FmergeIdeal.Gen.facts, Cert.FmergeRefIdeal.Gen.facts,
    Cert.Fin.Gen.facts, Cert.FinIdeal.Gen.facts, Cert.FinRefIdeal.Gen.facts,
    Cert.Down.Gen.facts, Cert.DownIdeal.Gen.facts, Cert.DownRefIdeal.Gen.facts,
    Cert.Fup.Gen.facts, Cert.FupIdeal.Gen.facts, Cert.FupRefIdeal.Gen.facts,
    Cert.Offn.Gen.facts, Cert.OffnIdeal.Gen.facts, Cert.OffnRefIdeal.Gen.facts,
    Cert.Oin.Gen.facts, Cert.OinIdeal.Gen.facts, Cert.OinRefIdeal.Gen.facts,
    Cert.Oproj.Gen.facts, Cert.OprojIdeal.Gen.facts, Cert.OprojRefIdeal.Gen.facts,
    Cert.Oconv.Gen.facts, Cert.OconvIdeal.Gen.facts, Cert.OconvRefIdeal.Gen.facts,
    Cert.Pre_finite.Gen.facts, Cert.Pre_finite_merge.Gen.facts, Cert.Pre_finite_up.Gen.facts,
    Cert.Pre_finite_in.Gen.facts, Cert.Pre_finite_down.Gen.facts,
    Cert.Act.Claims.frame_kernel, Cert.Act.Claims.frame_ideal, Cert.Act.Claims.frame_ideal_pre, Cert.Act.Claims.frame_ref, Cert.Act.Claims.frame_ref_pre,
    Cert.MergeClaims.frame_kernel, Cert.MergeClaims.frame_ideal, Cert.MergeClaims.frame_ideal_pre, Cert.MergeClaims.frame_ref, Cert.MergeClaims.frame_ref_pre,
    Cert.UpClaims.frame_kernel, Cert.UpClaims.frame_ideal, Cert.UpClaims.frame_ideal_pre, Cert.UpClaims.frame_ref, Cert.UpClaims.frame_ref_pre,
    Cert.GupClaims.frame_kernel, Cert.GupClaims.frame_ideal, Cert.GupClaims.frame_ref,
    Cert.InClaims.frame_kernel, Cert.InClaims.frame_ideal, Cert.InClaims.frame_ideal_pre, Cert.InClaims.frame_ref, Cert.InClaims.frame_ref_pre,
    Cert.GinClaims.frame_kernel, Cert.GinClaims.frame_ideal, Cert.GinClaims.frame_ref,
    Cert.FmergeClaims.frame_kernel, Cert.FmergeClaims.frame_ideal, Cert.FmergeClaims.frame_ref,
    Cert.FinClaims.frame_kernel, Cert.FinClaims.frame_ideal, Cert.FinClaims.frame_ref,
    Cert.DownClaims.frame_kernel, Cert.DownClaims.frame_ideal, Cert.DownClaims.frame_ideal_pre, Cert.DownClaims.frame_ref, Cert.DownClaims.frame_ref_pre,
    Cert.FupClaims.frame_kernel, Cert.FupClaims.frame_ideal, Cert.FupClaims.frame_ref,
    Cert.OffnClaims.frame_kernel, Cert.OffnClaims.frame_ideal, Cert.OffnClaims.frame_ref,
    Cert.OinClaims.frame_kernel, Cert.OinClaims.frame_ideal, Cert.OinClaims.frame_ref,
    Cert.OprojClaims.frame_kernel, Cert.OprojClaims.frame_ideal, Cert.OprojClaims.frame_ref,
    Cert.OconvClaims.frame_kernel, Cert.OconvClaims.frame_ideal, Cert.OconvClaims.frame_ref,
    trivial, Cert.Act.Claims.value,
    Cert.MergeClaims.preserves, Cert.MergeClaims.value,
    trivial, Cert.UpClaims.value,
    trivial, Cert.GupClaims.value,
    trivial, Cert.InClaims.value,
    trivial, Cert.GinClaims.value,
    trivial, Cert.FmergeClaims.value,
    Cert.FinClaims.preserves, Cert.FinClaims.value,
    trivial, Cert.DownClaims.value,
    trivial, Cert.FupClaims.value,
    trivial, Cert.OffnClaims.value,
    trivial, Cert.OinClaims.value,
    trivial, Cert.OprojClaims.value,
    trivial, Cert.OconvClaims.value⟩

end Cert.Proof

end
